-- ==== Defs.lean ====
def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0Ideal_finite_dh0 [hPre_finite_dh0 : Cert.Pre_finite_dh0.Facts] (m : (ℓ : Loc Cert.Dh0Ideal.nD Cert.Dh0Ideal.τ Cert.Dh0Ideal.sig) → Buf (Elt Ideal) ℓ) : Prop :=
  ∀ c : Dev Cert.Dh0Ideal.nD,
    (Cert.Pre_finite_dh0.fn (F := Ideal) (m ((c.tc : Thread Cert.Dh0Ideal.nD Cert.Dh0Ideal.τ).loc Cert.Dh0Ideal.main_arg0)) (m ((c.tc : Thread Cert.Dh0Ideal.nD Cert.Dh0Ideal.τ).loc Cert.Dh0Ideal.main_arg1)) (m ((c.tc : Thread Cert.Dh0Ideal.nD Cert.Dh0Ideal.τ).loc Cert.Dh0Ideal.main_arg2)) (m ((c.tc : Thread Cert.Dh0Ideal.nD Cert.Dh0Ideal.τ).loc Cert.Dh0Ideal.main_arg3)) (m ((c.tc : Thread Cert.Dh0Ideal.nD Cert.Dh0Ideal.τ).loc Cert.Dh0Ideal.main_arg4)) (m ((c.tc : Thread Cert.Dh0Ideal.nD Cert.Dh0Ideal.τ).loc Cert.Dh0Ideal.main_arg5))) = (fun _ => 1#1)

def Pre_RefDh0Ideal (m : (ℓ : Loc Cert.RefDh0Ideal.nD Cert.RefDh0Ideal.τ Cert.RefDh0Ideal.sig) → Buf (Elt Ideal) ℓ) : Prop :=
  True

def Pre_RefDh0Ideal_finite_dh0 [hPre_finite_dh0 : Cert.Pre_finite_dh0.Facts] (m : (ℓ : Loc Cert.RefDh0Ideal.nD Cert.RefDh0Ideal.τ Cert.RefDh0Ideal.sig) → Buf (Elt Ideal) ℓ) : Prop :=
  ∀ c : Dev Cert.RefDh0Ideal.nD,
    (Cert.Pre_finite_dh0.fn (F := Ideal) (m ((c.tc : Thread Cert.RefDh0Ideal.nD Cert.RefDh0Ideal.τ).loc Cert.RefDh0Ideal.main_arg0)) (m ((c.tc : Thread Cert.RefDh0Ideal.nD Cert.RefDh0Ideal.τ).loc Cert.RefDh0Ideal.main_arg1)) (m ((c.tc : Thread Cert.RefDh0Ideal.nD Cert.RefDh0Ideal.τ).loc Cert.RefDh0Ideal.main_arg2)) (m ((c.tc : Thread Cert.RefDh0Ideal.nD Cert.RefDh0Ideal.τ).loc Cert.RefDh0Ideal.main_arg3)) (m ((c.tc : Thread Cert.RefDh0Ideal.nD Cert.RefDh0Ideal.τ).loc Cert.RefDh0Ideal.main_arg4)) (m ((c.tc : Thread Cert.RefDh0Ideal.nD Cert.RefDh0Ideal.τ).loc Cert.RefDh0Ideal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_attn [hPre_finite_attn : Cert.Pre_finite_attn.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_attn.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2))) = (fun _ => 1#1)

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1Ideal_finite_dh1 [hPre_finite_dh1 : Cert.Pre_finite_dh1.Facts] (m : (ℓ : Loc Cert.Dh1Ideal.nD Cert.Dh1Ideal.τ Cert.Dh1Ideal.sig) → Buf (Elt Ideal) ℓ) : Prop :=
  ∀ c : Dev Cert.Dh1Ideal.nD,
    (Cert.Pre_finite_dh1.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7))) = (fun _ => 1#1)

def Pre_RefDh1Ideal (m : (ℓ : Loc Cert.RefDh1Ideal.nD Cert.RefDh1Ideal.τ Cert.RefDh1Ideal.sig) → Buf (Elt Ideal) ℓ) : Prop :=
  True

def Pre_RefDh1Ideal_finite_dh1 [hPre_finite_dh1 : Cert.Pre_finite_dh1.Facts] (m : (ℓ : Loc Cert.RefDh1Ideal.nD Cert.RefDh1Ideal.τ Cert.RefDh1Ideal.sig) → Buf (Elt Ideal) ℓ) : Prop :=
  ∀ c : Dev Cert.RefDh1Ideal.nD,
    (Cert.Pre_finite_dh1.fn (F := Ideal) (m ((c.tc : Thread Cert.RefDh1Ideal.nD Cert.RefDh1Ideal.τ).loc Cert.RefDh1Ideal.main_arg0)) (m ((c.tc : Thread Cert.RefDh1Ideal.nD Cert.RefDh1Ideal.τ).loc Cert.RefDh1Ideal.main_arg1)) (m ((c.tc : Thread Cert.RefDh1Ideal.nD Cert.RefDh1Ideal.τ).loc Cert.RefDh1Ideal.main_arg2)) (m ((c.tc : Thread Cert.RefDh1Ideal.nD Cert.RefDh1Ideal.τ).loc Cert.RefDh1Ideal.main_arg3)) (m ((c.tc : Thread Cert.RefDh1Ideal.nD Cert.RefDh1Ideal.τ).loc Cert.RefDh1Ideal.main_arg4)) (m ((c.tc : Thread Cert.RefDh1Ideal.nD Cert.RefDh1Ideal.τ).loc Cert.RefDh1Ideal.main_arg5)) (m ((c.tc : Thread Cert.RefDh1Ideal.nD Cert.RefDh1Ideal.τ).loc Cert.RefDh1Ideal.main_arg6)) (m ((c.tc : Thread Cert.RefDh1Ideal.nD Cert.RefDh1Ideal.τ).loc Cert.RefDh1Ideal.main_arg7))) = (fun _ => 1#1)

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2Ideal_finite_ff2 [hPre_finite_ff2 : Cert.Pre_finite_ff2.Facts] (m : (ℓ : Loc Cert.Ff2Ideal.nD Cert.Ff2Ideal.τ Cert.Ff2Ideal.sig) → Buf (Elt Ideal) ℓ) : Prop :=
  ∀ c : Dev Cert.Ff2Ideal.nD,
    (Cert.Pre_finite_ff2.fn (F := Ideal) (m ((c.tc : Thread Cert.Ff2Ideal.nD Cert.Ff2Ideal.τ).loc Cert.Ff2Ideal.main_arg0)) (m ((c.tc : Thread Cert.Ff2Ideal.nD Cert.Ff2Ideal.τ).loc Cert.Ff2Ideal.main_arg1)) (m ((c.tc : Thread Cert.Ff2Ideal.nD Cert.Ff2Ideal.τ).loc Cert.Ff2Ideal.main_arg2)) (m ((c.tc : Thread Cert.Ff2Ideal.nD Cert.Ff2Ideal.τ).loc Cert.Ff2Ideal.main_arg3)) (m ((c.tc : Thread Cert.Ff2Ideal.nD Cert.Ff2Ideal.τ).loc Cert.Ff2Ideal.main_arg4)) (m ((c.tc : Thread Cert.Ff2Ideal.nD Cert.Ff2Ideal.τ).loc Cert.Ff2Ideal.main_arg5)) (m ((c.tc : Thread Cert.Ff2Ideal.nD Cert.Ff2Ideal.τ).loc Cert.Ff2Ideal.main_arg6))) = (fun _ => 1#1)

def Pre_RefFf2Ideal (m : (ℓ : Loc Cert.RefFf2Ideal.nD Cert.RefFf2Ideal.τ Cert.RefFf2Ideal.sig) → Buf (Elt Ideal) ℓ) : Prop :=
  True

def Pre_RefFf2Ideal_finite_ff2 [hPre_finite_ff2 : Cert.Pre_finite_ff2.Facts] (m : (ℓ : Loc Cert.RefFf2Ideal.nD Cert.RefFf2Ideal.τ Cert.RefFf2Ideal.sig) → Buf (Elt Ideal) ℓ) : Prop :=
  ∀ c : Dev Cert.RefFf2Ideal.nD,
    (Cert.Pre_finite_ff2.fn (F := Ideal) (m ((c.tc : Thread Cert.RefFf2Ideal.nD Cert.RefFf2Ideal.τ).loc Cert.RefFf2Ideal.main_arg0)) (m ((c.tc : Thread Cert.RefFf2Ideal.nD Cert.RefFf2Ideal.τ).loc Cert.RefFf2Ideal.main_arg1)) (m ((c.tc : Thread Cert.RefFf2Ideal.nD Cert.RefFf2Ideal.τ).loc Cert.RefFf2Ideal.main_arg2)) (m ((c.tc : Thread Cert.RefFf2Ideal.nD Cert.RefFf2Ideal.τ).loc Cert.RefFf2Ideal.main_arg3)) (m ((c.tc : Thread Cert.RefFf2Ideal.nD Cert.RefFf2Ideal.τ).loc Cert.RefFf2Ideal.main_arg4)) (m ((c.tc : Thread Cert.RefFf2Ideal.nD Cert.RefFf2Ideal.τ).loc Cert.RefFf2Ideal.main_arg5)) (m ((c.tc : Thread Cert.RefFf2Ideal.nD Cert.RefFf2Ideal.τ).loc Cert.RefFf2Ideal.main_arg6))) = (fun _ => 1#1)

def Pre_Dff1 (m : (ℓ : Loc Cert.Dff1.nD Cert.Dff1.τ Cert.Dff1.sig) → Buf (Elt Bits) ℓ) : Prop :=
  True

def Pre_Dff1Ideal (m : (ℓ : Loc Cert.Dff1Ideal.nD Cert.Dff1Ideal.τ Cert.Dff1Ideal.sig) → Buf (Elt Ideal) ℓ) : Prop :=
  True

def Pre_RefDff1Ideal (m : (ℓ : Loc Cert.RefDff1Ideal.nD Cert.RefDff1Ideal.τ Cert.RefDff1Ideal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_RefPoolIdeal (m : (ℓ : Loc Cert.RefPoolIdeal.nD Cert.RefPoolIdeal.τ Cert.RefPoolIdeal.sig) → Buf (Elt Ideal) ℓ) : Prop :=
  True

def Pre_RefPoolIdeal_finite_pool [hPre_finite_pool : Cert.Pre_finite_pool.Facts] (m : (ℓ : Loc Cert.RefPoolIdeal.nD Cert.RefPoolIdeal.τ Cert.RefPoolIdeal.sig) → Buf (Elt Ideal) ℓ) : Prop :=
  ∀ c : Dev Cert.RefPoolIdeal.nD,
    (Cert.Pre_finite_pool.fn (F := Ideal) (m ((c.tc : Thread Cert.RefPoolIdeal.nD Cert.RefPoolIdeal.τ).loc Cert.RefPoolIdeal.main_arg0)) (m ((c.tc : Thread Cert.RefPoolIdeal.nD Cert.RefPoolIdeal.τ).loc Cert.RefPoolIdeal.main_arg1)) (m ((c.tc : Thread Cert.RefPoolIdeal.nD Cert.RefPoolIdeal.τ).loc Cert.RefPoolIdeal.main_arg2)) (m ((c.tc : Thread Cert.RefPoolIdeal.nD Cert.RefPoolIdeal.τ).loc Cert.RefPoolIdeal.main_arg3))) = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_att [hPre_finite_att : Cert.Pre_finite_att.Facts] (m : (ℓ : Loc Cert.AttIdeal.nD Cert.AttIdeal.τ Cert.AttIdeal.sig) → Buf (Elt Ideal) ℓ) : Prop :=
  ∀ c : Dev Cert.AttIdeal.nD,
    (Cert.Pre_finite_att.fn (F := Ideal) (m ((c.tc : Thread Cert.AttIdeal.nD Cert.AttIdeal.τ).loc Cert.AttIdeal.main_arg0))) = (fun _ => 1#1)

def Pre_RefAttIdeal (m : (ℓ : Loc Cert.RefAttIdeal.nD Cert.RefAttIdeal.τ Cert.RefAttIdeal.sig) → Buf (Elt Ideal) ℓ) : Prop :=
  True

def Pre_RefAttIdeal_finite_att [hPre_finite_att : Cert.Pre_finite_att.Facts] (m : (ℓ : Loc Cert.RefAttIdeal.nD Cert.RefAttIdeal.τ Cert.RefAttIdeal.sig) → Buf (Elt Ideal) ℓ) : Prop :=
  ∀ c : Dev Cert.RefAttIdeal.nD,
    (Cert.Pre_finite_att.fn (F := Ideal) (m ((c.tc : Thread Cert.RefAttIdeal.nD Cert.RefAttIdeal.τ).loc Cert.RefAttIdeal.main_arg0))) = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_RefLnIdeal (m : (ℓ : Loc Cert.RefLnIdeal.nD Cert.RefLnIdeal.τ Cert.RefLnIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_RefFf1Ideal (m : (ℓ : Loc Cert.RefFf1Ideal.nD Cert.RefFf1Ideal.τ Cert.RefFf1Ideal.sig) → Buf (Elt Ideal) ℓ) : Prop :=
  True

def Pre_U (m : (ℓ : Loc Cert.U.nD Cert.U.τ Cert.U.sig) → Buf (Elt Bits) ℓ) : Prop :=
  True

def Pre_UIdeal (m : (ℓ : Loc Cert.UIdeal.nD Cert.UIdeal.τ Cert.UIdeal.sig) → Buf (Elt Ideal) ℓ) : Prop :=
  True

def Pre_RefUIdeal (m : (ℓ : Loc Cert.RefUIdeal.nD Cert.RefUIdeal.τ Cert.RefUIdeal.sig) → Buf (Elt Ideal) ℓ) : Prop :=
  True

def Pre_Poolf (m : (ℓ : Loc Cert.Poolf.nD Cert.Poolf.τ Cert.Poolf.sig) → Buf (Elt Bits) ℓ) : Prop :=
  True

def Pre_PoolfIdeal (m : (ℓ : Loc Cert.PoolfIdeal.nD Cert.PoolfIdeal.τ Cert.PoolfIdeal.sig) → Buf (Elt Ideal) ℓ) : Prop :=
  True

def Pre_PoolfIdeal_finite_poolf [hPre_finite_poolf : Cert.Pre_finite_poolf.Facts] (m : (ℓ : Loc Cert.PoolfIdeal.nD Cert.PoolfIdeal.τ Cert.PoolfIdeal.sig) → Buf (Elt Ideal) ℓ) : Prop :=
  ∀ c : Dev Cert.PoolfIdeal.nD,
    (Cert.Pre_finite_poolf.fn (F := Ideal) (m ((c.tc : Thread Cert.PoolfIdeal.nD Cert.PoolfIdeal.τ).loc Cert.PoolfIdeal.main_arg0)) (m ((c.tc : Thread Cert.PoolfIdeal.nD Cert.PoolfIdeal.τ).loc Cert.PoolfIdeal.main_arg1)) (m ((c.tc : Thread Cert.PoolfIdeal.nD Cert.PoolfIdeal.τ).loc Cert.PoolfIdeal.main_arg2))) = (fun _ => 1#1)

def Pre_RefPoolfIdeal (m : (ℓ : Loc Cert.RefPoolfIdeal.nD Cert.RefPoolfIdeal.τ Cert.RefPoolfIdeal.sig) → Buf (Elt Ideal) ℓ) : Prop :=
  True

def Pre_RefPoolfIdeal_finite_poolf [hPre_finite_poolf : Cert.Pre_finite_poolf.Facts] (m : (ℓ : Loc Cert.RefPoolfIdeal.nD Cert.RefPoolfIdeal.τ Cert.RefPoolfIdeal.sig) → Buf (Elt Ideal) ℓ) : Prop :=
  ∀ c : Dev Cert.RefPoolfIdeal.nD,
    (Cert.Pre_finite_poolf.fn (F := Ideal) (m ((c.tc : Thread Cert.RefPoolfIdeal.nD Cert.RefPoolfIdeal.τ).loc Cert.RefPoolfIdeal.main_arg0)) (m ((c.tc : Thread Cert.RefPoolfIdeal.nD Cert.RefPoolfIdeal.τ).loc Cert.RefPoolfIdeal.main_arg1)) (m ((c.tc : Thread Cert.RefPoolfIdeal.nD Cert.RefPoolfIdeal.τ).loc Cert.RefPoolfIdeal.main_arg2))) = (fun _ => 1#1)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1)
      ∧ r.2.mem ((c.tc : Thread Cert.Dh0.nD Cert.Dh0.τ).loc Cert.Dh0.main_arg2) = m ((c.tc : Thread Cert.Dh0.nD Cert.Dh0.τ).loc Cert.Dh0.main_arg2)
      ∧ r.2.mem ((c.tc : Thread Cert.Dh0.nD Cert.Dh0.τ).loc Cert.Dh0.main_arg3) = m ((c.tc : Thread Cert.Dh0.nD Cert.Dh0.τ).loc Cert.Dh0.main_arg3)
      ∧ r.2.mem ((c.tc : Thread Cert.Dh0.nD Cert.Dh0.τ).loc Cert.Dh0.main_arg4) = m ((c.tc : Thread Cert.Dh0.nD Cert.Dh0.τ).loc Cert.Dh0.main_arg4)
      ∧ r.2.mem ((c.tc : Thread Cert.Dh0.nD Cert.Dh0.τ).loc Cert.Dh0.main_arg5) = m ((c.tc : Thread Cert.Dh0.nD Cert.Dh0.τ).loc Cert.Dh0.main_arg5))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
      ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
      ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
      ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5))
      ∧ r.2.sem = fun _ => 0)

def quiescent_Dh0Ideal_pre_finite_dh0 [hDh0Ideal : Cert.Dh0Ideal.Facts] [hPre_finite_dh0 : Cert.Pre_finite_dh0.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal_finite_dh0 m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
      ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
      ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
      ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5))
      ∧ r.2.sem = fun _ => 0)

def quiescent_RefDh0Ideal [hRefDh0Ideal : Cert.RefDh0Ideal.Facts] : Prop :=
  ∀ (m : (ℓ : Loc Cert.RefDh0Ideal.nD Cert.RefDh0Ideal.τ Cert.RefDh0Ideal.sig) → Buf (Elt Ideal) ℓ) (g : Dev Cert.RefDh0Ideal.nD → PrngReg), Pre_RefDh0Ideal m →
    θ_run (Cert.RefDh0Ideal.defs (F := Ideal)) (onTc (τ := Cert.RefDh0Ideal.τ) (Cert.RefDh0Ideal.main (F := Ideal))) ⟨m, fun _ => 0, g⟩ (fun r => (∀ c : Dev Cert.RefDh0Ideal.nD,
      r.2.mem ((c.tc : Thread Cert.RefDh0Ideal.nD Cert.RefDh0Ideal.τ).loc Cert.RefDh0Ideal.main_arg0) = m ((c.tc : Thread Cert.RefDh0Ideal.nD Cert.RefDh0Ideal.τ).loc Cert.RefDh0Ideal.main_arg0)
      ∧ r.2.mem ((c.tc : Thread Cert.RefDh0Ideal.nD Cert.RefDh0Ideal.τ).loc Cert.RefDh0Ideal.main_arg1) = m ((c.tc : Thread Cert.RefDh0Ideal.nD Cert.RefDh0Ideal.τ).loc Cert.RefDh0Ideal.main_arg1)
      ∧ r.2.mem ((c.tc : Thread Cert.RefDh0Ideal.nD Cert.RefDh0Ideal.τ).loc Cert.RefDh0Ideal.main_arg2) = m ((c.tc : Thread Cert.RefDh0Ideal.nD Cert.RefDh0Ideal.τ).loc Cert.RefDh0Ideal.main_arg2)
      ∧ r.2.mem ((c.tc : Thread Cert.RefDh0Ideal.nD Cert.RefDh0Ideal.τ).loc Cert.RefDh0Ideal.main_arg3) = m ((c.tc : Thread Cert.RefDh0Ideal.nD Cert.RefDh0Ideal.τ).loc Cert.RefDh0Ideal.main_arg3)
      ∧ r.2.mem ((c.tc : Thread Cert.RefDh0Ideal.nD Cert.RefDh0Ideal.τ).loc Cert.RefDh0Ideal.main_arg4) = m ((c.tc : Thread Cert.RefDh0Ideal.nD Cert.RefDh0Ideal.τ).loc Cert.RefDh0Ideal.main_arg4)
      ∧ r.2.mem ((c.tc : Thread Cert.RefDh0Ideal.nD Cert.RefDh0Ideal.τ).loc Cert.RefDh0Ideal.main_arg5) = m ((c.tc : Thread Cert.RefDh0Ideal.nD Cert.RefDh0Ideal.τ).loc Cert.RefDh0Ideal.main_arg5))
      ∧ r.2.sem = fun _ => 0)

def quiescent_RefDh0Ideal_pre_finite_dh0 [hRefDh0Ideal : Cert.RefDh0Ideal.Facts] [hPre_finite_dh0 : Cert.Pre_finite_dh0.Facts] : Prop :=
  ∀ (m : (ℓ : Loc Cert.RefDh0Ideal.nD Cert.RefDh0Ideal.τ Cert.RefDh0Ideal.sig) → Buf (Elt Ideal) ℓ) (g : Dev Cert.RefDh0Ideal.nD → PrngReg), Pre_RefDh0Ideal_finite_dh0 m →
    θ_run (Cert.RefDh0Ideal.defs (F := Ideal)) (onTc (τ := Cert.RefDh0Ideal.τ) (Cert.RefDh0Ideal.main (F := Ideal))) ⟨m, fun _ => 0, g⟩ (fun r => (∀ c : Dev Cert.RefDh0Ideal.nD,
      r.2.mem ((c.tc : Thread Cert.RefDh0Ideal.nD Cert.RefDh0Ideal.τ).loc Cert.RefDh0Ideal.main_arg0) = m ((c.tc : Thread Cert.RefDh0Ideal.nD Cert.RefDh0Ideal.τ).loc Cert.RefDh0Ideal.main_arg0)
      ∧ r.2.mem ((c.tc : Thread Cert.RefDh0Ideal.nD Cert.RefDh0Ideal.τ).loc Cert.RefDh0Ideal.main_arg1) = m ((c.tc : Thread Cert.RefDh0Ideal.nD Cert.RefDh0Ideal.τ).loc Cert.RefDh0Ideal.main_arg1)
      ∧ r.2.mem ((c.tc : Thread Cert.RefDh0Ideal.nD Cert.RefDh0Ideal.τ).loc Cert.RefDh0Ideal.main_arg2) = m ((c.tc : Thread Cert.RefDh0Ideal.nD Cert.RefDh0Ideal.τ).loc Cert.RefDh0Ideal.main_arg2)
      ∧ r.2.mem ((c.tc : Thread Cert.RefDh0Ideal.nD Cert.RefDh0Ideal.τ).loc Cert.RefDh0Ideal.main_arg3) = m ((c.tc : Thread Cert.RefDh0Ideal.nD Cert.RefDh0Ideal.τ).loc Cert.RefDh0Ideal.main_arg3)
      ∧ r.2.mem ((c.tc : Thread Cert.RefDh0Ideal.nD Cert.RefDh0Ideal.τ).loc Cert.RefDh0Ideal.main_arg4) = m ((c.tc : Thread Cert.RefDh0Ideal.nD Cert.RefDh0Ideal.τ).loc Cert.RefDh0Ideal.main_arg4)
      ∧ r.2.mem ((c.tc : Thread Cert.RefDh0Ideal.nD Cert.RefDh0Ideal.τ).loc Cert.RefDh0Ideal.main_arg5) = m ((c.tc : Thread Cert.RefDh0Ideal.nD Cert.RefDh0Ideal.τ).loc Cert.RefDh0Ideal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2))
      ∧ r.2.sem = fun _ => 0)

def quiescent_RefAttnIdeal_pre_finite_attn [hRefAttnIdeal : Cert.RefAttnIdeal.Facts] [hPre_finite_attn : Cert.Pre_finite_attn.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_attn m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4)
      ∧ r.2.mem ((c.tc : Thread Cert.Dh1.nD Cert.Dh1.τ).loc Cert.Dh1.main_arg5) = m ((c.tc : Thread Cert.Dh1.nD Cert.Dh1.τ).loc Cert.Dh1.main_arg5)
      ∧ r.2.mem ((c.tc : Thread Cert.Dh1.nD Cert.Dh1.τ).loc Cert.Dh1.main_arg6) = m ((c.tc : Thread Cert.Dh1.nD Cert.Dh1.τ).loc Cert.Dh1.main_arg6)
      ∧ r.2.mem ((c.tc : Thread Cert.Dh1.nD Cert.Dh1.τ).loc Cert.Dh1.main_arg7) = m ((c.tc : Thread Cert.Dh1.nD Cert.Dh1.τ).loc Cert.Dh1.main_arg7))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
      ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
      ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7))
      ∧ r.2.sem = fun _ => 0)

def quiescent_Dh1Ideal_pre_finite_dh1 [hDh1Ideal : Cert.Dh1Ideal.Facts] [hPre_finite_dh1 : Cert.Pre_finite_dh1.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal_finite_dh1 m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
      ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
      ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7))
      ∧ r.2.sem = fun _ => 0)

def quiescent_RefDh1Ideal [hRefDh1Ideal : Cert.RefDh1Ideal.Facts] : Prop :=
  ∀ (m : (ℓ : Loc Cert.RefDh1Ideal.nD Cert.RefDh1Ideal.τ Cert.RefDh1Ideal.sig) → Buf (Elt Ideal) ℓ) (g : Dev Cert.RefDh1Ideal.nD → PrngReg), Pre_RefDh1Ideal m →
    θ_run (Cert.RefDh1Ideal.defs (F := Ideal)) (onTc (τ := Cert.RefDh1Ideal.τ) (Cert.RefDh1Ideal.main (F := Ideal))) ⟨m, fun _ => 0, g⟩ (fun r => (∀ c : Dev Cert.RefDh1Ideal.nD,
      r.2.mem ((c.tc : Thread Cert.RefDh1Ideal.nD Cert.RefDh1Ideal.τ).loc Cert.RefDh1Ideal.main_arg0) = m ((c.tc : Thread Cert.RefDh1Ideal.nD Cert.RefDh1Ideal.τ).loc Cert.RefDh1Ideal.main_arg0)
      ∧ r.2.mem ((c.tc : Thread Cert.RefDh1Ideal.nD Cert.RefDh1Ideal.τ).loc Cert.RefDh1Ideal.main_arg1) = m ((c.tc : Thread Cert.RefDh1Ideal.nD Cert.RefDh1Ideal.τ).loc Cert.RefDh1Ideal.main_arg1)
      ∧ r.2.mem ((c.tc : Thread Cert.RefDh1Ideal.nD Cert.RefDh1Ideal.τ).loc Cert.RefDh1Ideal.main_arg2) = m ((c.tc : Thread Cert.RefDh1Ideal.nD Cert.RefDh1Ideal.τ).loc Cert.RefDh1Ideal.main_arg2)
      ∧ r.2.mem ((c.tc : Thread Cert.RefDh1Ideal.nD Cert.RefDh1Ideal.τ).loc Cert.RefDh1Ideal.main_arg3) = m ((c.tc : Thread Cert.RefDh1Ideal.nD Cert.RefDh1Ideal.τ).loc Cert.RefDh1Ideal.main_arg3)
      ∧ r.2.mem ((c.tc : Thread Cert.RefDh1Ideal.nD Cert.RefDh1Ideal.τ).loc Cert.RefDh1Ideal.main_arg4) = m ((c.tc : Thread Cert.RefDh1Ideal.nD Cert.RefDh1Ideal.τ).loc Cert.RefDh1Ideal.main_arg4)
      ∧ r.2.mem ((c.tc : Thread Cert.RefDh1Ideal.nD Cert.RefDh1Ideal.τ).loc Cert.RefDh1Ideal.main_arg5) = m ((c.tc : Thread Cert.RefDh1Ideal.nD Cert.RefDh1Ideal.τ).loc Cert.RefDh1Ideal.main_arg5)
      ∧ r.2.mem ((c.tc : Thread Cert.RefDh1Ideal.nD Cert.RefDh1Ideal.τ).loc Cert.RefDh1Ideal.main_arg6) = m ((c.tc : Thread Cert.RefDh1Ideal.nD Cert.RefDh1Ideal.τ).loc Cert.RefDh1Ideal.main_arg6)
      ∧ r.2.mem ((c.tc : Thread Cert.RefDh1Ideal.nD Cert.RefDh1Ideal.τ).loc Cert.RefDh1Ideal.main_arg7) = m ((c.tc : Thread Cert.RefDh1Ideal.nD Cert.RefDh1Ideal.τ).loc Cert.RefDh1Ideal.main_arg7))
      ∧ r.2.sem = fun _ => 0)

def quiescent_RefDh1Ideal_pre_finite_dh1 [hRefDh1Ideal : Cert.RefDh1Ideal.Facts] [hPre_finite_dh1 : Cert.Pre_finite_dh1.Facts] : Prop :=
  ∀ (m : (ℓ : Loc Cert.RefDh1Ideal.nD Cert.RefDh1Ideal.τ Cert.RefDh1Ideal.sig) → Buf (Elt Ideal) ℓ) (g : Dev Cert.RefDh1Ideal.nD → PrngReg), Pre_RefDh1Ideal_finite_dh1 m →
    θ_run (Cert.RefDh1Ideal.defs (F := Ideal)) (onTc (τ := Cert.RefDh1Ideal.τ) (Cert.RefDh1Ideal.main (F := Ideal))) ⟨m, fun _ => 0, g⟩ (fun r => (∀ c : Dev Cert.RefDh1Ideal.nD,
      r.2.mem ((c.tc : Thread Cert.RefDh1Ideal.nD Cert.RefDh1Ideal.τ).loc Cert.RefDh1Ideal.main_arg0) = m ((c.tc : Thread Cert.RefDh1Ideal.nD Cert.RefDh1Ideal.τ).loc Cert.RefDh1Ideal.main_arg0)
      ∧ r.2.mem ((c.tc : Thread Cert.RefDh1Ideal.nD Cert.RefDh1Ideal.τ).loc Cert.RefDh1Ideal.main_arg1) = m ((c.tc : Thread Cert.RefDh1Ideal.nD Cert.RefDh1Ideal.τ).loc Cert.RefDh1Ideal.main_arg1)
      ∧ r.2.mem ((c.tc : Thread Cert.RefDh1Ideal.nD Cert.RefDh1Ideal.τ).loc Cert.RefDh1Ideal.main_arg2) = m ((c.tc : Thread Cert.RefDh1Ideal.nD Cert.RefDh1Ideal.τ).loc Cert.RefDh1Ideal.main_arg2)
      ∧ r.2.mem ((c.tc : Thread Cert.RefDh1Ideal.nD Cert.RefDh1Ideal.τ).loc Cert.RefDh1Ideal.main_arg3) = m ((c.tc : Thread Cert.RefDh1Ideal.nD Cert.RefDh1Ideal.τ).loc Cert.RefDh1Ideal.main_arg3)
      ∧ r.2.mem ((c.tc : Thread Cert.RefDh1Ideal.nD Cert.RefDh1Ideal.τ).loc Cert.RefDh1Ideal.main_arg4) = m ((c.tc : Thread Cert.RefDh1Ideal.nD Cert.RefDh1Ideal.τ).loc Cert.RefDh1Ideal.main_arg4)
      ∧ r.2.mem ((c.tc : Thread Cert.RefDh1Ideal.nD Cert.RefDh1Ideal.τ).loc Cert.RefDh1Ideal.main_arg5) = m ((c.tc : Thread Cert.RefDh1Ideal.nD Cert.RefDh1Ideal.τ).loc Cert.RefDh1Ideal.main_arg5)
      ∧ r.2.mem ((c.tc : Thread Cert.RefDh1Ideal.nD Cert.RefDh1Ideal.τ).loc Cert.RefDh1Ideal.main_arg6) = m ((c.tc : Thread Cert.RefDh1Ideal.nD Cert.RefDh1Ideal.τ).loc Cert.RefDh1Ideal.main_arg6)
      ∧ r.2.mem ((c.tc : Thread Cert.RefDh1Ideal.nD Cert.RefDh1Ideal.τ).loc Cert.RefDh1Ideal.main_arg7) = m ((c.tc : Thread Cert.RefDh1Ideal.nD Cert.RefDh1Ideal.τ).loc Cert.RefDh1Ideal.main_arg7))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3)
      ∧ r.2.mem ((c.tc : Thread Cert.Ff2.nD Cert.Ff2.τ).loc Cert.Ff2.main_arg4) = m ((c.tc : Thread Cert.Ff2.nD Cert.Ff2.τ).loc Cert.Ff2.main_arg4)
      ∧ r.2.mem ((c.tc : Thread Cert.Ff2.nD Cert.Ff2.τ).loc Cert.Ff2.main_arg5) = m ((c.tc : Thread Cert.Ff2.nD Cert.Ff2.τ).loc Cert.Ff2.main_arg5)
      ∧ r.2.mem ((c.tc : Thread Cert.Ff2.nD Cert.Ff2.τ).loc Cert.Ff2.main_arg6) = m ((c.tc : Thread Cert.Ff2.nD Cert.Ff2.τ).loc Cert.Ff2.main_arg6))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
      ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4)
      ∧ r.2.mem ((c.tc : Thread Cert.Ff2Ideal.nD Cert.Ff2Ideal.τ).loc Cert.Ff2Ideal.main_arg5) = m ((c.tc : Thread Cert.Ff2Ideal.nD Cert.Ff2Ideal.τ).loc Cert.Ff2Ideal.main_arg5)
      ∧ r.2.mem ((c.tc : Thread Cert.Ff2Ideal.nD Cert.Ff2Ideal.τ).loc Cert.Ff2Ideal.main_arg6) = m ((c.tc : Thread Cert.Ff2Ideal.nD Cert.Ff2Ideal.τ).loc Cert.Ff2Ideal.main_arg6))
      ∧ r.2.sem = fun _ => 0)

def quiescent_Ff2Ideal_pre_finite_ff2 [hFf2Ideal : Cert.Ff2Ideal.Facts] [hPre_finite_ff2 : Cert.Pre_finite_ff2.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal_finite_ff2 m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
      ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4)
      ∧ r.2.mem ((c.tc : Thread Cert.Ff2Ideal.nD Cert.Ff2Ideal.τ).loc Cert.Ff2Ideal.main_arg5) = m ((c.tc : Thread Cert.Ff2Ideal.nD Cert.Ff2Ideal.τ).loc Cert.Ff2Ideal.main_arg5)
      ∧ r.2.mem ((c.tc : Thread Cert.Ff2Ideal.nD Cert.Ff2Ideal.τ).loc Cert.Ff2Ideal.main_arg6) = m ((c.tc : Thread Cert.Ff2Ideal.nD Cert.Ff2Ideal.τ).loc Cert.Ff2Ideal.main_arg6))
      ∧ r.2.sem = fun _ => 0)

def quiescent_RefFf2Ideal [hRefFf2Ideal : Cert.RefFf2Ideal.Facts] : Prop :=
  ∀ (m : (ℓ : Loc Cert.RefFf2Ideal.nD Cert.RefFf2Ideal.τ Cert.RefFf2Ideal.sig) → Buf (Elt Ideal) ℓ) (g : Dev Cert.RefFf2Ideal.nD → PrngReg), Pre_RefFf2Ideal m →
    θ_run (Cert.RefFf2Ideal.defs (F := Ideal)) (onTc (τ := Cert.RefFf2Ideal.τ) (Cert.RefFf2Ideal.main (F := Ideal))) ⟨m, fun _ => 0, g⟩ (fun r => (∀ c : Dev Cert.RefFf2Ideal.nD,
      r.2.mem ((c.tc : Thread Cert.RefFf2Ideal.nD Cert.RefFf2Ideal.τ).loc Cert.RefFf2Ideal.main_arg0) = m ((c.tc : Thread Cert.RefFf2Ideal.nD Cert.RefFf2Ideal.τ).loc Cert.RefFf2Ideal.main_arg0)
      ∧ r.2.mem ((c.tc : Thread Cert.RefFf2Ideal.nD Cert.RefFf2Ideal.τ).loc Cert.RefFf2Ideal.main_arg1) = m ((c.tc : Thread Cert.RefFf2Ideal.nD Cert.RefFf2Ideal.τ).loc Cert.RefFf2Ideal.main_arg1)
      ∧ r.2.mem ((c.tc : Thread Cert.RefFf2Ideal.nD Cert.RefFf2Ideal.τ).loc Cert.RefFf2Ideal.main_arg2) = m ((c.tc : Thread Cert.RefFf2Ideal.nD Cert.RefFf2Ideal.τ).loc Cert.RefFf2Ideal.main_arg2)
      ∧ r.2.mem ((c.tc : Thread Cert.RefFf2Ideal.nD Cert.RefFf2Ideal.τ).loc Cert.RefFf2Ideal.main_arg3) = m ((c.tc : Thread Cert.RefFf2Ideal.nD Cert.RefFf2Ideal.τ).loc Cert.RefFf2Ideal.main_arg3)
      ∧ r.2.mem ((c.tc : Thread Cert.RefFf2Ideal.nD Cert.RefFf2Ideal.τ).loc Cert.RefFf2Ideal.main_arg4) = m ((c.tc : Thread Cert.RefFf2Ideal.nD Cert.RefFf2Ideal.τ).loc Cert.RefFf2Ideal.main_arg4)
      ∧ r.2.mem ((c.tc : Thread Cert.RefFf2Ideal.nD Cert.RefFf2Ideal.τ).loc Cert.RefFf2Ideal.main_arg5) = m ((c.tc : Thread Cert.RefFf2Ideal.nD Cert.RefFf2Ideal.τ).loc Cert.RefFf2Ideal.main_arg5)
      ∧ r.2.mem ((c.tc : Thread Cert.RefFf2Ideal.nD Cert.RefFf2Ideal.τ).loc Cert.RefFf2Ideal.main_arg6) = m ((c.tc : Thread Cert.RefFf2Ideal.nD Cert.RefFf2Ideal.τ).loc Cert.RefFf2Ideal.main_arg6))
      ∧ r.2.sem = fun _ => 0)

def quiescent_RefFf2Ideal_pre_finite_ff2 [hRefFf2Ideal : Cert.RefFf2Ideal.Facts] [hPre_finite_ff2 : Cert.Pre_finite_ff2.Facts] : Prop :=
  ∀ (m : (ℓ : Loc Cert.RefFf2Ideal.nD Cert.RefFf2Ideal.τ Cert.RefFf2Ideal.sig) → Buf (Elt Ideal) ℓ) (g : Dev Cert.RefFf2Ideal.nD → PrngReg), Pre_RefFf2Ideal_finite_ff2 m →
    θ_run (Cert.RefFf2Ideal.defs (F := Ideal)) (onTc (τ := Cert.RefFf2Ideal.τ) (Cert.RefFf2Ideal.main (F := Ideal))) ⟨m, fun _ => 0, g⟩ (fun r => (∀ c : Dev Cert.RefFf2Ideal.nD,
      r.2.mem ((c.tc : Thread Cert.RefFf2Ideal.nD Cert.RefFf2Ideal.τ).loc Cert.RefFf2Ideal.main_arg0) = m ((c.tc : Thread Cert.RefFf2Ideal.nD Cert.RefFf2Ideal.τ).loc Cert.RefFf2Ideal.main_arg0)
      ∧ r.2.mem ((c.tc : Thread Cert.RefFf2Ideal.nD Cert.RefFf2Ideal.τ).loc Cert.RefFf2Ideal.main_arg1) = m ((c.tc : Thread Cert.RefFf2Ideal.nD Cert.RefFf2Ideal.τ).loc Cert.RefFf2Ideal.main_arg1)
      ∧ r.2.mem ((c.tc : Thread Cert.RefFf2Ideal.nD Cert.RefFf2Ideal.τ).loc Cert.RefFf2Ideal.main_arg2) = m ((c.tc : Thread Cert.RefFf2Ideal.nD Cert.RefFf2Ideal.τ).loc Cert.RefFf2Ideal.main_arg2)
      ∧ r.2.mem ((c.tc : Thread Cert.RefFf2Ideal.nD Cert.RefFf2Ideal.τ).loc Cert.RefFf2Ideal.main_arg3) = m ((c.tc : Thread Cert.RefFf2Ideal.nD Cert.RefFf2Ideal.τ).loc Cert.RefFf2Ideal.main_arg3)
      ∧ r.2.mem ((c.tc : Thread Cert.RefFf2Ideal.nD Cert.RefFf2Ideal.τ).loc Cert.RefFf2Ideal.main_arg4) = m ((c.tc : Thread Cert.RefFf2Ideal.nD Cert.RefFf2Ideal.τ).loc Cert.RefFf2Ideal.main_arg4)
      ∧ r.2.mem ((c.tc : Thread Cert.RefFf2Ideal.nD Cert.RefFf2Ideal.τ).loc Cert.RefFf2Ideal.main_arg5) = m ((c.tc : Thread Cert.RefFf2Ideal.nD Cert.RefFf2Ideal.τ).loc Cert.RefFf2Ideal.main_arg5)
      ∧ r.2.mem ((c.tc : Thread Cert.RefFf2Ideal.nD Cert.RefFf2Ideal.τ).loc Cert.RefFf2Ideal.main_arg6) = m ((c.tc : Thread Cert.RefFf2Ideal.nD Cert.RefFf2Ideal.τ).loc Cert.RefFf2Ideal.main_arg6))
      ∧ r.2.sem = fun _ => 0)

def quiescent_Dff1 [hDff1 : Cert.Dff1.Facts] : Prop :=
  ∀ (m : (ℓ : Loc Cert.Dff1.nD Cert.Dff1.τ Cert.Dff1.sig) → Buf (Elt Bits) ℓ) (g : Dev Cert.Dff1.nD → PrngReg), Pre_Dff1 m →
    θ_run (Cert.Dff1.defs (F := Bits)) (onTc (τ := Cert.Dff1.τ) (Cert.Dff1.main (F := Bits))) ⟨m, fun _ => 0, g⟩ (fun r => (∀ c : Dev Cert.Dff1.nD,
      r.2.mem ((c.tc : Thread Cert.Dff1.nD Cert.Dff1.τ).loc Cert.Dff1.main_arg0) = m ((c.tc : Thread Cert.Dff1.nD Cert.Dff1.τ).loc Cert.Dff1.main_arg0)
      ∧ r.2.mem ((c.tc : Thread Cert.Dff1.nD Cert.Dff1.τ).loc Cert.Dff1.main_arg1) = m ((c.tc : Thread Cert.Dff1.nD Cert.Dff1.τ).loc Cert.Dff1.main_arg1)
      ∧ r.2.mem ((c.tc : Thread Cert.Dff1.nD Cert.Dff1.τ).loc Cert.Dff1.main_arg2) = m ((c.tc : Thread Cert.Dff1.nD Cert.Dff1.τ).loc Cert.Dff1.main_arg2)
      ∧ r.2.mem ((c.tc : Thread Cert.Dff1.nD Cert.Dff1.τ).loc Cert.Dff1.main_arg3) = m ((c.tc : Thread Cert.Dff1.nD Cert.Dff1.τ).loc Cert.Dff1.main_arg3)
      ∧ r.2.mem ((c.tc : Thread Cert.Dff1.nD Cert.Dff1.τ).loc Cert.Dff1.main_arg4) = m ((c.tc : Thread Cert.Dff1.nD Cert.Dff1.τ).loc Cert.Dff1.main_arg4))
      ∧ r.2.sem = fun _ => 0)

def quiescent_Dff1Ideal [hDff1Ideal : Cert.Dff1Ideal.Facts] : Prop :=
  ∀ (m : (ℓ : Loc Cert.Dff1Ideal.nD Cert.Dff1Ideal.τ Cert.Dff1Ideal.sig) → Buf (Elt Ideal) ℓ) (g : Dev Cert.Dff1Ideal.nD → PrngReg), Pre_Dff1Ideal m →
    θ_run (Cert.Dff1Ideal.defs (F := Ideal)) (onTc (τ := Cert.Dff1Ideal.τ) (Cert.Dff1Ideal.main (F := Ideal))) ⟨m, fun _ => 0, g⟩ (fun r => (∀ c : Dev Cert.Dff1Ideal.nD,
      r.2.mem ((c.tc : Thread Cert.Dff1Ideal.nD Cert.Dff1Ideal.τ).loc Cert.Dff1Ideal.main_arg0) = m ((c.tc : Thread Cert.Dff1Ideal.nD Cert.Dff1Ideal.τ).loc Cert.Dff1Ideal.main_arg0)
      ∧ r.2.mem ((c.tc : Thread Cert.Dff1Ideal.nD Cert.Dff1Ideal.τ).loc Cert.Dff1Ideal.main_arg1) = m ((c.tc : Thread Cert.Dff1Ideal.nD Cert.Dff1Ideal.τ).loc Cert.Dff1Ideal.main_arg1)
      ∧ r.2.mem ((c.tc : Thread Cert.Dff1Ideal.nD Cert.Dff1Ideal.τ).loc Cert.Dff1Ideal.main_arg2) = m ((c.tc : Thread Cert.Dff1Ideal.nD Cert.Dff1Ideal.τ).loc Cert.Dff1Ideal.main_arg2)
      ∧ r.2.mem ((c.tc : Thread Cert.Dff1Ideal.nD Cert.Dff1Ideal.τ).loc Cert.Dff1Ideal.main_arg3) = m ((c.tc : Thread Cert.Dff1Ideal.nD Cert.Dff1Ideal.τ).loc Cert.Dff1Ideal.main_arg3)
      ∧ r.2.mem ((c.tc : Thread Cert.Dff1Ideal.nD Cert.Dff1Ideal.τ).loc Cert.Dff1Ideal.main_arg4) = m ((c.tc : Thread Cert.Dff1Ideal.nD Cert.Dff1Ideal.τ).loc Cert.Dff1Ideal.main_arg4))
      ∧ r.2.sem = fun _ => 0)

def quiescent_RefDff1Ideal [hRefDff1Ideal : Cert.RefDff1Ideal.Facts] : Prop :=
  ∀ (m : (ℓ : Loc Cert.RefDff1Ideal.nD Cert.RefDff1Ideal.τ Cert.RefDff1Ideal.sig) → Buf (Elt Ideal) ℓ) (g : Dev Cert.RefDff1Ideal.nD → PrngReg), Pre_RefDff1Ideal m →
    θ_run (Cert.RefDff1Ideal.defs (F := Ideal)) (onTc (τ := Cert.RefDff1Ideal.τ) (Cert.RefDff1Ideal.main (F := Ideal))) ⟨m, fun _ => 0, g⟩ (fun r => (∀ c : Dev Cert.RefDff1Ideal.nD,
      r.2.mem ((c.tc : Thread Cert.RefDff1Ideal.nD Cert.RefDff1Ideal.τ).loc Cert.RefDff1Ideal.main_arg0) = m ((c.tc : Thread Cert.RefDff1Ideal.nD Cert.RefDff1Ideal.τ).loc Cert.RefDff1Ideal.main_arg0)
      ∧ r.2.mem ((c.tc : Thread Cert.RefDff1Ideal.nD Cert.RefDff1Ideal.τ).loc Cert.RefDff1Ideal.main_arg1) = m ((c.tc : Thread Cert.RefDff1Ideal.nD Cert.RefDff1Ideal.τ).loc Cert.RefDff1Ideal.main_arg1)
      ∧ r.2.mem ((c.tc : Thread Cert.RefDff1Ideal.nD Cert.RefDff1Ideal.τ).loc Cert.RefDff1Ideal.main_arg2) = m ((c.tc : Thread Cert.RefDff1Ideal.nD Cert.RefDff1Ideal.τ).loc Cert.RefDff1Ideal.main_arg2)
      ∧ r.2.mem ((c.tc : Thread Cert.RefDff1Ideal.nD Cert.RefDff1Ideal.τ).loc Cert.RefDff1Ideal.main_arg3) = m ((c.tc : Thread Cert.RefDff1Ideal.nD Cert.RefDff1Ideal.τ).loc Cert.RefDff1Ideal.main_arg3)
      ∧ r.2.mem ((c.tc : Thread Cert.RefDff1Ideal.nD Cert.RefDff1Ideal.τ).loc Cert.RefDff1Ideal.main_arg4) = m ((c.tc : Thread Cert.RefDff1Ideal.nD Cert.RefDff1Ideal.τ).loc Cert.RefDff1Ideal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_RefPoolIdeal [hRefPoolIdeal : Cert.RefPoolIdeal.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2)
      ∧ r.2.mem ((c.tc : Thread Cert.RefPoolIdeal.nD Cert.RefPoolIdeal.τ).loc Cert.RefPoolIdeal.main_arg3) = m ((c.tc : Thread Cert.RefPoolIdeal.nD Cert.RefPoolIdeal.τ).loc Cert.RefPoolIdeal.main_arg3))
      ∧ r.2.sem = fun _ => 0)

def quiescent_RefPoolIdeal_pre_finite_pool [hRefPoolIdeal : Cert.RefPoolIdeal.Facts] [hPre_finite_pool : Cert.Pre_finite_pool.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal_finite_pool m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2)
      ∧ r.2.mem ((c.tc : Thread Cert.RefPoolIdeal.nD Cert.RefPoolIdeal.τ).loc Cert.RefPoolIdeal.main_arg3) = m ((c.tc : Thread Cert.RefPoolIdeal.nD Cert.RefPoolIdeal.τ).loc Cert.RefPoolIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttIdeal_pre_finite_att [hAttIdeal : Cert.AttIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_att m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_RefAttIdeal [hRefAttIdeal : Cert.RefAttIdeal.Facts] : Prop :=
  ∀ (m : (ℓ : Loc Cert.RefAttIdeal.nD Cert.RefAttIdeal.τ Cert.RefAttIdeal.sig) → Buf (Elt Ideal) ℓ) (g : Dev Cert.RefAttIdeal.nD → PrngReg), Pre_RefAttIdeal m →
    θ_run (Cert.RefAttIdeal.defs (F := Ideal)) (onTc (τ := Cert.RefAttIdeal.τ) (Cert.RefAttIdeal.main (F := Ideal))) ⟨m, fun _ => 0, g⟩ (fun r => (∀ c : Dev Cert.RefAttIdeal.nD,
      r.2.mem ((c.tc : Thread Cert.RefAttIdeal.nD Cert.RefAttIdeal.τ).loc Cert.RefAttIdeal.main_arg0) = m ((c.tc : Thread Cert.RefAttIdeal.nD Cert.RefAttIdeal.τ).loc Cert.RefAttIdeal.main_arg0))
      ∧ r.2.sem = fun _ => 0)

def quiescent_RefAttIdeal_pre_finite_att [hRefAttIdeal : Cert.RefAttIdeal.Facts] [hPre_finite_att : Cert.Pre_finite_att.Facts] : Prop :=
  ∀ (m : (ℓ : Loc Cert.RefAttIdeal.nD Cert.RefAttIdeal.τ Cert.RefAttIdeal.sig) → Buf (Elt Ideal) ℓ) (g : Dev Cert.RefAttIdeal.nD → PrngReg), Pre_RefAttIdeal_finite_att m →
    θ_run (Cert.RefAttIdeal.defs (F := Ideal)) (onTc (τ := Cert.RefAttIdeal.τ) (Cert.RefAttIdeal.main (F := Ideal))) ⟨m, fun _ => 0, g⟩ (fun r => (∀ c : Dev Cert.RefAttIdeal.nD,
      r.2.mem ((c.tc : Thread Cert.RefAttIdeal.nD Cert.RefAttIdeal.τ).loc Cert.RefAttIdeal.main_arg0) = m ((c.tc : Thread Cert.RefAttIdeal.nD Cert.RefAttIdeal.τ).loc Cert.RefAttIdeal.main_arg0))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_RefLnIdeal [hRefLnIdeal : Cert.RefLnIdeal.Facts] : Prop :=
  ∀ (m : (ℓ : Loc Cert.RefLnIdeal.nD Cert.RefLnIdeal.τ Cert.RefLnIdeal.sig) → Buf (Elt Ideal) ℓ) (g : Dev Cert.RefLnIdeal.nD → PrngReg), Pre_RefLnIdeal m →
    θ_run (Cert.RefLnIdeal.defs (F := Ideal)) (onTc (τ := Cert.RefLnIdeal.τ) (Cert.RefLnIdeal.main (F := Ideal))) ⟨m, fun _ => 0, g⟩ (fun r => (∀ c : Dev Cert.RefLnIdeal.nD,
      r.2.mem ((c.tc : Thread Cert.RefLnIdeal.nD Cert.RefLnIdeal.τ).loc Cert.RefLnIdeal.main_arg0) = m ((c.tc : Thread Cert.RefLnIdeal.nD Cert.RefLnIdeal.τ).loc Cert.RefLnIdeal.main_arg0)
      ∧ r.2.mem ((c.tc : Thread Cert.RefLnIdeal.nD Cert.RefLnIdeal.τ).loc Cert.RefLnIdeal.main_arg1) = m ((c.tc : Thread Cert.RefLnIdeal.nD Cert.RefLnIdeal.τ).loc Cert.RefLnIdeal.main_arg1)
      ∧ r.2.mem ((c.tc : Thread Cert.RefLnIdeal.nD Cert.RefLnIdeal.τ).loc Cert.RefLnIdeal.main_arg2) = m ((c.tc : Thread Cert.RefLnIdeal.nD Cert.RefLnIdeal.τ).loc Cert.RefLnIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_RefFf1Ideal [hRefFf1Ideal : Cert.RefFf1Ideal.Facts] : Prop :=
  ∀ (m : (ℓ : Loc Cert.RefFf1Ideal.nD Cert.RefFf1Ideal.τ Cert.RefFf1Ideal.sig) → Buf (Elt Ideal) ℓ) (g : Dev Cert.RefFf1Ideal.nD → PrngReg), Pre_RefFf1Ideal m →
    θ_run (Cert.RefFf1Ideal.defs (F := Ideal)) (onTc (τ := Cert.RefFf1Ideal.τ) (Cert.RefFf1Ideal.main (F := Ideal))) ⟨m, fun _ => 0, g⟩ (fun r => (∀ c : Dev Cert.RefFf1Ideal.nD,
      r.2.mem ((c.tc : Thread Cert.RefFf1Ideal.nD Cert.RefFf1Ideal.τ).loc Cert.RefFf1Ideal.main_arg0) = m ((c.tc : Thread Cert.RefFf1Ideal.nD Cert.RefFf1Ideal.τ).loc Cert.RefFf1Ideal.main_arg0)
      ∧ r.2.mem ((c.tc : Thread Cert.RefFf1Ideal.nD Cert.RefFf1Ideal.τ).loc Cert.RefFf1Ideal.main_arg1) = m ((c.tc : Thread Cert.RefFf1Ideal.nD Cert.RefFf1Ideal.τ).loc Cert.RefFf1Ideal.main_arg1)
      ∧ r.2.mem ((c.tc : Thread Cert.RefFf1Ideal.nD Cert.RefFf1Ideal.τ).loc Cert.RefFf1Ideal.main_arg2) = m ((c.tc : Thread Cert.RefFf1Ideal.nD Cert.RefFf1Ideal.τ).loc Cert.RefFf1Ideal.main_arg2))
      ∧ r.2.sem = fun _ => 0)

def quiescent_U [hU : Cert.U.Facts] : Prop :=
  ∀ (m : (ℓ : Loc Cert.U.nD Cert.U.τ Cert.U.sig) → Buf (Elt Bits) ℓ) (g : Dev Cert.U.nD → PrngReg), Pre_U m →
    θ_run (Cert.U.defs (F := Bits)) (onTc (τ := Cert.U.τ) (Cert.U.main (F := Bits))) ⟨m, fun _ => 0, g⟩ (fun r => (∀ c : Dev Cert.U.nD,
      r.2.mem ((c.tc : Thread Cert.U.nD Cert.U.τ).loc Cert.U.main_arg0) = m ((c.tc : Thread Cert.U.nD Cert.U.τ).loc Cert.U.main_arg0)
      ∧ r.2.mem ((c.tc : Thread Cert.U.nD Cert.U.τ).loc Cert.U.main_arg1) = m ((c.tc : Thread Cert.U.nD Cert.U.τ).loc Cert.U.main_arg1))
      ∧ r.2.sem = fun _ => 0)

def quiescent_UIdeal [hUIdeal : Cert.UIdeal.Facts] : Prop :=
  ∀ (m : (ℓ : Loc Cert.UIdeal.nD Cert.UIdeal.τ Cert.UIdeal.sig) → Buf (Elt Ideal) ℓ) (g : Dev Cert.UIdeal.nD → PrngReg), Pre_UIdeal m →
    θ_run (Cert.UIdeal.defs (F := Ideal)) (onTc (τ := Cert.UIdeal.τ) (Cert.UIdeal.main (F := Ideal))) ⟨m, fun _ => 0, g⟩ (fun r => (∀ c : Dev Cert.UIdeal.nD,
      r.2.mem ((c.tc : Thread Cert.UIdeal.nD Cert.UIdeal.τ).loc Cert.UIdeal.main_arg0) = m ((c.tc : Thread Cert.UIdeal.nD Cert.UIdeal.τ).loc Cert.UIdeal.main_arg0)
      ∧ r.2.mem ((c.tc : Thread Cert.UIdeal.nD Cert.UIdeal.τ).loc Cert.UIdeal.main_arg1) = m ((c.tc : Thread Cert.UIdeal.nD Cert.UIdeal.τ).loc Cert.UIdeal.main_arg1))
      ∧ r.2.sem = fun _ => 0)

def quiescent_RefUIdeal [hRefUIdeal : Cert.RefUIdeal.Facts] : Prop :=
  ∀ (m : (ℓ : Loc Cert.RefUIdeal.nD Cert.RefUIdeal.τ Cert.RefUIdeal.sig) → Buf (Elt Ideal) ℓ) (g : Dev Cert.RefUIdeal.nD → PrngReg), Pre_RefUIdeal m →
    θ_run (Cert.RefUIdeal.defs (F := Ideal)) (onTc (τ := Cert.RefUIdeal.τ) (Cert.RefUIdeal.main (F := Ideal))) ⟨m, fun _ => 0, g⟩ (fun r => (∀ c : Dev Cert.RefUIdeal.nD,
      r.2.mem ((c.tc : Thread Cert.RefUIdeal.nD Cert.RefUIdeal.τ).loc Cert.RefUIdeal.main_arg0) = m ((c.tc : Thread Cert.RefUIdeal.nD Cert.RefUIdeal.τ).loc Cert.RefUIdeal.main_arg0)
      ∧ r.2.mem ((c.tc : Thread Cert.RefUIdeal.nD Cert.RefUIdeal.τ).loc Cert.RefUIdeal.main_arg1) = m ((c.tc : Thread Cert.RefUIdeal.nD Cert.RefUIdeal.τ).loc Cert.RefUIdeal.main_arg1))
      ∧ r.2.sem = fun _ => 0)

def quiescent_Poolf [hPoolf : Cert.Poolf.Facts] : Prop :=
  ∀ (m : (ℓ : Loc Cert.Poolf.nD Cert.Poolf.τ Cert.Poolf.sig) → Buf (Elt Bits) ℓ) (g : Dev Cert.Poolf.nD → PrngReg), Pre_Poolf m →
    θ_run (Cert.Poolf.defs (F := Bits)) (onTc (τ := Cert.Poolf.τ) (Cert.Poolf.main (F := Bits))) ⟨m, fun _ => 0, g⟩ (fun r => (∀ c : Dev Cert.Poolf.nD,
      r.2.mem ((c.tc : Thread Cert.Poolf.nD Cert.Poolf.τ).loc Cert.Poolf.main_arg0) = m ((c.tc : Thread Cert.Poolf.nD Cert.Poolf.τ).loc Cert.Poolf.main_arg0)
      ∧ r.2.mem ((c.tc : Thread Cert.Poolf.nD Cert.Poolf.τ).loc Cert.Poolf.main_arg1) = m ((c.tc : Thread Cert.Poolf.nD Cert.Poolf.τ).loc Cert.Poolf.main_arg1)
      ∧ r.2.mem ((c.tc : Thread Cert.Poolf.nD Cert.Poolf.τ).loc Cert.Poolf.main_arg2) = m ((c.tc : Thread Cert.Poolf.nD Cert.Poolf.τ).loc Cert.Poolf.main_arg2))
      ∧ r.2.sem = fun _ => 0)

def quiescent_PoolfIdeal [hPoolfIdeal : Cert.PoolfIdeal.Facts] : Prop :=
  ∀ (m : (ℓ : Loc Cert.PoolfIdeal.nD Cert.PoolfIdeal.τ Cert.PoolfIdeal.sig) → Buf (Elt Ideal) ℓ) (g : Dev Cert.PoolfIdeal.nD → PrngReg), Pre_PoolfIdeal m →
    θ_run (Cert.PoolfIdeal.defs (F := Ideal)) (onTc (τ := Cert.PoolfIdeal.τ) (Cert.PoolfIdeal.main (F := Ideal))) ⟨m, fun _ => 0, g⟩ (fun r => (∀ c : Dev Cert.PoolfIdeal.nD,
      r.2.mem ((c.tc : Thread Cert.PoolfIdeal.nD Cert.PoolfIdeal.τ).loc Cert.PoolfIdeal.main_arg0) = m ((c.tc : Thread Cert.PoolfIdeal.nD Cert.PoolfIdeal.τ).loc Cert.PoolfIdeal.main_arg0)
      ∧ r.2.mem ((c.tc : Thread Cert.PoolfIdeal.nD Cert.PoolfIdeal.τ).loc Cert.PoolfIdeal.main_arg1) = m ((c.tc : Thread Cert.PoolfIdeal.nD Cert.PoolfIdeal.τ).loc Cert.PoolfIdeal.main_arg1)
      ∧ r.2.mem ((c.tc : Thread Cert.PoolfIdeal.nD Cert.PoolfIdeal.τ).loc Cert.PoolfIdeal.main_arg2) = m ((c.tc : Thread Cert.PoolfIdeal.nD Cert.PoolfIdeal.τ).loc Cert.PoolfIdeal.main_arg2))
      ∧ r.2.sem = fun _ => 0)

def quiescent_PoolfIdeal_pre_finite_poolf [hPoolfIdeal : Cert.PoolfIdeal.Facts] [hPre_finite_poolf : Cert.Pre_finite_poolf.Facts] : Prop :=
  ∀ (m : (ℓ : Loc Cert.PoolfIdeal.nD Cert.PoolfIdeal.τ Cert.PoolfIdeal.sig) → Buf (Elt Ideal) ℓ) (g : Dev Cert.PoolfIdeal.nD → PrngReg), Pre_PoolfIdeal_finite_poolf m →
    θ_run (Cert.PoolfIdeal.defs (F := Ideal)) (onTc (τ := Cert.PoolfIdeal.τ) (Cert.PoolfIdeal.main (F := Ideal))) ⟨m, fun _ => 0, g⟩ (fun r => (∀ c : Dev Cert.PoolfIdeal.nD,
      r.2.mem ((c.tc : Thread Cert.PoolfIdeal.nD Cert.PoolfIdeal.τ).loc Cert.PoolfIdeal.main_arg0) = m ((c.tc : Thread Cert.PoolfIdeal.nD Cert.PoolfIdeal.τ).loc Cert.PoolfIdeal.main_arg0)
      ∧ r.2.mem ((c.tc : Thread Cert.PoolfIdeal.nD Cert.PoolfIdeal.τ).loc Cert.PoolfIdeal.main_arg1) = m ((c.tc : Thread Cert.PoolfIdeal.nD Cert.PoolfIdeal.τ).loc Cert.PoolfIdeal.main_arg1)
      ∧ r.2.mem ((c.tc : Thread Cert.PoolfIdeal.nD Cert.PoolfIdeal.τ).loc Cert.PoolfIdeal.main_arg2) = m ((c.tc : Thread Cert.PoolfIdeal.nD Cert.PoolfIdeal.τ).loc Cert.PoolfIdeal.main_arg2))
      ∧ r.2.sem = fun _ => 0)

def quiescent_RefPoolfIdeal [hRefPoolfIdeal : Cert.RefPoolfIdeal.Facts] : Prop :=
  ∀ (m : (ℓ : Loc Cert.RefPoolfIdeal.nD Cert.RefPoolfIdeal.τ Cert.RefPoolfIdeal.sig) → Buf (Elt Ideal) ℓ) (g : Dev Cert.RefPoolfIdeal.nD → PrngReg), Pre_RefPoolfIdeal m →
    θ_run (Cert.RefPoolfIdeal.defs (F := Ideal)) (onTc (τ := Cert.RefPoolfIdeal.τ) (Cert.RefPoolfIdeal.main (F := Ideal))) ⟨m, fun _ => 0, g⟩ (fun r => (∀ c : Dev Cert.RefPoolfIdeal.nD,
      r.2.mem ((c.tc : Thread Cert.RefPoolfIdeal.nD Cert.RefPoolfIdeal.τ).loc Cert.RefPoolfIdeal.main_arg0) = m ((c.tc : Thread Cert.RefPoolfIdeal.nD Cert.RefPoolfIdeal.τ).loc Cert.RefPoolfIdeal.main_arg0)
      ∧ r.2.mem ((c.tc : Thread Cert.RefPoolfIdeal.nD Cert.RefPoolfIdeal.τ).loc Cert.RefPoolfIdeal.main_arg1) = m ((c.tc : Thread Cert.RefPoolfIdeal.nD Cert.RefPoolfIdeal.τ).loc Cert.RefPoolfIdeal.main_arg1)
      ∧ r.2.mem ((c.tc : Thread Cert.RefPoolfIdeal.nD Cert.RefPoolfIdeal.τ).loc Cert.RefPoolfIdeal.main_arg2) = m ((c.tc : Thread Cert.RefPoolfIdeal.nD Cert.RefPoolfIdeal.τ).loc Cert.RefPoolfIdeal.main_arg2))
      ∧ r.2.sem = fun _ => 0)

def quiescent_RefPoolfIdeal_pre_finite_poolf [hRefPoolfIdeal : Cert.RefPoolfIdeal.Facts] [hPre_finite_poolf : Cert.Pre_finite_poolf.Facts] : Prop :=
  ∀ (m : (ℓ : Loc Cert.RefPoolfIdeal.nD Cert.RefPoolfIdeal.τ Cert.RefPoolfIdeal.sig) → Buf (Elt Ideal) ℓ) (g : Dev Cert.RefPoolfIdeal.nD → PrngReg), Pre_RefPoolfIdeal_finite_poolf m →
    θ_run (Cert.RefPoolfIdeal.defs (F := Ideal)) (onTc (τ := Cert.RefPoolfIdeal.τ) (Cert.RefPoolfIdeal.main (F := Ideal))) ⟨m, fun _ => 0, g⟩ (fun r => (∀ c : Dev Cert.RefPoolfIdeal.nD,
      r.2.mem ((c.tc : Thread Cert.RefPoolfIdeal.nD Cert.RefPoolfIdeal.τ).loc Cert.RefPoolfIdeal.main_arg0) = m ((c.tc : Thread Cert.RefPoolfIdeal.nD Cert.RefPoolfIdeal.τ).loc Cert.RefPoolfIdeal.main_arg0)
      ∧ r.2.mem ((c.tc : Thread Cert.RefPoolfIdeal.nD Cert.RefPoolfIdeal.τ).loc Cert.RefPoolfIdeal.main_arg1) = m ((c.tc : Thread Cert.RefPoolfIdeal.nD Cert.RefPoolfIdeal.τ).loc Cert.RefPoolfIdeal.main_arg1)
      ∧ r.2.mem ((c.tc : Thread Cert.RefPoolfIdeal.nD Cert.RefPoolfIdeal.τ).loc Cert.RefPoolfIdeal.main_arg2) = m ((c.tc : Thread Cert.RefPoolfIdeal.nD Cert.RefPoolfIdeal.τ).loc Cert.RefPoolfIdeal.main_arg2))
      ∧ r.2.sem = fun _ => 0)

def preserves_Dh0_Dh0Ideal : Prop :=
  True

def algebraic_Dh0Ideal_RefDh0Ideal_pre_finite_dh0 [hDh0Ideal : Cert.Dh0Ideal.Facts] [hRefDh0Ideal : Cert.RefDh0Ideal.Facts] [hPre_finite_dh0 : Cert.Pre_finite_dh0.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.RefDh0Ideal.nD Cert.RefDh0Ideal.τ Cert.RefDh0Ideal.sig) → Buf (Elt Ideal) ℓ) (g' : Dev Cert.RefDh0Ideal.nD → PrngReg), Pre_Dh0Ideal_finite_dh0 m →
    (∀ c : Dev Cert.Dh0Ideal.nD,
      m' ((c.tc : Thread Cert.RefDh0Ideal.nD Cert.RefDh0Ideal.τ).loc Cert.RefDh0Ideal.main_arg0) = m ((c.tc : Thread Cert.Dh0Ideal.nD Cert.Dh0Ideal.τ).loc Cert.Dh0Ideal.main_arg0)
      ∧ m' ((c.tc : Thread Cert.RefDh0Ideal.nD Cert.RefDh0Ideal.τ).loc Cert.RefDh0Ideal.main_arg1) = m ((c.tc : Thread Cert.Dh0Ideal.nD Cert.Dh0Ideal.τ).loc Cert.Dh0Ideal.main_arg1)
      ∧ m' ((c.tc : Thread Cert.RefDh0Ideal.nD Cert.RefDh0Ideal.τ).loc Cert.RefDh0Ideal.main_arg2) = m ((c.tc : Thread Cert.Dh0Ideal.nD Cert.Dh0Ideal.τ).loc Cert.Dh0Ideal.main_arg2)
      ∧ m' ((c.tc : Thread Cert.RefDh0Ideal.nD Cert.RefDh0Ideal.τ).loc Cert.RefDh0Ideal.main_arg3) = m ((c.tc : Thread Cert.Dh0Ideal.nD Cert.Dh0Ideal.τ).loc Cert.Dh0Ideal.main_arg3)
      ∧ m' ((c.tc : Thread Cert.RefDh0Ideal.nD Cert.RefDh0Ideal.τ).loc Cert.RefDh0Ideal.main_arg4) = m ((c.tc : Thread Cert.Dh0Ideal.nD Cert.Dh0Ideal.τ).loc Cert.Dh0Ideal.main_arg4)
      ∧ m' ((c.tc : Thread Cert.RefDh0Ideal.nD Cert.RefDh0Ideal.τ).loc Cert.RefDh0Ideal.main_arg5) = m ((c.tc : Thread Cert.Dh0Ideal.nD Cert.Dh0Ideal.τ).loc Cert.Dh0Ideal.main_arg5)) →
    ∃ (v0 : (c : Dev Cert.Dh0Ideal.nD) → Buf (Elt Ideal) ((c.tc : Thread Cert.Dh0Ideal.nD Cert.Dh0Ideal.τ).loc Cert.Dh0Ideal.main_v15_0)) (v1 : (c : Dev Cert.Dh0Ideal.nD) → Buf (Elt Ideal) ((c.tc : Thread Cert.Dh0Ideal.nD Cert.Dh0Ideal.τ).loc Cert.Dh0Ideal.main_v15_1)) (v2 : (c : Dev Cert.Dh0Ideal.nD) → Buf (Elt Ideal) ((c.tc : Thread Cert.Dh0Ideal.nD Cert.Dh0Ideal.τ).loc Cert.Dh0Ideal.main_v15_2)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v15_0) = v0 c
          ∧ r.2.mem ((c.tc : Thread Cert.Dh0Ideal.nD Cert.Dh0Ideal.τ).loc Cert.Dh0Ideal.main_v15_1) = v1 c
          ∧ r.2.mem ((c.tc : Thread Cert.Dh0Ideal.nD Cert.Dh0Ideal.τ).loc Cert.Dh0Ideal.main_v15_2) = v2 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
          ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
          ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
          ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
          ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5))
      ∧ θ_run (Cert.RefDh0Ideal.defs (F := Ideal)) (onTc (τ := Cert.RefDh0Ideal.τ) (Cert.RefDh0Ideal.main (F := Ideal))) ⟨m', fun _ => 0, g'⟩ (fun r => ∀ c : Dev Cert.RefDh0Ideal.nD,
          r.2.mem ((c.tc : Thread Cert.RefDh0Ideal.nD Cert.RefDh0Ideal.τ).loc Cert.RefDh0Ideal.main_v70) = v0 c
          ∧ r.2.mem ((c.tc : Thread Cert.RefDh0Ideal.nD Cert.RefDh0Ideal.τ).loc Cert.RefDh0Ideal.main_v71) = v1 c
          ∧ r.2.mem ((c.tc : Thread Cert.RefDh0Ideal.nD Cert.RefDh0Ideal.τ).loc Cert.RefDh0Ideal.main_v72) = v2 c
          ∧ r.2.mem ((c.tc : Thread Cert.RefDh0Ideal.nD Cert.RefDh0Ideal.τ).loc Cert.RefDh0Ideal.main_arg0) = m' ((c.tc : Thread Cert.RefDh0Ideal.nD Cert.RefDh0Ideal.τ).loc Cert.RefDh0Ideal.main_arg0)
          ∧ r.2.mem ((c.tc : Thread Cert.RefDh0Ideal.nD Cert.RefDh0Ideal.τ).loc Cert.RefDh0Ideal.main_arg1) = m' ((c.tc : Thread Cert.RefDh0Ideal.nD Cert.RefDh0Ideal.τ).loc Cert.RefDh0Ideal.main_arg1)
          ∧ r.2.mem ((c.tc : Thread Cert.RefDh0Ideal.nD Cert.RefDh0Ideal.τ).loc Cert.RefDh0Ideal.main_arg2) = m' ((c.tc : Thread Cert.RefDh0Ideal.nD Cert.RefDh0Ideal.τ).loc Cert.RefDh0Ideal.main_arg2)
          ∧ r.2.mem ((c.tc : Thread Cert.RefDh0Ideal.nD Cert.RefDh0Ideal.τ).loc Cert.RefDh0Ideal.main_arg3) = m' ((c.tc : Thread Cert.RefDh0Ideal.nD Cert.RefDh0Ideal.τ).loc Cert.RefDh0Ideal.main_arg3)
          ∧ r.2.mem ((c.tc : Thread Cert.RefDh0Ideal.nD Cert.RefDh0Ideal.τ).loc Cert.RefDh0Ideal.main_arg4) = m' ((c.tc : Thread Cert.RefDh0Ideal.nD Cert.RefDh0Ideal.τ).loc Cert.RefDh0Ideal.main_arg4)
          ∧ r.2.mem ((c.tc : Thread Cert.RefDh0Ideal.nD Cert.RefDh0Ideal.τ).loc Cert.RefDh0Ideal.main_arg5) = m' ((c.tc : Thread Cert.RefDh0Ideal.nD Cert.RefDh0Ideal.τ).loc Cert.RefDh0Ideal.main_arg5))

def preserves_Attn_AttnIdeal : Prop :=
  IdealRules.named_const.Statement Cert.AttnIdeal.κ "scale2" .f32 0x3E0293EE#32 (((Real.log 2)⁻¹ * (11863283 / 134217728) : ℝ) : EReal)
  ∧ IdealRules.named_const.Statement Cert.AttnIdeal.κ "log2_e" .f32 0x3FB8AA3B#32 (((Real.log 2)⁻¹ : ℝ) : EReal)
  ∧ IdealRules.named_const.Statement Cert.AttnIdeal.κ "underflow" .f32 0x43200000#32 ⊤

def algebraic_AttnIdeal_RefAttnIdeal_pre_finite_attn [hAttnIdeal : Cert.AttnIdeal.Facts] [hRefAttnIdeal : Cert.RefAttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_attn m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v31)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v31) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v61) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2))

def preserves_Dh1_Dh1Ideal : Prop :=
  True

def algebraic_Dh1Ideal_RefDh1Ideal_pre_finite_dh1 [hDh1Ideal : Cert.Dh1Ideal.Facts] [hRefDh1Ideal : Cert.RefDh1Ideal.Facts] [hPre_finite_dh1 : Cert.Pre_finite_dh1.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.RefDh1Ideal.nD Cert.RefDh1Ideal.τ Cert.RefDh1Ideal.sig) → Buf (Elt Ideal) ℓ) (g' : Dev Cert.RefDh1Ideal.nD → PrngReg), Pre_Dh1Ideal_finite_dh1 m →
    (∀ c : Dev Cert.Dh1Ideal.nD,
      m' ((c.tc : Thread Cert.RefDh1Ideal.nD Cert.RefDh1Ideal.τ).loc Cert.RefDh1Ideal.main_arg0) = m ((c.tc : Thread Cert.Dh1Ideal.nD Cert.Dh1Ideal.τ).loc Cert.Dh1Ideal.main_arg0)
      ∧ m' ((c.tc : Thread Cert.RefDh1Ideal.nD Cert.RefDh1Ideal.τ).loc Cert.RefDh1Ideal.main_arg1) = m ((c.tc : Thread Cert.Dh1Ideal.nD Cert.Dh1Ideal.τ).loc Cert.Dh1Ideal.main_arg1)
      ∧ m' ((c.tc : Thread Cert.RefDh1Ideal.nD Cert.RefDh1Ideal.τ).loc Cert.RefDh1Ideal.main_arg2) = m ((c.tc : Thread Cert.Dh1Ideal.nD Cert.Dh1Ideal.τ).loc Cert.Dh1Ideal.main_arg2)
      ∧ m' ((c.tc : Thread Cert.RefDh1Ideal.nD Cert.RefDh1Ideal.τ).loc Cert.RefDh1Ideal.main_arg3) = m ((c.tc : Thread Cert.Dh1Ideal.nD Cert.Dh1Ideal.τ).loc Cert.Dh1Ideal.main_arg3)
      ∧ m' ((c.tc : Thread Cert.RefDh1Ideal.nD Cert.RefDh1Ideal.τ).loc Cert.RefDh1Ideal.main_arg4) = m ((c.tc : Thread Cert.Dh1Ideal.nD Cert.Dh1Ideal.τ).loc Cert.Dh1Ideal.main_arg4)
      ∧ m' ((c.tc : Thread Cert.RefDh1Ideal.nD Cert.RefDh1Ideal.τ).loc Cert.RefDh1Ideal.main_arg5) = m ((c.tc : Thread Cert.Dh1Ideal.nD Cert.Dh1Ideal.τ).loc Cert.Dh1Ideal.main_arg5)
      ∧ m' ((c.tc : Thread Cert.RefDh1Ideal.nD Cert.RefDh1Ideal.τ).loc Cert.RefDh1Ideal.main_arg6) = m ((c.tc : Thread Cert.Dh1Ideal.nD Cert.Dh1Ideal.τ).loc Cert.Dh1Ideal.main_arg6)
      ∧ m' ((c.tc : Thread Cert.RefDh1Ideal.nD Cert.RefDh1Ideal.τ).loc Cert.RefDh1Ideal.main_arg7) = m ((c.tc : Thread Cert.Dh1Ideal.nD Cert.Dh1Ideal.τ).loc Cert.Dh1Ideal.main_arg7)) →
    ∃ (v0 : (c : Dev Cert.Dh1Ideal.nD) → Buf (Elt Ideal) ((c.tc : Thread Cert.Dh1Ideal.nD Cert.Dh1Ideal.τ).loc Cert.Dh1Ideal.main_v9_0)) (v1 : (c : Dev Cert.Dh1Ideal.nD) → Buf (Elt Ideal) ((c.tc : Thread Cert.Dh1Ideal.nD Cert.Dh1Ideal.τ).loc Cert.Dh1Ideal.main_v9_1)) (v2 : (c : Dev Cert.Dh1Ideal.nD) → Buf (Elt Ideal) ((c.tc : Thread Cert.Dh1Ideal.nD Cert.Dh1Ideal.τ).loc Cert.Dh1Ideal.main_v9_2)) (v3 : (c : Dev Cert.Dh1Ideal.nD) → Buf (Elt Ideal) ((c.tc : Thread Cert.Dh1Ideal.nD Cert.Dh1Ideal.τ).loc Cert.Dh1Ideal.main_v9_3)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v9_0) = v0 c
          ∧ r.2.mem ((c.tc : Thread Cert.Dh1Ideal.nD Cert.Dh1Ideal.τ).loc Cert.Dh1Ideal.main_v9_1) = v1 c
          ∧ r.2.mem ((c.tc : Thread Cert.Dh1Ideal.nD Cert.Dh1Ideal.τ).loc Cert.Dh1Ideal.main_v9_2) = v2 c
          ∧ r.2.mem ((c.tc : Thread Cert.Dh1Ideal.nD Cert.Dh1Ideal.τ).loc Cert.Dh1Ideal.main_v9_3) = v3 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
          ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
          ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
          ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7))
      ∧ θ_run (Cert.RefDh1Ideal.defs (F := Ideal)) (onTc (τ := Cert.RefDh1Ideal.τ) (Cert.RefDh1Ideal.main (F := Ideal))) ⟨m', fun _ => 0, g'⟩ (fun r => ∀ c : Dev Cert.RefDh1Ideal.nD,
          r.2.mem ((c.tc : Thread Cert.RefDh1Ideal.nD Cert.RefDh1Ideal.τ).loc Cert.RefDh1Ideal.main_v76) = v0 c
          ∧ r.2.mem ((c.tc : Thread Cert.RefDh1Ideal.nD Cert.RefDh1Ideal.τ).loc Cert.RefDh1Ideal.main_v77) = v1 c
          ∧ r.2.mem ((c.tc : Thread Cert.RefDh1Ideal.nD Cert.RefDh1Ideal.τ).loc Cert.RefDh1Ideal.main_v78) = v2 c
          ∧ r.2.mem ((c.tc : Thread Cert.RefDh1Ideal.nD Cert.RefDh1Ideal.τ).loc Cert.RefDh1Ideal.main_v79) = v3 c
          ∧ r.2.mem ((c.tc : Thread Cert.RefDh1Ideal.nD Cert.RefDh1Ideal.τ).loc Cert.RefDh1Ideal.main_arg0) = m' ((c.tc : Thread Cert.RefDh1Ideal.nD Cert.RefDh1Ideal.τ).loc Cert.RefDh1Ideal.main_arg0)
          ∧ r.2.mem ((c.tc : Thread Cert.RefDh1Ideal.nD Cert.RefDh1Ideal.τ).loc Cert.RefDh1Ideal.main_arg1) = m' ((c.tc : Thread Cert.RefDh1Ideal.nD Cert.RefDh1Ideal.τ).loc Cert.RefDh1Ideal.main_arg1)
          ∧ r.2.mem ((c.tc : Thread Cert.RefDh1Ideal.nD Cert.RefDh1Ideal.τ).loc Cert.RefDh1Ideal.main_arg2) = m' ((c.tc : Thread Cert.RefDh1Ideal.nD Cert.RefDh1Ideal.τ).loc Cert.RefDh1Ideal.main_arg2)
          ∧ r.2.mem ((c.tc : Thread Cert.RefDh1Ideal.nD Cert.RefDh1Ideal.τ).loc Cert.RefDh1Ideal.main_arg3) = m' ((c.tc : Thread Cert.RefDh1Ideal.nD Cert.RefDh1Ideal.τ).loc Cert.RefDh1Ideal.main_arg3)
          ∧ r.2.mem ((c.tc : Thread Cert.RefDh1Ideal.nD Cert.RefDh1Ideal.τ).loc Cert.RefDh1Ideal.main_arg4) = m' ((c.tc : Thread Cert.RefDh1Ideal.nD Cert.RefDh1Ideal.τ).loc Cert.RefDh1Ideal.main_arg4)
          ∧ r.2.mem ((c.tc : Thread Cert.RefDh1Ideal.nD Cert.RefDh1Ideal.τ).loc Cert.RefDh1Ideal.main_arg5) = m' ((c.tc : Thread Cert.RefDh1Ideal.nD Cert.RefDh1Ideal.τ).loc Cert.RefDh1Ideal.main_arg5)
          ∧ r.2.mem ((c.tc : Thread Cert.RefDh1Ideal.nD Cert.RefDh1Ideal.τ).loc Cert.RefDh1Ideal.main_arg6) = m' ((c.tc : Thread Cert.RefDh1Ideal.nD Cert.RefDh1Ideal.τ).loc Cert.RefDh1Ideal.main_arg6)
          ∧ r.2.mem ((c.tc : Thread Cert.RefDh1Ideal.nD Cert.RefDh1Ideal.τ).loc Cert.RefDh1Ideal.main_arg7) = m' ((c.tc : Thread Cert.RefDh1Ideal.nD Cert.RefDh1Ideal.τ).loc Cert.RefDh1Ideal.main_arg7))

def preserves_Ff2_Ff2Ideal : Prop :=
  True

def algebraic_Ff2Ideal_RefFf2Ideal_pre_finite_ff2 [hFf2Ideal : Cert.Ff2Ideal.Facts] [hRefFf2Ideal : Cert.RefFf2Ideal.Facts] [hPre_finite_ff2 : Cert.Pre_finite_ff2.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.RefFf2Ideal.nD Cert.RefFf2Ideal.τ Cert.RefFf2Ideal.sig) → Buf (Elt Ideal) ℓ) (g' : Dev Cert.RefFf2Ideal.nD → PrngReg), Pre_Ff2Ideal_finite_ff2 m →
    (∀ c : Dev Cert.Ff2Ideal.nD,
      m' ((c.tc : Thread Cert.RefFf2Ideal.nD Cert.RefFf2Ideal.τ).loc Cert.RefFf2Ideal.main_arg0) = m ((c.tc : Thread Cert.Ff2Ideal.nD Cert.Ff2Ideal.τ).loc Cert.Ff2Ideal.main_arg0)
      ∧ m' ((c.tc : Thread Cert.RefFf2Ideal.nD Cert.RefFf2Ideal.τ).loc Cert.RefFf2Ideal.main_arg1) = m ((c.tc : Thread Cert.Ff2Ideal.nD Cert.Ff2Ideal.τ).loc Cert.Ff2Ideal.main_arg1)
      ∧ m' ((c.tc : Thread Cert.RefFf2Ideal.nD Cert.RefFf2Ideal.τ).loc Cert.RefFf2Ideal.main_arg2) = m ((c.tc : Thread Cert.Ff2Ideal.nD Cert.Ff2Ideal.τ).loc Cert.Ff2Ideal.main_arg2)
      ∧ m' ((c.tc : Thread Cert.RefFf2Ideal.nD Cert.RefFf2Ideal.τ).loc Cert.RefFf2Ideal.main_arg3) = m ((c.tc : Thread Cert.Ff2Ideal.nD Cert.Ff2Ideal.τ).loc Cert.Ff2Ideal.main_arg3)
      ∧ m' ((c.tc : Thread Cert.RefFf2Ideal.nD Cert.RefFf2Ideal.τ).loc Cert.RefFf2Ideal.main_arg4) = m ((c.tc : Thread Cert.Ff2Ideal.nD Cert.Ff2Ideal.τ).loc Cert.Ff2Ideal.main_arg4)
      ∧ m' ((c.tc : Thread Cert.RefFf2Ideal.nD Cert.RefFf2Ideal.τ).loc Cert.RefFf2Ideal.main_arg5) = m ((c.tc : Thread Cert.Ff2Ideal.nD Cert.Ff2Ideal.τ).loc Cert.Ff2Ideal.main_arg5)
      ∧ m' ((c.tc : Thread Cert.RefFf2Ideal.nD Cert.RefFf2Ideal.τ).loc Cert.RefFf2Ideal.main_arg6) = m ((c.tc : Thread Cert.Ff2Ideal.nD Cert.Ff2Ideal.τ).loc Cert.Ff2Ideal.main_arg6)) →
    ∃ (v0 : (c : Dev Cert.Ff2Ideal.nD) → Buf (Elt Ideal) ((c.tc : Thread Cert.Ff2Ideal.nD Cert.Ff2Ideal.τ).loc Cert.Ff2Ideal.main_v3_0)) (v1 : (c : Dev Cert.Ff2Ideal.nD) → Buf (Elt Ideal) ((c.tc : Thread Cert.Ff2Ideal.nD Cert.Ff2Ideal.τ).loc Cert.Ff2Ideal.main_v3_1)) (v2 : (c : Dev Cert.Ff2Ideal.nD) → Buf (Elt Ideal) ((c.tc : Thread Cert.Ff2Ideal.nD Cert.Ff2Ideal.τ).loc Cert.Ff2Ideal.main_v3_2)) (v3 : (c : Dev Cert.Ff2Ideal.nD) → Buf (Elt Ideal) ((c.tc : Thread Cert.Ff2Ideal.nD Cert.Ff2Ideal.τ).loc Cert.Ff2Ideal.main_v3_3)) (v4 : (c : Dev Cert.Ff2Ideal.nD) → Buf (Elt Ideal) ((c.tc : Thread Cert.Ff2Ideal.nD Cert.Ff2Ideal.τ).loc Cert.Ff2Ideal.main_v3_4)) (v5 : (c : Dev Cert.Ff2Ideal.nD) → Buf (Elt Ideal) ((c.tc : Thread Cert.Ff2Ideal.nD Cert.Ff2Ideal.τ).loc Cert.Ff2Ideal.main_v3_5)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v3_0) = v0 c
          ∧ r.2.mem ((c.tc : Thread Cert.Ff2Ideal.nD Cert.Ff2Ideal.τ).loc Cert.Ff2Ideal.main_v3_1) = v1 c
          ∧ r.2.mem ((c.tc : Thread Cert.Ff2Ideal.nD Cert.Ff2Ideal.τ).loc Cert.Ff2Ideal.main_v3_2) = v2 c
          ∧ r.2.mem ((c.tc : Thread Cert.Ff2Ideal.nD Cert.Ff2Ideal.τ).loc Cert.Ff2Ideal.main_v3_3) = v3 c
          ∧ r.2.mem ((c.tc : Thread Cert.Ff2Ideal.nD Cert.Ff2Ideal.τ).loc Cert.Ff2Ideal.main_v3_4) = v4 c
          ∧ r.2.mem ((c.tc : Thread Cert.Ff2Ideal.nD Cert.Ff2Ideal.τ).loc Cert.Ff2Ideal.main_v3_5) = v5 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
          ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4)
          ∧ r.2.mem ((c.tc : Thread Cert.Ff2Ideal.nD Cert.Ff2Ideal.τ).loc Cert.Ff2Ideal.main_arg5) = m ((c.tc : Thread Cert.Ff2Ideal.nD Cert.Ff2Ideal.τ).loc Cert.Ff2Ideal.main_arg5)
          ∧ r.2.mem ((c.tc : Thread Cert.Ff2Ideal.nD Cert.Ff2Ideal.τ).loc Cert.Ff2Ideal.main_arg6) = m ((c.tc : Thread Cert.Ff2Ideal.nD Cert.Ff2Ideal.τ).loc Cert.Ff2Ideal.main_arg6))
      ∧ θ_run (Cert.RefFf2Ideal.defs (F := Ideal)) (onTc (τ := Cert.RefFf2Ideal.τ) (Cert.RefFf2Ideal.main (F := Ideal))) ⟨m', fun _ => 0, g'⟩ (fun r => ∀ c : Dev Cert.RefFf2Ideal.nD,
          r.2.mem ((c.tc : Thread Cert.RefFf2Ideal.nD Cert.RefFf2Ideal.τ).loc Cert.RefFf2Ideal.main_v92) = v0 c
          ∧ r.2.mem ((c.tc : Thread Cert.RefFf2Ideal.nD Cert.RefFf2Ideal.τ).loc Cert.RefFf2Ideal.main_v96) = v1 c
          ∧ r.2.mem ((c.tc : Thread Cert.RefFf2Ideal.nD Cert.RefFf2Ideal.τ).loc Cert.RefFf2Ideal.main_v97) = v2 c
          ∧ r.2.mem ((c.tc : Thread Cert.RefFf2Ideal.nD Cert.RefFf2Ideal.τ).loc Cert.RefFf2Ideal.main_v98) = v3 c
          ∧ r.2.mem ((c.tc : Thread Cert.RefFf2Ideal.nD Cert.RefFf2Ideal.τ).loc Cert.RefFf2Ideal.main_v99) = v4 c
          ∧ r.2.mem ((c.tc : Thread Cert.RefFf2Ideal.nD Cert.RefFf2Ideal.τ).loc Cert.RefFf2Ideal.main_v100) = v5 c
          ∧ r.2.mem ((c.tc : Thread Cert.RefFf2Ideal.nD Cert.RefFf2Ideal.τ).loc Cert.RefFf2Ideal.main_arg0) = m' ((c.tc : Thread Cert.RefFf2Ideal.nD Cert.RefFf2Ideal.τ).loc Cert.RefFf2Ideal.main_arg0)
          ∧ r.2.mem ((c.tc : Thread Cert.RefFf2Ideal.nD Cert.RefFf2Ideal.τ).loc Cert.RefFf2Ideal.main_arg1) = m' ((c.tc : Thread Cert.RefFf2Ideal.nD Cert.RefFf2Ideal.τ).loc Cert.RefFf2Ideal.main_arg1)
          ∧ r.2.mem ((c.tc : Thread Cert.RefFf2Ideal.nD Cert.RefFf2Ideal.τ).loc Cert.RefFf2Ideal.main_arg2) = m' ((c.tc : Thread Cert.RefFf2Ideal.nD Cert.RefFf2Ideal.τ).loc Cert.RefFf2Ideal.main_arg2)
          ∧ r.2.mem ((c.tc : Thread Cert.RefFf2Ideal.nD Cert.RefFf2Ideal.τ).loc Cert.RefFf2Ideal.main_arg3) = m' ((c.tc : Thread Cert.RefFf2Ideal.nD Cert.RefFf2Ideal.τ).loc Cert.RefFf2Ideal.main_arg3)
          ∧ r.2.mem ((c.tc : Thread Cert.RefFf2Ideal.nD Cert.RefFf2Ideal.τ).loc Cert.RefFf2Ideal.main_arg4) = m' ((c.tc : Thread Cert.RefFf2Ideal.nD Cert.RefFf2Ideal.τ).loc Cert.RefFf2Ideal.main_arg4)
          ∧ r.2.mem ((c.tc : Thread Cert.RefFf2Ideal.nD Cert.RefFf2Ideal.τ).loc Cert.RefFf2Ideal.main_arg5) = m' ((c.tc : Thread Cert.RefFf2Ideal.nD Cert.RefFf2Ideal.τ).loc Cert.RefFf2Ideal.main_arg5)
          ∧ r.2.mem ((c.tc : Thread Cert.RefFf2Ideal.nD Cert.RefFf2Ideal.τ).loc Cert.RefFf2Ideal.main_arg6) = m' ((c.tc : Thread Cert.RefFf2Ideal.nD Cert.RefFf2Ideal.τ).loc Cert.RefFf2Ideal.main_arg6))

def preserves_Dff1_Dff1Ideal : Prop :=
  True

def algebraic_Dff1Ideal_RefDff1Ideal [hDff1Ideal : Cert.Dff1Ideal.Facts] [hRefDff1Ideal : Cert.RefDff1Ideal.Facts] : Prop :=
  ∀ (m : (ℓ : Loc Cert.Dff1Ideal.nD Cert.Dff1Ideal.τ Cert.Dff1Ideal.sig) → Buf (Elt Ideal) ℓ) (g : Dev Cert.Dff1Ideal.nD → PrngReg)
    (m' : (ℓ : Loc Cert.RefDff1Ideal.nD Cert.RefDff1Ideal.τ Cert.RefDff1Ideal.sig) → Buf (Elt Ideal) ℓ) (g' : Dev Cert.RefDff1Ideal.nD → PrngReg), Pre_Dff1Ideal m →
    (∀ c : Dev Cert.Dff1Ideal.nD,
      m' ((c.tc : Thread Cert.RefDff1Ideal.nD Cert.RefDff1Ideal.τ).loc Cert.RefDff1Ideal.main_arg0) = m ((c.tc : Thread Cert.Dff1Ideal.nD Cert.Dff1Ideal.τ).loc Cert.Dff1Ideal.main_arg0)
      ∧ m' ((c.tc : Thread Cert.RefDff1Ideal.nD Cert.RefDff1Ideal.τ).loc Cert.RefDff1Ideal.main_arg1) = m ((c.tc : Thread Cert.Dff1Ideal.nD Cert.Dff1Ideal.τ).loc Cert.Dff1Ideal.main_arg1)
      ∧ m' ((c.tc : Thread Cert.RefDff1Ideal.nD Cert.RefDff1Ideal.τ).loc Cert.RefDff1Ideal.main_arg2) = m ((c.tc : Thread Cert.Dff1Ideal.nD Cert.Dff1Ideal.τ).loc Cert.Dff1Ideal.main_arg2)
      ∧ m' ((c.tc : Thread Cert.RefDff1Ideal.nD Cert.RefDff1Ideal.τ).loc Cert.RefDff1Ideal.main_arg3) = m ((c.tc : Thread Cert.Dff1Ideal.nD Cert.Dff1Ideal.τ).loc Cert.Dff1Ideal.main_arg3)
      ∧ m' ((c.tc : Thread Cert.RefDff1Ideal.nD Cert.RefDff1Ideal.τ).loc Cert.RefDff1Ideal.main_arg4) = m ((c.tc : Thread Cert.Dff1Ideal.nD Cert.Dff1Ideal.τ).loc Cert.Dff1Ideal.main_arg4)) →
    ∃ (v0 : (c : Dev Cert.Dff1Ideal.nD) → Buf (Elt Ideal) ((c.tc : Thread Cert.Dff1Ideal.nD Cert.Dff1Ideal.τ).loc Cert.Dff1Ideal.main_v7_0)) (v1 : (c : Dev Cert.Dff1Ideal.nD) → Buf (Elt Ideal) ((c.tc : Thread Cert.Dff1Ideal.nD Cert.Dff1Ideal.τ).loc Cert.Dff1Ideal.main_v7_1)),
      θ_run (Cert.Dff1Ideal.defs (F := Ideal)) (onTc (τ := Cert.Dff1Ideal.τ) (Cert.Dff1Ideal.main (F := Ideal))) ⟨m, fun _ => 0, g⟩ (fun r => ∀ c : Dev Cert.Dff1Ideal.nD,
          r.2.mem ((c.tc : Thread Cert.Dff1Ideal.nD Cert.Dff1Ideal.τ).loc Cert.Dff1Ideal.main_v7_0) = v0 c
          ∧ r.2.mem ((c.tc : Thread Cert.Dff1Ideal.nD Cert.Dff1Ideal.τ).loc Cert.Dff1Ideal.main_v7_1) = v1 c
          ∧ r.2.mem ((c.tc : Thread Cert.Dff1Ideal.nD Cert.Dff1Ideal.τ).loc Cert.Dff1Ideal.main_arg0) = m ((c.tc : Thread Cert.Dff1Ideal.nD Cert.Dff1Ideal.τ).loc Cert.Dff1Ideal.main_arg0)
          ∧ r.2.mem ((c.tc : Thread Cert.Dff1Ideal.nD Cert.Dff1Ideal.τ).loc Cert.Dff1Ideal.main_arg1) = m ((c.tc : Thread Cert.Dff1Ideal.nD Cert.Dff1Ideal.τ).loc Cert.Dff1Ideal.main_arg1)
          ∧ r.2.mem ((c.tc : Thread Cert.Dff1Ideal.nD Cert.Dff1Ideal.τ).loc Cert.Dff1Ideal.main_arg2) = m ((c.tc : Thread Cert.Dff1Ideal.nD Cert.Dff1Ideal.τ).loc Cert.Dff1Ideal.main_arg2)
          ∧ r.2.mem ((c.tc : Thread Cert.Dff1Ideal.nD Cert.Dff1Ideal.τ).loc Cert.Dff1Ideal.main_arg3) = m ((c.tc : Thread Cert.Dff1Ideal.nD Cert.Dff1Ideal.τ).loc Cert.Dff1Ideal.main_arg3)
          ∧ r.2.mem ((c.tc : Thread Cert.Dff1Ideal.nD Cert.Dff1Ideal.τ).loc Cert.Dff1Ideal.main_arg4) = m ((c.tc : Thread Cert.Dff1Ideal.nD Cert.Dff1Ideal.τ).loc Cert.Dff1Ideal.main_arg4))
      ∧ θ_run (Cert.RefDff1Ideal.defs (F := Ideal)) (onTc (τ := Cert.RefDff1Ideal.τ) (Cert.RefDff1Ideal.main (F := Ideal))) ⟨m', fun _ => 0, g'⟩ (fun r => ∀ c : Dev Cert.RefDff1Ideal.nD,
          r.2.mem ((c.tc : Thread Cert.RefDff1Ideal.nD Cert.RefDff1Ideal.τ).loc Cert.RefDff1Ideal.main_v22) = v0 c
          ∧ r.2.mem ((c.tc : Thread Cert.RefDff1Ideal.nD Cert.RefDff1Ideal.τ).loc Cert.RefDff1Ideal.main_v23) = v1 c
          ∧ r.2.mem ((c.tc : Thread Cert.RefDff1Ideal.nD Cert.RefDff1Ideal.τ).loc Cert.RefDff1Ideal.main_arg0) = m' ((c.tc : Thread Cert.RefDff1Ideal.nD Cert.RefDff1Ideal.τ).loc Cert.RefDff1Ideal.main_arg0)
          ∧ r.2.mem ((c.tc : Thread Cert.RefDff1Ideal.nD Cert.RefDff1Ideal.τ).loc Cert.RefDff1Ideal.main_arg1) = m' ((c.tc : Thread Cert.RefDff1Ideal.nD Cert.RefDff1Ideal.τ).loc Cert.RefDff1Ideal.main_arg1)
          ∧ r.2.mem ((c.tc : Thread Cert.RefDff1Ideal.nD Cert.RefDff1Ideal.τ).loc Cert.RefDff1Ideal.main_arg2) = m' ((c.tc : Thread Cert.RefDff1Ideal.nD Cert.RefDff1Ideal.τ).loc Cert.RefDff1Ideal.main_arg2)
          ∧ r.2.mem ((c.tc : Thread Cert.RefDff1Ideal.nD Cert.RefDff1Ideal.τ).loc Cert.RefDff1Ideal.main_arg3) = m' ((c.tc : Thread Cert.RefDff1Ideal.nD Cert.RefDff1Ideal.τ).loc Cert.RefDff1Ideal.main_arg3)
          ∧ r.2.mem ((c.tc : Thread Cert.RefDff1Ideal.nD Cert.RefDff1Ideal.τ).loc Cert.RefDff1Ideal.main_arg4) = m' ((c.tc : Thread Cert.RefDff1Ideal.nD Cert.RefDff1Ideal.τ).loc Cert.RefDff1Ideal.main_arg4))

def preserves_Pool_PoolIdeal : Prop :=
  True

def algebraic_PoolIdeal_RefPoolIdeal_pre_finite_pool [hPoolIdeal : Cert.PoolIdeal.Facts] [hRefPoolIdeal : Cert.RefPoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.RefPoolIdeal.nD Cert.RefPoolIdeal.τ Cert.RefPoolIdeal.sig) → Buf (Elt Ideal) ℓ) (g' : Dev Cert.RefPoolIdeal.nD → PrngReg), Pre_PoolIdeal_finite_pool m →
    (∀ c : Dev Cert.PoolIdeal.nD,
      m' ((c.tc : Thread Cert.RefPoolIdeal.nD Cert.RefPoolIdeal.τ).loc Cert.RefPoolIdeal.main_arg0) = m ((c.tc : Thread Cert.PoolIdeal.nD Cert.PoolIdeal.τ).loc Cert.PoolIdeal.main_arg0)
      ∧ m' ((c.tc : Thread Cert.RefPoolIdeal.nD Cert.RefPoolIdeal.τ).loc Cert.RefPoolIdeal.main_arg1) = m ((c.tc : Thread Cert.PoolIdeal.nD Cert.PoolIdeal.τ).loc Cert.PoolIdeal.main_arg1)
      ∧ m' ((c.tc : Thread Cert.RefPoolIdeal.nD Cert.RefPoolIdeal.τ).loc Cert.RefPoolIdeal.main_arg2) = m ((c.tc : Thread Cert.PoolIdeal.nD Cert.PoolIdeal.τ).loc Cert.PoolIdeal.main_arg2)
      ∧ m' ((c.tc : Thread Cert.RefPoolIdeal.nD Cert.RefPoolIdeal.τ).loc Cert.RefPoolIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v52_0)) (v1 : (c : Dev Cert.PoolIdeal.nD) → Buf (Elt Ideal) ((c.tc : Thread Cert.PoolIdeal.nD Cert.PoolIdeal.τ).loc Cert.PoolIdeal.main_v52_1)) (v2 : (c : Dev Cert.PoolIdeal.nD) → Buf (Elt Ideal) ((c.tc : Thread Cert.PoolIdeal.nD Cert.PoolIdeal.τ).loc Cert.PoolIdeal.main_v52_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v52_0) = v0 c
          ∧ r.2.mem ((c.tc : Thread Cert.PoolIdeal.nD Cert.PoolIdeal.τ).loc Cert.PoolIdeal.main_v52_1) = v1 c
          ∧ r.2.mem ((c.tc : Thread Cert.PoolIdeal.nD Cert.PoolIdeal.τ).loc Cert.PoolIdeal.main_v52_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.RefPoolIdeal.defs (F := Ideal)) (onTc (τ := Cert.RefPoolIdeal.τ) (Cert.RefPoolIdeal.main (F := Ideal))) ⟨m', fun _ => 0, g'⟩ (fun r => ∀ c : Dev Cert.RefPoolIdeal.nD,
          r.2.mem ((c.tc : Thread Cert.RefPoolIdeal.nD Cert.RefPoolIdeal.τ).loc Cert.RefPoolIdeal.main_v83) = v0 c
          ∧ r.2.mem ((c.tc : Thread Cert.RefPoolIdeal.nD Cert.RefPoolIdeal.τ).loc Cert.RefPoolIdeal.main_v68) = v1 c
          ∧ r.2.mem ((c.tc : Thread Cert.RefPoolIdeal.nD Cert.RefPoolIdeal.τ).loc Cert.RefPoolIdeal.main_v84) = v2 c
          ∧ r.2.mem ((c.tc : Thread Cert.RefPoolIdeal.nD Cert.RefPoolIdeal.τ).loc Cert.RefPoolIdeal.main_arg0) = m' ((c.tc : Thread Cert.RefPoolIdeal.nD Cert.RefPoolIdeal.τ).loc Cert.RefPoolIdeal.main_arg0)
          ∧ r.2.mem ((c.tc : Thread Cert.RefPoolIdeal.nD Cert.RefPoolIdeal.τ).loc Cert.RefPoolIdeal.main_arg1) = m' ((c.tc : Thread Cert.RefPoolIdeal.nD Cert.RefPoolIdeal.τ).loc Cert.RefPoolIdeal.main_arg1)
          ∧ r.2.mem ((c.tc : Thread Cert.RefPoolIdeal.nD Cert.RefPoolIdeal.τ).loc Cert.RefPoolIdeal.main_arg2) = m' ((c.tc : Thread Cert.RefPoolIdeal.nD Cert.RefPoolIdeal.τ).loc Cert.RefPoolIdeal.main_arg2)
          ∧ r.2.mem ((c.tc : Thread Cert.RefPoolIdeal.nD Cert.RefPoolIdeal.τ).loc Cert.RefPoolIdeal.main_arg3) = m' ((c.tc : Thread Cert.RefPoolIdeal.nD Cert.RefPoolIdeal.τ).loc Cert.RefPoolIdeal.main_arg3))

def preserves_Att_AttIdeal : Prop :=
  IdealRules.named_const.Statement Cert.AttIdeal.κ "scale2" .f32 0x3E0293EE#32 (((Real.log 2)⁻¹ * (11863283 / 134217728) : ℝ) : EReal)
  ∧ IdealRules.named_const.Statement Cert.AttIdeal.κ "log2_e" .f32 0x3FB8AA3B#32 (((Real.log 2)⁻¹ : ℝ) : EReal)
  ∧ IdealRules.named_const.Statement Cert.AttIdeal.κ "underflow" .f32 0x43200000#32 ⊤

def algebraic_AttIdeal_RefAttIdeal_pre_finite_att [hAttIdeal : Cert.AttIdeal.Facts] [hRefAttIdeal : Cert.RefAttIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.RefAttIdeal.nD Cert.RefAttIdeal.τ Cert.RefAttIdeal.sig) → Buf (Elt Ideal) ℓ) (g' : Dev Cert.RefAttIdeal.nD → PrngReg), Pre_AttIdeal_finite_att m →
    (∀ c : Dev Cert.AttIdeal.nD,
      m' ((c.tc : Thread Cert.RefAttIdeal.nD Cert.RefAttIdeal.τ).loc Cert.RefAttIdeal.main_arg0) = m ((c.tc : Thread Cert.AttIdeal.nD Cert.AttIdeal.τ).loc Cert.AttIdeal.main_arg0)) →
    ∃ (v0 : (c : Dev Cert.AttIdeal.nD) → Buf (Elt Ideal) ((c.tc : Thread Cert.AttIdeal.nD Cert.AttIdeal.τ).loc Cert.AttIdeal.main_v1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v1) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ θ_run (Cert.RefAttIdeal.defs (F := Ideal)) (onTc (τ := Cert.RefAttIdeal.τ) (Cert.RefAttIdeal.main (F := Ideal))) ⟨m', fun _ => 0, g'⟩ (fun r => ∀ c : Dev Cert.RefAttIdeal.nD,
          r.2.mem ((c.tc : Thread Cert.RefAttIdeal.nD Cert.RefAttIdeal.τ).loc Cert.RefAttIdeal.main_v27) = v0 c
          ∧ r.2.mem ((c.tc : Thread Cert.RefAttIdeal.nD Cert.RefAttIdeal.τ).loc Cert.RefAttIdeal.main_arg0) = m' ((c.tc : Thread Cert.RefAttIdeal.nD Cert.RefAttIdeal.τ).loc Cert.RefAttIdeal.main_arg0))

def preserves_Ln_LnIdeal : Prop :=
  True

def algebraic_LnIdeal_RefLnIdeal [hLnIdeal : Cert.LnIdeal.Facts] [hRefLnIdeal : Cert.RefLnIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.RefLnIdeal.nD Cert.RefLnIdeal.τ Cert.RefLnIdeal.sig) → Buf (Elt Ideal) ℓ) (g' : Dev Cert.RefLnIdeal.nD → PrngReg), Pre_LnIdeal m →
    (∀ c : Dev Cert.LnIdeal.nD,
      m' ((c.tc : Thread Cert.RefLnIdeal.nD Cert.RefLnIdeal.τ).loc Cert.RefLnIdeal.main_arg0) = m ((c.tc : Thread Cert.LnIdeal.nD Cert.LnIdeal.τ).loc Cert.LnIdeal.main_arg0)
      ∧ m' ((c.tc : Thread Cert.RefLnIdeal.nD Cert.RefLnIdeal.τ).loc Cert.RefLnIdeal.main_arg1) = m ((c.tc : Thread Cert.LnIdeal.nD Cert.LnIdeal.τ).loc Cert.LnIdeal.main_arg1)
      ∧ m' ((c.tc : Thread Cert.RefLnIdeal.nD Cert.RefLnIdeal.τ).loc Cert.RefLnIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v3_0)) (v1 : (c : Dev Cert.LnIdeal.nD) → Buf (Elt Ideal) ((c.tc : Thread Cert.LnIdeal.nD Cert.LnIdeal.τ).loc Cert.LnIdeal.main_v3_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v3_0) = v0 c
          ∧ r.2.mem ((c.tc : Thread Cert.LnIdeal.nD Cert.LnIdeal.τ).loc Cert.LnIdeal.main_v3_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.RefLnIdeal.defs (F := Ideal)) (onTc (τ := Cert.RefLnIdeal.τ) (Cert.RefLnIdeal.main (F := Ideal))) ⟨m', fun _ => 0, g'⟩ (fun r => ∀ c : Dev Cert.RefLnIdeal.nD,
          r.2.mem ((c.tc : Thread Cert.RefLnIdeal.nD Cert.RefLnIdeal.τ).loc Cert.RefLnIdeal.main_v24) = v0 c
          ∧ r.2.mem ((c.tc : Thread Cert.RefLnIdeal.nD Cert.RefLnIdeal.τ).loc Cert.RefLnIdeal.main_v25) = v1 c
          ∧ r.2.mem ((c.tc : Thread Cert.RefLnIdeal.nD Cert.RefLnIdeal.τ).loc Cert.RefLnIdeal.main_arg0) = m' ((c.tc : Thread Cert.RefLnIdeal.nD Cert.RefLnIdeal.τ).loc Cert.RefLnIdeal.main_arg0)
          ∧ r.2.mem ((c.tc : Thread Cert.RefLnIdeal.nD Cert.RefLnIdeal.τ).loc Cert.RefLnIdeal.main_arg1) = m' ((c.tc : Thread Cert.RefLnIdeal.nD Cert.RefLnIdeal.τ).loc Cert.RefLnIdeal.main_arg1)
          ∧ r.2.mem ((c.tc : Thread Cert.RefLnIdeal.nD Cert.RefLnIdeal.τ).loc Cert.RefLnIdeal.main_arg2) = m' ((c.tc : Thread Cert.RefLnIdeal.nD Cert.RefLnIdeal.τ).loc Cert.RefLnIdeal.main_arg2))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)) (v2 : (c : Dev Cert.MixIdeal.nD) → Buf (Elt Ideal) ((c.tc : Thread Cert.MixIdeal.nD Cert.MixIdeal.τ).loc Cert.MixIdeal.main_v3_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_v3_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v4) = v0 c
          ∧ r.2.mem ((c.tc : Thread Cert.RefMixIdeal.nD Cert.RefMixIdeal.τ).loc Cert.RefMixIdeal.main_v30) = v1 c
          ∧ r.2.mem ((c.tc : Thread Cert.RefMixIdeal.nD Cert.RefMixIdeal.τ).loc Cert.RefMixIdeal.main_v31) = v2 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4))

def preserves_Ff1_Ff1Ideal : Prop :=
  True

def algebraic_Ff1Ideal_RefFf1Ideal [hFf1Ideal : Cert.Ff1Ideal.Facts] [hRefFf1Ideal : Cert.RefFf1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.RefFf1Ideal.nD Cert.RefFf1Ideal.τ Cert.RefFf1Ideal.sig) → Buf (Elt Ideal) ℓ) (g' : Dev Cert.RefFf1Ideal.nD → PrngReg), Pre_Ff1Ideal m →
    (∀ c : Dev Cert.Ff1Ideal.nD,
      m' ((c.tc : Thread Cert.RefFf1Ideal.nD Cert.RefFf1Ideal.τ).loc Cert.RefFf1Ideal.main_arg0) = m ((c.tc : Thread Cert.Ff1Ideal.nD Cert.Ff1Ideal.τ).loc Cert.Ff1Ideal.main_arg0)
      ∧ m' ((c.tc : Thread Cert.RefFf1Ideal.nD Cert.RefFf1Ideal.τ).loc Cert.RefFf1Ideal.main_arg1) = m ((c.tc : Thread Cert.Ff1Ideal.nD Cert.Ff1Ideal.τ).loc Cert.Ff1Ideal.main_arg1)
      ∧ m' ((c.tc : Thread Cert.RefFf1Ideal.nD Cert.RefFf1Ideal.τ).loc Cert.RefFf1Ideal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v4_0)) (v1 : (c : Dev Cert.Ff1Ideal.nD) → Buf (Elt Ideal) ((c.tc : Thread Cert.Ff1Ideal.nD Cert.Ff1Ideal.τ).loc Cert.Ff1Ideal.main_v4_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4_0) = v0 c
          ∧ r.2.mem ((c.tc : Thread Cert.Ff1Ideal.nD Cert.Ff1Ideal.τ).loc Cert.Ff1Ideal.main_v4_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.RefFf1Ideal.defs (F := Ideal)) (onTc (τ := Cert.RefFf1Ideal.τ) (Cert.RefFf1Ideal.main (F := Ideal))) ⟨m', fun _ => 0, g'⟩ (fun r => ∀ c : Dev Cert.RefFf1Ideal.nD,
          r.2.mem ((c.tc : Thread Cert.RefFf1Ideal.nD Cert.RefFf1Ideal.τ).loc Cert.RefFf1Ideal.main_v5) = v0 c
          ∧ r.2.mem ((c.tc : Thread Cert.RefFf1Ideal.nD Cert.RefFf1Ideal.τ).loc Cert.RefFf1Ideal.main_v8) = v1 c
          ∧ r.2.mem ((c.tc : Thread Cert.RefFf1Ideal.nD Cert.RefFf1Ideal.τ).loc Cert.RefFf1Ideal.main_arg0) = m' ((c.tc : Thread Cert.RefFf1Ideal.nD Cert.RefFf1Ideal.τ).loc Cert.RefFf1Ideal.main_arg0)
          ∧ r.2.mem ((c.tc : Thread Cert.RefFf1Ideal.nD Cert.RefFf1Ideal.τ).loc Cert.RefFf1Ideal.main_arg1) = m' ((c.tc : Thread Cert.RefFf1Ideal.nD Cert.RefFf1Ideal.τ).loc Cert.RefFf1Ideal.main_arg1)
          ∧ r.2.mem ((c.tc : Thread Cert.RefFf1Ideal.nD Cert.RefFf1Ideal.τ).loc Cert.RefFf1Ideal.main_arg2) = m' ((c.tc : Thread Cert.RefFf1Ideal.nD Cert.RefFf1Ideal.τ).loc Cert.RefFf1Ideal.main_arg2))

def preserves_U_UIdeal : Prop :=
  True

def algebraic_UIdeal_RefUIdeal [hUIdeal : Cert.UIdeal.Facts] [hRefUIdeal : Cert.RefUIdeal.Facts] : Prop :=
  ∀ (m : (ℓ : Loc Cert.UIdeal.nD Cert.UIdeal.τ Cert.UIdeal.sig) → Buf (Elt Ideal) ℓ) (g : Dev Cert.UIdeal.nD → PrngReg)
    (m' : (ℓ : Loc Cert.RefUIdeal.nD Cert.RefUIdeal.τ Cert.RefUIdeal.sig) → Buf (Elt Ideal) ℓ) (g' : Dev Cert.RefUIdeal.nD → PrngReg), Pre_UIdeal m →
    (∀ c : Dev Cert.UIdeal.nD,
      m' ((c.tc : Thread Cert.RefUIdeal.nD Cert.RefUIdeal.τ).loc Cert.RefUIdeal.main_arg0) = m ((c.tc : Thread Cert.UIdeal.nD Cert.UIdeal.τ).loc Cert.UIdeal.main_arg0)
      ∧ m' ((c.tc : Thread Cert.RefUIdeal.nD Cert.RefUIdeal.τ).loc Cert.RefUIdeal.main_arg1) = m ((c.tc : Thread Cert.UIdeal.nD Cert.UIdeal.τ).loc Cert.UIdeal.main_arg1)) →
    ∃ (v0 : (c : Dev Cert.UIdeal.nD) → Buf (Elt Ideal) ((c.tc : Thread Cert.UIdeal.nD Cert.UIdeal.τ).loc Cert.UIdeal.main_v4)),
      θ_run (Cert.UIdeal.defs (F := Ideal)) (onTc (τ := Cert.UIdeal.τ) (Cert.UIdeal.main (F := Ideal))) ⟨m, fun _ => 0, g⟩ (fun r => ∀ c : Dev Cert.UIdeal.nD,
          r.2.mem ((c.tc : Thread Cert.UIdeal.nD Cert.UIdeal.τ).loc Cert.UIdeal.main_v4) = v0 c
          ∧ r.2.mem ((c.tc : Thread Cert.UIdeal.nD Cert.UIdeal.τ).loc Cert.UIdeal.main_arg0) = m ((c.tc : Thread Cert.UIdeal.nD Cert.UIdeal.τ).loc Cert.UIdeal.main_arg0)
          ∧ r.2.mem ((c.tc : Thread Cert.UIdeal.nD Cert.UIdeal.τ).loc Cert.UIdeal.main_arg1) = m ((c.tc : Thread Cert.UIdeal.nD Cert.UIdeal.τ).loc Cert.UIdeal.main_arg1))
      ∧ θ_run (Cert.RefUIdeal.defs (F := Ideal)) (onTc (τ := Cert.RefUIdeal.τ) (Cert.RefUIdeal.main (F := Ideal))) ⟨m', fun _ => 0, g'⟩ (fun r => ∀ c : Dev Cert.RefUIdeal.nD,
          r.2.mem ((c.tc : Thread Cert.RefUIdeal.nD Cert.RefUIdeal.τ).loc Cert.RefUIdeal.main_v3) = v0 c
          ∧ r.2.mem ((c.tc : Thread Cert.RefUIdeal.nD Cert.RefUIdeal.τ).loc Cert.RefUIdeal.main_arg0) = m' ((c.tc : Thread Cert.RefUIdeal.nD Cert.RefUIdeal.τ).loc Cert.RefUIdeal.main_arg0)
          ∧ r.2.mem ((c.tc : Thread Cert.RefUIdeal.nD Cert.RefUIdeal.τ).loc Cert.RefUIdeal.main_arg1) = m' ((c.tc : Thread Cert.RefUIdeal.nD Cert.RefUIdeal.τ).loc Cert.RefUIdeal.main_arg1))

def preserves_Poolf_PoolfIdeal : Prop :=
  True

def algebraic_PoolfIdeal_RefPoolfIdeal_pre_finite_poolf [hPoolfIdeal : Cert.PoolfIdeal.Facts] [hRefPoolfIdeal : Cert.RefPoolfIdeal.Facts] [hPre_finite_poolf : Cert.Pre_finite_poolf.Facts] : Prop :=
  ∀ (m : (ℓ : Loc Cert.PoolfIdeal.nD Cert.PoolfIdeal.τ Cert.PoolfIdeal.sig) → Buf (Elt Ideal) ℓ) (g : Dev Cert.PoolfIdeal.nD → PrngReg)
    (m' : (ℓ : Loc Cert.RefPoolfIdeal.nD Cert.RefPoolfIdeal.τ Cert.RefPoolfIdeal.sig) → Buf (Elt Ideal) ℓ) (g' : Dev Cert.RefPoolfIdeal.nD → PrngReg), Pre_PoolfIdeal_finite_poolf m →
    (∀ c : Dev Cert.PoolfIdeal.nD,
      m' ((c.tc : Thread Cert.RefPoolfIdeal.nD Cert.RefPoolfIdeal.τ).loc Cert.RefPoolfIdeal.main_arg0) = m ((c.tc : Thread Cert.PoolfIdeal.nD Cert.PoolfIdeal.τ).loc Cert.PoolfIdeal.main_arg0)
      ∧ m' ((c.tc : Thread Cert.RefPoolfIdeal.nD Cert.RefPoolfIdeal.τ).loc Cert.RefPoolfIdeal.main_arg1) = m ((c.tc : Thread Cert.PoolfIdeal.nD Cert.PoolfIdeal.τ).loc Cert.PoolfIdeal.main_arg1)
      ∧ m' ((c.tc : Thread Cert.RefPoolfIdeal.nD Cert.RefPoolfIdeal.τ).loc Cert.RefPoolfIdeal.main_arg2) = m ((c.tc : Thread Cert.PoolfIdeal.nD Cert.PoolfIdeal.τ).loc Cert.PoolfIdeal.main_arg2)) →
    ∃ (v0 : (c : Dev Cert.PoolfIdeal.nD) → Buf (Elt Ideal) ((c.tc : Thread Cert.PoolfIdeal.nD Cert.PoolfIdeal.τ).loc Cert.PoolfIdeal.main_v3_0)) (v1 : (c : Dev Cert.PoolfIdeal.nD) → Buf (Elt Ideal) ((c.tc : Thread Cert.PoolfIdeal.nD Cert.PoolfIdeal.τ).loc Cert.PoolfIdeal.main_v3_1)),
      θ_run (Cert.PoolfIdeal.defs (F := Ideal)) (onTc (τ := Cert.PoolfIdeal.τ) (Cert.PoolfIdeal.main (F := Ideal))) ⟨m, fun _ => 0, g⟩ (fun r => ∀ c : Dev Cert.PoolfIdeal.nD,
          r.2.mem ((c.tc : Thread Cert.PoolfIdeal.nD Cert.PoolfIdeal.τ).loc Cert.PoolfIdeal.main_v3_0) = v0 c
          ∧ r.2.mem ((c.tc : Thread Cert.PoolfIdeal.nD Cert.PoolfIdeal.τ).loc Cert.PoolfIdeal.main_v3_1) = v1 c
          ∧ r.2.mem ((c.tc : Thread Cert.PoolfIdeal.nD Cert.PoolfIdeal.τ).loc Cert.PoolfIdeal.main_arg0) = m ((c.tc : Thread Cert.PoolfIdeal.nD Cert.PoolfIdeal.τ).loc Cert.PoolfIdeal.main_arg0)
          ∧ r.2.mem ((c.tc : Thread Cert.PoolfIdeal.nD Cert.PoolfIdeal.τ).loc Cert.PoolfIdeal.main_arg1) = m ((c.tc : Thread Cert.PoolfIdeal.nD Cert.PoolfIdeal.τ).loc Cert.PoolfIdeal.main_arg1)
          ∧ r.2.mem ((c.tc : Thread Cert.PoolfIdeal.nD Cert.PoolfIdeal.τ).loc Cert.PoolfIdeal.main_arg2) = m ((c.tc : Thread Cert.PoolfIdeal.nD Cert.PoolfIdeal.τ).loc Cert.PoolfIdeal.main_arg2))
      ∧ θ_run (Cert.RefPoolfIdeal.defs (F := Ideal)) (onTc (τ := Cert.RefPoolfIdeal.τ) (Cert.RefPoolfIdeal.main (F := Ideal))) ⟨m', fun _ => 0, g'⟩ (fun r => ∀ c : Dev Cert.RefPoolfIdeal.nD,
          r.2.mem ((c.tc : Thread Cert.RefPoolfIdeal.nD Cert.RefPoolfIdeal.τ).loc Cert.RefPoolfIdeal.main_v56) = v0 c
          ∧ r.2.mem ((c.tc : Thread Cert.RefPoolfIdeal.nD Cert.RefPoolfIdeal.τ).loc Cert.RefPoolfIdeal.main_v105) = v1 c
          ∧ r.2.mem ((c.tc : Thread Cert.RefPoolfIdeal.nD Cert.RefPoolfIdeal.τ).loc Cert.RefPoolfIdeal.main_arg0) = m' ((c.tc : Thread Cert.RefPoolfIdeal.nD Cert.RefPoolfIdeal.τ).loc Cert.RefPoolfIdeal.main_arg0)
          ∧ r.2.mem ((c.tc : Thread Cert.RefPoolfIdeal.nD Cert.RefPoolfIdeal.τ).loc Cert.RefPoolfIdeal.main_arg1) = m' ((c.tc : Thread Cert.RefPoolfIdeal.nD Cert.RefPoolfIdeal.τ).loc Cert.RefPoolfIdeal.main_arg1)
          ∧ r.2.mem ((c.tc : Thread Cert.RefPoolfIdeal.nD Cert.RefPoolfIdeal.τ).loc Cert.RefPoolfIdeal.main_arg2) = m' ((c.tc : Thread Cert.RefPoolfIdeal.nD Cert.RefPoolfIdeal.τ).loc Cert.RefPoolfIdeal.main_arg2))

def Claim : Prop :=
  ∃ (hDh0 : Cert.Dh0.Facts) (hDh0Ideal : Cert.Dh0Ideal.Facts) (hRefDh0Ideal : Cert.RefDh0Ideal.Facts) (hAttn : Cert.Attn.Facts) (hAttnIdeal : Cert.AttnIdeal.Facts) (hRefAttnIdeal : Cert.RefAttnIdeal.Facts) (hDh1 : Cert.Dh1.Facts) (hDh1Ideal : Cert.Dh1Ideal.Facts) (hRefDh1Ideal : Cert.RefDh1Ideal.Facts) (hFf2 : Cert.Ff2.Facts) (hFf2Ideal : Cert.Ff2Ideal.Facts) (hRefFf2Ideal : Cert.RefFf2Ideal.Facts) (hDff1 : Cert.Dff1.Facts) (hDff1Ideal : Cert.Dff1Ideal.Facts) (hRefDff1Ideal : Cert.RefDff1Ideal.Facts) (hPool : Cert.Pool.Facts) (hPoolIdeal : Cert.PoolIdeal.Facts) (hRefPoolIdeal : Cert.RefPoolIdeal.Facts) (hAtt : Cert.Att.Facts) (hAttIdeal : Cert.AttIdeal.Facts) (hRefAttIdeal : Cert.RefAttIdeal.Facts) (hLn : Cert.Ln.Facts) (hLnIdeal : Cert.LnIdeal.Facts) (hRefLnIdeal : Cert.RefLnIdeal.Facts) (hMix : Cert.Mix.Facts) (hMixIdeal : Cert.MixIdeal.Facts) (hRefMixIdeal : Cert.RefMixIdeal.Facts) (hFf1 : Cert.Ff1.Facts) (hFf1Ideal : Cert.Ff1Ideal.Facts) (hRefFf1Ideal : Cert.RefFf1Ideal.Facts) (hU : Cert.U.Facts) (hUIdeal : Cert.UIdeal.Facts) (hRefUIdeal : Cert.RefUIdeal.Facts) (hPoolf : Cert.Poolf.Facts) (hPoolfIdeal : Cert.PoolfIdeal.Facts) (hRefPoolfIdeal : Cert.RefPoolfIdeal.Facts) (hPre_finite_dh0 : Cert.Pre_finite_dh0.Facts) (hPre_finite_attn : Cert.Pre_finite_attn.Facts) (hPre_finite_dh1 : Cert.Pre_finite_dh1.Facts) (hPre_finite_ff2 : Cert.Pre_finite_ff2.Facts) (hPre_finite_pool : Cert.Pre_finite_pool.Facts) (hPre_finite_att : Cert.Pre_finite_att.Facts) (hPre_finite_poolf : Cert.Pre_finite_poolf.Facts),
    quiescent_Dh0 (hDh0 := hDh0)
    ∧ quiescent_Dh0Ideal (hDh0Ideal := hDh0Ideal)
    ∧ quiescent_Dh0Ideal_pre_finite_dh0 (hDh0Ideal := hDh0Ideal) (hPre_finite_dh0 := hPre_finite_dh0)
    ∧ quiescent_RefDh0Ideal (hRefDh0Ideal := hRefDh0Ideal)
    ∧ quiescent_RefDh0Ideal_pre_finite_dh0 (hRefDh0Ideal := hRefDh0Ideal) (hPre_finite_dh0 := hPre_finite_dh0)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_RefAttnIdeal (hRefAttnIdeal := hRefAttnIdeal)
    ∧ quiescent_RefAttnIdeal_pre_finite_attn (hRefAttnIdeal := hRefAttnIdeal) (hPre_finite_attn := hPre_finite_attn)
    ∧ quiescent_Dh1 (hDh1 := hDh1)
    ∧ quiescent_Dh1Ideal (hDh1Ideal := hDh1Ideal)
    ∧ quiescent_Dh1Ideal_pre_finite_dh1 (hDh1Ideal := hDh1Ideal) (hPre_finite_dh1 := hPre_finite_dh1)
    ∧ quiescent_RefDh1Ideal (hRefDh1Ideal := hRefDh1Ideal)
    ∧ quiescent_RefDh1Ideal_pre_finite_dh1 (hRefDh1Ideal := hRefDh1Ideal) (hPre_finite_dh1 := hPre_finite_dh1)
    ∧ quiescent_Ff2 (hFf2 := hFf2)
    ∧ quiescent_Ff2Ideal (hFf2Ideal := hFf2Ideal)
    ∧ quiescent_Ff2Ideal_pre_finite_ff2 (hFf2Ideal := hFf2Ideal) (hPre_finite_ff2 := hPre_finite_ff2)
    ∧ quiescent_RefFf2Ideal (hRefFf2Ideal := hRefFf2Ideal)
    ∧ quiescent_RefFf2Ideal_pre_finite_ff2 (hRefFf2Ideal := hRefFf2Ideal) (hPre_finite_ff2 := hPre_finite_ff2)
    ∧ quiescent_Dff1 (hDff1 := hDff1)
    ∧ quiescent_Dff1Ideal (hDff1Ideal := hDff1Ideal)
    ∧ quiescent_RefDff1Ideal (hRefDff1Ideal := hRefDff1Ideal)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_RefPoolIdeal (hRefPoolIdeal := hRefPoolIdeal)
    ∧ quiescent_RefPoolIdeal_pre_finite_pool (hRefPoolIdeal := hRefPoolIdeal) (hPre_finite_pool := hPre_finite_pool)
    ∧ quiescent_Att (hAtt := hAtt)
    ∧ quiescent_AttIdeal (hAttIdeal := hAttIdeal)
    ∧ quiescent_AttIdeal_pre_finite_att (hAttIdeal := hAttIdeal) (hPre_finite_att := hPre_finite_att)
    ∧ quiescent_RefAttIdeal (hRefAttIdeal := hRefAttIdeal)
    ∧ quiescent_RefAttIdeal_pre_finite_att (hRefAttIdeal := hRefAttIdeal) (hPre_finite_att := hPre_finite_att)
    ∧ quiescent_Ln (hLn := hLn)
    ∧ quiescent_LnIdeal (hLnIdeal := hLnIdeal)
    ∧ quiescent_RefLnIdeal (hRefLnIdeal := hRefLnIdeal)
    ∧ quiescent_Mix (hMix := hMix)
    ∧ quiescent_MixIdeal (hMixIdeal := hMixIdeal)
    ∧ quiescent_RefMixIdeal (hRefMixIdeal := hRefMixIdeal)
    ∧ quiescent_Ff1 (hFf1 := hFf1)
    ∧ quiescent_Ff1Ideal (hFf1Ideal := hFf1Ideal)
    ∧ quiescent_RefFf1Ideal (hRefFf1Ideal := hRefFf1Ideal)
    ∧ quiescent_U (hU := hU)
    ∧ quiescent_UIdeal (hUIdeal := hUIdeal)
    ∧ quiescent_RefUIdeal (hRefUIdeal := hRefUIdeal)
    ∧ quiescent_Poolf (hPoolf := hPoolf)
    ∧ quiescent_PoolfIdeal (hPoolfIdeal := hPoolfIdeal)
    ∧ quiescent_PoolfIdeal_pre_finite_poolf (hPoolfIdeal := hPoolfIdeal) (hPre_finite_poolf := hPre_finite_poolf)
    ∧ quiescent_RefPoolfIdeal (hRefPoolfIdeal := hRefPoolfIdeal)
    ∧ quiescent_RefPoolfIdeal_pre_finite_poolf (hRefPoolfIdeal := hRefPoolfIdeal) (hPre_finite_poolf := hPre_finite_poolf)
    ∧ preserves_Dh0_Dh0Ideal
    ∧ algebraic_Dh0Ideal_RefDh0Ideal_pre_finite_dh0 (hDh0Ideal := hDh0Ideal) (hRefDh0Ideal := hRefDh0Ideal) (hPre_finite_dh0 := hPre_finite_dh0)
    ∧ preserves_Attn_AttnIdeal
    ∧ algebraic_AttnIdeal_RefAttnIdeal_pre_finite_attn (hAttnIdeal := hAttnIdeal) (hRefAttnIdeal := hRefAttnIdeal) (hPre_finite_attn := hPre_finite_attn)
    ∧ preserves_Dh1_Dh1Ideal
    ∧ algebraic_Dh1Ideal_RefDh1Ideal_pre_finite_dh1 (hDh1Ideal := hDh1Ideal) (hRefDh1Ideal := hRefDh1Ideal) (hPre_finite_dh1 := hPre_finite_dh1)
    ∧ preserves_Ff2_Ff2Ideal
    ∧ algebraic_Ff2Ideal_RefFf2Ideal_pre_finite_ff2 (hFf2Ideal := hFf2Ideal) (hRefFf2Ideal := hRefFf2Ideal) (hPre_finite_ff2 := hPre_finite_ff2)
    ∧ preserves_Dff1_Dff1Ideal
    ∧ algebraic_Dff1Ideal_RefDff1Ideal (hDff1Ideal := hDff1Ideal) (hRefDff1Ideal := hRefDff1Ideal)
    ∧ preserves_Pool_PoolIdeal
    ∧ algebraic_PoolIdeal_RefPoolIdeal_pre_finite_pool (hPoolIdeal := hPoolIdeal) (hRefPoolIdeal := hRefPoolIdeal) (hPre_finite_pool := hPre_finite_pool)
    ∧ preserves_Att_AttIdeal
    ∧ algebraic_AttIdeal_RefAttIdeal_pre_finite_att (hAttIdeal := hAttIdeal) (hRefAttIdeal := hRefAttIdeal) (hPre_finite_att := hPre_finite_att)
    ∧ preserves_Ln_LnIdeal
    ∧ algebraic_LnIdeal_RefLnIdeal (hLnIdeal := hLnIdeal) (hRefLnIdeal := hRefLnIdeal)
    ∧ preserves_Mix_MixIdeal
    ∧ algebraic_MixIdeal_RefMixIdeal (hMixIdeal := hMixIdeal) (hRefMixIdeal := hRefMixIdeal)
    ∧ preserves_Ff1_Ff1Ideal
    ∧ algebraic_Ff1Ideal_RefFf1Ideal (hFf1Ideal := hFf1Ideal) (hRefFf1Ideal := hRefFf1Ideal)
    ∧ preserves_U_UIdeal
    ∧ algebraic_UIdeal_RefUIdeal (hUIdeal := hUIdeal) (hRefUIdeal := hRefUIdeal)
    ∧ preserves_Poolf_PoolfIdeal
    ∧ algebraic_PoolfIdeal_RefPoolfIdeal_pre_finite_poolf (hPoolfIdeal := hPoolfIdeal) (hRefPoolfIdeal := hRefPoolfIdeal) (hPre_finite_poolf := hPre_finite_poolf)
-- ==== Pre_finite_att.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_finite_attn.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .f32) (main_arg1 : FVec F S4096x1024 .f32) (main_arg2 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_finite_dh0.lean ====
abbrev S1x4096x2048 : Shape := ⟨3, ![1, 4096, 2048]⟩
abbrev S2048 : Shape := ⟨1, ![2048]⟩
abbrev S1x2048x4096 : Shape := ⟨3, ![1, 2048, 4096]⟩
abbrev S4096x4096 : Shape := ⟨2, ![4096, 4096]⟩
abbrev S4096x2048 : Shape := ⟨2, ![4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S1x2048x4096 : S_.BroadcastsInDim S1x2048x4096 (![] : Fin 0 → Fin S1x2048x4096.rank)
  reducesTo_S1x2048x4096_S_d0_1_2 : S1x2048x4096.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg5 : FVec F S4096x2048 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S1x4096x2048 .f32) (main_arg1 : FVec F S2048 .f32) (main_arg2 : FVec F S2048 .f32) (main_arg3 : FVec F S1x2048x4096 .f32) (main_arg4 : FVec F S4096x4096 .f32) (main_arg5 : FVec F S4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S1x2048x4096 .f32 := Host.absf main_arg3
  let main_cst_2 : FVec F S_ .f32 := constant S_ .f32 0x7F800000#32
  let main_v10 : FVec F S1x2048x4096 .f32 := broadcastInDim S1x2048x4096 ![] bcast_S_S1x2048x4096 main_cst_2
  let main_v11 : IVec S1x2048x4096 1 := cmpf .olt main_v9 main_v10
  let main_c_3 : IVec S_ 1 := constantI S_ 1 1#1
  let main_v12 : IVec S_ 1 := (fun x v => Host.reduce IntOp.andi x v reducesTo_S1x2048x4096_S_d0_1_2 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_v13 main_v16
-- ==== Pre_finite_dh1.lean ====
abbrev S4096x2048 : Shape := ⟨2, ![4096, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S4096x8192 : Shape := ⟨2, ![4096, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x2048x8192 : S_.BroadcastsInDim S1x2048x8192 (![] : Fin 0 → Fin S1x2048x8192.rank)
  reducesTo_S1x2048x8192_S_d0_1_2 : S1x2048x8192.ReducesTo [0, 1, 2] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg5 : FVec F S1x2048x8192 .f32) (main_arg6 : FVec F S4096x8192 .f32) (main_arg7 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048x8192 .f32 := Host.absf main_arg5
  let main_cst_6 : FVec F S_ .f32 := constant S_ .f32 0x7F800000#32
  let main_v20 : FVec F S1x2048x8192 .f32 := broadcastInDim S1x2048x8192 ![] bcast_S_S1x2048x8192 main_cst_6
  let main_v21 : IVec S1x2048x8192 1 := cmpf .olt main_v19 main_v20
  let main_c_7 : IVec S_ 1 := constantI S_ 1 1#1
  let main_v22 : IVec S_ 1 := (fun x v => Host.reduce IntOp.andi x v reducesTo_S1x2048x8192_S_d0_1_2 h_S_) main_v21 main_c_7
  let main_v23 : IVec S_ 1 := andi main_v18 main_v22
  let main_v24 : FVec F S4096x8192 .f32 := Host.absf main_arg6
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096x2048 .f32 := Host.absf main_arg7
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S1x2048x2048 .f32) (main_arg3 : FVec F S1x2048 .f32) (main_arg4 : FVec F S1x2048 .f32) (main_arg5 : FVec F S1x2048x8192 .f32) (main_arg6 : FVec F S4096x8192 .f32) (main_arg7 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg5 main_arg6 main_arg7 main_v13 main_v16
-- ==== Pre_finite_ff2.lean ====
abbrev S4096x2048 : Shape := ⟨2, ![4096, 2048]⟩
abbrev S4096x8192 : Shape := ⟨2, ![4096, 8192]⟩
abbrev S1x8192x2048 : Shape := ⟨3, ![1, 8192, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S1x8192x2048 : S_.BroadcastsInDim S1x8192x2048 (![] : Fin 0 → Fin S1x8192x2048.rank)
  reducesTo_S1x8192x2048_S_d0_1_2 : S1x8192x2048.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_arg5 : FVec F S1x2048 .f32) (main_arg6 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x2048 .f32) (main_arg1 : FVec F S4096x8192 .f32) (main_arg2 : FVec F S1x8192x2048 .f32) (main_arg3 : FVec F S1x2048 .f32) (main_arg4 : FVec F S1x2048 .f32) (main_arg5 : FVec F S1x2048 .f32) (main_arg6 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S1x8192x2048 .f32 := Host.absf main_arg2
  let main_cst_2 : FVec F S_ .f32 := constant S_ .f32 0x7F800000#32
  let main_v10 : FVec F S1x8192x2048 .f32 := broadcastInDim S1x8192x2048 ![] bcast_S_S1x8192x2048 main_cst_2
  let main_v11 : IVec S1x8192x2048 1 := cmpf .olt main_v9 main_v10
  let main_c_3 : IVec S_ 1 := constantI S_ 1 1#1
  let main_v12 : IVec S_ 1 := (fun x v => Host.reduce IntOp.andi x v reducesTo_S1x8192x2048_S_d0_1_2 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_v13 main_v16
-- ==== Pre_finite_pool.lean ====
abbrev S4096x1024 : Shape := ⟨2, ![4096, 1024]⟩
abbrev S1x4x256x256 : Shape := ⟨4, ![1, 4, 256, 256]⟩
abbrev S1x4x256 : Shape := ⟨3, ![1, 4, 256]⟩
abbrev S_ : Shape := ⟨0, ![]⟩

class Facts : Prop where
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  h_S_ : 0 < S_.numel
  bcast_S_S1x4x256 : S_.BroadcastsInDim S1x4x256 (![] : Fin 0 → Fin S1x4x256.rank)
  reducesTo_S1x4x256_S_d0_1_2 : S1x4x256.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .f32) (main_arg1 : FVec F S1x4x256x256 .f32) (main_arg2 : FVec F S1x4x256 .f32) (main_arg3 : FVec F S4096x1024 .f32) : IVec S_ 1 :=
  let main_v0 : FVec F S1x4x256x256 .f32 := Host.absf main_arg1
  let main_cst : FVec F S_ .f32 := constant S_ .f32 0x7F800000#32
  let main_v1 : FVec F S1x4x256x256 .f32 := broadcastInDim S1x4x256x256 ![] bcast_S_S1x4x256x256 main_cst
  let main_v2 : IVec S1x4x256x256 1 := cmpf .olt main_v0 main_v1
  let main_c : IVec S_ 1 := constantI S_ 1 1#1
  let main_v3 : IVec S_ 1 := (fun x v => Host.reduce IntOp.andi x v reducesTo_S1x4x256x256_S_d0_1_2_3 h_S_) main_v2 main_c
  let main_v4 : FVec F S1x4x256 .f32 := Host.absf main_arg2
  let main_cst_0 : FVec F S_ .f32 := constant S_ .f32 0x7F800000#32
  let main_v5 : FVec F S1x4x256 .f32 := broadcastInDim S1x4x256 ![] bcast_S_S1x4x256 main_cst_0
  let main_v6 : IVec S1x4x256 1 := cmpf .olt main_v4 main_v5
  let main_c_1 : IVec S_ 1 := constantI S_ 1 1#1
  let main_v7 : IVec S_ 1 := (fun x v => Host.reduce IntOp.andi x v reducesTo_S1x4x256_S_d0_1_2 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_poolf.lean ====
abbrev S4096x1024 : Shape := ⟨2, ![4096, 1024]⟩
abbrev S1x4x256x256 : Shape := ⟨4, ![1, 4, 256, 256]⟩
abbrev S1x4x256 : Shape := ⟨3, ![1, 4, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S1x4x256x256 .f32) (main_arg2 : FVec F S1x4x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Dh0.lean ====
abbrev S1x4096x2048 : Shape := ⟨3, ![1, 4096, 2048]⟩
abbrev S2048 : Shape := ⟨1, ![2048]⟩
abbrev S1x2048x4096 : Shape := ⟨3, ![1, 2048, 4096]⟩
abbrev S4096x4096 : Shape := ⟨2, ![4096, 4096]⟩
abbrev S4096x2048 : Shape := ⟨2, ![4096, 2048]⟩
abbrev S1x2048 : Shape := ⟨2, ![1, 2048]⟩
abbrev S2048x8x512 : Shape := ⟨3, ![2048, 8, 512]⟩
abbrev S8x2048x512 : Shape := ⟨3, ![8, 2048, 512]⟩
abbrev S4096x1024 : Shape := ⟨2, ![4096, 1024]⟩
abbrev S1x4096x1024 : Shape := ⟨3, ![1, 4096, 1024]⟩
abbrev S4x4096x1024 : Shape := ⟨3, ![4, 4096, 1024]⟩
abbrev S1x512x1024 : Shape := ⟨3, ![1, 512, 1024]⟩
abbrev S2x2048x512 : Shape := ⟨3, ![2, 2048, 512]⟩
abbrev S512x2048 : Shape := ⟨2, ![512, 2048]⟩
abbrev S1x512x512 : Shape := ⟨3, ![1, 512, 512]⟩
abbrev S512x512 : Shape := ⟨2, ![512, 512]⟩
abbrev S1x2048x512 : Shape := ⟨3, ![1, 2048, 512]⟩
abbrev S2048x512 : Shape := ⟨2, ![2048, 512]⟩
abbrev S512 : Shape := ⟨1, ![512]⟩
abbrev S512x1 : Shape := ⟨2, ![512, 1]⟩

abbrev nBuf : Space → Nat
  | .hbm => 24
  | .vmem => 14
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048, .f32⟩
  | .hbm, ⟨3, _⟩ => ⟨S1x2048x4096, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S2048x8x512, .f32⟩
  | .hbm, ⟨9, _⟩ => ⟨S8x2048x512, .f32⟩
  | .hbm, ⟨10, _⟩ => ⟨S8x2048x512, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S4x4096x1024, .f32⟩
  | .hbm, ⟨20, _⟩ => ⟨S4x4096x1024, .bf16⟩
  | .hbm, ⟨21, _⟩ => ⟨S4096x2048, .f32⟩
  | .hbm, ⟨22, _⟩ => ⟨S1x2048, .f32⟩
  | .hbm, ⟨23, _⟩ => ⟨S1x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S2x2048x512, .bf16⟩
  | .local _ .vmem, ⟨3, _⟩ => ⟨S2x2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def k0_cond3 (i : grid0.Coords) : BitVec 1 :=
  let arg0 : BitVec 32 := BitVec.ofNat 32 (i 0).val
  let c0_i32_18 : BitVec 32 := 0#32
  let v23 : BitVec 1 := Scalar.cmpi .eq arg0 c0_i32_18
  let v72 : BitVec 32 := Scalar.extui v23
  let c0_i32_39 : BitVec 32 := 0#32
  let v73 : BitVec 1 := Scalar.cmpi .ne v72 c0_i32_39
  v73

def k0_cond4 (i : grid0.Coords) : BitVec 1 :=
  let arg0 : BitVec 32 := BitVec.ofNat 32 (i 0).val
  let c0_i32_18 : BitVec 32 := 0#32
  let v23 : BitVec 1 := Scalar.cmpi .eq arg0 c0_i32_18
  let v_true : BitVec 1 := 1#1
  let v74 : BitVec 1 := Scalar.xori v23 v_true
  let v75 : BitVec 32 := Scalar.extui v74
  let c0_i32_40 : BitVec 32 := 0#32
  let v76 : BitVec 1 := Scalar.cmpi .ne v75 c0_i32_40
  v76

def k0_cond5 (i : grid0.Coords) : BitVec 1 :=
  let arg0 : BitVec 32 := BitVec.ofNat 32 (i 0).val
  let c0_i32_18 : BitVec 32 := 0#32
  let v23 : BitVec 1 := Scalar.cmpi .eq arg0 c0_i32_18
  let v77 : BitVec 32 := Scalar.extui v23
  let c0_i32_41 : BitVec 32 := 0#32
  let v78 : BitVec 1 := Scalar.cmpi .ne v77 c0_i32_41
  v78

def k0_cond6 (i : grid0.Coords) : BitVec 1 :=
  let arg0 : BitVec 32 := BitVec.ofNat 32 (i 0).val
  let c0_i32_18 : BitVec 32 := 0#32
  let v23 : BitVec 1 := Scalar.cmpi .eq arg0 c0_i32_18
  let true_42 : BitVec 1 := 1#1
  let v79 : BitVec 1 := Scalar.xori v23 true_42
  let v80 : BitVec 32 := Scalar.extui v79
  let c0_i32_43 : BitVec 32 := 0#32
  let v81 : BitVec 1 := Scalar.cmpi .ne v80 c0_i32_43
  v81

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![v10.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== RefDh0Ideal.lean ====
abbrev S1x4096x2048 : Shape := ⟨3, ![1, 4096, 2048]⟩
abbrev S2048 : Shape := ⟨1, ![2048]⟩
abbrev S1x2048x4096 : Shape := ⟨3, ![1, 2048, 4096]⟩
abbrev S4096x4096 : Shape := ⟨2, ![4096, 4096]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 99
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048, .f32⟩
  | .hbm, ⟨3, _⟩ => ⟨S1x2048x4096, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S2048x4096, .f32⟩
  | .hbm, ⟨44, _⟩ => ⟨S4096x4096, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x2048, .f32⟩
  | .hbm, ⟨71, _⟩ => ⟨S4096x2048, .f32⟩
  | .hbm, ⟨72, _⟩ => ⟨S4096x1, .f32⟩
  | .hbm, ⟨73, _⟩ => ⟨S4096x2048, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x2048, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x2048, .f32⟩
  | .hbm, ⟨96, _⟩ => ⟨S4096x2048, .f32⟩
  | .hbm, ⟨97, _⟩ => ⟨S1x2048, .f32⟩
  | .hbm, ⟨98, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Attn.lean ====
abbrev S4096x3072 : Shape := ⟨2, ![4096, 3072]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x128x4096 : Shape := ⟨3, ![8, 128, 4096]⟩
abbrev S4x4096x1024 : Shape := ⟨3, ![4, 4096, 1024]⟩
abbrev S4096x256 : Shape := ⟨2, ![4096, 256]⟩
abbrev S4x4096x256 : Shape := ⟨3, ![4, 4096, 256]⟩
abbrev S16x256x256 : Shape := ⟨3, ![16, 256, 256]⟩
abbrev S1x4096x256 : Shape := ⟨3, ![1, 4096, 256]⟩
abbrev S256x256 : Shape := ⟨2, ![256, 256]⟩
abbrev S1x256x256 : Shape := ⟨3, ![1, 256, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S1x128x128 : Shape := ⟨3, ![1, 128, 128]⟩
abbrev S1x128x256 : Shape := ⟨3, ![1, 128, 256]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 76
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S4096x8x128, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S8x128x4096, .f32⟩
  | .hbm, ⟨70, _⟩ => ⟨S4096x8x128, .f32⟩
  | .hbm, ⟨71, _⟩ => ⟨S4096x1024, .f32⟩
  | .hbm, ⟨72, _⟩ => ⟨S4096x3072, .bf16⟩
  | .hbm, ⟨73, _⟩ => ⟨S4096x1024, .bf16⟩
  | .hbm, ⟨74, _⟩ => ⟨S4096x1024, .bf16⟩
  | .hbm, ⟨75, _⟩ => ⟨S4x4096x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .f32⟩
  | .local _ .vmem, ⟨9, _⟩ => ⟨S4096x256, .f32⟩
  | .local _ .vmem, ⟨10, _⟩ => ⟨S4096x256, .bf16⟩
  | .local _ .vmem, ⟨11, _⟩ => ⟨S4x4096x256, .bf16⟩
  | .local _ .vmem, ⟨12, _⟩ => ⟨S16x256x256, .bf16⟩
  | .local _ .vmem, ⟨13, _⟩ => ⟨S16x256x256, .bf16⟩
  | .local _ .vmem, ⟨14, _⟩ => ⟨S16x256x256, .f32⟩
  | .local _ .vmem, ⟨15, _⟩ => ⟨S16x256x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_142 : BitVec 32 := 0#32
  let c16_i32 : BitVec 32 := 16#32
  let v283 : BitVec 32 := Scalar.addi c0_i32_142 c16_i32
  let c1_i32 : BitVec 32 := 1#32
  ⟨c0_i32_142, v283, c1_i32⟩
def k0_mult1 (k0_t1 : Fin k0_t1_loop.trips) : BitVec 32 :=
  let c0_i32_142 : BitVec 32 := 0#32
  let c1_i32 : BitVec 32 := 1#32
  let arg12 : BitVec 32 := Scf.iv c0_i32_142 c1_i32 k0_t1
  let c256_i32 : BitVec 32 := 256#32
  let v508 : BitVec 32 := Scalar.muli arg12 c256_i32
  v508
def k0_off1 (k0_t1 : Fin k0_t1_loop.trips) (c0_i32_399 : BitVec 32) : Fin 2 → Nat :=
  let c0_i32_142 : BitVec 32 := 0#32
  let c1_i32 : BitVec 32 := 1#32
  let arg12 : BitVec 32 := Scf.iv c0_i32_142 c1_i32 k0_t1
  let c256_i32 : BitVec 32 := 256#32
  let v508 : BitVec 32 := Scalar.muli arg12 c256_i32
  let v509 : BitVec 32 := v508
  let v510 : BitVec 32 := Scalar.addi v509 c0_i32_399
  let v511 : Index := Scalar.indexCast v510
  let c0_400 : Index := 0#32
  ![v511.toNat, 0]
def k0_off2 (k0_t1 : Fin k0_t1_loop.trips) (c0_i32_409 : BitVec 32) : Fin 2 → Nat :=
  let c0_i32_142 : BitVec 32 := 0#32
  let c1_i32 : BitVec 32 := 1#32
  let arg12 : BitVec 32 := Scf.iv c0_i32_142 c1_i32 k0_t1
  let c256_i32 : BitVec 32 := 256#32
  let v508 : BitVec 32 := Scalar.muli arg12 c256_i32
  let v509 : BitVec 32 := v508
  let v538 : BitVec 32 := Scalar.addi v509 c0_i32_409
  let v539 : Index := Scalar.indexCast v538
  let c128 : Index := 128#32
  ![v539.toNat, 128]
def k0_mult2 (k0_t1 : Fin k0_t1_loop.trips) : BitVec 32 :=
  let c0_i32_142 : BitVec 32 := 0#32
  let c1_i32 : BitVec 32 := 1#32
  let arg12 : BitVec 32 := Scf.iv c0_i32_142 c1_i32 k0_t1
  let c256_i32_421 : BitVec 32 := 256#32
  let v569 : BitVec 32 := Scalar.muli arg12 c256_i32_421
  v569
def k0_off3 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let c256_i32_421 : BitVec 32 := 256#32
  let v569 : BitVec 32 := Scalar.muli arg12 c256_i32_421
  let v570 : BitVec 32 := v569
  let v571 : Index := Scalar.indexCast v570
  let c0_422 : Index := 0#32
  ![v571.toNat, 0]
def k0_off4 (k0_t1 : Fin k0_t1_loop.trips) : Fin 2 → Nat :=
  let c0_i32_142 : BitVec 32 := 0#32
  let c1_i32 : BitVec 32 := 1#32
  let arg12 : BitVec 32 := Scf.iv c0_i32_142 c1_i32 k0_t1
  let c256_i32_421 : BitVec 32 := 256#32
  let v569 : BitVec 32 := Scalar.muli arg12 c256_i32_421
  let v570 : BitVec 32 := v569
  let v577 : Index := Scalar.indexCast v570
  let c128_424 : Index := 128#32
  ![v577.toNat, 128]
def k0_off5 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v835 : Index := Scalar.indexCast arg12
  let c0_494 : Index := 0#32
  let c0_495 : Index := 0#32
  ![v835.toNat, 0, 0]
def k0_off6 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v843 : Index := Scalar.indexCast arg12
  let c0_500 : Index := 0#32
  let c128_501 : Index := 128#32
  ![v843.toNat, 0, 128]
def k0_off7 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v853 : Index := Scalar.indexCast arg12
  let c0_506 : Index := 0#32
  let c0_507 : Index := 0#32
  ![v853.toNat, 0, 0]
def k0_off8 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v869 : Index := Scalar.indexCast arg12
  let c128_514 : Index := 128#32
  let c0_515 : Index := 0#32
  ![v869.toNat, 128, 0]
def k0_off9 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v877 : Index := Scalar.indexCast arg12
  let c128_520 : Index := 128#32
  let c128_521 : Index := 128#32
  ![v877.toNat, 128, 128]
def k0_off10 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v887 : Index := Scalar.indexCast arg12
  let c128_526 : Index := 128#32
  let c0_527 : Index := 0#32
  ![v887.toNat, 128, 0]
def k0_mult3 (k0_t1 : Fin k0_t1_loop.trips) (arg13 : BitVec 32) : BitVec 32 :=
  let c0_i32_142 : BitVec 32 := 0#32
  let c1_i32 : BitVec 32 := 1#32
  let arg12 : BitVec 32 := Scf.iv c0_i32_142 c1_i32 k0_t1
  let c1_i32_552 : BitVec 32 := 1#32
  let v935 : BitVec 32 := Scalar.subi arg12 c1_i32_552
  let v936 : BitVec 32 := Scalar.subi v935 arg13
  let c256_i32_553 : BitVec 32 := 256#32
  let v937 : BitVec 32 := Scalar.muli v936 c256_i32_553
  v937

def k0_off11 (k0_t1 : Fin k0_t1_loop.trips) (arg13 : BitVec 32) : Fin 2 → Nat :=
  let c0_i32_142 : BitVec 32 := 0#32
  let c1_i32 : BitVec 32 := 1#32
  let arg12 : BitVec 32 := Scf.iv c0_i32_142 c1_i32 k0_t1
  let c1_i32_552 : BitVec 32 := 1#32
  let v935 : BitVec 32 := Scalar.subi arg12 c1_i32_552
  let v936 : BitVec 32 := Scalar.subi v935 arg13
  let c256_i32_553 : BitVec 32 := 256#32
  let v937 : BitVec 32 := Scalar.muli v936 c256_i32_553
  let v938 : BitVec 32 := v937
  let v939 : Index := Scalar.indexCast v938
  let c0_554 : Index := 0#32
  ![v939.toNat, 0]
def k0_off12 (k0_t1 : Fin k0_t1_loop.trips) (arg13 : BitVec 32) : Fin 2 → Nat :=
  let c0_i32_142 : BitVec 32 := 0#32
  let c1_i32 : BitVec 32 := 1#32
  let arg12 : BitVec 32 := Scf.iv c0_i32_142 c1_i32 k0_t1
  let c1_i32_552 : BitVec 32 := 1#32
  let v935 : BitVec 32 := Scalar.subi arg12 c1_i32_552
  let v936 : BitVec 32 := Scalar.subi v935 arg13
  let c256_i32_553 : BitVec 32 := 256#32
  let v937 : BitVec 32 := Scalar.muli v936 c256_i32_553
  let v938 : BitVec 32 := v937
  let v945 : Index := Scalar.indexCast v938
  let c128_556 : Index := 128#32
  ![v945.toNat, 128]
def k0_off13 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v1179 : Index := Scalar.indexCast arg12
  let c0_614 : Index := 0#32
  let c0_615 : Index := 0#32
  ![v1179.toNat, 0, 0]
def k0_off14 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v1187 : Index := Scalar.indexCast arg12
  let c0_620 : Index := 0#32
  let c128_621 : Index := 128#32
  ![v1187.toNat, 0, 128]
def k0_off15 (k0_t1 : Fin k0_t1_loop.trips) (arg13 : BitVec 32) : Fin 3 → Nat :=
  let c0_i32_142 : BitVec 32 := 0#32
  let c1_i32 : BitVec 32 := 1#32
  let arg12 : BitVec 32 := Scf.iv c0_i32_142 c1_i32 k0_t1
  let c1_i32_552 : BitVec 32 := 1#32
  let v935 : BitVec 32 := Scalar.subi arg12 c1_i32_552
  let v936 : BitVec 32 := Scalar.subi v935 arg13
  let v1197 : Index := Scalar.indexCast v936
  let c0_626 : Index := 0#32
  let c0_627 : Index := 0#32
  ![v1197.toNat, 0, 0]
def k0_off16 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v1213 : Index := Scalar.indexCast arg12
  let c128_634 : Index := 128#32
  let c0_635 : Index := 0#32
  ![v1213.toNat, 128, 0]
def k0_off17 (k0_t1 : Fin k0_t1_loop.trips) : Fin 3 → Nat :=
  let c0_i32_142 : BitVec 32 := 0#32
  let c1_i32 : BitVec 32 := 1#32
  let arg12 : BitVec 32 := Scf.iv c0_i32_142 c1_i32 k0_t1
  let v1221 : Index := Scalar.indexCast arg12
  let c128_640 : Index := 128#32
  let c128_641 : Index := 128#32
  ![v1221.toNat, 128, 128]
def k0_off18 (k0_t1 : Fin k0_t1_loop.trips) (arg13 : BitVec 32) : Fin 3 → Nat :=
  let c0_i32_142 : BitVec 32 := 0#32
  let c1_i32 : BitVec 32 := 1#32
  let arg12 : BitVec 32 := Scf.iv c0_i32_142 c1_i32 k0_t1
  let c1_i32_552 : BitVec 32 := 1#32
  let v935 : BitVec 32 := Scalar.subi arg12 c1_i32_552
  let v936 : BitVec 32 := Scalar.subi v935 arg13
  let v1231 : Index := Scalar.indexCast v936
  let c128_646 : Index := 128#32
  let c0_647 : Index := 0#32
  ![v1231.toNat, 128, 0]

def k0_chk1 (k0_t1 : Fin k0_t1_loop.trips) (arg13 : BitVec 32) : Prop :=
  (256 ∣ (k0_mult3 k0_t1 arg13).toNat) ∧
  (∀ a, (k0_off11 k0_t1 arg13) a + S256x128.size a ≤ S4096x256.size a) ∧
  (∀ a, (k0_off12 k0_t1 arg13) a + S256x128.size a ≤ S4096x256.size a) ∧
  (∀ a, (k0_off15 k0_t1 arg13) a + S1x128x256.size a ≤ S16x256x256.size a) ∧
  (∀ a, (k0_off18 k0_t1 arg13) a + S1x128x256.size a ≤ S16x256x256.size a)
theorem k0_mult3_dvd : ∀ (k0_t1 : Fin k0_t1_loop.trips) (arg13 : BitVec 32) (k0_hw1 : k0_chk1 k0_t1 arg13), 256 ∣ (k0_mult3 k0_t1 arg13).toNat := fun k0_t1 arg13 k0_hw1 => k0_hw1.1
theorem k0_off11_inb : ∀ (k0_t1 : Fin k0_t1_loop.trips) (arg13 : BitVec 32) (k0_hw1 : k0_chk1 k0_t1 arg13), ∀ a, (k0_off11 k0_t1 arg13) a + S256x128.size a ≤ S4096x256.size a := fun k0_t1 arg13 k0_hw1 => k0_hw1.2.1
theorem k0_off12_inb : ∀ (k0_t1 : Fin k0_t1_loop.trips) (arg13 : BitVec 32) (k0_hw1 : k0_chk1 k0_t1 arg13), ∀ a, (k0_off12 k0_t1 arg13) a + S256x128.size a ≤ S4096x256.size a := fun k0_t1 arg13 k0_hw1 => k0_hw1.2.2.1
theorem k0_off15_inb : ∀ (k0_t1 : Fin k0_t1_loop.trips) (arg13 : BitVec 32) (k0_hw1 : k0_chk1 k0_t1 arg13), ∀ a, (k0_off15 k0_t1 arg13) a + S1x128x256.size a ≤ S16x256x256.size a := fun k0_t1 arg13 k0_hw1 => k0_hw1.2.2.2.1
theorem k0_off18_inb : ∀ (k0_t1 : Fin k0_t1_loop.trips) (arg13 : BitVec 32) (k0_hw1 : k0_chk1 k0_t1 arg13), ∀ a, (k0_off18 k0_t1 arg13) a + S1x128x256.size a ≤ S16x256x256.size a := fun k0_t1 arg13 k0_hw1 => k0_hw1.2.2.2.2

def k0_off19 (k0_t1 : Fin k0_t1_loop.trips) (c0_i32_536 : BitVec 32) : Fin 3 → Nat :=
  let c0_i32_141 : BitVec 32 := 0#32
  let c0_i32_142 : BitVec 32 := 0#32
  let c1_i32 : BitVec 32 := 1#32
  let arg12 : BitVec 32 := Scf.iv c0_i32_142 c1_i32 k0_t1
  let c256_i32 : BitVec 32 := 256#32
  let v508 : BitVec 32 := Scalar.muli arg12 c256_i32
  let v509 : BitVec 32 := v508
  let v912 : BitVec 32 := Scalar.addi v509 c0_i32_536
  let v915 : Index := Scalar.indexCast v912
  let c0_i32_538 : BitVec 32 := 0#32
  ![0, v915.toNat, 0]
def k0_off20 (k0_t1 : Fin k0_t1_loop.trips) (c0_i32_544 : BitVec 32) : Fin 3 → Nat :=
  let c0_i32_141 : BitVec 32 := 0#32
  let c0_i32_142 : BitVec 32 := 0#32
  let c1_i32 : BitVec 32 := 1#32
  let arg12 : BitVec 32 := Scf.iv c0_i32_142 c1_i32 k0_t1
  let c256_i32 : BitVec 32 := 256#32
  let v508 : BitVec 32 := Scalar.muli arg12 c256_i32
  let v509 : BitVec 32 := v508
  let v924 : BitVec 32 := Scalar.addi v509 c0_i32_544
  let v927 : Index := Scalar.indexCast v924
  ![0, v927.toNat, 128]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AttnIdeal.lean ====
variable {F : FTy → Type} [FloatOps F] [Named F]
def κ : String → Option EReal := fun
  | "log2_e" => some (((Real.log 2)⁻¹ : ℝ) : EReal)
  | "scale2" => some (((Real.log 2)⁻¹ * (11863283 / 134217728) : ℝ) : EReal)
  | "underflow" => some ⊤
  | _ => none
-- ==== RefAttnIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x128x4096 : Shape := ⟨3, ![8, 128, 4096]⟩
abbrev S8x4096x128 : Shape := ⟨3, ![8, 4096, 128]⟩
abbrev S1x4096x1024 : Shape := ⟨3, ![1, 4096, 1024]⟩
abbrev S4x4096x1024 : Shape := ⟨3, ![4, 4096, 1024]⟩

abbrev nBuf : Space → Nat
  | .hbm => 185
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x8x128, .f32⟩
  | 7 => ⟨S4096x8x128, .f32⟩
  | 8 => ⟨S4096x8x128, .f32⟩
  | 9 => ⟨S8x4096x4096, .f32⟩
  | 10 => ⟨S_, .f32⟩
  | 11 => ⟨S8x4096x4096, .f32⟩
  | 12 => ⟨S8x4096x4096, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i1⟩
  | 19 => ⟨S1x4096x4096, .i1⟩
  | 20 => ⟨S8x4096x4096, .f32⟩
  | 21 => ⟨S8x4096x4096, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .i1⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .i1⟩
  | 39 => ⟨S_, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .i1⟩
  | 45 => ⟨S_, .f32⟩
  | 46 => ⟨S8x4096x4096, .f32⟩
  | 47 => ⟨S8x4096x4096, .f32⟩
  | 48 => ⟨S8x4096x4096, .f32⟩
  | 49 => ⟨S8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x4096x4096, .f32⟩
  | 58 => ⟨S8x4096x4096, .i1⟩
  | 59 => ⟨S_, .f32⟩
  | 60 => ⟨S8x4096x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S_, .f32⟩
  | 66 => ⟨S8x4096x4096, .f32⟩
  | 67 => ⟨S8x4096x4096, .f32⟩
  | 68 => ⟨S8x4096x4096, .f32⟩
  | 69 => ⟨S_, .f32⟩
  | 70 => ⟨S_, .f32⟩
  | 71 => ⟨S8x4096x4096, .i1⟩
  | 72 => ⟨S8x4096x4096, .f32⟩
  | 73 => ⟨S8x4096x4096, .f32⟩
  | 74 => ⟨S_, .f32⟩
  | 75 => ⟨S8x4096x4096, .f32⟩
  | 76 => ⟨S_, .f32⟩
  | 77 => ⟨S_, .f32⟩
  | 78 => ⟨S8x4096x4096, .f32⟩
  | 79 => ⟨S8x4096x4096, .f32⟩
  | 80 => ⟨S8x4096x4096, .f32⟩
  | 81 => ⟨S_, .f32⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .i1⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S_, .f32⟩
  | 96 => ⟨S8x4096x4096, .f32⟩
  | 97 => ⟨S8x4096x4096, .i1⟩
  | 98 => ⟨S_, .f32⟩
  | 99 => ⟨S8x4096x4096, .f32⟩
  | 100 => ⟨S8x4096x4096, .f32⟩
  | 101 => ⟨S_, .f32⟩
  | 102 => ⟨S8x4096x4096, .f32⟩
  | 103 => ⟨S8x4096x4096, .i1⟩
  | 104 => ⟨S_, .f32⟩
  | 105 => ⟨S8x4096x4096, .f32⟩
  | 106 => ⟨S8x4096x4096, .f32⟩
  | 107 => ⟨S8x4096x4096, .f32⟩
  | 108 => ⟨S8x4096x4096, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S8x4096x4096, .f32⟩
  | 117 => ⟨S8x4096x4096, .i1⟩
  | 118 => ⟨S_, .f32⟩
  | 119 => ⟨S8x4096x4096, .f32⟩
  | 120 => ⟨S8x4096x4096, .f32⟩
  | 121 => ⟨S8x4096x4096, .f32⟩
  | 122 => ⟨S8x4096x4096, .f32⟩
  | 123 => ⟨S8x4096x4096, .f32⟩
  | 124 => ⟨S_, .f32⟩
  | 125 => ⟨S8x4096x4096, .f32⟩
  | 126 => ⟨S8x4096x4096, .f32⟩
  | 127 => ⟨S8x4096x4096, .f32⟩
  | _ => ⟨S4096x3072, .f32⟩

abbrev hbmTy0_1 (i : Nat) : BufTy := match i % 128 with
  | 0 => ⟨S8x4096x4096, .f32⟩
  | 1 => ⟨S8x4096x4096, .f32⟩
  | 2 => ⟨S_, .f32⟩
  | 3 => ⟨S_, .f32⟩
  | 4 => ⟨S8x4096x4096, .i1⟩
  | 5 => ⟨S8x4096x4096, .f32⟩
  | 6 => ⟨S8x4096x4096, .f32⟩
  | 7 => ⟨S_, .f32⟩
  | 8 => ⟨S8x4096x4096, .f32⟩
  | 9 => ⟨S8x128x4096, .f32⟩
  | 10 => ⟨S4096x8x128, .f32⟩
  | 11 => ⟨S4096x1024, .f32⟩
  | 12 => ⟨S4096x8x128, .f32⟩
  | 13 => ⟨S8x128x4096, .f32⟩
  | 14 => ⟨S8x4096x4096, .f32⟩
  | 15 => ⟨S8x128x4096, .f32⟩
  | 16 => ⟨S4096x8x128, .f32⟩
  | 17 => ⟨S_, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S_, .f32⟩
  | 26 => ⟨S_, .f32⟩
  | 27 => ⟨S8x4096x4096, .f32⟩
  | 28 => ⟨S8x4096x4096, .f32⟩
  | 29 => ⟨S_, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .f32⟩
  | 40 => ⟨S8x4096x128, .f32⟩
  | 41 => ⟨S4096x8x128, .f32⟩
  | 42 => ⟨S8x4096x128, .f32⟩
  | 43 => ⟨S4096x8x128, .f32⟩
  | 44 => ⟨S4096x1024, .f32⟩
  | 45 => ⟨S4096x1024, .f32⟩
  | 46 => ⟨S4096x1024, .f32⟩
  | 47 => ⟨S4096x3072, .f32⟩
  | 48 => ⟨S4096x1024, .f32⟩
  | 49 => ⟨S4096x1024, .f32⟩
  | 50 => ⟨S4096x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S4x4096x1024, .f32⟩
  | 56 => ⟨S4x4096x1024, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v17_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v17_2 : Ref sig .tc := ⟨.hbm, 67, rfl⟩
abbrev main_v17_0 : Ref sig .tc := ⟨.hbm, 68, rfl⟩
abbrev main_cst_0 : Ref sig .tc := ⟨.hbm, 69, rfl⟩
abbrev main_call1_v0 : Ref sig .tc := ⟨.hbm, 70, rfl⟩
abbrev main_v18_1 : Ref sig .tc := ⟨.hbm, 71, rfl⟩
abbrev main_call1_v2 : Ref sig .tc := ⟨.hbm, 72, rfl⟩
abbrev main_v18_0 : Ref sig .tc := ⟨.hbm, 73, rfl⟩
abbrev main_call1_cst : Ref sig .tc := ⟨.hbm, 74, rfl⟩
abbrev main_v18_2 : Ref sig .tc := ⟨.hbm, 75, rfl⟩
abbrev main_call2_cst : Ref sig .tc := ⟨.hbm, 76, rfl⟩
abbrev main_call2_v0 : Ref sig .tc := ⟨.hbm, 77, rfl⟩
abbrev main_v19 : Ref sig .tc := ⟨.hbm, 78, rfl⟩
abbrev main_v20 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v21_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v21_2 : Ref sig .tc := ⟨.hbm, 126, rfl⟩
abbrev main_v21_0 : Ref sig .tc := ⟨.hbm, 127, rfl⟩
abbrev main_v22 : Ref sig .tc := ⟨.hbm, 128, rfl⟩
abbrev main_v23 : Ref sig .tc := ⟨.hbm, 129, rfl⟩
abbrev main_cst_1 : Ref sig .tc := ⟨.hbm, 130, rfl⟩
abbrev main_call4_v0 : Ref sig .tc := ⟨.hbm, 131, rfl⟩
abbrev main_v24_1 : Ref sig .tc := ⟨.hbm, 132, rfl⟩
abbrev main_call4_v2 : Ref sig .tc := ⟨.hbm, 133, rfl⟩
abbrev main_v24_0 : Ref sig .tc := ⟨.hbm, 134, rfl⟩
abbrev main_call4_cst : Ref sig .tc := ⟨.hbm, 135, rfl⟩
abbrev main_v24_2 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_call5_cst : Ref sig .tc := ⟨.hbm, 145, rfl⟩
abbrev main_call5_v0 : Ref sig .tc := ⟨.hbm, 146, rfl⟩
abbrev main_v33 : Ref sig .tc := ⟨.hbm, 147, rfl⟩
abbrev main_v34 : Ref sig .tc := ⟨.hbm, 148, rfl⟩
abbrev main_call6_v0 : Ref sig .tc := ⟨.hbm, 149, rfl⟩
abbrev main_call6_v1 : Ref sig .tc := ⟨.hbm, 150, rfl⟩
abbrev main_v35 : Ref sig .tc := ⟨.hbm, 151, rfl⟩
abbrev main_v36 : Ref sig .tc := ⟨.hbm, 152, rfl⟩
abbrev main_call7_cst : Ref sig .tc := ⟨.hbm, 153, rfl⟩
abbrev main_call7_v0 : Ref sig .tc := ⟨.hbm, 154, rfl⟩
abbrev main_v37 : Ref sig .tc := ⟨.hbm, 155, rfl⟩
abbrev main_v38 : Ref sig .tc := ⟨.hbm, 156, rfl⟩
abbrev main_call8_cst : Ref sig .tc := ⟨.hbm, 157, rfl⟩
abbrev main_call8_v0 : Ref sig .tc := ⟨.hbm, 158, rfl⟩
abbrev main_v39 : Ref sig .tc := ⟨.hbm, 159, rfl⟩
abbrev main_call9_v0 : Ref sig .tc := ⟨.hbm, 160, rfl⟩
abbrev main_call9_v1 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_cst_2 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩

abbrev nD : Nat := 1
abbrev τ : Topo := Topo.v7x

variable {F : FTy → Type} [FloatOps F]
-- ==== Dh1.lean ====
abbrev S4096x2048 : Shape := ⟨2, ![4096, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S4096x8192 : Shape := ⟨2, ![4096, 8192]⟩
abbrev S_ : Shape := ⟨0, ![]⟩
abbrev S2048x2048 : Shape := ⟨2, ![2048, 2048]⟩
abbrev S2048x8x1024 : Shape := ⟨3, ![2048, 8, 1024]⟩
abbrev S8x2048x1024 : Shape := ⟨3, ![8, 2048, 1024]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩
abbrev S2048 : Shape := ⟨1, ![2048]⟩

abbrev nBuf : Space → Nat
  | .hbm => 22
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x8192, .f32⟩
  | .hbm, ⟨6, _⟩ => ⟨S4096x8192, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S4096x2048, .f32⟩
  | .hbm, ⟨14, _⟩ => ⟨S2048x8x1024, .f32⟩
  | .hbm, ⟨15, _⟩ => ⟨S8x2048x1024, .f32⟩
  | .hbm, ⟨16, _⟩ => ⟨S8x2048x1024, .bf16⟩
  | .hbm, ⟨17, _⟩ => ⟨S4096x8192, .bf16⟩
  | .hbm, ⟨18, _⟩ => ⟨S4096x2048, .f32⟩
  | .hbm, ⟨19, _⟩ => ⟨S4096x2048, .bf16⟩
  | .hbm, ⟨20, _⟩ => ⟨S1x2048, .f32⟩
  | .hbm, ⟨21, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_12 : BitVec 32 := 0#32
  let v17 : BitVec 1 := Scalar.cmpi .eq arg0 c0_i32_12
  let v67 : BitVec 32 := Scalar.extui v17
  let c0_i32_35 : BitVec 32 := 0#32
  let v68 : BitVec 1 := Scalar.cmpi .ne v67 c0_i32_35
  v68

def k0_cond4 (i : grid0.Coords) : BitVec 1 :=
  let arg0 : BitVec 32 := BitVec.ofNat 32 (i 0).val
  let c0_i32_12 : BitVec 32 := 0#32
  let v17 : BitVec 1 := Scalar.cmpi .eq arg0 c0_i32_12
  let v_true : BitVec 1 := 1#1
  let v69 : BitVec 1 := Scalar.xori v17 v_true
  let v70 : BitVec 32 := Scalar.extui v69
  let c0_i32_36 : BitVec 32 := 0#32
  let v71 : BitVec 1 := Scalar.cmpi .ne v70 c0_i32_36
  v71

def k0_cond5 (i : grid0.Coords) : BitVec 1 :=
  let arg0 : BitVec 32 := BitVec.ofNat 32 (i 0).val
  let c0_i32_12 : BitVec 32 := 0#32
  let v17 : BitVec 1 := Scalar.cmpi .eq arg0 c0_i32_12
  let v72 : BitVec 32 := Scalar.extui v17
  let c0_i32_37 : BitVec 32 := 0#32
  let v73 : BitVec 1 := Scalar.cmpi .ne v72 c0_i32_37
  v73

def k0_cond6 (i : grid0.Coords) : BitVec 1 :=
  let arg0 : BitVec 32 := BitVec.ofNat 32 (i 0).val
  let c0_i32_12 : BitVec 32 := 0#32
  let v17 : BitVec 1 := Scalar.cmpi .eq arg0 c0_i32_12
  let true_38 : BitVec 1 := 1#1
  let v74 : BitVec 1 := Scalar.xori v17 true_38
  let v75 : BitVec 32 := Scalar.extui v74
  let c0_i32_39 : BitVec 32 := 0#32
  let v76 : BitVec 1 := Scalar.cmpi .ne v75 c0_i32_39
  v76

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== RefDh1Ideal.lean ====
abbrev S4096x2048 : Shape := ⟨2, ![4096, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S4096x8192 : Shape := ⟨2, ![4096, 8192]⟩
abbrev S_ : Shape := ⟨0, ![]⟩
abbrev S2048x2048 : Shape := ⟨2, ![2048, 2048]⟩
abbrev S2048 : Shape := ⟨1, ![2048]⟩
abbrev S4096 : Shape := ⟨1, ![4096]⟩
abbrev S4096x1 : Shape := ⟨2, ![4096, 1]⟩
abbrev S2048x8192 : Shape := ⟨2, ![2048, 8192]⟩

abbrev nBuf : Space → Nat
  | .hbm => 109
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S1x2048x8192, .f32⟩
  | .hbm, ⟨6, _⟩ => ⟨S4096x8192, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S4096x2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S2048x8192, .f32⟩
  | .hbm, ⟨53, _⟩ => ⟨S4096x8192, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S_, .f32⟩
  | .hbm, ⟨66, _⟩ => ⟨S2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x2048, .f32⟩
  | .hbm, ⟨80, _⟩ => ⟨S4096x2048, .f32⟩
  | .hbm, ⟨81, _⟩ => ⟨S4096x1, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x2048, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x2048, .f32⟩
  | .hbm, ⟨105, _⟩ => ⟨S4096x2048, .f32⟩
  | .hbm, ⟨106, _⟩ => ⟨S4096x2048, .bf16⟩
  | .hbm, ⟨107, _⟩ => ⟨S1x2048, .f32⟩
  | .hbm, ⟨108, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Ff2.lean ====
abbrev S4096x2048 : Shape := ⟨2, ![4096, 2048]⟩
abbrev S4096x8192 : Shape := ⟨2, ![4096, 8192]⟩
abbrev S1x8192x2048 : Shape := ⟨3, ![1, 8192, 2048]⟩
abbrev S1x2048 : Shape := ⟨2, ![1, 2048]⟩
abbrev S8x1024x2048 : Shape := ⟨3, ![8, 1024, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S2048 : Shape := ⟨1, ![2048]⟩

abbrev nBuf : Space → Nat
  | .hbm => 16
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x8192, .bf16⟩
  | .hbm, ⟨8, _⟩ => ⟨S8x1024x2048, .f32⟩
  | .hbm, ⟨9, _⟩ => ⟨S8x1024x2048, .bf16⟩
  | .hbm, ⟨10, _⟩ => ⟨S4096x2048, .f32⟩
  | .hbm, ⟨11, _⟩ => ⟨S4096x2048, .bf16⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_12 : BitVec 32 := 0#32
  let v17 : BitVec 1 := Scalar.cmpi .eq arg0 c0_i32_12
  let v78 : BitVec 32 := Scalar.extui v17
  let c0_i32_42 : BitVec 32 := 0#32
  let v79 : BitVec 1 := Scalar.cmpi .ne v78 c0_i32_42
  v79

def k0_cond4 (i : grid0.Coords) : BitVec 1 :=
  let arg0 : BitVec 32 := BitVec.ofNat 32 (i 0).val
  let c0_i32_12 : BitVec 32 := 0#32
  let v17 : BitVec 1 := Scalar.cmpi .eq arg0 c0_i32_12
  let v_true : BitVec 1 := 1#1
  let v80 : BitVec 1 := Scalar.xori v17 v_true
  let v81 : BitVec 32 := Scalar.extui v80
  let c0_i32_43 : BitVec 32 := 0#32
  let v82 : BitVec 1 := Scalar.cmpi .ne v81 c0_i32_43
  v82

def k0_cond5 (i : grid0.Coords) : BitVec 1 :=
  let arg0 : BitVec 32 := BitVec.ofNat 32 (i 0).val
  let c0_i32_12 : BitVec 32 := 0#32
  let v17 : BitVec 1 := Scalar.cmpi .eq arg0 c0_i32_12
  let v83 : BitVec 32 := Scalar.extui v17
  let c0_i32_44 : BitVec 32 := 0#32
  let v84 : BitVec 1 := Scalar.cmpi .ne v83 c0_i32_44
  v84

def k0_cond6 (i : grid0.Coords) : BitVec 1 :=
  let arg0 : BitVec 32 := BitVec.ofNat 32 (i 0).val
  let c0_i32_12 : BitVec 32 := 0#32
  let v17 : BitVec 1 := Scalar.cmpi .eq arg0 c0_i32_12
  let true_45 : BitVec 1 := 1#1
  let v85 : BitVec 1 := Scalar.xori v17 true_45
  let v86 : BitVec 32 := Scalar.extui v85
  let c0_i32_46 : BitVec 32 := 0#32
  let v87 : BitVec 1 := Scalar.cmpi .ne v86 c0_i32_46
  v87

def k0_cond7 (i : grid0.Coords) : BitVec 1 :=
  let arg0 : BitVec 32 := BitVec.ofNat 32 (i 0).val
  let c0_i32_12 : BitVec 32 := 0#32
  let v17 : BitVec 1 := Scalar.cmpi .eq arg0 c0_i32_12
  let v90 : BitVec 32 := Scalar.extui v17
  let c0_i32_48 : BitVec 32 := 0#32
  let v91 : BitVec 1 := Scalar.cmpi .ne v90 c0_i32_48
  v91

def k0_cond8 (i : grid0.Coords) : BitVec 1 :=
  let arg0 : BitVec 32 := BitVec.ofNat 32 (i 0).val
  let c0_i32_12 : BitVec 32 := 0#32
  let v17 : BitVec 1 := Scalar.cmpi .eq arg0 c0_i32_12
  let true_49 : BitVec 1 := 1#1
  let v92 : BitVec 1 := Scalar.xori v17 true_49
  let v93 : BitVec 32 := Scalar.extui v92
  let c0_i32_50 : BitVec 32 := 0#32
  let v94 : BitVec 1 := Scalar.cmpi .ne v93 c0_i32_50
  v94

def k0_cond9 (i : grid0.Coords) : BitVec 1 :=
  let arg0 : BitVec 32 := BitVec.ofNat 32 (i 0).val
  let c0_i32_12 : BitVec 32 := 0#32
  let v17 : BitVec 1 := Scalar.cmpi .eq arg0 c0_i32_12
  let v100 : BitVec 32 := Scalar.extui v17
  let c0_i32_53 : BitVec 32 := 0#32
  let v101 : BitVec 1 := Scalar.cmpi .ne v100 c0_i32_53
  v101

def k0_cond10 (i : grid0.Coords) : BitVec 1 :=
  let arg0 : BitVec 32 := BitVec.ofNat 32 (i 0).val
  let c0_i32_12 : BitVec 32 := 0#32
  let v17 : BitVec 1 := Scalar.cmpi .eq arg0 c0_i32_12
  let true_54 : BitVec 1 := 1#1
  let v102 : BitVec 1 := Scalar.xori v17 true_54
  let v103 : BitVec 32 := Scalar.extui v102
  let c0_i32_55 : BitVec 32 := 0#32
  let v104 : BitVec 1 := Scalar.cmpi .ne v103 c0_i32_55
  v104

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== RefFf2Ideal.lean ====
abbrev S4096x2048 : Shape := ⟨2, ![4096, 2048]⟩
abbrev S4096x8192 : Shape := ⟨2, ![4096, 8192]⟩
abbrev S1x8192x2048 : Shape := ⟨3, ![1, 8192, 2048]⟩
abbrev S1x2048 : Shape := ⟨2, ![1, 2048]⟩
abbrev S8192x2048 : Shape := ⟨2, ![8192, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 140
  | .vmem => 0
  | .smem => 0
  | _ => 0

abbrev hbmTy0_0 (i : Nat) : BufTy := match i % 128 with
  | 0 => ⟨S4096x2048, .f32⟩
  | 1 => ⟨S4096x8192, .f32⟩
  | 2 => ⟨S1x8192x2048, .f32⟩
  | 3 => ⟨S1x2048, .f32⟩
  | 4 => ⟨S1x2048, .f32⟩
  | 5 => ⟨S1x2048, .f32⟩
  | 6 => ⟨S4096x2048, .f32⟩
  | 7 => ⟨S8192x2048, .f32⟩
  | 8 => ⟨S4096x2048, .f32⟩
  | 9 => ⟨S2048, .f32⟩
  | 10 => ⟨S2048, .f32⟩
  | 11 => ⟨S2048, .f32⟩
  | 12 => ⟨S_, .f32⟩
  | 13 => ⟨S4096x2048, .f32⟩
  | 14 => ⟨S4096x2048, .f32⟩
  | 15 => ⟨S1x2048, .f32⟩
  | 16 => ⟨S4096x2048, .f32⟩
  | 17 => ⟨S4096x2048, .f32⟩
  | 18 => ⟨S4096x2048, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x2048, .f32⟩
  | 26 => ⟨S4096x2048, .f32⟩
  | 27 => ⟨S4096x2048, .f32⟩
  | 28 => ⟨S_, .f32⟩
  | 29 => ⟨S4096x2048, .f32⟩
  | 30 => ⟨S4096x2048, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x2048, .f32⟩
  | 38 => ⟨S4096x2048, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x2048, .f32⟩
  | 48 => ⟨S4096x2048, .f32⟩
  | 49 => ⟨S1x2048, .f32⟩
  | 50 => ⟨S4096x2048, .f32⟩
  | 51 => ⟨S4096x2048, .f32⟩
  | 52 => ⟨S1x2048, .f32⟩
  | 53 => ⟨S4096x2048, .f32⟩
  | 54 => ⟨S4096x2048, .f32⟩
  | 55 => ⟨S4096x2048, .f32⟩
  | 56 => ⟨S4096x2048, .f32⟩
  | 57 => ⟨S_, .f32⟩
  | 58 => ⟨S4096x2048, .f32⟩
  | 59 => ⟨S4096x2048, .f32⟩
  | 60 => ⟨S_, .f32⟩
  | 61 => ⟨S4096, .f32⟩
  | 62 => ⟨S_, .f32⟩
  | 63 => ⟨S4096, .f32⟩
  | 64 => ⟨S4096, .f32⟩
  | 65 => ⟨S_, .f32⟩
  | 66 => ⟨S_, .f32⟩
  | 67 => ⟨S_, .f32⟩
  | 68 => ⟨S_, .f32⟩
  | 69 => ⟨S_, .f32⟩
  | 70 => ⟨S4096x2048, .f32⟩
  | 71 => ⟨S4096x2048, .f32⟩
  | 72 => ⟨S_, .f32⟩
  | 73 => ⟨S2048, .f32⟩
  | 74 => ⟨S_, .f32⟩
  | 75 => ⟨S2048, .f32⟩
  | 76 => ⟨S2048, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x2048, .f32⟩
  | 85 => ⟨S4096x2048, .f32⟩
  | 86 => ⟨S_, .f32⟩
  | 87 => ⟨S2048, .f32⟩
  | 88 => ⟨S1x2048, .f32⟩
  | 89 => ⟨S_, .f32⟩
  | 90 => ⟨S2048, .f32⟩
  | 91 => ⟨S4096x2048, .f32⟩
  | 92 => ⟨S_, .f32⟩
  | 93 => ⟨S2048, .f32⟩
  | 94 => ⟨S1x2048, .f32⟩
  | 95 => ⟨S4096x2048, .f32⟩
  | 96 => ⟨S4096x2048, .f32⟩
  | 97 => ⟨S_, .f32⟩
  | 98 => ⟨S2048, .f32⟩
  | 99 => ⟨S4096x2048, .f32⟩
  | 100 => ⟨S_, .f32⟩
  | 101 => ⟨S4096, .f32⟩
  | 102 => ⟨S4096x1, .f32⟩
  | 103 => ⟨S4096x2048, .f32⟩
  | 104 => ⟨S4096x2048, .f32⟩
  | 105 => ⟨S4096x1, .f32⟩
  | 106 => ⟨S4096x2048, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x2048, .f32⟩
  | 116 => ⟨S4096x2048, .f32⟩
  | 117 => ⟨S4096x2048, .f32⟩
  | 118 => ⟨S_, .f32⟩
  | 119 => ⟨S4096, .f32⟩
  | 120 => ⟨S4096x1, .f32⟩
  | 121 => ⟨S4096x2048, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x2048, .f32⟩

abbrev hbmTy0_1 (i : Nat) : BufTy := match i % 128 with
  | 0 => ⟨S4096x2048, .f32⟩
  | 1 => ⟨S4096x2048, .f32⟩
  | 2 => ⟨S_, .f32⟩
  | 3 => ⟨S2048, .f32⟩
  | 4 => ⟨S1x2048, .f32⟩
  | 5 => ⟨S_, .f32⟩
  | 6 => ⟨S2048, .f32⟩
  | 7 => ⟨S4096x2048, .bf16⟩
  | 8 => ⟨S1x2048, .f32⟩
  | 9 => ⟨S1x2048, .f32⟩
  | 10 => ⟨S1x2048, .f32⟩
  | 11 => ⟨S1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_cst_19 : Ref sig .tc := ⟨.hbm, 89, rfl⟩
abbrev main_v62 : Ref sig .tc := ⟨.hbm, 90, rfl⟩
abbrev main_v63 : Ref sig .tc := ⟨.hbm, 91, rfl⟩
abbrev main_cst_20 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_21 : Ref sig .tc := ⟨.hbm, 97, rfl⟩
abbrev main_v68 : Ref sig .tc := ⟨.hbm, 98, rfl⟩
abbrev main_v69 : Ref sig .tc := ⟨.hbm, 99, rfl⟩
abbrev main_cst_22 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_23 : Ref sig .tc := ⟨.hbm, 107, rfl⟩
abbrev main_v76 : Ref sig .tc := ⟨.hbm, 108, rfl⟩
abbrev main_v77 : Ref sig .tc := ⟨.hbm, 109, rfl⟩
abbrev main_cst_24 : Ref sig .tc := ⟨.hbm, 110, rfl⟩
abbrev main_v78 : Ref sig .tc := ⟨.hbm, 111, rfl⟩
abbrev main_v79 : Ref sig .tc := ⟨.hbm, 112, rfl⟩
abbrev main_cst_25 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_26 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_27 : Ref sig .tc := ⟨.hbm, 123, rfl⟩
abbrev main_v88 : Ref sig .tc := ⟨.hbm, 124, rfl⟩
abbrev main_v89 : Ref sig .tc := ⟨.hbm, 125, rfl⟩
abbrev main_cst_28 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_29 : Ref sig .tc := ⟨.hbm, 130, rfl⟩
abbrev main_v93 : Ref sig .tc := ⟨.hbm, 131, rfl⟩
abbrev main_v94 : Ref sig .tc := ⟨.hbm, 132, rfl⟩
abbrev main_cst_30 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]
-- ==== Dff1.lean ====
abbrev S4096x2048 : Shape := ⟨2, ![4096, 2048]⟩
abbrev S1x2048x8192 : Shape := ⟨3, ![1, 2048, 8192]⟩
abbrev S1x8192 : Shape := ⟨2, ![1, 8192]⟩
abbrev S1x8192x2048 : Shape := ⟨3, ![1, 8192, 2048]⟩
abbrev S2048x8192 : Shape := ⟨2, ![2048, 8192]⟩
abbrev S4096x8192 : Shape := ⟨2, ![4096, 8192]⟩
abbrev S8x1024x2048 : Shape := ⟨3, ![8, 1024, 2048]⟩
abbrev S1024x2048 : Shape := ⟨2, ![1024, 2048]⟩
abbrev S1x1024x2048 : Shape := ⟨3, ![1, 1024, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 14
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048x8192, .f32⟩
  | .hbm, ⟨2, _⟩ => ⟨S1x8192, .f32⟩
  | .hbm, ⟨3, _⟩ => ⟨S1x8192x2048, .f32⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .bf16⟩
  | .hbm, ⟨10, _⟩ => ⟨S8x1024x2048, .f32⟩
  | .hbm, ⟨11, _⟩ => ⟨S8x1024x2048, .bf16⟩
  | .hbm, ⟨12, _⟩ => ⟨S4096x8192, .bf16⟩
  | .hbm, ⟨13, _⟩ => ⟨S1x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v17 : BitVec 32 := Scalar.extui v14
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32 : BitVec 32 := 0#32
  let v14 : BitVec 1 := Scalar.cmpi .eq arg1 c0_i32
  let v_true : BitVec 1 := 1#1
  let v19 : BitVec 1 := Scalar.xori v14 v_true
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== RefDff1Ideal.lean ====
abbrev S4096x2048 : Shape := ⟨2, ![4096, 2048]⟩
abbrev S1x2048x8192 : Shape := ⟨3, ![1, 2048, 8192]⟩
abbrev S1x8192 : Shape := ⟨2, ![1, 8192]⟩
abbrev S1x8192x2048 : Shape := ⟨3, ![1, 8192, 2048]⟩
abbrev S2048x8192 : Shape := ⟨2, ![2048, 8192]⟩
abbrev S4096x8192 : Shape := ⟨2, ![4096, 8192]⟩
abbrev S8192 : Shape := ⟨1, ![8192]⟩
abbrev S_ : Shape := ⟨0, ![]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x8192, .f32⟩
  | .hbm, ⟨2, _⟩ => ⟨S1x8192, .f32⟩
  | .hbm, ⟨3, _⟩ => ⟨S1x8192x2048, .f32⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .i1⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S8192x2048, .f32⟩
  | .hbm, ⟨24, _⟩ => ⟨S4096x2048, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S8192, .f32⟩
  | .hbm, ⟨32, _⟩ => ⟨S1x8192, .f32⟩
  | .hbm, ⟨33, _⟩ => ⟨S_, .f32⟩
  | .hbm, ⟨34, _⟩ => ⟨S8192, .f32⟩
  | .hbm, ⟨35, _⟩ => ⟨S4096x8192, .bf16⟩
  | .hbm, ⟨36, _⟩ => ⟨S1x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Pool.lean ====
abbrev S4096x1024 : Shape := ⟨2, ![4096, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S1x4096x4x256 : Shape := ⟨4, ![1, 4096, 4, 256]⟩
abbrev S_ : Shape := ⟨0, ![]⟩
abbrev S1x1x4x256 : Shape := ⟨4, ![1, 1, 4, 256]⟩
abbrev S1x4097x4x256 : Shape := ⟨4, ![1, 4097, 4, 256]⟩
abbrev S4096 : Shape := ⟨1, ![4096]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S1x4096x4x1 : Shape := ⟨4, ![1, 4096, 4, 1]⟩
abbrev S4x256x256 : Shape := ⟨3, ![4, 256, 256]⟩
abbrev S4x1x256 : Shape := ⟨3, ![4, 1, 256]⟩
abbrev S4096x256 : Shape := ⟨2, ![4096, 256]⟩
abbrev S1x256x256 : Shape := ⟨3, ![1, 256, 256]⟩
abbrev S1x1x256 : Shape := ⟨3, ![1, 1, 256]⟩
abbrev S4352x256 : Shape := ⟨2, ![4352, 256]⟩
abbrev S256x256 : Shape := ⟨2, ![256, 256]⟩
abbrev S1x256 : Shape := ⟨2, ![1, 256]⟩
abbrev S256x512 : Shape := ⟨2, ![256, 512]⟩
abbrev S256x1 : Shape := ⟨2, ![256, 1]⟩
abbrev S256 : Shape := ⟨1, ![256]⟩
abbrev S512x256 : Shape := ⟨2, ![512, 256]⟩

abbrev nBuf : Space → Nat
  | .hbm => 70
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x4x256x256, .f32⟩
  | .hbm, ⟨2, _⟩ => ⟨S1x4x256, .f32⟩
  | .hbm, ⟨3, _⟩ => ⟨S4096x1024, .f32⟩
  | .hbm, ⟨4, _⟩ => ⟨S1x4096x1024, .f32⟩
  | .hbm, ⟨5, _⟩ => ⟨S1x4096x4x256, .f32⟩
  | .hbm, ⟨6, _⟩ => ⟨S_, .f32⟩
  | .hbm, ⟨7, _⟩ => ⟨S1x1x4x256, .f32⟩
  | .hbm, ⟨8, _⟩ => ⟨S_, .f32⟩
  | .hbm, ⟨9, _⟩ => ⟨S_, .f32⟩
  | .hbm, ⟨10, _⟩ => ⟨S1x4096x4x256, .f32⟩
  | .hbm, ⟨11, _⟩ => ⟨S1x4097x4x256, .f32⟩
  | .hbm, ⟨12, _⟩ => ⟨S4096, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i32⟩
  | .hbm, ⟨21, _⟩ => ⟨S1x4, .i32⟩
  | .hbm, ⟨22, _⟩ => ⟨S4096x4, .i32⟩
  | .hbm, ⟨23, _⟩ => ⟨S4096x4, .i32⟩
  | .hbm, ⟨24, _⟩ => ⟨S4096x4, .i32⟩
  | .hbm, ⟨25, _⟩ => ⟨S_, .i32⟩
  | .hbm, ⟨26, _⟩ => ⟨S4096x4, .i32⟩
  | .hbm, ⟨27, _⟩ => ⟨S4096x4, .i32⟩
  | .hbm, ⟨28, _⟩ => ⟨S4096x1, .i32⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S4096x4, .i32⟩
  | .hbm, ⟨33, _⟩ => ⟨S4096x4, .i32⟩
  | .hbm, ⟨34, _⟩ => ⟨S4096x4, .f32⟩
  | .hbm, ⟨35, _⟩ => ⟨S4, .i32⟩
  | .hbm, ⟨36, _⟩ => ⟨S1x4, .i32⟩
  | .hbm, ⟨37, _⟩ => ⟨S_, .i32⟩
  | .hbm, ⟨38, _⟩ => ⟨S4096x4, .i32⟩
  | .hbm, ⟨39, _⟩ => ⟨S4096x4, .i1⟩
  | .hbm, ⟨40, _⟩ => ⟨S_, .i32⟩
  | .hbm, ⟨41, _⟩ => ⟨S4096x4, .i32⟩
  | .hbm, ⟨42, _⟩ => ⟨S4096x4, .i32⟩
  | .hbm, ⟨43, _⟩ => ⟨S4096x4, .i32⟩
  | .hbm, ⟨44, _⟩ => ⟨S_, .i32⟩
  | .hbm, ⟨45, _⟩ => ⟨S1x4, .i32⟩
  | .hbm, ⟨46, _⟩ => ⟨S1x4, .i1⟩
  | .hbm, ⟨47, _⟩ => ⟨S_, .i32⟩
  | .hbm, ⟨48, _⟩ => ⟨S1x4, .i32⟩
  | .hbm, ⟨49, _⟩ => ⟨S1x4, .i32⟩
  | .hbm, ⟨50, _⟩ => ⟨S1x4, .i32⟩
  | .hbm, ⟨51, _⟩ => ⟨S4096x4, .i32⟩
  | .hbm, ⟨52, _⟩ => ⟨S4096x4x1, .i32⟩
  | .hbm, ⟨53, _⟩ => ⟨S4096x4x1, .i32⟩
  | .hbm, ⟨54, _⟩ => ⟨S4096x4x2, .i32⟩
  | .hbm, ⟨55, _⟩ => ⟨S1x4096x4x256, .f32⟩
  | .hbm, ⟨56, _⟩ => ⟨S1x4096x4x256, .f32⟩
  | .hbm, ⟨57, _⟩ => ⟨S1x4096x4x256, .f32⟩
  | .hbm, ⟨58, _⟩ => ⟨S1x4096x4x1, .f32⟩
  | .hbm, ⟨59, _⟩ => ⟨S1x4096x4x256, .f32⟩
  | .hbm, ⟨60, _⟩ => ⟨S1x4096x4x256, .f32⟩
  | .hbm, ⟨61, _⟩ => ⟨S1x4096x4x256, .f32⟩
  | .hbm, ⟨62, _⟩ => ⟨S4096x1024, .f32⟩
  | .hbm, ⟨63, _⟩ => ⟨S4096x1024, .bf16⟩
  | .hbm, ⟨64, _⟩ => ⟨S4x256x256, .f32⟩
  | .hbm, ⟨65, _⟩ => ⟨S4x256x256, .bf16⟩
  | .hbm, ⟨66, _⟩ => ⟨S4x1x256, .f32⟩
  | .hbm, ⟨67, _⟩ => ⟨S4096x1024, .bf16⟩
  | .hbm, ⟨68, _⟩ => ⟨S4x256x256, .f32⟩
  | .hbm, ⟨69, _⟩ => ⟨S4x1x256, .f32⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1x256, .f32⟩
  | .local _ .vmem, ⟨7, _⟩ => ⟨S1x1x256, .f32⟩
  | .local _ .vmem, ⟨8, _⟩ => ⟨S4096x256, .bf16⟩
  | .local _ .vmem, ⟨9, _⟩ => ⟨S4096x256, .bf16⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S4352x256, .f32⟩
  | .local _ .vmem, ⟨15, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev main_v52_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

@[reducible] def k0_t1_loop : Scf.Loop 32 :=
  let c0_i32_14 : BitVec 32 := 0#32
  let c16_i32 : BitVec 32 := 16#32
  let v36 : BitVec 32 := Scalar.addi c0_i32_14 c16_i32
  let c1_i32_15 : BitVec 32 := 1#32
  ⟨c0_i32_14, v36, c1_i32_15⟩
def k0_mult1 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c256_i32 : BitVec 32 := 256#32
  let v38 : BitVec 32 := Scalar.muli arg10 c256_i32
  v38
def k0_off1 (k0_t1 : Fin k0_t1_loop.trips) : Fin 2 → Nat :=
  let c0_i32_14 : BitVec 32 := 0#32
  let c1_i32_15 : BitVec 32 := 1#32
  let arg10 : BitVec 32 := Scf.iv c0_i32_14 c1_i32_15 k0_t1
  let c256_i32 : BitVec 32 := 256#32
  let v38 : BitVec 32 := Scalar.muli arg10 c256_i32
  let v39 : BitVec 32 := v38
  let v40 : Index := Scalar.indexCast v39
  let c0_21 : Index := 0#32
  ![v40.toNat, 0]
def k0_off2 (k0_t1 : Fin k0_t1_loop.trips) : Fin 2 → Nat :=
  let c0_i32_14 : BitVec 32 := 0#32
  let c1_i32_15 : BitVec 32 := 1#32
  let arg10 : BitVec 32 := Scf.iv c0_i32_14 c1_i32_15 k0_t1
  let c256_i32 : BitVec 32 := 256#32
  let v38 : BitVec 32 := Scalar.muli arg10 c256_i32
  let v39 : BitVec 32 := v38
  let v84 : Index := Scalar.indexCast v39
  let c0_52 : Index := 0#32
  ![v84.toNat, 0]
@[reducible] def k0_t2_loop : Scf.Loop 32 :=
  let c0_i32_17 : BitVec 32 := 0#32
  let c16_i32_18 : BitVec 32 := 16#32
  let v37 : BitVec 32 := Scalar.addi c0_i32_17 c16_i32_18
  let c1_i32_19 : BitVec 32 := 1#32
  ⟨c0_i32_17, v37, c1_i32_19⟩
def k0_mult2 (k0_t2 : Fin k0_t2_loop.trips) : BitVec 32 :=
  let c0_i32_17 : BitVec 32 := 0#32
  let c1_i32_19 : BitVec 32 := 1#32
  let arg10 : BitVec 32 := Scf.iv c0_i32_17 c1_i32_19 k0_t2
  let c256_i32 : BitVec 32 := 256#32
  let v38 : BitVec 32 := Scalar.muli arg10 c256_i32
  v38
def k0_off3 (k0_t2 : Fin k0_t2_loop.trips) : Fin 2 → Nat :=
  let c0_i32_17 : BitVec 32 := 0#32
  let c1_i32_19 : BitVec 32 := 1#32
  let arg10 : BitVec 32 := Scf.iv c0_i32_17 c1_i32_19 k0_t2
  let c256_i32 : BitVec 32 := 256#32
  let v38 : BitVec 32 := Scalar.muli arg10 c256_i32
  let v39 : BitVec 32 := v38
  let v40 : Index := Scalar.indexCast v39
  let c0_21 : Index := 0#32
  ![v40.toNat, 0]
def k0_off4 (k0_t2 : Fin k0_t2_loop.trips) : Fin 2 → Nat :=
  let c0_i32_17 : BitVec 32 := 0#32
  let c1_i32_19 : BitVec 32 := 1#32
  let arg10 : BitVec 32 := Scf.iv c0_i32_17 c1_i32_19 k0_t2
  let c256_i32 : BitVec 32 := 256#32
  let v38 : BitVec 32 := Scalar.muli arg10 c256_i32
  let v39 : BitVec 32 := v38
  let v54 : Index := Scalar.indexCast v39
  let c0_25 : Index := 0#32
  ![v54.toNat, 0]
def k0_cond2 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_9 : BitVec 32 := 0#32
  let v21 : BitVec 1 := Scalar.cmpi .ne v20 c0_i32_9
  v21

@[reducible] def k0_t3_loop : Scf.Loop 32 :=
  let c0_i32_13 : BitVec 32 := 0#32
  let c16_i32 : BitVec 32 := 16#32
  let v36 : BitVec 32 := Scalar.addi c0_i32_13 c16_i32
  let c1_i32_14 : BitVec 32 := 1#32
  ⟨c0_i32_13, v36, c1_i32_14⟩
def k0_mult3 (k0_t3 : Fin k0_t3_loop.trips) : BitVec 32 :=
  let c0_i32_13 : BitVec 32 := 0#32
  let c1_i32_14 : BitVec 32 := 1#32
  let arg10 : BitVec 32 := Scf.iv c0_i32_13 c1_i32_14 k0_t3
  let c256_i32 : BitVec 32 := 256#32
  let v38 : BitVec 32 := Scalar.muli arg10 c256_i32
  v38
def k0_off5 (k0_t3 : Fin k0_t3_loop.trips) : Fin 2 → Nat :=
  let c0_i32_13 : BitVec 32 := 0#32
  let c1_i32_14 : BitVec 32 := 1#32
  let arg10 : BitVec 32 := Scf.iv c0_i32_13 c1_i32_14 k0_t3
  let c256_i32 : BitVec 32 := 256#32
  let v38 : BitVec 32 := Scalar.muli arg10 c256_i32
  let v39 : BitVec 32 := v38
  let v40 : Index := Scalar.indexCast v39
  let c0_20 : Index := 0#32
  ![v40.toNat, 0]
def k0_off6 (k0_t3 : Fin k0_t3_loop.trips) : Fin 2 → Nat :=
  let c0_i32_13 : BitVec 32 := 0#32
  let c1_i32_14 : BitVec 32 := 1#32
  let arg10 : BitVec 32 := Scf.iv c0_i32_13 c1_i32_14 k0_t3
  let c256_i32 : BitVec 32 := 256#32
  let v38 : BitVec 32 := Scalar.muli arg10 c256_i32
  let v39 : BitVec 32 := v38
  let v84 : Index := Scalar.indexCast v39
  let c0_51 : Index := 0#32
  ![v84.toNat, 0]
@[reducible] def k0_t4_loop : Scf.Loop 32 :=
  let c0_i32_16 : BitVec 32 := 0#32
  let c16_i32_17 : BitVec 32 := 16#32
  let v37 : BitVec 32 := Scalar.addi c0_i32_16 c16_i32_17
  let c1_i32_18 : BitVec 32 := 1#32
  ⟨c0_i32_16, v37, c1_i32_18⟩
def k0_mult4 (k0_t4 : Fin k0_t4_loop.trips) : BitVec 32 :=
  let c0_i32_16 : BitVec 32 := 0#32
  let c1_i32_18 : BitVec 32 := 1#32
  let arg10 : BitVec 32 := Scf.iv c0_i32_16 c1_i32_18 k0_t4
  let c256_i32 : BitVec 32 := 256#32
  let v38 : BitVec 32 := Scalar.muli arg10 c256_i32
  v38
def k0_off7 (k0_t4 : Fin k0_t4_loop.trips) : Fin 2 → Nat :=
  let c0_i32_16 : BitVec 32 := 0#32
  let c1_i32_18 : BitVec 32 := 1#32
  let arg10 : BitVec 32 := Scf.iv c0_i32_16 c1_i32_18 k0_t4
  let c256_i32 : BitVec 32 := 256#32
  let v38 : BitVec 32 := Scalar.muli arg10 c256_i32
  let v39 : BitVec 32 := v38
  let v40 : Index := Scalar.indexCast v39
  let c0_20 : Index := 0#32
  ![v40.toNat, 0]
def k0_off8 (k0_t4 : Fin k0_t4_loop.trips) : Fin 2 → Nat :=
  let c0_i32_16 : BitVec 32 := 0#32
  let c1_i32_18 : BitVec 32 := 1#32
  let arg10 : BitVec 32 := Scf.iv c0_i32_16 c1_i32_18 k0_t4
  let c256_i32 : BitVec 32 := 256#32
  let v38 : BitVec 32 := Scalar.muli arg10 c256_i32
  let v39 : BitVec 32 := v38
  let v54 : Index := Scalar.indexCast v39
  let c0_24 : Index := 0#32
  ![v54.toNat, 0]
def k0_cond3 (i : grid0.Coords) : BitVec 1 :=
  let arg0 : BitVec 32 := BitVec.ofNat 32 (i 0).val
  let c2_i32 : BitVec 32 := 2#32
  let v22 : BitVec 1 := Scalar.cmpi .eq arg0 c2_i32
  let v23 : BitVec 32 := Scalar.extui v22
  let c0_i32_10 : BitVec 32 := 0#32
  let v24 : BitVec 1 := Scalar.cmpi .ne v23 c0_i32_10
  v24

@[reducible] def k0_t5_loop : Scf.Loop 32 :=
  let c0_i32_13 : BitVec 32 := 0#32
  let c16_i32 : BitVec 32 := 16#32
  let v36 : BitVec 32 := Scalar.addi c0_i32_13 c16_i32
  let c1_i32_14 : BitVec 32 := 1#32
  ⟨c0_i32_13, v36, c1_i32_14⟩
def k0_mult5 (k0_t5 : Fin k0_t5_loop.trips) : BitVec 32 :=
  let c0_i32_13 : BitVec 32 := 0#32
  let c1_i32_14 : BitVec 32 := 1#32
  let arg10 : BitVec 32 := Scf.iv c0_i32_13 c1_i32_14 k0_t5
  let c256_i32 : BitVec 32 := 256#32
  let v38 : BitVec 32 := Scalar.muli arg10 c256_i32
  v38
def k0_off9 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c256_i32 : BitVec 32 := 256#32
  let v38 : BitVec 32 := Scalar.muli arg10 c256_i32
  let v39 : BitVec 32 := v38
  let v40 : Index := Scalar.indexCast v39
  let c0_20 : Index := 0#32
  ![v40.toNat, 0]
def k0_off10 (k0_t5 : Fin k0_t5_loop.trips) : Fin 2 → Nat :=
  let c0_i32_13 : BitVec 32 := 0#32
  let c1_i32_14 : BitVec 32 := 1#32
  let arg10 : BitVec 32 := Scf.iv c0_i32_13 c1_i32_14 k0_t5
  let c256_i32 : BitVec 32 := 256#32
  let v38 : BitVec 32 := Scalar.muli arg10 c256_i32
  let v39 : BitVec 32 := v38
  let v84 : Index := Scalar.indexCast v39
  let c0_51 : Index := 0#32
  ![v84.toNat, 0]
@[reducible] def k0_t6_loop : Scf.Loop 32 :=
  let c0_i32_16 : BitVec 32 := 0#32
  let c16_i32_17 : BitVec 32 := 16#32
  let v37 : BitVec 32 := Scalar.addi c0_i32_16 c16_i32_17
  let c1_i32_18 : BitVec 32 := 1#32
  ⟨c0_i32_16, v37, c1_i32_18⟩
def k0_mult6 (k0_t6 : Fin k0_t6_loop.trips) : BitVec 32 :=
  let c0_i32_16 : BitVec 32 := 0#32
  let c1_i32_18 : BitVec 32 := 1#32
  let arg10 : BitVec 32 := Scf.iv c0_i32_16 c1_i32_18 k0_t6
  let c256_i32 : BitVec 32 := 256#32
  let v38 : BitVec 32 := Scalar.muli arg10 c256_i32
  v38
def k0_off11 (k0_t6 : Fin k0_t6_loop.trips) : Fin 2 → Nat :=
  let c0_i32_16 : BitVec 32 := 0#32
  let c1_i32_18 : BitVec 32 := 1#32
  let arg10 : BitVec 32 := Scf.iv c0_i32_16 c1_i32_18 k0_t6
  let c256_i32 : BitVec 32 := 256#32
  let v38 : BitVec 32 := Scalar.muli arg10 c256_i32
  let v39 : BitVec 32 := v38
  let v40 : Index := Scalar.indexCast v39
  let c0_20 : Index := 0#32
  ![v40.toNat, 0]
def k0_off12 (k0_t6 : Fin k0_t6_loop.trips) : Fin 2 → Nat :=
  let c0_i32_16 : BitVec 32 := 0#32
  let c1_i32_18 : BitVec 32 := 1#32
  let arg10 : BitVec 32 := Scf.iv c0_i32_16 c1_i32_18 k0_t6
  let c256_i32 : BitVec 32 := 256#32
  let v38 : BitVec 32 := Scalar.muli arg10 c256_i32
  let v39 : BitVec 32 := v38
  let v54 : Index := Scalar.indexCast v39
  let c0_24 : Index := 0#32
  ![v54.toNat, 0]
def k0_cond4 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_11 : BitVec 32 := 0#32
  let v27 : BitVec 1 := Scalar.cmpi .ne v26 c0_i32_11
  v27

@[reducible] def k0_t7_loop : Scf.Loop 32 :=
  let c0_i32_13 : BitVec 32 := 0#32
  let c16_i32_14 : BitVec 32 := 16#32
  let v36 : BitVec 32 := Scalar.addi c0_i32_13 c16_i32_14
  let c1_i32_15 : BitVec 32 := 1#32
  ⟨c0_i32_13, v36, c1_i32_15⟩
def k0_mult7 (k0_t7 : Fin k0_t7_loop.trips) : BitVec 32 :=
  let c0_i32_13 : BitVec 32 := 0#32
  let c1_i32_15 : BitVec 32 := 1#32
  let arg10 : BitVec 32 := Scf.iv c0_i32_13 c1_i32_15 k0_t7
  let c256_i32 : BitVec 32 := 256#32
  let v38 : BitVec 32 := Scalar.muli arg10 c256_i32
  v38
def k0_off13 (k0_t7 : Fin k0_t7_loop.trips) : Fin 2 → Nat :=
  let c0_i32_13 : BitVec 32 := 0#32
  let c1_i32_15 : BitVec 32 := 1#32
  let arg10 : BitVec 32 := Scf.iv c0_i32_13 c1_i32_15 k0_t7
  let c256_i32 : BitVec 32 := 256#32
  let v38 : BitVec 32 := Scalar.muli arg10 c256_i32
  let v39 : BitVec 32 := v38
  let v40 : Index := Scalar.indexCast v39
  let c0_21 : Index := 0#32
  ![v40.toNat, 0]
def k0_off14 (k0_t7 : Fin k0_t7_loop.trips) : Fin 2 → Nat :=
  let c0_i32_13 : BitVec 32 := 0#32
  let c1_i32_15 : BitVec 32 := 1#32
  let arg10 : BitVec 32 := Scf.iv c0_i32_13 c1_i32_15 k0_t7
  let c256_i32 : BitVec 32 := 256#32
  let v38 : BitVec 32 := Scalar.muli arg10 c256_i32
  let v39 : BitVec 32 := v38
  let v84 : Index := Scalar.indexCast v39
  let c0_52 : Index := 0#32
  ![v84.toNat, 0]
@[reducible] def k0_t8_loop : Scf.Loop 32 :=
  let c0_i32_17 : BitVec 32 := 0#32
  let c16_i32_18 : BitVec 32 := 16#32
  let v37 : BitVec 32 := Scalar.addi c0_i32_17 c16_i32_18
  let c1_i32_19 : BitVec 32 := 1#32
  ⟨c0_i32_17, v37, c1_i32_19⟩
def k0_mult8 (k0_t8 : Fin k0_t8_loop.trips) : BitVec 32 :=
  let c0_i32_17 : BitVec 32 := 0#32
  let c1_i32_19 : BitVec 32 := 1#32
  let arg10 : BitVec 32 := Scf.iv c0_i32_17 c1_i32_19 k0_t8
  let c256_i32 : BitVec 32 := 256#32
  let v38 : BitVec 32 := Scalar.muli arg10 c256_i32
  v38
def k0_off15 (k0_t8 : Fin k0_t8_loop.trips) : Fin 2 → Nat :=
  let c0_i32_17 : BitVec 32 := 0#32
  let c1_i32_19 : BitVec 32 := 1#32
  let arg10 : BitVec 32 := Scf.iv c0_i32_17 c1_i32_19 k0_t8
  let c256_i32 : BitVec 32 := 256#32
  let v38 : BitVec 32 := Scalar.muli arg10 c256_i32
  let v39 : BitVec 32 := v38
  let v40 : Index := Scalar.indexCast v39
  let c0_21 : Index := 0#32
  ![v40.toNat, 0]
def k0_off16 (k0_t8 : Fin k0_t8_loop.trips) : Fin 2 → Nat :=
  let c0_i32_17 : BitVec 32 := 0#32
  let c1_i32_19 : BitVec 32 := 1#32
  let arg10 : BitVec 32 := Scf.iv c0_i32_17 c1_i32_19 k0_t8
  let c256_i32 : BitVec 32 := 256#32
  let v38 : BitVec 32 := Scalar.muli arg10 c256_i32
  let v39 : BitVec 32 := v38
  let v54 : Index := Scalar.indexCast v39
  let c0_25 : Index := 0#32
  ![v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefPoolIdeal.lean ====
abbrev S4096x1024 : Shape := ⟨2, ![4096, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S4x256x256 : Shape := ⟨3, ![4, 256, 256]⟩
abbrev S4x256 : Shape := ⟨2, ![4, 256]⟩
abbrev S1x4096x4x256 : Shape := ⟨4, ![1, 4096, 4, 256]⟩
abbrev S_ : Shape := ⟨0, ![]⟩
abbrev S1x1x4x256 : Shape := ⟨4, ![1, 1, 4, 256]⟩
abbrev S1x4097x4x256 : Shape := ⟨4, ![1, 4097, 4, 256]⟩
abbrev S4096 : Shape := ⟨1, ![4096]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S1x4096x4x1 : Shape := ⟨4, ![1, 4096, 4, 1]⟩
abbrev S4x256x1x4096 : Shape := ⟨4, ![4, 256, 1, 4096]⟩
abbrev S4x1x4096x256 : Shape := ⟨4, ![4, 1, 4096, 256]⟩
abbrev S4x1x256 : Shape := ⟨3, ![4, 1, 256]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4x256x256, .f32⟩
  | .hbm, ⟨2, _⟩ => ⟨S1x4x256, .f32⟩
  | .hbm, ⟨3, _⟩ => ⟨S4096x1024, .f32⟩
  | .hbm, ⟨4, _⟩ => ⟨S1x4096x1024, .f32⟩
  | .hbm, ⟨5, _⟩ => ⟨S4x256x256, .f32⟩
  | .hbm, ⟨6, _⟩ => ⟨S4x256, .f32⟩
  | .hbm, ⟨7, _⟩ => ⟨S1x4096x4x256, .f32⟩
  | .hbm, ⟨8, _⟩ => ⟨S_, .f32⟩
  | .hbm, ⟨9, _⟩ => ⟨S1x1x4x256, .f32⟩
  | .hbm, ⟨10, _⟩ => ⟨S_, .f32⟩
  | .hbm, ⟨11, _⟩ => ⟨S_, .f32⟩
  | .hbm, ⟨12, _⟩ => ⟨S1x4096x4x256, .f32⟩
  | .hbm, ⟨13, _⟩ => ⟨S1x4097x4x256, .f32⟩
  | .hbm, ⟨14, _⟩ => ⟨S_, .f32⟩
  | .hbm, ⟨15, _⟩ => ⟨S1x1x4x256, .f32⟩
  | .hbm, ⟨16, _⟩ => ⟨S4096, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i32⟩
  | .hbm, ⟨25, _⟩ => ⟨S1x4, .i32⟩
  | .hbm, ⟨26, _⟩ => ⟨S4096x4, .i32⟩
  | .hbm, ⟨27, _⟩ => ⟨S4096x4, .i32⟩
  | .hbm, ⟨28, _⟩ => ⟨S4096x4, .i32⟩
  | .hbm, ⟨29, _⟩ => ⟨S_, .i32⟩
  | .hbm, ⟨30, _⟩ => ⟨S4096x4, .i32⟩
  | .hbm, ⟨31, _⟩ => ⟨S4096x4, .i32⟩
  | .hbm, ⟨32, _⟩ => ⟨S4096x1, .i32⟩
  | .hbm, ⟨33, _⟩ => ⟨S_, .i32⟩
  | .hbm, ⟨34, _⟩ => ⟨S4096x1, .i32⟩
  | .hbm, ⟨35, _⟩ => ⟨S4096x1, .i32⟩
  | .hbm, ⟨36, _⟩ => ⟨S4096x4, .i32⟩
  | .hbm, ⟨37, _⟩ => ⟨S4096x4, .i32⟩
  | .hbm, ⟨38, _⟩ => ⟨S4096x4, .f32⟩
  | .hbm, ⟨39, _⟩ => ⟨S4, .i32⟩
  | .hbm, ⟨40, _⟩ => ⟨S1x4, .i32⟩
  | .hbm, ⟨41, _⟩ => ⟨S_, .i32⟩
  | .hbm, ⟨42, _⟩ => ⟨S4096x4, .i32⟩
  | .hbm, ⟨43, _⟩ => ⟨S4096x4, .i1⟩
  | .hbm, ⟨44, _⟩ => ⟨S_, .i32⟩
  | .hbm, ⟨45, _⟩ => ⟨S4096x4, .i32⟩
  | .hbm, ⟨46, _⟩ => ⟨S4096x4, .i32⟩
  | .hbm, ⟨47, _⟩ => ⟨S4096x4, .i32⟩
  | .hbm, ⟨48, _⟩ => ⟨S_, .i32⟩
  | .hbm, ⟨49, _⟩ => ⟨S1x4, .i32⟩
  | .hbm, ⟨50, _⟩ => ⟨S1x4, .i1⟩
  | .hbm, ⟨51, _⟩ => ⟨S_, .i32⟩
  | .hbm, ⟨52, _⟩ => ⟨S1x4, .i32⟩
  | .hbm, ⟨53, _⟩ => ⟨S1x4, .i32⟩
  | .hbm, ⟨54, _⟩ => ⟨S1x4, .i32⟩
  | .hbm, ⟨55, _⟩ => ⟨S4096x4, .i32⟩
  | .hbm, ⟨56, _⟩ => ⟨S4096x4x1, .i32⟩
  | .hbm, ⟨57, _⟩ => ⟨S4096x4x1, .i32⟩
  | .hbm, ⟨58, _⟩ => ⟨S4096x4x2, .i32⟩
  | .hbm, ⟨59, _⟩ => ⟨S1x4096x4x256, .f32⟩
  | .hbm, ⟨60, _⟩ => ⟨S1x4096x4x256, .f32⟩
  | .hbm, ⟨61, _⟩ => ⟨S1x4096x4x256, .f32⟩
  | .hbm, ⟨62, _⟩ => ⟨S1x4096x4x1, .f32⟩
  | .hbm, ⟨63, _⟩ => ⟨S1x4096x4x256, .f32⟩
  | .hbm, ⟨64, _⟩ => ⟨S1x4096x4x256, .f32⟩
  | .hbm, ⟨65, _⟩ => ⟨S1x4096x4x256, .f32⟩
  | .hbm, ⟨66, _⟩ => ⟨S4x256x1x4096, .f32⟩
  | .hbm, ⟨67, _⟩ => ⟨S1x4096x4x256, .f32⟩
  | .hbm, ⟨68, _⟩ => ⟨S1x1x4x256, .f32⟩
  | .hbm, ⟨69, _⟩ => ⟨S1x4096x4x256, .f32⟩
  | .hbm, ⟨70, _⟩ => ⟨S1x4096x4x256, .f32⟩
  | .hbm, ⟨71, _⟩ => ⟨S1x4096x1024, .f32⟩
  | .hbm, ⟨72, _⟩ => ⟨S1x4096x1024, .f32⟩
  | .hbm, ⟨73, _⟩ => ⟨S1x4096x4x256, .f32⟩
  | .hbm, ⟨74, _⟩ => ⟨S1x4096x4x256, .f32⟩
  | .hbm, ⟨75, _⟩ => ⟨S_, .f32⟩
  | .hbm, ⟨76, _⟩ => ⟨S1x4x256, .f32⟩
  | .hbm, ⟨77, _⟩ => ⟨S1x1x4x256, .f32⟩
  | .hbm, ⟨78, _⟩ => ⟨S1x4096x4x256, .f32⟩
  | .hbm, ⟨79, _⟩ => ⟨S1x4096x4x256, .f32⟩
  | .hbm, ⟨80, _⟩ => ⟨S_, .f32⟩
  | .hbm, ⟨81, _⟩ => ⟨S4x256, .f32⟩
  | .hbm, ⟨82, _⟩ => ⟨S4x256x1x4096, .f32⟩
  | .hbm, ⟨83, _⟩ => ⟨S4x1x4096x256, .f32⟩
  | .hbm, ⟨84, _⟩ => ⟨S1x4096x4x256, .f32⟩
  | .hbm, ⟨85, _⟩ => ⟨S4x256x256, .f32⟩
  | .hbm, ⟨86, _⟩ => ⟨S4x256x256, .f32⟩
  | .hbm, ⟨87, _⟩ => ⟨S1x4096x4x256, .f32⟩
  | .hbm, ⟨88, _⟩ => ⟨S1x4096x4x256, .f32⟩
  | .hbm, ⟨89, _⟩ => ⟨S1x4096x4x256, .f32⟩
  | .hbm, ⟨90, _⟩ => ⟨S1x4096x4x256, .f32⟩
  | .hbm, ⟨91, _⟩ => ⟨S_, .f32⟩
  | .hbm, ⟨92, _⟩ => ⟨S1x4097x4x256, .f32⟩
  | .hbm, ⟨93, _⟩ => ⟨S_, .f32⟩
  | .hbm, ⟨94, _⟩ => ⟨S1x4097x4x256, .f32⟩
  | .hbm, ⟨95, _⟩ => ⟨S1x4097x4x256, .f32⟩
  | .hbm, ⟨96, _⟩ => ⟨S1x4097x4x256, .f32⟩
  | .hbm, ⟨97, _⟩ => ⟨S1x1x4x256, .f32⟩
  | .hbm, ⟨98, _⟩ => ⟨S1x4096x4x256, .f32⟩
  | .hbm, ⟨99, _⟩ => ⟨S_, .f32⟩
  | .hbm, ⟨100, _⟩ => ⟨S_, .f32⟩
  | .hbm, ⟨101, _⟩ => ⟨S1x4096x4x256, .f32⟩
  | .hbm, ⟨102, _⟩ => ⟨S1x4096x4x256, .f32⟩
  | .hbm, ⟨103, _⟩ => ⟨S1x4096x1024, .f32⟩
  | .hbm, ⟨104, _⟩ => ⟨S4096x1024, .f32⟩
  | .hbm, ⟨105, _⟩ => ⟨S4096x1024, .bf16⟩
  | .hbm, ⟨106, _⟩ => ⟨S4x1x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call1_call0_cst : Ref sig .tc := ⟨.hbm, 99, rfl⟩
abbrev main_call1_call0_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Att.lean ====
abbrev S4096x3072 : Shape := ⟨2, ![4096, 3072]⟩
abbrev S4096x1024 : Shape := ⟨2, ![4096, 1024]⟩
abbrev S4096x512 : Shape := ⟨2, ![4096, 512]⟩
abbrev S256x256 : Shape := ⟨2, ![256, 256]⟩
abbrev S128x256 : Shape := ⟨2, ![128, 256]⟩
abbrev S128x128 : Shape := ⟨2, ![128, 128]⟩
abbrev S128x1 : Shape := ⟨2, ![128, 1]⟩
abbrev S256x128 : Shape := ⟨2, ![256, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4096x3072, .bf16⟩
  | .hbm, ⟨2, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .f32⟩
  | .local _ .vmem, ⟨7, _⟩ => ⟨S4096x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_0 : BitVec 32 := 0#32
  let c16_i32 : BitVec 32 := 16#32
  let v14 : BitVec 32 := Scalar.addi c0_i32_0 c16_i32
  let c1_i32 : BitVec 32 := 1#32
  ⟨c0_i32_0, v14, c1_i32⟩
def k0_mult1 (k0_t1 : Fin k0_t1_loop.trips) : BitVec 32 :=
  let c0_i32_0 : BitVec 32 := 0#32
  let c1_i32 : BitVec 32 := 1#32
  let arg5 : BitVec 32 := Scf.iv c0_i32_0 c1_i32 k0_t1
  let c256_i32 : BitVec 32 := 256#32
  let v15 : BitVec 32 := Scalar.muli arg5 c256_i32
  v15
def k0_off1 (k0_t1 : Fin k0_t1_loop.trips) (c0_i32_2 : BitVec 32) : Fin 2 → Nat :=
  let c0_i32_0 : BitVec 32 := 0#32
  let c1_i32 : BitVec 32 := 1#32
  let arg5 : BitVec 32 := Scf.iv c0_i32_0 c1_i32 k0_t1
  let c256_i32 : BitVec 32 := 256#32
  let v15 : BitVec 32 := Scalar.muli arg5 c256_i32
  let v16 : BitVec 32 := v15
  let v17 : BitVec 32 := Scalar.addi v16 c0_i32_2
  let v18 : Index := Scalar.indexCast v17
  let c0 : Index := 0#32
  ![v18.toNat, 0]
def k0_off2 (k0_t1 : Fin k0_t1_loop.trips) (c0_i32_5 : BitVec 32) : Fin 2 → Nat :=
  let c0_i32_0 : BitVec 32 := 0#32
  let c1_i32 : BitVec 32 := 1#32
  let arg5 : BitVec 32 := Scf.iv c0_i32_0 c1_i32 k0_t1
  let c256_i32 : BitVec 32 := 256#32
  let v15 : BitVec 32 := Scalar.muli arg5 c256_i32
  let v16 : BitVec 32 := v15
  let v25 : BitVec 32 := Scalar.addi v16 c0_i32_5
  let v26 : Index := Scalar.indexCast v25
  let c128 : Index := 128#32
  ![v26.toNat, 128]
def k0_off3 (k0_t1 : Fin k0_t1_loop.trips) (c0_i32_8 : BitVec 32) : Fin 2 → Nat :=
  let c0_i32_0 : BitVec 32 := 0#32
  let c1_i32 : BitVec 32 := 1#32
  let arg5 : BitVec 32 := Scf.iv c0_i32_0 c1_i32 k0_t1
  let c256_i32 : BitVec 32 := 256#32
  let v15 : BitVec 32 := Scalar.muli arg5 c256_i32
  let v16 : BitVec 32 := v15
  let v33 : BitVec 32 := Scalar.addi v16 c0_i32_8
  let v34 : Index := Scalar.indexCast v33
  let c256 : Index := 256#32
  ![v34.toNat, 256]
def k0_off4 (k0_t1 : Fin k0_t1_loop.trips) (c0_i32_11 : BitVec 32) : Fin 2 → Nat :=
  let c0_i32_0 : BitVec 32 := 0#32
  let c1_i32 : BitVec 32 := 1#32
  let arg5 : BitVec 32 := Scf.iv c0_i32_0 c1_i32 k0_t1
  let c256_i32 : BitVec 32 := 256#32
  let v15 : BitVec 32 := Scalar.muli arg5 c256_i32
  let v16 : BitVec 32 := v15
  let v41 : BitVec 32 := Scalar.addi v16 c0_i32_11
  let v42 : Index := Scalar.indexCast v41
  let c384 : Index := 384#32
  ![v42.toNat, 384]
def k0_mult2 (k0_t1 : Fin k0_t1_loop.trips) : BitVec 32 :=
  let c0_i32_0 : BitVec 32 := 0#32
  let c1_i32 : BitVec 32 := 1#32
  let arg5 : BitVec 32 := Scf.iv c0_i32_0 c1_i32 k0_t1
  let c256_i32_15 : BitVec 32 := 256#32
  let v51 : BitVec 32 := Scalar.muli arg5 c256_i32_15
  v51
def k0_off5 (k0_t1 : Fin k0_t1_loop.trips) : Fin 2 → Nat :=
  let c0_i32_0 : BitVec 32 := 0#32
  let c1_i32 : BitVec 32 := 1#32
  let arg5 : BitVec 32 := Scf.iv c0_i32_0 c1_i32 k0_t1
  let c256_i32_15 : BitVec 32 := 256#32
  let v51 : BitVec 32 := Scalar.muli arg5 c256_i32_15
  let v52 : BitVec 32 := v51
  let v53 : Index := Scalar.indexCast v52
  let c0_16 : Index := 0#32
  ![v53.toNat, 0]
def k0_off6 (k0_t1 : Fin k0_t1_loop.trips) : Fin 2 → Nat :=
  let c0_i32_0 : BitVec 32 := 0#32
  let c1_i32 : BitVec 32 := 1#32
  let arg5 : BitVec 32 := Scf.iv c0_i32_0 c1_i32 k0_t1
  let c256_i32_15 : BitVec 32 := 256#32
  let v51 : BitVec 32 := Scalar.muli arg5 c256_i32_15
  let v52 : BitVec 32 := v51
  let v93 : Index := Scalar.indexCast v52
  let c128_32 : Index := 128#32
  ![v93.toNat, 128]
def k0_off7 (k0_t1 : Fin k0_t1_loop.trips) : Fin 2 → Nat :=
  let c0_i32_0 : BitVec 32 := 0#32
  let c1_i32 : BitVec 32 := 1#32
  let arg5 : BitVec 32 := Scf.iv c0_i32_0 c1_i32 k0_t1
  let c256_i32_15 : BitVec 32 := 256#32
  let v51 : BitVec 32 := Scalar.muli arg5 c256_i32_15
  let v52 : BitVec 32 := v51
  let v133 : Index := Scalar.indexCast v52
  let c256_48 : Index := 256#32
  ![v133.toNat, 256]
def k0_off8 (k0_t1 : Fin k0_t1_loop.trips) : Fin 2 → Nat :=
  let c0_i32_0 : BitVec 32 := 0#32
  let c1_i32 : BitVec 32 := 1#32
  let arg5 : BitVec 32 := Scf.iv c0_i32_0 c1_i32 k0_t1
  let c256_i32_15 : BitVec 32 := 256#32
  let v51 : BitVec 32 := Scalar.muli arg5 c256_i32_15
  let v52 : BitVec 32 := v51
  let v173 : Index := Scalar.indexCast v52
  let c384_64 : Index := 384#32
  ![v173.toNat, 384]
def k0_mult3 (k0_t1 : Fin k0_t1_loop.trips) (arg6 : BitVec 32) : BitVec 32 :=
  let c0_i32_0 : BitVec 32 := 0#32
  let c1_i32 : BitVec 32 := 1#32
  let arg5 : BitVec 32 := Scf.iv c0_i32_0 c1_i32 k0_t1
  let c1_i32_138 : BitVec 32 := 1#32
  let v417 : BitVec 32 := Scalar.subi arg5 c1_i32_138
  let v418 : BitVec 32 := Scalar.subi v417 arg6
  let c256_i32_139 : BitVec 32 := 256#32
  let v419 : BitVec 32 := Scalar.muli v418 c256_i32_139
  v419

def k0_off9 (k0_t1 : Fin k0_t1_loop.trips) (arg6 : BitVec 32) : Fin 2 → Nat :=
  let c0_i32_0 : BitVec 32 := 0#32
  let c1_i32 : BitVec 32 := 1#32
  let arg5 : BitVec 32 := Scf.iv c0_i32_0 c1_i32 k0_t1
  let c1_i32_138 : BitVec 32 := 1#32
  let v417 : BitVec 32 := Scalar.subi arg5 c1_i32_138
  let v418 : BitVec 32 := Scalar.subi v417 arg6
  let c256_i32_139 : BitVec 32 := 256#32
  let v419 : BitVec 32 := Scalar.muli v418 c256_i32_139
  let v420 : BitVec 32 := v419
  let v421 : Index := Scalar.indexCast v420
  let c0_140 : Index := 0#32
  ![v421.toNat, 0]
def k0_off10 (k0_t1 : Fin k0_t1_loop.trips) (arg6 : BitVec 32) : Fin 2 → Nat :=
  let c0_i32_0 : BitVec 32 := 0#32
  let c1_i32 : BitVec 32 := 1#32
  let arg5 : BitVec 32 := Scf.iv c0_i32_0 c1_i32 k0_t1
  let c1_i32_138 : BitVec 32 := 1#32
  let v417 : BitVec 32 := Scalar.subi arg5 c1_i32_138
  let v418 : BitVec 32 := Scalar.subi v417 arg6
  let c256_i32_139 : BitVec 32 := 256#32
  let v419 : BitVec 32 := Scalar.muli v418 c256_i32_139
  let v420 : BitVec 32 := v419
  let v457 : Index := Scalar.indexCast v420
  let c128_154 : Index := 128#32
  ![v457.toNat, 128]
def k0_off11 (k0_t1 : Fin k0_t1_loop.trips) (arg6 : BitVec 32) : Fin 2 → Nat :=
  let c0_i32_0 : BitVec 32 := 0#32
  let c1_i32 : BitVec 32 := 1#32
  let arg5 : BitVec 32 := Scf.iv c0_i32_0 c1_i32 k0_t1
  let c1_i32_138 : BitVec 32 := 1#32
  let v417 : BitVec 32 := Scalar.subi arg5 c1_i32_138
  let v418 : BitVec 32 := Scalar.subi v417 arg6
  let c256_i32_139 : BitVec 32 := 256#32
  let v419 : BitVec 32 := Scalar.muli v418 c256_i32_139
  let v420 : BitVec 32 := v419
  let v493 : Index := Scalar.indexCast v420
  let c256_168 : Index := 256#32
  ![v493.toNat, 256]
def k0_off12 (k0_t1 : Fin k0_t1_loop.trips) (arg6 : BitVec 32) : Fin 2 → Nat :=
  let c0_i32_0 : BitVec 32 := 0#32
  let c1_i32 : BitVec 32 := 1#32
  let arg5 : BitVec 32 := Scf.iv c0_i32_0 c1_i32 k0_t1
  let c1_i32_138 : BitVec 32 := 1#32
  let v417 : BitVec 32 := Scalar.subi arg5 c1_i32_138
  let v418 : BitVec 32 := Scalar.subi v417 arg6
  let c256_i32_139 : BitVec 32 := 256#32
  let v419 : BitVec 32 := Scalar.muli v418 c256_i32_139
  let v420 : BitVec 32 := v419
  let v529 : Index := Scalar.indexCast v420
  let c384_182 : Index := 384#32
  ![v529.toNat, 384]

def k0_chk1 (k0_t1 : Fin k0_t1_loop.trips) (arg6 : BitVec 32) : Prop :=
  (256 ∣ (k0_mult3 k0_t1 arg6).toNat) ∧
  (∀ a, (k0_off9 k0_t1 arg6) a + S256x128.size a ≤ S4096x512.size a) ∧
  (∀ a, (k0_off10 k0_t1 arg6) a + S256x128.size a ≤ S4096x512.size a) ∧
  (∀ a, (k0_off11 k0_t1 arg6) a + S256x128.size a ≤ S4096x512.size a) ∧
  (∀ a, (k0_off12 k0_t1 arg6) a + S256x128.size a ≤ S4096x512.size a)
theorem k0_mult3_dvd : ∀ (k0_t1 : Fin k0_t1_loop.trips) (arg6 : BitVec 32) (k0_hw1 : k0_chk1 k0_t1 arg6), 256 ∣ (k0_mult3 k0_t1 arg6).toNat := fun k0_t1 arg6 k0_hw1 => k0_hw1.1
theorem k0_off9_inb : ∀ (k0_t1 : Fin k0_t1_loop.trips) (arg6 : BitVec 32) (k0_hw1 : k0_chk1 k0_t1 arg6), ∀ a, (k0_off9 k0_t1 arg6) a + S256x128.size a ≤ S4096x512.size a := fun k0_t1 arg6 k0_hw1 => k0_hw1.2.1
theorem k0_off10_inb : ∀ (k0_t1 : Fin k0_t1_loop.trips) (arg6 : BitVec 32) (k0_hw1 : k0_chk1 k0_t1 arg6), ∀ a, (k0_off10 k0_t1 arg6) a + S256x128.size a ≤ S4096x512.size a := fun k0_t1 arg6 k0_hw1 => k0_hw1.2.2.1
theorem k0_off11_inb : ∀ (k0_t1 : Fin k0_t1_loop.trips) (arg6 : BitVec 32) (k0_hw1 : k0_chk1 k0_t1 arg6), ∀ a, (k0_off11 k0_t1 arg6) a + S256x128.size a ≤ S4096x512.size a := fun k0_t1 arg6 k0_hw1 => k0_hw1.2.2.2.1
theorem k0_off12_inb : ∀ (k0_t1 : Fin k0_t1_loop.trips) (arg6 : BitVec 32) (k0_hw1 : k0_chk1 k0_t1 arg6), ∀ a, (k0_off12 k0_t1 arg6) a + S256x128.size a ≤ S4096x512.size a := fun k0_t1 arg6 k0_hw1 => k0_hw1.2.2.2.2

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttIdeal.lean ====
variable {F : FTy → Type} [FloatOps F] [Named F]
def κ : String → Option EReal := fun
  | "log2_e" => some (((Real.log 2)⁻¹ : ℝ) : EReal)
  | "scale2" => some (((Real.log 2)⁻¹ * (11863283 / 134217728) : ℝ) : EReal)
  | "underflow" => some ⊤
  | _ => none
-- ==== RefAttIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x128x4096 : Shape := ⟨3, ![8, 128, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S4096x8x128, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S_, .f32⟩
  | .hbm, ⟨64, _⟩ => ⟨S8x4096x4096, .i1⟩
  | .hbm, ⟨65, _⟩ => ⟨S8x4096x4096, .f32⟩
  | .hbm, ⟨66, _⟩ => ⟨S8x4096x4096, .f32⟩
  | .hbm, ⟨67, _⟩ => ⟨S8x128x4096, .f32⟩
  | .hbm, ⟨68, _⟩ => ⟨S4096x8x128, .f32⟩
  | .hbm, ⟨69, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩

abbrev nD : Nat := 1
abbrev τ : Topo := Topo.v7x

variable {F : FTy → Type} [FloatOps F]
-- ==== Ln.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefLnIdeal.lean ====
abbrev S1x4096x2048 : Shape := ⟨3, ![1, 4096, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Mix.lean ====
abbrev S4096x2048 : Shape := ⟨2, ![4096, 2048]⟩
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .f32⟩
  | .hbm, ⟨7, _⟩ => ⟨S2048x2048, .bf16⟩
  | .hbm, ⟨8, _⟩ => ⟨S4096x2048, .f32⟩
  | .hbm, ⟨9, _⟩ => ⟨S4096x2048, .f32⟩
  | .hbm, ⟨10, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== RefMixIdeal.lean ====
abbrev S4096x2048 : Shape := ⟨2, ![4096, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ff1.lean ====
abbrev S4096x2048 : Shape := ⟨2, ![4096, 2048]⟩
abbrev S1x2048x8192 : Shape := ⟨3, ![1, 2048, 8192]⟩
abbrev S1x8192 : Shape := ⟨2, ![1, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048x8192, .f32⟩
  | .hbm, ⟨2, _⟩ => ⟨S1x8192, .f32⟩
  | .hbm, ⟨3, _⟩ => ⟨S4096x2048, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S4096x8192, .f32⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefFf1Ideal.lean ====
abbrev S4096x2048 : Shape := ⟨2, ![4096, 2048]⟩
abbrev S1x2048x8192 : Shape := ⟨3, ![1, 2048, 8192]⟩
abbrev S1x8192 : Shape := ⟨2, ![1, 8192]⟩
abbrev S2048x8192 : Shape := ⟨2, ![2048, 8192]⟩
abbrev S4096x8192 : Shape := ⟨2, ![4096, 8192]⟩
abbrev S8192 : Shape := ⟨1, ![8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x8192, .f32⟩
  | .hbm, ⟨2, _⟩ => ⟨S1x8192, .f32⟩
  | .hbm, ⟨3, _⟩ => ⟨S2048x8192, .f32⟩
  | .hbm, ⟨4, _⟩ => ⟨S4096x8192, .f32⟩
  | .hbm, ⟨5, _⟩ => ⟨S8192, .f32⟩
  | .hbm, ⟨6, _⟩ => ⟨S1x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== U.lean ====
abbrev S4096x2048 : Shape := ⟨2, ![4096, 2048]⟩
abbrev S1x2048x4096 : Shape := ⟨3, ![1, 2048, 4096]⟩
abbrev S2048x8x512 : Shape := ⟨3, ![2048, 8, 512]⟩
abbrev S8x2048x512 : Shape := ⟨3, ![8, 2048, 512]⟩
abbrev S4096x3072 : Shape := ⟨2, ![4096, 3072]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048x4096, .f32⟩
  | .hbm, ⟨2, _⟩ => ⟨S2048x8x512, .f32⟩
  | .hbm, ⟨3, _⟩ => ⟨S8x2048x512, .f32⟩
  | .hbm, ⟨4, _⟩ => ⟨S8x2048x512, .bf16⟩
  | .hbm, ⟨5, _⟩ => ⟨S4096x2048, .bf16⟩
  | .hbm, ⟨6, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUIdeal.lean ====
abbrev S4096x2048 : Shape := ⟨2, ![4096, 2048]⟩
abbrev S1x2048x4096 : Shape := ⟨3, ![1, 2048, 4096]⟩
abbrev S2048x4096 : Shape := ⟨2, ![2048, 4096]⟩
abbrev S4096x4096 : Shape := ⟨2, ![4096, 4096]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x4096, .f32⟩
  | .hbm, ⟨2, _⟩ => ⟨S2048x4096, .f32⟩
  | .hbm, ⟨3, _⟩ => ⟨S4096x4096, .f32⟩
  | .hbm, ⟨4, _⟩ => ⟨S4096x3072, .f32⟩
  | .hbm, ⟨5, _⟩ => ⟨S4096x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Poolf.lean ====
abbrev S4096x1024 : Shape := ⟨2, ![4096, 1024]⟩
abbrev S1x4x256x256 : Shape := ⟨4, ![1, 4, 256, 256]⟩
abbrev S1x4x256 : Shape := ⟨3, ![1, 4, 256]⟩
abbrev S4x256x256 : Shape := ⟨3, ![4, 256, 256]⟩
abbrev S4x1x256 : Shape := ⟨3, ![4, 1, 256]⟩
abbrev S4096x256 : Shape := ⟨2, ![4096, 256]⟩
abbrev S1x256x256 : Shape := ⟨3, ![1, 256, 256]⟩
abbrev S1x1x256 : Shape := ⟨3, ![1, 1, 256]⟩
abbrev S4352x256 : Shape := ⟨2, ![4352, 256]⟩
abbrev S256x256 : Shape := ⟨2, ![256, 256]⟩
abbrev S256x512 : Shape := ⟨2, ![256, 512]⟩
abbrev S256x1 : Shape := ⟨2, ![256, 1]⟩
abbrev S512x256 : Shape := ⟨2, ![512, 256]⟩
abbrev S1x256 : Shape := ⟨2, ![1, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x4x256x256, .f32⟩
  | .hbm, ⟨2, _⟩ => ⟨S1x4x256, .f32⟩
  | .hbm, ⟨3, _⟩ => ⟨S4x256x256, .f32⟩
  | .hbm, ⟨4, _⟩ => ⟨S4x256x256, .bf16⟩
  | .hbm, ⟨5, _⟩ => ⟨S4x1x256, .f32⟩
  | .hbm, ⟨6, _⟩ => ⟨S4096x1024, .bf16⟩
  | .hbm, ⟨7, _⟩ => ⟨S4096x1024, .bf16⟩
  | .local _ .vmem, ⟨0, _⟩ => ⟨S4096x256, .f32⟩
  | .local _ .vmem, ⟨1, _⟩ => ⟨S4096x256, .f32⟩
  | .local _ .vmem, ⟨2, _⟩ => ⟨S1x256x256, .bf16⟩
  | .local _ .vmem, ⟨3, _⟩ => ⟨S1x256x256, .bf16⟩
  | .local _ .vmem, ⟨4, _⟩ => ⟨S1x1x256, .f32⟩
  | .local _ .vmem, ⟨5, _⟩ => ⟨S1x1x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4352x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_4 : BitVec 32 := 0#32
  let v16 : BitVec 1 := Scalar.cmpi .ne v15 c0_i32_4
  v16

@[reducible] def k0_t1_loop : Scf.Loop 32 :=
  let c0_i32_10 : BitVec 32 := 0#32
  let c16_i32 : BitVec 32 := 16#32
  let v34 : BitVec 32 := Scalar.addi c0_i32_10 c16_i32
  let c1_i32_11 : BitVec 32 := 1#32
  ⟨c0_i32_10, v34, c1_i32_11⟩
def k0_mult1 (k0_t1 : Fin k0_t1_loop.trips) : BitVec 32 :=
  let c0_i32_10 : BitVec 32 := 0#32
  let c1_i32_11 : BitVec 32 := 1#32
  let arg7 : BitVec 32 := Scf.iv c0_i32_10 c1_i32_11 k0_t1
  let c256_i32_13 : BitVec 32 := 256#32
  let v35 : BitVec 32 := Scalar.muli arg7 c256_i32_13
  v35
def k0_off1 (k0_t1 : Fin k0_t1_loop.trips) : Fin 2 → Nat :=
  let c0_i32_10 : BitVec 32 := 0#32
  let c1_i32_11 : BitVec 32 := 1#32
  let arg7 : BitVec 32 := Scf.iv c0_i32_10 c1_i32_11 k0_t1
  let c256_i32_13 : BitVec 32 := 256#32
  let v35 : BitVec 32 := Scalar.muli arg7 c256_i32_13
  let v36 : BitVec 32 := v35
  let v37 : Index := Scalar.indexCast v36
  let c0_14 : Index := 0#32
  ![v37.toNat, 0]
def k0_off2 (k0_t1 : Fin k0_t1_loop.trips) : Fin 2 → Nat :=
  let c0_i32_10 : BitVec 32 := 0#32
  let c1_i32_11 : BitVec 32 := 1#32
  let arg7 : BitVec 32 := Scf.iv c0_i32_10 c1_i32_11 k0_t1
  let c256_i32_13 : BitVec 32 := 256#32
  let v35 : BitVec 32 := Scalar.muli arg7 c256_i32_13
  let v36 : BitVec 32 := v35
  let v73 : Index := Scalar.indexCast v36
  let c0_29 : Index := 0#32
  ![v73.toNat, 0]
def k0_cond2 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_5 : BitVec 32 := 0#32
  let v19 : BitVec 1 := Scalar.cmpi .ne v18 c0_i32_5
  v19

@[reducible] def k0_t2_loop : Scf.Loop 32 :=
  let c0_i32_9 : BitVec 32 := 0#32
  let c16_i32 : BitVec 32 := 16#32
  let v34 : BitVec 32 := Scalar.addi c0_i32_9 c16_i32
  let c1_i32_10 : BitVec 32 := 1#32
  ⟨c0_i32_9, v34, c1_i32_10⟩
def k0_mult2 (k0_t2 : Fin k0_t2_loop.trips) : BitVec 32 :=
  let c0_i32_9 : BitVec 32 := 0#32
  let c1_i32_10 : BitVec 32 := 1#32
  let arg7 : BitVec 32 := Scf.iv c0_i32_9 c1_i32_10 k0_t2
  let c256_i32_12 : BitVec 32 := 256#32
  let v35 : BitVec 32 := Scalar.muli arg7 c256_i32_12
  v35
def k0_off3 (k0_t2 : Fin k0_t2_loop.trips) : Fin 2 → Nat :=
  let c0_i32_9 : BitVec 32 := 0#32
  let c1_i32_10 : BitVec 32 := 1#32
  let arg7 : BitVec 32 := Scf.iv c0_i32_9 c1_i32_10 k0_t2
  let c256_i32_12 : BitVec 32 := 256#32
  let v35 : BitVec 32 := Scalar.muli arg7 c256_i32_12
  let v36 : BitVec 32 := v35
  let v37 : Index := Scalar.indexCast v36
  let c0_13 : Index := 0#32
  ![v37.toNat, 0]
def k0_off4 (k0_t2 : Fin k0_t2_loop.trips) : Fin 2 → Nat :=
  let c0_i32_9 : BitVec 32 := 0#32
  let c1_i32_10 : BitVec 32 := 1#32
  let arg7 : BitVec 32 := Scf.iv c0_i32_9 c1_i32_10 k0_t2
  let c256_i32_12 : BitVec 32 := 256#32
  let v35 : BitVec 32 := Scalar.muli arg7 c256_i32_12
  let v36 : BitVec 32 := v35
  let v73 : Index := Scalar.indexCast v36
  let c0_28 : Index := 0#32
  ![v73.toNat, 0]
def k0_cond3 (i : grid0.Coords) : BitVec 1 :=
  let arg0 : BitVec 32 := BitVec.ofNat 32 (i 0).val
  let c2_i32 : BitVec 32 := 2#32
  let v20 : BitVec 1 := Scalar.cmpi .eq arg0 c2_i32
  let v21 : BitVec 32 := Scalar.extui v20
  let c0_i32_6 : BitVec 32 := 0#32
  let v22 : BitVec 1 := Scalar.cmpi .ne v21 c0_i32_6
  v22

@[reducible] def k0_t3_loop : Scf.Loop 32 :=
  let c0_i32_9 : BitVec 32 := 0#32
  let c16_i32 : BitVec 32 := 16#32
  let v34 : BitVec 32 := Scalar.addi c0_i32_9 c16_i32
  let c1_i32_10 : BitVec 32 := 1#32
  ⟨c0_i32_9, v34, c1_i32_10⟩
def k0_mult3 (k0_t3 : Fin k0_t3_loop.trips) : BitVec 32 :=
  let c0_i32_9 : BitVec 32 := 0#32
  let c1_i32_10 : BitVec 32 := 1#32
  let arg7 : BitVec 32 := Scf.iv c0_i32_9 c1_i32_10 k0_t3
  let c256_i32_12 : BitVec 32 := 256#32
  let v35 : BitVec 32 := Scalar.muli arg7 c256_i32_12
  v35
def k0_off5 (k0_t3 : Fin k0_t3_loop.trips) : Fin 2 → Nat :=
  let c0_i32_9 : BitVec 32 := 0#32
  let c1_i32_10 : BitVec 32 := 1#32
  let arg7 : BitVec 32 := Scf.iv c0_i32_9 c1_i32_10 k0_t3
  let c256_i32_12 : BitVec 32 := 256#32
  let v35 : BitVec 32 := Scalar.muli arg7 c256_i32_12
  let v36 : BitVec 32 := v35
  let v37 : Index := Scalar.indexCast v36
  let c0_13 : Index := 0#32
  ![v37.toNat, 0]
def k0_off6 (k0_t3 : Fin k0_t3_loop.trips) : Fin 2 → Nat :=
  let c0_i32_9 : BitVec 32 := 0#32
  let c1_i32_10 : BitVec 32 := 1#32
  let arg7 : BitVec 32 := Scf.iv c0_i32_9 c1_i32_10 k0_t3
  let c256_i32_12 : BitVec 32 := 256#32
  let v35 : BitVec 32 := Scalar.muli arg7 c256_i32_12
  let v36 : BitVec 32 := v35
  let v73 : Index := Scalar.indexCast v36
  let c0_28 : Index := 0#32
  ![v73.toNat, 0]
def k0_cond4 (i : grid0.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32_7 : BitVec 32 := 0#32
  let v25 : BitVec 1 := Scalar.cmpi .ne v24 c0_i32_7
  v25

@[reducible] def k0_t4_loop : Scf.Loop 32 :=
  let c0_i32_9 : BitVec 32 := 0#32
  let c16_i32_10 : BitVec 32 := 16#32
  let v34 : BitVec 32 := Scalar.addi c0_i32_9 c16_i32_10
  let c1_i32_11 : BitVec 32 := 1#32
  ⟨c0_i32_9, v34, c1_i32_11⟩
def k0_mult4 (k0_t4 : Fin k0_t4_loop.trips) : BitVec 32 :=
  let c0_i32_9 : BitVec 32 := 0#32
  let c1_i32_11 : BitVec 32 := 1#32
  let arg7 : BitVec 32 := Scf.iv c0_i32_9 c1_i32_11 k0_t4
  let c256_i32_13 : BitVec 32 := 256#32
  let v35 : BitVec 32 := Scalar.muli arg7 c256_i32_13
  v35
def k0_off7 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c256_i32_13 : BitVec 32 := 256#32
  let v35 : BitVec 32 := Scalar.muli arg7 c256_i32_13
  let v36 : BitVec 32 := v35
  let v37 : Index := Scalar.indexCast v36
  let c0_14 : Index := 0#32
  ![v37.toNat, 0]
def k0_off8 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c256_i32_13 : BitVec 32 := 256#32
  let v35 : BitVec 32 := Scalar.muli arg7 c256_i32_13
  let v36 : BitVec 32 := v35
  let v73 : Index := Scalar.indexCast v36
  let c0_29 : Index := 0#32
  ![v73.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefPoolfIdeal.lean ====
abbrev S4096x1024 : Shape := ⟨2, ![4096, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S4x256x256 : Shape := ⟨3, ![4, 256, 256]⟩
abbrev S4x256 : Shape := ⟨2, ![4, 256]⟩
abbrev S1x4096x4x256 : Shape := ⟨4, ![1, 4096, 4, 256]⟩
abbrev S_ : Shape := ⟨0, ![]⟩
abbrev S1x1x4x256 : Shape := ⟨4, ![1, 1, 4, 256]⟩
abbrev S1x4097x4x256 : Shape := ⟨4, ![1, 4097, 4, 256]⟩
abbrev S4096 : Shape := ⟨1, ![4096]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S1x4096x4x1 : Shape := ⟨4, ![1, 4096, 4, 1]⟩
abbrev S4x256x1x4096 : Shape := ⟨4, ![4, 256, 1, 4096]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S1x4x256x256, .f32⟩
  | 2 => ⟨S1x4x256, .f32⟩
  | 3 => ⟨S1x4096x1024, .f32⟩
  | 4 => ⟨S4x256x256, .f32⟩
  | 5 => ⟨S4x256, .f32⟩
  | 6 => ⟨S1x4096x4x256, .f32⟩
  | 7 => ⟨S_, .f32⟩
  | 8 => ⟨S1x1x4x256, .f32⟩
  | 9 => ⟨S_, .f32⟩
  | 10 => ⟨S_, .f32⟩
  | 11 => ⟨S1x4096x4x256, .f32⟩
  | 12 => ⟨S1x4097x4x256, .f32⟩
  | 13 => ⟨S4096, .i32⟩
  | 14 => ⟨S4, .i32⟩
  | 15 => ⟨S_, .i32⟩
  | 16 => ⟨S4, .i32⟩
  | 17 => ⟨S4, .i32⟩
  | 18 => ⟨S4096x1, .i32⟩
  | 19 => ⟨S_, .i32⟩
  | 20 => ⟨S4096x1, .i32⟩
  | 21 => ⟨S4096x1, .i32⟩
  | 22 => ⟨S1x4, .i32⟩
  | 23 => ⟨S4096x4, .i32⟩
  | 24 => ⟨S4096x4, .i32⟩
  | 25 => ⟨S4096x4, .i32⟩
  | 26 => ⟨S_, .i32⟩
  | 27 => ⟨S4096x4, .i32⟩
  | 28 => ⟨S4096x4, .i32⟩
  | 29 => ⟨S4096x1, .i32⟩
  | 30 => ⟨S_, .i32⟩
  | 31 => ⟨S4096x1, .i32⟩
  | 32 => ⟨S4096x1, .i32⟩
  | 33 => ⟨S4096x4, .i32⟩
  | 34 => ⟨S4096x4, .i32⟩
  | 35 => ⟨S4096x4, .f32⟩
  | 36 => ⟨S4, .i32⟩
  | 37 => ⟨S1x4, .i32⟩
  | 38 => ⟨S_, .i32⟩
  | 39 => ⟨S4096x4, .i32⟩
  | 40 => ⟨S4096x4, .i1⟩
  | 41 => ⟨S_, .i32⟩
  | 42 => ⟨S4096x4, .i32⟩
  | 43 => ⟨S4096x4, .i32⟩
  | 44 => ⟨S4096x4, .i32⟩
  | 45 => ⟨S_, .i32⟩
  | 46 => ⟨S1x4, .i32⟩
  | 47 => ⟨S1x4, .i1⟩
  | 48 => ⟨S_, .i32⟩
  | 49 => ⟨S1x4, .i32⟩
  | 50 => ⟨S1x4, .i32⟩
  | 51 => ⟨S1x4, .i32⟩
  | 52 => ⟨S4096x4, .i32⟩
  | 53 => ⟨S4096x4x1, .i32⟩
  | 54 => ⟨S4096x4x1, .i32⟩
  | 55 => ⟨S4096x4x2, .i32⟩
  | 56 => ⟨S1x4096x4x256, .f32⟩
  | 57 => ⟨S1x4096x4x256, .f32⟩
  | 58 => ⟨S1x4096x4x256, .f32⟩
  | 59 => ⟨S1x4096x4x1, .f32⟩
  | 60 => ⟨S1x4096x4x256, .f32⟩
  | 61 => ⟨S1x4096x4x256, .f32⟩
  | 62 => ⟨S1x4096x4x256, .f32⟩
  | 63 => ⟨S4x256x1x4096, .f32⟩
  | 64 => ⟨S1x4096x4x256, .f32⟩
  | 65 => ⟨S1x1x4x256, .f32⟩
  | 66 => ⟨S1x4096x4x256, .f32⟩
  | 67 => ⟨S1x4096x4x256, .f32⟩
  | 68 => ⟨S1x4096x1024, .f32⟩
  | 69 => ⟨S4096x1024, .f32⟩
  | 70 => ⟨S4096x1024, .bf16⟩
  | 71 => ⟨S1x4096x1024, .f32⟩
  | 72 => ⟨S1x4096x4x256, .f32⟩
  | 73 => ⟨S_, .f32⟩
  | 74 => ⟨S1x1x4x256, .f32⟩
  | 75 => ⟨S_, .f32⟩
  | 76 => ⟨S_, .f32⟩
  | 77 => ⟨S1x4096x4x256, .f32⟩
  | 78 => ⟨S1x4097x4x256, .f32⟩
  | 79 => ⟨S4096, .i32⟩
  | 80 => ⟨S4, .i32⟩
  | 81 => ⟨S_, .i32⟩
  | 82 => ⟨S4, .i32⟩
  | 83 => ⟨S4, .i32⟩
  | 84 => ⟨S4096x1, .i32⟩
  | 85 => ⟨S_, .i32⟩
  | 86 => ⟨S4096x1, .i32⟩
  | 87 => ⟨S4096x1, .i32⟩
  | 88 => ⟨S1x4, .i32⟩
  | 89 => ⟨S4096x4, .i32⟩
  | 90 => ⟨S4096x4, .i32⟩
  | 91 => ⟨S4096x4, .i32⟩
  | 92 => ⟨S_, .i32⟩
  | 93 => ⟨S4096x4, .i32⟩
  | 94 => ⟨S4096x4, .i32⟩
  | 95 => ⟨S4096x1, .i32⟩
  | 96 => ⟨S_, .i32⟩
  | 97 => ⟨S4096x1, .i32⟩
  | 98 => ⟨S4096x1, .i32⟩
  | 99 => ⟨S4096x4, .i32⟩
  | 100 => ⟨S4096x4, .i32⟩
  | 101 => ⟨S4096x4, .f32⟩
  | 102 => ⟨S4, .i32⟩
  | 103 => ⟨S1x4, .i32⟩
  | 104 => ⟨S_, .i32⟩
  | 105 => ⟨S4096x4, .i32⟩
  | 106 => ⟨S4096x4, .i1⟩
  | 107 => ⟨S_, .i32⟩
  | 108 => ⟨S4096x4, .i32⟩
  | 109 => ⟨S4096x4, .i32⟩
  | 110 => ⟨S4096x4, .i32⟩
  | 111 => ⟨S_, .i32⟩
  | 112 => ⟨S1x4, .i32⟩
  | 113 => ⟨S1x4, .i1⟩
  | 114 => ⟨S_, .i32⟩
  | 115 => ⟨S1x4, .i32⟩
  | 116 => ⟨S1x4, .i32⟩
  | 117 => ⟨S1x4, .i32⟩
  | 118 => ⟨S4096x4, .i32⟩
  | 119 => ⟨S4096x4x1, .i32⟩
  | 120 => ⟨S4096x4x1, .i32⟩
  | 121 => ⟨S4096x4x2, .i32⟩
  | 122 => ⟨S1x4096x4x256, .f32⟩
  | 123 => ⟨S1x4096x4x256, .f32⟩
  | 124 => ⟨S1x4096x4x256, .f32⟩
  | 125 => ⟨S1x4096x4x1, .f32⟩
  | 126 => ⟨S1x4096x4x256, .f32⟩
  | 127 => ⟨S1x4096x4x256, .f32⟩
  | _ => ⟨S4096x1024, .f32⟩

abbrev hbmTy0_1 (i : Nat) : BufTy := match i % 128 with
  | 0 => ⟨S1x4096x4x256, .f32⟩
  | 1 => ⟨S4096x1024, .f32⟩
  | 2 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_call1_call0_cst : Ref sig .tc := ⟨.hbm, 75, rfl⟩
abbrev main_call1_call0_v0 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_11 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_c_12 : Ref sig .tc := ⟨.hbm, 104, rfl⟩
abbrev main_v83 : Ref sig .tc := ⟨.hbm, 105, rfl⟩
abbrev main_v84 : Ref sig .tc := ⟨.hbm, 106, rfl⟩
abbrev main_c_13 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_14 : Ref sig .tc := ⟨.hbm, 111, rfl⟩
abbrev main_v88 : Ref sig .tc := ⟨.hbm, 112, rfl⟩
abbrev main_v89 : Ref sig .tc := ⟨.hbm, 113, rfl⟩
abbrev main_c_15 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== Proof.Math.Ln.lean ====
/- The gradient of a layer norm over one row, once as the backward call computes it and once as differentiating the
   forward lines gives it; on rows of real numbers the two are equal. -/
module

public import Idealize.ShloMosaic.Lib.Pointwise
public import Idealize.ShloMosaic.PureOps.Ideal.Laws

@[expose] public section

noncomputable section

namespace Math

open Idealize.ShloMosaic

/-! ## Sums and quotients of real numbers, read in the extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x * (1 / y) : ℝ) : EReal) := by
  rw [Ideal.div_coe h, EReal.coe_mul]

/-- The literal 2048. -/
theorem lit_2048 : Ideal.ofBits .f32 0x45000000#32 = ((2048 : ℝ) : EReal) := by
  simp [Ideal.ofBits, Ideal.ieee]
  rw [← EReal.coe_mul]; norm_num

/-- The literal 2. -/
theorem lit_2 : Ideal.ofBits .f32 0x40000000#32 = ((2 : ℝ) : EReal) := by
  simp [Ideal.ofBits, Ideal.ieee]
  rw [← EReal.coe_mul]; norm_num

/-- The literal -1/2. -/
theorem lit_neg_half : Ideal.ofBits .f32 0xBF000000#32 = ((-(1 / 2) : ℝ) : EReal) := by
  simp [Ideal.ofBits, Ideal.ieee]
  rw [← EReal.coe_mul]; norm_num

/-- The value of the literal the programs write for `1e-5`. -/
def eps : ℝ := 10995116 / 1099511627776

theorem eps_pos : 0 < eps := by unfold eps; norm_num

theorem lit_eps : Ideal.ofBits .f32 0x3727C5AC#32 = ((eps : ℝ) : EReal) := by
  simp [Ideal.ofBits, Ideal.ieee, eps]
  rw [← EReal.coe_mul]; norm_num

/-- The value of the literal the programs write for `2 ^ (1/4)`. -/
def alpha : ℝ := 9975792 / 8388608

theorem lit_alpha : Ideal.ofBits .f32 0x3F9837F0#32 = ((alpha : ℝ) : EReal) := by
  simp [Ideal.ofBits, Ideal.ieee, alpha]
  rw [← EReal.coe_mul]; norm_num

/-! ## The norm and its gradient over the reals -/

section Reals

variable {n : ℕ} (x e : Fin n → ℝ)

/-- The mean of a row. -/
def mean (v : Fin n → ℝ) : ℝ := (∑ k, v k) * (1 / (n : ℝ))

/-- The row with its mean taken off. -/
def cen (k : Fin n) : ℝ := x k - mean x

/-- The row's variance plus the norm's epsilon. -/
def vareps : ℝ := mean (fun k => cen x k * cen x k) + eps

/-- One over the root of that. -/
def rstd : ℝ := (Real.sqrt (vareps x))⁻¹

/-- The normalised row. -/
def xhat (k : Fin n) : ℝ := cen x k * rstd x

/-- The gradient of the norm as the backward call writes it; `e` is the incoming gradient times the norm's gain. -/
def lnBwd (k : Fin n) : ℝ := rstd x * (e k - mean e - xhat x k * mean (fun l => e l * xhat x l))

/-- What reaches the variance when the forward lines are differentiated, spread over the row. -/
def varBack : ℝ := (∑ l, cen x l * e l) * (-(1 / 2) * (rstd x * (1 / vareps x))) * (1 / (n : ℝ))

/-- The gradient of the norm as differentiating the forward lines gives it. -/
def lnVjp (k : Fin n) : ℝ :=
  (e k * rstd x + varBack x e * (2 * cen x k))
    + ((∑ l, -(e l * rstd x)) + ∑ l, -(varBack x e * (2 * cen x l))) * (1 / (n : ℝ))

theorem mean_sq_nonneg (v : Fin n → ℝ) : 0 ≤ mean fun k => v k * v k :=
  mul_nonneg (Finset.sum_nonneg fun k _ => mul_self_nonneg _) (by positivity)

theorem vareps_pos : 0 < vareps x := add_pos_of_nonneg_of_pos (mean_sq_nonneg _) eps_pos

theorem sum_cen (hn : n ≠ 0) : ∑ k, cen x k = 0 := by
  have hn' : (n : ℝ) ≠ 0 := by exact_mod_cast hn
  unfold cen mean
  rw [Finset.sum_sub_distrib, Finset.sum_const, Finset.card_univ, Fintype.card_fin, nsmul_eq_mul]
  field_simp
  ring

theorem rstd_sq : rstd x * rstd x = 1 / vareps x := by
  unfold rstd
  rw [← mul_inv, Real.mul_self_sqrt (vareps_pos x).le, one_div]

/-- The two gradients are equal. -/
theorem lnBwd_eq_lnVjp (hn : n ≠ 0) (k : Fin n) : lnBwd x e k = lnVjp x e k := by
  have h1 : ∑ l, -(varBack x e * (2 * cen x l)) = 0 := by
    rw [Finset.sum_neg_distrib, ← Finset.mul_sum, ← Finset.mul_sum, sum_cen x hn]; ring
  have h2 : ∑ l, -(e l * rstd x) = -((∑ l, e l) * rstd x) := by
    rw [Finset.sum_neg_distrib, ← Finset.sum_mul]
  have h3 : mean (fun l => e l * xhat x l) = (∑ l, cen x l * e l) * rstd x * (1 / (n : ℝ)) := by
    unfold mean xhat
    congr 1
    rw [Finset.sum_mul]
    exact Finset.sum_congr rfl fun l _ => by ring
  unfold lnBwd lnVjp
  rw [h1, h2, h3]
  unfold varBack xhat mean
  rw [← rstd_sq]
  ring

end Reals

/-! ## The same over the extended reals, as the programs' operations read -/

section Rows

variable (x e : Fin 2048 → EReal)

/-- The mean, the quotient by the literal 2048. -/
def meanE (v : Fin 2048 → EReal) : EReal := Ideal.div (∑ k, v k) (Ideal.ofBits .f32 0x45000000#32)

def cenE (k : Fin 2048) : EReal := x k - meanE x

def varepsE : EReal := meanE (fun k => cenE x k * cenE x k) + Ideal.ofBits .f32 0x3727C5AC#32

def rstdE : EReal := Ideal.rsqrt (varepsE x)

def xhatE (k : Fin 2048) : EReal := cenE x k * rstdE x

def lnBwdE (k : Fin 2048) : EReal := rstdE x * (e k - meanE e - xhatE x k * meanE (fun l => e l * xhatE x l))

def varBackE : EReal :=
  Ideal.div ((∑ l, cenE x l * e l) * (Ideal.ofBits .f32 0xBF000000#32 * Ideal.div (rstdE x) (varepsE x)))
    (Ideal.ofBits .f32 0x45000000#32)

def lnVjpE (k : Fin 2048) : EReal :=
  (e k * rstdE x + varBackE x e * (Ideal.ofBits .f32 0x40000000#32 * cenE x k))
    + Ideal.div ((∑ l, -(e l * rstdE x)) + ∑ l, -(varBackE x e * (Ideal.ofBits .f32 0x40000000#32 * cenE x l)))
        (Ideal.ofBits .f32 0x45000000#32)

end Rows

section Coe

variable (x e : Fin 2048 → ℝ)

/-- A row of reals, read in the extended reals. -/
abbrev up (v : Fin 2048 → ℝ) : Fin 2048 → EReal := fun k => (v k : EReal)

theorem meanE_up (v : Fin 2048 → ℝ) : meanE (fun k => (v k : EReal)) = ((mean v : ℝ) : EReal) := by
  unfold meanE mean
  rw [coe_sum, lit_2048, div_real _ _ (by norm_num)]
  norm_num

theorem cenE_up (k : Fin 2048) : cenE (up x) k = ((cen x k : ℝ) : EReal) := by
  unfold cenE cen; rw [meanE_up, EReal.coe_sub]

theorem varepsE_up : varepsE (up x) = ((vareps x : ℝ) : EReal) := by
  unfold varepsE vareps
  simp only [cenE_up, ← EReal.coe_mul]
  rw [meanE_up, lit_eps, EReal.coe_add]

theorem rstdE_up : rstdE (up x) = ((rstd x : ℝ) : EReal) := by
  unfold rstdE rstd
  rw [varepsE_up, Ideal.rsqrt_coe, if_neg (vareps_pos x).le.not_gt, if_neg (vareps_pos x).ne']

theorem xhatE_up (k : Fin 2048) : xhatE (up x) k = ((xhat x k : ℝ) : EReal) := by
  unfold xhatE xhat; rw [cenE_up, rstdE_up, EReal.coe_mul]

theorem lnBwdE_up (k : Fin 2048) : lnBwdE (up x) (up e) k = ((lnBwd x e k : ℝ) : EReal) := by
  unfold lnBwdE lnBwd
  simp only [xhatE_up, rstdE_up, ← EReal.coe_mul]
  rw [meanE_up, meanE_up]
  simp only [EReal.coe_mul, EReal.coe_sub]

theorem varBackE_up : varBackE (up x) (up e) = ((varBack x e : ℝ) : EReal) := by
  unfold varBackE varBack
  simp only [cenE_up, rstdE_up, varepsE_up, ← EReal.coe_mul, coe_sum]
  rw [div_real _ _ (vareps_pos x).ne', lit_neg_half, lit_2048, ← EReal.coe_mul, ← EReal.coe_mul, div_real _ _ (by norm_num)]
  norm_num

theorem lnVjpE_up (k : Fin 2048) : lnVjpE (up x) (up e) k = ((lnVjp x e k : ℝ) : EReal) := by
  unfold lnVjpE lnVjp
  simp only [varBackE_up, cenE_up, rstdE_up, lit_2, lit_2048, ← EReal.coe_mul, ← EReal.coe_neg, coe_sum, ← EReal.coe_add]
  rw [div_real _ _ (by norm_num), ← EReal.coe_add]
  norm_num

/-- On rows of reals the backward call's gradient is the differentiated forward's. -/
theorem lnBwdE_eq_lnVjpE (k : Fin 2048) : lnBwdE (up x) (up e) k = lnVjpE (up x) (up e) k := by
  rw [lnBwdE_up, lnVjpE_up, lnBwd_eq_lnVjp x e (by decide)]

end Coe

end Math

end
-- ==== Proof.Dh0.Pay.lean ====
/- What each step of the fused kernel computes from the blocks it reads, at an index. -/
module

public import proofs.«01_k».proof.Proof.Gen.Dh0Ideal.Value
public import Idealize.ShloMosaic.Lib.Pipeline.ValueKit
public import proofs.«01_k».proof.Proof.Math.Ln

@[expose] public section

set_option maxRecDepth 16384

noncomputable section

namespace Cert.Dh0Ideal.Val

open Idealize.ShloMosaic Idealize.ShloMosaic.TcCoe Idealize.SL.Sem Cert.Dh0Ideal Cert.Dh0Ideal.Gen Math

/-- Row `r` of a block of rows. -/
def rowB (B : FVec Ideal S512x2048 .f32) (r : Fin 512) : Fin 2048 → EReal := fun k => B (ix2 r k)

section

variable (acc x dr : FVec Ideal S512x2048 .f32) (g : FVec Ideal S1x2048 .f32) (r : Fin 512) (k : Fin 2048)

theorem pay8_at : k0_pay8 (F := Ideal) x (ix2 r k) = cenE (rowB x r) k := by
  pointwise [k0_pay8]
  rfl

theorem pay9_at : k0_pay9 (F := Ideal) x (ix2 r 0) = rstdE (rowB x r) := by
  pointwise [k0_pay9, pay8_at]
  rfl

theorem pay10_at : k0_pay10 (F := Ideal) x (ix2 r k) = xhatE (rowB x r) k := by
  pointwise [k0_pay10, pay8_at, pay9_at]
  rfl

theorem pay11_at : k0_pay11 (F := Ideal) acc dr (ix2 r k)
    = Ideal.ofBits .f32 0x3F9837F0#32 * dr (ix2 r k) + acc (ix2 r k) := by
  pointwise [k0_pay11]

/-- The gradient at the norm's output times its gain, on row `r` of the block. -/
def dygB : Fin 2048 → EReal := fun l => k0_pay11 (F := Ideal) acc dr (ix2 r l) * g (ix2 0 l)

theorem pay12_at : k0_pay12 (F := Ideal) acc dr g (ix2 r k) = dygB acc dr g r k := by
  pointwise [k0_pay12, dygB]

theorem pay13_at : k0_pay13 (F := Ideal) acc dr g (ix2 r k) = dygB acc dr g r k - meanE (dygB acc dr g r) := by
  pointwise [k0_pay13, pay12_at]
  rfl

theorem pay14_at : k0_pay14 (F := Ideal) acc x dr g (ix2 r k)
    = xhatE (rowB x r) k * meanE (fun l => dygB acc dr g r l * xhatE (rowB x r) l) := by
  pointwise [k0_pay14, pay12_at, pay10_at]
  rfl

/-- The block of `dx`: the norm's gradient in its closed form, row by row. -/
theorem pay3_at : k0_pay3 (F := Ideal) (k0_pay9 x) (k0_pay13 acc dr g) (k0_pay14 acc x dr g) (ix2 r k)
    = lnBwdE (rowB x r) (dygB acc dr g r) k := by
  pointwise [k0_pay3, pay9_at, pay13_at, pay14_at]
  rfl

/-- The block's share of the gain's gradient. -/
theorem pay4_at : k0_pay4 (F := Ideal) (k0_pay10 x) (k0_pay11 acc dr) (ix2 0 k)
    = ∑ r : Fin 512, k0_pay11 (F := Ideal) acc dr (ix2 r k) * xhatE (rowB x r) k := by
  pointwise [k0_pay4, pay10_at]

/-- The block's share of the bias's gradient. -/
theorem pay5_at : k0_pay5 (F := Ideal) (k0_pay11 acc dr) (ix2 0 k) = ∑ r : Fin 512, k0_pay11 (F := Ideal) acc dr (ix2 r k) := by
  pointwise [k0_pay5]

theorem pay6_at (p : FVec Ideal S1x2048 .f32) : k0_pay6 (F := Ideal) (k0_pay10 x) (k0_pay11 acc dr) p (ix2 0 k)
    = p (ix2 0 k) + ∑ r : Fin 512, k0_pay11 (F := Ideal) acc dr (ix2 r k) * xhatE (rowB x r) k := by
  pointwise [k0_pay6, pay4_at]

theorem pay7_at (p : FVec Ideal S1x2048 .f32) : k0_pay7 (F := Ideal) (k0_pay11 acc dr) p (ix2 0 k)
    = p (ix2 0 k) + ∑ r : Fin 512, k0_pay11 (F := Ideal) acc dr (ix2 r k) := by
  pointwise [k0_pay7, pay5_at]

theorem pay1_at : k0_pay1 (F := Ideal) (ix2 r k) = 0 := by
  pointwise [k0_pay1]

theorem pay2_at (a1 a2 : FVec Ideal S1x512x512 .bf16) (b1 b2 : FVec Ideal S1x2048x512 .bf16) :
    k0_pay2 (F := Ideal) acc a1 b1 a2 b2 (ix2 r k)
      = acc (ix2 r k) + ((∑ l : Fin 512, a1 (ix3 0 r l) * b1 (ix3 0 k l)) + ∑ l : Fin 512, a2 (ix3 0 r l) * b2 (ix3 0 k l)) := by
  pointwise [k0_pay2]

end

end Cert.Dh0Ideal.Val

end
-- ==== Proof.Dh0.Ref.lean ====
/- What the reference of the entry norm's gradient computes, read at an index. -/
module

public import proofs.«01_k».proof.Proof.Gen.RefDh0Ideal.Read
public import proofs.«01_k».proof.Proof.Math.Ln

@[expose] public section

set_option maxRecDepth 16384

noncomputable section

namespace Cert.RefDh0Ideal.Val

open Idealize.ShloMosaic Idealize.ShloMosaic.TcCoe Idealize.SL.Sem Cert.RefDh0Ideal Cert.RefDh0Ideal.Gen Cert.RefDh0Ideal.Read Math

variable (X : FVec Ideal S1x4096x2048 .f32) (G : FVec Ideal S2048 .f32) (W : FVec Ideal S1x2048x4096 .f32)
  (DU : FVec Ideal S4096x4096 .f32) (DR : FVec Ideal S4096x2048 .f32)

/-- Row `r` of the tokens. -/
def row (r : Fin 4096) : Fin 2048 → EReal := fun k => X (ix3 0 r k)

theorem v4_at (r : Fin 4096) : val_main_v4 (F := Ideal) X (ix2 r 0) = meanE (row X r) := by
  pointwise [val_main_v4, val_main_v3, val_main_v2, val_main_v1, val_main_v0, val_main_cst, val_main_cst_0]
  rfl

theorem v15_at (r : Fin 4096) (k : Fin 2048) : val_main_v15 (F := Ideal) X (ix2 r k) = cenE (row X r) k := by
  pointwise [val_main_v15, val_main_v14, v4_at, val_main_v0]
  rfl

theorem v17_at (r : Fin 4096) : val_main_v17 (F := Ideal) X (ix2 r 0) = varepsE (row X r) := by
  pointwise [val_main_v17, val_main_v16, val_main_v13, val_main_v12, val_main_v11, val_main_v10, val_main_v7, val_main_v6, val_main_v5, v4_at, val_main_v0, val_main_cst_2, val_main_cst_3, val_main_cst_4]
  rfl

theorem v18_at (r : Fin 4096) : val_main_v18 (F := Ideal) X (ix2 r 0) = rstdE (row X r) := by
  pointwise [val_main_v18, v17_at]
  rfl

theorem v21_at (r : Fin 4096) :
    val_main_v21 (F := Ideal) X (ix2 r 0) = Ideal.ofBits .f32 0xBF000000#32 * Ideal.div (rstdE (row X r)) (varepsE (row X r)) := by
  pointwise [val_main_v21, val_main_v20, val_main_v19, v18_at, v17_at, val_main_cst_5]

theorem v23_at (r : Fin 4096) (k : Fin 2048) : val_main_v23 (F := Ideal) X (ix2 r k) = xhatE (row X r) k := by
  pointwise [val_main_v23, val_main_v22, v18_at, v15_at]
  rfl

theorem v9_at (r : Fin 4096) (k : Fin 2048) :
    val_main_v9 (F := Ideal) X (ix2 r k) = Ideal.ofBits .f32 0x40000000#32 * cenE (row X r) k := by
  pointwise [val_main_v9, val_main_v8, val_main_cst_1, val_main_v6, val_main_v5, v4_at, val_main_v0]
  rfl

/-- The gradient that reaches the norm's output: the share through the product and the share through the residual. -/
def dy (r : Fin 4096) (k : Fin 2048) : EReal :=
  Ideal.ofBits .f32 0x3F9837F0#32 * DR (ix2 r k) + ∑ q : Fin 4096, DU (ix2 r q) * W (ix3 0 k q)

theorem v37_at (r : Fin 4096) (k : Fin 2048) : val_main_v37 (F := Ideal) W DU DR (ix2 r k) = dy W DU DR r k := by
  pointwise [val_main_v37, val_main_v36, val_main_v35, val_main_v34, val_main_v30, val_main_cst_7]
  rfl

/-- That gradient times the norm's gain. -/
def dyg (r : Fin 4096) : Fin 2048 → EReal := fun k => dy W DU DR r k * G (ix1 k)

theorem v45_at (r : Fin 4096) (k : Fin 2048) : val_main_v45 (F := Ideal) G W DU DR (ix2 r k) = dyg G W DU DR r k := by
  pointwise [val_main_v45, val_main_v44, val_main_v24, v37_at]
  rfl

theorem v51_at (r : Fin 4096) (k : Fin 2048) :
    val_main_v51 (F := Ideal) X G W DU DR (ix2 r k) = dyg G W DU DR r k * rstdE (row X r) := by
  pointwise [val_main_v51, val_main_v50, v45_at, v18_at]

theorem v59_at (r : Fin 4096) (k : Fin 2048) :
    val_main_v59 (F := Ideal) X G W DU DR (ix2 r k) = varBackE (row X r) (dyg G W DU DR r) := by
  pointwise [val_main_v59, val_main_v58, val_main_v57, val_main_v56, val_main_v52, val_main_v49, val_main_v48, val_main_v47,
    v45_at, v15_at, val_main_cst_15, val_main_cst_14, val_main_cst_12]
  rw [Fin.sum_univ_one, v21_at]
  rfl

theorem v60_at (r : Fin 4096) (k : Fin 2048) : val_main_v60 (F := Ideal) X G W DU DR (ix2 r k)
    = varBackE (row X r) (dyg G W DU DR r) * (Ideal.ofBits .f32 0x40000000#32 * cenE (row X r) k) := by
  pointwise [val_main_v60, v59_at, v9_at]

/-- The gradient of the tokens. -/
theorem dx_at (r : Fin 4096) (k : Fin 2048) :
    val_main_v70 (F := Ideal) X G W DU DR (ix2 r k) = lnVjpE (row X r) (dyg G W DU DR r) k := by
  pointwise [val_main_v70, val_main_v69, val_main_v68, val_main_v67, val_main_v66, val_main_v65, val_main_v64, val_main_v63,
    val_main_v62, val_main_v61, val_main_v55, val_main_v54, val_main_v53, v60_at, v51_at,
    val_main_cst_13, val_main_cst_16, val_main_cst_17, val_main_cst_18]
  rw [Fin.sum_univ_one]
  rfl

/-- The gradient of the gain. -/
theorem dg_at (k : Fin 2048) :
    val_main_v71 (F := Ideal) X W DU DR (ix2 0 k) = ∑ r, xhatE (row X r) k * dy W DU DR r k := by
  pointwise [val_main_v71, val_main_v46, val_main_v43, val_main_v42, val_main_v41, v37_at, v23_at, val_main_cst_10, val_main_cst_11]
  exact Fin.sum_univ_one _

/-- The gradient of the shift. -/
theorem db_at (k : Fin 2048) : val_main_v72 (F := Ideal) W DU DR (ix2 0 k) = ∑ r, dy W DU DR r k := by
  pointwise [val_main_v72, val_main_v40, val_main_v39, val_main_v38, v37_at, val_main_cst_8, val_main_cst_9]
  exact Fin.sum_univ_one _

end Cert.RefDh0Ideal.Val

end
-- ==== Proof.Math.Fold.lean ====
/- Three facts about sums built up along a grid: a total a kernel carries from run to run, and rows split into blocks. -/
module

public import Idealize.ShloMosaic.Lib.Pipeline.ValueKit
public import Idealize.ShloMosaic.Lib.Pipeline.ReadBack

@[expose] public section

noncomputable section

namespace Math

variable {M : Type} [AddCommMonoid M]

/-- A total that the last point of every run of `J` points increases by the run's share, that the first run starts, and that
    every other point hands on unchanged, is after run `b` the sum of the shares of runs `0` to `b`. -/
theorem held_sum {N : ℕ} (f : (n : ℕ) → n < N → M) (J : ℕ) (hJ : 0 < J) (w : ℕ → M)
    (first : ∀ t : Fin N, t.val % J = J - 1 → t.val < J → f t.val t.isLt = w 0)
    (step : ∀ t : Fin N, t.val % J = J - 1 → ¬t.val < J →
      f t.val t.isLt = f (t.val - 1) (Nat.lt_of_le_of_lt (Nat.sub_le _ _) t.isLt) + w (t.val / J))
    (hold : ∀ t : Fin N, ¬t.val % J = J - 1 → f t.val t.isLt = f (t.val - 1) (Nat.lt_of_le_of_lt (Nat.sub_le _ _) t.isLt))
    (b : ℕ) : ∀ h : J * b + (J - 1) < N, f (J * b + (J - 1)) h = ∑ s ∈ Finset.range (b + 1), w s := by
  induction b with
  | zero =>
    intro h
    rw [Finset.sum_range_one]
    have e := first ⟨J * 0 + (J - 1), h⟩ (by simp [Nat.mod_eq_of_lt (Nat.sub_lt hJ one_pos)]) (by simp; omega)
    exact e
  | succ b ih =>
    intro h
    have hm : ∀ i, i < J → (J * (b + 1) + i) % J = i := fun i hi => by rw [Nat.mul_add_mod, Nat.mod_eq_of_lt hi]
    have hd : (J * (b + 1) + (J - 1)) / J = b + 1 := by
      rw [Nat.mul_add_div hJ, Nat.div_eq_of_lt (Nat.sub_lt hJ one_pos), Nat.add_zero]
    have hge : J ≤ J * (b + 1) := Nat.le_mul_of_pos_right J (Nat.succ_pos b)
    have hlast : ∀ i, i < J → ∀ hi : J * (b + 1) + i - 1 < N,
        f (J * (b + 1) + i - 1) hi = ∑ s ∈ Finset.range (b + 1), w s := by
      intro i
      induction i with
      | zero =>
        intro _ hi
        have e : J * (b + 1) + 0 - 1 = J * b + (J - 1) := by rw [Nat.mul_add]; omega
        have hc : ∀ n n' (hn : n < N) (hn' : n' < N), n = n' → f n hn = f n' hn' := by
          intro n n' _ _ he; subst he; rfl
        rw [hc _ _ hi (e ▸ hi) e]
        exact ih _
      | succ i ihi =>
        intro hiJ hi
        have hx := hold ⟨J * (b + 1) + i, by omega⟩ (by rw [hm i (by omega)]; omega)
        refine Eq.trans ?_ (ihi (by omega) (by omega))
        exact hx
    rw [step ⟨J * (b + 1) + (J - 1), h⟩ (hm _ (Nat.sub_lt hJ one_pos)) (by simp; omega), Finset.sum_range_succ]
    simp only [hd]
    rw [hlast (J - 1) (Nat.sub_lt hJ one_pos)]

/-- Rows, block by block: the sum over blocks of the sums over their rows is the sum over all rows. -/
theorem sum_blocks {A n N : ℕ} (hN : N = A * n) (f : ℕ → M) :
    ∑ b ∈ Finset.range A, ∑ r : Fin n, f (n * b + r.val) = ∑ R : Fin N, f R.val := by
  rw [Finset.sum_range]
  refine Fin.sum_mul_add_congr (fun s k _ => ?_) hN
  show f (n * s.val + k.val) = f (s.val * n + k.val)
  rw [Nat.mul_comm]

/-- A total that grows by one block of `n` rows at the end of every run of `J` points is, after the last run, the sum
    over all the rows. -/
theorem held_rows {N A n R : ℕ} (f : (n : ℕ) → n < N → M) (J : ℕ) (hJ : 0 < J) (hR : R = (A + 1) * n) (w : Fin R → M)
    (row : Fin N → Fin n → Fin R) (hrow : ∀ t r, (row t r).val = n * (t.val / J) + r.val)
    (first : ∀ t : Fin N, t.val % J = J - 1 → t.val < J → f t.val t.isLt = ∑ r, w (row t r))
    (step : ∀ t : Fin N, t.val % J = J - 1 → ¬t.val < J →
      f t.val t.isLt = f (t.val - 1) (Nat.lt_of_le_of_lt (Nat.sub_le _ _) t.isLt) + ∑ r, w (row t r))
    (hold : ∀ t : Fin N, ¬t.val % J = J - 1 → f t.val t.isLt = f (t.val - 1) (Nat.lt_of_le_of_lt (Nat.sub_le _ _) t.isLt))
    (h : J * A + (J - 1) < N) : f (J * A + (J - 1)) h = ∑ i, w i := by
  let w' : ℕ → M := fun i => if h : i < R then w ⟨i, h⟩ else 0
  have e : ∀ t : Fin N, ∑ r, w (row t r) = ∑ r : Fin n, w' (n * (t.val / J) + r.val) := fun t =>
    Finset.sum_congr rfl fun r _ => by
      show _ = if h : _ then _ else _
      rw [dif_pos (by rw [← hrow t r]; exact (row t r).isLt)]
      exact congrArg w (Fin.ext (hrow t r))
  refine (held_sum f J hJ (fun b => ∑ r : Fin n, w' (n * b + r.val)) (fun t h1 h2 => ?_) (fun t h1 h2 => ?_) hold A h).trans ?_
  · rw [first t h1 h2, e t, Nat.div_eq_of_lt h2]
  · rw [step t h1 h2, e t]
  · refine (sum_blocks hR w').trans (Finset.sum_congr rfl fun i _ => ?_)
    show (if h : i.val < R then w ⟨i.val, h⟩ else 0) = w i
    rw [dif_pos i.isLt]

end Math

end
-- ==== Proof.Dh0.Kernel.lean ====
/- What the fused kernel leaves in its results. -/
module

public import proofs.«01_k».proof.Proof.Dh0.Pay
public import proofs.«01_k».proof.Proof.Dh0.Ref
public import proofs.«01_k».proof.Proof.Math.Fold

@[expose] public section

set_option maxRecDepth 16384

noncomputable section

namespace Cert.Dh0Ideal.Val

open Idealize.ShloMosaic Idealize.ShloMosaic.TcCoe Idealize.SL.Sem Cert.Dh0Ideal Cert.Dh0Ideal.Gen Math

variable (m : (ℓ : Loc nD τ sig) → Buf (Elt Ideal) ℓ) (c : Dev nD)

theorem idx : ∀ t : Fin cfg0.N, win0_0.index t = ![t.val % 4, t.val / 4, 0] ∧ win0_1.index t = ![(t.val % 4 + 1) % 4, 0, 0]
    ∧ win0_2.index t = ![t.val / 4, 0] ∧ win0_3.index t = ![t.val / 4, 0] ∧ win0_4.index t = ![0, 0] ∧ t.val / 4 < 8 :=
  (by decide +kernel : ∀ t : Fin grid0.N, _)

/-- The kernel's arguments. -/
def argX : FVec Ideal S1x4096x2048 .f32 := m ((c : Thread nD τ).loc main_arg0)
def argG : FVec Ideal S2048 .f32 := m ((c : Thread nD τ).loc main_arg1)
def argW : FVec Ideal S1x2048x4096 .f32 := m ((c : Thread nD τ).loc main_arg3)
def argDU : FVec Ideal S4096x4096 .f32 := m ((c : Thread nD τ).loc main_arg4)
def argDR : FVec Ideal S4096x2048 .f32 := m ((c : Thread nD τ).loc main_arg5)

/-- The arrays the host code makes of them. -/
def inDU : FVec Ideal S4x4096x1024 .bf16 := V m c main_v14
def inW : FVec Ideal S8x2048x512 .bf16 := V m c main_v4
def inX : FVec Ideal S4096x2048 .f32 := V m c main_v0
def inG : FVec Ideal S1x2048 .f32 := V m c main_v1

theorem inX_at (r : Fin 4096) (k : Fin 2048) : inX m c (ix2 r k) = argX m c (ix3 0 r k) := by
  unfold inX
  entry_read
  show shapeCast S4096x2048 (argX m c) shapeCasts_S1x4096x2048_S4096x2048 (ix2 r k) = _
  pointwise

theorem inG_at (k : Fin 2048) : inG m c (ix2 0 k) = argG m c (ix1 k) := by
  unfold inG
  entry_read
  show shapeCast S1x2048 (argG m c) shapeCasts_S2048_S1x2048 (ix2 0 k) = _
  pointwise

theorem inW_at (s : Fin 8) (k : Fin 2048) (l : Fin 512) :
    inW m c (ix3 s k l) = argW m c (ix3 0 k ⟨512 * s.val + l.val, by omega⟩) := by
  unfold inW
  entry_read
  show truncf (F := Ideal) .bf16 (transpose S8x2048x512 [1, 0, 2]
    (shapeCast S2048x8x512 (argW m c) shapeCasts_S1x2048x4096_S2048x8x512) transposes_S2048x8x512_S8x2048x512_1_0_2) bitsLt_bf16_f32
    (ix3 s k l) = _
  pointwise
  congr 2
  exact Fin.ext (by show s.val * 512 + l.val = 512 * s.val + l.val; omega)

theorem inDU_eq : inDU m c = truncf (F := Ideal) .bf16 (concatenate S4x4096x1024 0
    [⟨S1x4096x1024, broadcastInDim S1x4096x1024 ![1, 2] bcast_S4096x1024_S1x4096x1024_1_2
        (extractStridedSlice S4096x1024 ![0, 1024] (argDU m c) slices_S4096x4096_S4096x1024_0_1024)⟩,
     ⟨S1x4096x1024, broadcastInDim S1x4096x1024 ![1, 2] bcast_S4096x1024_S1x4096x1024_1_2
        (extractStridedSlice S4096x1024 ![0, 2048] (argDU m c) slices_S4096x4096_S4096x1024_0_2048)⟩,
     ⟨S1x4096x1024, broadcastInDim S1x4096x1024 ![1, 2] bcast_S4096x1024_S1x4096x1024_1_2
        (extractStridedSlice S4096x1024 ![0, 3072] (argDU m c) slices_S4096x4096_S4096x1024_0_3072)⟩,
     ⟨S1x4096x1024, broadcastInDim S1x4096x1024 ![1, 2] bcast_S4096x1024_S1x4096x1024_1_2
        (extractStridedSlice S4096x1024 ![0, 0] (argDU m c) slices_S4096x4096_S4096x1024_0_0)⟩]
    concatenates_S1x4096x1024_S1x4096x1024_S1x4096x1024_S1x4096x1024_S4x4096x1024_d0) bitsLt_bf16_f32 := by
  rfl

theorem inDU_at (s : Fin 4) (r : Fin 4096) (l : Fin 1024) :
    inDU m c (ix3 s r l) = argDU m c (ix2 r ⟨1024 * ((s.val + 1) % 4) + l.val, by omega⟩) := by
  rw [inDU_eq]
  pointwise
  fin_cases s <;> simp

/-- The row of the whole array that row `r` of the block at point `t` is. -/
def rowG (t : Fin cfg0.N) (r : Fin 512) : Fin 4096 := ⟨512 * (t.val / 4) + r.val, by have := (idx t).2.2.2.2.2; omega⟩

theorem blk0_at (t : Fin cfg0.N) (r : Fin 512) (l : Fin 1024) :
    (show FVec Ideal S1x512x1024 .bf16 from iblk m c 0 t) (ix3 0 r l) = inDU m c (ix3 ⟨t.val % 4, by omega⟩ (rowG t r) l) := by
  unfold inDU rowG
  blk_ext [iblk, idx t]

theorem blk1_at (t : Fin cfg0.N) (h : Fin 2) (k : Fin 2048) (l : Fin 512) :
    (show FVec Ideal S2x2048x512 .bf16 from iblk m c 1 t) (ix3 h k l)
      = inW m c (ix3 ⟨2 * ((t.val % 4 + 1) % 4) + h.val, by omega⟩ k l) := by
  unfold inW
  blk_ext [iblk, idx t]

/-- The four pieces a step loads: the two halves of the block of gradients and the two blocks of weights. -/
theorem lda1_at (B : Vec Ideal S1x512x1024 .bf16) (r l : Fin 512) :
    (show FVec Ideal S1x512x512 .bf16 from
      View.ld B (Rect.unit ![0, 0, 0] ![1, 512, 512] inb_S1x512x1024_S1x512x512_0_0_0)) (ix3 0 r l)
      = B (ix3 0 r ⟨l.val, by omega⟩) := by
  refine View.ld_unit_apply_of _ _ _ _ _ _ fun a => ?_
  match a with
  | ⟨0, _⟩ => rfl
  | ⟨1, _⟩ => exact (Nat.zero_add _).symm
  | ⟨2, _⟩ => first | rfl | exact (Nat.zero_add _).symm

theorem lda2_at (B : Vec Ideal S1x512x1024 .bf16) (r l : Fin 512) :
    (show FVec Ideal S1x512x512 .bf16 from
      View.ld B (Rect.unit ![0, 0, 512] ![1, 512, 512] inb_S1x512x1024_S1x512x512_0_0_512)) (ix3 0 r l)
      = B (ix3 0 r ⟨512 + l.val, by omega⟩) := by
  refine View.ld_unit_apply_of _ _ _ _ _ _ fun a => ?_
  match a with
  | ⟨0, _⟩ => rfl
  | ⟨1, _⟩ => exact (Nat.zero_add _).symm
  | ⟨2, _⟩ => first | rfl | exact (Nat.zero_add _).symm

theorem ldb1_at (B : Vec Ideal S2x2048x512 .bf16) (k : Fin 2048) (l : Fin 512) :
    (show FVec Ideal S1x2048x512 .bf16 from
      View.ld B (Rect.unit ![0, 0, 0] ![1, 2048, 512] inb_S2x2048x512_S1x2048x512_0_0_0)) (ix3 0 k l) = B (ix3 0 k l) := by
  refine View.ld_unit_apply_of _ _ _ _ _ _ fun a => ?_
  match a with
  | ⟨0, _⟩ => rfl
  | ⟨1, _⟩ => exact (Nat.zero_add _).symm
  | ⟨2, _⟩ => first | rfl | exact (Nat.zero_add _).symm

theorem ldb2_at (B : Vec Ideal S2x2048x512 .bf16) (k : Fin 2048) (l : Fin 512) :
    (show FVec Ideal S1x2048x512 .bf16 from
      View.ld B (Rect.unit ![1, 0, 0] ![1, 2048, 512] inb_S2x2048x512_S1x2048x512_1_0_0)) (ix3 0 k l) = B (ix3 1 k l) := by
  refine View.ld_unit_apply_of _ _ _ _ _ _ fun a => ?_
  match a with
  | ⟨0, _⟩ => rfl
  | ⟨1, _⟩ => exact (Nat.zero_add _).symm
  | ⟨2, _⟩ => first | rfl | exact (Nat.zero_add _).symm

theorem dr_at (t : Fin cfg0.N) (r : Fin 512) (k : Fin 2048) :
    (show FVec Ideal S512x2048 .f32 from iblk m c 2 t) (ix2 r k) = argDR m c (ix2 (rowG t r) k) := by
  unfold argDR rowG
  blk_ext [iblk, V, idx t]

theorem x_at (t : Fin cfg0.N) (r : Fin 512) (k : Fin 2048) :
    (show FVec Ideal S512x2048 .f32 from iblk m c 3 t) (ix2 r k) = argX m c (ix3 0 (rowG t r) k) := by
  rw [← inX_at]
  unfold inX rowG
  blk_ext [iblk, idx t]

theorem g_at (t : Fin cfg0.N) (k : Fin 2048) :
    (show FVec Ideal S1x2048 .f32 from iblk m c 4 t) (ix2 0 k) = argG m c (ix1 k) := by
  rw [← inG_at]
  unfold inG
  blk_ext [iblk, idx t]

/-- Column `1024·((s+1) mod 4) + h·512 + l` of the gradients: the lane the step `s` multiplies at place `l` of its half `h`. -/
def col (s : ℕ) (h : Fin 2) (l : Fin 512) : Fin 4096 := ⟨1024 * ((s + 1) % 4) + 512 * h.val + l.val, by omega⟩

/-- One product of the accumulated sum. -/
def prodAt (r : Fin 4096) (k : Fin 2048) (q : Fin 4096) : EReal := argDU m c (ix2 r q) * argW m c (ix3 0 k q)

/-- What the step at point `t` adds to the accumulator. -/
def term (t : Fin cfg0.N) (r : Fin 512) (k : Fin 2048) : EReal :=
  (∑ l, prodAt m c (rowG t r) k (col (t.val % 4) 0 l)) + ∑ l, prodAt m c (rowG t r) k (col (t.val % 4) 1 l)

theorem pay2_step (t : Fin cfg0.N) (acc : FVec Ideal S512x2048 .f32) (r : Fin 512) (k : Fin 2048) :
    k0_pay2 (F := Ideal) acc
      (View.ld (iblk m c 0 t) (Rect.unit ![0, 0, 0] ![1, 512, 512] inb_S1x512x1024_S1x512x512_0_0_0))
      (View.ld (iblk m c 1 t) (Rect.unit ![0, 0, 0] ![1, 2048, 512] inb_S2x2048x512_S1x2048x512_0_0_0))
      (View.ld (iblk m c 0 t) (Rect.unit ![0, 0, 512] ![1, 512, 512] inb_S1x512x1024_S1x512x512_0_0_512))
      (View.ld (iblk m c 1 t) (Rect.unit ![1, 0, 0] ![1, 2048, 512] inb_S2x2048x512_S1x2048x512_1_0_0)) (ix2 r k)
      = acc (ix2 r k) + term m c t r k := by
  refine (pay2_at acc r k _ _ _ _).trans ?_
  have e1 : ∀ l : Fin 512, inDU m c (ix3 ⟨t.val % 4, by omega⟩ (rowG t r) ⟨l.val, by omega⟩)
      * inW m c (ix3 ⟨2 * ((t.val % 4 + 1) % 4) + (0 : Fin 2).val, by omega⟩ k l) = prodAt m c (rowG t r) k (col (t.val % 4) 0 l) := by
    intro l
    rw [inDU_at, inW_at]
    unfold prodAt col
    congr 3 <;> apply Fin.ext <;> show _ = 1024 * _ + 512 * 0 + l.val <;> show _ = _ <;> dsimp <;> omega
  have e2 : ∀ l : Fin 512, inDU m c (ix3 ⟨t.val % 4, by omega⟩ (rowG t r) ⟨512 + l.val, by omega⟩)
      * inW m c (ix3 ⟨2 * ((t.val % 4 + 1) % 4) + (1 : Fin 2).val, by omega⟩ k l) = prodAt m c (rowG t r) k (col (t.val % 4) 1 l) := by
    intro l
    rw [inDU_at, inW_at]
    unfold prodAt col
    congr 3 <;> apply Fin.ext <;> show _ = 1024 * _ + 512 * 1 + l.val <;> dsimp <;> omega
  refine congrArg (acc (ix2 r k) + ·) (congrArg₂ (· + ·) (Finset.sum_congr rfl fun l _ => ?_) (Finset.sum_congr rfl fun l _ => ?_))
  · exact (congrArg₂ (· * ·) ((lda1_at _ r l).trans (blk0_at m c t r ⟨l.val, by omega⟩))
      ((ldb1_at _ k l).trans (blk1_at m c t 0 k l))).trans (e1 l)
  · exact (congrArg₂ (· * ·) ((lda2_at _ r l).trans (blk0_at m c t r ⟨512 + l.val, by omega⟩))
      ((ldb2_at _ k l).trans (blk1_at m c t 1 k l))).trans (e2 l)

/-- The accumulator after point `t`. -/
def scr (n : ℕ) (h : n < cfg0.N) : FVec Ideal S512x2048 .f32 := (outsAt0 m c n h).2.2.2

theorem scr_reset (t : Fin cfg0.N) (h0 : t.val % 4 = 0) (r : Fin 512) (k : Fin 2048) :
    scr m c t.val t.isLt (ix2 r k) = 0 + term m c t r k := by
  unfold scr
  rw [outsAt0_A m c t h0 (by omega)]
  frame_out
  refine (pay2_step m c t _ r k).trans ?_
  rw [pay1_at]

theorem scr_step (t : Fin cfg0.N) (h0 : ¬t.val % 4 = 0) (r : Fin 512) (k : Fin 2048) :
    scr m c t.val t.isLt (ix2 r k) = scr m c (t.val - 1) (Nat.lt_of_le_of_lt (Nat.sub_le _ _) t.isLt) (ix2 r k) + term m c t r k := by
  unfold scr
  by_cases h1 : t.val % 4 = 3
  · by_cases h2 : t.val < 4
    · rw [outsAt0_C m c t h0 h1 h2 (by omega) h2 (by omega)]
      frame_out
      rw [read_unread_whole]
      exact pay2_step m c t _ r k
    · rw [outsAt0_D m c t h0 h1 h2 (by omega) h2 (by omega)]
      frame_out
      rw [read_unread_whole]
      exact pay2_step m c t _ r k
  · rw [outsAt0_B m c t h0 h1]
    frame_out
    rw [read_unread_whole]
    exact pay2_step m c t _ r k

/-- One step's two halves together are one block of 1024 lanes. -/
theorem halves (P : Fin 4096 → EReal) (s : ℕ) (u : Fin 4) (hu : u.val = (s + 1) % 4) :
    (∑ l, P (col s 0 l)) + ∑ l, P (col s 1 l) = ∑ j : Fin 1024, P ⟨u.val * 1024 + j.val, by omega⟩ := by
  rw [← Fin.sum_univ_two (fun h : Fin 2 => ∑ l, P (col s h l))]
  refine Fin.sum_mul_add_congr (f := fun j : Fin 1024 => P ⟨u.val * 1024 + j.val, by omega⟩) fun h l hl => ?_
  refine congrArg P (Fin.ext ?_)
  show 1024 * ((s + 1) % 4) + 512 * h.val + l.val = u.val * 1024 + (h.val * 512 + l.val)
  omega

/-- The four steps of a run multiply every lane once. -/
theorem steps (P : Fin 4096 → EReal) :
    ∑ s : Fin 4, ((∑ l, P (col s.val 0 l)) + ∑ l, P (col s.val 1 l)) = ∑ q, P q := by
  rw [← Fin.sum_mul_add_congr (S := 4) (n := 1024) (F := fun u j => P ⟨u.val * 1024 + j.val, by omega⟩) (f := P) (fun _ _ _ => rfl),
    Fin.sum_univ_four, Fin.sum_univ_four, halves P (0 : Fin 4).val 1 rfl, halves P (1 : Fin 4).val 2 rfl,
    halves P (2 : Fin 4).val 3 rfl, halves P (3 : Fin 4).val 0 rfl]
  abel

theorem scr_last (t : Fin cfg0.N) (h1 : t.val % 4 = 3) (r : Fin 512) (k : Fin 2048) :
    scr m c t.val t.isLt (ix2 r k) = ∑ q, prodAt m c (rowG t r) k q := by
  have e := Pipeline.eq_sum_fin_of_reset_step_apply_of_flush (fun n h (_ : Unit) => scr m c n h (ix2 r k)) 4 (fun _ => 0)
    (fun t _ => term m c t r k) (fun t h0 _ => scr_reset m c t h0 r k) (fun t h0 _ => scr_step m c t h0 r k) t h1 ()
  refine e.trans ?_
  rw [zero_add, ← steps]
  refine Finset.sum_congr rfl fun s _ => ?_
  have hr : rowG ⟨4 * (t.val / 4) + s.val, by have := t.isLt; have := s.isLt; omega⟩ r = rowG t r := by
    apply Fin.ext
    show 512 * ((4 * (t.val / 4) + s.val) / 4) + r.val = 512 * (t.val / 4) + r.val
    omega
  have hs : (4 * (t.val / 4) + s.val) % 4 = s.val := by omega
  show (∑ l, prodAt m c (rowG ⟨4 * (t.val / 4) + s.val, _⟩ r) k (col ((4 * (t.val / 4) + s.val) % 4) 0 l))
    + (∑ l, prodAt m c (rowG ⟨4 * (t.val / 4) + s.val, _⟩ r) k (col ((4 * (t.val / 4) + s.val) % 4) 1 l)) = _
  rw [hr, hs]

/-- The blocks a last step reads, at the kernel's own types. -/
def blkX (t : Fin cfg0.N) : FVec Ideal S512x2048 .f32 := iblk m c 3 t
def blkDR (t : Fin cfg0.N) : FVec Ideal S512x2048 .f32 := iblk m c 2 t
def blkG (t : Fin cfg0.N) : FVec Ideal S1x2048 .f32 := iblk m c 4 t

def outX (n : ℕ) (h : n < cfg0.N) : FVec Ideal S512x2048 .f32 := (outsAt0 m c n h).1
def outG (n : ℕ) (h : n < cfg0.N) : FVec Ideal S1x2048 .f32 := (outsAt0 m c n h).2.1
def outB (n : ℕ) (h : n < cfg0.N) : FVec Ideal S1x2048 .f32 := (outsAt0 m c n h).2.2.1

theorem outX_last (t : Fin cfg0.N) (h1 : t.val % 4 = 3) :
    outX m c t.val t.isLt = k0_pay3 (F := Ideal) (k0_pay9 (blkX m c t)) (k0_pay13 (scr m c t.val t.isLt) (blkDR m c t) (blkG m c t))
      (k0_pay14 (scr m c t.val t.isLt) (blkX m c t) (blkDR m c t) (blkG m c t)) := by
  unfold outX scr blkX blkDR blkG
  by_cases h2 : t.val < 4
  · rw [outsAt0_C m c t (by omega) h1 h2 (by omega) h2 (by omega)]
    frame_out
  · rw [outsAt0_D m c t (by omega) h1 h2 (by omega) h2 (by omega)]
    frame_out

theorem outG_first (t : Fin cfg0.N) (h1 : t.val % 4 = 3) (h2 : t.val < 4) :
    outG m c t.val t.isLt = k0_pay4 (F := Ideal) (k0_pay10 (blkX m c t)) (k0_pay11 (scr m c t.val t.isLt) (blkDR m c t)) := by
  unfold outG scr blkX blkDR
  rw [outsAt0_C m c t (by omega) h1 h2 (by omega) h2 (by omega)]
  frame_out

theorem outG_step (t : Fin cfg0.N) (h1 : t.val % 4 = 3) (h2 : ¬t.val < 4) :
    outG m c t.val t.isLt = k0_pay6 (F := Ideal) (k0_pay10 (blkX m c t)) (k0_pay11 (scr m c t.val t.isLt) (blkDR m c t))
      (outG m c (t.val - 1) (Nat.lt_of_le_of_lt (Nat.sub_le _ _) t.isLt)) := by
  unfold outG scr blkX blkDR
  rw [outsAt0_D m c t (by omega) h1 h2 (by omega) h2 (by omega)]
  frame_out

theorem outB_first (t : Fin cfg0.N) (h1 : t.val % 4 = 3) (h2 : t.val < 4) :
    outB m c t.val t.isLt = k0_pay5 (F := Ideal) (k0_pay11 (scr m c t.val t.isLt) (blkDR m c t)) := by
  unfold outB scr blkDR
  rw [outsAt0_C m c t (by omega) h1 h2 (by omega) h2 (by omega)]
  frame_out

theorem outB_step (t : Fin cfg0.N) (h1 : t.val % 4 = 3) (h2 : ¬t.val < 4) :
    outB m c t.val t.isLt = k0_pay7 (F := Ideal) (k0_pay11 (scr m c t.val t.isLt) (blkDR m c t))
      (outB m c (t.val - 1) (Nat.lt_of_le_of_lt (Nat.sub_le _ _) t.isLt)) := by
  unfold outB scr blkDR
  rw [outsAt0_D m c t (by omega) h1 h2 (by omega) h2 (by omega)]
  frame_out

theorem out_hold (t : Fin cfg0.N) (h1 : ¬t.val % 4 = 3) :
    outG m c t.val t.isLt = outG m c (t.val - 1) (Nat.lt_of_le_of_lt (Nat.sub_le _ _) t.isLt)
      ∧ outB m c t.val t.isLt = outB m c (t.val - 1) (Nat.lt_of_le_of_lt (Nat.sub_le _ _) t.isLt) := by
  unfold outG outB
  by_cases h2 : t.val % 4 = 0
  · rw [outsAt0_A m c t h2 h1]
    exact ⟨rfl, rfl⟩
  · rw [outsAt0_B m c t h2 h1]
    exact ⟨rfl, rfl⟩

end Cert.Dh0Ideal.Val

end
-- ==== Proof.Dh0.Result.lean ====
/- The fused kernel's three result arrays, read at an index, are the norm's gradients in their closed form. -/
module

public import proofs.«01_k».proof.Proof.Dh0.Kernel

@[expose] public section

set_option maxRecDepth 16384

noncomputable section

namespace Cert.Dh0Ideal.Val

open Idealize.ShloMosaic Idealize.ShloMosaic.TcCoe Idealize.SL.Sem Cert.Dh0Ideal Cert.Dh0Ideal.Gen Math
open Cert.RefDh0Ideal.Val (row dy dyg)

variable (m : (ℓ : Loc nD τ sig) → Buf (Elt Ideal) ℓ) (c : Dev nD)

/-- The gradient at the norm's output, of the kernel's arguments. -/
def dyK (r : Fin 4096) (k : Fin 2048) : EReal := dy (argW m c) (argDU m c) (argDR m c) r k

theorem pay11_last (t : Fin cfg0.N) (h1 : t.val % 4 = 3) (r : Fin 512) (k : Fin 2048) :
    k0_pay11 (F := Ideal) (scr m c t.val t.isLt) (blkDR m c t) (ix2 r k) = dyK m c (rowG t r) k := by
  rw [pay11_at, scr_last m c t h1]
  exact congrArg (fun z => Ideal.ofBits .f32 0x3F9837F0#32 * z + _) (dr_at m c t r k)

theorem rowB_last (t : Fin cfg0.N) (r : Fin 512) : rowB (blkX m c t) r = row (argX m c) (rowG t r) :=
  funext fun k => x_at m c t r k

theorem dygB_last (t : Fin cfg0.N) (h1 : t.val % 4 = 3) (r : Fin 512) :
    dygB (scr m c t.val t.isLt) (blkDR m c t) (blkG m c t) r
      = dyg (argG m c) (argW m c) (argDU m c) (argDR m c) (rowG t r) :=
  funext fun l => congrArg₂ (· * ·) (pay11_last m c t h1 r l) (g_at m c t l)

theorem outX_at (t : Fin cfg0.N) (h1 : t.val % 4 = 3) (r : Fin 512) (k : Fin 2048) :
    outX m c t.val t.isLt (ix2 r k)
      = lnBwdE (row (argX m c) (rowG t r)) (dyg (argG m c) (argW m c) (argDU m c) (argDR m c) (rowG t r)) k := by
  rw [outX_last m c t h1, pay3_at, rowB_last, dygB_last m c t h1]

/-- Row `n` of the arrays, for any natural number. -/
def rowN (n : ℕ) : Fin 4096 := ⟨n % 4096, Nat.mod_lt _ (by decide)⟩

theorem rowG_eq (t : Fin cfg0.N) (r : Fin 512) : rowG t r = rowN (512 * (t.val / 4) + r.val) := by
  apply Fin.ext
  show 512 * (t.val / 4) + r.val = (512 * (t.val / 4) + r.val) % 4096
  have := (idx t).2.2.2.2.2
  omega

theorem outG_at (k : Fin 2048) (h : 31 < cfg0.N) :
    outG m c 31 h (ix2 0 k) = ∑ R : Fin 4096, dyK m c R k * xhatE (row (argX m c) R) k := by
  have hs : ∀ t : Fin cfg0.N, t.val % 4 = 3 → ∑ r : Fin 512, k0_pay11 (F := Ideal) (scr m c t.val t.isLt) (blkDR m c t) (ix2 r k)
      * xhatE (rowB (blkX m c t) r) k
      = ∑ r : Fin 512, (fun n => dyK m c (rowN n) k * xhatE (row (argX m c) (rowN n)) k) (512 * (t.val / 4) + r.val) := by
    intro t h1
    refine Finset.sum_congr rfl fun r _ => ?_
    rw [pay11_last m c t h1, rowB_last, rowG_eq]
  refine (held_sum (fun n h => outG m c n h (ix2 0 k)) 4 (by decide)
    (fun b => ∑ r : Fin 512, (fun n => dyK m c (rowN n) k * xhatE (row (argX m c) (rowN n)) k) (512 * b + r.val))
    (fun t h1 h2 => ?_) (fun t h1 h2 => ?_) (fun t h1 => ?_) 7 h).trans ?_
  · rw [outG_first m c t h1 h2, pay4_at, hs t h1, Nat.div_eq_of_lt h2]
  · rw [outG_step m c t h1 h2, pay6_at, hs t h1]
  · rw [(out_hold m c t h1).1]
  · refine (sum_blocks (M := EReal) (A := 8) (n := 512) (N := 4096) rfl
      (fun n => dyK m c (rowN n) k * xhatE (row (argX m c) (rowN n)) k)).trans (Finset.sum_congr rfl fun R _ => ?_)
    have e : rowN R.val = R := Fin.ext (Nat.mod_eq_of_lt R.isLt)
    rw [e]

theorem outB_at (k : Fin 2048) (h : 31 < cfg0.N) : outB m c 31 h (ix2 0 k) = ∑ R : Fin 4096, dyK m c R k := by
  have hs : ∀ t : Fin cfg0.N, t.val % 4 = 3 → ∑ r : Fin 512, k0_pay11 (F := Ideal) (scr m c t.val t.isLt) (blkDR m c t) (ix2 r k)
      = ∑ r : Fin 512, (fun n => dyK m c (rowN n) k) (512 * (t.val / 4) + r.val) := by
    intro t h1
    refine Finset.sum_congr rfl fun r _ => ?_
    rw [pay11_last m c t h1, rowG_eq]
  refine (held_sum (fun n h => outB m c n h (ix2 0 k)) 4 (by decide)
    (fun b => ∑ r : Fin 512, (fun n => dyK m c (rowN n) k) (512 * b + r.val))
    (fun t h1 h2 => ?_) (fun t h1 h2 => ?_) (fun t h1 => ?_) 7 h).trans ?_
  · rw [outB_first m c t h1 h2, pay5_at, hs t h1, Nat.div_eq_of_lt h2]
  · rw [outB_step m c t h1 h2, pay7_at, hs t h1]
  · rw [(out_hold m c t h1).2]
  · refine (sum_blocks (M := EReal) (A := 8) (n := 512) (N := 4096) rfl
      (fun n => dyK m c (rowN n) k)).trans (Finset.sum_congr rfl fun R _ => ?_)
    have e : rowN R.val = R := Fin.ext (Nat.mod_eq_of_lt R.isLt)
    rw [e]

/-- The gradient of the tokens. -/
theorem G5_at (R : Fin 4096) (k : Fin 2048) :
    (show FVec Ideal S4096x2048 .f32 from Value.G5 m c) (ix2 R k)
      = lnBwdE (row (argX m c) R) (dyg (argG m c) (argW m c) (argDU m c) (argDR m c) R) k := by
  have hp : Value.pt5Of (ix2 R k) = 4 * (R.val / 512) + 3 := by
    show 4 * (1 * (R.val / 512 - 0) + 1 * (k.val / 2048 - 0)) + 3 = _
    omega
  have hN : 4 * (R.val / 512) + 3 < cfg0.N := lt_of_lt_of_eq (b := 32) (by omega) N_0.symm
  have hl : Value.loc5Of (ix2 R k) = ix2 (⟨R.val % 512, by omega⟩ : Fin 512) k := by
    funext a; apply Fin.ext
    match a with
    | ⟨0, _⟩ => rfl
    | ⟨1, _⟩ => exact Nat.mod_eq_of_lt k.isLt
  show Value.G5 m c (ix2 R k) = _
  unfold Value.G5
  rw [dif_pos (by rw [hp]; exact hN), hl, Value.fold0_congr m c _ _ _ (by omega) hp, ← Value.outsAt0_sweep m c _ hN]
  refine (outX_at m c ⟨_, hN⟩ (by show (4 * (R.val / 512) + 3) % 4 = 3; omega) ⟨R.val % 512, by omega⟩ k).trans ?_
  have hR : rowG ⟨4 * (R.val / 512) + 3, hN⟩ ⟨R.val % 512, by omega⟩ = R := by
    apply Fin.ext
    show 512 * ((4 * (R.val / 512) + 3) / 4) + R.val % 512 = R.val
    omega
  rw [hR]

/-- The gradient of the gain. -/
theorem G6_at (k : Fin 2048) :
    (show FVec Ideal S1x2048 .f32 from Value.G6 m c) (ix2 0 k) = ∑ R : Fin 4096, dyK m c R k * xhatE (row (argX m c) R) k := by
  rw [Value.G6_last m c, ← Value.outsAt0_sweep m c 31 (lt_of_lt_of_eq (by decide) N_0.symm)]
  exact outG_at m c k _

/-- The gradient of the bias. -/
theorem G7_at (k : Fin 2048) :
    (show FVec Ideal S1x2048 .f32 from Value.G7 m c) (ix2 0 k) = ∑ R : Fin 4096, dyK m c R k := by
  rw [Value.G7_last m c, ← Value.outsAt0_sweep m c 31 (lt_of_lt_of_eq (by decide) N_0.symm)]
  exact outB_at m c k _

end Cert.Dh0Ideal.Val

end
-- ==== Proof.Math.Finite.lean ====
/- The precondition "every element's absolute value is below infinity", read as: every element is a real number. -/
module

public import Idealize.ShloMosaic.Lib.Pointwise
public import Idealize.ShloMosaic.Lib.ReduceAll
public import Idealize.ShloMosaic.PureOps.Ideal.Laws

@[expose] public section

noncomputable section

namespace Math

open Idealize.ShloMosaic

/-- Every index of an array of rank 2 is a row and a column. -/
theorem exists_ix2 {a b : ℕ} (i : (⟨2, ![a, b]⟩ : Shape).Idx) : ∃ (r : Fin a) (k : Fin b), i = ix2 r k :=
  ⟨i 0, i 1, Idealize.ShloMosaic.eq_ix2 i⟩

/-- An extended real that is a real number. -/
def IsReal (x : EReal) : Prop := ∃ r : ℝ, x = (r : EReal)

theorem andi_one {a b : BitVec 1} (h : IntOp.andi a b = 1#1) : a = 1#1 ∧ b = 1#1 := by
  revert a b; decide

theorem lit_inf : Ideal.ofBits .f32 0x7F800000#32 = (⊤ : EReal) := by
  simp [Ideal.ofBits, Ideal.ieee]

theorem real_of_abs_lt_top {x : EReal} (h : max x (-x) < ⊤) : x = ((x.toReal : ℝ) : EReal) := by
  induction x with
  | bot => simp at h
  | top => simp at h
  | coe r => rfl

/-- One operand of the precondition: all its elements compare below infinity, so all are real. -/
theorem real_of_all {s u w t : Shape} {axes : List (Fin s.rank)} [Subsingleton u.Idx] (X : FVec Ideal s .f32)
    {dims : Fin t.rank → Fin s.rank} (hb : t.BroadcastsInDim s dims) (init : IVec w 1) (h : s.ReducesTo axes u)
    (hu : 0 < w.numel) (j : u.Idx)
    (e : Host.reduce IntOp.andi (cmpf .olt (Host.absf X) (broadcastInDim s dims hb (constant t .f32 0x7F800000#32)))
      init h hu j = 1#1) (i : s.Idx) :
    IsReal (X i) := by
  have h1 := Host.reduce_andi_all _ _ h hu j e i
  refine ⟨_, real_of_abs_lt_top ?_⟩
  have h2 : BitVec.ofBool (decide (max (X i) (-(X i)) < Ideal.ofBits .f32 0x7F800000#32)) = 1#1 := h1
  rw [lit_inf] at h2
  by_contra hn
  rw [decide_eq_false hn] at h2
  exact absurd h2 (by decide)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.sum {ι : Type*} (s : Finset ι) (f : ι → EReal) (h : ∀ i, IsReal (f i)) : IsReal (∑ i ∈ s, f i) := by
  classical
  induction s using Finset.induction_on with
  | empty => rw [Finset.sum_empty]; exact .zero
  | insert a s ha ih => rw [Finset.sum_insert ha]; exact (h a).add ih

/-- A row of reals is the embedding of a real row. -/
theorem IsReal.row {ι : Type*} {v : ι → EReal} (h : ∀ i, IsReal (v i)) : ∃ w : ι → ℝ, v = fun i => (w i : EReal) :=
  ⟨fun i => (h i).choose, funext fun i => (h i).choose_spec⟩

end Math

end
-- ==== Proof.Dh0.Equal.lean ====
/- The fused kernel's gradients are the reference's, over real arguments. -/
module

public import proofs.«01_k».proof.Proof.Dh0.Result
public import proofs.«01_k».proof.Proof.Math.Finite
public import proofs.«01_k».proof.Proof.Gen.Pre_finite_dh0

@[expose] public section

set_option maxRecDepth 16384

noncomputable section

namespace Cert.Dh0Ideal.Val

open Idealize.ShloMosaic Idealize.ShloMosaic.TcCoe Idealize.SL.Sem Cert.Dh0Ideal Cert.Dh0Ideal.Gen Math
open Cert.RefDh0Ideal.Val (row dy dyg dx_at dg_at db_at)
open Cert.RefDh0Ideal.Read (val_main_v70 val_main_v71 val_main_v72)

variable (m : (ℓ : Loc nD τ sig) → Buf (Elt Ideal) ℓ) (c : Dev nD)

instance : Subsingleton Cert.Pre_finite_dh0.S_.Idx := ⟨fun _ _ => funext fun a => a.elim0⟩

/-- The precondition says that the five arguments the gradients read are real. -/
theorem pre_real [Cert.Pre_finite_dh0.Facts] (X : FVec Ideal S1x4096x2048 .f32) (G B : FVec Ideal S2048 .f32) (W : FVec Ideal S1x2048x4096 .f32)
    (DU : FVec Ideal S4096x4096 .f32) (DR : FVec Ideal S4096x2048 .f32)
    (h : Cert.Pre_finite_dh0.fn (F := Ideal) X G B W DU DR = fun _ => 1#1) :
    (∀ i, IsReal (X i)) ∧ (∀ i, IsReal (G i)) ∧ (∀ i, IsReal (W i)) ∧ (∀ i, IsReal (DU i)) ∧ ∀ i, IsReal (DR i) := by
  have h0 := congrFun h (fun a => a.elim0)
  dsimp only [Cert.Pre_finite_dh0.fn, Cert.Pre_finite_dh0.fn_part1] at h0
  obtain ⟨h1, e5⟩ := andi_one h0
  obtain ⟨h2, e4⟩ := andi_one h1
  obtain ⟨h3, e3⟩ := andi_one h2
  obtain ⟨e1, e2⟩ := andi_one h3
  exact ⟨real_of_all X _ _ _ _ _ e1, real_of_all G _ _ _ _ _ e2, real_of_all W _ _ _ _ _ e3, real_of_all DU _ _ _ _ _ e4,
    real_of_all DR _ _ _ _ _ e5⟩

theorem alpha_real : IsReal (Ideal.ofBits .f32 0x3F9837F0#32) := ⟨_, lit_alpha⟩

theorem dy_real {W : FVec Ideal S1x2048x4096 .f32} {DU : FVec Ideal S4096x4096 .f32} {DR : FVec Ideal S4096x2048 .f32}
    (hW : ∀ i, IsReal (W i)) (hDU : ∀ i, IsReal (DU i)) (hDR : ∀ i, IsReal (DR i)) (r : Fin 4096) (k : Fin 2048) :
    IsReal (dy W DU DR r k) :=
  (alpha_real.mul (hDR _)).add (.sum _ _ fun _ => (hDU _).mul (hW _))

theorem dx_eq (hX : ∀ i, IsReal (argX m c i)) (hG : ∀ i, IsReal (argG m c i)) (hW : ∀ i, IsReal (argW m c i))
    (hDU : ∀ i, IsReal (argDU m c i)) (hDR : ∀ i, IsReal (argDR m c i)) :
    val_main_v70 (F := Ideal) (argX m c) (argG m c) (argW m c) (argDU m c) (argDR m c) = Value.G5 m c := by
  funext i
  obtain ⟨r, k, rfl⟩ := exists_ix2 i
  refine (dx_at _ _ _ _ _ r k).trans (Eq.trans ?_ (G5_at m c r k).symm)
  obtain ⟨x, hx⟩ := IsReal.row (v := row (argX m c) r) fun k => hX _
  obtain ⟨e, he⟩ := IsReal.row (v := dyg (argG m c) (argW m c) (argDU m c) (argDR m c) r) fun k => (dy_real hW hDU hDR r k).mul (hG _)
  rw [hx, he]
  exact (lnBwdE_eq_lnVjpE x e k).symm

theorem dg_eq : val_main_v71 (F := Ideal) (argX m c) (argW m c) (argDU m c) (argDR m c) = Value.G6 m c := by
  funext i
  obtain ⟨r, k, rfl⟩ := exists_ix2 i
  obtain rfl := Fin.fin_one_eq_zero r
  refine (dg_at _ _ _ _ k).trans (Eq.trans ?_ (G6_at m c k).symm)
  exact Finset.sum_congr rfl fun R _ => mul_comm _ _

theorem db_eq : val_main_v72 (F := Ideal) (argW m c) (argDU m c) (argDR m c) = Value.G7 m c := by
  funext i
  obtain ⟨r, k, rfl⟩ := exists_ix2 i
  obtain rfl := Fin.fin_one_eq_zero r
  exact (db_at _ _ _ k).trans (G7_at m c k).symm

end Cert.Dh0Ideal.Val

end
-- ==== Proof.Dh0.Claim.lean ====
module

public import proofs.«01_k».proof.Defs
public import proofs.«01_k».proof.Proof.Gen.Dh0Ideal.Frame
public import proofs.«01_k».proof.Proof.Gen.RefDh0Ideal.Run
public import proofs.«01_k».proof.Proof.Gen.RefDh0Ideal.Read
public import proofs.«01_k».proof.Proof.Gen.Pre_finite_dh0
public import proofs.«01_k».proof.Proof.Dh0.Equal

/-! The claims on the reference of the entry norm's gradient and on the pair. -/

@[expose] public section

noncomputable section

open Idealize.ShloMosaic Idealize.ShloMosaic.TcCoe

namespace Cert.Proof

/-- The reference runs to its end, leaves its arguments as they were, and has no counter to leave. -/
theorem frame_ref_dh0 : @Cert.quiescent_RefDh0Ideal Cert.RefDh0Ideal.Gen.facts := fun m g _ =>
  θ_run_mono (Cert.RefDh0Ideal.Value.run m g) fun r h =>
    ⟨fun c => (h c).2.2.2, sem_eq_zero_of_no_sems (by decide) r.2⟩

/-- The gradient of the entry norm, fused with the product by the weights. -/
theorem dh0 : @Cert.algebraic_Dh0Ideal_RefDh0Ideal_pre_finite_dh0 Cert.Dh0Ideal.Gen.facts Cert.RefDh0Ideal.Gen.facts Cert.Pre_finite_dh0.Gen.facts := by
  intro m g m' g' hpre hagree
  have hreal := fun c => Cert.Dh0Ideal.Val.pre_real _ _ _ _ _ _ (hpre c)
  refine ⟨Cert.Dh0Ideal.Value.G5 m, Cert.Dh0Ideal.Value.G6 m, Cert.Dh0Ideal.Value.G7 m, ?_, ?_⟩
  · run_from Cert.Dh0Ideal.Value.run m g
  · run_from Cert.RefDh0Ideal.Value.run m' g'
    · refine (Cert.RefDh0Ideal.Read.val_main_v70_eq m' c).trans ?_
      obtain ⟨a0, a1, _, a3, a4, a5⟩ := hagree c
      obtain ⟨h0, h1, h3, h4, h5⟩ := hreal c
      rw [a0, a1, a3, a4, a5]
      exact Cert.Dh0Ideal.Val.dx_eq m c h0 h1 h3 h4 h5
    · exact (Cert.RefDh0Ideal.Read.val_main_v71_eq _ _ _ _).trans (Cert.Dh0Ideal.Val.dg_eq m c)
    · exact (Cert.RefDh0Ideal.Read.val_main_v72_eq _ _ _).trans (Cert.Dh0Ideal.Val.db_eq m c)

end Cert.Proof

end
-- ==== Proof.Dh1.Pay.lean ====
/- What each step of the second norm's fused kernel computes from the blocks it reads, at an index. -/
module

public import proofs.«01_k».proof.Proof.Gen.Dh1Ideal.Value
public import Idealize.ShloMosaic.Lib.Pipeline.ValueKit
public import proofs.«01_k».proof.Proof.Math.Ln

@[expose] public section

set_option maxRecDepth 16384

noncomputable section

namespace Cert.Dh1Ideal.Val

open Idealize.ShloMosaic Idealize.ShloMosaic.TcCoe Idealize.SL.Sem Cert.Dh1Ideal Cert.Dh1Ideal.Gen Math

/-- Row `r` of a block of rows. -/
def rowB (B : FVec Ideal S512x2048 .f32) (r : Fin 512) : Fin 2048 → EReal := fun k => B (ix2 r k)

section

variable (acc x dr : FVec Ideal S512x2048 .f32) (g : FVec Ideal S1x2048 .f32) (r : Fin 512) (k : Fin 2048)

theorem pay9_at : k0_pay9 (F := Ideal) x (ix2 r k) = cenE (rowB x r) k := by
  pointwise [k0_pay9]
  rfl

theorem pay10_at : k0_pay10 (F := Ideal) x (ix2 r 0) = rstdE (rowB x r) := by
  pointwise [k0_pay10, pay9_at]
  rfl

theorem pay11_at : k0_pay11 (F := Ideal) x (ix2 r k) = xhatE (rowB x r) k := by
  pointwise [k0_pay11, pay9_at, pay10_at]
  rfl

theorem pay12_at : k0_pay12 (F := Ideal) acc dr (ix2 r k)
    = Ideal.ofBits .f32 0x3F9837F0#32 * dr (ix2 r k) + acc (ix2 r k) := by
  pointwise [k0_pay12]

/-- The gradient at the norm's output times its gain, on row `r` of the block. -/
def dygB : Fin 2048 → EReal := fun l => k0_pay12 (F := Ideal) acc dr (ix2 r l) * g (ix2 0 l)

/-- The block of the norm's gradient in its closed form, row by row. -/
theorem pay3_at : k0_pay3 (F := Ideal) (k0_pay10 x) (k0_pay13 acc x dr g) (ix2 r k) = lnBwdE (rowB x r) (dygB acc dr g r) k := by
  pointwise [k0_pay3, k0_pay13, pay10_at, pay11_at]
  rfl

theorem pay6_at : k0_pay6 (F := Ideal) (k0_pay10 x) (k0_pay13 acc x dr g) (ix2 r k) = lnBwdE (rowB x r) (dygB acc dr g r) k := by
  pointwise [k0_pay6, pay3_at]

/-- The block's share of the gain's gradient. -/
theorem pay4_at : k0_pay4 (F := Ideal) (k0_pay11 x) (k0_pay12 acc dr) (ix2 0 k)
    = ∑ r : Fin 512, k0_pay12 (F := Ideal) acc dr (ix2 r k) * xhatE (rowB x r) k := by
  pointwise [k0_pay4, pay11_at]

/-- The block's share of the bias's gradient. -/
theorem pay5_at : k0_pay5 (F := Ideal) (k0_pay12 acc dr) (ix2 0 k) = ∑ r : Fin 512, k0_pay12 (F := Ideal) acc dr (ix2 r k) := by
  pointwise [k0_pay5]

theorem pay7_at (p : FVec Ideal S1x2048 .f32) : k0_pay7 (F := Ideal) (k0_pay11 x) (k0_pay12 acc dr) p (ix2 0 k)
    = p (ix2 0 k) + ∑ r : Fin 512, k0_pay12 (F := Ideal) acc dr (ix2 r k) * xhatE (rowB x r) k := by
  pointwise [k0_pay7, pay4_at]

theorem pay8_at (p : FVec Ideal S1x2048 .f32) : k0_pay8 (F := Ideal) (k0_pay12 acc dr) p (ix2 0 k)
    = p (ix2 0 k) + ∑ r : Fin 512, k0_pay12 (F := Ideal) acc dr (ix2 r k) := by
  pointwise [k0_pay8, pay5_at]

theorem pay1_at : k0_pay1 (F := Ideal) (ix2 r k) = 0 := by
  pointwise [k0_pay1]

theorem pay2_at (a : FVec Ideal S512x1024 .bf16) (b : FVec Ideal S1x2048x1024 .bf16) :
    k0_pay2 (F := Ideal) acc a b (ix2 r k) = acc (ix2 r k) + ∑ l : Fin 1024, a (ix2 r l) * b (ix3 0 k l) := by
  pointwise [k0_pay2]

end

end Cert.Dh1Ideal.Val

end
-- ==== Proof.Dh1.Ref.lean ====
/- What the reference of the gradient of the norm after the mixer computes, read at an index. -/
module

public import proofs.«01_k».proof.Proof.Gen.RefDh1Ideal.Read
public import proofs.«01_k».proof.Proof.Math.Ln

@[expose] public section

set_option maxRecDepth 16384

noncomputable section

namespace Cert.RefDh1Ideal.Val

open Idealize.ShloMosaic Idealize.ShloMosaic.TcCoe Idealize.SL.Sem Cert.RefDh1Ideal Cert.RefDh1Ideal.Gen Cert.RefDh1Ideal.Read Math

variable (H M : FVec Ideal S4096x2048 .f32) (WO : FVec Ideal S1x2048x2048 .f32) (G B : FVec Ideal S1x2048 .f32)
  (W : FVec Ideal S1x2048x8192 .f32) (DF : FVec Ideal S4096x8192 .f32) (DR : FVec Ideal S4096x2048 .f32)

/-- Row `r` of the residual sum that enters the norm. -/
def row (r : Fin 4096) : Fin 2048 → EReal := fun k =>
  Ideal.ofBits .f32 0x3F9837F0#32 * H (ix2 r k) + ∑ q : Fin 2048, M (ix2 r q) * WO (ix3 0 q k)

theorem v4_at (r : Fin 4096) (k : Fin 2048) : val_main_v4 (F := Ideal) H M WO (ix2 r k) = row H M WO r k := by
  pointwise [val_main_v4, val_main_v3, val_main_v2, val_main_v1, val_main_v0, val_main_cst]
  rfl

theorem v10_at (r : Fin 4096) : val_main_v10 (F := Ideal) H M WO (ix2 r 0) = meanE (row H M WO r) := by
  pointwise [val_main_v10, val_main_v9, val_main_v8, val_main_v7, v4_at, val_main_cst_0, val_main_cst_1]
  rfl

/-- The centred row, in the two places the reference computes it. -/
theorem cen_at (r : Fin 4096) (k : Fin 2048) : val_main_v12 (F := Ideal) H M WO (ix2 r k) = cenE (row H M WO r) k
    ∧ val_main_v21 (F := Ideal) H M WO (ix2 r k) = cenE (row H M WO r) k := by
  constructor
  · pointwise [val_main_v12, val_main_v11, v10_at, v4_at]
    rfl
  · pointwise [val_main_v21, val_main_v20, v10_at, v4_at]
    rfl

theorem v23_at (r : Fin 4096) : val_main_v23 (F := Ideal) H M WO (ix2 r 0) = varepsE (row H M WO r) := by
  pointwise [val_main_v23, val_main_v22, val_main_v19, val_main_v18, val_main_v17, val_main_v16, val_main_v13,
    fun r k => (cen_at H M WO r k).1, val_main_cst_3, val_main_cst_4, val_main_cst_5]
  rfl

theorem v24_at (r : Fin 4096) : val_main_v24 (F := Ideal) H M WO (ix2 r 0) = rstdE (row H M WO r) := by
  pointwise [val_main_v24, v23_at]
  rfl

theorem v29_at (r : Fin 4096) (k : Fin 2048) : val_main_v29 (F := Ideal) H M WO (ix2 r k) = xhatE (row H M WO r) k := by
  pointwise [val_main_v29, val_main_v28, v24_at, fun r k => (cen_at H M WO r k).2]
  rfl

/-- The gradient that reaches the norm's output: the share through the product and the share through the residual. -/
def dy (r : Fin 4096) (k : Fin 2048) : EReal :=
  Ideal.ofBits .f32 0x3F9837F0#32 * DR (ix2 r k) + ∑ q : Fin 8192, DF (ix2 r q) * W (ix3 0 k q)

theorem v43_at (r : Fin 4096) (k : Fin 2048) : val_main_v43 (F := Ideal) W DF DR (ix2 r k) = dy W DF DR r k := by
  pointwise [val_main_v43, val_main_v42, val_main_v41, val_main_v40, val_main_v36, val_main_cst_8]
  rfl

/-- That gradient times the norm's gain. -/
def dyg (r : Fin 4096) : Fin 2048 → EReal := fun k => dy W DF DR r k * G (ix2 0 k)

theorem v51_at (r : Fin 4096) (k : Fin 2048) : val_main_v51 (F := Ideal) G W DF DR (ix2 r k) = dyg G W DF DR r k := by
  pointwise [val_main_v51, val_main_v50, val_main_v30, val_main_v5, v43_at]
  rfl

theorem v57_at (r : Fin 4096) (k : Fin 2048) :
    val_main_v57 (F := Ideal) H M WO G W DF DR (ix2 r k) = dyg G W DF DR r k * rstdE (row H M WO r) := by
  pointwise [val_main_v57, val_main_v56, v51_at, v24_at]

theorem v66_at (r : Fin 4096) (k : Fin 2048) : val_main_v66 (F := Ideal) H M WO G W DF DR (ix2 r k)
    = varBackE (row H M WO r) (dyg G W DF DR r) * (Ideal.ofBits .f32 0x40000000#32 * cenE (row H M WO r) k) := by
  pointwise [val_main_v66, val_main_v65, val_main_v64, val_main_v63, val_main_v62, val_main_v58, val_main_v55, val_main_v54,
    val_main_v53, val_main_v27, val_main_v26, val_main_v25, val_main_v15, val_main_v14, v51_at, v24_at, v23_at,
    fun r k => (cen_at H M WO r k).1, fun r k => (cen_at H M WO r k).2,
    val_main_cst_2, val_main_cst_6, val_main_cst_13, val_main_cst_15, val_main_cst_16]
  rw [Fin.sum_univ_one, v24_at, v23_at]
  rfl

/-- The gradient of the residual sum. -/
theorem dx_at (r : Fin 4096) (k : Fin 2048) :
    val_main_v76 (F := Ideal) H M WO G W DF DR (ix2 r k) = lnVjpE (row H M WO r) (dyg G W DF DR r) k := by
  pointwise [val_main_v76, val_main_v75, val_main_v74, val_main_v73, val_main_v72, val_main_v71, val_main_v70, val_main_v69,
    val_main_v68, val_main_v67, val_main_v61, val_main_v60, val_main_v59, v66_at, v57_at,
    val_main_cst_14, val_main_cst_17, val_main_cst_18, val_main_cst_19]
  rw [Fin.sum_univ_one]
  rfl

/-- The same gradient in the narrow format; the ideal reading rounds nothing. -/
theorem dxb_at (r : Fin 4096) (k : Fin 2048) :
    val_main_v77 (F := Ideal) H M WO G W DF DR (ix2 r k) = lnVjpE (row H M WO r) (dyg G W DF DR r) k := by
  pointwise [val_main_v77, dx_at]

/-- The gradient of the gain. -/
theorem dg_at (k : Fin 2048) :
    val_main_v78 (F := Ideal) H M WO W DF DR (ix2 0 k) = ∑ r, xhatE (row H M WO r) k * dy W DF DR r k := by
  pointwise [val_main_v78, val_main_v52, val_main_v49, val_main_v48, val_main_v47, v43_at, v29_at, val_main_cst_11, val_main_cst_12]
  exact Fin.sum_univ_one _

/-- The gradient of the shift. -/
theorem db_at (k : Fin 2048) : val_main_v79 (F := Ideal) W DF DR (ix2 0 k) = ∑ r, dy W DF DR r k := by
  pointwise [val_main_v79, val_main_v46, val_main_v45, val_main_v44, v43_at, val_main_cst_9, val_main_cst_10]
  exact Fin.sum_univ_one _

end Cert.RefDh1Ideal.Val

end
-- ==== Proof.Dh1.Kernel.lean ====
/- What the second norm's fused kernel leaves in its results. -/
module

public import proofs.«01_k».proof.Proof.Dh1.Pay
public import proofs.«01_k».proof.Proof.Dh1.Ref
public import proofs.«01_k».proof.Proof.Math.Fold

@[expose] public section

set_option maxRecDepth 16384

noncomputable section

namespace Cert.Dh1Ideal.Val

open Idealize.ShloMosaic Idealize.ShloMosaic.TcCoe Idealize.SL.Sem Cert.Dh1Ideal Cert.Dh1Ideal.Gen Math
open Cert.RefDh1Ideal.Val (row dy dyg)

variable (m : (ℓ : Loc nD τ sig) → Buf (Elt Ideal) ℓ) (c : Dev nD)

theorem idx : ∀ t : Fin cfg0.N, win0_0.index t = ![t.val / 8, t.val % 8] ∧ win0_1.index t = ![t.val % 8, 0, 0]
    ∧ win0_2.index t = ![t.val / 8, 0] ∧ win0_3.index t = ![t.val / 8, 0] ∧ win0_4.index t = ![0, 0] ∧ t.val / 8 < 8 :=
  (by decide +kernel : ∀ t : Fin grid0.N, _)

/-- The kernel's arguments. -/
def argH : FVec Ideal S4096x2048 .f32 := m ((c : Thread nD τ).loc main_arg0)
def argM : FVec Ideal S4096x2048 .f32 := m ((c : Thread nD τ).loc main_arg1)
def argWO : FVec Ideal S1x2048x2048 .f32 := m ((c : Thread nD τ).loc main_arg2)
def argG : FVec Ideal S1x2048 .f32 := m ((c : Thread nD τ).loc main_arg3)
def argW : FVec Ideal S1x2048x8192 .f32 := m ((c : Thread nD τ).loc main_arg5)
def argDF : FVec Ideal S4096x8192 .f32 := m ((c : Thread nD τ).loc main_arg6)
def argDR : FVec Ideal S4096x2048 .f32 := m ((c : Thread nD τ).loc main_arg7)

/-- The arrays the host code makes of them. -/
def inDF : FVec Ideal S4096x8192 .bf16 := V m c main_v8
def inW : FVec Ideal S8x2048x1024 .bf16 := V m c main_v7
def inR : FVec Ideal S4096x2048 .f32 := V m c main_v4

/-- The row that enters the norm, and the gradients the reference names, of the kernel's arguments. -/
def rowK (r : Fin 4096) : Fin 2048 → EReal := row (argH m c) (argM m c) (argWO m c) r
def dyK (r : Fin 4096) (k : Fin 2048) : EReal := dy (argW m c) (argDF m c) (argDR m c) r k
def dygK (r : Fin 4096) : Fin 2048 → EReal := dyg (argG m c) (argW m c) (argDF m c) (argDR m c) r

theorem inR_eq : inR m c = Cert.RefDh1Ideal.Read.val_main_v4 (F := Ideal) (argH m c) (argM m c) (argWO m c) := by
  rfl

theorem inR_at (r : Fin 4096) (k : Fin 2048) : inR m c (ix2 r k) = rowK m c r k := by
  rw [inR_eq]
  exact Cert.RefDh1Ideal.Val.v4_at _ _ _ r k

theorem inDF_at (r : Fin 4096) (q : Fin 8192) : inDF m c (ix2 r q) = argDF m c (ix2 r q) := by
  unfold inDF
  entry_read
  show truncf (F := Ideal) .bf16 (argDF m c) bitsLt_bf16_f32 (ix2 r q) = _
  pointwise

theorem inW_at (s : Fin 8) (k : Fin 2048) (l : Fin 1024) :
    inW m c (ix3 s k l) = argW m c (ix3 0 k ⟨1024 * s.val + l.val, by omega⟩) := by
  unfold inW
  entry_read
  show truncf (F := Ideal) .bf16 (transpose S8x2048x1024 [1, 0, 2]
    (shapeCast S2048x8x1024 (argW m c) shapeCasts_S1x2048x8192_S2048x8x1024) transposes_S2048x8x1024_S8x2048x1024_1_0_2)
    bitsLt_bf16_f32 (ix3 s k l) = _
  pointwise
  congr 2
  exact Fin.ext (by show s.val * 1024 + l.val = 1024 * s.val + l.val; omega)

/-- The row of the whole array that row `r` of the block at point `t` is. -/
def rowG (t : Fin cfg0.N) (r : Fin 512) : Fin 4096 := ⟨512 * (t.val / 8) + r.val, by have := (idx t).2.2.2.2.2; omega⟩

/-- Lane `l` of the step `s` of a run. -/
def lane (s : ℕ) (hs : s < 8) (l : Fin 1024) : Fin 8192 := ⟨1024 * s + l.val, by omega⟩

theorem blk0_at (t : Fin cfg0.N) (r : Fin 512) (l : Fin 1024) :
    (show FVec Ideal S512x1024 .bf16 from iblk m c 0 t) (ix2 r l)
      = inDF m c (ix2 (rowG t r) (lane (t.val % 8) (by omega) l)) := by
  unfold inDF rowG lane
  blk_ext [iblk, idx t]

theorem blk1_at (t : Fin cfg0.N) (k : Fin 2048) (l : Fin 1024) :
    (show FVec Ideal S1x2048x1024 .bf16 from iblk m c 1 t) (ix3 0 k l) = inW m c (ix3 ⟨t.val % 8, by omega⟩ k l) := by
  unfold inW
  blk_ext [iblk, idx t]

/-- The blocks a last step reads, at the kernel's own types. -/
def blkDR (t : Fin cfg0.N) : FVec Ideal S512x2048 .f32 := iblk m c 2 t
def blkX (t : Fin cfg0.N) : FVec Ideal S512x2048 .f32 := iblk m c 3 t
def blkG (t : Fin cfg0.N) : FVec Ideal S1x2048 .f32 := iblk m c 4 t

theorem dr_at (t : Fin cfg0.N) (r : Fin 512) (k : Fin 2048) : blkDR m c t (ix2 r k) = argDR m c (ix2 (rowG t r) k) := by
  unfold blkDR argDR rowG
  blk_ext [iblk, V, idx t]

theorem x_at (t : Fin cfg0.N) (r : Fin 512) (k : Fin 2048) : blkX m c t (ix2 r k) = rowK m c (rowG t r) k := by
  rw [← inR_at]
  unfold blkX inR rowG
  blk_ext [iblk, idx t]

theorem g_at (t : Fin cfg0.N) (k : Fin 2048) : blkG m c t (ix2 0 k) = argG m c (ix2 0 k) := by
  unfold blkG argG
  blk_ext [iblk, V, idx t]

/-- One product of the accumulated sum. -/
def prodAt (r : Fin 4096) (k : Fin 2048) (q : Fin 8192) : EReal := argDF m c (ix2 r q) * argW m c (ix3 0 k q)

/-- What the step at point `t` adds to the accumulator. -/
def term (t : Fin cfg0.N) (r : Fin 512) (k : Fin 2048) : EReal :=
  ∑ l, prodAt m c (rowG t r) k (lane (t.val % 8) (by omega) l)

theorem pay2_step (t : Fin cfg0.N) (acc : FVec Ideal S512x2048 .f32) (r : Fin 512) (k : Fin 2048) :
    k0_pay2 (F := Ideal) acc (iblk m c 0 t) (iblk m c 1 t) (ix2 r k) = acc (ix2 r k) + term m c t r k := by
  refine (pay2_at acc r k _ _).trans (congrArg (acc (ix2 r k) + ·) (Finset.sum_congr rfl fun l _ => ?_))
  refine (congrArg₂ (· * ·) (blk0_at m c t r l) (blk1_at m c t k l)).trans ?_
  rw [inDF_at, inW_at]
  rfl

/-- The accumulator after point `t`. -/
def scr (n : ℕ) (h : n < cfg0.N) : FVec Ideal S512x2048 .f32 := (outsAt0 m c n h).2.2.2.2

theorem scr_reset (t : Fin cfg0.N) (h0 : t.val % 8 = 0) (r : Fin 512) (k : Fin 2048) :
    scr m c t.val t.isLt (ix2 r k) = 0 + term m c t r k := by
  unfold scr
  rw [outsAt0_A m c t h0 (by omega)]
  frame_out
  refine (pay2_step m c t _ r k).trans ?_
  rw [pay1_at]

theorem scr_step (t : Fin cfg0.N) (h0 : ¬t.val % 8 = 0) (r : Fin 512) (k : Fin 2048) :
    scr m c t.val t.isLt (ix2 r k) = scr m c (t.val - 1) (Nat.lt_of_le_of_lt (Nat.sub_le _ _) t.isLt) (ix2 r k) + term m c t r k := by
  unfold scr
  by_cases h1 : t.val % 8 = 7
  · by_cases h2 : t.val < 8
    · rw [outsAt0_C m c t h0 h1 h2 (by omega) h2 (by omega)]
      frame_out
      rw [read_unread_whole]
      exact pay2_step m c t _ r k
    · rw [outsAt0_D m c t h0 h1 h2 (by omega) h2 (by omega)]
      frame_out
      rw [read_unread_whole]
      exact pay2_step m c t _ r k
  · rw [outsAt0_B m c t h0 h1]
    frame_out
    rw [read_unread_whole]
    exact pay2_step m c t _ r k

theorem scr_last (t : Fin cfg0.N) (h1 : t.val % 8 = 7) (r : Fin 512) (k : Fin 2048) :
    scr m c t.val t.isLt (ix2 r k) = ∑ q, prodAt m c (rowG t r) k q := by
  have e := Pipeline.eq_sum_fin_of_reset_step_apply_of_flush (fun n h (_ : Unit) => scr m c n h (ix2 r k)) 8 (fun _ => 0)
    (fun t _ => term m c t r k) (fun t h0 _ => scr_reset m c t h0 r k) (fun t h0 _ => scr_step m c t h0 r k) t h1 ()
  refine e.trans ?_
  rw [zero_add]
  refine Fin.sum_mul_add_congr (S := 8) (n := 1024) (f := fun q => prodAt m c (rowG t r) k q) fun s l hl => ?_
  refine congrArg₂ (fun a b => prodAt m c a k b) (Fin.ext ?_) (Fin.ext ?_)
  · show 512 * ((8 * (t.val / 8) + s.val) / 8) + r.val = 512 * (t.val / 8) + r.val
    omega
  · show 1024 * ((8 * (t.val / 8) + s.val) % 8) + l.val = s.val * 1024 + l.val
    omega

/-- What each window holds after a point: the gradient in both formats, and the two sums over the rows so far. -/
def outX (n : ℕ) (h : n < cfg0.N) : FVec Ideal S512x2048 .f32 := (outsAt0 m c n h).1
def outXb (n : ℕ) (h : n < cfg0.N) : FVec Ideal S512x2048 .bf16 := (outsAt0 m c n h).2.1
def outG (n : ℕ) (h : n < cfg0.N) : FVec Ideal S1x2048 .f32 := (outsAt0 m c n h).2.2.1
def outB (n : ℕ) (h : n < cfg0.N) : FVec Ideal S1x2048 .f32 := (outsAt0 m c n h).2.2.2.1

/-- The gradient at the norm's output, as a last step has it. -/
def dyS (t : Fin cfg0.N) : FVec Ideal S512x2048 .f32 := k0_pay12 (F := Ideal) (scr m c t.val t.isLt) (blkDR m c t)

theorem outX_last (t : Fin cfg0.N) (h1 : t.val % 8 = 7) :
    outX m c t.val t.isLt = k0_pay3 (F := Ideal) (k0_pay10 (blkX m c t)) (k0_pay13 (scr m c t.val t.isLt) (blkX m c t) (blkDR m c t) (blkG m c t))
      ∧ outXb m c t.val t.isLt
        = k0_pay6 (F := Ideal) (k0_pay10 (blkX m c t)) (k0_pay13 (scr m c t.val t.isLt) (blkX m c t) (blkDR m c t) (blkG m c t)) := by
  unfold outX outXb scr blkX blkDR blkG
  by_cases h2 : t.val < 8
  · rw [outsAt0_C m c t (by omega) h1 h2 (by omega) h2 (by omega)]
    constructor <;> frame_out
  · rw [outsAt0_D m c t (by omega) h1 h2 (by omega) h2 (by omega)]
    constructor <;> frame_out

theorem sums_first (t : Fin cfg0.N) (h1 : t.val % 8 = 7) (h2 : t.val < 8) :
    outG m c t.val t.isLt = k0_pay4 (F := Ideal) (k0_pay11 (blkX m c t)) (dyS m c t)
      ∧ outB m c t.val t.isLt = k0_pay5 (F := Ideal) (dyS m c t) := by
  unfold outG outB dyS scr blkX blkDR
  rw [outsAt0_C m c t (by omega) h1 h2 (by omega) h2 (by omega)]
  constructor <;> frame_out

theorem sums_step (t : Fin cfg0.N) (h1 : t.val % 8 = 7) (h2 : ¬t.val < 8) :
    outG m c t.val t.isLt = k0_pay7 (F := Ideal) (k0_pay11 (blkX m c t)) (dyS m c t)
        (outG m c (t.val - 1) (Nat.lt_of_le_of_lt (Nat.sub_le _ _) t.isLt))
      ∧ outB m c t.val t.isLt = k0_pay8 (F := Ideal) (dyS m c t) (outB m c (t.val - 1) (Nat.lt_of_le_of_lt (Nat.sub_le _ _) t.isLt)) := by
  unfold outG outB dyS scr blkX blkDR
  rw [outsAt0_D m c t (by omega) h1 h2 (by omega) h2 (by omega)]
  constructor <;> frame_out

theorem sums_hold (t : Fin cfg0.N) (h1 : ¬t.val % 8 = 7) :
    outG m c t.val t.isLt = outG m c (t.val - 1) (Nat.lt_of_le_of_lt (Nat.sub_le _ _) t.isLt)
      ∧ outB m c t.val t.isLt = outB m c (t.val - 1) (Nat.lt_of_le_of_lt (Nat.sub_le _ _) t.isLt) := by
  unfold outG outB
  by_cases h2 : t.val % 8 = 0
  · rw [outsAt0_A m c t h2 h1]
    exact ⟨rfl, rfl⟩
  · rw [outsAt0_B m c t h2 h1]
    exact ⟨rfl, rfl⟩

end Cert.Dh1Ideal.Val

end
-- ==== Proof.Dh1.Result.lean ====
/- The second norm's fused kernel: its four result arrays, read at an index, are the norm's gradients in their closed form. -/
module

public import proofs.«01_k».proof.Proof.Dh1.Kernel

@[expose] public section

set_option maxRecDepth 16384

noncomputable section

namespace Cert.Dh1Ideal.Val

open Idealize.ShloMosaic Idealize.ShloMosaic.TcCoe Idealize.SL.Sem Cert.Dh1Ideal Cert.Dh1Ideal.Gen Math

variable (m : (ℓ : Loc nD τ sig) → Buf (Elt Ideal) ℓ) (c : Dev nD)

theorem dyS_at (t : Fin cfg0.N) (h1 : t.val % 8 = 7) (r : Fin 512) (k : Fin 2048) :
    dyS m c t (ix2 r k) = dyK m c (rowG t r) k := by
  unfold dyS
  rw [pay12_at, scr_last m c t h1, dr_at]
  rfl

theorem rowB_at (t : Fin cfg0.N) (r : Fin 512) : rowB (blkX m c t) r = rowK m c (rowG t r) :=
  funext fun k => x_at m c t r k

theorem dygB_at (t : Fin cfg0.N) (h1 : t.val % 8 = 7) (r : Fin 512) :
    dygB (scr m c t.val t.isLt) (blkDR m c t) (blkG m c t) r = dygK m c (rowG t r) :=
  funext fun l => congrArg₂ (· * ·) (dyS_at m c t h1 r l) (g_at m c t l)

theorem outX_at (t : Fin cfg0.N) (h1 : t.val % 8 = 7) (r : Fin 512) (k : Fin 2048) :
    outX m c t.val t.isLt (ix2 r k) = lnBwdE (rowK m c (rowG t r)) (dygK m c (rowG t r)) k
      ∧ outXb m c t.val t.isLt (ix2 r k) = lnBwdE (rowK m c (rowG t r)) (dygK m c (rowG t r)) k := by
  obtain ⟨e1, e2⟩ := outX_last m c t h1
  rw [e1, e2, pay3_at, pay6_at, rowB_at, dygB_at m c t h1]
  exact ⟨rfl, rfl⟩

theorem outG_at (k : Fin 2048) (h : 63 < cfg0.N) :
    outG m c 63 h (ix2 0 k) = ∑ R : Fin 4096, dyK m c R k * xhatE (rowK m c R) k := by
  have hs : ∀ t : Fin cfg0.N, t.val % 8 = 7 → ∑ r : Fin 512, dyS m c t (ix2 r k) * xhatE (rowB (blkX m c t) r) k
      = ∑ r : Fin 512, dyK m c (rowG t r) k * xhatE (rowK m c (rowG t r)) k := fun t h1 =>
    Finset.sum_congr rfl fun r _ => by rw [dyS_at m c t h1, rowB_at]
  refine held_rows (A := 7) (fun n h => outG m c n h (ix2 0 k)) 8 (by decide) rfl
    (fun R => dyK m c R k * xhatE (rowK m c R) k) rowG (fun _ _ => rfl)
    (fun t h1 h2 => ?_) (fun t h1 h2 => ?_) (fun t h1 => by rw [(sums_hold m c t h1).1]) h
  · exact (congrFun (sums_first m c t h1 h2).1 _).trans ((pay4_at _ _ _ k).trans (hs t h1))
  · exact (congrFun (sums_step m c t h1 h2).1 _).trans ((pay7_at _ _ _ k _).trans (congrArg (_ + ·) (hs t h1)))

theorem outB_at (k : Fin 2048) (h : 63 < cfg0.N) : outB m c 63 h (ix2 0 k) = ∑ R : Fin 4096, dyK m c R k := by
  have hs : ∀ t : Fin cfg0.N, t.val % 8 = 7 → ∑ r : Fin 512, dyS m c t (ix2 r k) = ∑ r : Fin 512, dyK m c (rowG t r) k :=
    fun t h1 => Finset.sum_congr rfl fun r _ => dyS_at m c t h1 r k
  refine held_rows (A := 7) (fun n h => outB m c n h (ix2 0 k)) 8 (by decide) rfl (fun R => dyK m c R k) rowG (fun _ _ => rfl)
    (fun t h1 h2 => ?_) (fun t h1 h2 => ?_) (fun t h1 => by rw [(sums_hold m c t h1).2]) h
  · exact (congrFun (sums_first m c t h1 h2).2 _).trans ((pay5_at _ _ k).trans (hs t h1))
  · exact (congrFun (sums_step m c t h1 h2).2 _).trans ((pay8_at _ _ k _).trans (congrArg (_ + ·) (hs t h1)))

/-- The last point of the run that writes row `R`. -/
def ptR (R : Fin 4096) : Fin cfg0.N := ⟨8 * (R.val / 512) + 7, lt_of_lt_of_eq (b := 64) (by omega) N_0.symm⟩

theorem rowG_ptR (R : Fin 4096) : rowG (ptR R) ⟨R.val % 512, by omega⟩ = R := by
  apply Fin.ext
  show 512 * ((8 * (R.val / 512) + 7) / 8) + R.val % 512 = R.val
  omega

theorem loc_ix2 (i : Cert.Dh1Ideal.S512x2048.Idx) (R : Fin 4096) (k : Fin 2048) (h0 : (i 0).val = R.val % 512) (h1 : (i 1).val = k.val) :
    i = ix2 (⟨R.val % 512, by omega⟩ : Fin 512) k := by
  funext a; apply Fin.ext
  match a with
  | ⟨0, _⟩ => exact h0
  | ⟨1, _⟩ => exact h1

/-- The gradient of the residual sum. -/
theorem G5_at (R : Fin 4096) (k : Fin 2048) :
    (show FVec Ideal S4096x2048 .f32 from Value.G5 m c) (ix2 R k) = lnBwdE (rowK m c R) (dygK m c R) k := by
  have hp : Value.pt5Of (ix2 R k) = (ptR R).val := by
    show 8 * (1 * (R.val / 512 - 0) + 1 * (k.val / 2048 - 0)) + 7 = 8 * (R.val / 512) + 7
    omega
  show Value.G5 m c (ix2 R k) = _
  unfold Value.G5
  rw [dif_pos (by rw [hp]; exact (ptR R).isLt), loc_ix2 (Value.loc5Of (ix2 R k)) R k rfl (Nat.mod_eq_of_lt k.isLt),
    Value.fold0_congr m c _ _ _ (by have := (ptR R).isLt; omega) hp, ← Value.outsAt0_sweep m c _ (ptR R).isLt]
  refine ((outX_at m c (ptR R) (by show (8 * (R.val / 512) + 7) % 8 = 7; omega) ⟨R.val % 512, by omega⟩ k).1).trans ?_
  rw [rowG_ptR]

/-- The same gradient in the narrow format. -/
theorem G6_at (R : Fin 4096) (k : Fin 2048) :
    (show FVec Ideal S4096x2048 .bf16 from Value.G6 m c) (ix2 R k) = lnBwdE (rowK m c R) (dygK m c R) k := by
  have hp : Value.pt6Of (ix2 R k) = (ptR R).val := by
    show 8 * (1 * (R.val / 512 - 0) + 1 * (k.val / 2048 - 0)) + 7 = 8 * (R.val / 512) + 7
    omega
  show Value.G6 m c (ix2 R k) = _
  unfold Value.G6
  rw [dif_pos (by rw [hp]; exact (ptR R).isLt), loc_ix2 (Value.loc6Of (ix2 R k)) R k rfl (Nat.mod_eq_of_lt k.isLt),
    Value.fold0_congr m c _ _ _ (by have := (ptR R).isLt; omega) hp, ← Value.outsAt0_sweep m c _ (ptR R).isLt]
  refine ((outX_at m c (ptR R) (by show (8 * (R.val / 512) + 7) % 8 = 7; omega) ⟨R.val % 512, by omega⟩ k).2).trans ?_
  rw [rowG_ptR]

/-- The gradient of the gain. -/
theorem G7_at (k : Fin 2048) :
    (show FVec Ideal S1x2048 .f32 from Value.G7 m c) (ix2 0 k) = ∑ R : Fin 4096, dyK m c R k * xhatE (rowK m c R) k := by
  rw [Value.G7_last m c, ← Value.outsAt0_sweep m c 63 (lt_of_lt_of_eq (by decide) N_0.symm)]
  exact outG_at m c k _

/-- The gradient of the bias. -/
theorem G8_at (k : Fin 2048) : (show FVec Ideal S1x2048 .f32 from Value.G8 m c) (ix2 0 k) = ∑ R : Fin 4096, dyK m c R k := by
  rw [Value.G8_last m c, ← Value.outsAt0_sweep m c 63 (lt_of_lt_of_eq (by decide) N_0.symm)]
  exact outB_at m c k _

end Cert.Dh1Ideal.Val

end
-- ==== Proof.Dh1.Equal.lean ====
/- The second norm's fused gradients are the reference's, over real arguments. -/
module

public import proofs.«01_k».proof.Proof.Dh1.Result
public import proofs.«01_k».proof.Proof.Math.Finite
public import proofs.«01_k».proof.Proof.Gen.Pre_finite_dh1

@[expose] public section

set_option maxRecDepth 16384

noncomputable section

namespace Cert.Dh1Ideal.Val

open Idealize.ShloMosaic Idealize.ShloMosaic.TcCoe Idealize.SL.Sem Cert.Dh1Ideal Cert.Dh1Ideal.Gen Math
open Cert.RefDh1Ideal.Val (dx_at dxb_at dg_at db_at)
open Cert.RefDh1Ideal.Read (val_main_v76 val_main_v77 val_main_v78 val_main_v79)

variable (m : (ℓ : Loc nD τ sig) → Buf (Elt Ideal) ℓ) (c : Dev nD)

instance : Subsingleton Cert.Pre_finite_dh1.S_.Idx := ⟨fun _ _ => funext fun a => a.elim0⟩

/-- The precondition says that the arguments the gradients read are real. -/
theorem pre_real [Cert.Pre_finite_dh1.Facts] (H M : FVec Ideal S4096x2048 .f32) (WO : FVec Ideal S1x2048x2048 .f32)
    (G B : FVec Ideal S1x2048 .f32) (W : FVec Ideal S1x2048x8192 .f32) (DF : FVec Ideal S4096x8192 .f32)
    (DR : FVec Ideal S4096x2048 .f32) (h : Cert.Pre_finite_dh1.fn (F := Ideal) H M WO G B W DF DR = fun _ => 1#1) :
    ((∀ i, IsReal (H i)) ∧ (∀ i, IsReal (M i)) ∧ ∀ i, IsReal (WO i))
      ∧ (∀ i, IsReal (G i)) ∧ (∀ i, IsReal (W i)) ∧ (∀ i, IsReal (DF i)) ∧ ∀ i, IsReal (DR i) := by
  have h0 := congrFun h (fun a => a.elim0)
  dsimp only [Cert.Pre_finite_dh1.fn, Cert.Pre_finite_dh1.fn_part1] at h0
  obtain ⟨h1, e7⟩ := andi_one h0
  obtain ⟨h2, e6⟩ := andi_one h1
  obtain ⟨h3, e5⟩ := andi_one h2
  obtain ⟨h4, e4⟩ := andi_one h3
  obtain ⟨h5, e3⟩ := andi_one h4
  obtain ⟨e1, e2⟩ := andi_one h5
  exact ⟨⟨real_of_all H _ _ _ _ _ e1, real_of_all M _ _ _ _ _ e2, real_of_all WO _ _ _ _ _ e3⟩,
    real_of_all G _ _ _ _ _ e4, real_of_all W _ _ _ _ _ e5, real_of_all DF _ _ _ _ _ e6, real_of_all DR _ _ _ _ _ e7⟩

theorem alpha_real : IsReal (Ideal.ofBits .f32 0x3F9837F0#32) := ⟨_, lit_alpha⟩

/-- On real arguments the closed form of the norm's gradient is what differentiating the forward lines gives. -/
theorem closed_eq (h : ((∀ i, IsReal (argH m c i)) ∧ (∀ i, IsReal (argM m c i)) ∧ ∀ i, IsReal (argWO m c i))
      ∧ (∀ i, IsReal (argG m c i)) ∧ (∀ i, IsReal (argW m c i)) ∧ (∀ i, IsReal (argDF m c i)) ∧ ∀ i, IsReal (argDR m c i))
    (r : Fin 4096) (k : Fin 2048) : lnVjpE (rowK m c r) (dygK m c r) k = lnBwdE (rowK m c r) (dygK m c r) k := by
  obtain ⟨⟨hH, hM, hWO⟩, hG, hW, hDF, hDR⟩ := h
  obtain ⟨x, hx⟩ := IsReal.row (v := rowK m c r) fun k =>
    (alpha_real.mul (hH _)).add (.sum _ _ fun _ => (hM _).mul (hWO _))
  obtain ⟨e, he⟩ := IsReal.row (v := dygK m c r) fun k =>
    ((alpha_real.mul (hDR _)).add (.sum _ _ fun _ => (hDF _).mul (hW _))).mul (hG _)
  rw [hx, he]
  exact (lnBwdE_eq_lnVjpE x e k).symm

theorem dg_eq : val_main_v78 (F := Ideal) (argH m c) (argM m c) (argWO m c) (argW m c) (argDF m c) (argDR m c) = Value.G7 m c := by
  funext i
  obtain ⟨r, k, rfl⟩ := exists_ix2 i
  obtain rfl := Fin.fin_one_eq_zero r
  refine (dg_at _ _ _ _ _ _ k).trans (Eq.trans ?_ (G7_at m c k).symm)
  exact Finset.sum_congr rfl fun R _ => mul_comm _ _

theorem db_eq : val_main_v79 (F := Ideal) (argW m c) (argDF m c) (argDR m c) = Value.G8 m c := by
  funext i
  obtain ⟨r, k, rfl⟩ := exists_ix2 i
  obtain rfl := Fin.fin_one_eq_zero r
  exact (db_at _ _ _ k).trans (G8_at m c k).symm

/-- The gradient of the residual sum, in both formats. -/
theorem dx_eq (h : ∀ r k, lnVjpE (rowK m c r) (dygK m c r) k = lnBwdE (rowK m c r) (dygK m c r) k) :
    val_main_v76 (F := Ideal) (argH m c) (argM m c) (argWO m c) (argG m c) (argW m c) (argDF m c) (argDR m c) = Value.G5 m c
      ∧ val_main_v77 (F := Ideal) (argH m c) (argM m c) (argWO m c) (argG m c) (argW m c) (argDF m c) (argDR m c) = Value.G6 m c := by
  constructor <;> funext i <;> obtain ⟨r, k, rfl⟩ := exists_ix2 i
  · exact (dx_at _ _ _ _ _ _ _ r k).trans ((h r k).trans (G5_at m c r k).symm)
  · exact (dxb_at _ _ _ _ _ _ _ r k).trans ((h r k).trans (G6_at m c r k).symm)

end Cert.Dh1Ideal.Val

end
-- ==== Proof.Dh1.Claim.lean ====
module

public import proofs.«01_k».proof.Defs
public import proofs.«01_k».proof.Proof.Gen.Dh1Ideal.Frame
public import proofs.«01_k».proof.Proof.Gen.RefDh1Ideal.Run
public import proofs.«01_k».proof.Proof.Gen.RefDh1Ideal.Read
public import proofs.«01_k».proof.Proof.Gen.Pre_finite_dh1
public import proofs.«01_k».proof.Proof.Dh1.Equal

/-! The claims on the reference of the gradient of the norm after the mixer and on the pair. -/

@[expose] public section

noncomputable section

open Idealize.ShloMosaic Idealize.ShloMosaic.TcCoe

namespace Cert.Proof

/-- The reference runs to its end, leaves its arguments as they were, and has no counter to leave. -/
theorem frame_ref_dh1 : @Cert.quiescent_RefDh1Ideal Cert.RefDh1Ideal.Gen.facts := fun m g _ =>
  θ_run_mono (Cert.RefDh1Ideal.Value.run m g) fun r h =>
    ⟨fun c => (h c).2.2.2.2, sem_eq_zero_of_no_sems (by decide) r.2⟩

/-- The gradient of the norm after the mixer, fused with the product by the weights. -/
theorem dh1 : @Cert.algebraic_Dh1Ideal_RefDh1Ideal_pre_finite_dh1 Cert.Dh1Ideal.Gen.facts Cert.RefDh1Ideal.Gen.facts Cert.Pre_finite_dh1.Gen.facts := by
  intro m g m' g' hpre hagree
  have hreal := fun c => Cert.Dh1Ideal.Val.pre_real _ _ _ _ _ _ _ _ (hpre c)
  have hdx := fun c => Cert.Dh1Ideal.Val.dx_eq m c (Cert.Dh1Ideal.Val.closed_eq m c (hreal c))
  refine ⟨Cert.Dh1Ideal.Value.G5 m, Cert.Dh1Ideal.Value.G6 m, Cert.Dh1Ideal.Value.G7 m, Cert.Dh1Ideal.Value.G8 m, ?_, ?_⟩
  · run_from Cert.Dh1Ideal.Value.run m g
  · run_from Cert.RefDh1Ideal.Value.run m' g'
    · refine (Cert.RefDh1Ideal.Read.val_main_v76_eq m' c).trans ?_
      obtain ⟨a0, a1, a2, a3, _, a5, a6, a7⟩ := hagree c
      rw [a0, a1, a2, a3, a5, a6, a7]
      exact (hdx c).1
    · refine (Cert.RefDh1Ideal.Read.val_main_v77_eq m' c).trans ?_
      obtain ⟨a0, a1, a2, a3, _, a5, a6, a7⟩ := hagree c
      rw [a0, a1, a2, a3, a5, a6, a7]
      exact (hdx c).2
    · exact (Cert.RefDh1Ideal.Read.val_main_v78_eq _ _ _ _ _ _).trans (Cert.Dh1Ideal.Val.dg_eq m c)
    · exact (Cert.RefDh1Ideal.Read.val_main_v79_eq _ _ _).trans (Cert.Dh1Ideal.Val.db_eq m c)

end Cert.Proof

end
-- ==== Proof.Ff2.Pay.lean ====
/- What each step of the last norm's fused kernel computes from the blocks it reads, at an index. -/
module

public import proofs.«01_k».proof.Proof.Gen.Ff2Ideal.Value
public import Idealize.ShloMosaic.Lib.Pipeline.ValueKit
public import proofs.«01_k».proof.Proof.Math.Ln

@[expose] public section

set_option maxRecDepth 16384

noncomputable section

namespace Cert.Ff2Ideal.Val

open Idealize.ShloMosaic Idealize.ShloMosaic.TcCoe Idealize.SL.Sem Cert.Ff2Ideal Cert.Ff2Ideal.Gen Math

section

variable (acc h : FVec Ideal S512x2048 .f32) (b2 g b : FVec Ideal S1x2048 .f32) (tgt : FVec Ideal S512x2048 .f32)
  (r : Fin 512) (k : Fin 2048)

/-- Row `r` of the block's residual sum. -/
def rowB (r : Fin 512) : Fin 2048 → EReal := fun k => Ideal.ofBits .f32 0x3F9837F0#32 * h (ix2 r k) + (acc (ix2 r k) + b2 (ix2 0 k))

/-- Row `r` of the block's gradient at the norm's output times its gain. -/
def dygB (r : Fin 512) : Fin 2048 → EReal := fun k => k0_pay11 (F := Ideal) acc h b2 g b tgt g (ix2 r k)

theorem pay6_at : k0_pay6 (F := Ideal) acc h b2 (ix2 r k) = cenE (rowB acc h b2 r) k := by
  pointwise [k0_pay6]
  rfl

theorem pay7_at : k0_pay7 (F := Ideal) acc h b2 (ix2 r 0) = rstdE (rowB acc h b2 r) := by
  pointwise [k0_pay7, pay6_at]
  rfl

theorem pay8_at : k0_pay8 (F := Ideal) acc h b2 (ix2 r k) = xhatE (rowB acc h b2 r) k := by
  pointwise [k0_pay8, pay6_at, pay7_at]
  rfl

theorem pay9_at : k0_pay9 (F := Ideal) acc h b2 g b tgt (ix2 r k)
    = xhatE (rowB acc h b2 r) k * g (ix2 0 k) + b (ix2 0 k) - tgt (ix2 r k) := by
  pointwise [k0_pay9, pay8_at]

theorem pay10_at : k0_pay10 (F := Ideal) acc h b2 g b tgt (ix2 r k)
    = k0_pay9 (F := Ideal) acc h b2 g b tgt (ix2 r k) * Ideal.ofBits .f32 0x3A000000#32 := by
  pointwise [k0_pay10]

theorem pay11_at : k0_pay11 (F := Ideal) acc h b2 g b tgt g (ix2 r k)
    = k0_pay10 (F := Ideal) acc h b2 g b tgt (ix2 r k) * g (ix2 0 k) := by
  pointwise [k0_pay11]

/-- The block of the norm's gradient in its closed form, row by row, in both formats. -/
theorem pay12_at : k0_pay12 (F := Ideal) (k0_pay7 acc h b2) (k0_pay8 acc h b2) (k0_pay11 acc h b2 g b tgt g) (ix2 r k)
    = lnBwdE (rowB acc h b2 r) (dygB acc h b2 g b tgt r) k := by
  pointwise [k0_pay12, pay7_at, pay8_at]
  rfl

theorem pay15_at : k0_pay15 (F := Ideal) (k0_pay7 acc h b2) (k0_pay8 acc h b2) (k0_pay11 acc h b2 g b tgt g) (ix2 r k)
    = lnBwdE (rowB acc h b2 r) (dygB acc h b2 g b tgt r) k := by
  pointwise [k0_pay15, pay12_at]

/-- The block's shares of the sums over the rows. -/
theorem pay13_at (dy : FVec Ideal S512x2048 .f32) : k0_pay13 (F := Ideal) (k0_pay8 acc h b2) dy (ix2 0 k)
    = ∑ r : Fin 512, dy (ix2 r k) * xhatE (rowB acc h b2 r) k := by
  pointwise [k0_pay13, pay8_at]

theorem pay14_at (dy : FVec Ideal S512x2048 .f32) : k0_pay14 (F := Ideal) dy (ix2 0 k) = ∑ r : Fin 512, dy (ix2 r k) := by
  pointwise [k0_pay14]

theorem pay18_at : k0_pay18 (F := Ideal) (k0_pay7 acc h b2) (k0_pay8 acc h b2) (k0_pay11 acc h b2 g b tgt g) (ix2 0 k)
    = ∑ r : Fin 512, lnBwdE (rowB acc h b2 r) (dygB acc h b2 g b tgt r) k := by
  pointwise [k0_pay18, pay12_at]

theorem pay4_at (e : FVec Ideal S512x2048 .f32) : k0_pay4 (F := Ideal) e (ix2 0 k)
    = (∑ r : Fin 512, e (ix2 r k) * e (ix2 r k)) * Ideal.ofBits .f32 0x39800000#32 := by
  pointwise [k0_pay4]

/-- The same, added to what the earlier blocks gave. -/
theorem adds_at (x : FVec Ideal S512x2048 .f32) (s p : FVec Ideal S1x2048 .f32) :
    k0_pay3 (F := Ideal) s p (ix2 0 k) = p (ix2 0 k) + s (ix2 0 k)
      ∧ k0_pay5 (F := Ideal) x p (ix2 0 k) = p (ix2 0 k) + k0_pay4 (F := Ideal) x (ix2 0 k)
      ∧ k0_pay16 (F := Ideal) (k0_pay8 acc h b2) x p (ix2 0 k) = p (ix2 0 k) + k0_pay13 (F := Ideal) (k0_pay8 acc h b2) x (ix2 0 k)
      ∧ k0_pay17 (F := Ideal) x p (ix2 0 k) = p (ix2 0 k) + k0_pay14 (F := Ideal) x (ix2 0 k) := by
  refine ⟨?_, ?_, ?_, ?_⟩
  · pointwise [k0_pay3]
  · pointwise [k0_pay5]
  · pointwise [k0_pay16]
  · pointwise [k0_pay17]

theorem pay1_at : k0_pay1 (F := Ideal) (ix2 r k) = 0 := by
  pointwise [k0_pay1]

theorem pay2_at (x : FVec Ideal S512x1024 .bf16) (w : FVec Ideal S1x1024x2048 .bf16) :
    k0_pay2 (F := Ideal) acc x w (ix2 r k) = acc (ix2 r k) + ∑ l : Fin 1024, x (ix2 r l) * w (ix3 0 l k) := by
  pointwise [k0_pay2]

end

end Cert.Ff2Ideal.Val

end
-- ==== Proof.Ff2.Ref.lean ====
/- What the reference of the last norm's gradient and of the loss computes, read at an index. -/
module

public import proofs.«01_k».proof.Proof.Gen.RefFf2Ideal.Read
public import proofs.«01_k».proof.Proof.Math.Ln

@[expose] public section

set_option maxRecDepth 16384

noncomputable section

namespace Cert.RefFf2Ideal.Val

open Idealize.ShloMosaic Idealize.ShloMosaic.TcCoe Idealize.SL.Sem Cert.RefFf2Ideal Cert.RefFf2Ideal.Gen Cert.RefFf2Ideal.Read Math

variable (H : FVec Ideal S4096x2048 .f32) (A : FVec Ideal S4096x8192 .f32) (W : FVec Ideal S1x8192x2048 .f32)
  (B2 G B : FVec Ideal S1x2048 .f32) (T : FVec Ideal S4096x2048 .f32)

theorem lit_half : Ideal.ofBits .f32 0x3F000000#32 = ((1 / 2 : ℝ) : EReal) := by
  simp [Ideal.ofBits, Ideal.ieee]
  rw [← EReal.coe_mul]; norm_num

theorem lit_inv : Ideal.ofBits .f32 0x3A000000#32 = ((1 / 2048 : ℝ) : EReal) := by
  simp [Ideal.ofBits, Ideal.ieee]
  rw [← EReal.coe_mul]; norm_num

theorem lit_inv_two : Ideal.ofBits .f32 0x39800000#32 = ((1 / 4096 : ℝ) : EReal) := by
  simp [Ideal.ofBits, Ideal.ieee]
  rw [← EReal.coe_mul]; norm_num

/-- Half the square's derivative over the number of features. -/
theorem scale_eq (x : EReal) :
    Ideal.div (Ideal.ofBits .f32 0x3F000000#32) (Ideal.ofBits .f32 0x45000000#32)
        * (Ideal.ofBits .f32 0x40000000#32 * x) = x * Ideal.ofBits .f32 0x3A000000#32 := by
  rw [lit_half, lit_2048, lit_2, lit_inv, div_real _ _ (by norm_num), ← mul_assoc, ← EReal.coe_mul,
    mul_comm x]
  norm_num

/-- Row `r` of the residual sum that enters the norm. -/
def row (r : Fin 4096) : Fin 2048 → EReal := fun k =>
  Ideal.ofBits .f32 0x3F9837F0#32 * H (ix2 r k) + ((∑ q : Fin 8192, A (ix2 r q) * W (ix3 0 q k)) + B2 (ix2 0 k))

/-- The error: the norm's output less the target. -/
def err (r : Fin 4096) (k : Fin 2048) : EReal := xhatE (row H A W B2 r) k * G (ix2 0 k) + B (ix2 0 k) - T (ix2 r k)

/-- The loss's gradient at the norm's output, and that times the norm's gain. -/
def dy (r : Fin 4096) (k : Fin 2048) : EReal := err H A W B2 G B T r k * Ideal.ofBits .f32 0x3A000000#32
def dyg (r : Fin 4096) : Fin 2048 → EReal := fun k => dy H A W B2 G B T r k * G (ix2 0 k)

theorem v10_at (r : Fin 4096) (k : Fin 2048) : val_main_v10 (F := Ideal) H A W B2 (ix2 r k) = row H A W B2 r k := by
  pointwise [val_main_v10, val_main_v9, val_main_v8, val_main_v7, val_main_v6, val_main_v5, val_main_v2, val_main_v1, val_main_v0,
    val_main_cst]
  rfl

theorem v14_at (r : Fin 4096) : val_main_v14 (F := Ideal) H A W B2 (ix2 r 0) = meanE (row H A W B2 r) := by
  pointwise [val_main_v14, val_main_v13, val_main_v12, val_main_v11, v10_at, val_main_cst_0, val_main_cst_1]
  rfl

/-- The centred row, in the two places the reference computes it. -/
theorem v16_at (r : Fin 4096) (k : Fin 2048) : val_main_v16 (F := Ideal) H A W B2 (ix2 r k) = cenE (row H A W B2 r) k := by
  pointwise [val_main_v16, val_main_v15, v14_at, v10_at]
  rfl

theorem v25_at (r : Fin 4096) (k : Fin 2048) : val_main_v25 (F := Ideal) H A W B2 (ix2 r k) = cenE (row H A W B2 r) k := by
  pointwise [val_main_v25, val_main_v24, v14_at, v10_at]
  rfl

theorem v27_at (r : Fin 4096) : val_main_v27 (F := Ideal) H A W B2 (ix2 r 0) = varepsE (row H A W B2 r) := by
  pointwise [val_main_v27, val_main_v26, val_main_v23, val_main_v22, val_main_v21, val_main_v20, val_main_v17, v16_at,
    val_main_cst_3, val_main_cst_4, val_main_cst_5]
  rfl

theorem v28_at (r : Fin 4096) : val_main_v28 (F := Ideal) H A W B2 (ix2 r 0) = rstdE (row H A W B2 r) := by
  pointwise [val_main_v28, v27_at]
  rfl

theorem v33_at (r : Fin 4096) (k : Fin 2048) : val_main_v33 (F := Ideal) H A W B2 (ix2 r k) = xhatE (row H A W B2 r) k := by
  pointwise [val_main_v33, val_main_v32, v28_at, v25_at]
  rfl

theorem v40_at (r : Fin 4096) (k : Fin 2048) : val_main_v40 (F := Ideal) H A W B2 G B T (ix2 r k) = err H A W B2 G B T r k := by
  pointwise [val_main_v40, val_main_v39, val_main_v38, val_main_v37, val_main_v36, val_main_v35, val_main_v34, val_main_v4, val_main_v3,
    v33_at]
  rfl

theorem v59_at (r : Fin 4096) (k : Fin 2048) : val_main_v59 (F := Ideal) H A W B2 G B T (ix2 r k) = dy H A W B2 G B T r k := by
  pointwise [val_main_v59, val_main_v58, val_main_v57, val_main_v56, val_main_v55, val_main_v54, val_main_v43, val_main_v42, v40_at,
    val_main_cst_7, val_main_cst_15, val_main_cst_16, val_main_cst_17]
  exact scale_eq _

theorem v67_at (r : Fin 4096) (k : Fin 2048) : val_main_v67 (F := Ideal) H A W B2 G B T (ix2 r k) = dyg H A W B2 G B T r k := by
  pointwise [val_main_v67, val_main_v66, val_main_v34, val_main_v3, v59_at]
  rfl

theorem v73_at (r : Fin 4096) (k : Fin 2048) :
    val_main_v73 (F := Ideal) H A W B2 G B T (ix2 r k) = dyg H A W B2 G B T r k * rstdE (row H A W B2 r) := by
  pointwise [val_main_v73, val_main_v72, v67_at, v28_at]

theorem v82_at (r : Fin 4096) (k : Fin 2048) : val_main_v82 (F := Ideal) H A W B2 G B T (ix2 r k)
    = varBackE (row H A W B2 r) (dyg H A W B2 G B T r) * (Ideal.ofBits .f32 0x40000000#32 * cenE (row H A W B2 r) k) := by
  pointwise [val_main_v82, val_main_v81, val_main_v80, val_main_v79, val_main_v78, val_main_v74, val_main_v71, val_main_v70,
    val_main_v69, val_main_v31, val_main_v30, val_main_v29, val_main_v19, val_main_v18, v67_at, v25_at, v16_at,
    val_main_cst_2, val_main_cst_6, val_main_cst_22, val_main_cst_24, val_main_cst_25]
  rw [Fin.sum_univ_one, v28_at, v27_at]
  rfl

/-- The gradient of the residual sum. -/
theorem dx_at (r : Fin 4096) (k : Fin 2048) :
    val_main_v92 (F := Ideal) H A W B2 G B T (ix2 r k) = lnVjpE (row H A W B2 r) (dyg H A W B2 G B T r) k := by
  pointwise [val_main_v92, val_main_v91, val_main_v90, val_main_v89, val_main_v88, val_main_v87, val_main_v86, val_main_v85,
    val_main_v84, val_main_v83, val_main_v77, val_main_v76, val_main_v75, v82_at, v73_at,
    val_main_cst_23, val_main_cst_26, val_main_cst_27, val_main_cst_28]
  rw [Fin.sum_univ_one]
  rfl

/-- The same gradient in the narrow format; the ideal reading rounds nothing. -/
theorem dxb_at (r : Fin 4096) (k : Fin 2048) :
    val_main_v96 (F := Ideal) H A W B2 G B T (ix2 r k) = lnVjpE (row H A W B2 r) (dyg H A W B2 G B T r) k := by
  pointwise [val_main_v96, dx_at]

/-- The gradients of the gain, of the shift and of the bias before the norm. -/
theorem dg_at (k : Fin 2048) : val_main_v97 (F := Ideal) H A W B2 G B T (ix2 0 k)
    = ∑ r, xhatE (row H A W B2 r) k * dy H A W B2 G B T r k := by
  pointwise [val_main_v97, val_main_v68, val_main_v65, val_main_v64, val_main_v63, v59_at, v33_at, val_main_cst_20, val_main_cst_21]
  exact Fin.sum_univ_one _

theorem db_at (k : Fin 2048) : val_main_v98 (F := Ideal) H A W B2 G B T (ix2 0 k) = ∑ r, dy H A W B2 G B T r k := by
  pointwise [val_main_v98, val_main_v62, val_main_v61, val_main_v60, v59_at, val_main_cst_18, val_main_cst_19]
  exact Fin.sum_univ_one _

theorem db2_at (k : Fin 2048) : val_main_v99 (F := Ideal) H A W B2 G B T (ix2 0 k)
    = ∑ r, lnVjpE (row H A W B2 r) (dyg H A W B2 G B T r) k := by
  pointwise [val_main_v99, val_main_v95, val_main_v94, val_main_v93, dx_at, val_main_cst_29, val_main_cst_30]
  exact Fin.sum_univ_one _

/-- One feature's share of the loss. -/
theorem loss_at (k : Fin 2048) : val_main_v100 (F := Ideal) H A W B2 G B T (ix2 0 k)
    = Ideal.ofBits .f32 0x3F000000#32
      * ∑ r, Ideal.div (err H A W B2 G B T r k * err H A W B2 G B T r k) (Ideal.ofBits .f32 0x45000000#32) := by
  pointwise [val_main_v100, val_main_v53, val_main_v52, val_main_v51, val_main_v50, val_main_v49, val_main_v41, v40_at,
    val_main_cst_12, val_main_cst_13, val_main_cst_14]

end Cert.RefFf2Ideal.Val

end
-- ==== Proof.Ff2.Kernel.lean ====
/- What the last norm's fused kernel leaves in its results. -/
module

public import proofs.«01_k».proof.Proof.Ff2.Pay
public import proofs.«01_k».proof.Proof.Ff2.Ref
public import proofs.«01_k».proof.Proof.Math.Fold

@[expose] public section

set_option maxRecDepth 16384

noncomputable section

namespace Cert.Ff2Ideal.Val

open Idealize.ShloMosaic Idealize.ShloMosaic.TcCoe Idealize.SL.Sem Cert.Ff2Ideal Cert.Ff2Ideal.Gen Math
open Cert.RefFf2Ideal.Val (row err dy dyg)

variable (m : (ℓ : Loc nD τ sig) → Buf (Elt Ideal) ℓ) (c : Dev nD)

theorem idx : ∀ t : Fin cfg0.N, (win0_0.index t = ![t.val / 8, t.val % 8] ∧ win0_1.index t = ![t.val % 8, 0, 0]
    ∧ win0_2.index t = ![t.val / 8, 0] ∧ win0_3.index t = ![t.val / 8, 0])
    ∧ win0_4.index t = ![0, 0] ∧ win0_5.index t = ![0, 0] ∧ win0_6.index t = ![0, 0] ∧ t.val / 8 < 8 :=
  (by decide +kernel : ∀ t : Fin grid0.N, _)

/-- The kernel's arguments. -/
def argH : FVec Ideal S4096x2048 .f32 := m ((c : Thread nD τ).loc main_arg0)
def argA : FVec Ideal S4096x8192 .f32 := m ((c : Thread nD τ).loc main_arg1)
def argW : FVec Ideal S1x8192x2048 .f32 := m ((c : Thread nD τ).loc main_arg2)
def argB2 : FVec Ideal S1x2048 .f32 := m ((c : Thread nD τ).loc main_arg3)
def argG : FVec Ideal S1x2048 .f32 := m ((c : Thread nD τ).loc main_arg4)
def argB : FVec Ideal S1x2048 .f32 := m ((c : Thread nD τ).loc main_arg5)
def argT : FVec Ideal S4096x2048 .f32 := m ((c : Thread nD τ).loc main_arg6)

/-- The arrays the host code makes of them. -/
def inA : FVec Ideal S4096x8192 .bf16 := V m c main_v0
def inW : FVec Ideal S8x1024x2048 .bf16 := V m c main_v2

/-- What the reference names, of the kernel's arguments. -/
def rowK (r : Fin 4096) : Fin 2048 → EReal := row (argH m c) (argA m c) (argW m c) (argB2 m c) r
def errK (r : Fin 4096) (k : Fin 2048) : EReal :=
  err (argH m c) (argA m c) (argW m c) (argB2 m c) (argG m c) (argB m c) (argT m c) r k
def dyK (r : Fin 4096) (k : Fin 2048) : EReal :=
  dy (argH m c) (argA m c) (argW m c) (argB2 m c) (argG m c) (argB m c) (argT m c) r k
def dygK (r : Fin 4096) : Fin 2048 → EReal :=
  dyg (argH m c) (argA m c) (argW m c) (argB2 m c) (argG m c) (argB m c) (argT m c) r

theorem inA_at (r : Fin 4096) (q : Fin 8192) : inA m c (ix2 r q) = argA m c (ix2 r q) := by
  unfold inA
  entry_read
  show truncf (F := Ideal) .bf16 (argA m c) bitsLt_bf16_f32 (ix2 r q) = _
  pointwise

theorem inW_at (s : Fin 8) (l : Fin 1024) (k : Fin 2048) :
    inW m c (ix3 s l k) = argW m c (ix3 0 ⟨1024 * s.val + l.val, by omega⟩ k) := by
  unfold inW
  entry_read
  show truncf (F := Ideal) .bf16 (shapeCast S8x1024x2048 (argW m c) shapeCasts_S1x8192x2048_S8x1024x2048) bitsLt_bf16_f32
    (ix3 s l k) = _
  pointwise
  congr 2
  exact Fin.ext (by show s.val * 1024 + l.val = 1024 * s.val + l.val; omega)

/-- The row of the whole array that row `r` of the block at point `t` is. -/
def rowG (t : Fin cfg0.N) (r : Fin 512) : Fin 4096 := ⟨512 * (t.val / 8) + r.val, by have := (idx t).2.2.2.2; omega⟩

/-- Lane `l` of the step `s` of a run. -/
def lane (s : ℕ) (hs : s < 8) (l : Fin 1024) : Fin 8192 := ⟨1024 * s + l.val, by omega⟩

theorem blk0_at (t : Fin cfg0.N) (r : Fin 512) (l : Fin 1024) :
    (show FVec Ideal S512x1024 .bf16 from iblk m c 0 t) (ix2 r l)
      = inA m c (ix2 (rowG t r) (lane (t.val % 8) (by omega) l)) := by
  unfold inA rowG lane
  blk_ext [iblk, idx t]

theorem blk1_at (t : Fin cfg0.N) (l : Fin 1024) (k : Fin 2048) :
    (show FVec Ideal S1x1024x2048 .bf16 from iblk m c 1 t) (ix3 0 l k) = inW m c (ix3 ⟨t.val % 8, by omega⟩ l k) := by
  unfold inW
  blk_ext [iblk, idx t]

/-- The blocks a last step reads, at the kernel's own types. -/
def blkH (t : Fin cfg0.N) : FVec Ideal S512x2048 .f32 := iblk m c 2 t
def blkT (t : Fin cfg0.N) : FVec Ideal S512x2048 .f32 := iblk m c 3 t
def blkB2 (t : Fin cfg0.N) : FVec Ideal S1x2048 .f32 := iblk m c 4 t
def blkG (t : Fin cfg0.N) : FVec Ideal S1x2048 .f32 := iblk m c 5 t
def blkB (t : Fin cfg0.N) : FVec Ideal S1x2048 .f32 := iblk m c 6 t

theorem rows_at (t : Fin cfg0.N) (r : Fin 512) (k : Fin 2048) : blkH m c t (ix2 r k) = argH m c (ix2 (rowG t r) k)
    ∧ blkT m c t (ix2 r k) = argT m c (ix2 (rowG t r) k) := by
  constructor
  · unfold blkH argH rowG
    blk_ext [iblk, V, idx t]
  · unfold blkT argT rowG
    blk_ext [iblk, V, idx t]

theorem vecs_at (t : Fin cfg0.N) (k : Fin 2048) : blkB2 m c t (ix2 0 k) = argB2 m c (ix2 0 k)
    ∧ blkG m c t (ix2 0 k) = argG m c (ix2 0 k) ∧ blkB m c t (ix2 0 k) = argB m c (ix2 0 k) := by
  refine ⟨?_, ?_, ?_⟩
  · unfold blkB2 argB2
    blk_ext [iblk, V, idx t]
  · unfold blkG argG
    blk_ext [iblk, V, idx t]
  · unfold blkB argB
    blk_ext [iblk, V, idx t]

/-- One product of the accumulated sum. -/
def prodAt (r : Fin 4096) (k : Fin 2048) (q : Fin 8192) : EReal := argA m c (ix2 r q) * argW m c (ix3 0 q k)

/-- What the step at point `t` adds to the accumulator. -/
def term (t : Fin cfg0.N) (r : Fin 512) (k : Fin 2048) : EReal :=
  ∑ l, prodAt m c (rowG t r) k (lane (t.val % 8) (by omega) l)

theorem pay2_step (t : Fin cfg0.N) (acc : FVec Ideal S512x2048 .f32) (r : Fin 512) (k : Fin 2048) :
    k0_pay2 (F := Ideal) acc (iblk m c 0 t) (iblk m c 1 t) (ix2 r k) = acc (ix2 r k) + term m c t r k := by
  refine (pay2_at acc r k _ _).trans (congrArg (acc (ix2 r k) + ·) (Finset.sum_congr rfl fun l _ => ?_))
  refine (congrArg₂ (· * ·) (blk0_at m c t r l) (blk1_at m c t l k)).trans ?_
  rw [inA_at, inW_at]
  rfl

/-- The accumulator after point `t`. -/
def scr (n : ℕ) (h : n < cfg0.N) : FVec Ideal S512x2048 .f32 := (outsAt0 m c n h).2.2.2.2.2.2

theorem scr_reset (t : Fin cfg0.N) (h0 : t.val % 8 = 0) (r : Fin 512) (k : Fin 2048) :
    scr m c t.val t.isLt (ix2 r k) = 0 + term m c t r k := by
  unfold scr
  rw [outsAt0_A m c t h0 (by omega)]
  frame_out
  refine (pay2_step m c t _ r k).trans ?_
  rw [pay1_at]

theorem scr_step (t : Fin cfg0.N) (h0 : ¬t.val % 8 = 0) (r : Fin 512) (k : Fin 2048) :
    scr m c t.val t.isLt (ix2 r k) = scr m c (t.val - 1) (Nat.lt_of_le_of_lt (Nat.sub_le _ _) t.isLt) (ix2 r k) + term m c t r k := by
  unfold scr
  by_cases h1 : t.val % 8 = 7
  · by_cases h2 : t.val < 8
    · rw [outsAt0_C m c t h0 h1 h2 (by omega) h2 (by omega) h2 (by omega) h2 (by omega)]
      frame_out
      rw [read_unread_whole]
      exact pay2_step m c t _ r k
    · rw [outsAt0_D m c t h0 h1 h2 (by omega) h2 (by omega) h2 (by omega) h2 (by omega)]
      frame_out
      rw [read_unread_whole]
      exact pay2_step m c t _ r k
  · rw [outsAt0_B m c t h0 h1]
    frame_out
    rw [read_unread_whole]
    exact pay2_step m c t _ r k

theorem scr_last (t : Fin cfg0.N) (h1 : t.val % 8 = 7) (r : Fin 512) (k : Fin 2048) :
    scr m c t.val t.isLt (ix2 r k) = ∑ q, prodAt m c (rowG t r) k q := by
  have e := Pipeline.eq_sum_fin_of_reset_step_apply_of_flush (fun n h (_ : Unit) => scr m c n h (ix2 r k)) 8 (fun _ => 0)
    (fun t _ => term m c t r k) (fun t h0 _ => scr_reset m c t h0 r k) (fun t h0 _ => scr_step m c t h0 r k) t h1 ()
  refine e.trans ?_
  rw [zero_add]
  refine Fin.sum_mul_add_congr (S := 8) (n := 1024) (f := fun q => prodAt m c (rowG t r) k q) fun s l hl => ?_
  refine congrArg₂ (fun a b => prodAt m c a k b) (Fin.ext ?_) (Fin.ext ?_)
  · show 512 * ((8 * (t.val / 8) + s.val) / 8) + r.val = 512 * (t.val / 8) + r.val
    omega
  · show 1024 * ((8 * (t.val / 8) + s.val) % 8) + l.val = s.val * 1024 + l.val
    omega

/-- What each window holds after a point: the gradient in both formats, and the four sums over the rows so far. -/
def outX (n : ℕ) (h : n < cfg0.N) : FVec Ideal S512x2048 .f32 := (outsAt0 m c n h).1
def outXb (n : ℕ) (h : n < cfg0.N) : FVec Ideal S512x2048 .bf16 := (outsAt0 m c n h).2.1
def outG (n : ℕ) (h : n < cfg0.N) : FVec Ideal S1x2048 .f32 := (outsAt0 m c n h).2.2.1
def outB (n : ℕ) (h : n < cfg0.N) : FVec Ideal S1x2048 .f32 := (outsAt0 m c n h).2.2.2.1
def outB2 (n : ℕ) (h : n < cfg0.N) : FVec Ideal S1x2048 .f32 := (outsAt0 m c n h).2.2.2.2.1
def outL (n : ℕ) (h : n < cfg0.N) : FVec Ideal S1x2048 .f32 := (outsAt0 m c n h).2.2.2.2.2.1

/-- What a last step computes on the way: the reciprocal root, the normalised rows, the error and the two gradients. -/
def rsS (t : Fin cfg0.N) : FVec Ideal S512x1 .f32 := k0_pay7 (F := Ideal) (scr m c t.val t.isLt) (blkH m c t) (blkB2 m c t)
def xhS (t : Fin cfg0.N) : FVec Ideal S512x2048 .f32 := k0_pay8 (F := Ideal) (scr m c t.val t.isLt) (blkH m c t) (blkB2 m c t)
def errS (t : Fin cfg0.N) : FVec Ideal S512x2048 .f32 :=
  k0_pay9 (F := Ideal) (scr m c t.val t.isLt) (blkH m c t) (blkB2 m c t) (blkG m c t) (blkB m c t) (blkT m c t)
def dyS (t : Fin cfg0.N) : FVec Ideal S512x2048 .f32 :=
  k0_pay10 (F := Ideal) (scr m c t.val t.isLt) (blkH m c t) (blkB2 m c t) (blkG m c t) (blkB m c t) (blkT m c t)
def dygS (t : Fin cfg0.N) : FVec Ideal S512x2048 .f32 :=
  k0_pay11 (F := Ideal) (scr m c t.val t.isLt) (blkH m c t) (blkB2 m c t) (blkG m c t) (blkB m c t) (blkT m c t) (blkG m c t)

theorem outX_last (t : Fin cfg0.N) (h1 : t.val % 8 = 7) :
    outX m c t.val t.isLt = k0_pay12 (F := Ideal) (rsS m c t) (xhS m c t) (dygS m c t)
      ∧ outXb m c t.val t.isLt = k0_pay15 (F := Ideal) (rsS m c t) (xhS m c t) (dygS m c t) := by
  unfold outX outXb rsS xhS dygS scr blkH blkT blkB2 blkG blkB
  by_cases h2 : t.val < 8
  · rw [outsAt0_C m c t (by omega) h1 h2 (by omega) h2 (by omega) h2 (by omega) h2 (by omega)]
    constructor <;> frame_out
  · rw [outsAt0_D m c t (by omega) h1 h2 (by omega) h2 (by omega) h2 (by omega) h2 (by omega)]
    constructor <;> frame_out

theorem sums_first (t : Fin cfg0.N) (h1 : t.val % 8 = 7) (h2 : t.val < 8) :
    outG m c t.val t.isLt = k0_pay13 (F := Ideal) (xhS m c t) (dyS m c t)
      ∧ outB m c t.val t.isLt = k0_pay14 (F := Ideal) (dyS m c t)
      ∧ outB2 m c t.val t.isLt = k0_pay18 (F := Ideal) (rsS m c t) (xhS m c t) (dygS m c t)
      ∧ outL m c t.val t.isLt = k0_pay4 (F := Ideal) (errS m c t) := by
  unfold outG outB outB2 outL rsS xhS errS dyS dygS scr blkH blkT blkB2 blkG blkB
  rw [outsAt0_C m c t (by omega) h1 h2 (by omega) h2 (by omega) h2 (by omega) h2 (by omega)]
  refine ⟨?_, ?_, ?_, ?_⟩ <;> frame_out

theorem sums_step (t : Fin cfg0.N) (h1 : t.val % 8 = 7) (h2 : ¬t.val < 8) :
    outG m c t.val t.isLt = k0_pay16 (F := Ideal) (xhS m c t) (dyS m c t)
        (outG m c (t.val - 1) (Nat.lt_of_le_of_lt (Nat.sub_le _ _) t.isLt))
      ∧ outB m c t.val t.isLt = k0_pay17 (F := Ideal) (dyS m c t) (outB m c (t.val - 1) (Nat.lt_of_le_of_lt (Nat.sub_le _ _) t.isLt))
      ∧ outB2 m c t.val t.isLt = k0_pay3 (F := Ideal) (k0_pay18 (rsS m c t) (xhS m c t) (dygS m c t))
        (outB2 m c (t.val - 1) (Nat.lt_of_le_of_lt (Nat.sub_le _ _) t.isLt))
      ∧ outL m c t.val t.isLt = k0_pay5 (F := Ideal) (errS m c t) (outL m c (t.val - 1) (Nat.lt_of_le_of_lt (Nat.sub_le _ _) t.isLt)) := by
  unfold outG outB outB2 outL rsS xhS errS dyS dygS scr blkH blkT blkB2 blkG blkB
  rw [outsAt0_D m c t (by omega) h1 h2 (by omega) h2 (by omega) h2 (by omega) h2 (by omega)]
  refine ⟨?_, ?_, ?_, ?_⟩ <;> frame_out

theorem sums_hold (t : Fin cfg0.N) (h1 : ¬t.val % 8 = 7) :
    outG m c t.val t.isLt = outG m c (t.val - 1) (Nat.lt_of_le_of_lt (Nat.sub_le _ _) t.isLt)
      ∧ outB m c t.val t.isLt = outB m c (t.val - 1) (Nat.lt_of_le_of_lt (Nat.sub_le _ _) t.isLt)
      ∧ outB2 m c t.val t.isLt = outB2 m c (t.val - 1) (Nat.lt_of_le_of_lt (Nat.sub_le _ _) t.isLt)
      ∧ outL m c t.val t.isLt = outL m c (t.val - 1) (Nat.lt_of_le_of_lt (Nat.sub_le _ _) t.isLt) := by
  unfold outG outB outB2 outL
  by_cases h2 : t.val % 8 = 0
  · rw [outsAt0_A m c t h2 h1]
    exact ⟨rfl, rfl, rfl, rfl⟩
  · rw [outsAt0_B m c t h2 h1]
    exact ⟨rfl, rfl, rfl, rfl⟩

end Cert.Ff2Ideal.Val

end
-- ==== Proof.Ff2.Result.lean ====
/- The last norm's fused kernel: its six result arrays, read at an index. -/
module

public import proofs.«01_k».proof.Proof.Ff2.Kernel
public import proofs.«01_k».proof.Proof.Math.Finite

@[expose] public section

set_option maxRecDepth 16384

noncomputable section

namespace Cert.Ff2Ideal.Val

open Idealize.ShloMosaic Idealize.ShloMosaic.TcCoe Idealize.SL.Sem Cert.Ff2Ideal Cert.Ff2Ideal.Gen Math

variable (m : (ℓ : Loc nD τ sig) → Buf (Elt Ideal) ℓ) (c : Dev nD)

theorem rowB_at (t : Fin cfg0.N) (h1 : t.val % 8 = 7) (r : Fin 512) :
    rowB (scr m c t.val t.isLt) (blkH m c t) (blkB2 m c t) r = rowK m c (rowG t r) := by
  funext k
  unfold rowB
  rw [scr_last m c t h1, (rows_at m c t r k).1, (vecs_at m c t k).1]
  rfl

theorem errS_at (t : Fin cfg0.N) (h1 : t.val % 8 = 7) (r : Fin 512) (k : Fin 2048) :
    errS m c t (ix2 r k) = errK m c (rowG t r) k := by
  unfold errS
  rw [pay9_at, rowB_at m c t h1, (vecs_at m c t k).2.1, (vecs_at m c t k).2.2, (rows_at m c t r k).2]
  rfl

theorem dyS_at (t : Fin cfg0.N) (h1 : t.val % 8 = 7) (r : Fin 512) (k : Fin 2048) :
    dyS m c t (ix2 r k) = dyK m c (rowG t r) k :=
  (pay10_at _ _ _ _ _ _ r k).trans (congrArg (· * Ideal.ofBits .f32 0x3A000000#32) (errS_at m c t h1 r k))

theorem dygB_at (t : Fin cfg0.N) (h1 : t.val % 8 = 7) (r : Fin 512) :
    dygB (scr m c t.val t.isLt) (blkH m c t) (blkB2 m c t) (blkG m c t) (blkB m c t) (blkT m c t) r = dygK m c (rowG t r) :=
  funext fun k => (pay11_at _ _ _ _ _ _ r k).trans (congrArg₂ (· * ·) (dyS_at m c t h1 r k) (vecs_at m c t k).2.1)

theorem outX_at (t : Fin cfg0.N) (h1 : t.val % 8 = 7) (r : Fin 512) (k : Fin 2048) :
    outX m c t.val t.isLt (ix2 r k) = lnBwdE (rowK m c (rowG t r)) (dygK m c (rowG t r)) k
      ∧ outXb m c t.val t.isLt (ix2 r k) = lnBwdE (rowK m c (rowG t r)) (dygK m c (rowG t r)) k := by
  obtain ⟨e1, e2⟩ := outX_last m c t h1
  rw [e1, e2, ← rowB_at m c t h1, ← dygB_at m c t h1]
  exact ⟨pay12_at _ _ _ _ _ _ r k, pay15_at _ _ _ _ _ _ r k⟩

/-- A sum over the rows, gathered on the last steps of the eight runs. -/
theorem sums_rows (f : (n : ℕ) → n < cfg0.N → EReal) (w : Fin 4096 → EReal)
    (first : ∀ t : Fin cfg0.N, t.val % 8 = 7 → t.val < 8 → f t.val t.isLt = ∑ r : Fin 512, w (rowG t r))
    (step : ∀ t : Fin cfg0.N, t.val % 8 = 7 → ¬t.val < 8 →
      f t.val t.isLt = f (t.val - 1) (Nat.lt_of_le_of_lt (Nat.sub_le _ _) t.isLt) + ∑ r : Fin 512, w (rowG t r))
    (hold : ∀ t : Fin cfg0.N, ¬t.val % 8 = 7 → f t.val t.isLt = f (t.val - 1) (Nat.lt_of_le_of_lt (Nat.sub_le _ _) t.isLt))
    (h : 63 < cfg0.N) : f 63 h = ∑ R, w R :=
  held_rows (A := 7) f 8 (by decide) rfl w rowG (fun _ _ => rfl) first step hold h

theorem outG_at (k : Fin 2048) (h : 63 < cfg0.N) :
    outG m c 63 h (ix2 0 k) = ∑ R : Fin 4096, dyK m c R k * xhatE (rowK m c R) k := by
  have hs : ∀ t : Fin cfg0.N, t.val % 8 = 7 → k0_pay13 (F := Ideal) (xhS m c t) (dyS m c t) (ix2 0 k)
      = ∑ r : Fin 512, dyK m c (rowG t r) k * xhatE (rowK m c (rowG t r)) k := fun t h1 =>
    (pay13_at _ _ _ k _).trans (Finset.sum_congr rfl fun r _ => by rw [dyS_at m c t h1, rowB_at m c t h1])
  refine sums_rows (fun n h => outG m c n h (ix2 0 k))
    (fun R => dyK m c R k * xhatE (rowK m c R) k)
    (fun t h1 h2 => ?_) (fun t h1 h2 => ?_) (fun t h1 => by rw [(sums_hold m c t h1).1]) h
  · exact (congrFun (sums_first m c t h1 h2).1 _).trans (hs t h1)
  · exact (congrFun (sums_step m c t h1 h2).1 _).trans ((adds_at _ _ _ k _ 0 _).2.2.1.trans (congrArg (_ + ·) (hs t h1)))

theorem outB_at (k : Fin 2048) (h : 63 < cfg0.N) : outB m c 63 h (ix2 0 k) = ∑ R : Fin 4096, dyK m c R k := by
  have hs : ∀ t : Fin cfg0.N, t.val % 8 = 7 → k0_pay14 (F := Ideal) (dyS m c t) (ix2 0 k) = ∑ r : Fin 512, dyK m c (rowG t r) k :=
    fun t h1 => (pay14_at k _).trans (Finset.sum_congr rfl fun r _ => dyS_at m c t h1 r k)
  refine sums_rows (fun n h => outB m c n h (ix2 0 k)) (fun R => dyK m c R k)
    (fun t h1 h2 => ?_) (fun t h1 h2 => ?_) (fun t h1 => by rw [(sums_hold m c t h1).2.1]) h
  · exact (congrFun (sums_first m c t h1 h2).2.1 _).trans (hs t h1)
  · exact (congrFun (sums_step m c t h1 h2).2.1 _).trans ((adds_at 0 0 0 k _ 0 _).2.2.2.trans (congrArg (_ + ·) (hs t h1)))

theorem outB2_at (k : Fin 2048) (h : 63 < cfg0.N) :
    outB2 m c 63 h (ix2 0 k) = ∑ R : Fin 4096, lnBwdE (rowK m c R) (dygK m c R) k := by
  have hs : ∀ t : Fin cfg0.N, t.val % 8 = 7 → k0_pay18 (F := Ideal) (rsS m c t) (xhS m c t) (dygS m c t) (ix2 0 k)
      = ∑ r : Fin 512, lnBwdE (rowK m c (rowG t r)) (dygK m c (rowG t r)) k := fun t h1 =>
    (pay18_at _ _ _ _ _ _ k).trans (Finset.sum_congr rfl fun r _ => by rw [rowB_at m c t h1, dygB_at m c t h1])
  refine sums_rows (fun n h => outB2 m c n h (ix2 0 k))
    (fun R => lnBwdE (rowK m c R) (dygK m c R) k)
    (fun t h1 h2 => ?_) (fun t h1 h2 => ?_) (fun t h1 => by rw [(sums_hold m c t h1).2.2.1]) h
  · exact (congrFun (sums_first m c t h1 h2).2.2.1 _).trans (hs t h1)
  · exact (congrFun (sums_step m c t h1 h2).2.2.1 _).trans ((adds_at 0 0 0 k 0 _ _).1.trans (congrArg (_ + ·) (hs t h1)))

/-- A sum of real numbers times a real number, term by term. -/
theorem sum_mul_real {ι : Type*} [Fintype ι] {f : ι → EReal} (hf : ∀ i, IsReal (f i)) (x : ℝ) :
    (∑ i, f i) * (x : EReal) = ∑ i, f i * (x : EReal) := by
  obtain ⟨w, rfl⟩ := IsReal.row hf
  simp only [coe_sum, ← EReal.coe_mul]
  rw [Finset.sum_mul]

theorem outL_at (hr : ∀ R k, IsReal (errK m c R k)) (k : Fin 2048) (h : 63 < cfg0.N) :
    outL m c 63 h (ix2 0 k) = ∑ R : Fin 4096, errK m c R k * errK m c R k * Ideal.ofBits .f32 0x39800000#32 := by
  have hs : ∀ t : Fin cfg0.N, t.val % 8 = 7 → k0_pay4 (F := Ideal) (errS m c t) (ix2 0 k)
      = ∑ r : Fin 512, errK m c (rowG t r) k * errK m c (rowG t r) k * Ideal.ofBits .f32 0x39800000#32 := fun t h1 => by
    refine (pay4_at k _).trans ?_
    simp only [errS_at m c t h1]
    rw [Cert.RefFf2Ideal.Val.lit_inv_two]
    exact sum_mul_real (fun r => (hr _ _).mul (hr _ _)) _
  refine sums_rows (fun n h => outL m c n h (ix2 0 k))
    (fun R => errK m c R k * errK m c R k * Ideal.ofBits .f32 0x39800000#32)
    (fun t h1 h2 => ?_) (fun t h1 h2 => ?_) (fun t h1 => by rw [(sums_hold m c t h1).2.2.2]) h
  · exact (congrFun (sums_first m c t h1 h2).2.2.2 _).trans (hs t h1)
  · exact (congrFun (sums_step m c t h1 h2).2.2.2 _).trans ((adds_at 0 0 0 k _ 0 _).2.1.trans (congrArg (_ + ·) (hs t h1)))

/-- The last point of the run that writes row `R`. -/
def ptR (R : Fin 4096) : Fin cfg0.N := ⟨8 * (R.val / 512) + 7, lt_of_lt_of_eq (b := 64) (by omega) N_0.symm⟩

theorem rowG_ptR (R : Fin 4096) : rowG (ptR R) ⟨R.val % 512, by omega⟩ = R := by
  apply Fin.ext
  show 512 * ((8 * (R.val / 512) + 7) / 8) + R.val % 512 = R.val
  omega

theorem loc_ix2 (i : Cert.Ff2Ideal.S512x2048.Idx) (R : Fin 4096) (k : Fin 2048) (h0 : (i 0).val = R.val % 512) (h1 : (i 1).val = k.val) :
    i = ix2 (⟨R.val % 512, by omega⟩ : Fin 512) k := by
  funext a; apply Fin.ext
  match a with
  | ⟨0, _⟩ => exact h0
  | ⟨1, _⟩ => exact h1

/-- The gradient of the residual sum. -/
theorem G7_at (R : Fin 4096) (k : Fin 2048) :
    (show FVec Ideal S4096x2048 .f32 from Value.G7 m c) (ix2 R k) = lnBwdE (rowK m c R) (dygK m c R) k := by
  have hp : Value.pt7Of (ix2 R k) = (ptR R).val := by
    show 8 * (1 * (R.val / 512 - 0) + 1 * (k.val / 2048 - 0)) + 7 = 8 * (R.val / 512) + 7
    omega
  show Value.G7 m c (ix2 R k) = _
  unfold Value.G7
  rw [dif_pos (by rw [hp]; exact (ptR R).isLt), loc_ix2 (Value.loc7Of (ix2 R k)) R k rfl (Nat.mod_eq_of_lt k.isLt),
    Value.fold0_congr m c _ _ _ (by have := (ptR R).isLt; omega) hp, ← Value.outsAt0_sweep m c _ (ptR R).isLt]
  refine ((outX_at m c (ptR R) (by show (8 * (R.val / 512) + 7) % 8 = 7; omega) ⟨R.val % 512, by omega⟩ k).1).trans ?_
  rw [rowG_ptR]

/-- The same gradient in the narrow format. -/
theorem G8_at (R : Fin 4096) (k : Fin 2048) :
    (show FVec Ideal S4096x2048 .bf16 from Value.G8 m c) (ix2 R k) = lnBwdE (rowK m c R) (dygK m c R) k := by
  have hp : Value.pt8Of (ix2 R k) = (ptR R).val := by
    show 8 * (1 * (R.val / 512 - 0) + 1 * (k.val / 2048 - 0)) + 7 = 8 * (R.val / 512) + 7
    omega
  show Value.G8 m c (ix2 R k) = _
  unfold Value.G8
  rw [dif_pos (by rw [hp]; exact (ptR R).isLt), loc_ix2 (Value.loc8Of (ix2 R k)) R k rfl (Nat.mod_eq_of_lt k.isLt),
    Value.fold0_congr m c _ _ _ (by have := (ptR R).isLt; omega) hp, ← Value.outsAt0_sweep m c _ (ptR R).isLt]
  refine ((outX_at m c (ptR R) (by show (8 * (R.val / 512) + 7) % 8 = 7; omega) ⟨R.val % 512, by omega⟩ k).2).trans ?_
  rw [rowG_ptR]

/-- The gradients of the gain, of the shift and of the bias before the norm, and each feature's share of the loss. -/
theorem G9_at (k : Fin 2048) :
    (show FVec Ideal S1x2048 .f32 from Value.G9 m c) (ix2 0 k) = ∑ R : Fin 4096, dyK m c R k * xhatE (rowK m c R) k := by
  rw [Value.G9_last m c, ← Value.outsAt0_sweep m c 63 (lt_of_lt_of_eq (by decide) N_0.symm)]
  exact outG_at m c k _

theorem G10_at (k : Fin 2048) : (show FVec Ideal S1x2048 .f32 from Value.G10 m c) (ix2 0 k) = ∑ R : Fin 4096, dyK m c R k := by
  rw [Value.G10_last m c, ← Value.outsAt0_sweep m c 63 (lt_of_lt_of_eq (by decide) N_0.symm)]
  exact outB_at m c k _

theorem G11_at (k : Fin 2048) : (show FVec Ideal S1x2048 .f32 from Value.G11 m c) (ix2 0 k)
    = ∑ R : Fin 4096, lnBwdE (rowK m c R) (dygK m c R) k := by
  rw [Value.G11_last m c, ← Value.outsAt0_sweep m c 63 (lt_of_lt_of_eq (by decide) N_0.symm)]
  exact outB2_at m c k _

theorem G12_at (hr : ∀ R k, IsReal (errK m c R k)) (k : Fin 2048) : (show FVec Ideal S1x2048 .f32 from Value.G12 m c) (ix2 0 k)
    = ∑ R : Fin 4096, errK m c R k * errK m c R k * Ideal.ofBits .f32 0x39800000#32 := by
  rw [Value.G12_last m c, ← Value.outsAt0_sweep m c 63 (lt_of_lt_of_eq (by decide) N_0.symm)]
  exact outL_at m c hr k _

end Cert.Ff2Ideal.Val

end
-- ==== Proof.Ff2.Equal.lean ====
/- The last norm's fused gradients and the loss are the reference's, over real arguments. -/
module

public import proofs.«01_k».proof.Proof.Ff2.Result
public import proofs.«01_k».proof.Proof.Gen.Pre_finite_ff2

@[expose] public section

set_option maxRecDepth 16384

noncomputable section

namespace Cert.Ff2Ideal.Val

open Idealize.ShloMosaic Idealize.ShloMosaic.TcCoe Idealize.SL.Sem Cert.Ff2Ideal Cert.Ff2Ideal.Gen Math
open Cert.RefFf2Ideal.Val (dx_at dxb_at dg_at db_at db2_at loss_at lit_half lit_inv lit_inv_two)
open Cert.RefFf2Ideal.Read (val_main_v92 val_main_v96 val_main_v97 val_main_v98 val_main_v99 val_main_v100)

variable (m : (ℓ : Loc nD τ sig) → Buf (Elt Ideal) ℓ) (c : Dev nD)

instance : Subsingleton Cert.Pre_finite_ff2.S_.Idx := ⟨fun _ _ => funext fun a => a.elim0⟩

/-- The precondition says that the arguments are real. -/
theorem pre_real [Cert.Pre_finite_ff2.Facts] (H : FVec Ideal S4096x2048 .f32) (A : FVec Ideal S4096x8192 .f32)
    (W : FVec Ideal S1x8192x2048 .f32) (B2 G B : FVec Ideal S1x2048 .f32) (T : FVec Ideal S4096x2048 .f32)
    (h : Cert.Pre_finite_ff2.fn (F := Ideal) H A W B2 G B T = fun _ => 1#1) :
    ((∀ i, IsReal (H i)) ∧ (∀ i, IsReal (A i)) ∧ (∀ i, IsReal (W i)) ∧ ∀ i, IsReal (B2 i))
      ∧ (∀ i, IsReal (G i)) ∧ (∀ i, IsReal (B i)) ∧ ∀ i, IsReal (T i) := by
  have h0 := congrFun h (fun a => a.elim0)
  dsimp only [Cert.Pre_finite_ff2.fn, Cert.Pre_finite_ff2.fn_part1] at h0
  obtain ⟨h1, e7⟩ := andi_one h0
  obtain ⟨h2, e6⟩ := andi_one h1
  obtain ⟨h3, e5⟩ := andi_one h2
  obtain ⟨h4, e4⟩ := andi_one h3
  obtain ⟨h5, e3⟩ := andi_one h4
  obtain ⟨e1, e2⟩ := andi_one h5
  exact ⟨⟨real_of_all H _ _ _ _ _ e1, real_of_all A _ _ _ _ _ e2, real_of_all W _ _ _ _ _ e3, real_of_all B2 _ _ _ _ _ e4⟩,
    real_of_all G _ _ _ _ _ e5, real_of_all B _ _ _ _ _ e6, real_of_all T _ _ _ _ _ e7⟩

/-- On real arguments a row that enters the norm, the error and the gradient at the norm's output are real. -/
theorem real_rows (h : ((∀ i, IsReal (argH m c i)) ∧ (∀ i, IsReal (argA m c i)) ∧ (∀ i, IsReal (argW m c i)) ∧ ∀ i, IsReal (argB2 m c i))
      ∧ (∀ i, IsReal (argG m c i)) ∧ (∀ i, IsReal (argB m c i)) ∧ ∀ i, IsReal (argT m c i)) (r : Fin 4096) :
    (∃ x, rowK m c r = up x) ∧ (∀ k, IsReal (errK m c r k)) ∧ ∃ e, dygK m c r = up e := by
  obtain ⟨⟨hH, hA, hW, hB2⟩, hG, hB, hT⟩ := h
  have ha : IsReal (Ideal.ofBits .f32 0x3F9837F0#32) := ⟨_, lit_alpha⟩
  obtain ⟨x, hx⟩ := IsReal.row (v := rowK m c r) fun k =>
    (ha.mul (hH _)).add ((IsReal.sum _ _ fun _ => (hA _).mul (hW _)).add (hB2 _))
  have he : ∀ k, IsReal (errK m c r k) := fun k => by
    have e : errK m c r k = xhatE (rowK m c r) k * argG m c (ix2 0 k) + argB m c (ix2 0 k) - argT m c (ix2 r k) := rfl
    rw [e, hx, xhatE_up]
    exact (((IsReal.coe _).mul (hG _)).add (hB _)).sub (hT _)
  exact ⟨⟨x, hx⟩, he, IsReal.row fun k => ((he k).mul ⟨_, lit_inv⟩).mul (hG _)⟩

/-- What the equality of the results rests on: the two forms of the norm's gradient agree, and the error is real. -/
structure Good : Prop where
  grad : ∀ r k, lnVjpE (rowK m c r) (dygK m c r) k = lnBwdE (rowK m c r) (dygK m c r) k
  real : ∀ r k, IsReal (errK m c r k)

theorem good (h : ((∀ i, IsReal (argH m c i)) ∧ (∀ i, IsReal (argA m c i)) ∧ (∀ i, IsReal (argW m c i)) ∧ ∀ i, IsReal (argB2 m c i))
      ∧ (∀ i, IsReal (argG m c i)) ∧ (∀ i, IsReal (argB m c i)) ∧ ∀ i, IsReal (argT m c i)) : Good m c where
  grad r k := by
    obtain ⟨⟨x, hx⟩, _, e, he⟩ := real_rows m c h r
    rw [hx, he]
    exact (lnBwdE_eq_lnVjpE x e k).symm
  real r := (real_rows m c h r).2.1

/-- The gradient of the residual sum, in both formats. -/
theorem dx_eq (h : Good m c) :
    val_main_v92 (F := Ideal) (argH m c) (argA m c) (argW m c) (argB2 m c) (argG m c) (argB m c) (argT m c) = Value.G7 m c
      ∧ val_main_v96 (F := Ideal) (argH m c) (argA m c) (argW m c) (argB2 m c) (argG m c) (argB m c) (argT m c) = Value.G8 m c := by
  constructor <;> funext i <;> obtain ⟨r, k, rfl⟩ := exists_ix2 i
  · exact (dx_at _ _ _ _ _ _ _ r k).trans ((h.grad r k).trans (G7_at m c r k).symm)
  · exact (dxb_at _ _ _ _ _ _ _ r k).trans ((h.grad r k).trans (G8_at m c r k).symm)

/-- The sums over the rows. -/
theorem dg_eq : val_main_v97 (F := Ideal) (argH m c) (argA m c) (argW m c) (argB2 m c) (argG m c) (argB m c) (argT m c) = Value.G9 m c := by
  funext i
  obtain ⟨r, k, rfl⟩ := exists_ix2 i
  obtain rfl := Fin.fin_one_eq_zero r
  refine (dg_at _ _ _ _ _ _ _ k).trans (Eq.trans ?_ (G9_at m c k).symm)
  exact Finset.sum_congr rfl fun R _ => mul_comm _ _

theorem db_eq : val_main_v98 (F := Ideal) (argH m c) (argA m c) (argW m c) (argB2 m c) (argG m c) (argB m c) (argT m c) = Value.G10 m c := by
  funext i
  obtain ⟨r, k, rfl⟩ := exists_ix2 i
  obtain rfl := Fin.fin_one_eq_zero r
  exact (db_at _ _ _ _ _ _ _ k).trans (G10_at m c k).symm

theorem db2_eq (h : Good m c) :
    val_main_v99 (F := Ideal) (argH m c) (argA m c) (argW m c) (argB2 m c) (argG m c) (argB m c) (argT m c) = Value.G11 m c := by
  funext i
  obtain ⟨r, k, rfl⟩ := exists_ix2 i
  obtain rfl := Fin.fin_one_eq_zero r
  exact (db2_at _ _ _ _ _ _ _ k).trans ((Finset.sum_congr rfl fun R _ => h.grad R k).trans (G11_at m c k).symm)

theorem loss_eq (h : Good m c) :
    val_main_v100 (F := Ideal) (argH m c) (argA m c) (argW m c) (argB2 m c) (argG m c) (argB m c) (argT m c) = Value.G12 m c := by
  funext i
  obtain ⟨r, k, rfl⟩ := exists_ix2 i
  obtain rfl := Fin.fin_one_eq_zero r
  refine (loss_at _ _ _ _ _ _ _ k).trans (Eq.trans ?_ (G12_at m c h.real k).symm)
  obtain ⟨w, hw⟩ := IsReal.row fun R => h.real R k
  have e : ∀ R, errK m c R k = (w R : EReal) := fun R => congrFun hw R
  refine Eq.trans (b := Ideal.ofBits .f32 0x3F000000#32
    * ∑ R, Ideal.div (errK m c R k * errK m c R k) (Ideal.ofBits .f32 0x45000000#32)) rfl ?_
  simp only [e, lit_half, lit_2048, lit_inv_two, ← EReal.coe_mul, div_real _ _ (show (2048 : ℝ) ≠ 0 by norm_num), coe_sum]
  refine congrArg _ ?_
  rw [Finset.mul_sum]
  exact Finset.sum_congr rfl fun R _ => by ring

end Cert.Ff2Ideal.Val

end
-- ==== Proof.Ff2.Claim.lean ====
module

public import proofs.«01_k».proof.Defs
public import proofs.«01_k».proof.Proof.Gen.Ff2Ideal.Frame
public import proofs.«01_k».proof.Proof.Gen.RefFf2Ideal.Run
public import proofs.«01_k».proof.Proof.Gen.RefFf2Ideal.Read
public import proofs.«01_k».proof.Proof.Gen.Pre_finite_ff2
public import proofs.«01_k».proof.Proof.Ff2.Equal

/-! The claims on the reference of the last norm's gradient with the loss and on the pair. -/

@[expose] public section

noncomputable section

open Idealize.ShloMosaic Idealize.ShloMosaic.TcCoe

namespace Cert.Proof

/-- The reference runs to its end, leaves its arguments as they were, and has no counter to leave. -/
theorem frame_ref_ff2 : @Cert.quiescent_RefFf2Ideal Cert.RefFf2Ideal.Gen.facts := fun m g _ =>
  θ_run_mono (Cert.RefFf2Ideal.Value.run m g) fun r h =>
    ⟨fun c => (h c).2.2.2.2.2.2, sem_eq_zero_of_no_sems (by decide) r.2⟩

/-- The gradient of the last norm and the loss, fused with the product by the weights. -/
theorem ff2 : @Cert.algebraic_Ff2Ideal_RefFf2Ideal_pre_finite_ff2 Cert.Ff2Ideal.Gen.facts Cert.RefFf2Ideal.Gen.facts Cert.Pre_finite_ff2.Gen.facts := by
  intro m g m' g' hpre hagree
  have hg := fun c => Cert.Ff2Ideal.Val.good m c (Cert.Ff2Ideal.Val.pre_real _ _ _ _ _ _ _ (hpre c))
  have hdx := fun c => Cert.Ff2Ideal.Val.dx_eq m c (hg c)
  refine ⟨Cert.Ff2Ideal.Value.G7 m, Cert.Ff2Ideal.Value.G8 m, Cert.Ff2Ideal.Value.G9 m, Cert.Ff2Ideal.Value.G10 m,
    Cert.Ff2Ideal.Value.G11 m, Cert.Ff2Ideal.Value.G12 m, ?_, ?_⟩
  · run_from Cert.Ff2Ideal.Value.run m g
  · run_from Cert.RefFf2Ideal.Value.run m' g'
    all_goals obtain ⟨a0, a1, a2, a3, a4, a5, a6⟩ := hagree c
    · exact (Cert.RefFf2Ideal.Read.val_main_v92_eq m' c).trans (by rw [a0, a1, a2, a3, a4, a5, a6]; exact (hdx c).1)
    · exact (Cert.RefFf2Ideal.Read.val_main_v96_eq m' c).trans (by rw [a0, a1, a2, a3, a4, a5, a6]; exact (hdx c).2)
    · exact (Cert.RefFf2Ideal.Read.val_main_v97_eq m' c).trans (by rw [a0, a1, a2, a3, a4, a5, a6]; exact Cert.Ff2Ideal.Val.dg_eq m c)
    · exact (Cert.RefFf2Ideal.Read.val_main_v98_eq m' c).trans (by rw [a0, a1, a2, a3, a4, a5, a6]; exact Cert.Ff2Ideal.Val.db_eq m c)
    · exact (Cert.RefFf2Ideal.Read.val_main_v99_eq m' c).trans (by rw [a0, a1, a2, a3, a4, a5, a6]; exact Cert.Ff2Ideal.Val.db2_eq m c (hg c))
    · exact (Cert.RefFf2Ideal.Read.val_main_v100_eq m' c).trans (by rw [a0, a1, a2, a3, a4, a5, a6]; exact Cert.Ff2Ideal.Val.loss_eq m c (hg c))

end Cert.Proof

end
-- ==== Proof.Dff1.Ref.lean ====
/- What the reference of the gradient of the squared positive part computes, read at an index. -/
module

public import proofs.«01_k».proof.Proof.Gen.RefDff1Ideal.Read
public import proofs.«01_k».proof.Proof.Math.Ln

@[expose] public section

set_option maxRecDepth 16384

noncomputable section

namespace Cert.RefDff1Ideal.Val

open Idealize.ShloMosaic Idealize.ShloMosaic.TcCoe Idealize.SL.Sem Cert.RefDff1Ideal Cert.RefDff1Ideal.Gen Cert.RefDff1Ideal.Read Math

variable (H : FVec Ideal S4096x2048 .f32) (W1 : FVec Ideal S1x2048x8192 .f32) (B1 : FVec Ideal S1x8192 .f32)
  (W2 : FVec Ideal S1x8192x2048 .f32) (DR : FVec Ideal S4096x2048 .f32) (r : Fin 4096) (j : Fin 8192)

/-- The hidden layer before its activation. -/
def pre : EReal := ∑ q : Fin 2048, H (ix2 r q) * W1 (ix3 0 q j) + B1 (ix2 0 j)

theorem v5_at : val_main_v5 (F := Ideal) H W1 B1 (ix2 r j) = pre H W1 B1 r j := by
  pointwise [val_main_v5, val_main_v4, val_main_v3, val_main_v2, val_main_v1, val_main_v0]
  rfl

/-- The gradient of the activation. -/
def reach : EReal := ∑ k : Fin 2048, DR (ix2 r k) * W2 (ix3 0 j k)

theorem v15_at : val_main_v15 (F := Ideal) W2 DR (ix2 r j) = reach W2 DR r j := by
  pointwise [val_main_v15, val_main_v13]
  rfl

/-- The gradient of the hidden layer before its activation, the square of the positive part:
twice the positive part times what reaches it. -/
def grad : EReal := reach W2 DR r j * (Ideal.ofBits .f32 0x40000000#32 * max (pre H W1 B1 r j) 0)

theorem v18_at : val_main_v18 (F := Ideal) H W1 B1 W2 DR (ix2 r j) = grad H W1 B1 W2 DR r j := by
  pointwise [val_main_v18, val_main_v16, val_main_v17, val_main_v12, val_main_v11, val_main_v8, val_main_v7, val_main_v6,
    val_main_call0_v0, val_main_call0_cst, val_main_cst, val_main_cst_1, val_main_cst_2, v5_at, v15_at]
  unfold grad
  split
  · rfl
  · next h => rw [max_eq_right (not_lt.mp h), mul_zero, mul_zero]

theorem v22_at : val_main_v22 (F := Ideal) H W1 B1 W2 DR (ix2 r j) = grad H W1 B1 W2 DR r j := by
  pointwise [val_main_v22, v18_at]

theorem v23_at : val_main_v23 (F := Ideal) H W1 B1 W2 DR (ix2 0 j) = ∑ r, grad H W1 B1 W2 DR r j := by
  pointwise [val_main_v23, val_main_v21, val_main_v20, val_main_v19, v18_at, val_main_cst_3, val_main_cst_4]
  exact Fin.sum_univ_one _

end Cert.RefDff1Ideal.Val

end
-- ==== Proof.Dff1.Kernel.lean ====
/- What the fused kernel of the activation's gradient leaves in its two results. -/
module

public import proofs.«01_k».proof.Proof.Gen.Dff1Ideal.Value
public import Idealize.ShloMosaic.Lib.Pipeline.ValueKit
public import proofs.«01_k».proof.Proof.Dff1.Ref
public import proofs.«01_k».proof.Proof.Math.Fold
public import proofs.«01_k».proof.Proof.Math.Finite

@[expose] public section

set_option maxRecDepth 16384

noncomputable section

namespace Cert.Dff1Ideal.Val

open Idealize.ShloMosaic Idealize.ShloMosaic.TcCoe Idealize.SL.Sem Cert.Dff1Ideal Cert.Dff1Ideal.Gen Math
open Cert.RefDff1Ideal.Val (pre reach grad)

section

variable (x : FVec Ideal S1024x2048 .bf16) (w : FVec Ideal S1x1024x2048 .bf16) (f : FVec Ideal S1024x1024 .f32)
  (r j : Fin 1024)

/-- The gradient a block computes at an entry. -/
def gradB : EReal := (∑ k : Fin 2048, x (ix2 r k) * w (ix3 0 j k)) * (Ideal.ofBits .f32 0x40000000#32 * max (f (ix2 r j)) 0)

theorem pay1_at : k0_pay1 (F := Ideal) x w f (ix2 r j) = gradB x w f r j := by
  pointwise [k0_pay1]
  rfl

theorem pay2_at : k0_pay2 (F := Ideal) x w f (ix2 r j) = gradB x w f r j := by
  pointwise [k0_pay2, pay1_at]

theorem pay3_at : k0_pay3 (F := Ideal) x w f (ix2 0 j) = ∑ r, gradB x w f r j := by
  pointwise [k0_pay3, pay1_at]

theorem pay4_at (p : FVec Ideal S1x1024 .f32) : k0_pay4 (F := Ideal) x w f p (ix2 0 j) = p (ix2 0 j) + ∑ r, gradB x w f r j := by
  pointwise [k0_pay4, pay3_at]

end

variable (m : (ℓ : Loc nD τ sig) → Buf (Elt Ideal) ℓ) (c : Dev nD)

theorem idx : ∀ t : Fin cfg0.N, win0_0.index t = ![t.val % 4, 0] ∧ win0_1.index t = ![t.val / 4, 0, 0]
    ∧ win0_2.index t = ![t.val % 4, t.val / 4] ∧ win0_3.index t = ![t.val % 4, t.val / 4] ∧ win0_4.index t = ![0, t.val / 4]
    ∧ t.val / 4 < 8 :=
  (by decide +kernel : ∀ t : Fin grid0.N, _)

/-- The kernel's arguments. -/
def argH : FVec Ideal S4096x2048 .f32 := m ((c : Thread nD τ).loc main_arg0)
def argW1 : FVec Ideal S1x2048x8192 .f32 := m ((c : Thread nD τ).loc main_arg1)
def argB1 : FVec Ideal S1x8192 .f32 := m ((c : Thread nD τ).loc main_arg2)
def argW2 : FVec Ideal S1x8192x2048 .f32 := m ((c : Thread nD τ).loc main_arg3)
def argDR : FVec Ideal S4096x2048 .f32 := m ((c : Thread nD τ).loc main_arg4)

/-- The gradient the reference names, of the kernel's arguments. -/
def gradK (r : Fin 4096) (j : Fin 8192) : EReal := grad (argH m c) (argW1 m c) (argB1 m c) (argW2 m c) (argDR m c) r j

/-- The row and the column of the whole array that those of the block at point `t` are. -/
def rowG (t : Fin cfg0.N) (r : Fin 1024) : Fin 4096 := ⟨1024 * (t.val % 4) + r.val, by omega⟩
def colG (t : Fin cfg0.N) (j : Fin 1024) : Fin 8192 := ⟨1024 * (t.val / 4) + j.val, by have := (idx t).2.2.2.2.2; omega⟩

/-- The blocks a step reads, at the kernel's own types. -/
def blkX (t : Fin cfg0.N) : FVec Ideal S1024x2048 .bf16 := iblk m c 0 t
def blkW (t : Fin cfg0.N) : FVec Ideal S1x1024x2048 .bf16 := iblk m c 1 t
def blkF (t : Fin cfg0.N) : FVec Ideal S1024x1024 .f32 := iblk m c 2 t

theorem blkX_at (t : Fin cfg0.N) (r : Fin 1024) (k : Fin 2048) : blkX m c t (ix2 r k) = argDR m c (ix2 (rowG t r) k) := by
  have e : ∀ R, (show FVec Ideal S4096x2048 .bf16 from V m c main_v4) (ix2 R k) = argDR m c (ix2 R k) := fun R => by
    entry_read
    show truncf (F := Ideal) .bf16 (argDR m c) bitsLt_bf16_f32 (ix2 R k) = _
    pointwise
  rw [← e]
  unfold blkX rowG
  blk_ext [iblk, idx t]

theorem blkW_at (t : Fin cfg0.N) (j : Fin 1024) (k : Fin 2048) : blkW m c t (ix3 0 j k) = argW2 m c (ix3 0 (colG t j) k) := by
  have e : ∀ s : Fin 8, (show FVec Ideal S8x1024x2048 .bf16 from V m c main_v6) (ix3 s j k)
      = argW2 m c (ix3 0 ⟨1024 * s.val + j.val, by omega⟩ k) := fun s => by
    entry_read
    show truncf (F := Ideal) .bf16 (shapeCast S8x1024x2048 (argW2 m c) shapeCasts_S1x8192x2048_S8x1024x2048)
      bitsLt_bf16_f32 (ix3 s j k) = _
    pointwise
    congr 2
    exact Fin.ext (by show s.val * 1024 + j.val = 1024 * s.val + j.val; omega)
  refine Eq.trans ?_ (e ⟨t.val / 4, (idx t).2.2.2.2.2⟩)
  unfold blkW
  blk_ext [iblk, idx t]

theorem blkF_at (t : Fin cfg0.N) (r j : Fin 1024) :
    blkF m c t (ix2 r j) = pre (argH m c) (argW1 m c) (argB1 m c) (rowG t r) (colG t j) := by
  have e : ∀ R J, (show FVec Ideal S4096x8192 .f32 from V m c main_v3) (ix2 R J) = pre (argH m c) (argW1 m c) (argB1 m c) R J :=
    fun R J => by
      entry_read
      show addf (F := Ideal) (Host.dotGeneral dot_S4096x2048_S2048x8192_S4096x8192_1_0_0_1_n_n none (argH m c)
        (shapeCast S2048x8192 (argW1 m c) shapeCasts_S1x2048x8192_S2048x8192))
        (broadcastInDim S4096x8192 ![0, 1] bcast_S1x8192_S4096x8192_0_1 (argB1 m c)) (ix2 R J) = _
      pointwise
      rfl
  rw [← e]
  unfold blkF rowG colG
  blk_ext [iblk, idx t]

theorem gradB_at (t : Fin cfg0.N) (r j : Fin 1024) :
    gradB (blkX m c t) (blkW m c t) (blkF m c t) r j = gradK m c (rowG t r) (colG t j) := by
  unfold gradB gradK grad reach
  simp only [blkX_at, blkW_at, blkF_at]

/-- What the two windows hold after a point. -/
def outD (n : ℕ) (h : n < cfg0.N) : FVec Ideal S1024x1024 .bf16 := (outsAt0 m c n h).1
def outB (n : ℕ) (h : n < cfg0.N) : FVec Ideal S1x1024 .f32 := (outsAt0 m c n h).2

theorem out_first (t : Fin cfg0.N) (h : t.val % 4 = 0) :
    outD m c t.val t.isLt = k0_pay2 (F := Ideal) (blkX m c t) (blkW m c t) (blkF m c t)
      ∧ outB m c t.val t.isLt = k0_pay3 (F := Ideal) (blkX m c t) (blkW m c t) (blkF m c t) := by
  unfold outD outB blkX blkW blkF
  rw [outsAt0_A m c t h (by omega)]
  constructor <;> frame_out

theorem out_step (t : Fin cfg0.N) (h : ¬t.val % 4 = 0) :
    outD m c t.val t.isLt = k0_pay2 (F := Ideal) (blkX m c t) (blkW m c t) (blkF m c t)
      ∧ outB m c t.val t.isLt = k0_pay4 (F := Ideal) (blkX m c t) (blkW m c t) (blkF m c t)
        (outB m c (t.val - 1) (Nat.lt_of_le_of_lt (Nat.sub_le _ _) t.isLt)) := by
  unfold outD outB blkX blkW blkF
  rw [outsAt0_B m c t h (by omega)]
  constructor <;> frame_out

theorem outD_at (t : Fin cfg0.N) (r j : Fin 1024) : outD m c t.val t.isLt (ix2 r j) = gradK m c (rowG t r) (colG t j) := by
  refine Eq.trans ?_ ((pay2_at _ _ _ r j).trans (gradB_at m c t r j))
  by_cases h : t.val % 4 = 0
  · rw [(out_first m c t h).1]
  · rw [(out_step m c t h).1]

/-- The bias's gradient is complete at the last of the four steps that share a block of columns. -/
theorem outB_at (t : Fin cfg0.N) (h : t.val % 4 = 3) (j : Fin 1024) :
    outB m c t.val t.isLt (ix2 0 j) = ∑ R, gradK m c R (colG t j) := by
  have e := Pipeline.eq_sum_fin_of_reset_step_apply_of_flush (fun n h (_ : Unit) => outB m c n h (ix2 0 j)) 4 (fun _ => 0)
    (fun t _ => ∑ r, gradK m c (rowG t r) (colG t j))
    (fun t h _ => by
      rw [(out_first m c t h).2, zero_add]
      exact (pay3_at _ _ _ j).trans (Finset.sum_congr rfl fun r _ => gradB_at m c t r j))
    (fun t h _ => by
      rw [(out_step m c t h).2]
      exact (pay4_at _ _ _ j _).trans (congrArg (_ + ·) (Finset.sum_congr rfl fun r _ => gradB_at m c t r j))) t h ()
  refine e.trans ?_
  rw [zero_add]
  refine Fin.sum_mul_add_congr (S := 4) (n := 1024) (f := fun R => gradK m c R (colG t j)) fun s r hr => ?_
  refine congrArg₂ (gradK m c) (Fin.ext ?_) (Fin.ext ?_)
  · show 1024 * ((4 * (t.val / 4) + s.val) % 4) + r.val = s.val * 1024 + r.val
    omega
  · show 1024 * ((4 * (t.val / 4) + s.val) / 4) + j.val = 1024 * (t.val / 4) + j.val
    omega

/-- The gradient of the hidden layer, the whole array. -/
theorem arrD_eq : (dats m 0 c).arrAt 3 cfg0.N
    = Cert.RefDff1Ideal.Read.val_main_v22 (F := Ideal) (argH m c) (argW1 m c) (argB1 m c) (argW2 m c) (argDR m c) := by
  refine (dats m 0 c).arrAt_eq_of_covers 3 _ (by decide +kernel) fun t hf y => ?_
  rw [after0_3]
  blk_simp
  refine Eq.trans (b := outD m c t.val t.isLt (ix2 (y 0) (y 1))) (congrArg (outD m c t.val t.isLt) (eq_ix2 y)) ?_
  refine (outD_at m c t (y 0) (y 1)).trans ((Cert.RefDff1Ideal.Val.v22_at _ _ _ _ _ _ _).symm.trans ?_)
  unfold rowG colG
  blk_ext [idx t]

/-- The gradient of the bias, the whole array. -/
theorem arrB_eq : (dats m 0 c).arrAt 4 cfg0.N
    = Cert.RefDff1Ideal.Read.val_main_v23 (F := Ideal) (argH m c) (argW1 m c) (argB1 m c) (argW2 m c) (argDR m c) := by
  refine (dats m 0 c).arrAt_eq_of_covers 4 _ (by decide +kernel) fun t hf y => ?_
  rw [after0_4]
  blk_simp
  have h0 : (y 0).val < 1 := (y 0).isLt
  have hy : y = ix2 0 (y 1) := (eq_ix2 y).trans (congrArg (fun a => ix2 a (y 1)) (Fin.ext (by show (y 0).val = 0; omega)))
  refine Eq.trans (b := outB m c t.val t.isLt (ix2 0 (y 1))) (congrArg (outB m c t.val t.isLt) hy) ?_
  refine (outB_at m c t ((flush0_4 t).mp hf) (y 1)).trans ((Cert.RefDff1Ideal.Val.v23_at _ _ _ _ _ _).symm.trans ?_)
  unfold colG
  blk_ext [idx t]

end Cert.Dff1Ideal.Val

end
-- ==== Proof.Dff1.Claim.lean ====
module

public import proofs.«01_k».proof.Defs
public import proofs.«01_k».proof.Proof.Gen.Dff1Ideal.Frame
public import proofs.«01_k».proof.Proof.Gen.RefDff1Ideal.Run
public import proofs.«01_k».proof.Proof.Gen.RefDff1Ideal.Read
public import proofs.«01_k».proof.Proof.Dff1.Kernel

/-! The claims on the reference of the activation's gradient and on the pair. -/

@[expose] public section

set_option maxRecDepth 16384

noncomputable section

open Idealize.ShloMosaic Idealize.ShloMosaic.TcCoe

namespace Cert.Proof

/-- The reference runs to its end, leaves its arguments as they were, and has no counter to leave. -/
theorem frame_ref_dff1 : @Cert.quiescent_RefDff1Ideal Cert.RefDff1Ideal.Gen.facts := fun m g _ =>
  θ_run_mono (Cert.RefDff1Ideal.Value.run m g) fun r h =>
    ⟨fun c => (h c).2.2, sem_eq_zero_of_no_sems (by decide) r.2⟩

/-- The gradient of the activation and of the bias before it, fused with the product by the weights. -/
theorem dff1 : @Cert.algebraic_Dff1Ideal_RefDff1Ideal Cert.Dff1Ideal.Gen.facts Cert.RefDff1Ideal.Gen.facts := by
  intro m g m' g' _ hagree
  refine ⟨fun c => (Cert.Dff1Ideal.Gen.dats m 0 c).arrAt 3 Cert.Dff1Ideal.cfg0.N,
    fun c => (Cert.Dff1Ideal.Gen.dats m 0 c).arrAt 4 Cert.Dff1Ideal.cfg0.N, ?_, ?_⟩
  · run_from Cert.Dff1Ideal.Value.run_blocks m g
  · run_from Cert.RefDff1Ideal.Value.run m' g'
    · exact (Cert.RefDff1Ideal.Read.val_main_v22_eq _ _ _ _ _).trans (Cert.Dff1Ideal.Val.arrD_eq m c).symm
    · exact (Cert.RefDff1Ideal.Read.val_main_v23_eq _ _ _ _ _).trans (Cert.Dff1Ideal.Val.arrB_eq m c).symm

end Cert.Proof

end
-- ==== Proof.Attn.Model.lean ====
/-
  The attention backward kernel on vectors. One CHAIN is one head and one half (128 rows) of a block of 256 queries; a
  block of queries has four. A chain carries the sum of the scores' softplus over the key blocks already swept (`c1`), the
  sum of the weighted gradients (`c2`) and its rows of dq (`acc`). `Ch.next` is one chain through one block of keys, and
  `St.step` the four chains together with what they add to the transposed dk and dv blocks kept in scratch. The diagonal
  block of keys has a mask, the earlier ones none.
-/
module

public import proofs.«01_k».proof.Proof.Gen.AttnIdeal
public import proofs.«01_k».proof.Proof.Gen.AttnIdeal.Launch
public import proofs.«01_k».proof.Proof.Gen.AttnIdeal.Points
public import proofs.«01_k».proof.Proof.Gen.AttnIdeal.Skeleton
public import proofs.«01_k».proof.Proof.Gen.AttnIdeal.Loops
public import Idealize.ShloMosaic.Lib.VecWindow

@[expose] public section

noncomputable section

namespace Cert.AttnIdeal.Model

open Idealize.ShloMosaic Idealize.ShloMosaic.TcCoe
open Cert.AttnIdeal Cert.AttnIdeal.Gen

variable {F : FTy → Type} [FloatOps F] [Named F]

/-- What a chain reads and does not change: its queries, its cotangents and the row sums of cotangent times output. -/
structure Fx (F : FTy → Type) where
  q : FVec F S128x128 .bf16
  dO : FVec F S128x128 .bf16
  tot : FVec F S128x1 .f32

/-- What a chain carries from one block of keys to the next. -/
structure Ch (F : FTy → Type) where
  c1 : FVec F S128x1 .f32
  c2 : FVec F S128x1 .f32
  acc : FVec F S128x128 .f32

/-- A mask, where there is one: zero outside. -/
def masked : Option (IVec S128x256 1) → FVec F S128x256 .f32 → FVec F S128x256 .f32
  | none, x => x
  | some μ, x => select μ x (broadcast S128x256 (Scalar.ofBits .f32 0x00000000#32))

/-- Rows times the transpose of 256 rows. -/
def dotT (a : FVec F S128x128 .bf16) (b : FVec F S256x128 .bf16) : FVec F S128x256 .f32 :=
  matmul dot_S128x128_S256x128_S128x256_1_1_0_0_n_n none a b (constant S128x256 .f32 0x00000000#32)

/-- The scores in base 2. -/
def scores (q : FVec F S128x128 .bf16) (k : FVec F S256x128 .bf16) : FVec F S128x256 .f32 :=
  mulf (dotT q k) (broadcast S128x256 (Named.named κ "scale2" 0x3E0293EE#32))

/-- The softplus of the scores in base 2. -/
def softplus (z : FVec F S128x256 .f32) : FVec F S128x256 .f32 :=
  addf (maximumf z (broadcast S128x256 (Scalar.ofBits .f32 0x00000000#32)))
    (mulf (log (addf (broadcast S128x256 (Scalar.ofBits .f32 0x3F800000#32))
      (exp2 (subf (broadcast S128x256 (Scalar.ofBits .f32 0x00000000#32)) (absf z)))))
      (broadcast S128x256 (Named.named κ "log2_e" 0x3FB8AA3B#32)))

/-- The sums over the keys at or after each one, within the block, as two products with the triangle. -/
def suffix (tri : FVec F S256x256 .bf16) (x : FVec F S128x256 .f32) : FVec F S128x256 .f32 :=
  addf (matmul dot_S128x256_S256x256_S128x256_1_0_0_1_n_n none (truncf .bf16 x bitsLt_bf16_f32) tri (constant S128x256 .f32 0x00000000#32))
    (matmul dot_S128x256_S256x256_S128x256_1_0_0_1_n_n none
      (truncf .bf16 (subf x (extf .f32 (truncf .bf16 x bitsLt_bf16_f32) bitsLt_bf16_f32)) bitsLt_bf16_f32) tri
      (constant S128x256 .f32 0x00000000#32))

/-- A block's first column: the sums over the whole block. -/
def first (x : FVec F S128x256 .f32) : FVec F S128x1 .f32 :=
  extractStridedSlice S128x1 ![0, 0] x slices_S128x256_o0_0_S128x1

section Chain

variable (μ : Option (IVec S128x256 1)) (tri : FVec F S256x256 .bf16) (f : Fx F) (s : Ch F) (k v : FVec F S256x128 .bf16)

/-- The block's suffix sums of the softplus. -/
def incl : FVec F S128x256 .f32 := suffix tri (masked μ (softplus (scores f.q k)))

/-- The attention weights. -/
def weights : FVec F S128x256 .bf16 :=
  truncf .bf16 (masked μ (exp2 (subf (scores f.q k) (addf (incl μ tri f k) (broadcastTo S128x256 s.c1 broadcasts_S128x1_S128x256)))))
    bitsLt_bf16_f32

/-- The weights times their gradients. -/
def weighted : FVec F S128x256 .f32 := mulf (extf .f32 (weights μ tri f s k) bitsLt_bf16_f32) (dotT f.dO v)

/-- Its suffix sums. -/
def gincl : FVec F S128x256 .f32 := suffix tri (weighted μ tri f s k v)

/-- The gradient of the scaled scores. -/
def dscores : FVec F S128x256 .bf16 :=
  truncf .bf16 (masked μ (mulf (subf (weighted μ tri f s k v)
    (mulf (exp2 (subf (scores f.q k) (softplus (scores f.q k))))
      (subf (broadcastTo S128x256 (subf f.tot s.c2) broadcasts_S128x1_S128x256)
        (subf (gincl μ tri f s k v) (weighted μ tri f s k v)))))
    (broadcast S128x256 (Scalar.ofBits .f32 0x3DB504F3#32)))) bitsLt_bf16_f32

/-- A chain after one more block of keys. -/
def Ch.next : Ch F where
  c1 := addf s.c1 (first (incl μ tri f k))
  c2 := addf s.c2 (first (gincl μ tri f s k v))
  acc := addf s.acc (matmul dot_S128x256_S256x128_S128x128_1_0_0_1_n_n none (dscores μ tri f s k v) k (constant S128x128 .f32 0x00000000#32))

end Chain

/-- A transposed 128 × 256 block with the two halves' products added. -/
def addT (t0 t1 : Vec F S1x128x128 .bf16) (a0 a1 : FVec F S128x256 .bf16) (old : Vec F S1x128x256 .f32) : FVec F S1x128x256 .f32 :=
  shapeCast S1x128x256 (addf (shapeCast S128x256 old shapeCasts_S1x128x256_S128x256)
    (addf (matmul dot_S128x128_S128x256_S128x256_1_0_0_1_n_n none (shapeCast S128x128 t0 shapeCasts_S1x128x128_S128x128) a0 (constant S128x256 .f32 0x00000000#32))
      (matmul dot_S128x128_S128x256_S128x256_1_0_0_1_n_n none (shapeCast S128x128 t1 shapeCasts_S1x128x128_S128x128) a1 (constant S128x256 .f32 0x00000000#32))))
    shapeCasts_S128x256_S1x128x256

/-- The four chains of a block of queries (head 0 upper and lower half, head 1 upper and lower half) and the transposed
dk and dv blocks. -/
structure St (F : FTy → Type) where
  ch : Fin 4 → Ch F
  dk : Vec F S16x256x256 .f32
  dv : Vec F S16x256x256 .f32

/-- The transposed blocks with one head's 128 rows of one block of keys added to. -/
def addAt (x : Vec F S16x256x256 .f32) (off : Fin 3 → ℕ) (inb : ∀ a, off a + S1x128x256.size a ≤ S16x256x256.size a)
    (t0 t1 : Vec F S1x128x128 .bf16) (a0 a1 : FVec F S128x256 .bf16) : Vec F S16x256x256 .f32 :=
  VecWindow.put x off S1x128x256.size (addT t0 t1 a0 a1 (VecWindow.window x off S1x128x256.size inb))

section Step

variable (μ : Fin 2 → Option (IVec S128x256 1)) (tri : FVec F S256x256 .bf16) (f : Fin 4 → Fx F)
variable (k v : Fin 2 → Vec F S256x128 .bf16) (qt dot : Fin 4 → Vec F S1x128x128 .bf16)
variable (off : Fin 2 → Fin 3 → ℕ) (inb : ∀ s a, off s a + S1x128x256.size a ≤ S16x256x256.size a)

/-- A block of keys' rows as the products take them. -/
def rows (x : Vec F S256x128 .bf16) : FVec F S256x128 .bf16 := shapeCast S256x128 x shapeCasts_S256x128_S256x128

/-- Which head a chain belongs to, and which half of the queries. -/
def hd : Fin 4 → Fin 2 := ![0, 0, 1, 1]
def half : Fin 4 → Fin 2 := ![0, 1, 0, 1]

/-- One block of keys for the four chains. -/
def St.step (s : St F) : St F where
  ch i := (s.ch i).next (μ (half i)) tri (f i) (rows (k (hd i))) (rows (v (hd i)))
  dk := addAt (addAt s.dk (off 0) (inb 0) (qt 0) (qt 1)
      (dscores (μ 0) tri (f 0) (s.ch 0) (rows (k 0)) (rows (v 0))) (dscores (μ 1) tri (f 1) (s.ch 1) (rows (k 0)) (rows (v 0))))
    (off 1) (inb 1) (qt 2) (qt 3)
    (dscores (μ 0) tri (f 2) (s.ch 2) (rows (k 1)) (rows (v 1))) (dscores (μ 1) tri (f 3) (s.ch 3) (rows (k 1)) (rows (v 1)))
  dv := addAt (addAt s.dv (off 0) (inb 0) (dot 0) (dot 1)
      (weights (μ 0) tri (f 0) (s.ch 0) (rows (k 0))) (weights (μ 1) tri (f 1) (s.ch 1) (rows (k 0))))
    (off 1) (inb 1) (dot 2) (dot 3)
    (weights (μ 0) tri (f 2) (s.ch 2) (rows (k 1))) (weights (μ 1) tri (f 3) (s.ch 3) (rows (k 1)))

end Step

/-- The least of the chains' `c1`. -/
def lowest (s : St F) : F .f32 := k0_pay3 (s.ch 0).c1 (s.ch 1).c1 (s.ch 2).c1 (s.ch 3).c1

section Sweep

variable (t : Fin k0_t1_loop.trips) (tri : FVec F S256x256 .bf16) (f : Fin 4 → Fx F)
variable (xk xv : Vec F S4096x256 .bf16) (qt dot : Vec F S16x256x256 .bf16)

/-- A half's 128 columns of the transposed queries or cotangents, for the two heads. -/
def quarter (x : Vec F S16x256x256 .bf16) : Fin 4 → Vec F S1x128x128 .bf16
  | 0 => VecWindow.window x (k0_off13 t) S1x128x128.size (k0_off13_inb t)
  | 1 => VecWindow.window x (k0_off14 t) S1x128x128.size (k0_off14_inb t)
  | 2 => VecWindow.window x (k0_off16 t) S1x128x128.size (k0_off16_inb t)
  | 3 => VecWindow.window x (k0_off17 t) S1x128x128.size (k0_off17_inb t)

/-- A block of keys or values, for the two heads. -/
def keyRows (j : BitVec 32) (h : k0_chk1 t j) (x : Vec F S4096x256 .bf16) : Fin 2 → Vec F S256x128 .bf16
  | 0 => VecWindow.window x (k0_off11 t j) S256x128.size (k0_off11_inb t j h)
  | 1 => VecWindow.window x (k0_off12 t j) S256x128.size (k0_off12_inb t j h)

def keyOff (j : BitVec 32) : Fin 2 → Fin 3 → ℕ
  | 0 => k0_off15 t j
  | 1 => k0_off18 t j

theorem keyOff_inb (j : BitVec 32) (h : k0_chk1 t j) : ∀ s a, keyOff t j s a + S1x128x256.size a ≤ S16x256x256.size a
  | 0 => k0_off15_inb t j h
  | 1 => k0_off18_inb t j h

/-- One earlier block of keys, `j` counted back from the diagonal. -/
def earlier (j : BitVec 32) (h : k0_chk1 t j) (s : St F) : St F :=
  s.step (fun _ => none) tri f (keyRows t j h xk) (keyRows t j h xv) (quarter t qt) (quarter t dot) (keyOff t j) (keyOff_inb t j h)

/-- Whether the sweep goes on: an earlier block is left and some weight may still differ from zero. -/
def More (j : BitVec 32) (mn : F .f32) : Prop :=
  Scalar.andi (Scalar.cmpi .slt j (Scf.iv 0#32 1#32 t)) (Scalar.cmpf .olt mn (Named.named κ "underflow" 0x43200000#32)) = 1#1

instance (j : BitVec 32) (mn : F .f32) : Decidable (More t j mn) :=
  inferInstanceAs (Decidable (Scalar.andi _ _ = 1#1))

/-- The sweep over the earlier blocks, at most `n` of them. -/
def sweep : ℕ → BitVec 32 → F .f32 → St F → BitVec 32 × F .f32 × St F
  | 0, j, mn, s => (j, mn, s)
  | n + 1, j, mn, s =>
    if More t j mn then
      if h : k0_chk1 t j then
        sweep n (Scalar.addi j 1#32) (lowest (earlier t tri f xk xv qt dot j h s)) (earlier t tri f xk xv qt dot j h s)
      else (j, mn, s)
    else (j, mn, s)

end Sweep

end Cert.AttnIdeal.Model

end
-- ==== Proof.Attn.Held.lean ====
/-
  A buffer held whole at contents that read a vector `X`: a load through a unit-stride rectangle reads a window of `X`, an
  unmasked store there leaves `X` with the payload put over the window. Both as steps at the head of a program, and the
  points-to they speak of.
-/
module

public import Idealize.ShloMosaic.Lib.VecWindow
public import Idealize.ShloMosaic.Lib.WholeRead
public import Idealize.ShloMosaic.Lib.Pipeline.Frame

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}
variable {cs : CoreSpace} {m : Memref sig c.2.kind cs s e}

/-- The memref's buffer, all of it, at the contents that read `X`. -/
abbrev held (h : m.IsWhole) (X : s.Idx → Val e) : sProp (MT nD τ sig Ix Val Name U Lvl) :=
  m.view.loc c ↦[m.view.set]{fullShare} (h.unread X)

/-- A load through a unit-stride rectangle reads a window. -/
theorem wp_load_held (h : m.IsWhole) (X : s.Idx → Val e) {off size : Fin s.rank → ℕ} (inb : ∀ a, off a + size a ≤ s.size a)
    {hl : m.view.LoadsAt (Rect.unit off size inb).toLoadRect}
    {k : ((Rect.unit off size inb).shape.Idx → Val e) → Prog (TpuEff nD τ sig Val Λ c.2) α} :
    held c h X
      ⊢ iprop((held c h X -∗ wp frame (wpE defs 𝒱 c bd) E (k (VecWindow.window X off size inb)) Q)
        -∗ wp frame (wpE defs 𝒱 c bd) E (.op (.load m (Rect.unit off size inb).toLoadRect hl) k) Q) := by
  have hS : m.view.setOn (Rect.unit off size inb).toLoadRect.set ⊆ m.view.set := View.setOn_subset_set _ _
  have hr : m.view.readAt Val (Rect.unit off size inb).toLoadRect (h.unread X) = VecWindow.window X off size inb := by
    rw [View.readAt_unit m.view (h.unread X) inb rfl inb, h.read_unread]
  rw [← hr]
  exact wp_load 𝒱 c bd E hS

/-- An unmasked store through a unit-stride rectangle puts its payload over the window. -/
theorem wp_store_held (h : m.IsWhole) (X : s.Idx → Val e) {off size : Fin s.rank → ℕ} (inb : ∀ a, off a + size a ≤ s.size a)
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} :
    held c h X
      ⊢ iprop((held c h (VecWindow.put X off size w) -∗ wp frame (wpE defs 𝒱 c bd) E (k ⟨⟩) Q)
        -∗ wp frame (wpE defs 𝒱 c bd) E (.op (.store m (Rect.unit off size inb) w Finset.univ hx hm) k) Q) := by
  have hS : (m.access (Rect.unit off size inb)).set ⊆ m.view.set := by
    rw [show (m.access (Rect.unit off size inb)).set = m.view.setOn (Rect.unit off size inb).set from View.set_slice _ _]
    exact View.setOn_subset_set _ _
  have hr : h.unread (VecWindow.put X off size w)
      = m.view.writes Val (h.unread X) [⟨Rect.unit off size inb, w⟩] := by
    rw [← h.unread_read (m.view.writes Val (h.unread X) [⟨Rect.unit off size inb, w⟩]),
      View.read_writes_cons_put m.view (h.unread X) inb w [] rfl, View.writes_nil, h.read_unread]
  unfold held
  rw [hr]
  exact wp_store_writes₀ 𝒱 c bd E hS

end Cert.Held

end
-- ==== Proof.Attn.While.lean ====
/-
  The sweep over the earlier blocks of keys, run: the loop's label met by a specification that takes the buffers at a
  state's contents and hands them back at the contents after the sweep, by induction on the blocks still to sweep.
-/
module

public import proofs.«01_k».proof.Proof.Attn.Model
public import proofs.«01_k».proof.Proof.Attn.Held
public import Idealize.ShloMosaic.Lib.Pipeline.Sound

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen Cert.AttnIdeal.Model Cert.Held

variable {F : FTy → Type} [FloatOps F] [Named F]

/-- The naturals, the blocks still to sweep. -/
abbrev 𝒱₀ : Variants := Variants.nat

local notation "𝕄" => MT nD τ sig Unit (Elt F) ℕ (UR sig nD τ) ℕ

theorem slt_true : ∀ k < 16, ∀ j < k, Scalar.cmpi .slt (BitVec.ofNat 32 j) (BitVec.ofNat 32 k) = 1#1 := by decide

theorem slt_self : ∀ k < 16, Scalar.cmpi .slt (BitVec.ofNat 32 k) (BitVec.ofNat 32 k) = 0#1 := by decide

theorem addi_succ : ∀ j < 16, Scalar.addi (BitVec.ofNat 32 j) 1#32 = BitVec.ofNat 32 (j + 1) := by decide

theorem chk_of_lt : ∀ t : Fin k0_t1_loop.trips, ∀ j < t.val, k0_chk1 t (BitVec.ofNat 32 j) := by decide +kernel

theorem iv_eq : ∀ t : Fin k0_t1_loop.trips, Scf.iv 0#32 1#32 t = BitVec.ofNat 32 t.val := by decide +kernel

theorem lt_16 (t : Fin k0_t1_loop.trips) : t.val < 16 := lt_of_lt_of_le t.isLt (by decide)

section Label

variable (c : Dev nD) (i : grid0.Coords) (t : Fin k0_t1_loop.trips) (tri : FVec F S256x256 .bf16) (f : Fin 4 → Fx F)
variable (arg2 : Memref sig .tc .vmem S4096x256 .bf16) (harg2 : arg2.IsWhole) (arg3 : Memref sig .tc .vmem S4096x256 .bf16) (harg3 : arg3.IsWhole)
variable (arg8 : Memref sig .tc .vmem S16x256x256 .bf16) (harg8 : arg8.IsWhole) (arg9 : Memref sig .tc .vmem S16x256x256 .bf16) (harg9 : arg9.IsWhole)
variable (arg10 : Memref sig .tc .vmem S16x256x256 .f32) (harg10 : arg10.IsWhole) (arg11 : Memref sig .tc .vmem S16x256x256 .f32) (harg11 : arg11.IsWhole)
variable (xk xv : Vec F S4096x256 .bf16) (qt dot : Vec F S16x256x256 .bf16)

/-- The buffers the sweep touches: keys, values, transposed queries and cotangents, and the two blocks it adds to. -/
def bufs (dk dv : Vec F S16x256x256 .f32) : sProp 𝕄 :=
  iprop(held (c : Thread nD τ) harg2 xk ∗ held (c : Thread nD τ) harg3 xv ∗ held (c : Thread nD τ) harg8 qt
    ∗ held (c : Thread nD τ) harg9 dot ∗ held (c : Thread nD τ) harg10 dk ∗ held (c : Thread nD τ) harg11 dv)

/-- The values the loop carries, as the label takes and returns them. -/
def carried (r : BitVec 32 × F .f32 × St F) : BitVec 32 × F .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32 :=
  (r.1, r.2.1, (r.2.2.ch 0).c1, (r.2.2.ch 0).c2, (r.2.2.ch 0).acc, (r.2.2.ch 1).c1, (r.2.2.ch 1).c2, (r.2.2.ch 1).acc,
    (r.2.2.ch 2).c1, (r.2.2.ch 2).c2, (r.2.2.ch 2).acc, (r.2.2.ch 3).c1, (r.2.2.ch 3).c2, (r.2.2.ch 3).acc)

/-- The label's argument at a state. -/
def closure (j : BitVec 32) (mn : F .f32) (s : St F) : Cc0While1 F :=
  ⟨i, t, arg2, harg2, (f 0).q, (f 1).q, (f 2).q, (f 3).q, tri, arg3, harg3, (f 0).dO, (f 1).dO, (f 2).dO, (f 3).dO,
    (f 0).tot, (f 1).tot, (f 2).tot, (f 3).tot, arg8, harg8, arg9, harg9, arg10, harg10, arg11, harg11, j, mn,
    (s.ch 0).c1, (s.ch 0).c2, (s.ch 0).acc, (s.ch 1).c1, (s.ch 1).c2, (s.ch 1).acc,
    (s.ch 2).c1, (s.ch 2).c2, (s.ch 2).acc, (s.ch 3).c1, (s.ch 3).c2, (s.ch 3).acc⟩

/-- The label's specification: the buffers at a state's contents are handed back at the contents after the sweep, and
the values returned are the sweep's. -/
def spec (n : ℕ) (j : BitVec 32) (mn : F .f32) (s : St F) : sWPT 𝕄 (BitVec 32 × F .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32) := do
  sWPT.consume (bufs c arg2 harg2 arg3 harg3 arg8 harg8 arg9 harg9 arg10 harg10 arg11 harg11 xk xv qt dot s.dk s.dv)
  sWPT.produce (bufs c arg2 harg2 arg3 harg3 arg8 harg8 arg9 harg9 arg10 harg10 arg11 harg11 xk xv qt dot
    (sweep t tri f xk xv qt dot n j mn s).2.2.dk (sweep t tri f xk xv qt dot n j mn s).2.2.dv)
  pure (carried (sweep t tri f xk xv qt dot n j mn s))

theorem spec_apply (n : ℕ) (j : BitVec 32) (mn : F .f32) (s : St F) (K) :
    spec c t tri f arg2 harg2 arg3 harg3 arg8 harg8 arg9 harg9 arg10 harg10 arg11 harg11 xk xv qt dot n j mn s K
      = iprop(bufs c arg2 harg2 arg3 harg3 arg8 harg8 arg9 harg9 arg10 harg10 arg11 harg11 xk xv qt dot s.dk s.dv
        ∗ (bufs c arg2 harg2 arg3 harg3 arg8 harg8 arg9 harg9 arg10 harg10 arg11 harg11 xk xv qt dot
          (sweep t tri f xk xv qt dot n j mn s).2.2.dk (sweep t tri f xk xv qt dot n j mn s).2.2.dv
          -∗ K (carried (sweep t tri f xk xv qt dot n j mn s)))) := rfl

/-- With no block left the test fails. -/
theorem not_more (mn : F .f32) : ¬ More t (BitVec.ofNat 32 t.val) mn := by
  unfold More
  rw [iv_eq, slt_self t.val (lt_16 t)]
  generalize Scalar.cmpf .olt mn _ = b
  revert b
  decide

theorem spec_le (E : Set ℕ) : ∀ n j, j + n = t.val → ∀ mn s K,
    spec c t tri f arg2 harg2 arg3 harg3 arg8 harg8 arg9 harg9 arg10 harg10 arg11 harg11 xk xv qt dot n (BitVec.ofNat 32 j) mn s K
      ⊢ wp frame (wpE (defs₀ (F := F)) 𝒱₀ (c : Thread nD τ) (some n)) E
          (defs₀ (F := F) .tc 1 (closure i t tri f arg2 harg2 arg3 harg3 arg8 harg8 arg9 harg9 arg10 harg10 arg11 harg11 (BitVec.ofNat 32 j) mn s)) K := by
  intro n
  induction n with
  | zero =>
    intro j hj mn s K
    obtain rfl : j = t.val := by omega
    rw [spec_apply, show sweep t tri f xk xv qt dot 0 (BitVec.ofNat 32 t.val) mn s = (BitVec.ofNat 32 t.val, mn, s) from rfl]
    unfold carried
    show _ ⊢ wp frame (wpE (defs₀ (F := F)) 𝒱₀ (c : Thread nD τ) (some 0)) E
      (cc0_while1 i t arg2 harg2 (f 0).q (f 1).q (f 2).q (f 3).q tri arg3 harg3 (f 0).dO (f 1).dO (f 2).dO (f 3).dO
        (f 0).tot (f 1).tot (f 2).tot (f 3).tot arg8 harg8 arg9 harg9 arg10 harg10 arg11 harg11 (BitVec.ofNat 32 t.val) mn
        (s.ch 0).c1 (s.ch 0).c2 (s.ch 0).acc (s.ch 1).c1 (s.ch 1).c2 (s.ch 1).acc
        (s.ch 2).c1 (s.ch 2).c2 (s.ch 2).acc (s.ch 3).c1 (s.ch 3).c2 (s.ch 3).acc) K
    simp only [cc0_while1_eq_skeleton]; unfold cc0_while1_skel
    show _ ⊢ wp frame _ E (if More t (BitVec.ofNat 32 t.val) mn then _ else _) K
    rw [if_neg (not_more t mn)]
    simp only [Prog.pure_eq_ret]
    iintro ⟨H, Hk⟩
    rw [wp_ret]; imodintro
    iapply Hk
    iexact H
  | succ n ih =>
    intro j hj mn s K
    rw [spec_apply]
    show _ ⊢ wp frame (wpE (defs₀ (F := F)) 𝒱₀ (c : Thread nD τ) (some (n + 1))) E
      (cc0_while1 i t arg2 harg2 (f 0).q (f 1).q (f 2).q (f 3).q tri arg3 harg3 (f 0).dO (f 1).dO (f 2).dO (f 3).dO
        (f 0).tot (f 1).tot (f 2).tot (f 3).tot arg8 harg8 arg9 harg9 arg10 harg10 arg11 harg11 (BitVec.ofNat 32 j) mn
        (s.ch 0).c1 (s.ch 0).c2 (s.ch 0).acc (s.ch 1).c1 (s.ch 1).c2 (s.ch 1).acc
        (s.ch 2).c1 (s.ch 2).c2 (s.ch 2).acc (s.ch 3).c1 (s.ch 3).c2 (s.ch 3).acc) K
    simp only [cc0_while1_eq_skeleton]; unfold cc0_while1_skel
    by_cases htest : More t (BitVec.ofNat 32 j) mn
    swap
    · have hs : sweep t tri f xk xv qt dot (n + 1) (BitVec.ofNat 32 j) mn s = (BitVec.ofNat 32 j, mn, s) := by
        rw [sweep, if_neg htest]
      rw [hs]
      unfold carried
      show _ ⊢ wp frame _ E (if More t (BitVec.ofNat 32 j) mn then _ else _) K
      rw [if_neg htest]
      simp only [Prog.pure_eq_ret]
      iintro ⟨H, Hk⟩
      rw [wp_ret]; imodintro
      iapply Hk
      iexact H
    have hj16 : j < 16 := by have := lt_16 t; omega
    have hchk : k0_chk1 t (BitVec.ofNat 32 j) := chk_of_lt t j (by omega)
    have hs : sweep t tri f xk xv qt dot (n + 1) (BitVec.ofNat 32 j) mn s
        = sweep t tri f xk xv qt dot n (BitVec.ofNat 32 (j + 1)) (lowest (earlier t tri f xk xv qt dot (BitVec.ofNat 32 j) hchk s))
          (earlier t tri f xk xv qt dot (BitVec.ofNat 32 j) hchk s) := by
      rw [sweep, if_pos htest, dif_pos hchk, addi_succ j hj16]
    rw [hs]
    show _ ⊢ wp frame _ E (if More t (BitVec.ofNat 32 j) mn then _ else _) K
    rw [if_pos htest]
    simp only [k0_part28_eq_skeleton, k0_part29_eq_skeleton, k0_part30_eq_skeleton, k0_part31_eq_skeleton,
      k0_part32_eq_skeleton, k0_part33_eq_skeleton, k0_part34_eq_skeleton]
    unfold k0_part28_skel k0_part29_skel k0_part30_skel k0_part31_skel k0_part32_skel k0_part33_skel k0_part34_skel
    simp only [Prog.lift, Prog.bind_op, Prog.bind_ret, Prog.pure_eq_ret]
    unfold bufs
    iintro ⟨⟨H2, H3, H8, H9, H10, H11⟩, Hk⟩
    iapply (wp_assume 𝒱₀ (c : Thread nD τ) (some (n + 1)) E hchk)
    iapply (wp_load_held 𝒱₀ (c : Thread nD τ) (some (n + 1)) E harg2 xk (k0_off11_inb t (BitVec.ofNat 32 j) hchk)) $$ H2; iintro H2
    iapply (wp_load_held 𝒱₀ (c : Thread nD τ) (some (n + 1)) E harg2 xk (k0_off11_inb t (BitVec.ofNat 32 j) hchk)) $$ H2; iintro H2
    iapply (wp_load_held 𝒱₀ (c : Thread nD τ) (some (n + 1)) E harg2 xk (k0_off12_inb t (BitVec.ofNat 32 j) hchk)) $$ H2; iintro H2
    iapply (wp_load_held 𝒱₀ (c : Thread nD τ) (some (n + 1)) E harg2 xk (k0_off12_inb t (BitVec.ofNat 32 j) hchk)) $$ H2; iintro H2
    iapply (wp_load_held 𝒱₀ (c : Thread nD τ) (some (n + 1)) E harg3 xv (k0_off11_inb t (BitVec.ofNat 32 j) hchk)) $$ H3; iintro H3
    iapply (wp_load_held 𝒱₀ (c : Thread nD τ) (some (n + 1)) E harg3 xv (k0_off11_inb t (BitVec.ofNat 32 j) hchk)) $$ H3; iintro H3
    iapply (wp_load_held 𝒱₀ (c : Thread nD τ) (some (n + 1)) E harg3 xv (k0_off12_inb t (BitVec.ofNat 32 j) hchk)) $$ H3; iintro H3
    iapply (wp_load_held 𝒱₀ (c : Thread nD τ) (some (n + 1)) E harg3 xv (k0_off12_inb t (BitVec.ofNat 32 j) hchk)) $$ H3; iintro H3
    iapply (wp_load_held 𝒱₀ (c : Thread nD τ) (some (n + 1)) E harg8 qt (k0_off13_inb t)) $$ H8; iintro H8
    iapply (wp_load_held 𝒱₀ (c : Thread nD τ) (some (n + 1)) E harg9 dot (k0_off13_inb t)) $$ H9; iintro H9
    iapply (wp_load_held 𝒱₀ (c : Thread nD τ) (some (n + 1)) E harg8 qt (k0_off14_inb t)) $$ H8; iintro H8
    iapply (wp_load_held 𝒱₀ (c : Thread nD τ) (some (n + 1)) E harg9 dot (k0_off14_inb t)) $$ H9; iintro H9
    iapply (wp_load_held 𝒱₀ (c : Thread nD τ) (some (n + 1)) E harg10 _ (k0_off15_inb t (BitVec.ofNat 32 j) hchk)) $$ H10; iintro H10
    iapply (wp_load_held 𝒱₀ (c : Thread nD τ) (some (n + 1)) E harg10 _ (k0_off15_inb t (BitVec.ofNat 32 j) hchk)) $$ H10; iintro H10
    iapply (wp_store_held 𝒱₀ (c : Thread nD τ) (some (n + 1)) E harg10 _ (k0_off15_inb t (BitVec.ofNat 32 j) hchk)) $$ H10; iintro H10
    iapply (wp_load_held 𝒱₀ (c : Thread nD τ) (some (n + 1)) E harg11 _ (k0_off15_inb t (BitVec.ofNat 32 j) hchk)) $$ H11; iintro H11
    iapply (wp_load_held 𝒱₀ (c : Thread nD τ) (some (n + 1)) E harg11 _ (k0_off15_inb t (BitVec.ofNat 32 j) hchk)) $$ H11; iintro H11
    iapply (wp_store_held 𝒱₀ (c : Thread nD τ) (some (n + 1)) E harg11 _ (k0_off15_inb t (BitVec.ofNat 32 j) hchk)) $$ H11; iintro H11
    iapply (wp_load_held 𝒱₀ (c : Thread nD τ) (some (n + 1)) E harg8 qt (k0_off16_inb t)) $$ H8; iintro H8
    iapply (wp_load_held 𝒱₀ (c : Thread nD τ) (some (n + 1)) E harg9 dot (k0_off16_inb t)) $$ H9; iintro H9
    iapply (wp_load_held 𝒱₀ (c : Thread nD τ) (some (n + 1)) E harg8 qt (k0_off17_inb t)) $$ H8; iintro H8
    iapply (wp_load_held 𝒱₀ (c : Thread nD τ) (some (n + 1)) E harg9 dot (k0_off17_inb t)) $$ H9; iintro H9
    iapply (wp_load_held 𝒱₀ (c : Thread nD τ) (some (n + 1)) E harg10 _ (k0_off18_inb t (BitVec.ofNat 32 j) hchk)) $$ H10; iintro H10
    iapply (wp_load_held 𝒱₀ (c : Thread nD τ) (some (n + 1)) E harg10 _ (k0_off18_inb t (BitVec.ofNat 32 j) hchk)) $$ H10; iintro H10
    iapply (wp_store_held 𝒱₀ (c : Thread nD τ) (some (n + 1)) E harg10 _ (k0_off18_inb t (BitVec.ofNat 32 j) hchk)) $$ H10; iintro H10
    iapply (wp_load_held 𝒱₀ (c : Thread nD τ) (some (n + 1)) E harg11 _ (k0_off18_inb t (BitVec.ofNat 32 j) hchk)) $$ H11; iintro H11
    iapply (wp_load_held 𝒱₀ (c : Thread nD τ) (some (n + 1)) E harg11 _ (k0_off18_inb t (BitVec.ofNat 32 j) hchk)) $$ H11; iintro H11
    iapply (wp_store_held 𝒱₀ (c : Thread nD τ) (some (n + 1)) E harg11 _ (k0_off18_inb t (BitVec.ofNat 32 j) hchk)) $$ H11; iintro H11
    rw [addi_succ j hj16]
    generalize hs' : earlier t tri f xk xv qt dot (BitVec.ofNat 32 j) hchk s = s'
    have hcall := wp_call_spec 𝒱₀ (c : Thread nD τ) (some (n + 1)) E (Q := K)
      (spec c t tri f arg2 harg2 arg3 harg3 arg8 harg8 arg9 harg9 arg10 harg10 arg11 harg11 xk xv qt dot n (BitVec.ofNat 32 (j + 1)) (lowest s') s')
      (ℓ := (1 : (Λ₀ F).Label)) (k := fun r => Prog.ret r)
      n (fun u hu => by cases hu; exact Nat.lt_succ_self n)
      (fun K' => ih (j + 1) (by omega) (lowest s') s' K')
    rw [spec_apply] at hcall
    subst hs'
    iapply hcall
    unfold bufs
    isplitl [H2 H3 H8 H9 H10 H11]
    · isplitl [H2]; · iexact H2
      isplitl [H3]; · iexact H3
      isplitl [H8]; · iexact H8
      isplitl [H9]; · iexact H9
      isplitl [H10]; · iexact H10
      iexact H11
    · iintro H
      rw [wp_ret]; imodintro
      iapply Hk
      iexact H

end Label

end Cert.AttnIdeal.Run

end
-- ==== Proof.Attn.Trip.lean ====
/-
  One block of queries: the diagonal block of keys under the causal mask, the sweep over the earlier ones, and the four
  gradients of the queries stored. What a trip of the loop over the blocks does to the buffers is stated as a function
  of their contents and run.
-/
module

public import proofs.«01_k».proof.Proof.Attn.While

@[expose] public section

set_option maxRecDepth 16384

noncomputable section

namespace Cert.AttnIdeal.Model

open Idealize.ShloMosaic Idealize.ShloMosaic.TcCoe
open Cert.AttnIdeal Cert.AttnIdeal.Gen

variable {F : FTy → Type} [FloatOps F] [Named F]

section Trip

variable (t : Fin k0_t1_loop.trips) (tri : FVec F S256x256 .bf16)
variable (xq xk xv xd : Vec F S4096x256 .bf16) (xo : Vec F S4096x256 .f32) (qt dot : Vec F S16x256x256 .bf16)

/-- A chain's fixed values, read at an offset of the queries, cotangents and outputs. -/
def fixedAt (off : Fin 2 → ℕ) (inb : ∀ a, off a + S128x128.size a ≤ S4096x256.size a) : Fx F where
  q := k0_pay6 (VecWindow.window xq off S128x128.size inb)
  dO := k0_pay4 (VecWindow.window xd off S128x128.size inb)
  tot := k0_pay5 (VecWindow.window xd off S128x128.size inb) (VecWindow.window xo off S128x128.size inb)

/-- The four chains' fixed values. -/
def fixed : Fin 4 → Fx F
  | 0 => fixedAt xq xd xo (k0_off1 t 0#32) (k0_off1_inb t 0)
  | 1 => fixedAt xq xd xo (k0_off1 t 128#32) (k0_off1_inb t 1)
  | 2 => fixedAt xq xd xo (k0_off2 t 0#32) (k0_off2_inb t 0)
  | 3 => fixedAt xq xd xo (k0_off2 t 128#32) (k0_off2_inb t 1)

/-- The causal masks of the diagonal block, for the two halves of the queries. -/
def causal : Fin 2 → Option (IVec S128x256 1)
  | 0 => some k0_pay124
  | 1 => some k0_pay125

/-- The diagonal block of keys. -/
def diagRows (x : Vec F S4096x256 .bf16) : Fin 2 → Vec F S256x128 .bf16
  | 0 => VecWindow.window x (k0_off3 t) S256x128.size (k0_off3_inb t)
  | 1 => VecWindow.window x (k0_off4 t) S256x128.size (k0_off4_inb t)

def diagQuarter (x : Vec F S16x256x256 .bf16) : Fin 4 → Vec F S1x128x128 .bf16
  | 0 => VecWindow.window x (k0_off5 t) S1x128x128.size (k0_off5_inb t)
  | 1 => VecWindow.window x (k0_off6 t) S1x128x128.size (k0_off6_inb t)
  | 2 => VecWindow.window x (k0_off8 t) S1x128x128.size (k0_off8_inb t)
  | 3 => VecWindow.window x (k0_off9 t) S1x128x128.size (k0_off9_inb t)

def diagOff : Fin 2 → Fin 3 → ℕ
  | 0 => k0_off7 t
  | 1 => k0_off10 t

theorem diagOff_inb : ∀ s a, diagOff t s a + S1x128x256.size a ≤ S16x256x256.size a
  | 0 => k0_off7_inb t
  | 1 => k0_off10_inb t

/-- The chains before any block of keys. -/
def start : Ch F := ⟨k0_pay16, k0_pay17, k0_pay18⟩

/-- The state after the diagonal block. -/
def diag (dk dv : Vec F S16x256x256 .f32) : St F :=
  St.step causal tri (fixed t xq xd xo) (diagRows t xk) (diagRows t xv) (diagQuarter t qt) (diagQuarter t dot)
    (diagOff t) (diagOff_inb t) ⟨fun _ => start, dk, dv⟩

/-- The state after the sweep. -/
def swept (dk dv : Vec F S16x256x256 .f32) : St F :=
  (sweep t tri (fixed t xq xd xo) xk xv qt dot t.val 0#32 (lowest (diag t tri xq xk xv xd xo qt dot dk dv))
    (diag t tri xq xk xv xd xo qt dot dk dv)).2.2

/-- The four gradients of the block's queries put into the result. -/
def putRows (s : St F) (x : Vec F S4x4096x256 .bf16) : Vec F S4x4096x256 .bf16 :=
  VecWindow.put (VecWindow.put (VecWindow.put (VecWindow.put x (k0_off19 t 0#32) S1x128x128.size (k0_pay79 (s.ch 0).acc))
    (k0_off19 t 128#32) S1x128x128.size (k0_pay79 (s.ch 1).acc))
    (k0_off20 t 0#32) S1x128x128.size (k0_pay79 (s.ch 2).acc))
    (k0_off20 t 128#32) S1x128x128.size (k0_pay79 (s.ch 3).acc)

/-- What the loop over the blocks of queries writes. -/
structure Buf (F : FTy → Type) where
  out : Vec F S4x4096x256 .bf16
  dk : Vec F S16x256x256 .f32
  dv : Vec F S16x256x256 .f32

/-- One block of queries. -/
def trip (b : Buf F) : Buf F where
  out := putRows t (swept t tri xq xk xv xd xo qt dot b.dk b.dv) b.out
  dk := (swept t tri xq xk xv xd xo qt dot b.dk b.dv).dk
  dv := (swept t tri xq xk xv xd xo qt dot b.dk b.dv).dv

end Trip

end Cert.AttnIdeal.Model

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen Cert.AttnIdeal.Model Cert.Held

variable {F : FTy → Type} [FloatOps F] [Named F]

local notation "𝕄" => MT nD τ sig Unit (Elt F) ℕ (UR sig nD τ) ℕ

/-- A slab of the result, seen as 4096 rows, lies within the result. -/
theorem slab_subset (m : Memref sig .tc .vmem S4x4096x256 .bf16) (off : Fin 3 → ℕ)
    (inb : ∀ a, off a + S1x4096x256.size a ≤ S4x4096x256.size a) (R : LoadRect S4096x256) :
    ((m.slice (Rect.unit (s := S4x4096x256) off S1x4096x256.size inb) (fun _ => rfl)).squeeze
      S4096x256 squeezes_S1x4096x256_S4096x256).view.setOn R.set ⊆ m.view.set := by
  refine (View.setOn_subset_set _ _).trans ?_
  exact (View.set_reshape (v := (m.slice (Rect.unit (s := S4x4096x256) off S1x4096x256.size inb) (fun _ => rfl)).view) _).subset.trans
    (View.set_slice_subset _ _)

section Trip

variable (c : Dev nD) (i : grid0.Coords) (t : Fin k0_t1_loop.trips) (v269 v270 : IVec S256x256 32)
variable (arg1 : Memref sig .tc .vmem S4096x256 .bf16) (harg1 : arg1.IsWhole)
variable (arg2 : Memref sig .tc .vmem S4096x256 .bf16) (harg2 : arg2.IsWhole)
variable (arg3 : Memref sig .tc .vmem S4096x256 .bf16) (harg3 : arg3.IsWhole)
variable (arg4 : Memref sig .tc .vmem S4096x256 .bf16) (harg4 : arg4.IsWhole)
variable (arg5 : Memref sig .tc .vmem S4096x256 .f32) (harg5 : arg5.IsWhole)
variable (arg6 : Memref sig .tc .vmem S4096x256 .bf16) (harg6 : arg6.IsWhole)
variable (arg7 : Memref sig .tc .vmem S4x4096x256 .bf16) (harg7 : arg7.IsWhole)
variable (arg8 : Memref sig .tc .vmem S16x256x256 .bf16) (harg8 : arg8.IsWhole)
variable (arg9 : Memref sig .tc .vmem S16x256x256 .bf16) (harg9 : arg9.IsWhole)
variable (arg10 : Memref sig .tc .vmem S16x256x256 .f32) (harg10 : arg10.IsWhole)
variable (arg11 : Memref sig .tc .vmem S16x256x256 .f32) (harg11 : arg11.IsWhole)
variable (xq xk xv xd : Vec F S4096x256 .bf16) (xo : Vec F S4096x256 .f32) (qt dot : Vec F S16x256x256 .bf16)

/-- The buffers the loop over the blocks of queries touches. -/
def loopBufs (b : Buf F) : sProp 𝕄 :=
  iprop(held (c : Thread nD τ) harg1 xq ∗ held (c : Thread nD τ) harg2 xk ∗ held (c : Thread nD τ) harg3 xv
    ∗ held (c : Thread nD τ) harg4 xd ∗ held (c : Thread nD τ) harg5 xo
    ∗ held (c : Thread nD τ) harg7 b.out ∗ held (c : Thread nD τ) harg8 qt ∗ held (c : Thread nD τ) harg9 dot
    ∗ held (c : Thread nD τ) harg10 b.dk ∗ held (c : Thread nD τ) harg11 b.dv)

theorem trip_le (E : Set ℕ) (b : Buf F) (u : Unit) :
    loopBufs c arg1 harg1 arg2 harg2 arg3 harg3 arg4 harg4 arg5 harg5 arg7 harg7 arg8 harg8 arg9 harg9 arg10 harg10 arg11 harg11 xq xk xv xd xo qt dot b
      ⊢ wp frame (wpE (defs₀ (F := F)) 𝒱₀ (c : Thread nD τ) none) E
          (k0_t1_body (F := F) i arg1 harg1 arg2 harg2 arg3 harg3 arg4 harg4 arg5 harg5 arg6 harg6 arg7 harg7 arg8 harg8 arg9 harg9 arg10 harg10 arg11 harg11 v269 v270 t u)
          (fun _ => loopBufs c arg1 harg1 arg2 harg2 arg3 harg3 arg4 harg4 arg5 harg5 arg7 harg7 arg8 harg8 arg9 harg9 arg10 harg10 arg11 harg11 xq xk xv xd xo qt dot (trip t (k0_pay123 v269 v270) xq xk xv xd xo qt dot b)) := by
  unfold k0_t1_body loopBufs
  simp only [k0_part10_eq_skeleton]
  unfold k0_part10_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel
    k0_part8_skel k0_part9_skel
  simp only [Prog.lift, Prog.bind_op, Prog.bind_ret, Prog.pure_eq_ret]
  iintro ⟨H1, H2, H3, H4, H5, H7, H8, H9, H10, H11⟩
  iapply (wp_load_held 𝒱₀ (c : Thread nD τ) none E harg4 xd (k0_off1_inb t 0)) $$ H4; iintro H4
  iapply (wp_load_held 𝒱₀ (c : Thread nD τ) none E harg5 xo (k0_off1_inb t 0)) $$ H5; iintro H5
  iapply (wp_load_held 𝒱₀ (c : Thread nD τ) none E harg1 xq (k0_off1_inb t 0)) $$ H1; iintro H1
  iapply (wp_load_held 𝒱₀ (c : Thread nD τ) none E harg4 xd (k0_off1_inb t 1)) $$ H4; iintro H4
  iapply (wp_load_held 𝒱₀ (c : Thread nD τ) none E harg5 xo (k0_off1_inb t 1)) $$ H5; iintro H5
  iapply (wp_load_held 𝒱₀ (c : Thread nD τ) none E harg1 xq (k0_off1_inb t 1)) $$ H1; iintro H1
  iapply (wp_load_held 𝒱₀ (c : Thread nD τ) none E harg4 xd (k0_off2_inb t 0)) $$ H4; iintro H4
  iapply (wp_load_held 𝒱₀ (c : Thread nD τ) none E harg5 xo (k0_off2_inb t 0)) $$ H5; iintro H5
  iapply (wp_load_held 𝒱₀ (c : Thread nD τ) none E harg1 xq (k0_off2_inb t 0)) $$ H1; iintro H1
  iapply (wp_load_held 𝒱₀ (c : Thread nD τ) none E harg4 xd (k0_off2_inb t 1)) $$ H4; iintro H4
  iapply (wp_load_held 𝒱₀ (c : Thread nD τ) none E harg5 xo (k0_off2_inb t 1)) $$ H5; iintro H5
  iapply (wp_load_held 𝒱₀ (c : Thread nD τ) none E harg1 xq (k0_off2_inb t 1)) $$ H1; iintro H1
  iapply (wp_load_held 𝒱₀ (c : Thread nD τ) none E harg2 xk (k0_off3_inb t)) $$ H2; iintro H2
  iapply (wp_load_held 𝒱₀ (c : Thread nD τ) none E harg2 xk (k0_off3_inb t)) $$ H2; iintro H2
  iapply (wp_load_held 𝒱₀ (c : Thread nD τ) none E harg2 xk (k0_off4_inb t)) $$ H2; iintro H2
  iapply (wp_load_held 𝒱₀ (c : Thread nD τ) none E harg2 xk (k0_off4_inb t)) $$ H2; iintro H2
  iapply (wp_load_held 𝒱₀ (c : Thread nD τ) none E harg3 xv (k0_off3_inb t)) $$ H3; iintro H3
  iapply (wp_load_held 𝒱₀ (c : Thread nD τ) none E harg3 xv (k0_off3_inb t)) $$ H3; iintro H3
  iapply (wp_load_held 𝒱₀ (c : Thread nD τ) none E harg3 xv (k0_off4_inb t)) $$ H3; iintro H3
  iapply (wp_load_held 𝒱₀ (c : Thread nD τ) none E harg3 xv (k0_off4_inb t)) $$ H3; iintro H3
  iapply (wp_load_held 𝒱₀ (c : Thread nD τ) none E harg8 qt (k0_off5_inb t)) $$ H8; iintro H8
  iapply (wp_load_held 𝒱₀ (c : Thread nD τ) none E harg9 dot (k0_off5_inb t)) $$ H9; iintro H9
  iapply (wp_load_held 𝒱₀ (c : Thread nD τ) none E harg8 qt (k0_off6_inb t)) $$ H8; iintro H8
  iapply (wp_load_held 𝒱₀ (c : Thread nD τ) none E harg9 dot (k0_off6_inb t)) $$ H9; iintro H9
  iapply (wp_load_held 𝒱₀ (c : Thread nD τ) none E harg10 _ (k0_off7_inb t)) $$ H10; iintro H10
  iapply (wp_load_held 𝒱₀ (c : Thread nD τ) none E harg10 _ (k0_off7_inb t)) $$ H10; iintro H10
  iapply (wp_store_held 𝒱₀ (c : Thread nD τ) none E harg10 _ (k0_off7_inb t)) $$ H10; iintro H10
  iapply (wp_load_held 𝒱₀ (c : Thread nD τ) none E harg11 _ (k0_off7_inb t)) $$ H11; iintro H11
  iapply (wp_load_held 𝒱₀ (c : Thread nD τ) none E harg11 _ (k0_off7_inb t)) $$ H11; iintro H11
  iapply (wp_store_held 𝒱₀ (c : Thread nD τ) none E harg11 _ (k0_off7_inb t)) $$ H11; iintro H11
  iapply (wp_load_held 𝒱₀ (c : Thread nD τ) none E harg8 qt (k0_off8_inb t)) $$ H8; iintro H8
  iapply (wp_load_held 𝒱₀ (c : Thread nD τ) none E harg9 dot (k0_off8_inb t)) $$ H9; iintro H9
  iapply (wp_load_held 𝒱₀ (c : Thread nD τ) none E harg8 qt (k0_off9_inb t)) $$ H8; iintro H8
  iapply (wp_load_held 𝒱₀ (c : Thread nD τ) none E harg9 dot (k0_off9_inb t)) $$ H9; iintro H9
  iapply (wp_load_held 𝒱₀ (c : Thread nD τ) none E harg10 _ (k0_off10_inb t)) $$ H10; iintro H10
  iapply (wp_load_held 𝒱₀ (c : Thread nD τ) none E harg10 _ (k0_off10_inb t)) $$ H10; iintro H10
  iapply (wp_store_held 𝒱₀ (c : Thread nD τ) none E harg10 _ (k0_off10_inb t)) $$ H10; iintro H10
  iapply (wp_load_held 𝒱₀ (c : Thread nD τ) none E harg11 _ (k0_off10_inb t)) $$ H11; iintro H11
  iapply (wp_load_held 𝒱₀ (c : Thread nD τ) none E harg11 _ (k0_off10_inb t)) $$ H11; iintro H11
  iapply (wp_store_held 𝒱₀ (c : Thread nD τ) none E harg11 _ (k0_off10_inb t)) $$ H11; iintro H11
  generalize hd : diag t (k0_pay123 v269 v270) xq xk xv xd xo qt dot b.dk b.dv = d
  have hcall := fun k => wp_call_spec (α := Unit) 𝒱₀ (c : Thread nD τ) none E (Q := fun _ => loopBufs c arg1 harg1 arg2 harg2 arg3 harg3 arg4 harg4 arg5 harg5 arg7 harg7 arg8 harg8 arg9 harg9 arg10 harg10 arg11 harg11 xq xk xv xd xo qt dot (trip t (k0_pay123 v269 v270) xq xk xv xd xo qt dot b))
    (spec c t (k0_pay123 v269 v270) (fixed t xq xd xo) arg2 harg2 arg3 harg3 arg8 harg8 arg9 harg9 arg10 harg10 arg11 harg11 xk xv qt dot t.val (BitVec.ofNat 32 0) (lowest d) d)
    (ℓ := (1 : (Λ₀ F).Label)) (k := k) t.val (fun u hu => nomatch hu)
    (fun K' => spec_le c i t (k0_pay123 v269 v270) (fixed t xq xd xo) arg2 harg2 arg3 harg3 arg8 harg8 arg9 harg9 arg10 harg10 arg11 harg11 xk xv qt dot E t.val 0 (Nat.zero_add _) (lowest d) d K')
  simp only [spec_apply] at hcall
  have hs : (sweep t (k0_pay123 v269 v270) (fixed t xq xd xo) xk xv qt dot t.val (BitVec.ofNat 32 0) (lowest d) d).2.2
      = swept t (k0_pay123 v269 v270) xq xk xv xd xo qt dot b.dk b.dv := by
    subst hd; rfl
  unfold carried at hcall
  rw [hs] at hcall
  subst hd
  iapply (hcall _)
  unfold bufs
  isplitl [H2 H3 H8 H9 H10 H11]
  · isplitl [H2]; · iexact H2
    isplitl [H3]; · iexact H3
    isplitl [H8]; · iexact H8
    isplitl [H9]; · iexact H9
    isplitl [H10]; · iexact H10
    iexact H11
  iintro ⟨H2, H3, H8, H9, H10, H11⟩
  iapply (wp_load 𝒱₀ (c : Thread nD τ) none E (slab_subset arg7 ![0, 0, 0] inb_S4x4096x256_S1x4096x256_0_0_0 _)) $$ H7; iintro H7
  iapply (wp_store_held 𝒱₀ (c : Thread nD τ) none E harg7 _ (k0_off19_inb t 0)) $$ H7; iintro H7
  iapply (wp_load 𝒱₀ (c : Thread nD τ) none E (slab_subset arg7 ![0, 0, 0] inb_S4x4096x256_S1x4096x256_0_0_0 _)) $$ H7; iintro H7
  iapply (wp_store_held 𝒱₀ (c : Thread nD τ) none E harg7 _ (k0_off19_inb t 1)) $$ H7; iintro H7
  iapply (wp_load 𝒱₀ (c : Thread nD τ) none E (slab_subset arg7 ![0, 0, 0] inb_S4x4096x256_S1x4096x256_0_0_0 _)) $$ H7; iintro H7
  iapply (wp_store_held 𝒱₀ (c : Thread nD τ) none E harg7 _ (k0_off20_inb t 0)) $$ H7; iintro H7
  iapply (wp_load 𝒱₀ (c : Thread nD τ) none E (slab_subset arg7 ![0, 0, 0] inb_S4x4096x256_S1x4096x256_0_0_0 _)) $$ H7; iintro H7
  iapply (wp_store_held 𝒱₀ (c : Thread nD τ) none E harg7 _ (k0_off20_inb t 1)) $$ H7; iintro H7
  rw [wp_ret]; imodintro
  unfold loopBufs
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  iexact H11

end Trip

end Cert.AttnIdeal.Run

end
-- ==== Proof.Attn.Fill.lean ====
/-
  What the kernel writes, as one function of its six arguments' blocks: the transposed scratch buffers, the state after
  each block of queries, and the result's four slabs (the gradients of the queries, keys and values, and the pooled
  gradient handed through). Each is written block by block; the lemmas here say that blocks put one after another make up
  the whole whatever the buffer held before.
-/
module

public import proofs.«01_k».proof.Proof.Attn.Trip
public import Idealize.ShloMosaic.Lib.Pointwise.Index

@[expose] public section

set_option maxRecDepth 16384

noncomputable section

namespace Cert.AttnIdeal.Model

open Idealize.ShloMosaic Idealize.ShloMosaic.TcCoe
open Cert.AttnIdeal Cert.AttnIdeal.Gen

variable {F : FTy → Type} [FloatOps F] [Named F]

theorem rows_inb (b : Fin 16) : ∀ a, (![256 * b.val, 0] : Fin 2 → ℕ) a + S256x256.size a ≤ S4096x256.size a := by
  intro a
  have := b.isLt
  match a with
  | 0 => show 256 * b.val + 256 ≤ 4096; omega
  | 1 => show 0 + 256 ≤ 256; omega

theorem slab_inb (b : Fin 16) : ∀ a, (![b.val, 0, 0] : Fin 3 → ℕ) a + S1x256x256.size a ≤ S16x256x256.size a := by
  intro a
  have := b.isLt
  match a with
  | 0 => show b.val + 1 ≤ 16; omega
  | 1 => show 0 + 256 ≤ 256; omega
  | 2 => show 0 + 256 ≤ 256; omega

/-- Blocks of 256 rows, each transposed. -/
def transposed (x : Vec F S4096x256 .bf16) : Vec F S16x256x256 .bf16 := fun y =>
  k0_pay84 (VecWindow.window x ![256 * (y 0).val, 0] S256x256.size (rows_inb (y 0))) (ix3 0 (y 1) (y 2))

/-- One more transposed block put. -/
theorem transposed_put (x : Vec F S4096x256 .bf16) (o : Vec F S16x256x256 .bf16) (b : ℕ)
    (inb : ∀ a, (![256 * b, 0] : Fin 2 → ℕ) a + S256x256.size a ≤ S4096x256.size a) (w : FVec F S1x256x256 .bf16)
    (hw : w = k0_pay84 (VecWindow.window x ![256 * b, 0] S256x256.size inb))
    (ho : ∀ y : S16x256x256.Idx, (y 0).val < b → o y = transposed x y) :
    ∀ y : S16x256x256.Idx, (y 0).val < b + 1 → VecWindow.put o ![b, 0, 0] S1x256x256.size w y = transposed x y := by
  intro y hy
  unfold VecWindow.put
  split
  · rename_i h
    have h0 := h 0
    have hb : (y 0).val = b := by
      have : b ≤ (y 0).val := h0.1
      omega
    subst hb
    rw [hw]
    unfold transposed
    refine congrArg _ (funext fun a => Fin.ext ?_)
    match a with
    | 0 => show (y 0).val - (y 0).val = 0; omega
    | 1 => show (y 1).val - 0 = (y 1).val; omega
    | 2 => show (y 2).val - 0 = (y 2).val; omega
  · rename_i h
    refine ho y ?_
    by_contra hc
    refine h fun a => ?_
    match a with
    | 0 => exact ⟨by show b ≤ (y 0).val; omega, by show (y 0).val < b + 1; omega⟩
    | 1 => exact ⟨Nat.zero_le _, by have := (y 1).isLt; show (y 1).val < 0 + 256; exact (Nat.zero_add 256).symm ▸ this⟩
    | 2 => exact ⟨Nat.zero_le _, by have := (y 2).isLt; show (y 2).val < 0 + 256; exact (Nat.zero_add 256).symm ▸ this⟩

theorem transposed_eq (x : Vec F S4096x256 .bf16) (o : Vec F S16x256x256 .bf16)
    (h : ∀ y : S16x256x256.Idx, (y 0).val < 15 + 1 → o y = transposed x y) : o = transposed x :=
  funext fun y => h y (y 0).isLt

/-- A put over everything leaves the payload. -/
theorem put_whole (o w : Vec F S16x256x256 .f32) : VecWindow.put o ![0, 0, 0] S16x256x256.size w = w := by
  funext y
  unfold VecWindow.put
  rw [dif_pos (fun a => by
    match a with
    | 0 => exact ⟨Nat.zero_le _, by have := (y 0).isLt; show (y 0).val < 0 + 16; exact (Nat.zero_add 16).symm ▸ this⟩
    | 1 => exact ⟨Nat.zero_le _, by have := (y 1).isLt; show (y 1).val < 0 + 256; exact (Nat.zero_add 256).symm ▸ this⟩
    | 2 => exact ⟨Nat.zero_le _, by have := (y 2).isLt; show (y 2).val < 0 + 256; exact (Nat.zero_add 256).symm ▸ this⟩)]
  refine congrArg w (funext fun a => Fin.ext ?_)
  match a with
  | 0 => exact Nat.sub_zero _
  | 1 => exact Nat.sub_zero _
  | 2 => exact Nat.sub_zero _

/-- A window of everything is everything. -/
theorem window_whole (x : Vec F S4096x256 .bf16) (inb : ∀ a, (![0, 0] : Fin 2 → ℕ) a + S4096x256.size a ≤ S4096x256.size a) :
    VecWindow.window x ![0, 0] S4096x256.size inb = x := by
  funext y
  refine congrArg x (funext fun a => Fin.ext ?_)
  match a with
  | 0 => show 0 + 1 * (y 0).val = (y 0).val; omega
  | 1 => show 0 + 1 * (y 1).val = (y 1).val; omega

section Whole

variable (tri : FVec F S256x256 .bf16) (xq xk xv xd : Vec F S4096x256 .bf16) (xo : Vec F S4096x256 .f32) (xp : Vec F S4096x256 .bf16)

/-- The buffers after the first `n` blocks of queries. -/
def after (b : Buf F) : ℕ → Buf F
  | 0 => b
  | n + 1 => if h : n < k0_t1_loop.trips then trip ⟨n, h⟩ tri xq xk xv xd xo (transposed xq) (transposed xd) (after b n) else after b n

theorem after_succ (b : Buf F) (t : Fin k0_t1_loop.trips) :
    after tri xq xk xv xd xo b (t.val + 1) = trip t tri xq xk xv xd xo (transposed xq) (transposed xd) (after tri xq xk xv xd xo b t.val) := by
  rw [after, dif_pos t.isLt]

/-- The transposed gradients of keys and values after the first `n` blocks of queries. -/
def sums : ℕ → Vec F S16x256x256 .f32 × Vec F S16x256x256 .f32
  | 0 => (k0_pay121, k0_pay122)
  | n + 1 =>
    if h : n < k0_t1_loop.trips then
      let s := swept ⟨n, h⟩ tri xq xk xv xd xo (transposed xq) (transposed xd) (sums n).1 (sums n).2
      (s.dk, s.dv)
    else sums n

/-- The chains' end of a block of queries. -/
def ends (t : Fin k0_t1_loop.trips) : St F :=
  swept t tri xq xk xv xd xo (transposed xq) (transposed xd) (sums tri xq xk xv xd xo t.val).1 (sums tri xq xk xv xd xo t.val).2

theorem after_dk_dv (o : Vec F S4x4096x256 .bf16) (n : ℕ) :
    (after tri xq xk xv xd xo ⟨o, k0_pay121, k0_pay122⟩ n).dk = (sums tri xq xk xv xd xo n).1
    ∧ (after tri xq xk xv xd xo ⟨o, k0_pay121, k0_pay122⟩ n).dv = (sums tri xq xk xv xd xo n).2 := by
  induction n with
  | zero => exact ⟨rfl, rfl⟩
  | succ n ih =>
    unfold after sums
    by_cases h : n < k0_t1_loop.trips
    · rw [dif_pos h, dif_pos h]
      unfold trip
      rw [ih.1, ih.2]
      exact ⟨rfl, rfl⟩
    · rw [dif_neg h, dif_neg h]
      exact ih

/-- The chain a row and a column of a block of queries belong to. -/
def chainOf (r : Fin 4096) (l : Fin 256) : Fin 4 :=
  ⟨2 * (l.val / 128) + r.val % 256 / 128, by have := l.isLt; omega⟩

/-- The block a row belongs to. -/
def blockOf (r : Fin 4096) : Fin 16 := ⟨r.val / 256, by have := r.isLt; omega⟩

theorem trips_eq : k0_t1_loop.trips = 16 := by decide

/-- The result: the gradients of the queries, keys and values and the pooled gradient. -/
def result : Vec F S4x4096x256 .bf16 := fun y =>
  if (y 0).val = 0 then
    k0_pay79 ((ends tri xq xk xv xd xo ((blockOf (y 1)).cast trips_eq.symm)).ch (chainOf (y 1) (y 2))).acc
      (ix3 0 (⟨(y 1).val % 128, Nat.mod_lt _ (by decide)⟩ : Fin 128) (⟨(y 2).val % 128, Nat.mod_lt _ (by decide)⟩ : Fin 128))
  else if (y 0).val = 1 then
    k0_pay127 (VecWindow.window (sums tri xq xk xv xd xo 16).1 ![(blockOf (y 1)).val, 0, 0] S1x256x256.size (slab_inb _))
      (ix3 0 (⟨(y 1).val % 256, Nat.mod_lt _ (by decide)⟩ : Fin 256) (y 2))
  else if (y 0).val = 2 then
    k0_pay127 (VecWindow.window (sums tri xq xk xv xd xo 16).2 ![(blockOf (y 1)).val, 0, 0] S1x256x256.size (slab_inb _))
      (ix3 0 (⟨(y 1).val % 256, Nat.mod_lt _ (by decide)⟩ : Fin 256) (y 2))
  else k0_pay83 xp (ix3 0 (y 1) (y 2))

/-- A put of 128 rows by 128 columns into the first slab: inside. -/
theorem put_in (x : Vec F S4x4096x256 .bf16) (off : Fin 3 → ℕ) (R L : ℕ) (ho : off = ![0, R, L]) (w : Vec F S1x128x128 .bf16)
    (y : S4x4096x256.Idx) (h0 : (y 0).val = 0) (h1 : R ≤ (y 1).val ∧ (y 1).val < R + 128) (h2 : L ≤ (y 2).val ∧ (y 2).val < L + 128) :
    VecWindow.put x off S1x128x128.size w y
      = w (ix3 0 (⟨(y 1).val - R, by omega⟩ : Fin 128) (⟨(y 2).val - L, by omega⟩ : Fin 128)) := by
  subst ho
  unfold VecWindow.put
  rw [dif_pos (fun a => by
    match a with
    | 0 => exact ⟨Nat.zero_le _, by show (y 0).val < 0 + 1; omega⟩
    | 1 => exact h1
    | 2 => exact h2)]
  refine congrArg w (funext fun a => Fin.ext ?_)
  match a with
  | 0 => show (y 0).val - 0 = 0; omega
  | 1 => rfl
  | 2 => rfl

/-- Outside. -/
theorem put_out (x : Vec F S4x4096x256 .bf16) (off size : Fin 3 → ℕ) (w : ((a : Fin 3) → Fin (size a)) → F .bf16)
    (y : S4x4096x256.Idx) (a : Fin 3) (h : (y a).val < off a ∨ off a + size a ≤ (y a).val) :
    VecWindow.put (s := S4x4096x256) x off size w y = x y := by
  unfold VecWindow.put
  rw [dif_neg (fun hc => by have := hc a; omega)]

theorem off19_0 (t : Fin k0_t1_loop.trips) : k0_off19 t 0#32 = ![0, 256 * t.val, 0] := by
  simpa using k0_off19_eq t 0
theorem off19_1 (t : Fin k0_t1_loop.trips) : k0_off19 t 128#32 = ![0, 256 * t.val + 128, 0] := by
  simpa using k0_off19_eq t 1
theorem off20_0 (t : Fin k0_t1_loop.trips) : k0_off20 t 0#32 = ![0, 256 * t.val, 128] := by
  simpa using k0_off20_eq t 0
theorem off20_1 (t : Fin k0_t1_loop.trips) : k0_off20 t 128#32 = ![0, 256 * t.val + 128, 128] := by
  simpa using k0_off20_eq t 1

/-- Outside its rows of the first slab a block of queries stores nothing. -/
theorem putRows_out (t : Fin k0_t1_loop.trips) (s : St F) (x : Vec F S4x4096x256 .bf16) (y : S4x4096x256.Idx)
    (h : (y 0).val ≠ 0 ∨ (y 1).val < 256 * t.val ∨ 256 * t.val + 256 ≤ (y 1).val) : putRows t s x y = x y := by
  have key : ∀ (off : Fin 3 → ℕ) (R L : ℕ) (_ : off = ![0, R, L]) (_ : 256 * t.val ≤ R) (_ : R + 128 ≤ 256 * t.val + 256)
      (w : Vec F S1x128x128 .bf16) (x : Vec F S4x4096x256 .bf16), VecWindow.put x off S1x128x128.size w y = x y := by
    intro off R L ho hR hR' w x
    subst ho
    by_cases h0 : (y 0).val = 0
    · refine put_out x _ _ w y 1 ?_
      show (y 1).val < R ∨ R + 128 ≤ (y 1).val
      omega
    · refine put_out x _ _ w y 0 ?_
      show (y 0).val < 0 ∨ 0 + 1 ≤ (y 0).val
      omega
  unfold putRows
  rw [key _ _ _ (off20_1 t) (by omega) (by omega), key _ _ _ (off20_0 t) (by omega) (by omega),
    key _ _ _ (off19_1 t) (by omega) (by omega), key _ _ _ (off19_0 t) (by omega) (by omega)]

/-- Within them, the chains' accumulated gradients. -/
theorem putRows_in (t : Fin k0_t1_loop.trips) (s : St F) (x : Vec F S4x4096x256 .bf16) (y : S4x4096x256.Idx)
    (h0 : (y 0).val = 0) (h1 : 256 * t.val ≤ (y 1).val ∧ (y 1).val < 256 * t.val + 256) :
    putRows t s x y = k0_pay79 (s.ch (chainOf (y 1) (y 2))).acc
      (ix3 0 (⟨(y 1).val % 128, Nat.mod_lt _ (by decide)⟩ : Fin 128) (⟨(y 2).val % 128, Nat.mod_lt _ (by decide)⟩ : Fin 128)) := by
  have h2 : (y 2).val < 256 := (y 2).isLt
  have fin : ∀ (i : Fin 4) (R L : ℕ) (hR : R ≤ (y 1).val ∧ (y 1).val < R + 128) (hL : L ≤ (y 2).val ∧ (y 2).val < L + 128)
      (_ : R % 128 = 0) (_ : L % 128 = 0) (_ : chainOf (y 1) (y 2) = i),
      k0_pay79 (s.ch i).acc (ix3 0 (⟨(y 1).val - R, by omega⟩ : Fin 128) (⟨(y 2).val - L, by omega⟩ : Fin 128))
        = k0_pay79 (s.ch (chainOf (y 1) (y 2))).acc
          (ix3 0 (⟨(y 1).val % 128, Nat.mod_lt _ (by decide)⟩ : Fin 128) (⟨(y 2).val % 128, Nat.mod_lt _ (by decide)⟩ : Fin 128)) := by
    intro i R L hR hL hR' hL' hi
    rw [hi]
    have e1 : (y 1).val - R = (y 1).val % 128 := by omega
    have e2 : (y 2).val - L = (y 2).val % 128 := by omega
    simp only [e1, e2]
  have out : ∀ (off : Fin 3 → ℕ) (R L : ℕ) (_ : off = ![0, R, L])
      (_ : (y 1).val < R ∨ R + 128 ≤ (y 1).val ∨ (y 2).val < L ∨ L + 128 ≤ (y 2).val)
      (w : Vec F S1x128x128 .bf16) (x : Vec F S4x4096x256 .bf16), VecWindow.put x off S1x128x128.size w y = x y := by
    intro off R L ho h w x
    subst ho
    by_cases hr : (y 1).val < R ∨ R + 128 ≤ (y 1).val
    · exact put_out x _ _ w y 1 hr
    · refine put_out x _ _ w y 2 ?_
      show (y 2).val < L ∨ L + 128 ≤ (y 2).val
      omega
  have hch : ∀ i : Fin 4, 2 * ((y 2).val / 128) + (y 1).val % 256 / 128 = i.val → chainOf (y 1) (y 2) = i :=
    fun i h => Fin.ext h
  unfold putRows
  by_cases hr : (y 1).val < 256 * t.val + 128
  · by_cases hl : (y 2).val < 128
    · rw [out _ _ _ (off20_1 t) (by omega), out _ _ _ (off20_0 t) (by omega), out _ _ _ (off19_1 t) (by omega),
        put_in x _ _ _ (off19_0 t) _ y h0 ⟨by omega, by omega⟩ ⟨by omega, by omega⟩]
      exact fin 0 _ _ ⟨by omega, by omega⟩ ⟨by omega, by omega⟩ (by omega) (by omega) (hch 0 (by show _ = 0; omega))
    · rw [out _ _ _ (off20_1 t) (by omega), put_in _ _ _ _ (off20_0 t) _ y h0 ⟨by omega, by omega⟩ ⟨by omega, by omega⟩]
      exact fin 2 _ _ ⟨by omega, by omega⟩ ⟨by omega, by omega⟩ (by omega) (by omega) (hch 2 (by show _ = 2; omega))
  · by_cases hl : (y 2).val < 128
    · rw [out _ _ _ (off20_1 t) (by omega), out _ _ _ (off20_0 t) (by omega),
        put_in _ _ _ _ (off19_1 t) _ y h0 ⟨by omega, by omega⟩ ⟨by omega, by omega⟩]
      exact fin 1 _ _ ⟨by omega, by omega⟩ ⟨by omega, by omega⟩ (by omega) (by omega) (hch 1 (by show _ = 1; omega))
    · rw [put_in _ _ _ _ (off20_1 t) _ y h0 ⟨by omega, by omega⟩ ⟨by omega, by omega⟩]
      exact fin 3 _ _ ⟨by omega, by omega⟩ ⟨by omega, by omega⟩ (by omega) (by omega) (hch 3 (by show _ = 3; omega))

/-- After `n` blocks of queries the first slab's first `256 n` rows are the result's, the other slabs as before. -/
theorem after_out (o : Vec F S4x4096x256 .bf16) (n : ℕ) (hn : n ≤ 16) (y : S4x4096x256.Idx) :
    ((y 0).val = 0 → (y 1).val < 256 * n →
      (after tri xq xk xv xd xo ⟨o, k0_pay121, k0_pay122⟩ n).out y = result tri xq xk xv xd xo xp y)
    ∧ ((y 0).val ≠ 0 → (after tri xq xk xv xd xo ⟨o, k0_pay121, k0_pay122⟩ n).out y = o y) := by
  induction n with
  | zero => exact ⟨fun _ h => absurd h (by omega), fun _ => rfl⟩
  | succ n ih =>
    have ih := ih (by omega)
    have ht : n < k0_t1_loop.trips := by rw [trips_eq]; omega
    have hs := after_dk_dv tri xq xk xv xd xo o n
    unfold after
    rw [dif_pos ht]
    unfold trip
    show (_ → _ → putRows _ _ _ y = _) ∧ (_ → putRows _ _ _ y = _)
    rw [hs.1, hs.2]
    refine ⟨fun h0 h1 => ?_, fun h0 => ?_⟩
    · by_cases hn' : (y 1).val < 256 * n
      · rw [putRows_out _ _ _ _ (.inr (.inl hn'))]
        exact ih.1 h0 hn'
      · rw [putRows_in _ _ _ _ h0 ⟨by show 256 * n ≤ _; omega, by show _ < 256 * n + 256; omega⟩]
        unfold result
        rw [if_pos h0]
        have hb : (⟨n, ht⟩ : Fin k0_t1_loop.trips) = (blockOf (y 1)).cast trips_eq.symm :=
          Fin.ext (by show n = (y 1).val / 256; omega)
        rw [← hb]
        rfl
    · rw [putRows_out _ _ _ _ (.inl h0)]
      exact ih.2 h0

/-- One more block of the gradients of keys and values put. -/
theorem result_put (o : Vec F S4x4096x256 .bf16) (b : ℕ)
    (inb : ∀ a, (![b, 0, 0] : Fin 3 → ℕ) a + S1x256x256.size a ≤ S16x256x256.size a) (wk wv : Vec F S1x256x256 .bf16)
    (hk : wk = k0_pay127 (VecWindow.window (sums tri xq xk xv xd xo 16).1 ![b, 0, 0] S1x256x256.size inb))
    (hv : wv = k0_pay127 (VecWindow.window (sums tri xq xk xv xd xo 16).2 ![b, 0, 0] S1x256x256.size inb))
    (ho : ∀ y : S4x4096x256.Idx, (y 0).val = 0 ∨ (y 0).val = 3 ∨ (y 1).val < 256 * b → o y = result tri xq xk xv xd xo xp y) :
    ∀ y : S4x4096x256.Idx, (y 0).val = 0 ∨ (y 0).val = 3 ∨ (y 1).val < 256 * (b + 1) →
      VecWindow.put (VecWindow.put o ![1, 256 * b, 0] S1x256x256.size wk) ![2, 256 * b, 0] S1x256x256.size wv y
        = result tri xq xk xv xd xo xp y := by
  have hin : ∀ (x : Vec F S4x4096x256 .bf16) (k : ℕ) (w : Vec F S1x256x256 .bf16) (y : S4x4096x256.Idx) (_ : (y 0).val = k)
      (_ : 256 * b ≤ (y 1).val ∧ (y 1).val < 256 * b + 256),
      VecWindow.put x ![k, 256 * b, 0] S1x256x256.size w y
        = w (ix3 0 (⟨(y 1).val % 256, Nat.mod_lt _ (by decide)⟩ : Fin 256) (y 2)) := by
    intro x k w y h0 h1
    unfold VecWindow.put
    rw [dif_pos (fun a => by
      match a with
      | 0 => exact ⟨by show k ≤ (y 0).val; omega, by show (y 0).val < k + 1; omega⟩
      | 1 => exact h1
      | 2 => exact ⟨Nat.zero_le _, by have := (y 2).isLt; show (y 2).val < 0 + 256; exact (Nat.zero_add 256).symm ▸ this⟩)]
    refine congrArg w (funext fun a => Fin.ext ?_)
    match a with
    | 0 => show (y 0).val - k = 0; omega
    | 1 => show (y 1).val - 256 * b = (y 1).val % 256; omega
    | 2 => exact Nat.sub_zero _
  have hout : ∀ (x : Vec F S4x4096x256 .bf16) (k : ℕ) (w : Vec F S1x256x256 .bf16) (y : S4x4096x256.Idx)
      (_ : (y 0).val ≠ k ∨ (y 1).val < 256 * b ∨ 256 * b + 256 ≤ (y 1).val),
      VecWindow.put x ![k, 256 * b, 0] S1x256x256.size w y = x y := by
    intro x k w y h
    by_cases h0 : (y 0).val = k
    · refine put_out x _ _ w y 1 ?_
      show (y 1).val < 256 * b ∨ 256 * b + 256 ≤ (y 1).val
      omega
    · refine put_out x _ _ w y 0 ?_
      show (y 0).val < k ∨ k + 1 ≤ (y 0).val
      omega
  have hblk : ∀ y : S4x4096x256.Idx, 256 * b ≤ (y 1).val ∧ (y 1).val < 256 * b + 256 → (blockOf (y 1)).val = b :=
    fun y h => by show (y 1).val / 256 = b; omega
  have hwin : ∀ (x : Vec F S16x256x256 .f32) (b' : ℕ) (_ : b' = b)
      (inb' : ∀ a, (![b', 0, 0] : Fin 3 → ℕ) a + S1x256x256.size a ≤ S16x256x256.size a),
      VecWindow.window x ![b, 0, 0] S1x256x256.size inb = VecWindow.window x ![b', 0, 0] S1x256x256.size inb' := by
    intro x b' h inb'
    subst h
    rfl
  intro y hy
  have hy0 : (y 0).val < 4 := (y 0).isLt
  by_cases hold : (y 0).val = 0 ∨ (y 0).val = 3 ∨ (y 1).val < 256 * b
  · rw [hout _ 2 wv y (by omega), hout _ 1 wk y (by omega)]
    exact ho y hold
  · have h1 : 256 * b ≤ (y 1).val ∧ (y 1).val < 256 * b + 256 := by omega
    have hb := hblk y h1
    unfold result
    by_cases h01 : (y 0).val = 1
    · rw [hout _ 2 wv y (by omega), hin _ 1 wk y h01 h1, if_neg (by omega), if_pos h01, hk]
      exact congrFun (congrArg k0_pay127 (hwin _ _ hb _)) _
    · rw [hin _ 2 wv y (by omega) h1, if_neg (by omega), if_neg h01, if_pos (by omega), hv]
      exact congrFun (congrArg k0_pay127 (hwin _ _ hb _)) _

/-- The pooled gradient put into the last slab. -/
theorem result_pooled (o : Vec F S4x4096x256 .bf16) (y : S4x4096x256.Idx) (h : (y 0).val = 3) :
    VecWindow.put o ![3, 0, 0] S1x4096x256.size (k0_pay83 xp) y = result tri xq xk xv xd xo xp y := by
  unfold VecWindow.put result
  rw [dif_pos (fun a => by
    match a with
    | 0 => exact ⟨by show 3 ≤ (y 0).val; omega, by show (y 0).val < 3 + 1; omega⟩
    | 1 => exact ⟨Nat.zero_le _, by have := (y 1).isLt; show (y 1).val < 0 + 4096; exact (Nat.zero_add 4096).symm ▸ this⟩
    | 2 => exact ⟨Nat.zero_le _, by have := (y 2).isLt; show (y 2).val < 0 + 256; exact (Nat.zero_add 256).symm ▸ this⟩),
    if_neg (by omega), if_neg (by omega), if_neg (by omega)]
  refine congrArg _ (funext fun a => Fin.ext ?_)
  match a with
  | 0 => show (y 0).val - 3 = 0; omega
  | 1 => exact Nat.sub_zero _
  | 2 => exact Nat.sub_zero _

/-- After the loop, before the gradients of keys and values are put. -/
theorem result_start (o : Vec F S4x4096x256 .bf16) :
    ∀ y : S4x4096x256.Idx, (y 0).val = 0 ∨ (y 0).val = 3 ∨ (y 1).val < 256 * 0 →
      (after tri xq xk xv xd xo ⟨VecWindow.put o ![3, 0, 0] S1x4096x256.size (k0_pay83 xp), k0_pay121, k0_pay122⟩ 16).out y
        = result tri xq xk xv xd xo xp y := by
  intro y hy
  have h := after_out tri xq xk xv xd xo xp (VecWindow.put o ![3, 0, 0] S1x4096x256.size (k0_pay83 xp)) 16 le_rfl y
  rcases hy with h0 | h3 | hn
  · exact h.1 h0 (y 1).isLt
  · rw [h.2 (by omega)]
    exact result_pooled tri xq xk xv xd xo xp o y h3
  · omega

theorem result_eq (o : Vec F S4x4096x256 .bf16)
    (h : ∀ y : S4x4096x256.Idx, (y 0).val = 0 ∨ (y 0).val = 3 ∨ (y 1).val < 256 * (15 + 1) → o y = result tri xq xk xv xd xo xp y) :
    o = result tri xq xk xv xd xo xp :=
  funext fun y => h y (.inr (.inr (y 1).isLt))

end Whole

end Cert.AttnIdeal.Model

end
-- ==== Proof.Attn.Body.lean ====
/-
  The kernel's body at one point of the grid, run: the transposed copies, the loop over the blocks of queries, and the
  gradients of keys and values transposed back.
-/
module

public import proofs.«01_k».proof.Proof.Attn.Fill

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen Cert.AttnIdeal.Model Cert.Held

variable {F : FTy → Type} [FloatOps F] [Named F]

local notation "𝕄" => MT nD τ sig Unit (Elt F) ℕ (UR sig nD τ) ℕ

/-- The row of ones on and below the diagonal. -/
def tri : FVec F S256x256 .bf16 := k0_pay123 (iota .tc S256x256 32 [0] iota_S256x256_d0_w32) (iota .tc S256x256 32 [1] iota_S256x256_d1_w32)

variable (c : Dev nD) (i : grid0.Coords)
variable (arg1 : Memref sig .tc .vmem S4096x256 .bf16) (harg1 : arg1.IsWhole)
variable (arg2 : Memref sig .tc .vmem S4096x256 .bf16) (harg2 : arg2.IsWhole)
variable (arg3 : Memref sig .tc .vmem S4096x256 .bf16) (harg3 : arg3.IsWhole)
variable (arg4 : Memref sig .tc .vmem S4096x256 .bf16) (harg4 : arg4.IsWhole)
variable (arg5 : Memref sig .tc .vmem S4096x256 .f32) (harg5 : arg5.IsWhole)
variable (arg6 : Memref sig .tc .vmem S4096x256 .bf16) (harg6 : arg6.IsWhole)
variable (arg7 : Memref sig .tc .vmem S4x4096x256 .bf16) (harg7 : arg7.IsWhole)
variable (arg8 : Memref sig .tc .vmem S16x256x256 .bf16) (harg8 : arg8.IsWhole)
variable (arg9 : Memref sig .tc .vmem S16x256x256 .bf16) (harg9 : arg9.IsWhole)
variable (arg10 : Memref sig .tc .vmem S16x256x256 .f32) (harg10 : arg10.IsWhole)
variable (arg11 : Memref sig .tc .vmem S16x256x256 .f32) (harg11 : arg11.IsWhole)
variable (xq xk xv xd : Vec F S4096x256 .bf16) (xo : Vec F S4096x256 .f32) (xp : Vec F S4096x256 .bf16)
variable (o : Vec F S4x4096x256 .bf16) (qt dot : Vec F S16x256x256 .bf16) (dk dv : Vec F S16x256x256 .f32)

theorem held_of_eq {s : Shape} {e : EltTy} {m : Memref sig .tc .vmem s e} (h : m.IsWhole) {X Y : s.Idx → Elt F e} (hXY : X = Y) :
    (held (c : Thread nD τ) h X : sProp 𝕄) ⊢ held (c : Thread nD τ) h Y := by rw [hXY]

/-- The loop over the blocks of queries at the head of a program. -/
theorem loop_le (E : Set ℕ) (b : Buf F) (kk : Unit → Prog (TpuEff nD τ sig (Elt F) (Λ₀ F) .tc) PUnit) (Q : PUnit → sProp 𝕄) :
    loopBufs c arg1 harg1 arg2 harg2 arg3 harg3 arg4 harg4 arg5 harg5 arg7 harg7 arg8 harg8 arg9 harg9 arg10 harg10 arg11 harg11 xq xk xv xd xo (transposed xq) (transposed xd) b
      ⊢ iprop((loopBufs c arg1 harg1 arg2 harg2 arg3 harg3 arg4 harg4 arg5 harg5 arg7 harg7 arg8 harg8 arg9 harg9 arg10 harg10 arg11 harg11 xq xk xv xd xo (transposed xq) (transposed xd) (after tri xq xk xv xd xo b 16)
          -∗ wp frame (wpE (defs₀ (F := F)) 𝒱₀ (c : Thread nD τ) none) E (kk ()) Q)
        -∗ wp frame (wpE (defs₀ (F := F)) 𝒱₀ (c : Thread nD τ) none) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32)) >>= kk) Q) := by
  have hloop := Scf.wp_for_bind (M := MT nD τ sig Unit (Elt F) ℕ (UR sig nD τ) ℕ) frame (wpE (defs₀ (F := F)) 𝒱₀ (c : Thread nD τ) none) E
    k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32))
    (fun n _ => loopBufs c arg1 harg1 arg2 harg2 arg3 harg3 arg4 harg4 arg5 harg5 arg7 harg7 arg8 harg8 arg9 harg9 arg10 harg10 arg11 harg11 xq xk xv xd xo (transposed xq) (transposed xd) (after tri xq xk xv xd xo b n))
    (fun k u => by
      have h := trip_le c i k (iota .tc S256x256 32 [0] iota_S256x256_d0_w32) (iota .tc S256x256 32 [1] iota_S256x256_d1_w32) arg1 harg1 arg2 harg2 arg3 harg3 arg4 harg4 arg5 harg5 arg6 harg6 arg7 harg7 arg8 harg8 arg9 harg9 arg10 harg10 arg11 harg11 xq xk xv xd xo
        (transposed xq) (transposed xd) E (after tri xq xk xv xd xo b k.val) u
      simp only [after_succ]
      exact h)
    (kk := kk) (Q := Q)
  simp only [show after tri xq xk xv xd xo b 0 = b from rfl,
    show Scf.trips k0_t1_loop.lb k0_t1_loop.ub k0_t1_loop.st = 16 from by decide] at hloop
  iintro HI HK
  iapply hloop $$ HI
  iintro %u HI
  iapply HK $$ HI

theorem body_le (E : Set ℕ) (K : PUnit → sProp 𝕄) :
    iprop((held (c : Thread nD τ) harg1 xq ∗ held (c : Thread nD τ) harg2 xk ∗ held (c : Thread nD τ) harg3 xv
      ∗ held (c : Thread nD τ) harg4 xd ∗ held (c : Thread nD τ) harg5 xo ∗ held (c : Thread nD τ) harg6 xp
      ∗ held (c : Thread nD τ) harg7 o ∗ held (c : Thread nD τ) harg8 qt ∗ held (c : Thread nD τ) harg9 dot
      ∗ held (c : Thread nD τ) harg10 dk ∗ held (c : Thread nD τ) harg11 dv)
      ∗ (held (c : Thread nD τ) harg1 xq ∗ held (c : Thread nD τ) harg2 xk ∗ held (c : Thread nD τ) harg3 xv
      ∗ held (c : Thread nD τ) harg4 xd ∗ held (c : Thread nD τ) harg5 xo ∗ held (c : Thread nD τ) harg6 xp
      ∗ held (c : Thread nD τ) harg7 (result tri xq xk xv xd xo xp)
      ∗ held (c : Thread nD τ) harg8 (transposed xq) ∗ held (c : Thread nD τ) harg9 (transposed xd)
      ∗ held (c : Thread nD τ) harg10 (sums tri xq xk xv xd xo 16).1 ∗ held (c : Thread nD τ) harg11 (sums tri xq xk xv xd xo 16).2
      -∗ K ⟨⟩))
      ⊢ wp frame (wpE (defs₀ (F := F)) 𝒱₀ (c : Thread nD τ) none) E (cc0_attn_bwd (F := F) i arg1 harg1 arg2 harg2 arg3 harg3 arg4 harg4 arg5 harg5 arg6 harg6 arg7 harg7 arg8 harg8 arg9 harg9 arg10 harg10 arg11 harg11) K := by
  simp only [cc0_attn_bwd_eq_skeleton]
  unfold cc0_attn_bwd_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [Prog.lift, Prog.bind_op, Prog.bind_ret, Prog.pure_eq_ret, bind_assoc]
  iintro ⟨⟨H1, H2, H3, H4, H5, H6, H7, H8, H9, H10, H11⟩, Hk⟩
  iapply (wp_load_held 𝒱₀ (c : Thread nD τ) none E harg6 _ _) $$ H6; iintro H6
  iapply (wp_load_held 𝒱₀ (c : Thread nD τ) none E harg7 _ _) $$ H7; iintro H7
  iapply (wp_store_held 𝒱₀ (c : Thread nD τ) none E harg7 _ _) $$ H7; iintro H7
  iterate 16
    iapply (wp_load_held 𝒱₀ (c : Thread nD τ) none E harg1 _ _) $$ H1; iintro H1
    iapply (wp_load_held 𝒱₀ (c : Thread nD τ) none E harg8 _ _) $$ H8; iintro H8
    iapply (wp_store_held 𝒱₀ (c : Thread nD τ) none E harg8 _ _) $$ H8; iintro H8
    iapply (wp_load_held 𝒱₀ (c : Thread nD τ) none E harg4 _ _) $$ H4; iintro H4
    iapply (wp_load_held 𝒱₀ (c : Thread nD τ) none E harg9 _ _) $$ H9; iintro H9
    iapply (wp_store_held 𝒱₀ (c : Thread nD τ) none E harg9 _ _) $$ H9; iintro H9
  iapply (wp_load_held 𝒱₀ (c : Thread nD τ) none E harg10 _ _) $$ H10; iintro H10
  iapply (wp_store_held 𝒱₀ (c : Thread nD τ) none E harg10 _ _) $$ H10; iintro H10
  iapply (wp_load_held 𝒱₀ (c : Thread nD τ) none E harg11 _ _) $$ H11; iintro H11
  iapply (wp_store_held 𝒱₀ (c : Thread nD τ) none E harg11 _ _) $$ H11; iintro H11
  iapply (loop_le c i arg1 harg1 arg2 harg2 arg3 harg3 arg4 harg4 arg5 harg5 arg6 harg6 arg7 harg7 arg8 harg8 arg9 harg9 arg10 harg10 arg11 harg11 xq xk xv xd xo E ⟨VecWindow.put o ![3, 0, 0] S1x4096x256.size (k0_pay83 xp), k0_pay121, k0_pay122⟩ _ K) $$ [H1 H2 H3 H4 H5 H7 H8 H9 H10 H11]
  · unfold loopBufs
    isplitl [H1]; · iexact H1
    isplitl [H2]; · iexact H2
    isplitl [H3]; · iexact H3
    isplitl [H4]; · iexact H4
    isplitl [H5]; · iexact H5
    isplitl [H7]; · rw [window_whole]; iexact H7
    isplitl [H8]
    · refine held_of_eq c harg8 (transposed_eq xq _ ?_)
      iterate 16
        refine transposed_put xq _ _ _ _ rfl ?_
      exact fun y h => absurd h (Nat.not_lt_zero _)
    isplitl [H9]
    · refine held_of_eq c harg9 (transposed_eq xd _ ?_)
      iterate 16
        refine transposed_put xd _ _ _ _ rfl ?_
      exact fun y h => absurd h (Nat.not_lt_zero _)
    isplitl [H10]; · rw [put_whole]; iexact H10
    rw [put_whole]; iexact H11
  unfold loopBufs
  rw [(after_dk_dv tri xq xk xv xd xo _ 16).1, (after_dk_dv tri xq xk xv xd xo _ 16).2]
  iintro ⟨H1, H2, H3, H4, H5, H7, H8, H9, H10, H11⟩
  iterate 16
    iapply (wp_load_held 𝒱₀ (c : Thread nD τ) none E harg10 _ _) $$ H10; iintro H10
    iapply (wp_load 𝒱₀ (c : Thread nD τ) none E (slab_subset arg7 ![1, 0, 0] inb_S4x4096x256_S1x4096x256_1_0_0 _)) $$ H7; iintro H7
    iapply (wp_store_held 𝒱₀ (c : Thread nD τ) none E harg7 _ _) $$ H7; iintro H7
    iapply (wp_load_held 𝒱₀ (c : Thread nD τ) none E harg11 _ _) $$ H11; iintro H11
    iapply (wp_load 𝒱₀ (c : Thread nD τ) none E (slab_subset arg7 ![2, 0, 0] inb_S4x4096x256_S1x4096x256_2_0_0 _)) $$ H7; iintro H7
    iapply (wp_store_held 𝒱₀ (c : Thread nD τ) none E harg7 _ _) $$ H7; iintro H7
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]
  · refine held_of_eq c harg7 (result_eq tri xq xk xv xd xo xp _ ?_)
    iterate 16
      refine result_put tri xq xk xv xd xo xp _ _ _ _ _ rfl rfl ?_
    exact result_start tri xq xk xv xd xo xp o
  isplitl [H8]; · iexact H8
  isplitl [H9]; · iexact H9
  isplitl [H10]; · iexact H10
  iexact H11

end Cert.AttnIdeal.Run

end
-- ==== Proof.Attn.Launch.lean ====
/-
  The attention's gradient, run: the host lines, then the kernel at each of its four points. At the end every argument is
  as it was, every counter is zero, and the result array holds at each point's block what `Model.result` says.
-/
module

public import proofs.«01_k».proof.Proof.Attn.Body
public import Idealize.ShloMosaic.Lib.Claim

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.AttnIdeal Cert.AttnIdeal.Gen Cert.AttnIdeal.Model Cert.Held

variable {F : FTy → Type} [FloatOps F] [Named F]

local notation "𝕄" => MT nD τ sig Unit (Elt F) ℕ (UR sig nD τ) ℕ

variable (m : (ℓ : Loc nD τ sig) → Buf (Elt F) ℓ) (g : Dev nD → PrngReg) (c : Dev nD)

/-! ## The host lines -/

/-- The host's operations, stretch by stretch. -/
def stretches : List (List (HloOp τ sig (Elt F))) :=
  [hostOps0, hostOps0_1, hostOps0_2, hostOps0_3, hostOps0_4, hostOps0_5, hostOps0_6, hostOps0_7, hostOps0_8, hostOps0_9]

/-- What the kernel finds in each buffer. -/
def V (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

set_option maxHeartbeats 1600000 in
theorem stretches_fresh : (stretches (F := F)).Forall fun ops => ops.Forall fun op => op.fresh = ∅ := by
  simp only [stretches, List.Forall]
  repeat' constructor

set_option maxHeartbeats 1600000 in
theorem host_lines : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- The buffers the host lines write, in order. -/
def written : List (Ref sig .tc) :=
  [main_v0, main_v1, main_v2, main_v3, main_v4, main_v5, main_v6, main_cst, main_v7, main_v8, main_v9, main_v10,
   main_v11, main_v12, main_v13, main_v14, main_v15, main_v16, main_call0_v0, main_call0_call0_cst, main_call0_call0_v0,
   main_call0_call0_v1, main_call0_call0_v2, main_call0_call0_v3, main_call0_call0_v4, main_call0_call0_v5,
   main_call0_call0_v6, main_call0_call0_v7, main_call0_call0_v8, main_call0_call0_v9, main_call0_call0_v10,
   main_call0_call0_v11, main_call0_v1, main_v17, main_cst_0, main_call1_v0, main_call1_v1, main_call1_v2, main_v18,
   main_call2_cst, main_call2_v0, main_v19, main_v20, main_call3_v0, main_call3_call0_cst, main_call3_call0_v0,
   main_call3_call0_v1, main_call3_call0_v2, main_call3_call0_v3, main_call3_call0_v4, main_call3_call0_v5,
   main_call3_call0_v6, main_call3_call0_v7, main_call3_call0_v8, main_call3_call0_v9, main_call3_call0_v10,
   main_call3_call0_v11, main_call3_v1, main_v21, main_v22, main_v23, main_cst_1, main_call4_v0, main_call4_v1,
   main_call4_v2, main_v24, main_v25, main_v26, main_v27, main_v28, main_v29, main_v30]

/-- The host lines change no buffer they do not write. -/
theorem V_of_not_written {b : Ref sig .tc} (h : b ∉ written) : V m c b = m ((c : Thread nD τ).loc b) :=
  StableHlo.after_of_writes_sub (r := b) _ _ (StableHlo.forall_writes_sub_of_map (W := written) rfl) h

/-! ## What the windows hold -/

/-- A window's block of its array at a point. -/
def blockAt (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block after a point's body. -/
def outAt (t : Fin (cfg0 (F := F)).N) : Vec F S4x4096x256 .bf16 :=
  result tri (blockAt m c 0 t) (blockAt m c 1 t) (blockAt m c 2 t) (blockAt m c 3 t) (blockAt m c 4 t) (blockAt m c 5 t)

def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => outAt m c t
  Φ _ := Pipeline.ΦA spec0 c
  q w := Pipeline.shareOf spec0 w
  owed _ := 0

theorem dats_A (w : Fin (cfg0 (F := F)).W) : (dats m 0 c).A w = V m c (Pipeline.arrRef spec0 w) := by dsimp only [dats]

/-- Each window the body only reads holds its block when the body starts. -/
theorem found (t : Fin (cfg0 (F := F)).N) :
    (∀ d, (dats m 0 c).before 0 t d = blockAt m c 0 t) ∧ (∀ d, (dats m 0 c).before 1 t d = blockAt m c 1 t)
    ∧ (∀ d, (dats m 0 c).before 2 t d = blockAt m c 2 t) ∧ (∀ d, (dats m 0 c).before 3 t d = blockAt m c 3 t)
    ∧ (∀ d, (dats m 0 c).before 4 t d = blockAt m c 4 t) ∧ (∀ d, (dats m 0 c).before 5 t d = blockAt m c 5 t) := by
  refine ⟨fun d => ?_, fun d => ?_, fun d => ?_, fun d => ?_, fun d => ?_, fun d => ?_⟩
  all_goals
    refine ((dats m 0 c).before_in_eq_fetched _ rfl (fun _ => rfl) (fun _ _ _ => rfl) (fun t => ?_) t d).trans ?_
    · dsimp only [dats]; unfold Dat.blockOf blockAt; dsimp only [dats]; rfl
    · unfold Dat.fetched Dat.blockOf blockAt; dsimp only [dats]; rfl

/-! ## The body at a point -/

theorem scratch_eq : (Pipeline.ΦA spec0 c : sProp 𝕄)
    = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)) ∗ (∃ r, prngReg c r)) := by
  unfold Pipeline.ΦA; rw [scopedRest0_eq]; simp only [owns_whole]; try rfl

theorem body_row (t : Fin (cfg0 (F := F)).N) :
    defs₀ (F := F) .tc cfg0.body (cfg0.bodyArgs t (cfg0.slots t)) = bodyAt0 t := by
  unfold defs₀; rw [Defs.onTc_tc]

/-- The windows' buffers as the body finds them, and as it leaves them. -/
def before (t : Fin (cfg0 (F := F)).N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves in each window's buffer, as the launch states it. -/
theorem left (t : Fin (cfg0 (F := F)).N) :
    (dats m 0 c).leavesExact 0 t = owns (c : Thread nD τ) (st0_0 t) fullShare (blockAt m c 0 t) ∧
    (dats m 0 c).leavesExact 1 t = owns (c : Thread nD τ) (st0_1 t) fullShare (blockAt m c 1 t) ∧
    (dats m 0 c).leavesExact 2 t = owns (c : Thread nD τ) (st0_2 t) fullShare (blockAt m c 2 t) ∧
    (dats m 0 c).leavesExact 3 t = owns (c : Thread nD τ) (st0_3 t) fullShare (blockAt m c 3 t) ∧
    (dats m 0 c).leavesExact 4 t = owns (c : Thread nD τ) (st0_4 t) fullShare (blockAt m c 4 t) ∧
    (dats m 0 c).leavesExact 5 t = owns (c : Thread nD τ) (st0_5 t) fullShare (blockAt m c 5 t) ∧
    (dats m 0 c).leavesExact 6 t = owns (c : Thread nD τ) (st0_6 t) fullShare (outAt m c t) := by
  refine ⟨?_, ?_, ?_, ?_, ?_, ?_, ?_⟩
  all_goals
    unfold Dat.leavesExact
    dsimp only [dats]
    rfl

def leaves (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A whole buffer owned at what it reads is held there, both ways. -/
theorem held_of_owns {sp : Space} {s : Shape} {e : EltTy} {a : Memref sig .tc sp s e} (h : a.IsWhole) (x : s.Idx → Elt F e) :
    (owns (c : Thread nD τ) a fullShare x : sProp 𝕄) ⊢ a.view.loc (c : Thread nD τ) ↦[a.view.set]{fullShare} (h.unread x) := by
  unfold owns
  iintro ⟨%f, %hf, H⟩
  obtain rfl := h.eq_unread hf
  iexact H

theorem owns_of_held {sp : Space} {s : Shape} {e : EltTy} {a : Memref sig .tc sp s e} (h : a.IsWhole) (x : s.Idx → Elt F e) :
    (a.view.loc (c : Thread nD τ) ↦[a.view.set]{fullShare} (h.unread x) : sProp 𝕄) ⊢ owns (c : Thread nD τ) a fullShare x := by
  unfold owns
  iintro H
  iexists _
  isplitr
  · ipureintro; exact h.read_unread _
  · iexact H

theorem body_at (t : Fin (cfg0 (F := F)).N) :
    before m c t ⊢ wp frame (wpE (defs₀ (F := F)) 𝒱₀ (c : Thread nD τ) none) Set.univ (bodyAt0 t) (fun _ => leaves m c t) := by
  obtain ⟨h0, h1, h2, h3, h4, h5⟩ := found m c t
  obtain ⟨l0, l1, l2, l3, l4, l5, l6⟩ := left m c t
  unfold before leaves bodyAt0
  rw [l0, l1, l2, l3, l4, l5, l6, show (dats m 0 c).owesAt () t.succ = (dats m 0 c).owesAt () t.castSucc from rfl,
    show (dats m 0 c).Φ t.succ = Pipeline.ΦA spec0 c from rfl]
  simp only [h0, h1, h2, h3, h4, h5]
  rw [scratch_eq]
  iintro ⟨⟨⟨⟨%d8, S0⟩, ⟨%d9, S1⟩, ⟨%d10, S2⟩, ⟨%d11, S3⟩⟩, R⟩, O, ⟨%d0, H0⟩, ⟨%d1, H1⟩, ⟨%d2, H2⟩, ⟨%d3, H3⟩, ⟨%d4, H4⟩, ⟨%d5, H5⟩, ⟨%d6, H6⟩⟩
  ihave H0 := (held_of_owns c (a := st0_0 t) (hstage0_0 ((cfg0.slots t 0).cast nbuf0_0)) (blockAt m c 0 t)) $$ H0
  ihave H1 := (held_of_owns c (a := st0_1 t) (hstage0_1 ((cfg0.slots t 1).cast nbuf0_1)) (blockAt m c 1 t)) $$ H1
  ihave H2 := (held_of_owns c (a := st0_2 t) (hstage0_2 ((cfg0.slots t 2).cast nbuf0_2)) (blockAt m c 2 t)) $$ H2
  ihave H3 := (held_of_owns c (a := st0_3 t) (hstage0_3 ((cfg0.slots t 3).cast nbuf0_3)) (blockAt m c 3 t)) $$ H3
  ihave H4 := (held_of_owns c (a := st0_4 t) (hstage0_4 ((cfg0.slots t 4).cast nbuf0_4)) (blockAt m c 4 t)) $$ H4
  ihave H5 := (held_of_owns c (a := st0_5 t) (hstage0_5 ((cfg0.slots t 5).cast nbuf0_5)) (blockAt m c 5 t)) $$ H5
  ihave H6 := (held_of_owns c (a := st0_6 t) (hstage0_6 ((cfg0.slots t 6).cast nbuf0_6)) ((dats m 0 c).before 6 t d6)) $$ H6
  ihave S0 := (held_of_owns c (Memref.isWhole_whole cc0_scratch0) _) $$ S0
  ihave S1 := (held_of_owns c (Memref.isWhole_whole cc0_scratch1) _) $$ S1
  ihave S2 := (held_of_owns c (Memref.isWhole_whole cc0_scratch2) _) $$ S2
  ihave S3 := (held_of_owns c (Memref.isWhole_whole cc0_scratch3) _) $$ S3
  iapply (body_le c (grid0.coords t) _ _ _ _ _ _ _ _ _ _ _ _ _ _ _ _ _ _ _ _ _ _ (blockAt m c 0 t) (blockAt m c 1 t) (blockAt m c 2 t)
    (blockAt m c 3 t) (blockAt m c 4 t) (blockAt m c 5 t) _ _ _ _ _)
  isplitl [H0 H1 H2 H3 H4 H5 H6 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    iexact S3
  iintro ⟨H0, H1, H2, H3, H4, H5, H6, S0, S1, S2, S3⟩
  isplitl [S0 S1 S2 S3 R]
  · isplitr [R]
    · isplitl [S0]; · iexists _; iapply (owns_of_held c (Memref.isWhole_whole cc0_scratch0) _); iexact S0
      isplitl [S1]; · iexists _; iapply (owns_of_held c (Memref.isWhole_whole cc0_scratch1) _); iexact S1
      isplitl [S2]; · iexists _; iapply (owns_of_held c (Memref.isWhole_whole cc0_scratch2) _); iexact S2
      iexists _; iapply (owns_of_held c (Memref.isWhole_whole cc0_scratch3) _); iexact S3
    · iexact R
  isplitl [O]; · iexact O
  isplitl [H0]; · iapply (owns_of_held c _ _); iexact H0
  isplitl [H1]; · iapply (owns_of_held c _ _); iexact H1
  isplitl [H2]; · iapply (owns_of_held c _ _); iexact H2
  isplitl [H3]; · iapply (owns_of_held c _ _); iexact H3
  isplitl [H4]; · iapply (owns_of_held c _ _); iexact H4
  isplitl [H5]; · iapply (owns_of_held c _ _); iexact H5
  iapply (owns_of_held c _ _); iexact H6

theorem body_ok : BodyObligation (dats (F := F) m 0 c) (defs₀ (F := F)) 𝒱₀ () Set.univ := fun t => by
  rw [bigSep_W0, bigSep_W0, body_row]
  exact triple_restated (body_at m c t) rfl .rfl fun _ => .rfl

/-! ## The run -/

theorem dats_q (w : Fin (cfg0 (F := F)).W) : (dats m 0 c).q w = Pipeline.shareOf spec0 w := by dsimp only [dats]

set_option backward.isDefEq.respectTransparency.types false in
/-- Every run ends with the result array and the arguments as the windows say, and every counter at zero. -/
theorem run : θ_run defs (onTc (τ := τ) (main (F := F))) (s₀ m g)
    (fun r => Pipeline.FramePost cfgs (dats m) 0 (V m) r ∧ r.2.sem = fun _ => 0) :=
  Pipeline.θ_run_frame_shared (Q' := _) cfgs (dats m) (0 : Fin 1) launch₀0 defs₀ 𝒱₀ m g main
    (hbody := fun c => (body_ok m c).loose) (hq := fun c w _ => dats_q m c w) (howed := fun _ _ => rfl) (V := V m)
    (hmain := host_lines m) (hA := dats_A m) (hΦ := fun _ _ => rfl)

/-- An argument ends as it was. -/
theorem arg_kept {r : PUnit × MemSt nD τ sig (Elt F)} (h : Pipeline.FramePost cfgs (dats m) 0 (V m) r) {b : Ref sig .tc}
    (hb : b ∈ Pipeline.restRefs sig spec0) (hw : b ∉ written) :
    r.2.mem ((c.tc : Thread nD τ).loc b) = m ((c.tc : Thread nD τ).loc b) :=
  ((h c).2 b hb).trans (V_of_not_written m c hw)

theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨arg_kept m c h.1 (Pipeline.mem_restRefs_of (win := spec0) main_arg0 (by decide) (by decide)) (by decide),
     arg_kept m c h.1 (Pipeline.mem_restRefs_of (win := spec0) main_arg1 (by decide) (by decide)) (by decide),
     arg_kept m c h.1 (Pipeline.mem_restRefs_of (win := spec0) main_arg2 (by decide) (by decide)) (by decide)⟩, h.2⟩) (run m g)

end Cert.AttnIdeal.Run
end
-- ==== Proof.Attn.Host.lean ====
/- The arrays the kernel is given: the arguments, rounded, and the forward output, the reference's own. -/
module

public import proofs.«01_k».proof.Proof.Attn.Launch
public import proofs.«01_k».proof.Proof.Gen.RefAttnIdeal
public import proofs.«01_k».proof.Proof.Gen.RefAttnIdeal.Read

@[expose] public section

set_option maxRecDepth 16384

noncomputable section

namespace Cert.AttnIdeal.Run

open Idealize.ShloMosaic Idealize.ShloMosaic.TcCoe Idealize.SL.Sem Cert.AttnIdeal Cert.AttnIdeal.Gen

variable {F : FTy → Type} [FloatOps F] [Named F]
variable (m : (ℓ : Loc nD τ sig) → Buf (Elt F) ℓ) (c : Dev nD)

abbrev argQkv : FVec F S4096x3072 .f32 := m (c, main_arg0)
abbrev argDo : FVec F S4096x1024 .f32 := m (c, main_arg1)
abbrev argPool : FVec F S4096x1024 .f32 := m (c, main_arg2)

theorem host_qkv : V m c main_v28 = (truncf .bf16 (argQkv m c) bitsLt_bf16_f32 : FVec F S4096x3072 .bf16) := rfl
theorem host_do : V m c main_v29 = (truncf .bf16 (argDo m c) bitsLt_bf16_f32 : FVec F S4096x1024 .bf16) := rfl
theorem host_pool : V m c main_v30 = (truncf .bf16 (argPool m c) bitsLt_bf16_f32 : FVec F S4096x1024 .bf16) := rfl

set_option maxHeartbeats 4000000 in
theorem host_o : V m c main_v27 = Cert.RefAttnIdeal.Read.val_main_v27 (F := F) (argQkv m c) := (rfl)

end Cert.AttnIdeal.Run

end
-- ==== Proof.Attn.Row.lean ====
/-
  One row of the attention over the reals: a query at position `i`, its scores `z` and the gradients `g` of its weights,
  both by key. The kernel sweeps blocks of 256 keys from the last to the first; the lemmas here take a block's share off a
  sum over all keys.
-/
module

public import Mathlib.Analysis.SpecialFunctions.Log.Basic
public import Mathlib.Algebra.BigOperators.Intervals

@[expose] public section

noncomputable section

namespace Cert.AttnIdeal.Row

open Finset

/-- The softplus. -/
def soft (x : ℝ) : ℝ := Real.log (1 + Real.exp x)

/-- `1 / √128`, rounded as the step rounds it. -/
def unit : ℝ := 11863283 / 134217728

variable (i : ℕ) (z g : ℕ → ℝ)

/-- The softplus of the scores of the earlier keys. -/
def softs (k : ℕ) : ℝ := if k < i then soft (z k) else 0

/-- The attention weights. -/
def weight (k : ℕ) : ℝ := if k < i then Real.exp (z k - ∑ x ∈ Ico k 4096, softs i z x) else 0

/-- The weights times their gradients. -/
def pull (k : ℕ) : ℝ := weight i z k * g k

/-- The gradients of the unscaled scores. -/
def grad (k : ℕ) : ℝ :=
  if k < i then (pull i z g k - Real.exp (z k - soft (z k)) * ∑ x ∈ range (k + 1), pull i z g x) * unit else 0

theorem pull_of_le {k : ℕ} (h : i ≤ k) : pull i z g k = 0 := by
  unfold pull weight
  rw [if_neg (by omega), zero_mul]

theorem soft_pos_form (x : ℝ) : max x 0 + Real.log (1 + Real.exp (-|x|)) = soft x := by
  unfold soft
  rcases le_total 0 x with h | h
  · rw [max_eq_left h, abs_of_nonneg h]
    have : (1 : ℝ) + Real.exp x = Real.exp x * (1 + Real.exp (-x)) := by
      rw [mul_add, ← Real.exp_add, add_neg_cancel, Real.exp_zero]; ring
    rw [this, Real.log_mul (Real.exp_pos x).ne' (by positivity), Real.log_exp]
  · rw [max_eq_right h, abs_of_nonpos h, neg_neg, zero_add]

theorem logistic_form (x : ℝ) : Real.exp (x - soft x) = 1 / (1 + Real.exp (-x)) := by
  unfold soft
  rw [Real.exp_sub, Real.exp_log (by positivity), Real.exp_neg]
  have := Real.exp_pos x
  field_simp
  ring

/-- A sum over the keys from `lo + x` on, split at the block's end. -/
theorem tail_split (f : ℕ → ℝ) {lo x : ℕ} (hx : x < 256) (hi : lo + 256 ≤ 4096) :
    ∑ k ∈ Ico (lo + x) 4096, f k = (∑ y : Fin 256, if x ≤ y.val then f (lo + y.val) else 0) + ∑ k ∈ Ico (lo + 256) 4096, f k := by
  rw [← sum_Ico_consecutive f (show lo + x ≤ lo + 256 by omega) hi]
  congr 1
  rw [Fin.sum_univ_eq_sum_range (fun y => if x ≤ y then f (lo + y) else 0) 256, ← sum_filter]
  rw [show lo + x = x + lo by omega, show lo + 256 = 256 + lo by omega, ← sum_Ico_add']
  have hset : (range 256).filter (x ≤ ·) = Ico x 256 := by
    ext y; simp only [mem_filter, mem_range, mem_Ico]; tauto
  rw [hset]
  exact sum_congr rfl fun y _ => by rw [add_comm]

theorem tail_block (f : ℕ → ℝ) {lo : ℕ} (hi : lo + 256 ≤ 4096) :
    ∑ k ∈ Ico lo 4096, f k = (∑ y : Fin 256, f (lo + y.val)) + ∑ k ∈ Ico (lo + 256) 4096, f k := by
  have h := tail_split f (lo := lo) (x := 0) (by omega) hi
  simpa using h

/-- All the keys but the later ones. -/
theorem head_eq (f : ℕ → ℝ) {k : ℕ} (hk : k < 4096) :
    ∑ x ∈ range (k + 1), f x = (∑ x ∈ range 4096, f x) - (∑ x ∈ Ico k 4096, f x - f k) := by
  rw [sum_eq_sum_Ico_succ_bot hk, range_eq_Ico, range_eq_Ico, ← sum_Ico_consecutive f (Nat.zero_le (k + 1)) (show k + 1 ≤ 4096 from hk)]
  ring

/-- Past the diagonal there is nothing. -/
theorem tail_zero {f : ℕ → ℝ} {n : ℕ} (h : ∀ k, n ≤ k → f k = 0) : ∑ k ∈ Ico n 4096, f k = 0 :=
  sum_eq_zero fun k hk => h k (mem_Ico.mp hk).1

end Cert.AttnIdeal.Row

end
-- ==== Proof.Attn.Ops.lean ====
/- What each step of the attention's gradient computes from real blocks, at an index: a real number. -/
module

public import proofs.«01_k».proof.Proof.Attn.Body
public import proofs.«01_k».proof.Proof.Attn.Row
public import Idealize.ShloMosaic.Lib.Pipeline.ValueKit
public import Idealize.ShloMosaic.Lib.WordCmp

@[expose] public section

set_option maxRecDepth 16384

noncomputable section

theorem Math.up_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem Math.coe_max (a b : ℝ) : ((max a b : ℝ) : EReal) = max (a : EReal) b :=
  (EReal.coe_strictMono.monotone.map_max)

theorem Math.coe_ite (p : Prop) [Decidable p] (a b : ℝ) : ((if p then a else b : ℝ) : EReal) = if p then (a : EReal) else b := by
  split <;> rfl

namespace Cert.AttnIdeal.Model

open Idealize.ShloMosaic Idealize.ShloMosaic.TcCoe Idealize.SL.Sem Cert.AttnIdeal Cert.AttnIdeal.Gen Math

/-- The reciprocal of the natural logarithm of 2: the kernel's scores and softplus are in base 2. -/
def bit : ℝ := (Real.log 2)⁻¹

theorem bit_pos : 0 < bit := inv_pos.mpr (Real.log_pos one_lt_two)

theorem exp2_bit (x : ℝ) : FloatOps.exp2 (F := Ideal) (φ := .f32) ((x * bit : ℝ) : EReal) = ((Real.exp x : ℝ) : EReal) := by
  show ((Real.rpow 2 (x * bit) : ℝ) : EReal) = _
  congr 1
  show (2 : ℝ) ^ (x * bit) = _
  rw [Real.rpow_def_of_pos two_pos]
  congr 1
  have : Real.log 2 ≠ 0 := (Real.log_pos one_lt_two).ne'
  unfold bit
  field_simp

theorem named_bit : Named.named (F := Ideal) (φ := .f32) κ "log2_e" 0x3FB8AA3B#32 = ((bit : ℝ) : EReal) :=
  IdealRules.named_const.ideal_named_scalar _ _ _ _ rfl

theorem named_scale : Named.named (F := Ideal) (φ := .f32) κ "scale2" 0x3E0293EE#32 = ((Row.unit * bit : ℝ) : EReal) :=
  (IdealRules.named_const.ideal_named_scalar _ _ _ _ rfl).trans (congrArg _ (mul_comm _ _))

theorem named_limit : Named.named (F := Ideal) (φ := .f32) κ "underflow" 0x43200000#32 = (⊤ : EReal) :=
  IdealRules.named_const.ideal_named_scalar _ _ _ _ rfl

theorem lit_unit : Ideal.ofBits .f32 0x3DB504F3#32 = ((Row.unit : ℝ) : EReal) := by
  unfold Row.unit
  simp [Ideal.ofBits, Ideal.ieee, -EReal.coe_mul]; norm_num

theorem dotT_at {a : FVec Ideal S128x128 .bf16} {b : FVec Ideal S256x128 .bf16} (r : Fin 128) (x : Fin 256)
    {α β : Fin 128 → ℝ} (ha : ∀ l, a (ix2 r l) = (α l : EReal)) (hb : ∀ l, b (ix2 x l) = (β l : EReal)) :
    dotT (F := Ideal) a b (ix2 r x) = ((∑ l : Fin 128, α l * β l : ℝ) : EReal) := by
  pointwise [dotT]
  simp only [ha, hb, up_sum, EReal.coe_mul]

theorem scores_at {a : FVec Ideal S128x128 .bf16} {b : FVec Ideal S256x128 .bf16} (r : Fin 128) (x : Fin 256)
    {α β : Fin 128 → ℝ} (ha : ∀ l, a (ix2 r l) = (α l : EReal)) (hb : ∀ l, b (ix2 x l) = (β l : EReal)) :
    scores (F := Ideal) a b (ix2 r x) = ((((∑ l : Fin 128, α l * β l) * Row.unit) * bit : ℝ) : EReal) := by
  pointwise [scores]
  rw [dotT_at r x ha hb, named_scale, ← EReal.coe_mul, mul_assoc]

theorem softplus_at {z : FVec Ideal S128x256 .f32} {r : Fin 128} {x : Fin 256} {w : ℝ}
    (hz : z (ix2 r x) = ((w * bit : ℝ) : EReal)) :
    softplus (F := Ideal) z (ix2 r x) = ((Row.soft w * bit : ℝ) : EReal) := by
  pointwise [softplus]
  have ha : (0 : EReal) - FloatOps.absf (F := Ideal) (φ := .f32) (z (ix2 r x)) = ((-|w| * bit : ℝ) : EReal) := by
    rw [hz]
    show (0 : EReal) - max _ (-_) = _
    rw [← EReal.coe_neg, ← coe_max, ← EReal.coe_zero, ← EReal.coe_sub]
    congr 1
    rw [← abs_eq_max_neg, abs_mul, abs_of_pos bit_pos]; ring
  rw [ha, exp2_bit, named_bit, hz, ← EReal.coe_one, ← EReal.coe_add, Ideal.log_coe,
    if_neg (not_le.mpr (by positivity)), ← EReal.coe_zero, ← coe_max, ← EReal.coe_mul, ← EReal.coe_add]
  congr 1
  rw [← Row.soft_pos_form, add_mul]
  congr 1
  rw [max_mul_of_nonneg _ _ bit_pos.le, zero_mul]

theorem toNat_small {n : ℕ} (x : Fin n) (h : n ≤ 256 := by decide) : (BitVec.ofNat 32 x.val).toNat = x.val := by
  rw [BitVec.toNat_ofNat, Nat.mod_eq_of_lt (by have := x.isLt; omega)]

theorem small {n : ℕ} (x : Fin n) (h : n ≤ 256 := by decide) : (BitVec.ofNat 32 x.val).toNat < 2 ^ (32 - 1) := by
  rw [toNat_small x h]; have := x.isLt; omega

theorem tri_at (r x : Fin 256) : Run.tri (F := Ideal) (ix2 r x) = ((if x ≤ r then 1 else 0 : ℝ) : EReal) := by
  pointwise [Run.tri, k0_pay123]
  rw [WordCmp.cmpi_sge_of_lt (small r) (small x), toNat_small, toNat_small]
  by_cases h : x ≤ r
  · rw [if_pos h, decide_eq_true (show x.val ≤ r.val from h)]
    show ((((BitVec.setWidth 32 1#1).toInt : ℤ) : ℝ) : EReal) = _
    congr 1
    exact Int.cast_one
  · rw [if_neg h, decide_eq_false (show ¬ x.val ≤ r.val from h)]
    show ((((BitVec.setWidth 32 0#1).toInt : ℤ) : ℝ) : EReal) = _
    congr 1
    exact Int.cast_zero

theorem suffix_at {y : FVec Ideal S128x256 .f32} (r : Fin 128) (x : Fin 256) {f : Fin 256 → ℝ}
    (hy : ∀ x', y (ix2 r x') = (f x' : EReal)) :
    suffix (F := Ideal) Run.tri y (ix2 r x) = ((∑ x' : Fin 256, if x ≤ x' then f x' else 0 : ℝ) : EReal) := by
  pointwise [suffix]
  simp only [hy, tri_at]
  simp only [← EReal.coe_sub, ← EReal.coe_mul, ← up_sum, ← EReal.coe_add, sub_self, zero_mul, Finset.sum_const_zero, add_zero, mul_ite, mul_one, mul_zero, ite_self]

theorem first_at (y : FVec Ideal S128x256 .f32) (r : Fin 128) : first (F := Ideal) y (ix2 r 0) = y (ix2 r 0) := by
  pointwise [first]

theorem below_at (r : Fin 128) (x : Fin 256) (c : ℕ) (hc : c ≤ 128) :
    IntOp.cmpi .slt (BitVec.ofNat 32 x.val) (IntOp.addi (BitVec.ofNat 32 r.val) (BitVec.ofNat 32 c))
      = if x.val < r.val + c then 1#1 else 0#1 := by
  have hr : (IntOp.addi (BitVec.ofNat 32 r.val) (BitVec.ofNat 32 c)).toNat = r.val + c := by
    show (BitVec.ofNat 32 r.val + BitVec.ofNat 32 c).toNat = _
    have := r.isLt
    rw [BitVec.toNat_add, toNat_small, BitVec.toNat_ofNat]
    omega
  rw [WordCmp.cmpi_slt_of_lt (small x) (by rw [hr]; have := r.isLt; omega), toNat_small, hr]
  by_cases h : x.val < r.val + c
  · rw [decide_eq_true h, if_pos h]; rfl
  · rw [decide_eq_false h, if_neg h]; rfl

theorem pay124_at (r : Fin 128) (x : Fin 256) : k0_pay124 (ix2 r x) = if x.val < r.val + 0 then 1#1 else 0#1 := by
  pointwise [k0_pay124]
  exact below_at r x 0 (by decide)

theorem pay125_at (r : Fin 128) (x : Fin 256) : k0_pay125 (ix2 r x) = if x.val < r.val + 128 then 1#1 else 0#1 := by
  pointwise [k0_pay125]
  exact below_at r x 128 (by decide)

end Cert.AttnIdeal.Model

end
-- ==== Proof.Attn.Chain.lean ====
/-
  One chain through one block of 256 keys, over the reals. A chain that carries the sums over the keys from the block's end
  on carries those from its start on afterwards, and what it adds to dk and dv are the gradients of the scores and the
  weights.
-/
module

public import proofs.«01_k».proof.Proof.Attn.Ops

@[expose] public section

set_option maxRecDepth 16384

noncomputable section

namespace Cert.AttnIdeal.Model

open Idealize.ShloMosaic Idealize.ShloMosaic.TcCoe Idealize.SL.Sem Cert.AttnIdeal Cert.AttnIdeal.Gen Math Finset

/-- A head's rows as real numbers: queries, cotangents, keys and values by position. -/
structure Head where
  q : ℕ → Fin 128 → ℝ
  d : ℕ → Fin 128 → ℝ
  key : ℕ → Fin 128 → ℝ
  val : ℕ → Fin 128 → ℝ

namespace Head

variable (H : Head) (i k : ℕ)

/-- The score of a query and a key, and the gradient of its weight. -/
def z : ℝ := (∑ l, H.q i l * H.key k l) * Row.unit
def g : ℝ := ∑ l, H.d i l * H.val k l

def softs : ℝ := Row.softs i (H.z i) k
def weight : ℝ := Row.weight i (H.z i) k
def pull : ℝ := Row.pull i (H.z i) (H.g i) k
def grad : ℝ := Row.grad i (H.z i) (H.g i) k

end Head

variable (H : Head) (b : ℕ)

/-- What a chain reads, as real numbers: the rows from position `b` on. -/
structure Fx.Is (f : Fx Ideal) : Prop where
  q : ∀ r l : Fin 128, f.q (ix2 r l) = ((H.q (b + r.val) l : ℝ) : EReal)
  d : ∀ r l : Fin 128, f.dO (ix2 r l) = ((H.d (b + r.val) l : ℝ) : EReal)
  tot : ∀ r : Fin 128, f.tot (ix2 r 0) = ((∑ k ∈ range 4096, H.pull (b + r.val) k : ℝ) : EReal)

/-- A chain that has swept the keys from `lo` on. -/
structure Ch.Is (lo : ℕ) (s : Ch Ideal) : Prop where
  c1 : ∀ r : Fin 128, s.c1 (ix2 r 0) = (((∑ k ∈ Ico lo 4096, H.softs (b + r.val) k) * bit : ℝ) : EReal)
  c2 : ∀ r : Fin 128, s.c2 (ix2 r 0) = ((∑ k ∈ Ico lo 4096, H.pull (b + r.val) k : ℝ) : EReal)
  acc : ∀ r l : Fin 128, s.acc (ix2 r l) = ((∑ k ∈ Ico lo 4096, H.grad (b + r.val) k * H.key k l : ℝ) : EReal)

/-- A mask that keeps the earlier keys of the block from `lo` on. -/
def Keeps (lo : ℕ) (μ : Option (IVec S128x256 1)) : Prop :=
  ∀ (y : FVec Ideal S128x256 .f32) (r : Fin 128) (x : Fin 256),
    masked μ y (ix2 r x) = if lo + x.val < b + r.val then y (ix2 r x) else 0

/-- A block of keys and values from position `lo` on. -/
structure Keys (lo : ℕ) (k v : FVec Ideal S256x128 .bf16) : Prop where
  k : ∀ (x : Fin 256) (l : Fin 128), k (ix2 x l) = ((H.key (lo + x.val) l : ℝ) : EReal)
  v : ∀ (x : Fin 256) (l : Fin 128), v (ix2 x l) = ((H.val (lo + x.val) l : ℝ) : EReal)

section Block

variable {H b} {f : Fx Ideal} {s : Ch Ideal} {lo : ℕ} {μ : Option (IVec S128x256 1)} {k v : FVec Ideal S256x128 .bf16}
variable (hf : f.Is H b) (hμ : Keeps b lo μ) (hk : Keys H lo k v) (hi : lo + 256 ≤ 4096)

include hf hk in
theorem z_at (r : Fin 128) (x : Fin 256) : scores f.q k (ix2 r x) = ((H.z (b + r.val) (lo + x.val) * bit : ℝ) : EReal) :=
  scores_at r x (hf.q r) (hk.k x)

include hf hμ hk in
theorem incl_at (r : Fin 128) (x : Fin 256) :
    incl μ Run.tri f k (ix2 r x)
      = (((∑ y : Fin 256, if x.val ≤ y.val then H.softs (b + r.val) (lo + y.val) else 0) * bit : ℝ) : EReal) := by
  unfold incl
  rw [suffix_at r x (f := fun y => H.softs (b + r.val) (lo + y.val) * bit)]
  · congr 1
    rw [sum_mul]
    exact sum_congr rfl fun y _ => by
      by_cases h : x ≤ y
      · rw [if_pos h, if_pos (show x.val ≤ y.val from h)]
      · rw [if_neg h, if_neg (show ¬ x.val ≤ y.val from h), zero_mul]
  · intro y
    rw [hμ, softplus_at (z_at hf hk r y)]
    unfold Head.softs Row.softs
    split
    · rfl
    · rw [zero_mul]; rfl

variable (hs : s.Is H b (lo + 256))

include hf hμ hk hi hs

theorem weights_at (r : Fin 128) (x : Fin 256) :
    weights μ Run.tri f s k (ix2 r x) = ((H.weight (b + r.val) (lo + x.val) : ℝ) : EReal) := by
  have h1 : weights μ Run.tri f s k (ix2 r x)
      = if lo + x.val < b + r.val then FloatOps.exp2 (F := Ideal) (φ := .f32) (scores f.q k (ix2 r x) - (incl μ Run.tri f k (ix2 r x) + s.c1 (ix2 r 0))) else 0 := by
    pointwise [weights]
    rw [hμ]
    pointwise
  rw [h1, z_at hf hk, incl_at hf hμ hk, hs.c1, ← EReal.coe_add, ← EReal.coe_sub, ← add_mul, ← sub_mul, exp2_bit,
    ← Row.tail_split (fun k => H.softs (b + r.val) k) x.isLt hi]
  unfold Head.weight Row.weight
  split <;> rfl

theorem weighted_at (r : Fin 128) (x : Fin 256) :
    weighted μ Run.tri f s k v (ix2 r x) = ((H.pull (b + r.val) (lo + x.val) : ℝ) : EReal) := by
  pointwise [weighted]
  rw [weights_at hf hμ hk hi hs, dotT_at r x (hf.d r) (hk.v x), ← EReal.coe_mul]
  rfl

theorem gincl_at (r : Fin 128) (x : Fin 256) :
    gincl μ Run.tri f s k v (ix2 r x)
      = ((∑ y : Fin 256, if x.val ≤ y.val then H.pull (b + r.val) (lo + y.val) else 0 : ℝ) : EReal) :=
  suffix_at r x fun y => weighted_at hf hμ hk hi hs r y

theorem dscores_at (r : Fin 128) (x : Fin 256) :
    dscores μ Run.tri f s k v (ix2 r x) = ((H.grad (b + r.val) (lo + x.val) : ℝ) : EReal) := by
  have h1 : dscores μ Run.tri f s k v (ix2 r x)
      = if lo + x.val < b + r.val then (weighted μ Run.tri f s k v (ix2 r x)
          - FloatOps.exp2 (F := Ideal) (φ := .f32) (scores f.q k (ix2 r x) - softplus (scores f.q k) (ix2 r x))
            * (f.tot (ix2 r 0) - s.c2 (ix2 r 0) - (gincl μ Run.tri f s k v (ix2 r x) - weighted μ Run.tri f s k v (ix2 r x))))
          * Ideal.ofBits .f32 0x3DB504F3#32 else 0 := by
    pointwise [dscores]
    rw [hμ]
    pointwise
  rw [h1, z_at hf hk, softplus_at (z_at hf hk r x), weighted_at hf hμ hk hi hs, gincl_at hf hμ hk hi hs, hs.c2, hf.tot, lit_unit,
    ← EReal.coe_sub, ← sub_mul, exp2_bit]
  simp only [← EReal.coe_sub, ← EReal.coe_mul]
  unfold Head.grad Row.grad
  split
  · congr 3
    rw [Row.head_eq _ (show lo + x.val < 4096 by have := x.isLt; omega),
      Row.tail_split (fun k => Row.pull (b + r.val) (H.z (b + r.val)) (H.g (b + r.val)) k) x.isLt hi]
    unfold Head.pull
    ring_nf
  · rfl

/-- The chain after the block. -/
theorem Ch.Is.next : (s.next μ Run.tri f k v).Is H b lo where
  c1 r := by
    show (addf s.c1 (first (incl μ Run.tri f k)) : FVec Ideal S128x1 .f32) (ix2 r 0) = _
    pointwise
    rw [first_at, incl_at hf hμ hk, hs.c1, ← EReal.coe_add, ← add_mul, Row.tail_block _ hi, add_comm]
    simp
  c2 r := by
    show (addf s.c2 (first (gincl μ Run.tri f s k v)) : FVec Ideal S128x1 .f32) (ix2 r 0) = _
    pointwise
    rw [first_at, gincl_at hf hμ hk hi hs, hs.c2, ← EReal.coe_add, Row.tail_block _ hi, add_comm]
    simp
  acc r l := by
    unfold Ch.next
    pointwise
    simp only [dscores_at hf hμ hk hi hs, hk.k, hs.acc, ← EReal.coe_mul, ← up_sum, ← EReal.coe_add]
    rw [Row.tail_block _ hi, add_comm]

end Block

end Cert.AttnIdeal.Model

end
-- ==== Proof.Attn.Offsets.lean ====
/- Where each block of queries reads and writes, and that the sweep goes on as long as an earlier block of keys is left. -/
module

public import proofs.«01_k».proof.Proof.Attn.Chain

@[expose] public section

set_option maxRecDepth 16384

noncomputable section

namespace Cert.AttnIdeal.Model

open Idealize.ShloMosaic Idealize.ShloMosaic.TcCoe Idealize.SL.Sem Cert.AttnIdeal Cert.AttnIdeal.Gen Math Finset

theorem off1_eq : ∀ (t : Fin k0_t1_loop.trips) (s : Fin 2),
    k0_off1 t (BitVec.ofNat 32 (128 * s.val)) = ![256 * t.val + 128 * s.val, 0] := by decide +kernel
theorem off2_eq : ∀ (t : Fin k0_t1_loop.trips) (s : Fin 2),
    k0_off2 t (BitVec.ofNat 32 (128 * s.val)) = ![256 * t.val + 128 * s.val, 128] := by decide +kernel
theorem off3_eq : ∀ t : Fin k0_t1_loop.trips, k0_off3 t = ![256 * t.val, 0] := by decide +kernel
theorem off4_eq : ∀ t : Fin k0_t1_loop.trips, k0_off4 t = ![256 * t.val, 128] := by decide +kernel
theorem off5_eq : ∀ t : Fin k0_t1_loop.trips, k0_off5 t = ![t.val, 0, 0] := by decide +kernel
theorem off6_eq : ∀ t : Fin k0_t1_loop.trips, k0_off6 t = ![t.val, 0, 128] := by decide +kernel
theorem off8_eq : ∀ t : Fin k0_t1_loop.trips, k0_off8 t = ![t.val, 128, 0] := by decide +kernel
theorem off9_eq : ∀ t : Fin k0_t1_loop.trips, k0_off9 t = ![t.val, 128, 128] := by decide +kernel
theorem off7_eq : ∀ t : Fin k0_t1_loop.trips, k0_off7 t = ![t.val, 0, 0] := by decide +kernel
theorem off10_eq : ∀ t : Fin k0_t1_loop.trips, k0_off10 t = ![t.val, 128, 0] := by decide +kernel
theorem off13_eq : ∀ t : Fin k0_t1_loop.trips, k0_off13 t = ![t.val, 0, 0] := by decide +kernel
theorem off14_eq : ∀ t : Fin k0_t1_loop.trips, k0_off14 t = ![t.val, 0, 128] := by decide +kernel
theorem off16_eq : ∀ t : Fin k0_t1_loop.trips, k0_off16 t = ![t.val, 128, 0] := by decide +kernel
theorem off17_eq : ∀ t : Fin k0_t1_loop.trips, k0_off17 t = ![t.val, 128, 128] := by decide +kernel
theorem off11_eq : ∀ (t : Fin k0_t1_loop.trips) (j : Fin 16), j.val < t.val →
    k0_off11 t (BitVec.ofNat 32 j.val) = ![256 * (t.val - 1 - j.val), 0] := by decide +kernel
theorem off12_eq : ∀ (t : Fin k0_t1_loop.trips) (j : Fin 16), j.val < t.val →
    k0_off12 t (BitVec.ofNat 32 j.val) = ![256 * (t.val - 1 - j.val), 128] := by decide +kernel
theorem off15_eq : ∀ (t : Fin k0_t1_loop.trips) (j : Fin 16), j.val < t.val →
    k0_off15 t (BitVec.ofNat 32 j.val) = ![t.val - 1 - j.val, 0, 0] := by decide +kernel
theorem off18_eq : ∀ (t : Fin k0_t1_loop.trips) (j : Fin 16), j.val < t.val →
    k0_off18 t (BitVec.ofNat 32 j.val) = ![t.val - 1 - j.val, 128, 0] := by decide +kernel

theorem mult_of_lt : ∀ (t : Fin k0_t1_loop.trips) (j : Fin 16), j.val < t.val →
    256 ∣ (k0_mult3 t (BitVec.ofNat 32 j.val)).toNat := by decide +kernel

theorem inb_of_lt (t : Fin k0_t1_loop.trips) (j : Fin 16) (h : j.val < t.val) : k0_chk1 t (BitVec.ofNat 32 j.val) := by
  have ht : t.val < 16 := t.isLt
  refine ⟨mult_of_lt t j h, ?_, ?_, ?_, ?_⟩
  · rw [off11_eq t j h]; intro a
    match a with
    | 0 => show 256 * (t.val - 1 - j.val) + 256 ≤ 4096; omega
    | 1 => show 0 + 128 ≤ 256; omega
  · rw [off12_eq t j h]; intro a
    match a with
    | 0 => show 256 * (t.val - 1 - j.val) + 256 ≤ 4096; omega
    | 1 => show 128 + 128 ≤ 256; omega
  · rw [off15_eq t j h]; intro a
    match a with
    | 0 => show t.val - 1 - j.val + 1 ≤ 16; omega
    | 1 => show 0 + 128 ≤ 256; omega
    | 2 => show 0 + 256 ≤ 256; omega
  · rw [off18_eq t j h]; intro a
    match a with
    | 0 => show t.val - 1 - j.val + 1 ≤ 16; omega
    | 1 => show 128 + 128 ≤ 256; omega
    | 2 => show 0 + 256 ≤ 256; omega

theorem index_lt : ∀ (t : Fin k0_t1_loop.trips) (j : Fin 16), j.val < t.val →
    Scalar.cmpi .slt (BitVec.ofNat 32 j.val) (Scf.iv 0#32 1#32 t) = 1#1 := by decide +kernel

theorem lowest_lt_top (s : St Ideal) (h : (s.ch 0).c1 (ix2 0 0) < (⊤ : EReal)) : lowest s < (⊤ : EReal) := by
  pointwise [lowest, k0_pay3]
  exact (fold_min_lt _).mpr (.inr ⟨(0, 0), mem_univ _, lt_of_le_of_lt ((min_le_left _ _).trans ((min_le_left _ _).trans (min_le_left _ _))) h⟩)

theorem more_of_lt (t : Fin k0_t1_loop.trips) (j : Fin 16) (hj : j.val < t.val) (s : St Ideal)
    (h : (s.ch 0).c1 (ix2 0 0) < (⊤ : EReal)) : More (F := Ideal) t (BitVec.ofNat 32 j.val) (lowest s) := by
  unfold More
  rw [index_lt t j hj, named_limit]
  show IntOp.andi 1#1 (BitVec.ofBool (decide (lowest s < (⊤ : EReal)))) = 1#1
  rw [decide_eq_true (lowest_lt_top s h)]
  rfl

end Cert.AttnIdeal.Model

end
-- ==== Proof.Attn.Block.lean ====
/-
  One block of 256 queries over the reals: what each chain reads, the diagonal block of keys, and the sweep over the
  earlier ones, with what they add to the transposed gradients of keys and values.
-/
module

public import proofs.«01_k».proof.Proof.Attn.Offsets

@[expose] public section

set_option maxRecDepth 16384

noncomputable section

namespace Cert.AttnIdeal.Model

open Idealize.ShloMosaic Idealize.ShloMosaic.TcCoe Idealize.SL.Sem Cert.AttnIdeal Cert.AttnIdeal.Gen Math Finset

/-- A head's lane among the pair's 256. -/
def lane (h : Fin 2) (l : Fin 128) : Fin 256 := ⟨128 * h.val + l.val, by have := h.isLt; have := l.isLt; omega⟩

theorem window_ix2 {φ : FTy} {m n a b : ℕ} (x : FVec Ideal ⟨2, ![m, n]⟩ φ) (off : Fin 2 → ℕ)
    (inb : ∀ i, off i + (![a, b] : Fin 2 → ℕ) i ≤ (![m, n] : Fin 2 → ℕ) i) {A B : ℕ} (h : off = ![A, B]) (r : Fin a) (c : Fin b)
    (r' : Fin m) (c' : Fin n) (hr : r'.val = A + r.val) (hc : c'.val = B + c.val) :
    VecWindow.window x off ![a, b] inb (ix2 r c) = x (ix2 r' c') := by
  subst h
  refine congrArg x (funext fun i => Fin.ext ?_)
  match i with
  | 0 => show A + 1 * r.val = r'.val; omega
  | 1 => show B + 1 * c.val = c'.val; omega

theorem window_ix3 {φ : FTy} {p m n a b : ℕ} (x : FVec Ideal ⟨3, ![p, m, n]⟩ φ) (off : Fin 3 → ℕ)
    (inb : ∀ i, off i + (![1, a, b] : Fin 3 → ℕ) i ≤ (![p, m, n] : Fin 3 → ℕ) i) {P A B : ℕ} (h : off = ![P, A, B]) (r : Fin a) (c : Fin b)
    (p' : Fin p) (r' : Fin m) (c' : Fin n) (hp : p'.val = P) (hr : r'.val = A + r.val) (hc : c'.val = B + c.val) :
    VecWindow.window x off ![1, a, b] inb (ix3 0 r c) = x (ix3 p' r' c') := by
  subst h
  refine congrArg x (funext fun i => Fin.ext ?_)
  match i with
  | 0 => show P + 1 * 0 = p'.val; omega
  | 1 => show A + 1 * r.val = r'.val; omega
  | 2 => show B + 1 * c.val = c'.val; omega

/-- A pair of heads' block, row by row. -/
def Is (φ : FTy) (x : FVec Ideal S4096x256 φ) (f : Fin 2 → ℕ → Fin 128 → ℝ) : Prop :=
  ∀ (r : Fin 4096) (h : Fin 2) (l : Fin 128), x (ix2 r (lane h l)) = ((f h r.val l : ℝ) : EReal)

variable (H : Fin 2 → Head)

/-- The blocks the kernel is given at one point, for two heads. -/
structure Reads (xq xk xv xd : Vec Ideal S4096x256 .bf16) (xo : Vec Ideal S4096x256 .f32) : Prop where
  q : Is .bf16 xq fun h => (H h).q
  k : Is .bf16 xk fun h => (H h).key
  v : Is .bf16 xv fun h => (H h).val
  d : Is .bf16 xd fun h => (H h).d
  o : Is .f32 xo fun h i l => ∑ k ∈ range 4096, (H h).weight i k * (H h).val k l

/-- The position a chain's rows begin at. -/
def base (t : ℕ) (c : Fin 4) : ℕ := 256 * t + 128 * (half c).val

theorem tot_eq (H : Head) (i : ℕ) :
    ∑ l, H.d i l * ∑ k ∈ range 4096, H.weight i k * H.val k l = ∑ k ∈ range 4096, H.pull i k := by
  simp only [mul_sum]
  rw [sum_comm]
  refine sum_congr rfl fun k _ => ?_
  show _ = H.weight i k * ∑ l, H.d i l * H.val k l
  rw [mul_sum]
  exact sum_congr rfl fun l _ => by ring

section Reads

variable {H} {xq xk xv xd : Vec Ideal S4096x256 .bf16} {xo : Vec Ideal S4096x256 .f32} (hr : Reads H xq xk xv xd xo)
variable (t : Fin k0_t1_loop.trips)

include hr in
theorem fixedAt_is (off : Fin 2 → ℕ) (inb : ∀ a, off a + S128x128.size a ≤ S4096x256.size a) (h : Fin 2) (b : ℕ)
    (ho : off = ![b, 128 * h.val]) (hb : b + 128 ≤ 4096) : (fixedAt xq xd xo off inb).Is (H h) b where
  q r l := by
    unfold fixedAt
    pointwise [k0_pay6]
    exact (window_ix2 xq off inb ho r l ⟨b + r.val, by have := r.isLt; omega⟩ (lane h l) rfl rfl).trans (hr.q _ h l)
  d r l := by
    unfold fixedAt
    pointwise [k0_pay4]
    exact (window_ix2 xd off inb ho r l ⟨b + r.val, by have := r.isLt; omega⟩ (lane h l) rfl rfl).trans (hr.d _ h l)
  tot r := by
    unfold fixedAt
    pointwise [k0_pay5, k0_pay4]
    rw [← tot_eq, up_sum]
    refine sum_congr rfl fun l _ => ?_
    rw [EReal.coe_mul]
    exact congrArg₂ (· * ·)
      ((window_ix2 xd off inb ho r l ⟨b + r.val, by have := r.isLt; omega⟩ (lane h l) rfl rfl).trans (hr.d _ h l))
      ((window_ix2 xo off inb ho r l ⟨b + r.val, by have := r.isLt; omega⟩ (lane h l) rfl rfl).trans (hr.o _ h l))

theorem base_le (c : Fin 4) : base t.val c + 128 ≤ 4096 := by
  have ht : t.val < 16 := t.isLt
  have hc := (half c).isLt
  unfold base
  omega

include hr in
theorem fixed_is : ∀ c, (fixed t xq xd xo c).Is (H (hd c)) (base t.val c)
  | 0 => fixedAt_is hr _ _ 0 _ (off1_eq t 0) (base_le t 0)
  | 1 => fixedAt_is hr _ _ 0 _ (off1_eq t 1) (base_le t 1)
  | 2 => fixedAt_is hr _ _ 1 _ (off2_eq t 0) (base_le t 2)
  | 3 => fixedAt_is hr _ _ 1 _ (off2_eq t 1) (base_le t 3)

/-- A block of 256 rows read at a head's lanes. -/
theorem rows_at {x : Vec Ideal S4096x256 .bf16} {f : Fin 2 → ℕ → Fin 128 → ℝ} (hx : Is .bf16 x f) (off : Fin 2 → ℕ)
    (inb : ∀ a, off a + S256x128.size a ≤ S4096x256.size a) (h : Fin 2) (lo : ℕ)
    (ho : off = ![lo, 128 * h.val]) (hi : lo + 256 ≤ 4096) (y : Fin 256) (l : Fin 128) :
    rows (VecWindow.window x off S256x128.size inb) (ix2 y l) = ((f h (lo + y.val) l : ℝ) : EReal) := by
  pointwise [rows]
  exact (window_ix2 x off inb ho y l ⟨lo + y.val, by have := y.isLt; omega⟩ (lane h l) rfl rfl).trans (hx _ h l)

include hr in
theorem diag_keys : ∀ h : Fin 2, Keys (H h) (256 * t.val) (rows (diagRows t xk h)) (rows (diagRows t xv h))
  | 0 => ⟨rows_at hr.k _ _ 0 _ (off3_eq t) (by have : t.val < 16 := t.isLt; omega),
      rows_at hr.v _ _ 0 _ (off3_eq t) (by have : t.val < 16 := t.isLt; omega)⟩
  | 1 => ⟨rows_at hr.k _ _ 1 _ (off4_eq t) (by have : t.val < 16 := t.isLt; omega),
      rows_at hr.v _ _ 1 _ (off4_eq t) (by have : t.val < 16 := t.isLt; omega)⟩

include hr in
theorem earlier_keys (j : Fin 16) (hj : j.val < t.val) (hc : k0_chk1 t (BitVec.ofNat 32 j.val)) :
    ∀ h : Fin 2, Keys (H h) (256 * (t.val - 1 - j.val)) (rows (keyRows t _ hc xk h)) (rows (keyRows t _ hc xv h))
  | 0 => ⟨rows_at hr.k _ _ 0 _ (off11_eq t j hj) (by have : t.val < 16 := t.isLt; omega),
      rows_at hr.v _ _ 0 _ (off11_eq t j hj) (by have : t.val < 16 := t.isLt; omega)⟩
  | 1 => ⟨rows_at hr.k _ _ 1 _ (off12_eq t j hj) (by have : t.val < 16 := t.isLt; omega),
      rows_at hr.v _ _ 1 _ (off12_eq t j hj) (by have : t.val < 16 := t.isLt; omega)⟩

/-- The rows as the scratch keeps them, transposed block by block. -/
theorem transposed_at {x : Vec Ideal S4096x256 .bf16} {f : Fin 2 → ℕ → Fin 128 → ℝ} (hx : Is .bf16 x f) (j : Fin 16) (h : Fin 2)
    (l : Fin 128) (y : Fin 256) : transposed x (ix3 j (lane h l) y) = ((f h (256 * j.val + y.val) l : ℝ) : EReal) := by
  unfold transposed
  pointwise [k0_pay84]
  exact (window_ix2 x _ _ rfl y (lane h l) ⟨256 * j.val + y.val, by have := y.isLt; have := j.isLt; omega⟩ (lane h l) rfl (Nat.zero_add _).symm).trans (hx _ h l)

theorem quarterAt {x : Vec Ideal S4096x256 .bf16} {f : Fin 2 → ℕ → Fin 128 → ℝ} (hx : Is .bf16 x f) (c : Fin 4) (off : Fin 3 → ℕ)
    (inb : ∀ a, off a + S1x128x128.size a ≤ S16x256x256.size a) (ho : off = ![t.val, 128 * (hd c).val, 128 * (half c).val])
    (l r : Fin 128) :
    VecWindow.window (transposed x) off S1x128x128.size inb (ix3 0 l r) = ((f (hd c) (base t.val c + r.val) l : ℝ) : EReal) := by
  have hc := (half c).isLt
  have hl := r.isLt
  refine (window_ix3 (φ := .bf16) (transposed x) off inb ho l r (t.cast trips_eq) (lane (hd c) l) ⟨128 * (half c).val + r.val, by omega⟩ rfl rfl rfl).trans ?_
  rw [transposed_at hx]
  unfold base
  rw [Nat.add_assoc]
  rfl

theorem diagQuarter_at {x : Vec Ideal S4096x256 .bf16} {f : Fin 2 → ℕ → Fin 128 → ℝ} (hx : Is .bf16 x f) :
    ∀ (c : Fin 4) (l r : Fin 128), diagQuarter t (transposed x) c (ix3 0 l r) = ((f (hd c) (base t.val c + r.val) l : ℝ) : EReal)
  | 0 => quarterAt t hx 0 _ _ (off5_eq t)
  | 1 => quarterAt t hx 1 _ _ (off6_eq t)
  | 2 => quarterAt t hx 2 _ _ (off8_eq t)
  | 3 => quarterAt t hx 3 _ _ (off9_eq t)

theorem quarter_at {x : Vec Ideal S4096x256 .bf16} {f : Fin 2 → ℕ → Fin 128 → ℝ} (hx : Is .bf16 x f) :
    ∀ (c : Fin 4) (l r : Fin 128), quarter t (transposed x) c (ix3 0 l r) = ((f (hd c) (base t.val c + r.val) l : ℝ) : EReal)
  | 0 => quarterAt t hx 0 _ _ (off13_eq t)
  | 1 => quarterAt t hx 1 _ _ (off14_eq t)
  | 2 => quarterAt t hx 2 _ _ (off16_eq t)
  | 3 => quarterAt t hx 3 _ _ (off17_eq t)

end Reads

/-- The masks. -/
theorem causal_keeps (t : ℕ) (c : Fin 4) : Keeps (base t c) (256 * t) (causal (half c)) := by
  have key : ∀ (μ : IVec S128x256 1) (n : ℕ) (_ : ∀ (r : Fin 128) (x : Fin 256), μ (ix2 r x) = if x.val < r.val + n then 1#1 else 0#1)
      (_ : n = 128 * (half c).val), Keeps (base t c) (256 * t) (some μ) := by
    intro μ n hμ hn y r x
    have h1 : masked (some μ) y (ix2 r x) = if μ (ix2 r x) = 1#1 then y (ix2 r x) else 0 := by
      unfold masked
      pointwise
      rfl
    rw [h1, hμ]
    unfold base
    by_cases h : x.val < r.val + n
    · rw [if_pos h, if_pos rfl, if_pos (by omega)]
    · rw [if_neg h, if_neg (by decide), if_neg (by omega)]
  match c with
  | 0 => exact key _ 0 pay124_at rfl
  | 1 => exact key _ 128 pay125_at rfl
  | 2 => exact key _ 0 pay124_at rfl
  | 3 => exact key _ 128 pay125_at rfl

theorem none_keeps (b lo : ℕ) (h : lo + 256 ≤ b) : Keeps b lo none := by
  intro y r x
  rw [if_pos (by have := x.isLt; omega)]
  rfl

end Cert.AttnIdeal.Model

end
-- ==== Proof.Attn.Sweep.lean ====
/-
  The state of the sweep over the reals: the chains carry the sums over the keys swept, and the transposed gradients of
  keys and values hold the sums over the queries so far, the present block's only for the blocks of keys swept.
-/
module

public import proofs.«01_k».proof.Proof.Attn.Block

@[expose] public section

set_option maxRecDepth 16384

noncomputable section

namespace Cert.AttnIdeal.Model

open Idealize.ShloMosaic Idealize.ShloMosaic.TcCoe Idealize.SL.Sem Cert.AttnIdeal Cert.AttnIdeal.Gen Math Finset

/-- How many queries a block of keys has met, when the sweep of query block `t` has reached position `lo`. -/
def met (t lo : ℕ) (j : ℕ) : ℕ := if lo ≤ 256 * j then 256 * (t + 1) else 256 * t

/-- A transposed buffer: by block of keys, head, lane and key, the sum over the queries met. -/
def Sums (T : Fin 2 → ℕ → ℕ → Fin 128 → ℝ) (n : ℕ → ℕ) (x : FVec Ideal S16x256x256 .f32) : Prop :=
  ∀ (j : Fin 16) (h : Fin 2) (l : Fin 128) (y : Fin 256),
    x (ix3 j (lane h l) y) = ((∑ i ∈ range (n j.val), T h i (256 * j.val + y.val) l : ℝ) : EReal)

theorem addT_at (t0 t1 : FVec Ideal S1x128x128 .bf16) (a0 a1 : FVec Ideal S128x256 .bf16) (old : FVec Ideal S1x128x256 .f32)
    (l : Fin 128) (y : Fin 256) :
    addT (F := Ideal) t0 t1 a0 a1 old (ix3 0 l y)
      = old (ix3 0 l y) + ((∑ r : Fin 128, t0 (ix3 0 l r) * a0 (ix2 r y)) + ∑ r : Fin 128, t1 (ix3 0 l r) * a1 (ix2 r y)) := by
  pointwise [addT]

theorem addAt_at (x : FVec Ideal S16x256x256 .f32) (off : Fin 3 → ℕ) (inb : ∀ a, off a + S1x128x256.size a ≤ S16x256x256.size a)
    (t0 t1 : FVec Ideal S1x128x128 .bf16) (a0 a1 : FVec Ideal S128x256 .bf16) (J : ℕ) (s : Fin 2) (ho : off = ![J, 128 * s.val, 0])
    (j : Fin 16) (h : Fin 2) (l : Fin 128) (y : Fin 256) :
    addAt (F := Ideal) x off inb t0 t1 a0 a1 (ix3 j (lane h l) y)
      = if j.val = J ∧ h = s then x (ix3 j (lane h l) y)
          + ((∑ r : Fin 128, t0 (ix3 0 l r) * a0 (ix2 r y)) + ∑ r : Fin 128, t1 (ix3 0 l r) * a1 (ix2 r y))
        else x (ix3 j (lane h l) y) := by
  subst ho
  have hl := l.isLt
  have hh := h.isLt
  have hs := s.isLt
  unfold addAt VecWindow.put
  by_cases hc : j.val = J ∧ h = s
  · obtain ⟨rfl, rfl⟩ := hc
    rw [if_pos ⟨rfl, rfl⟩, dif_pos]
    · refine Eq.trans (congrArg (addT (F := Ideal) t0 t1 a0 a1 _) (show _ = ix3 0 l y from ?_)) ((addT_at _ _ _ _ _ l y).trans ?_)
      · funext a
        refine Fin.ext ?_
        match a with
        | 0 => show j.val - j.val = 0; omega
        | 1 => show 128 * h.val + l.val - 128 * h.val = l.val; omega
        | 2 => show y.val - 0 = y.val; omega
      · exact congrArg (· + _) (window_ix3 x _ inb rfl l y j (lane h l) y rfl rfl (Nat.zero_add _).symm)
    · intro a
      match a with
      | 0 => exact ⟨le_refl _, Nat.lt_succ_self _⟩
      | 1 => exact ⟨Nat.le_add_right _ _, Nat.add_lt_add_left l.isLt _⟩
      | 2 => exact ⟨Nat.zero_le _, (Nat.zero_add 256).symm ▸ y.isLt⟩
  · rw [if_neg hc, dif_neg]
    intro hall
    have h0 : J ≤ j.val ∧ j.val < J + 1 := hall 0
    have h1 : 128 * s.val ≤ 128 * h.val + l.val ∧ 128 * h.val + l.val < 128 * s.val + 128 := hall 1
    exact hc ⟨by omega, Fin.ext (by omega)⟩

variable (H : Fin 2 → Head)

/-- The terms of the gradients of the keys and of the values. -/
def dkTerm (h : Fin 2) (i k : ℕ) (l : Fin 128) : ℝ := (H h).q i l * (H h).grad i k
def dvTerm (h : Fin 2) (i k : ℕ) (l : Fin 128) : ℝ := (H h).d i l * (H h).weight i k

/-- The state of the sweep of query block `t` at position `lo`. -/
structure St.Is (t lo : ℕ) (s : St Ideal) : Prop where
  ch : ∀ c, (s.ch c).Is (H (hd c)) (base t c) lo
  dk : Sums (dkTerm H) (met t lo) s.dk
  dv : Sums (dvTerm H) (met t lo) s.dv

/-- The two halves' terms put a block's queries on top. -/
theorem range_block (f : ℕ → ℝ) (t : ℕ) :
    ∑ i ∈ range (256 * (t + 1)), f i
      = (∑ i ∈ range (256 * t), f i) + ((∑ r : Fin 128, f (256 * t + 128 * 0 + r.val)) + ∑ r : Fin 128, f (256 * t + 128 * 1 + r.val)) := by
  rw [show 256 * (t + 1) = 256 * t + 128 + 128 by ring, sum_range_add, sum_range_add, add_assoc,
    Fin.sum_univ_eq_sum_range (fun r => f (256 * t + 128 * 0 + r)), Fin.sum_univ_eq_sum_range (fun r => f (256 * t + 128 * 1 + r))]
  rfl

section Step

variable {H} {t J : ℕ} {μ : Fin 2 → Option (IVec S128x256 1)} {f : Fin 4 → Fx Ideal} {k v : Fin 2 → FVec Ideal S256x128 .bf16}
variable {off : Fin 2 → Fin 3 → ℕ} {inb : ∀ s a, off s a + S1x128x256.size a ≤ S16x256x256.size a}

/-- One block of keys added to a transposed buffer, both heads. -/
theorem sums_step {T : Fin 2 → ℕ → ℕ → Fin 128 → ℝ} {x : FVec Ideal S16x256x256 .f32} {w : Fin 4 → FVec Ideal S1x128x128 .bf16}
    {a : Fin 4 → FVec Ideal S128x256 .bf16} {W : Fin 2 → ℕ → Fin 128 → ℝ} {A : Fin 2 → ℕ → ℕ → ℝ}
    (hT : ∀ h i k l, T h i k l = W h i l * A h i k)
    (hw : ∀ (c : Fin 4) (l r : Fin 128), w c (ix3 0 l r) = ((W (hd c) (base t c + r.val) l : ℝ) : EReal))
    (ha : ∀ (c : Fin 4) (r : Fin 128) (y : Fin 256), a c (ix2 r y) = ((A (hd c) (base t c + r.val) (256 * J + y.val) : ℝ) : EReal))
    (ho : ∀ s, off s = ![J, 128 * s.val, 0])
    (hx : Sums T (met t (256 * J + 256)) x) :
    Sums T (met t (256 * J))
      (addAt (addAt x (off 0) (inb 0) (w 0) (w 1) (a 0) (a 1)) (off 1) (inb 1) (w 2) (w 3) (a 2) (a 3)) := by
  intro j h l y
  have hold := hx j h l y
  have key : ∀ c : Fin 4, ∑ r : Fin 128, w c (ix3 0 l r) * a c (ix2 r y)
      = ((∑ r : Fin 128, T (hd c) (base t c + r.val) (256 * J + y.val) l : ℝ) : EReal) := by
    intro c
    rw [up_sum]
    exact sum_congr rfl fun r _ => by rw [hw, ha, hT, EReal.coe_mul]
  rw [addAt_at _ _ _ _ _ _ _ J 1 (ho 1), addAt_at _ _ _ _ _ _ _ J 0 (ho 0)]
  by_cases hj : j.val = J
  · have hm : met t (256 * J + 256) j.val = 256 * t := if_neg (by omega)
    have hm' : met t (256 * J) j.val = 256 * (t + 1) := if_pos (by omega)
    rw [hm] at hold
    rw [hm', range_block, hold, key, key, key, key]
    match h with
    | 0 =>
      rw [if_neg (by simp), if_pos ⟨hj, rfl⟩, ← EReal.coe_add, ← EReal.coe_add, hj]
      rfl
    | 1 =>
      rw [if_pos ⟨hj, rfl⟩, if_neg (by simp), ← EReal.coe_add, ← EReal.coe_add, hj]
      rfl
  · have hm : met t (256 * J + 256) j.val = met t (256 * J) j.val := by
      unfold met
      by_cases h2 : 256 * J ≤ 256 * j.val
      · rw [if_pos h2, if_pos (by omega)]
      · rw [if_neg h2, if_neg (by omega)]
    rw [if_neg (fun e => hj e.1), if_neg (fun e => hj e.1), hold, hm]

/-- One block of keys. -/
theorem St.Is.step {kk vv : Fin 2 → FVec Ideal S256x128 .bf16} {qt dot : Fin 4 → FVec Ideal S1x128x128 .bf16}
    (hf : ∀ c, (f c).Is (H (hd c)) (base t c)) (hμ : ∀ c, Keeps (base t c) (256 * J) (μ (half c)))
    (hk : ∀ h, Keys (H h) (256 * J) (rows (kk h)) (rows (vv h)))
    (hq : ∀ (c : Fin 4) (l r : Fin 128), qt c (ix3 0 l r) = (((H (hd c)).q (base t c + r.val) l : ℝ) : EReal))
    (hd' : ∀ (c : Fin 4) (l r : Fin 128), dot c (ix3 0 l r) = (((H (hd c)).d (base t c + r.val) l : ℝ) : EReal))
    (ho : ∀ s, off s = ![J, 128 * s.val, 0]) (hi : 256 * J + 256 ≤ 4096) {s : St Ideal} (hs : s.Is H t (256 * J + 256)) :
    (s.step μ Run.tri f kk vv qt dot off inb).Is H t (256 * J) where
  ch c := Ch.Is.next (hf c) (hμ c) (hk (hd c)) hi (hs.ch c)
  dk := sums_step (inb := inb) (a := fun c => dscores (μ (half c)) Run.tri (f c) (s.ch c) (rows (kk (hd c))) (rows (vv (hd c))))
    (A := fun h => (H h).grad) (fun _ _ _ _ => rfl) hq
    (fun c r y => dscores_at (hf c) (hμ c) (hk (hd c)) hi (hs.ch c) r y) ho hs.dk
  dv := sums_step (inb := inb) (a := fun c => weights (μ (half c)) Run.tri (f c) (s.ch c) (rows (kk (hd c))))
    (A := fun h => (H h).weight) (fun _ _ _ _ => rfl) hd'
    (fun c r y => weights_at (hf c) (hμ c) (hk (hd c)) hi (hs.ch c) r y) ho hs.dv

end Step

section Trip

variable {H} {xq xk xv xd : FVec Ideal S4096x256 .bf16} {xo : FVec Ideal S4096x256 .f32} (hr : Reads H xq xk xv xd xo)
variable (t : Fin k0_t1_loop.trips)

theorem weight_of_le (H : Head) {i k : ℕ} (h : i ≤ k) : H.weight i k = 0 := if_neg (by omega)
theorem softs_of_le (H : Head) {i k : ℕ} (h : i ≤ k) : H.softs i k = 0 := if_neg (by omega)
theorem pull_of_le (H : Head) {i k : ℕ} (h : i ≤ k) : H.pull i k = 0 := Row.pull_of_le _ _ _ h
theorem grad_of_le (H : Head) {i k : ℕ} (h : i ≤ k) : H.grad i k = 0 := if_neg (by omega)

theorem row_lt (c : Fin 4) (r : Fin 128) : base t.val c + r.val < 256 * t.val + 256 := by
  have := (half c).isLt
  have := r.isLt
  unfold base
  omega

/-- Before any block of keys. -/
theorem start_is (c : Fin 4) : (start (F := Ideal)).Is (H (hd c)) (base t.val c) (256 * t.val + 256) where
  c1 r := by
    have := row_lt t c r
    rw [Row.tail_zero fun k hk => softs_of_le _ (by omega), zero_mul]
    unfold start
    pointwise [k0_pay16]
    rfl
  c2 r := by
    have := row_lt t c r
    rw [Row.tail_zero fun k hk => pull_of_le _ (by omega)]
    unfold start
    pointwise [k0_pay17]
    rfl
  acc r l := by
    have := row_lt t c r
    rw [Row.tail_zero fun k hk => by rw [grad_of_le _ (by omega), zero_mul]]
    unfold start
    pointwise [k0_pay18]
    rfl

/-- The later blocks of keys get nothing from this block of queries. -/
theorem sums_start {T : Fin 2 → ℕ → ℕ → Fin 128 → ℝ} (hT : ∀ h i k l, i ≤ k → T h i k l = 0) {x : FVec Ideal S16x256x256 .f32}
    (hx : Sums T (fun _ => 256 * t.val) x) : Sums T (met t.val (256 * t.val + 256)) x := by
  intro j h l y
  rw [hx j h l y]
  unfold met
  split
  · rw [range_block]
    have : ∀ (s : ℕ) (r : Fin 128), s ≤ 1 → T h (256 * t.val + 128 * s + r.val) (256 * j.val + y.val) l = 0 := fun s r hs =>
      hT _ _ _ _ (by have := r.isLt; omega)
    simp only [this 0 _ (by decide), this 1 _ (by decide), sum_const_zero, add_zero]
  · rfl

variable {dk dv : FVec Ideal S16x256x256 .f32}
variable (hdk : Sums (dkTerm H) (fun _ => 256 * t.val) dk) (hdv : Sums (dvTerm H) (fun _ => 256 * t.val) dv)

theorem diagOff_eq : ∀ s : Fin 2, diagOff t s = ![t.val, 128 * s.val, 0]
  | 0 => off7_eq t
  | 1 => off10_eq t

theorem keyOff_eq (j : Fin 16) (hj : j.val < t.val) :
    ∀ s : Fin 2, keyOff t (BitVec.ofNat 32 j.val) s = ![t.val - 1 - j.val, 128 * s.val, 0]
  | 0 => off15_eq t j hj
  | 1 => off18_eq t j hj

include hr hdk hdv in
theorem diag_is : (diag t Run.tri xq xk xv xd xo (transposed xq) (transposed xd) dk dv).Is H t.val (256 * t.val) :=
  St.Is.step (fixed_is hr t) (causal_keeps t.val) (diag_keys hr t) (diagQuarter_at t hr.q) (diagQuarter_at t hr.d) (diagOff_eq t)
    (by have : t.val < 16 := t.isLt; omega)
    ⟨start_is t, sums_start t (fun h i k l e => by unfold dkTerm; rw [grad_of_le _ e, mul_zero]) hdk,
      sums_start t (fun h i k l e => by unfold dvTerm; rw [weight_of_le _ e, mul_zero]) hdv⟩

include hr in
theorem sweep_is (n : ℕ) : ∀ (j : ℕ) (s : St Ideal), n + j = t.val → s.Is H t.val (256 * (t.val - j)) →
    (sweep t Run.tri (fixed t xq xd xo) xk xv (transposed xq) (transposed xd) n (BitVec.ofNat 32 j) (lowest s) s).2.2.Is H t.val 0 := by
  induction n with
  | zero =>
    intro j s hj hs
    rwa [show 256 * (t.val - j) = 0 by omega] at hs
  | succ n ih =>
    intro j s hj hs
    have ht : t.val < 16 := t.isLt
    have hlt : j < t.val := by omega
    have hc := inb_of_lt t ⟨j, by omega⟩ hlt
    rw [sweep, if_pos (more_of_lt t ⟨j, by omega⟩ hlt s (by rw [(hs.ch 0).c1 0]; exact EReal.coe_lt_top _)), dif_pos hc]
    rw [show Scalar.addi (BitVec.ofNat 32 j) 1#32 = BitVec.ofNat 32 (j + 1) from BitVec.ofNat_add_ofNat ..]
    refine ih (j + 1) _ (by omega) ?_
    rw [show t.val - (j + 1) = t.val - 1 - j by omega]
    refine St.Is.step (fixed_is hr t) (fun c => none_keeps _ _ (by unfold base; omega)) (earlier_keys hr t ⟨j, by omega⟩ hlt hc)
      (quarter_at t hr.q) (quarter_at t hr.d) (keyOff_eq t ⟨j, by omega⟩ hlt) (by omega) ?_
    rwa [show 256 * (t.val - 1 - j) + 256 = 256 * (t.val - j) by omega]

include hr hdk hdv in
/-- A block of queries. -/
theorem swept_is : (swept t Run.tri xq xk xv xd xo (transposed xq) (transposed xd) dk dv).Is H t.val 0 :=
  sweep_is hr t t.val 0 _ (by omega) (diag_is hr t hdk hdv)

end Trip

section All

variable {H} {xq xk xv xd : FVec Ideal S4096x256 .bf16} {xo : FVec Ideal S4096x256 .f32} (hr : Reads H xq xk xv xd xo)

include hr in
/-- The transposed gradients after the first `n` blocks of queries. -/
theorem sums_is (n : ℕ) (hn : n ≤ 16) : Sums (dkTerm H) (fun _ => 256 * n) (sums (F := Ideal) Run.tri xq xk xv xd xo n).1
    ∧ Sums (dvTerm H) (fun _ => 256 * n) (sums (F := Ideal) Run.tri xq xk xv xd xo n).2 := by
  induction n with
  | zero =>
    constructor
    · intro j h l y
      unfold sums
      pointwise [k0_pay121]
      rfl
    · intro j h l y
      unfold sums
      pointwise [k0_pay122]
      rfl
  | succ n ih =>
    have ht : n < k0_t1_loop.trips := by rw [trips_eq]; omega
    have hs := swept_is hr ⟨n, ht⟩ (ih (by omega)).1 (ih (by omega)).2
    rw [sums, dif_pos ht]
    exact ⟨hs.dk, hs.dv⟩

include hr in
/-- The chains at the end of a block of queries. -/
theorem ends_is (t : Fin k0_t1_loop.trips) (c : Fin 4) : ((ends Run.tri xq xk xv xd xo t).ch c).Is (H (hd c)) (base t.val c) 0 :=
  (swept_is hr t (sums_is hr t.val (le_of_lt t.isLt)).1 (sums_is hr t.val (le_of_lt t.isLt)).2).ch c

end All

end Cert.AttnIdeal.Model

end
-- ==== Proof.Attn.Result.lean ====
/- The kernel's result over the reals, for one pair of heads: the gradients of the queries, keys and values. -/
module

public import proofs.«01_k».proof.Proof.Attn.Sweep

@[expose] public section

set_option maxRecDepth 16384

noncomputable section

namespace Cert.AttnIdeal.Model

open Idealize.ShloMosaic Idealize.ShloMosaic.TcCoe Idealize.SL.Sem Cert.AttnIdeal Cert.AttnIdeal.Gen Math Finset

namespace Head

variable (H : Head)

/-- The gradients of a query, a key and a value. -/
def dq (i : ℕ) (l : Fin 128) : ℝ := ∑ k ∈ range 4096, H.grad i k * H.key k l
def dk (k : ℕ) (l : Fin 128) : ℝ := ∑ i ∈ range 4096, H.q i l * H.grad i k
def dv (k : ℕ) (l : Fin 128) : ℝ := ∑ i ∈ range 4096, H.d i l * H.weight i k

/-- The output. -/
def o (i : ℕ) (l : Fin 128) : ℝ := ∑ k ∈ range 4096, H.weight i k * H.val k l

end Head

theorem hd_chainOf (r : Fin 4096) (h : Fin 2) (l : Fin 128) : hd (chainOf r (lane h l)) = h := by
  have key : ∀ (a b : ℕ) (ha : a < 2) (hb : b < 2) (hlt : 2 * a + b < 4), hd ⟨2 * a + b, hlt⟩ = ⟨a, ha⟩ := by
    intro a b ha hb _
    interval_cases a <;> interval_cases b <;> rfl
  have hl := l.isLt
  have hq : (lane h l).val / 128 = h.val := by show (128 * h.val + l.val) / 128 = h.val; omega
  have := key ((lane h l).val / 128) (r.val % 256 / 128) (by have := h.isLt; omega) (by omega) (chainOf r (lane h l)).isLt
  exact this.trans (Fin.ext hq)

theorem base_chainOf (r : Fin 4096) (h : Fin 2) (l : Fin 128) :
    base (r.val / 256) (chainOf r (lane h l)) + r.val % 128 = r.val := by
  have key : ∀ (a b : ℕ) (_ : a < 2) (_ : b < 2) (hlt : 2 * a + b < 4), (half ⟨2 * a + b, hlt⟩).val = b := by
    intro a b ha hb _
    interval_cases a <;> interval_cases b <;> rfl
  have hl := l.isLt
  have hh := h.isLt
  have hq : (lane h l).val / 128 = h.val := by show (128 * h.val + l.val) / 128 = h.val; omega
  have h1 : (half (chainOf r (lane h l))).val = r.val % 256 / 128 :=
    key ((lane h l).val / 128) (r.val % 256 / 128) (by omega) (by omega) (chainOf r (lane h l)).isLt
  unfold base
  rw [h1]
  omega

section Result

variable {H : Fin 2 → Head} {xq xk xv xd : FVec Ideal S4096x256 .bf16} {xo : FVec Ideal S4096x256 .f32}
variable (hr : Reads H xq xk xv xd xo) (xp : FVec Ideal S4096x256 .bf16) (r : Fin 4096) (h : Fin 2) (l : Fin 128)

include hr

theorem result_dq : result (F := Ideal) Run.tri xq xk xv xd xo xp (ix3 0 r (lane h l)) = (((H h).dq r.val l : ℝ) : EReal) := by
  have hl : (lane h l).val % 128 = l.val := by
    have := l.isLt
    show (128 * h.val + l.val) % 128 = l.val
    omega
  unfold result
  rw [if_pos (show ((ix3 (0 : Fin 4) r (lane h l)) 0).val = 0 from rfl)]
  pointwise [k0_pay79]
  have he := (ends_is hr ((blockOf r).cast trips_eq.symm) (chainOf r (lane h l))).acc ⟨r.val % 128, Nat.mod_lt _ (by decide)⟩ l
  rw [hd_chainOf, show base ((blockOf r).cast trips_eq.symm).val (chainOf r (lane h l)) + (⟨r.val % 128, Nat.mod_lt _ (by decide)⟩ : Fin 128).val = r.val
    from base_chainOf r h l, ← range_eq_Ico] at he
  refine Eq.trans (congrArg _ (congrArg (ix2 _) (Fin.ext ?_))) he
  exact hl

omit hr in
theorem slab_read {T : Fin 2 → ℕ → ℕ → Fin 128 → ℝ} {x : FVec Ideal S16x256x256 .f32} (hx : Sums T (fun _ => 256 * 16) x) :
    k0_pay127 (F := Ideal) (VecWindow.window x ![(blockOf r).val, 0, 0] S1x256x256.size (slab_inb _))
        (ix3 0 (⟨r.val % 256, Nat.mod_lt _ (by decide)⟩ : Fin 256) (lane h l))
      = ((∑ i ∈ range 4096, T h i r.val l : ℝ) : EReal) := by
  pointwise [k0_pay127]
  refine (window_ix3 x _ _ rfl (lane h l) ⟨r.val % 256, Nat.mod_lt _ (by decide)⟩ (blockOf r) (lane h l) ⟨r.val % 256, Nat.mod_lt _ (by decide)⟩
    rfl (Nat.zero_add _).symm (Nat.zero_add _).symm).trans ?_
  rw [hx]
  have : 256 * (blockOf r).val + r.val % 256 = r.val := by show 256 * (r.val / 256) + r.val % 256 = r.val; omega
  rw [this]

theorem result_dk : result (F := Ideal) Run.tri xq xk xv xd xo xp (ix3 1 r (lane h l)) = (((H h).dk r.val l : ℝ) : EReal) := by
  unfold result
  rw [if_neg (show ¬ ((ix3 (1 : Fin 4) r (lane h l)) 0).val = 0 by simp [ix3]), if_pos (show ((ix3 (1 : Fin 4) r (lane h l)) 0).val = 1 from rfl)]
  exact slab_read r h l (sums_is hr 16 le_rfl).1

theorem result_dv : result (F := Ideal) Run.tri xq xk xv xd xo xp (ix3 2 r (lane h l)) = (((H h).dv r.val l : ℝ) : EReal) := by
  unfold result
  rw [if_neg (show ¬ ((ix3 (2 : Fin 4) r (lane h l)) 0).val = 0 by simp [ix3]), if_neg (show ¬ ((ix3 (2 : Fin 4) r (lane h l)) 0).val = 1 by simp [ix3]),
    if_pos (show ((ix3 (2 : Fin 4) r (lane h l)) 0).val = 2 from rfl)]
  exact slab_read r h l (sums_is hr 16 le_rfl).2

omit hr in
theorem result_pool (a : Fin 256) : result (F := Ideal) Run.tri xq xk xv xd xo xp (ix3 3 r a) = xp (ix2 r a) := by
  unfold result
  rw [if_neg (show ¬ ((ix3 (3 : Fin 4) r a) 0).val = 0 by simp [ix3]), if_neg (show ¬ ((ix3 (3 : Fin 4) r a) 0).val = 1 by simp [ix3]),
    if_neg (show ¬ ((ix3 (3 : Fin 4) r a) 0).val = 2 by simp [ix3])]
  pointwise [k0_pay83]

end Result

end Cert.AttnIdeal.Model

end
-- ==== Proof.Math.Window.lean ====
/- The host's sums over a window that runs along the last axis: sums of the elements up to, or from, an index. -/
module

public import Idealize.ShloMosaic.Lib.Pointwise
public import Idealize.ShloMosaic.PureOps.Ideal.Laws

@[expose] public section

noncomputable section

namespace Math

open Idealize.ShloMosaic Finset

theorem foldl_add {M ι : Type*} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- A window of the last axis' whole length, from `L` before the index on. -/
theorem window_last {A B C L U : ℕ} {u : Shape} (x : FVec Ideal ⟨3, ![A, B, C]⟩ .f32) (init : FVec Ideal u .f32)
    (h : (⟨3, ![A, B, C]⟩ : Shape).ReduceWindows ![1, 1, C] ![1, 1, 1] ![0, 0, L] ![0, 0, U] ⟨3, ![A, B, C]⟩) (hu : 0 < u.numel)
    (h0 : ∀ i, init i = 0) (a : Fin A) (b : Fin B) (c : Fin C) :
    Host.reduceWindowAdd ![1, 1, C] ![1, 1, 1] ![0, 0, L] ![0, 0, U] x init h hu (ix3 a b c)
      = ∑ w : Fin C, if hin : L ≤ c.val + w.val ∧ c.val + w.val - L < C then x (ix3 a b ⟨c.val + w.val - L, hin.2⟩) else 0 := by
  show Host.reduceWindow (· + ·) ![1, 1, C] ![1, 1, 1] ![0, 0, L] ![0, 0, U] x (fun _ : (⟨0, ![]⟩ : Shape).Idx => init (Shape.Idx.first hu)) h (by decide) (ix3 a b c) = _
  unfold Host.reduceWindow
  dsimp only
  rw [foldl_add, h0, zero_add, ← Fin.sum_univ_def]
  let t : Fin C → EReal := fun w => if hin : L ≤ c.val + w.val ∧ c.val + w.val - L < C then x (ix3 a b ⟨c.val + w.val - L, hin.2⟩) else 0
  refine Eq.trans (Finset.sum_congr rfl (g := fun n => t ((Shape.rowMajor (⟨3, ![1, 1, C]⟩ : Shape)).symm n 2)) fun n _ => ?_) ?_
  · let W := (Shape.rowMajor (⟨3, ![1, 1, C]⟩ : Shape)).symm n
    have z0 : (W 0).val = 0 := Nat.lt_one_iff.mp (W 0).isLt
    have z1 : (W 1).val = 0 := Nat.lt_one_iff.mp (W 1).isLt
    by_cases hin : L ≤ c.val + (W 2).val ∧ c.val + (W 2).val - L < C
    · refine Eq.trans ?_ (show t (W 2) = _ from dif_pos hin).symm
      rw [dif_pos]
      · refine congrArg x (funext fun e => Fin.ext ?_)
        match e with
        | 0 => show a.val * 1 + (W 0).val - 0 = a.val; omega
        | 1 => show b.val * 1 + (W 1).val - 0 = b.val; omega
        | 2 => show c.val * 1 + (W 2).val - L = c.val + (W 2).val - L; omega
      · intro e
        match e with
        | 0 => exact ⟨Nat.zero_le _, by show a.val * 1 + (W 0).val - 0 < A; have := a.isLt; omega⟩
        | 1 => exact ⟨Nat.zero_le _, by show b.val * 1 + (W 1).val - 0 < B; have := b.isLt; omega⟩
        | 2 => exact ⟨by show L ≤ c.val * 1 + (W 2).val; omega, by show c.val * 1 + (W 2).val - L < C; omega⟩
    · refine Eq.trans ?_ (show t (W 2) = _ from dif_neg hin).symm
      rw [dif_neg]
      intro hall
      have h2 : L ≤ c.val * 1 + (W 2).val ∧ c.val * 1 + (W 2).val - L < C := hall 2
      exact hin ⟨by omega, by omega⟩
  · rw [Equiv.sum_comp (Shape.rowMajor (⟨3, ![1, 1, C]⟩ : Shape)).symm (fun W : (⟨3, ![1, 1, C]⟩ : Shape).Idx => t (W 2))]
    symm
    refine Fintype.sum_bijective (fun w : Fin C => (ix3 0 0 w : (⟨3, ![1, 1, C]⟩ : Shape).Idx)) ⟨?_, ?_⟩ _ _ fun _ => rfl
    · intro p q e
      exact congrFun e 2
    · intro W
      refine ⟨W 2, ?_⟩
      rw [eq_ix3 W]
      exact congrArg₂ (fun p q => ix3 p q (W 2)) (Subsingleton.elim _ _) (Subsingleton.elim _ _)

/-- The sum from an index on. -/
theorem suffix_last {A B C U : ℕ} {u : Shape} (x : FVec Ideal ⟨3, ![A, B, C]⟩ .f32) (init : FVec Ideal u .f32)
    (h : (⟨3, ![A, B, C]⟩ : Shape).ReduceWindows ![1, 1, C] ![1, 1, 1] ![0, 0, 0] ![0, 0, U] ⟨3, ![A, B, C]⟩) (hu : 0 < u.numel)
    (h0 : ∀ i, init i = 0) (a : Fin A) (b : Fin B) (c : Fin C) (f : ℕ → EReal) (hf : ∀ k : Fin C, x (ix3 a b k) = f k.val) :
    Host.reduceWindowAdd ![1, 1, C] ![1, 1, 1] ![0, 0, 0] ![0, 0, U] x init h hu (ix3 a b c) = ∑ k ∈ Ico c.val C, f k := by
  rw [window_last x init h hu h0]
  have hc := c.isLt
  rw [Finset.sum_Ico_eq_sum_range, Finset.sum_congr rfl (fun w _ => show _ = if c.val + w.val < C then f (c.val + w.val) else 0 from ?_),
    Fin.sum_univ_eq_sum_range (fun w => if c.val + w < C then f (c.val + w) else 0) C, ← Finset.sum_filter]
  · refine Finset.sum_congr ?_ fun _ _ => rfl
    ext w
    simp only [mem_filter, mem_range]
    omega
  · by_cases hw : c.val + w.val < C
    · rw [dif_pos ⟨Nat.zero_le _, by omega⟩, if_pos hw, hf]; rfl
    · rw [dif_neg (fun e => hw (by have := e.2; omega)), if_neg hw]

/-- The sum up to an index. -/
theorem prefix_last {A B C L : ℕ} {u : Shape} (x : FVec Ideal ⟨3, ![A, B, C]⟩ .f32) (init : FVec Ideal u .f32)
    (h : (⟨3, ![A, B, C]⟩ : Shape).ReduceWindows ![1, 1, C] ![1, 1, 1] ![0, 0, L] ![0, 0, 0] ⟨3, ![A, B, C]⟩) (hu : 0 < u.numel)
    (h0 : ∀ i, init i = 0) (hL : L + 1 = C) (a : Fin A) (b : Fin B) (c : Fin C) (f : ℕ → EReal)
    (hf : ∀ k : Fin C, x (ix3 a b k) = f k.val) :
    Host.reduceWindowAdd ![1, 1, C] ![1, 1, 1] ![0, 0, L] ![0, 0, 0] x init h hu (ix3 a b c) = ∑ k ∈ range (c.val + 1), f k := by
  rw [window_last x init h hu h0]
  have hc := c.isLt
  rw [Finset.sum_congr rfl (fun w _ => show _ = if L ≤ c.val + w.val then f (c.val + w.val - L) else 0 from ?_),
    Fin.sum_univ_eq_sum_range (fun w => if L ≤ c.val + w then f (c.val + w - L) else 0) C, ← Finset.sum_filter]
  · refine Finset.sum_bij (fun w _ => c.val + w - L) ?_ ?_ ?_ ?_
    · intro w hw; simp only [mem_filter, mem_range] at hw ⊢; omega
    · intro w hw w' hw' e; simp only [mem_filter, mem_range] at hw hw'; omega
    · intro k hk; simp only [mem_range] at hk
      exact ⟨k + L - c.val, by simp only [mem_filter, mem_range]; omega, by omega⟩
    · intro w _; rfl
  · have := w.isLt
    by_cases hw : L ≤ c.val + w.val
    · rw [dif_pos ⟨hw, by omega⟩, if_pos hw, hf]
    · rw [dif_neg (fun e => hw e.1), if_neg hw]

/-- A window of the second of four axes, of that axis' whole length, from the index on: the sum from the index on. -/
theorem suffix_second {A B C D U : ℕ} {u : Shape} (x : FVec Ideal ⟨4, ![A, B, C, D]⟩ .f32) (init : FVec Ideal u .f32)
    (h : (⟨4, ![A, B, C, D]⟩ : Shape).ReduceWindows ![1, B, 1, 1] ![1, 1, 1, 1] ![0, 0, 0, 0] ![0, U, 0, 0] ⟨4, ![A, B, C, D]⟩) (hu : 0 < u.numel)
    (h0 : ∀ i, init i = 0) (a : Fin A) (b : Fin B) (c : Fin C) (d : Fin D) (f : ℕ → EReal) (hf : ∀ k : Fin B, x (ix4 a k c d) = f k.val) :
    Host.reduceWindowAdd ![1, B, 1, 1] ![1, 1, 1, 1] ![0, 0, 0, 0] ![0, U, 0, 0] x init h hu (ix4 a b c d) = ∑ k ∈ Ico b.val B, f k := by
  show Host.reduceWindow (· + ·) ![1, B, 1, 1] ![1, 1, 1, 1] ![0, 0, 0, 0] ![0, U, 0, 0] x (fun _ : (⟨0, ![]⟩ : Shape).Idx => init (Shape.Idx.first hu)) h (by decide) (ix4 a b c d) = _
  unfold Host.reduceWindow
  dsimp only
  rw [foldl_add, h0, zero_add, ← Fin.sum_univ_def]
  let t : Fin B → EReal := fun w => if b.val + w.val < B then f (b.val + w.val) else 0
  refine Eq.trans (Finset.sum_congr rfl (g := fun n => t ((Shape.rowMajor (⟨4, ![1, B, 1, 1]⟩ : Shape)).symm n 1)) fun n _ => ?_) ?_
  · let W := (Shape.rowMajor (⟨4, ![1, B, 1, 1]⟩ : Shape)).symm n
    have z0 : (W 0).val = 0 := Nat.lt_one_iff.mp (W 0).isLt
    have z2 : (W 2).val = 0 := Nat.lt_one_iff.mp (W 2).isLt
    have z3 : (W 3).val = 0 := Nat.lt_one_iff.mp (W 3).isLt
    by_cases hin : b.val + (W 1).val < B
    · refine Eq.trans ?_ (show t (W 1) = _ from if_pos hin).symm
      rw [dif_pos, ← hf ⟨b.val + (W 1).val, hin⟩]
      · refine congrArg x (funext fun e => Fin.ext ?_)
        match e with
        | 0 => show a.val * 1 + (W 0).val - 0 = a.val; omega
        | 1 => show b.val * 1 + (W 1).val - 0 = b.val + (W 1).val; omega
        | 2 => show c.val * 1 + (W 2).val - 0 = c.val; omega
        | 3 => show d.val * 1 + (W 3).val - 0 = d.val; omega
      · intro e
        match e with
        | 0 => exact ⟨Nat.zero_le _, by show a.val * 1 + (W 0).val - 0 < A; have := a.isLt; omega⟩
        | 1 => exact ⟨Nat.zero_le _, by show b.val * 1 + (W 1).val - 0 < B; omega⟩
        | 2 => exact ⟨Nat.zero_le _, by show c.val * 1 + (W 2).val - 0 < C; have := c.isLt; omega⟩
        | 3 => exact ⟨Nat.zero_le _, by show d.val * 1 + (W 3).val - 0 < D; have := d.isLt; omega⟩
    · refine Eq.trans ?_ (show t (W 1) = _ from if_neg hin).symm
      rw [dif_neg]
      intro hall
      have h2 : 0 ≤ b.val * 1 + (W 1).val ∧ b.val * 1 + (W 1).val - 0 < B := hall 1
      exact hin (by omega)
  · rw [Equiv.sum_comp (Shape.rowMajor (⟨4, ![1, B, 1, 1]⟩ : Shape)).symm (fun W : (⟨4, ![1, B, 1, 1]⟩ : Shape).Idx => t (W 1))]
    refine Eq.trans (b := ∑ w, t w) ?_ ?_
    · symm
      refine Fintype.sum_bijective (fun w : Fin B => (ix4 0 w 0 0 : (⟨4, ![1, B, 1, 1]⟩ : Shape).Idx)) ⟨?_, ?_⟩ _ _ fun _ => rfl
      · intro p q e
        exact congrFun e 1
      · intro W
        refine ⟨W 1, ?_⟩
        rw [eq_ix4 W]
        exact congr (congr (congrArg (fun p => ix4 p (W 1)) (Subsingleton.elim _ _)) (Subsingleton.elim _ _)) (Subsingleton.elim _ _)
    · rw [Finset.sum_Ico_eq_sum_range]
      show ∑ w : Fin B, (if b.val + w.val < B then f (b.val + w.val) else 0) = _
      rw [Fin.sum_univ_eq_sum_range (fun w => if b.val + w < B then f (b.val + w) else 0) B, ← Finset.sum_filter]
      refine Finset.sum_congr ?_ fun _ _ => rfl
      ext w
      simp only [mem_filter, mem_range]
      omega

end Math

end
-- ==== Proof.Attn.RefOps.lean ====
/- The reference's arrays, over real arguments: each is its real counterpart. -/
module

public import proofs.«01_k».proof.Proof.Gen.RefAttnIdeal
public import proofs.«01_k».proof.Proof.Gen.RefAttnIdeal.Read
public import proofs.«01_k».proof.Proof.Attn.Result
public import proofs.«01_k».proof.Proof.Math.Finite
public import proofs.«01_k».proof.Proof.Math.Window

@[expose] public section

set_option maxRecDepth 16384

noncomputable section

namespace Cert.RefAttnIdeal.Val

open Idealize.ShloMosaic Idealize.ShloMosaic.TcCoe Idealize.SL.Sem Cert.RefAttnIdeal Cert.RefAttnIdeal.Gen Cert.RefAttnIdeal.Read Math Finset
open Cert.AttnIdeal.Model (Head)
open Cert.AttnIdeal

/-- An array's entry as a real number. -/
def entry {n m : ℕ} (x : FVec Ideal ⟨2, ![n, m]⟩ .f32) (i j : ℕ) : ℝ :=
  if h : i < n ∧ j < m then (x (ix2 ⟨i, h.1⟩ ⟨j, h.2⟩)).toReal else 0

theorem entry_eq {n m : ℕ} {x : FVec Ideal ⟨2, ![n, m]⟩ .f32} (r : ∀ i, IsReal (x i)) {i : Fin n} {j : Fin m} {a b : ℕ}
    (hi : i.val = a) (hj : j.val = b) : x (ix2 i j) = ((entry x a b : ℝ) : EReal) := by
  subst hi hj
  obtain ⟨w, hw⟩ := r (ix2 i j)
  unfold entry
  rw [dif_pos ⟨i.isLt, j.isLt⟩]
  show x (ix2 i j) = ((x (ix2 i j)).toReal : EReal)
  rw [hw, EReal.toReal_coe]

/-- The head of the arguments that `h` names. -/
def headOf (x0 : FVec Ideal S4096x3072 .f32) (x1 : FVec Ideal S4096x1024 .f32) (h : ℕ) : Head where
  q i l := entry x0 i (128 * h + l.val)
  d i l := entry x1 i (128 * h + l.val)
  key i l := entry x0 i (1024 + (128 * h + l.val))
  val i l := entry x0 i (2048 + (128 * h + l.val))

/-- The softplus of a real number, as the host writes it. -/
theorem host_soft {v : EReal} {w : ℝ} (hv : v = (w : EReal)) :
    (if v ≠ v then v else max v 0 + Ideal.log1p (Ideal.exp (-FloatOps.absf (F := Ideal) (φ := .f32) v))) = ((Row.soft w : ℝ) : EReal) := by
  subst hv
  rw [if_neg (fun e => e rfl)]
  have ha : FloatOps.absf (F := Ideal) (φ := .f32) (w : EReal) = ((|w| : ℝ) : EReal) := by
    show max _ (-_) = _
    rw [← EReal.coe_neg, ← coe_max, ← abs_eq_max_neg]
  have hp := Real.exp_pos (-|w|)
  rw [ha, ← EReal.coe_neg, Ideal.exp_coe]
  show _ + Ideal.log (1 + _) = _
  rw [← EReal.coe_one, ← EReal.coe_add, Ideal.log_coe, if_neg (not_le.mpr (by positivity)), ← EReal.coe_zero, ← coe_max, ← EReal.coe_add,
    Row.soft_pos_form]

/-- The exponential of a difference of real numbers, behind the host's tests for infinities. -/
theorem host_rate {v u : EReal} {w t : ℝ} (hv : v = (w : EReal)) (hu : u = (t : EReal)) :
    Ideal.exp ((if v = Ideal.ofBits .f32 0x7F800000#32 then 0 else v) - if u = Ideal.ofBits .f32 0x7F800000#32 then 0 else u)
      = ((Real.exp (w - t) : ℝ) : EReal) := by
  subst hv hu
  rw [lit_inf, if_neg (EReal.coe_ne_top _), if_neg (EReal.coe_ne_top _), ← EReal.coe_sub, Ideal.exp_coe]

theorem soft_neg (x : ℝ) : Row.soft (-x) = Row.soft x - x := by
  have h := Row.soft_pos_form x
  have h' := Row.soft_pos_form (-x)
  rw [abs_neg] at h'
  have hm : max (-x) 0 = max x 0 - x := by
    rcases le_total x 0 with e | e
    · rw [max_eq_left (by linarith), max_eq_right e]; ring
    · rw [max_eq_right (by linarith), max_eq_left e]; ring
  rw [← h, ← h', hm]; ring

theorem rates_sum (x : ℝ) : Real.exp (x - Row.soft x) + Real.exp (-x - Row.soft (-x)) = 1 := by
  have hp : (0 : ℝ) < 1 + Real.exp x := by positivity
  rw [soft_neg, show -x - (Row.soft x - x) = -Row.soft x by ring, Real.exp_sub, Real.exp_neg]
  unfold Row.soft
  rw [Real.exp_log hp]
  field_simp
  ring

section Arrays

variable {x0 : FVec Ideal S4096x3072 .f32} {x1 x2 : FVec Ideal S4096x1024 .f32} (h : Fin 8) (i k : Fin 4096) (l : Fin 128)

theorem before (i k : Fin 4096) : IntOp.cmpi .slt (BitVec.ofNat 32 k.val) (BitVec.ofNat 32 i.val) = BitVec.ofBool (decide (k.val < i.val)) :=
  WordCmp.cmpi_slt_ofNat (by have := k.isLt; omega) (by have := i.isLt; omega)

theorem pick (p : Prop) [Decidable p] {α : Type} (a b : α) : Scalar.select (BitVec.ofBool (decide p)) a b = if p then a else b := by
  by_cases hp : p
  · rw [if_pos hp, decide_eq_true hp]; rfl
  · rw [if_neg hp, decide_eq_false hp]; rfl

theorem nought : id (constant (F := Ideal) S_ .f32 0#32) ix0 = 0 := by
  show constant (F := Ideal) S_ .f32 0#32 ix0 = 0
  pointwise

variable (r0 : ∀ i, IsReal (x0 i)) (r1 : ∀ i, IsReal (x1 i))

include r0 in
theorem v3_at : val_main_v3 (F := Ideal) x0 (ix3 i h l) = (((headOf x0 x1 h).q i l : ℝ) : EReal) := by
  pointwise [val_main_v3, val_main_v0]
  exact entry_eq r0 rfl (by show _ = _; dsimp only; omega)

include r0 in
theorem v4_at : val_main_v4 (F := Ideal) x0 (ix3 i h l) = (((headOf x0 x1 h).key i l : ℝ) : EReal) := by
  pointwise [val_main_v4, val_main_v1]
  exact entry_eq r0 rfl (by show _ = _; dsimp only; omega)

include r0 in
theorem v5_at : val_main_v5 (F := Ideal) x0 (ix3 i h l) = (((headOf x0 x1 h).val i l : ℝ) : EReal) := by
  pointwise [val_main_v5, val_main_v2]
  exact entry_eq r0 rfl (by show _ = _; dsimp only; omega)

include r1 in
theorem v28_at : val_main_v28 (F := Ideal) x1 (ix3 i h l) = (((headOf x0 x1 h).d i l : ℝ) : EReal) := by
  pointwise [val_main_v28]
  exact entry_eq r1 rfl (by show _ = _; dsimp only; omega)

include r0 in
theorem v8_at : val_main_v8 (F := Ideal) x0 (ix3 h i k) = (((headOf x0 x1 h).z i k : ℝ) : EReal) := by
  have e : val_main_v8 (F := Ideal) x0 (ix3 h i k)
      = (∑ l, val_main_v3 (F := Ideal) x0 (ix3 i h l) * val_main_v4 (F := Ideal) x0 (ix3 k h l)) * Ideal.ofBits .f32 0x3DB504F3#32 := by
    pointwise [val_main_v8, val_main_v7, val_main_cst, val_main_v6]
  rw [e, Model.lit_unit]
  simp only [v3_at (x1 := x1) h _ _ r0, v4_at (x1 := x1) h _ _ r0, ← EReal.coe_mul, ← up_sum]
  rfl

include r0 r1 in
theorem v30_at : val_main_v30 (F := Ideal) x0 x1 (ix3 h i k) = (((headOf x0 x1 h).g i k : ℝ) : EReal) := by
  have e : val_main_v30 (F := Ideal) x0 x1 (ix3 h i k)
      = ∑ l, val_main_v28 (F := Ideal) x1 (ix3 i h l) * val_main_v5 (F := Ideal) x0 (ix3 k h l) := by
    pointwise [val_main_v30, val_main_v29]
  rw [e]
  simp only [v28_at (x0 := x0) h _ _ r1, v5_at (x1 := x1) h _ _ r0, ← EReal.coe_mul, ← up_sum]
  rfl

include r0 in
theorem call0_at : val_main_call0_v1_0 (F := Ideal) x0 (ix3 h i k) = ((Row.soft ((headOf x0 x1 h).z i k) : ℝ) : EReal) := by
  pointwise [val_main_call0_v1_0, val_main_call0_call0_v4, val_main_call0_call0_v3, val_main_call0_call0_v6, val_main_call0_call0_v11, val_main_call0_call0_v10, val_main_call0_call0_v9, val_main_call0_call0_v8, val_main_call0_call0_v7, val_main_call0_call0_v1, val_main_call0_call0_v0, val_main_call0_call0_cst, val_main_call0_call0_v2, val_main_call0_call0_v5, val_main_call0_v0, val_main_v16]
  exact host_soft (by rw [v8_at (x1 := x1) h i k r0, neg_neg])

include r0 in
theorem call3_at : val_main_call3_v1_0 (F := Ideal) x0 (ix3 h i k) = ((Row.soft (-(headOf x0 x1 h).z i k) : ℝ) : EReal) := by
  pointwise [val_main_call3_v1_0, val_main_call3_call0_v4, val_main_call3_call0_v3, val_main_call3_call0_v6, val_main_call3_call0_v11, val_main_call3_call0_v10, val_main_call3_call0_v9, val_main_call3_call0_v8, val_main_call3_call0_v7, val_main_call3_call0_v1, val_main_call3_call0_v0, val_main_call3_call0_cst, val_main_call3_call0_v2, val_main_call3_call0_v5, val_main_call3_v0]
  exact host_soft (by rw [v8_at (x1 := x1) h i k r0, EReal.coe_neg])

include r0 in
theorem v17_at : val_main_v17_1 (F := Ideal) x0 (ix3 h i k)
    = ((Real.exp ((headOf x0 x1 h).z i k - Row.soft ((headOf x0 x1 h).z i k)) : ℝ) : EReal) := by
  pointwise [val_main_v17_1, val_main_call0_call0_v21, val_main_call0_call0_v20, val_main_call0_call0_v16, val_main_call0_call0_v14, val_main_call0_call0_v15, val_main_call0_call0_v18, val_main_call0_call0_v19, val_main_call0_call0_v13, val_main_call0_call0_v17, val_main_call0_call0_cst_0, val_main_call0_call0_cst_1, val_main_call0_call0_cst_2, val_main_call0_call0_cst_3, val_main_call0_v0, val_main_v16]
  exact host_rate (by rw [v8_at (x1 := x1) h i k r0, neg_neg]) (call0_at (x1 := x1) h i k r0)

include r0 in
theorem v21_at : val_main_v21_1 (F := Ideal) x0 (ix3 h i k)
    = ((Real.exp (-(headOf x0 x1 h).z i k - Row.soft (-(headOf x0 x1 h).z i k)) : ℝ) : EReal) := by
  pointwise [val_main_v21_1, val_main_call3_call0_v21, val_main_call3_call0_v20, val_main_call3_call0_v16, val_main_call3_call0_v14, val_main_call3_call0_v15, val_main_call3_call0_v18, val_main_call3_call0_v19, val_main_call3_call0_v13, val_main_call3_call0_v17, val_main_call3_call0_cst_0, val_main_call3_call0_cst_1, val_main_call3_call0_cst_2, val_main_call3_call0_cst_3, val_main_call3_v0]
  exact host_rate (by rw [v8_at (x1 := x1) h i k r0, EReal.coe_neg]) (call3_at (x1 := x1) h i k r0)

include r0 in
theorem v18_at : val_main_v18_0 (F := Ideal) x0 (ix3 h i k) = ((-(headOf x0 x1 h).softs i k : ℝ) : EReal) := by
  pointwise [val_main_v18_0, val_main_v18_1, val_main_v17_0, val_main_call1_v2, val_main_call1_v0, val_main_cst_0, val_main_v15, val_main_v14, val_main_v13, val_main_v12, val_main_v11, val_main_v10, val_main_v9]
  rw [before, pick, call0_at (x1 := x1) h i k r0, nought]
  unfold Head.softs Row.softs
  split
  · rw [EReal.coe_neg]
  · rw [neg_zero, EReal.coe_zero]

include r0 in
theorem v19_at : val_main_v19 (F := Ideal) x0 (ix3 h i k) = ((∑ x ∈ Ico k.val 4096, -(headOf x0 x1 h).softs i x : ℝ) : EReal) := by
  rw [up_sum]
  refine suffix_last _ _ _ _ (fun j => ?_) h i k (fun x => ((-(headOf x0 x1 h).softs i x : ℝ) : EReal)) fun x => v18_at (x1 := x1) h i x r0
  pointwise [val_main_call2_v0, val_main_call2_cst]

include r0 in
theorem v23_at : val_main_v23 (F := Ideal) x0 (ix3 h i k)
    = ((Real.exp ((headOf x0 x1 h).z i k - Row.soft ((headOf x0 x1 h).z i k)
        - (∑ x ∈ Ico k.val 4096, (headOf x0 x1 h).softs i x - (headOf x0 x1 h).softs i k)) : ℝ) : EReal) := by
  pointwise [val_main_v23, val_main_v22, val_main_v21_0, val_main_v20]
  rw [call3_at (x1 := x1) h i k r0, v19_at (x1 := x1) h i k r0, v18_at (x1 := x1) h i k r0, ← EReal.coe_neg, ← EReal.coe_sub, ← EReal.coe_add,
    Ideal.exp_coe, soft_neg, sum_neg_distrib]
  congr 2
  ring

include r0 in
theorem v24_at : val_main_v24_0 (F := Ideal) x0 (ix3 h i k) = (((headOf x0 x1 h).weight i k : ℝ) : EReal) := by
  pointwise [val_main_v24_0, val_main_v24_1, val_main_call4_v2, val_main_call4_v0, val_main_cst_1, val_main_v15, val_main_v14, val_main_v13, val_main_v12, val_main_v11, val_main_v10, val_main_v9]
  rw [before, pick, v23_at (x1 := x1) h i k r0, nought]
  unfold Head.weight Row.weight Head.softs
  split
  · rename_i hk
    congr 2
    rw [show Row.softs i ((headOf x0 x1 h).z i) k = Row.soft ((headOf x0 x1 h).z i k) from if_pos hk]
    ring
  · rw [EReal.coe_zero]

include r0 r1 in
theorem v34_at : val_main_v34 (F := Ideal) x0 x1 (ix3 h i k) = (((headOf x0 x1 h).pull i k : ℝ) : EReal) := by
  have hw := v24_at (x1 := x1) h i k r0
  pointwise [val_main_v24_0, val_main_v24_1, val_main_call4_v2, val_main_call4_v0, val_main_cst_1, val_main_v15, val_main_v14, val_main_v13, val_main_v12, val_main_v11, val_main_v10, val_main_v9] at hw
  pointwise [val_main_v34, val_main_v33, val_main_v24_1, val_main_call5_v0, val_main_call5_cst, val_main_v15, val_main_v14, val_main_v13, val_main_v12, val_main_v11, val_main_v10, val_main_v9]
  rw [before, pick, nought] at hw
  rw [before, pick, v30_at h i k r0 r1]
  unfold Head.pull Row.pull
  rw [EReal.coe_mul, show Row.weight i ((headOf x0 x1 h).z i) k = (headOf x0 x1 h).weight i k from rfl, ← hw]
  split
  · rw [mul_comm]
  · rw [zero_mul]

include r0 r1 in
theorem v37_at : val_main_v37 (F := Ideal) x0 x1 (ix3 h i k) = ((∑ x ∈ range (k.val + 1), (headOf x0 x1 h).pull i x : ℝ) : EReal) := by
  rw [up_sum]
  refine prefix_last _ _ _ _ (fun j => ?_) rfl h i k (fun x => (((headOf x0 x1 h).pull i x : ℝ) : EReal)) fun x => v34_at h i x r0 r1
  pointwise [val_main_call7_v0, val_main_call7_cst]

include r0 r1 in
theorem v44_at : val_main_v44 (F := Ideal) x0 x1 (ix3 h i k) = (((headOf x0 x1 h).grad i k : ℝ) : EReal) := by
  pointwise [val_main_v44, val_main_v43, val_main_cst_2, val_main_v42, val_main_v41, val_main_v40, val_main_call9_v1, val_main_call9_v0,
    val_main_v39, val_main_call8_v0, val_main_call8_cst, val_main_v38, val_main_v36, val_main_v35, val_main_call6_v1, val_main_call6_v0, val_main_v18_1, val_main_v15, val_main_v14, val_main_v13, val_main_v12, val_main_v11, val_main_v10, val_main_v9]
  rw [before, pick, Model.lit_unit, v34_at h i k r0 r1, v37_at h i k r0 r1, v17_at (x1 := x1) h i k r0, v21_at (x1 := x1) h i k r0]
  have hs := rates_sum ((headOf x0 x1 h).z i k)
  by_cases hk : k.val < i.val
  · rw [if_pos hk]
    simp only [← EReal.coe_neg, ← EReal.coe_add, ← EReal.coe_mul]
    congr 1
    unfold Head.grad Row.grad
    unfold Head.pull
    rw [if_pos hk, eq_sub_of_add_eq' hs]
    ring
  · rw [if_neg hk, show (headOf x0 x1 h).pull i k = 0 from Row.pull_of_le _ _ _ (not_lt.mp hk)]
    unfold Head.grad Row.grad
    rw [if_neg hk]
    simp

/-- Lane `l` of head `h` in a row of all heads. -/
def across (h : Fin 8) (l : Fin 128) : Fin 1024 := ⟨128 * h.val + l.val, by have := h.isLt; have := l.isLt; omega⟩

/-- A row of all heads reads the head's lane. -/
theorem heads_at (y : FVec Ideal S4096x8x128 .f32) (hs : S4096x8x128.ShapeCasts S4096x1024) :
    shapeCast S4096x1024 y hs (ix2 i (across h l)) = y (ix3 i h l) := by
  pointwise
  have hh := h.isLt
  have hl := l.isLt
  exact congrArg y (congrArg₂ (ix3 i) (Fin.ext (by show (128 * h.val + l.val) / 128 = h.val; omega))
    (Fin.ext (by show (128 * h.val + l.val) % 128 = l.val; omega)))

include r0 in
theorem v27_at : val_main_v27 (F := Ideal) x0 (ix2 i (across h l)) = (((headOf x0 x1 h).o i l : ℝ) : EReal) := by
  have e : val_main_v26 (F := Ideal) x0 (ix3 i h l)
      = ∑ k, val_main_v5 (F := Ideal) x0 (ix3 k h l) * val_main_v24_0 (F := Ideal) x0 (ix3 h i k) := by
    pointwise [val_main_v26, val_main_v25]
  unfold val_main_v27
  rw [heads_at, e]
  simp only [v24_at (x1 := x1) h _ _ r0, v5_at (x1 := x1) h _ _ r0, ← EReal.coe_mul, ← up_sum]
  unfold Head.o
  rw [← Fin.sum_univ_eq_sum_range (fun k => (headOf x0 x1 h).weight i k * (headOf x0 x1 h).val k l)]
  simp only [mul_comm]

include r0 r1 in
theorem v49_at : val_main_v49 (F := Ideal) x0 x1 (ix2 i (across h l)) = (((headOf x0 x1 h).dv i l : ℝ) : EReal) := by
  have e : val_main_v32 (F := Ideal) x0 x1 (ix3 i h l)
      = ∑ k, val_main_v28 (F := Ideal) x1 (ix3 k h l) * val_main_v24_0 (F := Ideal) x0 (ix3 h k i) := by
    pointwise [val_main_v32, val_main_v31, val_main_v29]
  unfold val_main_v49
  rw [heads_at, e]
  simp only [v24_at (x1 := x1) h _ _ r0, v28_at (x0 := x0) h _ _ r1, ← EReal.coe_mul, ← up_sum]
  unfold Head.dv
  rw [← Fin.sum_univ_eq_sum_range (fun k => (headOf x0 x1 h).d k l * (headOf x0 x1 h).weight k i)]

include r0 r1 in
theorem v50_at : val_main_v50 (F := Ideal) x0 x1 (ix2 i (across h l)) = (((headOf x0 x1 h).dk i l : ℝ) : EReal) := by
  have e : val_main_v46 (F := Ideal) x0 x1 (ix3 i h l)
      = ∑ k, val_main_v44 (F := Ideal) x0 x1 (ix3 h k i) * val_main_v3 (F := Ideal) x0 (ix3 k h l) := by
    pointwise [val_main_v46, val_main_v45]
  unfold val_main_v50
  rw [heads_at, e]
  simp only [v44_at h _ _ r0 r1, v3_at (x1 := x1) h _ _ r0, ← EReal.coe_mul, ← up_sum]
  unfold Head.dk
  rw [← Fin.sum_univ_eq_sum_range (fun k => (headOf x0 x1 h).q k l * (headOf x0 x1 h).grad k i)]
  simp only [mul_comm]

include r0 r1 in
theorem v51_at : val_main_v51 (F := Ideal) x0 x1 (ix2 i (across h l)) = (((headOf x0 x1 h).dq i l : ℝ) : EReal) := by
  have e : val_main_v48 (F := Ideal) x0 x1 (ix3 i h l)
      = ∑ k, val_main_v44 (F := Ideal) x0 x1 (ix3 h i k) * val_main_v4 (F := Ideal) x0 (ix3 k h l) := by
    pointwise [val_main_v48, val_main_v47]
  unfold val_main_v51
  rw [heads_at, e]
  simp only [v44_at h _ _ r0 r1, v4_at (x1 := x1) h _ _ r0, ← EReal.coe_mul, ← up_sum]
  unfold Head.dq
  rw [← Fin.sum_univ_eq_sum_range (fun k => (headOf x0 x1 h).grad i k * (headOf x0 x1 h).key k l)]

/-- The four results, one above the other. -/
theorem v61_at (s : Fin 4) (a : Fin 1024) : val_main_v61 (F := Ideal) x0 x1 x2 (ix3 s i a)
    = if s.val = 0 then val_main_v51 (F := Ideal) x0 x1 (ix2 i a) else if s.val = 1 then val_main_v50 (F := Ideal) x0 x1 (ix2 i a)
      else if s.val = 2 then val_main_v49 (F := Ideal) x0 x1 (ix2 i a) else x2 (ix2 i a) := by
  pointwise [val_main_v61, val_main_v60, val_main_v59, val_main_v58, val_main_v57, val_main_v56, val_main_v55, val_main_v54, val_main_v53,
    val_main_v52]
  have hs := s.isLt
  have ha := a.isLt
  by_cases h0 : s.val = 0
  · rw [dif_pos (by omega), if_pos h0]
  rw [dif_neg (by omega), if_neg h0]
  by_cases h1 : s.val = 1
  · rw [dif_pos (by omega), if_pos h1]
  rw [dif_neg (by omega), if_neg h1]
  by_cases h2 : s.val = 2
  · rw [dif_pos (by omega), if_pos h2, dif_neg (by omega), dif_neg (by omega)]
    exact congrArg (fun b => val_main_v49 (F := Ideal) x0 x1 (ix2 i b)) (Fin.ext (by show 2048 + a.val - 1024 - 1024 = a.val; omega))
  · rw [dif_neg (by omega), if_neg h2]

end Arrays

end Cert.RefAttnIdeal.Val

end
-- ==== Proof.Attn.Equal.lean ====
/- What the kernel leaves is the reference's array. -/
module

public import proofs.«01_k».proof.Proof.Attn.Host
public import proofs.«01_k».proof.Proof.Attn.RefOps
public import proofs.«01_k».proof.Proof.Gen.Pre_finite_attn
public import Idealize.ShloMosaic.Lib.Pipeline.ValueKit

@[expose] public section

set_option maxRecDepth 16384

noncomputable section

namespace Cert.AttnIdeal.Run

open Idealize.ShloMosaic Idealize.ShloMosaic.TcCoe Idealize.SL.Sem Cert.AttnIdeal Cert.AttnIdeal.Gen Cert.AttnIdeal.Model Math Finset
open Cert.RefAttnIdeal.Val (headOf entry entry_eq across)

instance : Subsingleton Cert.Pre_finite_attn.S_.Idx := ⟨fun _ _ => funext fun a => a.elim0⟩

/-- The precondition says that the two arguments the gradients read are real. -/
theorem pre_real [Cert.Pre_finite_attn.Facts] (X : FVec Ideal S4096x3072 .f32) (D : FVec Ideal S4096x1024 .f32)
    (P : FVec Ideal S4096x1024 .f32) (h : Cert.Pre_finite_attn.fn (F := Ideal) X D P = fun _ => 1#1) :
    (∀ i, IsReal (X i)) ∧ ∀ i, IsReal (D i) := by
  have h0 := congrFun h (fun a => a.elim0)
  dsimp only [Cert.Pre_finite_attn.fn] at h0
  obtain ⟨e1, e2⟩ := andi_one h0
  exact ⟨real_of_all X _ _ _ _ _ e1, real_of_all D _ _ _ _ _ e2⟩

variable (m : (ℓ : Loc nD τ sig) → Buf (Elt Ideal) ℓ) (c : Dev nD)

/-- Which blocks a point reads and writes. -/
theorem idx : ∀ t : Fin (cfg0 (F := Ideal)).N, win0_0.index t = ![0, t.val] ∧ win0_1.index t = ![0, t.val + 4] ∧ win0_2.index t = ![0, t.val + 8]
    ∧ win0_3.index t = ![0, t.val] ∧ win0_4.index t = ![0, t.val] ∧ win0_5.index t = ![0, t.val] ∧ win0_6.index t = ![0, 0, t.val]
    ∧ t.val < 4 :=
  (by decide +kernel : ∀ t : Fin grid0.N, _)

/-- Lane `a` of the block of columns that begins at column `256 n`. -/
def colG {w : ℕ} (n : ℕ) (hn : 256 * n + 256 ≤ w) (a : Fin 256) : Fin w := ⟨256 * n + a.val, by have := a.isLt; omega⟩

theorem blk0_at (t : Fin (cfg0 (F := Ideal)).N) (r : Fin 4096) (a : Fin 256) :
    (show FVec Ideal S4096x256 .bf16 from blockAt m c 0 t) (ix2 r a)
      = argQkv m c (ix2 r (colG t.val (by have := (idx t).2.2.2.2.2.2.2; omega) a)) := by
  show _ = (show FVec Ideal S4096x3072 .bf16 from V m c main_v28) _
  blk_ext [blockAt, colG, idx t]

theorem blk1_at (t : Fin (cfg0 (F := Ideal)).N) (r : Fin 4096) (a : Fin 256) :
    (show FVec Ideal S4096x256 .bf16 from blockAt m c 1 t) (ix2 r a)
      = argQkv m c (ix2 r (colG (t.val + 4) (by have := (idx t).2.2.2.2.2.2.2; omega) a)) := by
  show _ = (show FVec Ideal S4096x3072 .bf16 from V m c main_v28) _
  blk_ext [blockAt, colG, idx t]

theorem blk2_at (t : Fin (cfg0 (F := Ideal)).N) (r : Fin 4096) (a : Fin 256) :
    (show FVec Ideal S4096x256 .bf16 from blockAt m c 2 t) (ix2 r a)
      = argQkv m c (ix2 r (colG (t.val + 8) (by have := (idx t).2.2.2.2.2.2.2; omega) a)) := by
  show _ = (show FVec Ideal S4096x3072 .bf16 from V m c main_v28) _
  blk_ext [blockAt, colG, idx t]

theorem blk3_at (t : Fin (cfg0 (F := Ideal)).N) (r : Fin 4096) (a : Fin 256) :
    (show FVec Ideal S4096x256 .bf16 from blockAt m c 3 t) (ix2 r a)
      = argDo m c (ix2 r (colG t.val (by have := (idx t).2.2.2.2.2.2.2; omega) a)) := by
  show _ = (show FVec Ideal S4096x1024 .bf16 from V m c main_v29) _
  blk_ext [blockAt, colG, idx t]

theorem blk4_at (t : Fin (cfg0 (F := Ideal)).N) (r : Fin 4096) (a : Fin 256) :
    (show FVec Ideal S4096x256 .f32 from blockAt m c 4 t) (ix2 r a)
      = Cert.RefAttnIdeal.Read.val_main_v27 (F := Ideal) (argQkv m c) (ix2 r (colG t.val (by have := (idx t).2.2.2.2.2.2.2; omega) a)) := by
  rw [← host_o]
  show _ = (show FVec Ideal S4096x1024 .f32 from V m c main_v27) _
  blk_ext [blockAt, colG, idx t]

theorem blk5_at (t : Fin (cfg0 (F := Ideal)).N) (r : Fin 4096) (a : Fin 256) :
    (show FVec Ideal S4096x256 .bf16 from blockAt m c 5 t) (ix2 r a)
      = argPool m c (ix2 r (colG t.val (by have := (idx t).2.2.2.2.2.2.2; omega) a)) := by
  show _ = (show FVec Ideal S4096x1024 .bf16 from V m c main_v30) _
  blk_ext [blockAt, colG, idx t]

/-- The head of all heads that head `h` of a point is. -/
def headG (t : Fin (cfg0 (F := Ideal)).N) (h : Fin 2) : Fin 8 := ⟨2 * t.val + h.val, by have := (idx t).2.2.2.2.2.2.2; have := h.isLt; omega⟩

theorem across_lane (t : Fin (cfg0 (F := Ideal)).N) (h : Fin 2) (l : Fin 128) :
    colG t.val (by have := (idx t).2.2.2.2.2.2.2; omega) (lane h l) = across (headG t h) l :=
  Fin.ext (by show 256 * t.val + (128 * h.val + l.val) = 128 * (2 * t.val + h.val) + l.val; omega)

section Real

variable {m c} (r0 : ∀ i, IsReal (argQkv m c i)) (r1 : ∀ i, IsReal (argDo m c i))

include r0 r1

/-- A point's blocks are those of its two heads. -/
theorem reads (t : Fin (cfg0 (F := Ideal)).N) : Reads (fun h => headOf (argQkv m c) (argDo m c) (headG t h))
    (blockAt m c 0 t) (blockAt m c 1 t) (blockAt m c 2 t) (blockAt m c 3 t) (blockAt m c 4 t) where
  q r h l := (blk0_at m c t r (lane h l)).trans
    (entry_eq r0 rfl (by show 256 * t.val + (128 * h.val + l.val) = 128 * (2 * t.val + h.val) + l.val; omega))
  k r h l := (blk1_at m c t r (lane h l)).trans
    (entry_eq r0 rfl (by show 256 * (t.val + 4) + (128 * h.val + l.val) = 1024 + (128 * (2 * t.val + h.val) + l.val); omega))
  v r h l := (blk2_at m c t r (lane h l)).trans
    (entry_eq r0 rfl (by show 256 * (t.val + 8) + (128 * h.val + l.val) = 2048 + (128 * (2 * t.val + h.val) + l.val); omega))
  d r h l := (blk3_at m c t r (lane h l)).trans
    (entry_eq r1 rfl (by show 256 * t.val + (128 * h.val + l.val) = 128 * (2 * t.val + h.val) + l.val; omega))
  o r h l := (blk4_at m c t r (lane h l)).trans
    ((congrArg (fun j => Cert.RefAttnIdeal.Read.val_main_v27 (F := Ideal) (argQkv m c) (ix2 r j)) (across_lane t h l)).trans
      (Cert.RefAttnIdeal.Val.v27_at (x1 := argDo m c) (headG t h) r l r0))

theorem out_at (t : Fin (cfg0 (F := Ideal)).N) (s : Fin 4) (r : Fin 4096) (h : Fin 2) (l : Fin 128) : outAt m c t (ix3 s r (lane h l))
    = Cert.RefAttnIdeal.Read.val_main_v61 (F := Ideal) (argQkv m c) (argDo m c) (argPool m c) (ix3 s r (across (headG t h) l)) := by
  have hr := reads r0 r1 t
  rw [Cert.RefAttnIdeal.Val.v61_at]
  unfold outAt
  match s with
  | 0 => exact (result_dq hr _ r h l).trans (Cert.RefAttnIdeal.Val.v51_at (headG t h) r l r0 r1).symm
  | 1 => exact (result_dk hr _ r h l).trans (Cert.RefAttnIdeal.Val.v50_at (headG t h) r l r0 r1).symm
  | 2 => exact (result_dv hr _ r h l).trans (Cert.RefAttnIdeal.Val.v49_at (headG t h) r l r0 r1).symm
  | 3 =>
    refine (result_pool (xq := blockAt m c 0 t) _ r (lane h l)).trans ((blk5_at m c t r (lane h l)).trans ?_)
    rw [across_lane]
    rfl

/-- The result array is the reference's. -/
theorem array_eq : (dats m 0 c).arrAt 6 (cfg0 (F := Ideal)).N
    = Cert.RefAttnIdeal.Read.val_main_v61 (F := Ideal) (argQkv m c) (argDo m c) (argPool m c) := by
  refine (dats m 0 c).arrAt_eq_of_covers 6 _ (by decide +kernel) fun t hf y => ?_
  have ha : (y 2).val < 256 := (y 2).isLt
  have hy : y = ix3 (y 0) (y 1) (lane ⟨(y 2).val / 128, by omega⟩ ⟨(y 2).val % 128, Nat.mod_lt _ (by decide)⟩) := by
    refine (eq_ix3 y).trans (congrArg (ix3 (y 0) (y 1)) (Fin.ext ?_))
    show (y 2).val = 128 * ((y 2).val / 128) + (y 2).val % 128
    omega
  have key := out_at r0 r1 t (y 0) (y 1) ⟨(y 2).val / 128, by omega⟩ ⟨(y 2).val % 128, Nat.mod_lt _ (by decide)⟩
  rw [← across_lane] at key
  have hc : lane ⟨(y 2).val / 128, by omega⟩ ⟨(y 2).val % 128, Nat.mod_lt _ (by decide)⟩ = (y 2 : Fin 256) :=
    Fin.ext (by show 128 * ((y 2).val / 128) + (y 2).val % 128 = (y 2).val; omega)
  blk_simp
  refine Eq.trans (congrArg (outAt m c t) hy) (key.trans ?_)
  rw [hc]
  blk_ext [colG, idx t]

end Real

end Cert.AttnIdeal.Run

end
-- ==== Proof.Attn.Claim.lean ====
module

public import proofs.«01_k».proof.Defs
public import proofs.«01_k».proof.Proof.Gen.AttnIdeal
public import proofs.«01_k».proof.Proof.Gen.Attn
public import proofs.«01_k».proof.Proof.Gen.Pre_finite_attn
public import proofs.«01_k».proof.Proof.Gen.RefAttnIdeal
public import proofs.«01_k».proof.Proof.Gen.RefAttnIdeal.Run
public import proofs.«01_k».proof.Proof.Gen.RefAttnIdeal.Read
public import proofs.«01_k».proof.Proof.Attn.Equal

/-! The claims on the attention's gradient. -/

@[expose] public section

noncomputable section

open Idealize.ShloMosaic Idealize.ShloMosaic.TcCoe

namespace Cert.Proof

/-- The reference runs to its end, leaves its arguments as they were, and has no counter to leave. -/
theorem frame_ref_attn : @Cert.quiescent_RefAttnIdeal Cert.RefAttnIdeal.Gen.facts := fun m g _ =>
  θ_run_mono (Cert.RefAttnIdeal.Value.run m g) fun r h =>
    ⟨fun c => (h c).2, sem_eq_zero_of_no_sems (by decide) r.2⟩

/-- Each named constant is the number its name stands for. -/
theorem names_attn : Cert.preserves_Attn_AttnIdeal :=
  ⟨IdealRules.named_const.statement _ _ _ _ _ rfl, IdealRules.named_const.statement _ _ _ _ _ rfl,
    IdealRules.named_const.statement _ _ _ _ _ rfl⟩

/-- The attention's gradient. -/
theorem attn : @Cert.algebraic_AttnIdeal_RefAttnIdeal_pre_finite_attn Cert.AttnIdeal.Gen.facts Cert.RefAttnIdeal.Gen.facts
    Cert.Pre_finite_attn.Gen.facts := by
  intro m g m' g' hpre hagree
  have hreal := fun c => Cert.AttnIdeal.Run.pre_real _ _ _ (hpre c)
  refine ⟨fun c => (Cert.AttnIdeal.Run.dats m 0 c).arrAt 6 (Cert.AttnIdeal.cfg0 (F := Ideal)).N, ?_, ?_⟩
  · exact θ_run_mono (Cert.AttnIdeal.Run.run m g) fun r h c => ⟨(h.1 c).1 6,
      Cert.AttnIdeal.Run.arg_kept m c h.1 (Pipeline.mem_restRefs_of (win := Cert.AttnIdeal.spec0) Cert.AttnIdeal.main_arg0 (by decide) (by decide)) (by decide),
      Cert.AttnIdeal.Run.arg_kept m c h.1 (Pipeline.mem_restRefs_of (win := Cert.AttnIdeal.spec0) Cert.AttnIdeal.main_arg1 (by decide) (by decide)) (by decide),
      Cert.AttnIdeal.Run.arg_kept m c h.1 (Pipeline.mem_restRefs_of (win := Cert.AttnIdeal.spec0) Cert.AttnIdeal.main_arg2 (by decide) (by decide)) (by decide)⟩
  · run_from Cert.RefAttnIdeal.Value.run m' g'
    refine (Cert.RefAttnIdeal.Read.val_main_v61_eq (fun b => m' (c, b))).trans ?_
    obtain ⟨a0, a1, a2⟩ := hagree c
    rw [a0, a1, a2]
    exact (Cert.AttnIdeal.Run.array_eq (hreal c).1 (hreal c).2).symm

end Cert.Proof

end
-- ==== Proof.AttnPlain.Own.lean ====
/-
  A buffer owned whole at contents nobody names: a load may read anything, a store leaves it owned. Both as steps at the
  head of a program.
-/
module

public import Idealize.ShloMosaic.Lib.Writes
public import Idealize.ShloMosaic.Lib.Pipeline.Frame

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s s' : Shape} {e e' : EltTy} {α : Type} {Q : α → sProp (MT nD τ sig Ix Val Name U Lvl)}
variable {cs : CoreSpace} (m : Memref sig c.2.kind cs s e) (Val)

/-- The memref's buffer, all of it, at some contents. -/
def own : sProp (MT nD τ sig Ix Val Name U Lvl) :=
  iprop(∃ f : Buf Val (m.view.loc c), m.view.loc c ↦[m.view.set]{fullShare} f)

variable {Val}

/-- A load out of the buffer, through whatever part of it, goes on at some vector. -/
theorem wp_load_own {r : LoadRect s} {hl : m.view.LoadsAt r} {k : (r.shape.Idx → Val e) → Prog (TpuEff nD τ sig Val Λ c.2) α} :
    own Val c m
      ⊢ iprop((∀ x, own Val c m -∗ wp frame (wpE defs 𝒱 c bd) E (k x) Q)
        -∗ wp frame (wpE defs 𝒱 c bd) E (.op (.load m r hl) k) Q) := by
  unfold own
  iintro ⟨%f, H⟩ HK
  iapply (wp_load 𝒱 c bd E (View.setOn_subset_set _ _)) $$ H
  iintro H
  iapply HK
  iexists f
  iexact H

/-- An unmasked store into the buffer leaves it owned. -/
theorem wp_store_own {r : Rect s} {w : r.shape.Idx → Val e} {hx : (m.access r).Stores Finset.univ}
    {hm : Finset.univ = Finset.univ ∨ ∀ a, r.stride a = 1} {k : PUnit → Prog (TpuEff nD τ sig Val Λ c.2) α} :
    own Val c m
      ⊢ iprop((own Val c m -∗ wp frame (wpE defs 𝒱 c bd) E (k ⟨⟩) Q)
        -∗ wp frame (wpE defs 𝒱 c bd) E (.op (.store m r w Finset.univ hx hm) k) Q) := by
  have hS : (m.access r).set ⊆ m.view.set := by
    rw [show (m.access r).set = m.view.setOn r.set from View.set_slice _ _]
    exact View.setOn_subset_set _ _
  unfold own
  iintro ⟨%f, H⟩ HK
  iapply (wp_store_writes₀ 𝒱 c bd E hS) $$ H
  iintro H
  iapply HK
  iexists _
  iexact H

/-- A buffer owned at contents is owned. -/
theorem own_of_owns (x : s.Idx → Val e) : (owns c m fullShare x : sProp (MT nD τ sig Ix Val Name U Lvl)) ⊢ own Val c m := by
  unfold owns own
  iintro ⟨%f, %hf, H⟩
  iexists f
  iexact H

/-- An owned buffer is owned at the contents it reads. -/
theorem owns_of_own : (own Val c m : sProp (MT nD τ sig Ix Val Name U Lvl)) ⊢ iprop(∃ x, owns c m fullShare x) := by
  unfold owns own
  iintro ⟨%f, H⟩
  iexists m.view.read Val f
  iexists f
  isplitr
  · ipureintro; rfl
  · iexact H

end Cert.Own

end
-- ==== Proof.AttnPlain.Sweep.lean ====
/-
  The kernel as written, its constants not yet named: the sweep over the earlier blocks of keys ends and leaves its
  buffers owned, by induction on the blocks still to sweep.
-/
module

public import proofs.«01_k».proof.Proof.Gen.Attn
public import proofs.«01_k».proof.Proof.Gen.Attn.Skeleton
public import proofs.«01_k».proof.Proof.Gen.Attn.Launch
public import proofs.«01_k».proof.Proof.Gen.Attn.Loops
public import proofs.«01_k».proof.Proof.Gen.Attn.Points
public import proofs.«01_k».proof.Proof.AttnPlain.Own
public import Idealize.ShloMosaic.Lib.Pipeline.Sound

@[expose] public section

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn Cert.Attn.Gen Cert.Own

variable {F : FTy → Type} [FloatOps F]

/-- The naturals, the blocks still to sweep. -/
abbrev 𝒱₀ : Variants := Variants.nat

local notation "𝕄" => MT nD τ sig Unit (Elt F) ℕ (UR sig nD τ) ℕ

/-- The values the sweep carries. -/
abbrev Carried (F : FTy → Type) : Type :=
  BitVec 32 × F .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32

theorem slt_self : ∀ k < 16, Scalar.cmpi .slt (BitVec.ofNat 32 k) (BitVec.ofNat 32 k) = 0#1 := by decide

theorem addi_succ : ∀ j < 16, Scalar.addi (BitVec.ofNat 32 j) 1#32 = BitVec.ofNat 32 (j + 1) := by decide

theorem chk_of_lt : ∀ t : Fin k0_t1_loop.trips, ∀ j < t.val, k0_chk1 t (BitVec.ofNat 32 j) := by decide +kernel

theorem iv_eq : ∀ t : Fin k0_t1_loop.trips, Scf.iv 0#32 1#32 t = BitVec.ofNat 32 t.val := by decide +kernel

theorem lt_16 (t : Fin k0_t1_loop.trips) : t.val < 16 := lt_of_lt_of_le t.isLt (by decide)

/-- With no block left the test fails. -/
theorem not_more (t : Fin k0_t1_loop.trips) (b : BitVec 1) :
    ¬ Scalar.andi (Scalar.cmpi .slt (BitVec.ofNat 32 t.val) (Scf.iv 0#32 1#32 t)) b = 1#1 := by
  rw [iv_eq, slt_self t.val (lt_16 t)]
  revert b
  decide

variable (c : Dev nD)

/-- The buffers the sweep touches: keys, values, transposed queries and cotangents, and the two blocks it adds to. -/
def bufs (a : Cc0While1 F) : sProp 𝕄 :=
  iprop(own (Elt F) (c : Thread nD τ) a.arg2 ∗ own (Elt F) (c : Thread nD τ) a.arg3 ∗ own (Elt F) (c : Thread nD τ) a.arg8
    ∗ own (Elt F) (c : Thread nD τ) a.arg9 ∗ own (Elt F) (c : Thread nD τ) a.arg10 ∗ own (Elt F) (c : Thread nD τ) a.arg11)

/-- The label's specification: the buffers are handed back, whatever the values returned. -/
def spec (a : Cc0While1 F) (K : Carried F → sProp 𝕄) : sProp 𝕄 :=
  iprop(bufs c a ∗ (∀ r, bufs c a -∗ K r))

theorem spec_le (E : Set ℕ) : ∀ n (a : Cc0While1 F) (j : ℕ), a.arg13 = BitVec.ofNat 32 j → j + n = a.k0_t1.val → ∀ K,
    spec c a K ⊢ wp frame (wpE (defs₀ (F := F)) 𝒱₀ (c : Thread nD τ) (some n)) E (defs₀ (F := F) .tc 1 a) K := by
  intro n
  induction n with
  | zero =>
    rintro ⟨i, t, arg2, harg2, v523, v537, v551, v565, v274, arg3, harg3, v513, v527, v541, v555, v520, v534, v548, v562,
      arg8, harg8, arg9, harg9, arg10, harg10, arg11, harg11, j', mn, a15, a16, a17, a18, a19, a20, a21, a22, a23, a24, a25, a26⟩ j hj hn K
    dsimp only at hj hn
    subst hj
    obtain rfl : j = t.val := by omega
    show _ ⊢ wp frame (wpE (defs₀ (F := F)) 𝒱₀ (c : Thread nD τ) (some 0)) E
      (cc0_while1 i t arg2 harg2 v523 v537 v551 v565 v274 arg3 harg3 v513 v527 v541 v555 v520 v534 v548 v562
        arg8 harg8 arg9 harg9 arg10 harg10 arg11 harg11 (BitVec.ofNat 32 t.val) mn a15 a16 a17 a18 a19 a20 a21 a22 a23 a24 a25 a26) K
    simp only [cc0_while1_eq_skeleton]; unfold cc0_while1_skel
    dsimp only
    rw [if_neg (not_more t _)]
    simp only [Prog.pure_eq_ret]
    unfold spec
    iintro ⟨H, Hk⟩
    rw [wp_ret]; imodintro
    iapply Hk
    iexact H
  | succ n ih =>
    rintro ⟨i, t, arg2, harg2, v523, v537, v551, v565, v274, arg3, harg3, v513, v527, v541, v555, v520, v534, v548, v562,
      arg8, harg8, arg9, harg9, arg10, harg10, arg11, harg11, j', mn, a15, a16, a17, a18, a19, a20, a21, a22, a23, a24, a25, a26⟩ j hj hn K
    dsimp only at hj hn
    subst hj
    have hj16 : j < 16 := by have := lt_16 t; omega
    have hchk : k0_chk1 t (BitVec.ofNat 32 j) := chk_of_lt t j (by omega)
    show _ ⊢ wp frame (wpE (defs₀ (F := F)) 𝒱₀ (c : Thread nD τ) (some (n + 1))) E
      (cc0_while1 i t arg2 harg2 v523 v537 v551 v565 v274 arg3 harg3 v513 v527 v541 v555 v520 v534 v548 v562
        arg8 harg8 arg9 harg9 arg10 harg10 arg11 harg11 (BitVec.ofNat 32 j) mn a15 a16 a17 a18 a19 a20 a21 a22 a23 a24 a25 a26) K
    simp only [cc0_while1_eq_skeleton]; unfold cc0_while1_skel
    dsimp only
    unfold spec
    split
    swap
    · simp only [Prog.pure_eq_ret]
      iintro ⟨H, Hk⟩
      rw [wp_ret]; imodintro
      iapply Hk
      iexact H
    simp only [k0_part28_eq_skeleton, k0_part29_eq_skeleton, k0_part30_eq_skeleton, k0_part31_eq_skeleton,
      k0_part32_eq_skeleton, k0_part33_eq_skeleton, k0_part34_eq_skeleton]
    unfold k0_part28_skel k0_part29_skel k0_part30_skel k0_part31_skel k0_part32_skel k0_part33_skel k0_part34_skel
    simp only [Prog.lift, Prog.bind_op, Prog.bind_ret, Prog.pure_eq_ret]
    unfold bufs
    dsimp only
    iintro ⟨⟨H2, H3, H8, H9, H10, H11⟩, Hk⟩
    iapply (wp_assume 𝒱₀ (c : Thread nD τ) (some (n + 1)) E hchk)
    iterate 4
      iapply (wp_load_own 𝒱₀ (c : Thread nD τ) (some (n + 1)) E arg2) $$ H2; iintro %_ H2
    iterate 4
      iapply (wp_load_own 𝒱₀ (c : Thread nD τ) (some (n + 1)) E arg3) $$ H3; iintro %_ H3
    iterate 2
      iterate 2
        iapply (wp_load_own 𝒱₀ (c : Thread nD τ) (some (n + 1)) E arg8) $$ H8; iintro %_ H8
        iapply (wp_load_own 𝒱₀ (c : Thread nD τ) (some (n + 1)) E arg9) $$ H9; iintro %_ H9
      iterate 2
        iapply (wp_load_own 𝒱₀ (c : Thread nD τ) (some (n + 1)) E arg10) $$ H10; iintro %_ H10
      iapply (wp_store_own 𝒱₀ (c : Thread nD τ) (some (n + 1)) E arg10) $$ H10; iintro H10
      iterate 2
        iapply (wp_load_own 𝒱₀ (c : Thread nD τ) (some (n + 1)) E arg11) $$ H11; iintro %_ H11
      iapply (wp_store_own 𝒱₀ (c : Thread nD τ) (some (n + 1)) E arg11) $$ H11; iintro H11
    iapply (wp_call 𝒱₀ (c : Thread nD τ) (some (n + 1)) E n (fun u hu => by cases hu; exact Nat.lt_succ_self n))
    iapply (ih _ (j + 1) (addi_succ j hj16) (by show j + 1 + n = t.val; omega) _)
    unfold spec bufs
    dsimp only
    isplitl [H2 H3 H8 H9 H10 H11]
    · isplitl [H2]; · iexact H2
      isplitl [H3]; · iexact H3
      isplitl [H8]; · iexact H8
      isplitl [H9]; · iexact H9
      isplitl [H10]; · iexact H10
      iexact H11
    · iintro %r H
      rw [wp_ret]; imodintro
      iapply Hk
      iexact H

end Cert.Attn.Run

end
-- ==== Proof.AttnPlain.Body.lean ====
/-
  The kernel as written, at one point of the grid: it ends and leaves its buffers owned. First one block of queries, then
  the loop over them, then the whole body.
-/
module

public import proofs.«01_k».proof.Proof.AttnPlain.Sweep

@[expose] public section

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn Cert.Attn.Gen Cert.Own

variable {F : FTy → Type} [FloatOps F]

local notation "𝕄" => MT nD τ sig Unit (Elt F) ℕ (UR sig nD τ) ℕ

variable (c : Dev nD) (i : grid0.Coords)
variable (arg1 : Memref sig .tc .vmem S4096x256 .bf16) (harg1 : arg1.IsWhole)
variable (arg2 : Memref sig .tc .vmem S4096x256 .bf16) (harg2 : arg2.IsWhole)
variable (arg3 : Memref sig .tc .vmem S4096x256 .bf16) (harg3 : arg3.IsWhole)
variable (arg4 : Memref sig .tc .vmem S4096x256 .bf16) (harg4 : arg4.IsWhole)
variable (arg5 : Memref sig .tc .vmem S4096x256 .f32) (harg5 : arg5.IsWhole)
variable (arg6 : Memref sig .tc .vmem S4096x256 .bf16) (harg6 : arg6.IsWhole)
variable (arg7 : Memref sig .tc .vmem S4x4096x256 .bf16) (harg7 : arg7.IsWhole)
variable (arg8 : Memref sig .tc .vmem S16x256x256 .bf16) (harg8 : arg8.IsWhole)
variable (arg9 : Memref sig .tc .vmem S16x256x256 .bf16) (harg9 : arg9.IsWhole)
variable (arg10 : Memref sig .tc .vmem S16x256x256 .f32) (harg10 : arg10.IsWhole)
variable (arg11 : Memref sig .tc .vmem S16x256x256 .f32) (harg11 : arg11.IsWhole)

/-- A load out of a slab of the result, seen as 4096 rows. -/
theorem wp_load_slab (E : Set ℕ) (off : Fin 3 → ℕ) (inb : ∀ a, off a + S1x4096x256.size a ≤ S4x4096x256.size a) {α : Type}
    {R : LoadRect S4096x256}
    {hl : ((arg7.slice (Rect.unit (s := S4x4096x256) off S1x4096x256.size inb) (fun _ => rfl)).squeeze
      S4096x256 squeezes_S1x4096x256_S4096x256).view.LoadsAt R}
    {k : (R.shape.Idx → Elt F .bf16) → Prog (TpuEff nD τ sig (Elt F) (Λ₀ F) .tc) α} {Q : α → sProp 𝕄} :
    own (Elt F) (c : Thread nD τ) arg7
      ⊢ iprop((∀ x, own (Elt F) (c : Thread nD τ) arg7 -∗ wp frame (wpE (defs₀ (F := F)) 𝒱₀ (c : Thread nD τ) none) E (k x) Q)
        -∗ wp frame (wpE (defs₀ (F := F)) 𝒱₀ (c : Thread nD τ) none) E
          (.op (.load ((arg7.slice (Rect.unit (s := S4x4096x256) off S1x4096x256.size inb) (fun _ => rfl)).squeeze
            S4096x256 squeezes_S1x4096x256_S4096x256) R hl) k) Q) := by
  have hS : ((arg7.slice (Rect.unit (s := S4x4096x256) off S1x4096x256.size inb) (fun _ => rfl)).squeeze
      S4096x256 squeezes_S1x4096x256_S4096x256).view.setOn R.set ⊆ arg7.view.set :=
    (View.setOn_subset_set _ _).trans ((View.set_reshape
      (v := (arg7.slice (Rect.unit (s := S4x4096x256) off S1x4096x256.size inb) (fun _ => rfl)).view) _).subset.trans
      (View.set_slice_subset _ _))
  unfold Cert.Own.own
  iintro ⟨%f, H⟩ HK
  iapply (wp_load 𝒱₀ (c : Thread nD τ) none E hS) $$ H
  iintro H
  iapply HK
  iexists f
  iexact H

/-- The kernel's buffers: the six windows it reads, the one it writes, and its four scratch buffers. -/
def all : sProp 𝕄 :=
  iprop(own (Elt F) (c : Thread nD τ) arg1 ∗ own (Elt F) (c : Thread nD τ) arg2 ∗ own (Elt F) (c : Thread nD τ) arg3
    ∗ own (Elt F) (c : Thread nD τ) arg4 ∗ own (Elt F) (c : Thread nD τ) arg5 ∗ own (Elt F) (c : Thread nD τ) arg6
    ∗ own (Elt F) (c : Thread nD τ) arg7 ∗ own (Elt F) (c : Thread nD τ) arg8 ∗ own (Elt F) (c : Thread nD τ) arg9
    ∗ own (Elt F) (c : Thread nD τ) arg10 ∗ own (Elt F) (c : Thread nD τ) arg11)

theorem trip_le (E : Set ℕ) (t : Fin k0_t1_loop.trips) (v269 v270 : IVec S256x256 32) (u : Unit) :
    all (F := F) c arg1 arg2 arg3 arg4 arg5 arg6 arg7 arg8 arg9 arg10 arg11
      ⊢ wp frame (wpE (defs₀ (F := F)) 𝒱₀ (c : Thread nD τ) none) E
          (k0_t1_body (F := F) i arg1 harg1 arg2 harg2 arg3 harg3 arg4 harg4 arg5 harg5 arg6 harg6 arg7 harg7 arg8 harg8 arg9 harg9 arg10 harg10 arg11 harg11 v269 v270 t u)
          (fun _ => all c arg1 arg2 arg3 arg4 arg5 arg6 arg7 arg8 arg9 arg10 arg11) := by
  unfold k0_t1_body all
  simp only [k0_part10_eq_skeleton]
  unfold k0_part10_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel
    k0_part8_skel k0_part9_skel
  simp only [Prog.lift, Prog.bind_op, Prog.bind_ret, Prog.pure_eq_ret]
  iintro ⟨H1, H2, H3, H4, H5, H6, H7, H8, H9, H10, H11⟩
  iterate 4
    iapply (wp_load_own 𝒱₀ (c : Thread nD τ) none E arg4) $$ H4; iintro %_ H4
    iapply (wp_load_own 𝒱₀ (c : Thread nD τ) none E arg5) $$ H5; iintro %_ H5
    iapply (wp_load_own 𝒱₀ (c : Thread nD τ) none E arg1) $$ H1; iintro %_ H1
  iterate 4
    iapply (wp_load_own 𝒱₀ (c : Thread nD τ) none E arg2) $$ H2; iintro %_ H2
  iterate 4
    iapply (wp_load_own 𝒱₀ (c : Thread nD τ) none E arg3) $$ H3; iintro %_ H3
  iterate 2
    iterate 2
      iapply (wp_load_own 𝒱₀ (c : Thread nD τ) none E arg8) $$ H8; iintro %_ H8
      iapply (wp_load_own 𝒱₀ (c : Thread nD τ) none E arg9) $$ H9; iintro %_ H9
    iterate 2
      iapply (wp_load_own 𝒱₀ (c : Thread nD τ) none E arg10) $$ H10; iintro %_ H10
    iapply (wp_store_own 𝒱₀ (c : Thread nD τ) none E arg10) $$ H10; iintro H10
    iterate 2
      iapply (wp_load_own 𝒱₀ (c : Thread nD τ) none E arg11) $$ H11; iintro %_ H11
    iapply (wp_store_own 𝒱₀ (c : Thread nD τ) none E arg11) $$ H11; iintro H11
  iapply (wp_call 𝒱₀ (c : Thread nD τ) none E t.val (fun u hu => nomatch hu))
  iapply (spec_le c E t.val _ 0 rfl (Nat.zero_add _) _)
  unfold spec bufs
  dsimp only
  isplitl [H2 H3 H8 H9 H10 H11]
  · isplitl [H2]; · iexact H2
    isplitl [H3]; · iexact H3
    isplitl [H8]; · iexact H8
    isplitl [H9]; · iexact H9
    isplitl [H10]; · iexact H10
    iexact H11
  iintro %r ⟨H2, H3, H8, H9, H10, H11⟩
  iterate 4
    iapply (wp_load_slab c arg7 E ![0, 0, 0] inb_S4x4096x256_S1x4096x256_0_0_0) $$ H7; iintro %_ H7
    iapply (wp_store_own 𝒱₀ (c : Thread nD τ) none E arg7) $$ H7; iintro H7
  rw [wp_ret]; imodintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The loop over the blocks of queries at the head of a program. -/
theorem loop_le (E : Set ℕ) (kk : Unit → Prog (TpuEff nD τ sig (Elt F) (Λ₀ F) .tc) PUnit) (Q : PUnit → sProp 𝕄) :
    all c arg1 arg2 arg3 arg4 arg5 arg6 arg7 arg8 arg9 arg10 arg11
      ⊢ iprop((all c arg1 arg2 arg3 arg4 arg5 arg6 arg7 arg8 arg9 arg10 arg11 -∗ wp frame (wpE (defs₀ (F := F)) 𝒱₀ (c : Thread nD τ) none) E (kk ()) Q)
        -∗ wp frame (wpE (defs₀ (F := F)) 𝒱₀ (c : Thread nD τ) none) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32)) >>= kk) Q) := by
  have hloop := Scf.wp_for_bind (M := MT nD τ sig Unit (Elt F) ℕ (UR sig nD τ) ℕ) frame (wpE (defs₀ (F := F)) 𝒱₀ (c : Thread nD τ) none) E
    k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11 (iota .tc S256x256 32 [0] iota_S256x256_d0_w32) (iota .tc S256x256 32 [1] iota_S256x256_d1_w32))
    (fun _ _ => all c arg1 arg2 arg3 arg4 arg5 arg6 arg7 arg8 arg9 arg10 arg11)
    (fun k u => trip_le c i arg1 harg1 arg2 harg2 arg3 harg3 arg4 harg4 arg5 harg5 arg6 harg6 arg7 harg7 arg8 harg8 arg9 harg9 arg10 harg10 arg11 harg11 E k _ _ u)
    (kk := kk) (Q := Q)
  iintro HI HK
  iapply hloop $$ HI
  iintro %u HI
  iapply HK $$ HI

theorem body_le (E : Set ℕ) (K : PUnit → sProp 𝕄) :
    iprop(all c arg1 arg2 arg3 arg4 arg5 arg6 arg7 arg8 arg9 arg10 arg11 ∗ (all c arg1 arg2 arg3 arg4 arg5 arg6 arg7 arg8 arg9 arg10 arg11 -∗ K ⟨⟩))
      ⊢ wp frame (wpE (defs₀ (F := F)) 𝒱₀ (c : Thread nD τ) none) E (cc0_attn_bwd (F := F) i arg1 harg1 arg2 harg2 arg3 harg3 arg4 harg4 arg5 harg5 arg6 harg6 arg7 harg7 arg8 harg8 arg9 harg9 arg10 harg10 arg11 harg11) K := by
  simp only [cc0_attn_bwd_eq_skeleton]
  unfold cc0_attn_bwd_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [Prog.lift, Prog.bind_op, Prog.bind_ret, Prog.pure_eq_ret, bind_assoc]
  have hloop := fun kk => loop_le (F := F) c i arg1 harg1 arg2 harg2 arg3 harg3 arg4 harg4 arg5 harg5 arg6 harg6 arg7 harg7 arg8 harg8 arg9 harg9 arg10 harg10 arg11 harg11 E kk K
  unfold all
  unfold all at hloop
  iintro ⟨⟨H1, H2, H3, H4, H5, H6, H7, H8, H9, H10, H11⟩, Hk⟩
  iapply (wp_load_own 𝒱₀ (c : Thread nD τ) none E arg6) $$ H6; iintro %_ H6
  iapply (wp_load_own 𝒱₀ (c : Thread nD τ) none E arg7) $$ H7; iintro %_ H7
  iapply (wp_store_own 𝒱₀ (c : Thread nD τ) none E arg7) $$ H7; iintro H7
  iterate 16
    iapply (wp_load_own 𝒱₀ (c : Thread nD τ) none E arg1) $$ H1; iintro %_ H1
    iapply (wp_load_own 𝒱₀ (c : Thread nD τ) none E arg8) $$ H8; iintro %_ H8
    iapply (wp_store_own 𝒱₀ (c : Thread nD τ) none E arg8) $$ H8; iintro H8
    iapply (wp_load_own 𝒱₀ (c : Thread nD τ) none E arg4) $$ H4; iintro %_ H4
    iapply (wp_load_own 𝒱₀ (c : Thread nD τ) none E arg9) $$ H9; iintro %_ H9
    iapply (wp_store_own 𝒱₀ (c : Thread nD τ) none E arg9) $$ H9; iintro H9
  iapply (wp_load_own 𝒱₀ (c : Thread nD τ) none E arg10) $$ H10; iintro %_ H10
  iapply (wp_store_own 𝒱₀ (c : Thread nD τ) none E arg10) $$ H10; iintro H10
  iapply (wp_load_own 𝒱₀ (c : Thread nD τ) none E arg11) $$ H11; iintro %_ H11
  iapply (wp_store_own 𝒱₀ (c : Thread nD τ) none E arg11) $$ H11; iintro H11
  iapply (hloop _) $$ [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H1, H2, H3, H4, H5, H6, H7, H8, H9, H10, H11⟩
  iterate 16
    iapply (wp_load_own 𝒱₀ (c : Thread nD τ) none E arg10) $$ H10; iintro %_ H10
    iapply (wp_load_slab c arg7 E ![1, 0, 0] inb_S4x4096x256_S1x4096x256_1_0_0) $$ H7; iintro %_ H7
    iapply (wp_store_own 𝒱₀ (c : Thread nD τ) none E arg7) $$ H7; iintro H7
    iapply (wp_load_own 𝒱₀ (c : Thread nD τ) none E arg11) $$ H11; iintro %_ H11
    iapply (wp_load_slab c arg7 E ![2, 0, 0] inb_S4x4096x256_S1x4096x256_2_0_0) $$ H7; iintro %_ H7
    iapply (wp_store_own 𝒱₀ (c : Thread nD τ) none E arg7) $$ H7; iintro H7
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Attn.Run

end
-- ==== Proof.AttnPlain.Launch.lean ====
/-
  The kernel as written, run: the host lines, then the kernel at each of its four points. At the end every argument is as
  it was and every counter is zero.
-/
module

public import proofs.«01_k».proof.Proof.AttnPlain.Body
public import Idealize.ShloMosaic.Lib.Claim
public import Idealize.ShloMosaic.Lib.Pipeline.FrameBody

@[expose] public section

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Attn Cert.Attn.Gen Cert.Own

variable {F : FTy → Type} [FloatOps F]

local notation "𝕄" => MT nD τ sig Unit (Elt F) ℕ (UR sig nD τ) ℕ

variable (m : (ℓ : Loc nD τ sig) → Buf (Elt F) ℓ) (g : Dev nD → PrngReg) (c : Dev nD)

/-! ## The host lines -/

/-- The host's operations, stretch by stretch. -/
def stretches : List (List (HloOp τ sig (Elt F))) :=
  [hostOps0, hostOps0_1, hostOps0_2, hostOps0_3, hostOps0_4, hostOps0_5, hostOps0_6, hostOps0_7, hostOps0_8, hostOps0_9]

/-- What the kernel finds in each buffer. -/
def V (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

set_option maxHeartbeats 1600000 in
theorem stretches_fresh : (stretches (F := F)).Forall fun ops => ops.Forall fun op => op.fresh = ∅ := by
  simp only [stretches, List.Forall]
  repeat' constructor

set_option maxHeartbeats 1600000 in
theorem host_lines : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- The buffers the host lines write, in order. -/
def written : List (Ref sig .tc) :=
  [main_v0, main_v1, main_v2, main_v3, main_v4, main_v5, main_v6, main_cst, main_v7, main_v8, main_v9, main_v10,
   main_v11, main_v12, main_v13, main_v14, main_v15, main_v16, main_call0_v0, main_call0_call0_cst, main_call0_call0_v0,
   main_call0_call0_v1, main_call0_call0_v2, main_call0_call0_v3, main_call0_call0_v4, main_call0_call0_v5,
   main_call0_call0_v6, main_call0_call0_v7, main_call0_call0_v8, main_call0_call0_v9, main_call0_call0_v10,
   main_call0_call0_v11, main_call0_v1, main_v17, main_cst_0, main_call1_v0, main_call1_v1, main_call1_v2, main_v18,
   main_call2_cst, main_call2_v0, main_v19, main_v20, main_call3_v0, main_call3_call0_cst, main_call3_call0_v0,
   main_call3_call0_v1, main_call3_call0_v2, main_call3_call0_v3, main_call3_call0_v4, main_call3_call0_v5,
   main_call3_call0_v6, main_call3_call0_v7, main_call3_call0_v8, main_call3_call0_v9, main_call3_call0_v10,
   main_call3_call0_v11, main_call3_v1, main_v21, main_v22, main_v23, main_cst_1, main_call4_v0, main_call4_v1,
   main_call4_v2, main_v24, main_v25, main_v26, main_v27, main_v28, main_v29, main_v30]

/-- The host lines change no buffer they do not write. -/
theorem V_of_not_written {b : Ref sig .tc} (h : b ∉ written) : V m c b = m ((c : Thread nD τ).loc b) :=
  StableHlo.after_of_writes_sub (r := b) _ _ (StableHlo.forall_writes_sub_of_map (W := written) rfl) h

/-! ## The body at a point -/

instance : ∀ e, Nonempty (Elt F e) := fun _ => inferInstance

/-- What the launch is told of the windows: what their arrays hold when it starts, and nothing of what the body leaves. -/
def dats (_ : Fin 1) (c : Dev nD) : Dat τ (Elt F) Unit ℕ (UR sig nD τ) ℕ (cfg0 (F := F)) c where
  A w := V m c (Pipeline.arrRef spec0 w)
  after := Dat.unnamed
  Φ _ := Pipeline.ΦA spec0 c
  q w := Pipeline.shareOf spec0 w
  owed _ := 0

theorem scratch_eq : (Pipeline.ΦA spec0 c : sProp 𝕄)
    = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)) ∗ (∃ r, prngReg c r)) := by
  unfold Pipeline.ΦA; rw [scopedRest0_eq]; simp only [owns_whole]; try rfl

theorem body_row (t : Fin (cfg0 (F := F)).N) :
    defs₀ (F := F) .tc cfg0.body (cfg0.bodyArgs t (cfg0.slots t)) = bodyAt0 t := by
  unfold defs₀; rw [Defs.onTc_tc]

/-- A window's buffer at a point, at some contents. -/
abbrev some' {sp : Space} {s : Shape} {e : EltTy} (a : Memref sig .tc sp s e) : sProp 𝕄 :=
  iprop(∃ d, owns (c : Thread nD τ) a fullShare d)

/-- The windows' buffers and the scratch, before and after the body. -/
def around (t : Fin (cfg0 (F := F)).N) (u : Fin ((cfg0 (F := F)).N + 1)) : sProp 𝕄 :=
  iprop(Pipeline.ΦA spec0 c ∗ (dats m 0 c).owesAt () u
    ∗ some' c (st0_0 t) ∗ some' c (st0_1 t) ∗ some' c (st0_2 t) ∗ some' c (st0_3 t)
    ∗ some' c (st0_4 t) ∗ some' c (st0_5 t) ∗ some' c (st0_6 t))

theorem body_at (t : Fin (cfg0 (F := F)).N) :
    around m c t t.castSucc ⊢ wp frame (wpE (defs₀ (F := F)) 𝒱₀ (c : Thread nD τ) none) Set.univ (bodyAt0 t) (fun _ => around m c t t.succ) := by
  unfold around bodyAt0
  rw [show (dats m 0 c).owesAt () t.succ = (dats m 0 c).owesAt () t.castSucc from rfl, scratch_eq]
  iintro ⟨⟨⟨⟨%d8, S0⟩, ⟨%d9, S1⟩, ⟨%d10, S2⟩, ⟨%d11, S3⟩⟩, R⟩, O, ⟨%d0, H0⟩, ⟨%d1, H1⟩, ⟨%d2, H2⟩, ⟨%d3, H3⟩, ⟨%d4, H4⟩, ⟨%d5, H5⟩, ⟨%d6, H6⟩⟩
  ihave H0 := (own_of_owns (c : Thread nD τ) _ _) $$ H0
  ihave H1 := (own_of_owns (c : Thread nD τ) _ _) $$ H1
  ihave H2 := (own_of_owns (c : Thread nD τ) _ _) $$ H2
  ihave H3 := (own_of_owns (c : Thread nD τ) _ _) $$ H3
  ihave H4 := (own_of_owns (c : Thread nD τ) _ _) $$ H4
  ihave H5 := (own_of_owns (c : Thread nD τ) _ _) $$ H5
  ihave H6 := (own_of_owns (c : Thread nD τ) _ _) $$ H6
  ihave S0 := (own_of_owns (c : Thread nD τ) _ _) $$ S0
  ihave S1 := (own_of_owns (c : Thread nD τ) _ _) $$ S1
  ihave S2 := (own_of_owns (c : Thread nD τ) _ _) $$ S2
  ihave S3 := (own_of_owns (c : Thread nD τ) _ _) $$ S3
  iapply (body_le c (grid0.coords t) _ _ _ _ _ _ _ _ _ _ _ _ _ _ _ _ _ _ _ _ _ _ _ _)
  unfold all
  isplitl [H0 H1 H2 H3 H4 H5 H6 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    iexact S3
  iintro ⟨H0, H1, H2, H3, H4, H5, H6, S0, S1, S2, S3⟩
  isplitl [S0 S1 S2 S3 R]
  · isplitr [R]
    · isplitl [S0]; · iapply (owns_of_own (c : Thread nD τ) _); iexact S0
      isplitl [S1]; · iapply (owns_of_own (c : Thread nD τ) _); iexact S1
      isplitl [S2]; · iapply (owns_of_own (c : Thread nD τ) _); iexact S2
      iapply (owns_of_own (c : Thread nD τ) _); iexact S3
    · iexact R
  isplitl [O]; · iexact O
  isplitl [H0]; · iapply (owns_of_own (c : Thread nD τ) _); iexact H0
  isplitl [H1]; · iapply (owns_of_own (c : Thread nD τ) _); iexact H1
  isplitl [H2]; · iapply (owns_of_own (c : Thread nD τ) _); iexact H2
  isplitl [H3]; · iapply (owns_of_own (c : Thread nD τ) _); iexact H3
  isplitl [H4]; · iapply (owns_of_own (c : Thread nD τ) _); iexact H4
  isplitl [H5]; · iapply (owns_of_own (c : Thread nD τ) _); iexact H5
  iapply (owns_of_own (c : Thread nD τ) _); iexact H6

theorem body_ok : BodyObligation (dats (F := F) m 0 c) (defs₀ (F := F)) 𝒱₀ () Set.univ (fun _ => true) := fun t => by
  rw [bigSep_W0, body_row]
  exact triple_restated (body_at m c t) rfl .rfl fun _ => .rfl

/-! ## The run -/

theorem dats_A (w : Fin (cfg0 (F := F)).W) : (dats m 0 c).A w = V m c (Pipeline.arrRef spec0 w) := by dsimp only [dats]

theorem dats_q (w : Fin (cfg0 (F := F)).W) : (dats m 0 c).q w = Pipeline.shareOf spec0 w := by dsimp only [dats]

set_option backward.isDefEq.respectTransparency.types false in
/-- Every run ends with every buffer the kernel does not stage as the host lines left it, and every counter at zero. -/
theorem run : θ_run defs (onTc (τ := τ) (main (F := F))) (s₀ m g)
    (fun r => (∀ c : Dev nD, ∀ b ∈ Pipeline.restRefs sig spec0, r.2.mem ((c.tc : Thread nD τ).loc b) = V m c b) ∧ r.2.sem = fun _ => 0) :=
  Pipeline.θ_run_frame_forget_shared (Q' := _) cfgs (dats m) (0 : Fin 1) launch₀0 defs₀ 𝒱₀ (fun _ => true) m g main
    (hbody := fun c => (body_ok m c).loose) (hq := fun c w _ => dats_q m c w) (howed := fun _ _ => rfl) (V := V m)
    (hmain := host_lines m) (hA := dats_A m) (hΦ := fun _ _ => rfl) (hQ' := fun _ h => ⟨fun c => (h.1 c).2, h.2⟩)

/-- An argument ends as it was. -/
theorem arg_kept {r : PUnit × MemSt nD τ sig (Elt F)} (h : ∀ c : Dev nD, ∀ b ∈ Pipeline.restRefs sig spec0, r.2.mem ((c.tc : Thread nD τ).loc b) = V m c b)
    {b : Ref sig .tc} (hb : b ∈ Pipeline.restRefs sig spec0) (hw : b ∉ written) :
    r.2.mem ((c.tc : Thread nD τ).loc b) = m ((c.tc : Thread nD τ).loc b) :=
  (h c b hb).trans (V_of_not_written m c hw)

theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨arg_kept m c h.1 (Pipeline.mem_restRefs_of (win := spec0) main_arg0 (by decide) (by decide)) (by decide),
     arg_kept m c h.1 (Pipeline.mem_restRefs_of (win := spec0) main_arg1 (by decide) (by decide)) (by decide),
     arg_kept m c h.1 (Pipeline.mem_restRefs_of (win := spec0) main_arg2 (by decide) (by decide)) (by decide)⟩, h.2⟩) (run m g)

end Cert.Attn.Run
end
-- ==== Proof.Pool.Model.lean ====
/- What one grid point of the pooled branch's backward kernel leaves in its buffers, as functions of
   what it reads: the tokens are taken in 16 groups of 256 rows, the sums run over the groups, and the
   two scratch buffers hold, per token, the scaled and the negated cotangent of the pooled value. -/
module

public import proofs.«01_k».proof.Proof.Gen.PoolIdeal
public import proofs.«01_k».proof.Proof.Gen.PoolIdeal.Frame.Runs
public import Idealize.ShloMosaic.Lib.Pointwise
public import Idealize.ShloMosaic.Lib.WritesUnit
public import Idealize.ShloMosaic.Lib.VecWindow

@[expose] public section

set_option maxRecDepth 16384

noncomputable section

namespace Cert.PoolIdeal.Run

open Idealize.ShloMosaic Idealize.ShloMosaic.TcCoe
open Cert.PoolIdeal Cert.PoolIdeal.Gen

variable {F : FTy → Type} [FloatOps F]

/-- The three computations in which the four window lengths differ. -/
structure Branch (F : FTy → Type) [FloatOps F] where
  scaled : BitVec 32 → FVec F S256x256 .bf16 → Vec F S1x256x256 .bf16 → FVec F S256x256 .f32
  minus : FVec F S256x256 .bf16 → Vec F S1x256x256 .bf16 → FVec F S256x256 .f32
  out : Vec F S512x256 .f32 → Vec F S256x256 .f32 → FVec F S256x256 .bf16

/-- Window lengths 2, 4, 8 and 16. -/
def branch : ℕ → Branch F
  | 0 => ⟨k0_pay6, k0_pay7, k0_pay8⟩
  | 1 => ⟨k0_pay10, k0_pay11, k0_pay12⟩
  | 2 => ⟨k0_pay14, k0_pay15, k0_pay16⟩
  | _ => ⟨k0_pay18, k0_pay19, k0_pay20⟩

/-- `W` rows from row `256 n` on. -/
def rows {R : ℕ} [NeZero R] (W : ℕ) {e : EltTy} (x : Vec F ⟨2, ![R, 256]⟩ e) (n : ℕ) : Vec F ⟨2, ![W, 256]⟩ e :=
  fun y => x (ix2 ⟨(256 * n + (y 0).val) % R, Nat.mod_lt _ (NeZero.pos R)⟩ (y 1))

/-- An entry's place inside its group of 256 rows. -/
def inside {R : ℕ} (y : (⟨2, ![R, 256]⟩ : Shape).Idx) : S256x256.Idx := ix2 ⟨(y 0).val % 256, Nat.mod_lt _ (by decide)⟩ (y 1)

variable (B : Branch F) (x0 : Vec F S4096x256 .f32) (x1 : Vec F S4096x256 .bf16) (x2 : Vec F S1x256x256 .bf16) (x3 : Vec F S1x1x256 .f32)

/-- The weights' gradient after `n` groups. -/
def sumW : ℕ → Vec F S1x256x256 .f32
  | 0 => k0_pay2
  | n + 1 => k0_pay24 (rows 256 x0 n) (rows 256 x1 n) x3 (sumW n)

/-- The scale's gradient after `n` groups. -/
def sumS : ℕ → Vec F S1x1x256 .f32
  | 0 => k0_pay3
  | n + 1 => k0_pay22 (rows 256 x0 n) (rows 256 x1 n) x2 (sumS n)

/-- The scaled cotangent of each token; zero past the last token. -/
def scaledRows : Vec F S4352x256 .f32 := fun y =>
  if (y 0).val < 256 * 16 then B.scaled (Scf.iv 0#32 1#32 ((y 0).val / 256)) (k0_pay23 (rows 256 x0 ((y 0).val / 256)) x3) x2 (inside y)
  else k0_pay1 (inside y)

/-- The negated cotangent of each token. -/
def minusRows : Vec F S4096x256 .f32 := fun y => B.minus (k0_pay23 (rows 256 x0 ((y 0).val / 256)) x3) x2 (inside y)

/-- The input's gradient, from the scaled and the negated cotangents. -/
def outRows (z : Vec F S4352x256 .f32) (m : Vec F S4096x256 .f32) : Vec F S4096x256 .bf16 := fun y =>
  B.out (rows 512 z ((y 0).val / 256)) (rows 256 m ((y 0).val / 256)) (inside y)

def du : Vec F S4096x256 .bf16 := outRows B (scaledRows B x0 x2 x3) (minusRows B x0 x2 x3)

variable {κ : Kind} {sp : Space} {e : EltTy}

/-- A load of `W` rows from row `256 n` on. -/
theorem load_rows {R W : ℕ} [NeZero R] (v : View sig κ sp ⟨2, ![R, 256]⟩ e) (f : v.ty.Contents (Elt F)) (z : Vec F ⟨2, ![R, 256]⟩ e) (hz : v.read (Elt F) f = z)
    (n : ℕ) (off : Fin 2 → ℕ) (inb : ∀ a, off a + (![W, 256] : Fin 2 → ℕ) a ≤ (![R, 256] : Fin 2 → ℕ) a) (ho : off = ![256 * n, 0]) :
    View.readAt (Elt F) v (Rect.unit (s := ⟨2, ![R, 256]⟩) off ![W, 256] inb).toLoadRect f = rows W z n := by
  subst ho hz
  funext y
  have h := inb 0
  have hy : (y 0).val < W := (y 0).isLt
  refine congrArg (v.read (Elt F) f) (funext fun a => Fin.ext ?_)
  have h' : 256 * n + W ≤ R := h
  fin_cases a
  · show 256 * n + 1 * (y 0).val = (256 * n + (y 0).val) % R
    rw [Nat.mod_eq_of_lt (by omega), Nat.one_mul]
  · show 0 + 1 * (y 1).val = (y 1).val
    omega

/-- What a buffer reads after its first `n` groups of rows were stored one after the other. -/
theorem read_groups {R : ℕ} (v : View sig κ sp ⟨2, ![R, 256]⟩ e) (f : v.ty.Contents (Elt F)) (P : ℕ → List (View.Piece (Elt F) ⟨2, ![R, 256]⟩ e))
    (g : ℕ → S256x256.Idx → Elt F e) (h0 : P 0 = [])
    (hs : ∀ n < 16, ∃ (off : Fin 2 → ℕ) (inb : ∀ a, off a + (![256, 256] : Fin 2 → ℕ) a ≤ (![R, 256] : Fin 2 → ℕ) a), off = ![256 * n, 0]
      ∧ P (n + 1) = ⟨Rect.unit (s := ⟨2, ![R, 256]⟩) off ![256, 256] inb, g n⟩ :: P n) :
    ∀ n ≤ 16, ∀ y, v.read (Elt F) (v.writes (Elt F) f (P n)) y = if (y 0).val < 256 * n then g ((y 0).val / 256) (inside y) else v.read (Elt F) f y
  | 0, _, y => by rw [h0, if_neg (by omega)]; rfl
  | n + 1, hn, y => by
    obtain ⟨off, inb, ho, hP⟩ := hs n (by omega)
    rw [hP]
    by_cases hy : 256 * n ≤ (y 0).val ∧ (y 0).val < 256 * n + 256
    · have hd : (y 0).val / 256 = n := by omega
      rw [View.read_writes_cons_rows_of_mem (o := 256 * n) v f inb _ _ y (inside y) ho (by show (y 0).val = 256 * n + (y 0).val % 256; omega) rfl,
        if_pos (by omega), hd]
    · rw [View.read_writes_cons_rows_of_not_mem (o := 256 * n) (W := 256) v f inb _ _ y ho rfl (by omega),
        read_groups v f P g h0 hs n (by omega) y]
      by_cases h : (y 0).val < 256 * n
      · rw [if_pos h, if_pos (by omega)]
      · rw [if_neg h, if_neg (by omega)]

/-- The first loop's stores, one trip after the other: into the weights' gradient, the scale's
    gradient and the two scratch buffers. -/
structure First (arg6 : View sig κ sp S1x256x256 .f32) (arg7 : View sig κ sp S1x1x256 .f32) (G6 : arg6.ty.Contents (Elt F)) (G7 : arg7.ty.Contents (Elt F))
    (P : ℕ → List (View.Piece (Elt F) S1x256x256 .f32) × List (View.Piece (Elt F) S1x1x256 .f32) × List (View.Piece (Elt F) S4352x256 .f32) × List (View.Piece (Elt F) S4096x256 .f32)) : Prop where
  zero : P 0 = ([], [], [], [])
  succ : ∀ n < 16, ∃ (off1 off2 : Fin 2 → ℕ) (inb1 : ∀ a, off1 a + S256x256.size a ≤ S4096x256.size a) (inb2 : ∀ a, off2 a + S256x256.size a ≤ S4352x256.size a),
    off1 = ![256 * n, 0] ∧ off2 = ![256 * n, 0] ∧ P (n + 1) =
      (⟨Rect.unit (s := S1x256x256) ![0, 0, 0] S1x256x256.size inb_S1x256x256_S1x256x256_0_0_0, k0_pay24 (rows 256 x0 n) (rows 256 x1 n) x3 (arg6.read (Elt F) (arg6.writes (Elt F) G6 (P n).1))⟩ :: (P n).1,
       ⟨Rect.unit (s := S1x1x256) ![0, 0, 0] S1x1x256.size inb_S1x1x256_S1x1x256_0_0_0, k0_pay22 (rows 256 x0 n) (rows 256 x1 n) x2 (arg7.read (Elt F) (arg7.writes (Elt F) G7 (P n).2.1))⟩ :: (P n).2.1,
       ⟨Rect.unit (s := S4352x256) off2 S256x256.size inb2, B.scaled (Scf.iv 0#32 1#32 n) (k0_pay23 (rows 256 x0 n) x3) x2⟩ :: (P n).2.2.1,
       ⟨Rect.unit (s := S4096x256) off1 S256x256.size inb1, B.minus (k0_pay23 (rows 256 x0 n) x3) x2⟩ :: (P n).2.2.2)

/-- The second loop's stores into the input's gradient. -/
structure Second (z : Vec F S4352x256 .f32) (m : Vec F S4096x256 .f32) (P : ℕ → List (View.Piece (Elt F) S4096x256 .bf16)) : Prop where
  zero : P 0 = []
  succ : ∀ n < 16, ∃ (off : Fin 2 → ℕ) (inb : ∀ a, off a + S256x256.size a ≤ S4096x256.size a), off = ![256 * n, 0]
    ∧ P (n + 1) = ⟨Rect.unit (s := S4096x256) off S256x256.size inb, B.out (rows 512 z n) (rows 256 m n)⟩ :: P n

section reads

variable {B x0 x1 x2 x3} {arg6 : View sig κ sp S1x256x256 .f32} {arg7 : View sig κ sp S1x1x256 .f32} {G6 : arg6.ty.Contents (Elt F)} {G7 : arg7.ty.Contents (Elt F)}
  {P : ℕ → List (View.Piece (Elt F) S1x256x256 .f32) × List (View.Piece (Elt F) S1x1x256 .f32) × List (View.Piece (Elt F) S4352x256 .f32) × List (View.Piece (Elt F) S4096x256 .f32)}
  (h : First B x0 x1 x2 x3 arg6 arg7 G6 G7 P)

include h

theorem First.weights (hG : arg6.read (Elt F) G6 = k0_pay2) : ∀ n ≤ 16, arg6.read (Elt F) (arg6.writes (Elt F) G6 (P n).1) = sumW x0 x1 x3 n
  | 0, _ => by rw [h.zero]; exact hG
  | n + 1, hn => by
    obtain ⟨_, _, _, _, _, _, hP⟩ := h.succ n (by omega)
    rw [hP, First.weights hG n (by omega)]
    exact View.read_writes_full arg6 G6 _ _ _

theorem First.scale (hG : arg7.read (Elt F) G7 = k0_pay3) : ∀ n ≤ 16, arg7.read (Elt F) (arg7.writes (Elt F) G7 (P n).2.1) = sumS x0 x1 x2 n
  | 0, _ => by rw [h.zero]; exact hG
  | n + 1, hn => by
    obtain ⟨_, _, _, _, _, _, hP⟩ := h.succ n (by omega)
    rw [hP, First.scale hG n (by omega)]
    exact View.read_writes_full arg7 G7 _ _ _

theorem First.scaled (v : View sig κ sp S4352x256 .f32) (f : v.ty.Contents (Elt F)) (inb : ∀ a, (![4096, 0] : Fin 2 → ℕ) a + S256x256.size a ≤ S4352x256.size a) :
    v.read (Elt F) (v.writes (Elt F) f ((P 16).2.2.1 ++ [⟨Rect.unit (s := S4352x256) ![4096, 0] S256x256.size inb, k0_pay1⟩])) = scaledRows B x0 x2 x3 := by
  funext y
  rw [View.writes_append]
  refine (read_groups v _ (fun n => (P n).2.2.1) (fun n => B.scaled (Scf.iv 0#32 1#32 n) (k0_pay23 (rows 256 x0 n) x3) x2) (congrArg (·.2.2.1) h.zero)
    (fun n hn => ?_) 16 (le_refl _) y).trans ?_
  · obtain ⟨_, off, _, inb', _, ho, hP⟩ := h.succ n hn
    exact ⟨off, inb', ho, congrArg (·.2.2.1) hP⟩
  · unfold scaledRows
    by_cases hy : (y 0).val < 256 * 16
    · rw [if_pos hy, if_pos hy]
    · rw [if_neg hy, if_neg hy]
      have h2 : (y 0).val < 4352 := (y 0).isLt
      exact View.read_writes_cons_rows_of_mem (o := 4096) v f inb _ _ y (inside y) rfl (by show (y 0).val = 4096 + (y 0).val % 256; omega) rfl

theorem First.minus (v : View sig κ sp S4096x256 .f32) (f : v.ty.Contents (Elt F)) :
    v.read (Elt F) (v.writes (Elt F) f (P 16).2.2.2) = minusRows B x0 x2 x3 := by
  funext y
  refine (read_groups v _ (fun n => (P n).2.2.2) (fun n => B.minus (k0_pay23 (rows 256 x0 n) x3) x2) (congrArg (·.2.2.2) h.zero) (fun n hn => ?_) 16 (le_refl _) y).trans ?_
  · obtain ⟨off, _, inb', _, ho, _, hP⟩ := h.succ n hn
    exact ⟨off, inb', ho, congrArg (·.2.2.2) hP⟩
  · exact if_pos (y 0).isLt

end reads

theorem Second.out {B : Branch F} {z : Vec F S4352x256 .f32} {m : Vec F S4096x256 .f32} {P : ℕ → List (View.Piece (Elt F) S4096x256 .bf16)} (h : Second B z m P)
    (v : View sig κ sp S4096x256 .bf16) (f : v.ty.Contents (Elt F)) : v.read (Elt F) (v.writes (Elt F) f (P 16)) = outRows B z m := by
  funext y
  refine (read_groups v _ P (fun n => B.out (rows 512 z n) (rows 256 m n)) h.zero h.succ 16 (le_refl _) y).trans ?_
  exact if_pos (y 0).isLt

end Cert.PoolIdeal.Run

end
-- ==== Proof.Pool.Run.lean ====
/- The kernel's body at the four points of its grid. -/
module

public import proofs.«01_k».proof.Proof.Pool.Model

@[expose] public section

set_option maxRecDepth 16384

noncomputable section

namespace Cert.PoolIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolIdeal Cert.PoolIdeal.Gen

variable {F : FTy → Type} [FloatOps F]

local notation "𝕄" => MT nD τ sig Unit (Elt F) ℕ (UR sig nD τ) ℕ

variable (c : Dev nD) (i : grid0.Coords) (arg1 : Memref sig .tc .vmem S4096x256 .f32) (harg1 : arg1.IsWhole)
  (arg2 : Memref sig .tc .vmem S4096x256 .bf16) (harg2 : arg2.IsWhole) (arg3 : Memref sig .tc .vmem S1x256x256 .bf16) (harg3 : arg3.IsWhole)
  (arg4 : Memref sig .tc .vmem S1x1x256 .f32) (harg4 : arg4.IsWhole) (arg5 : Memref sig .tc .vmem S4096x256 .bf16) (harg5 : arg5.IsWhole)
  (arg6 : Memref sig .tc .vmem S1x256x256 .f32) (harg6 : arg6.IsWhole) (arg7 : Memref sig .tc .vmem S1x1x256 .f32) (harg7 : arg7.IsWhole)
  (arg8 : Memref sig .tc .vmem S4352x256 .f32) (harg8 : arg8.IsWhole) (arg9 : Memref sig .tc .vmem S4096x256 .f32) (harg9 : arg9.IsWhole)

/-- A buffer held at some contents is owned at some contents. -/
theorem owned {c : Thread nD τ} {sp : Space} {sh : Shape} {e : EltTy} (b : Memref sig c.2.kind sp sh e) (f : b.view.ty.Contents (Elt F)) :
    (iprop(b.view.loc c ↦[b.view.set]{fullShare} f) : sProp 𝕄) ⊢ iprop(∃ d, owns c b fullShare d) := by
  iintro H
  iexists _; iapply owns_intro; iexact H

/-- A buffer held at contents that read `d` is owned at `d`. -/
theorem owned_at {c : Thread nD τ} {sp : Space} {sh : Shape} {e : EltTy} (b : Memref sig c.2.kind sp sh e) (f : b.view.ty.Contents (Elt F)) (d : Vec F sh e)
    (h : b.view.read (Elt F) f = d) : (iprop(b.view.loc c ↦[b.view.set]{fullShare} f) : sProp 𝕄) ⊢ (owns c b fullShare d : sProp 𝕄) := by
  subst h; iintro H; iapply owns_intro; iexact H

/-- After the body: the four inputs as they were, the three results at the values the model gives them. -/
def After (B : Branch F) (x0 : Vec F S4096x256 .f32) (x1 : Vec F S4096x256 .bf16) (x2 : Vec F S1x256x256 .bf16) (x3 : Vec F S1x1x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3
    ∗ owns (c : Thread nD τ) arg5 fullShare (du B x0 x2 x3) ∗ owns (c : Thread nD τ) arg6 fullShare (sumW x0 x1 x3 16) ∗ owns (c : Thread nD τ) arg7 fullShare (sumS x0 x1 x2 16)
    ∗ (∃ d, owns (c : Thread nD τ) arg8 fullShare d) ∗ (∃ d, owns (c : Thread nD τ) arg9 fullShare d))

/-- Before the body: the four inputs at their values, the other buffers at any. -/
def Before (x0 : Vec F S4096x256 .f32) (x1 : Vec F S4096x256 .bf16) (x2 : Vec F S1x256x256 .bf16) (x3 : Vec F S1x1x256 .f32) (R : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3
    ∗ (∃ d, owns (c : Thread nD τ) arg5 fullShare d) ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d) ∗ R)

variable (x0 : Vec F S4096x256 .f32) (x1 : Vec F S4096x256 .bf16) (x2 : Vec F S1x256x256 .bf16) (x3 : Vec F S1x1x256 .f32)
  (G6 : arg6.view.ty.Contents (Elt F)) (G7 : arg7.view.ty.Contents (Elt F)) (G8 f8 : arg8.view.ty.Contents (Elt F)) (G9 f9 : arg9.view.ty.Contents (Elt F)) (G5 : arg5.view.ty.Contents (Elt F))

/-- The first loop's stores in terms of its loads. -/
theorem First.of_loads (B : Branch F) (off1 off2 : Fin 16 → Fin 2 → ℕ) (ho1 : ∀ n, off1 n = ![256 * n.val, 0]) (ho2 : ∀ n, off2 n = ![256 * n.val, 0])
    (inb1 : ∀ n a, off1 n a + S256x256.size a ≤ S4096x256.size a) (inb2 : ∀ n a, off2 n a + S256x256.size a ≤ S4352x256.size a)
    (P : ℕ → List (View.Piece (Elt F) S1x256x256 .f32) × List (View.Piece (Elt F) S1x1x256 .f32) × List (View.Piece (Elt F) S4352x256 .f32) × List (View.Piece (Elt F) S4096x256 .f32))
    (h0 : P 0 = ([], [], [], []))
    (hs : ∀ n : Fin 16,
      let a1 := View.readAt (Elt F) arg1.view (Rect.unit (s := S4096x256) (off1 n) S256x256.size (inb1 n)).toLoadRect (harg1.unread x0)
      let a2 := View.readAt (Elt F) arg2.view (Rect.unit (s := S4096x256) (off1 n) S256x256.size (inb1 n)).toLoadRect (harg2.unread x1)
      let a3 := View.readAt (Elt F) arg3.view (Rect.unit (s := S1x256x256) ![0, 0, 0] S1x256x256.size inb_S1x256x256_S1x256x256_0_0_0).toLoadRect (harg3.unread x2)
      let a4 := View.readAt (Elt F) arg4.view (Rect.unit (s := S1x1x256) ![0, 0, 0] S1x1x256.size inb_S1x1x256_S1x1x256_0_0_0).toLoadRect (harg4.unread x3)
      let a6 := View.readAt (Elt F) arg6.view (Rect.unit (s := S1x256x256) ![0, 0, 0] S1x256x256.size inb_S1x256x256_S1x256x256_0_0_0).toLoadRect (arg6.view.writes (Elt F) G6 (P n.val).1)
      let a7 := View.readAt (Elt F) arg7.view (Rect.unit (s := S1x1x256) ![0, 0, 0] S1x1x256.size inb_S1x1x256_S1x1x256_0_0_0).toLoadRect (arg7.view.writes (Elt F) G7 (P n.val).2.1)
      P (n.val + 1) =
      (⟨Rect.unit (s := S1x256x256) ![0, 0, 0] S1x256x256.size inb_S1x256x256_S1x256x256_0_0_0, k0_pay24 a1 a2 a4 a6⟩ :: (P n.val).1,
       ⟨Rect.unit (s := S1x1x256) ![0, 0, 0] S1x1x256.size inb_S1x1x256_S1x1x256_0_0_0, k0_pay22 a1 a2 a3 a7⟩ :: (P n.val).2.1,
       ⟨Rect.unit (s := S4352x256) (off2 n) S256x256.size (inb2 n), B.scaled (Scf.iv 0#32 1#32 n.val) (k0_pay23 a1 a4) a3⟩ :: (P n.val).2.2.1,
       ⟨Rect.unit (s := S4096x256) (off1 n) S256x256.size (inb1 n), B.minus (k0_pay23 a1 a4) a3⟩ :: (P n.val).2.2.2)) :
    First B x0 x1 x2 x3 arg6.view arg7.view G6 G7 P where
  zero := h0
  succ n hn := by
    refine ⟨off1 ⟨n, hn⟩, off2 ⟨n, hn⟩, inb1 ⟨n, hn⟩, inb2 ⟨n, hn⟩, ho1 ⟨n, hn⟩, ho2 ⟨n, hn⟩, ?_⟩
    have e1 := load_rows (W := 256) arg1.view (harg1.unread x0) x0 (harg1.read_unread x0) n _ (inb1 ⟨n, hn⟩) (ho1 ⟨n, hn⟩)
    have e2 := load_rows (W := 256) arg2.view (harg2.unread x1) x1 (harg2.read_unread x1) n _ (inb1 ⟨n, hn⟩) (ho1 ⟨n, hn⟩)
    have e3 := (View.readAt_full arg3.view (harg3.unread x2) inb_S1x256x256_S1x256x256_0_0_0).trans (harg3.read_unread x2)
    have e4 := (View.readAt_full arg4.view (harg4.unread x3) inb_S1x1x256_S1x1x256_0_0_0).trans (harg4.read_unread x3)
    have e6 := fun f => View.readAt_full arg6.view (Val := Elt F) f inb_S1x256x256_S1x256x256_0_0_0
    have e7 := fun f => View.readAt_full arg7.view (Val := Elt F) f inb_S1x1x256_S1x1x256_0_0_0
    rw [hs ⟨n, hn⟩, e1, e2, e3, e4, e6, e7]

/-- The second loop's stores in terms of its loads. -/
theorem Second.of_loads (B : Branch F) (z : Vec F S4352x256 .f32) (m : Vec F S4096x256 .f32) (hz : arg8.view.read (Elt F) f8 = z) (hm : arg9.view.read (Elt F) f9 = m)
    (off1 off2 : Fin 16 → Fin 2 → ℕ) (ho1 : ∀ n, off1 n = ![256 * n.val, 0]) (ho2 : ∀ n, off2 n = ![256 * n.val, 0])
    (inb1 : ∀ n a, off1 n a + S256x256.size a ≤ S4096x256.size a) (inb2 : ∀ n a, off2 n a + S512x256.size a ≤ S4352x256.size a)
    (P : ℕ → List (View.Piece (Elt F) S4096x256 .bf16)) (h0 : P 0 = [])
    (hs : ∀ n : Fin 16, P (n.val + 1) = ⟨Rect.unit (s := S4096x256) (off1 n) S256x256.size (inb1 n),
      B.out (View.readAt (Elt F) arg8.view (Rect.unit (s := S4352x256) (off2 n) S512x256.size (inb2 n)).toLoadRect f8)
        (View.readAt (Elt F) arg9.view (Rect.unit (s := S4096x256) (off1 n) S256x256.size (inb1 n)).toLoadRect f9)⟩ :: P n.val) :
    Second B z m P where
  zero := h0
  succ n hn := by
    refine ⟨off1 ⟨n, hn⟩, inb1 ⟨n, hn⟩, ho1 ⟨n, hn⟩, ?_⟩
    have e1 := load_rows (W := 512) arg8.view f8 z hz n _ (inb2 ⟨n, hn⟩) (ho2 ⟨n, hn⟩)
    have e2 := load_rows (W := 256) arg9.view f9 m hm n _ (inb1 ⟨n, hn⟩) (ho1 ⟨n, hn⟩)
    rw [hs ⟨n, hn⟩, e1, e2]

theorem firstA (hc : k0_cond1 i = 1#1) : First (branch 0) x0 x1 x2 x3 arg6.view arg7.view G6 G7
    (pb_k0_t1 (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9) :=
  First.of_loads arg1 harg1 arg2 harg2 arg3 harg3 arg4 harg4 arg6 arg7 x0 x1 x2 x3 G6 G7 (branch 0) k0_off1 k0_off2 k0_off1_eq k0_off2_eq
    (fun n => k0_off1_inb i n hc) (fun n => k0_off2_inb i n hc) _ rfl fun n => (pb_k0_t1_succ (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9 n).trans (by unfold tripL_k0_t1 trip_k0_t1 trip_k0_t1.sl.r; rfl)

theorem secondA (hc : k0_cond1 i = 1#1) (z : Vec F S4352x256 .f32) (m : Vec F S4096x256 .f32) (hz : arg8.view.read (Elt F) f8 = z) (hm : arg9.view.read (Elt F) f9 = m) :
    Second (branch 0) z m (pb_k0_t2 (F := F) Variants.none c none i arg1 harg1 arg2 harg2 arg3 harg3 arg4 harg4 arg5 harg5 arg6 harg6 arg7 harg7 arg8 harg8 arg9 harg9 hc f8 f9) :=
  Second.of_loads arg8 arg9 f8 f9 (branch 0) z m hz hm k0_off4 k0_off3 k0_off4_eq k0_off3_eq
    (fun n => k0_off4_inb i n hc) (fun n => k0_off3_inb i n hc) _ rfl fun n => (pb_k0_t2_succ (F := F) Variants.none c none i arg1 harg1 arg2 harg2 arg3 harg3 arg4 harg4 arg5 harg5 arg6 harg6 arg7 harg7 arg8 harg8 arg9 harg9 hc
      f8 f9 n).trans (by unfold tripL_k0_t2 trip_k0_t2; rfl)

theorem firstB (hc : k0_cond2 i = 1#1) : First (branch 1) x0 x1 x2 x3 arg6.view arg7.view G6 G7
    (pb_k0_t3 (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9) :=
  First.of_loads arg1 harg1 arg2 harg2 arg3 harg3 arg4 harg4 arg6 arg7 x0 x1 x2 x3 G6 G7 (branch 1) k0_off5 k0_off6 k0_off5_eq k0_off6_eq
    (fun n => k0_off5_inb i n hc) (fun n => k0_off6_inb i n hc) _ rfl fun n => (pb_k0_t3_succ (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9 n).trans (by unfold tripL_k0_t3 trip_k0_t3 trip_k0_t3.sl.r; rfl)

theorem secondB (hc : k0_cond2 i = 1#1) (z : Vec F S4352x256 .f32) (m : Vec F S4096x256 .f32) (hz : arg8.view.read (Elt F) f8 = z) (hm : arg9.view.read (Elt F) f9 = m) :
    Second (branch 1) z m (pb_k0_t4 (F := F) Variants.none c none i arg1 harg1 arg2 harg2 arg3 harg3 arg4 harg4 arg5 harg5 arg6 harg6 arg7 harg7 arg8 harg8 arg9 harg9 hc f8 f9) :=
  Second.of_loads arg8 arg9 f8 f9 (branch 1) z m hz hm k0_off8 k0_off7 k0_off8_eq k0_off7_eq
    (fun n => k0_off8_inb i n hc) (fun n => k0_off7_inb i n hc) _ rfl fun n => (pb_k0_t4_succ (F := F) Variants.none c none i arg1 harg1 arg2 harg2 arg3 harg3 arg4 harg4 arg5 harg5 arg6 harg6 arg7 harg7 arg8 harg8 arg9 harg9 hc
      f8 f9 n).trans (by unfold tripL_k0_t4 trip_k0_t4; rfl)

theorem firstC (hc : k0_cond3 i = 1#1) : First (branch 2) x0 x1 x2 x3 arg6.view arg7.view G6 G7
    (pb_k0_t5 (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9) :=
  First.of_loads arg1 harg1 arg2 harg2 arg3 harg3 arg4 harg4 arg6 arg7 x0 x1 x2 x3 G6 G7 (branch 2) k0_off9 k0_off10 k0_off9_eq k0_off10_eq
    (fun n => k0_off9_inb i n hc) (fun n => k0_off10_inb i n hc) _ rfl fun n => (pb_k0_t5_succ (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9 n).trans (by unfold tripL_k0_t5 trip_k0_t5 trip_k0_t5.sl.r; rfl)

theorem secondC (hc : k0_cond3 i = 1#1) (z : Vec F S4352x256 .f32) (m : Vec F S4096x256 .f32) (hz : arg8.view.read (Elt F) f8 = z) (hm : arg9.view.read (Elt F) f9 = m) :
    Second (branch 2) z m (pb_k0_t6 (F := F) Variants.none c none i arg1 harg1 arg2 harg2 arg3 harg3 arg4 harg4 arg5 harg5 arg6 harg6 arg7 harg7 arg8 harg8 arg9 harg9 hc f8 f9) :=
  Second.of_loads arg8 arg9 f8 f9 (branch 2) z m hz hm k0_off12 k0_off11 k0_off12_eq k0_off11_eq
    (fun n => k0_off12_inb i n hc) (fun n => k0_off11_inb i n hc) _ rfl fun n => (pb_k0_t6_succ (F := F) Variants.none c none i arg1 harg1 arg2 harg2 arg3 harg3 arg4 harg4 arg5 harg5 arg6 harg6 arg7 harg7 arg8 harg8 arg9 harg9 hc
      f8 f9 n).trans (by unfold tripL_k0_t6 trip_k0_t6; rfl)

theorem firstD (hc : k0_cond4 i = 1#1) : First (branch 3) x0 x1 x2 x3 arg6.view arg7.view G6 G7
    (pb_k0_t7 (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9) :=
  First.of_loads arg1 harg1 arg2 harg2 arg3 harg3 arg4 harg4 arg6 arg7 x0 x1 x2 x3 G6 G7 (branch 3) k0_off13 k0_off14 k0_off13_eq k0_off14_eq
    (fun n => k0_off13_inb i n hc) (fun n => k0_off14_inb i n hc) _ rfl fun n => (pb_k0_t7_succ (F := F) Variants.none c none i arg1 harg1 arg2 harg2 arg3 harg3 arg4 harg4 arg5 harg5 arg6 harg6 arg7 harg7 arg8 harg8 arg9 harg9 hc
      (harg1.unread x0) (harg2.unread x1) (harg3.unread x2) (harg4.unread x3) G6 G7 G8 G9 n).trans (by unfold tripL_k0_t7 trip_k0_t7 trip_k0_t7.sl.r; rfl)

theorem secondD (hc : k0_cond4 i = 1#1) (z : Vec F S4352x256 .f32) (m : Vec F S4096x256 .f32) (hz : arg8.view.read (Elt F) f8 = z) (hm : arg9.view.read (Elt F) f9 = m) :
    Second (branch 3) z m (pb_k0_t8 (F := F) Variants.none c none i arg1 harg1 arg2 harg2 arg3 harg3 arg4 harg4 arg5 harg5 arg6 harg6 arg7 harg7 arg8 harg8 arg9 harg9 hc f8 f9) :=
  Second.of_loads arg8 arg9 f8 f9 (branch 3) z m hz hm k0_off16 k0_off15 k0_off16_eq k0_off15_eq
    (fun n => k0_off16_inb i n hc) (fun n => k0_off15_inb i n hc) _ rfl fun n => (pb_k0_t8_succ (F := F) Variants.none c none i arg1 harg1 arg2 harg2 arg3 harg3 arg4 harg4 arg5 harg5 arg6 harg6 arg7 harg7 arg8 harg8 arg9 harg9 hc
      f8 f9 n).trans (by unfold tripL_k0_t8 trip_k0_t8; rfl)

section finish

variable {B : Branch F} {inb : ∀ a, (![4096, 0] : Fin 2 → ℕ) a + S256x256.size a ≤ S4352x256.size a} {f6 : arg6.view.ty.Contents (Elt F)} {f7 : arg7.view.ty.Contents (Elt F)}
  {P : ℕ → List (View.Piece (Elt F) S1x256x256 .f32) × List (View.Piece (Elt F) S1x1x256 .f32) × List (View.Piece (Elt F) S4352x256 .f32) × List (View.Piece (Elt F) S4096x256 .f32)}
  {Q : ℕ → List (View.Piece (Elt F) S4096x256 .bf16)}

/-- The weights' gradient as the first loop's start has it. -/
abbrev zeroW : List (View.Piece (Elt F) S1x256x256 .f32) := [⟨Rect.unit (s := S1x256x256) ![0, 0, 0] S1x256x256.size inb_S1x256x256_S1x256x256_0_0_0, k0_pay2⟩]
/-- The scale's gradient as the first loop's start has it. -/
abbrev zeroS : List (View.Piece (Elt F) S1x1x256 .f32) := [⟨Rect.unit (s := S1x1x256) ![0, 0, 0] S1x1x256.size inb_S1x1x256_S1x1x256_0_0_0, k0_pay3⟩]

/-- What the stores of the two loops leave. -/
theorem finish (h : First B x0 x1 x2 x3 arg6.view arg7.view (arg6.view.writes (Elt F) f6 zeroW) (arg7.view.writes (Elt F) f7 zeroS) P)
    (h' : Second B (scaledRows B x0 x2 x3) (minusRows B x0 x2 x3) Q) :
    iprop((arg1.view.loc (c : Thread nD τ) ↦[arg1.view.set]{fullShare} harg1.unread x0) ∗ (arg2.view.loc (c : Thread nD τ) ↦[arg2.view.set]{fullShare} harg2.unread x1)
      ∗ (arg3.view.loc (c : Thread nD τ) ↦[arg3.view.set]{fullShare} harg3.unread x2) ∗ (arg4.view.loc (c : Thread nD τ) ↦[arg4.view.set]{fullShare} harg4.unread x3)
      ∗ (arg5.view.loc (c : Thread nD τ) ↦[arg5.view.set]{fullShare} arg5.view.writes (Elt F) G5 (Q 16))
      ∗ (arg6.view.loc (c : Thread nD τ) ↦[arg6.view.set]{fullShare} arg6.view.writes (Elt F) f6 ((P 16).1 ++ zeroW))
      ∗ (arg7.view.loc (c : Thread nD τ) ↦[arg7.view.set]{fullShare} arg7.view.writes (Elt F) f7 ((P 16).2.1 ++ zeroS))
      ∗ (arg8.view.loc (c : Thread nD τ) ↦[arg8.view.set]{fullShare} f8) ∗ (arg9.view.loc (c : Thread nD τ) ↦[arg9.view.set]{fullShare} f9))
    ⊢ (After c arg1 arg2 arg3 arg4 arg5 arg6 arg7 arg8 arg9 B x0 x1 x2 x3 : sProp 𝕄) := by
  unfold After
  iintro ⟨H0, H1, H2, H3, H4, H5, H6, HS0, HS1⟩
  isplitl [H0]; · iapply (owned_at (c := (c : Thread nD τ)) arg1 _ _ (harg1.read_unread x0)); iexact H0
  isplitl [H1]; · iapply (owned_at (c := (c : Thread nD τ)) arg2 _ _ (harg2.read_unread x1)); iexact H1
  isplitl [H2]; · iapply (owned_at (c := (c : Thread nD τ)) arg3 _ _ (harg3.read_unread x2)); iexact H2
  isplitl [H3]; · iapply (owned_at (c := (c : Thread nD τ)) arg4 _ _ (harg4.read_unread x3)); iexact H3
  isplitl [H4]; · iapply (owned_at (c := (c : Thread nD τ)) arg5 _ _ (h'.out arg5.view G5)); iexact H4
  isplitl [H5]
  · iapply (owned_at (c := (c : Thread nD τ)) arg6 _ _ ((congrArg _ (View.writes_append arg6.view f6 _ _)).trans (h.weights (View.read_writes_full arg6.view f6 _ _ _) 16 (le_refl _)))); iexact H5
  isplitl [H6]
  · iapply (owned_at (c := (c : Thread nD τ)) arg7 _ _ ((congrArg _ (View.writes_append arg7.view f7 _ _)).trans (h.scale (View.read_writes_full arg7.view f7 _ _ _) 16 (le_refl _)))); iexact H6
  isplitl [HS0]; · iapply (owned (c := (c : Thread nD τ)) arg8); iexact HS0
  iapply (owned (c := (c : Thread nD τ)) arg9); iexact HS1

end finish

set_option maxHeartbeats 4000000 in
theorem runA (hc0 : cond0_0 i) (hc1 : ¬cond0_1 i) (hc2 : ¬cond0_2 i) (hc3 : ¬cond0_3 i) (E : Set ℕ) (K : PUnit → sProp 𝕄) :
    Before c arg1 arg2 arg3 arg4 arg5 arg6 arg7 arg8 arg9 x0 x1 x2 x3 iprop(After c arg1 arg2 arg3 arg4 arg5 arg6 arg7 arg8 arg9 (branch 0) x0 x1 x2 x3 -∗ K ⟨⟩)
      ⊢ wp frame (wpE (defs₀ (F := F)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold Before owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  have h := firstA c i arg1 harg1 arg2 harg2 arg3 harg3 arg4 harg4 arg5 harg5 arg6 harg6 arg7 harg7 arg8 harg8 arg9 harg9 x0 x1 x2 x3
    (arg6.view.writes (Elt F) arg6.view.junk zeroW) (arg7.view.writes (Elt F) arg7.view.junk zeroS)
    (arg8.view.writes (Elt F) fs0 [⟨Rect.unit ![4096, 0] S256x256.size inb_S4352x256_S256x256_4096_0, k0_pay1⟩]) fs1 hc0
  iapply Hk
  iapply (finish c arg1 harg1 arg2 harg2 arg3 harg3 arg4 harg4 arg5 arg6 arg7 arg8 arg9 x0 x1 x2 x3 _ _ _ h
    (secondA c i arg1 harg1 arg2 harg2 arg3 harg3 arg4 harg4 arg5 harg5 arg6 harg6 arg7 harg7 arg8 harg8 arg9 harg9 _ _ hc0 _ _
      (h.scaled arg8.view fs0 inb_S4352x256_S256x256_4096_0) (h.minus arg9.view fs1)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

set_option maxHeartbeats 4000000 in
theorem runB (hc0 : ¬cond0_0 i) (hc1 : cond0_1 i) (hc2 : ¬cond0_2 i) (hc3 : ¬cond0_3 i) (E : Set ℕ) (K : PUnit → sProp 𝕄) :
    Before c arg1 arg2 arg3 arg4 arg5 arg6 arg7 arg8 arg9 x0 x1 x2 x3 iprop(After c arg1 arg2 arg3 arg4 arg5 arg6 arg7 arg8 arg9 (branch 1) x0 x1 x2 x3 -∗ K ⟨⟩)
      ⊢ wp frame (wpE (defs₀ (F := F)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold Before owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  have h := firstB c i arg1 harg1 arg2 harg2 arg3 harg3 arg4 harg4 arg5 harg5 arg6 harg6 arg7 harg7 arg8 harg8 arg9 harg9 x0 x1 x2 x3
    (arg6.view.writes (Elt F) arg6.view.junk zeroW) (arg7.view.writes (Elt F) arg7.view.junk zeroS)
    (arg8.view.writes (Elt F) fs0 [⟨Rect.unit ![4096, 0] S256x256.size inb_S4352x256_S256x256_4096_0, k0_pay1⟩]) fs1 hc1
  iapply Hk
  iapply (finish c arg1 harg1 arg2 harg2 arg3 harg3 arg4 harg4 arg5 arg6 arg7 arg8 arg9 x0 x1 x2 x3 _ _ _ h
    (secondB c i arg1 harg1 arg2 harg2 arg3 harg3 arg4 harg4 arg5 harg5 arg6 harg6 arg7 harg7 arg8 harg8 arg9 harg9 _ _ hc1 _ _
      (h.scaled arg8.view fs0 inb_S4352x256_S256x256_4096_0) (h.minus arg9.view fs1)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

set_option maxHeartbeats 4000000 in
theorem runC (hc0 : ¬cond0_0 i) (hc1 : ¬cond0_1 i) (hc2 : cond0_2 i) (hc3 : ¬cond0_3 i) (E : Set ℕ) (K : PUnit → sProp 𝕄) :
    Before c arg1 arg2 arg3 arg4 arg5 arg6 arg7 arg8 arg9 x0 x1 x2 x3 iprop(After c arg1 arg2 arg3 arg4 arg5 arg6 arg7 arg8 arg9 (branch 2) x0 x1 x2 x3 -∗ K ⟨⟩)
      ⊢ wp frame (wpE (defs₀ (F := F)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold Before owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  have h := firstC c i arg1 harg1 arg2 harg2 arg3 harg3 arg4 harg4 arg5 harg5 arg6 harg6 arg7 harg7 arg8 harg8 arg9 harg9 x0 x1 x2 x3
    (arg6.view.writes (Elt F) arg6.view.junk zeroW) (arg7.view.writes (Elt F) arg7.view.junk zeroS)
    (arg8.view.writes (Elt F) fs0 [⟨Rect.unit ![4096, 0] S256x256.size inb_S4352x256_S256x256_4096_0, k0_pay1⟩]) fs1 hc2
  iapply Hk
  iapply (finish c arg1 harg1 arg2 harg2 arg3 harg3 arg4 harg4 arg5 arg6 arg7 arg8 arg9 x0 x1 x2 x3 _ _ _ h
    (secondC c i arg1 harg1 arg2 harg2 arg3 harg3 arg4 harg4 arg5 harg5 arg6 harg6 arg7 harg7 arg8 harg8 arg9 harg9 _ _ hc2 _ _
      (h.scaled arg8.view fs0 inb_S4352x256_S256x256_4096_0) (h.minus arg9.view fs1)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

set_option maxHeartbeats 4000000 in
theorem runD (hc0 : ¬cond0_0 i) (hc1 : ¬cond0_1 i) (hc2 : ¬cond0_2 i) (hc3 : cond0_3 i) (E : Set ℕ) (K : PUnit → sProp 𝕄) :
    Before c arg1 arg2 arg3 arg4 arg5 arg6 arg7 arg8 arg9 x0 x1 x2 x3 iprop(After c arg1 arg2 arg3 arg4 arg5 arg6 arg7 arg8 arg9 (branch 3) x0 x1 x2 x3 -∗ K ⟨⟩)
      ⊢ wp frame (wpE (defs₀ (F := F)) Variants.none c none) E (cc0_pool_bwd i arg1 harg1 arg2 harg2 arg3 harg3 arg4 harg4 arg5 harg5 arg6 harg6 arg7 harg7 arg8 harg8 arg9 harg9) K := by
  simp only [cc0_pool_bwd_eq_skeleton]; unfold cc0_pool_bwd_skel
  unfold Before owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  have h := firstD c i arg1 harg1 arg2 harg2 arg3 harg3 arg4 harg4 arg5 harg5 arg6 harg6 arg7 harg7 arg8 harg8 arg9 harg9 x0 x1 x2 x3
    (arg6.view.writes (Elt F) arg6.view.junk zeroW) (arg7.view.writes (Elt F) arg7.view.junk zeroS)
    (arg8.view.writes (Elt F) fs0 [⟨Rect.unit ![4096, 0] S256x256.size inb_S4352x256_S256x256_4096_0, k0_pay1⟩]) fs1 hc3
  iapply Hk
  iapply (finish c arg1 harg1 arg2 harg2 arg3 harg3 arg4 harg4 arg5 arg6 arg7 arg8 arg9 x0 x1 x2 x3 _ _ _ h
    (secondD c i arg1 harg1 arg2 harg2 arg3 harg3 arg4 harg4 arg5 harg5 arg6 harg6 arg7 harg7 arg8 harg8 arg9 harg9 _ _ hc3 _ _
      (h.scaled arg8.view fs0 inb_S4352x256_S256x256_4096_0) (h.minus arg9.view fs1)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iexact HS1

end Cert.PoolIdeal.Run

end
-- ==== Proof.Pool.Launch.lean ====
/- The pooled branch's backward kernel, run: the host lines, then the body at each of the four points of the grid. -/
module

public import proofs.«01_k».proof.Proof.Pool.Run
public import Idealize.ShloMosaic.Lib.Claim
public import Idealize.ShloMosaic.Lib.Pipeline.FrameBody

@[expose] public section

set_option maxRecDepth 16384

noncomputable section

namespace Cert.PoolIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.PoolIdeal Cert.PoolIdeal.Gen

variable {F : FTy → Type} [FloatOps F]

local notation "𝕄" => MT nD τ sig Unit (Elt F) ℕ (UR sig nD τ) ℕ

variable (m : (ℓ : Loc nD τ sig) → Buf (Elt F) ℓ) (g : Dev nD → PrngReg) (c : Dev nD)

/-! ## What the windows hold -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => du (branch t.val) (iblk m c 0 t) (iblk m c 2 t) (iblk m c 3 t)
    | ⟨5, _⟩ => sumW (iblk m c 0 t) (iblk m c 1 t) (iblk m c 3 t) 16
    | ⟨6, _⟩ => sumS (iblk m c 0 t) (iblk m c 1 t) (iblk m c 2 t) 16
  Φ _ := Pipeline.ΦA spec0 c
  q _ := fullShare
  owed _ := 0

theorem dats_A (w : Fin cfg0.W) : (dats m 0 c).A w = V m c (Pipeline.arrRef spec0 w) := by dsimp only [dats]

theorem kept0 (t : Fin cfg0.N) : (dats m 0 c).after 0 t = iblk m c 0 t := by dsimp only [dats]
theorem kept1 (t : Fin cfg0.N) : (dats m 0 c).after 1 t = iblk m c 1 t := by dsimp only [dats]
theorem kept2 (t : Fin cfg0.N) : (dats m 0 c).after 2 t = iblk m c 2 t := by dsimp only [dats]
theorem kept3 (t : Fin cfg0.N) : (dats m 0 c).after 3 t = iblk m c 3 t := by dsimp only [dats]

/-- What the body leaves in each window's buffer, as the launch states it. -/
theorem left (t : Fin cfg0.N) :
    (dats m 0 c).leavesExact 0 t = owns (c : Thread nD τ) (ms0_0 t) fullShare (iblk m c 0 t) ∧
    (dats m 0 c).leavesExact 1 t = owns (c : Thread nD τ) (ms0_1 t) fullShare (iblk m c 1 t) ∧
    (dats m 0 c).leavesExact 2 t = owns (c : Thread nD τ) (ms0_2 t) fullShare (iblk m c 2 t) ∧
    (dats m 0 c).leavesExact 3 t = owns (c : Thread nD τ) (ms0_3 t) fullShare (iblk m c 3 t) ∧
    (dats m 0 c).leavesExact 5 t = owns (c : Thread nD τ) (ms0_5 t) fullShare (sumW (iblk m c 0 t) (iblk m c 1 t) (iblk m c 3 t) 16) ∧
    (dats m 0 c).leavesExact 6 t = owns (c : Thread nD τ) (ms0_6 t) fullShare (sumS (iblk m c 0 t) (iblk m c 1 t) (iblk m c 2 t) 16) := by
  refine ⟨?_, ?_, ?_, ?_, ?_, ?_⟩
  all_goals
    unfold Dat.leavesExact
    dsimp only [dats]

/-- The four conditions at a point: exactly one holds. -/
theorem point (t : Fin cfg0.N) :
    (t.val = 0 ∧ conds0_A (grid0.coords t)) ∨ (t.val = 1 ∧ conds0_B (grid0.coords t)) ∨ (t.val = 2 ∧ conds0_C (grid0.coords t)) ∨ (t.val = 3 ∧ conds0_D (grid0.coords t)) := by
  have hN : t.val < 4 := lt_of_lt_of_eq t.isLt (show cfg0.N = 4 from N_0)
  unfold conds0_A conds0_B conds0_C conds0_D
  rw [hcond0_0 t, hcond0_1 t, hcond0_2 t, hcond0_3 t]
  omega

theorem left_out (t : Fin cfg0.N) :
    (dats m 0 c).leavesExact 4 t = owns (c : Thread nD τ) (ms0_4 t) fullShare (du (branch t.val) (iblk m c 0 t) (iblk m c 2 t) (iblk m c 3 t)) := by
  have h : cfg0.idle 4 (grid0.coords t) = false := by
    rcases point t with ⟨-, a, b, d, e⟩ | ⟨-, a, b, d, e⟩ | ⟨-, a, b, d, e⟩ | ⟨-, a, b, d, e⟩
    · exact liveAt0_4_A t a b d e
    · exact liveAt0_4_B t a b d e
    · exact liveAt0_4_C t a b d e
    · exact liveAt0_4_D t a b d e
  unfold Dat.leavesExact
  rw [h]
  dsimp only [dats]

/-- The body at a point, whichever of its four cases the point is. -/
theorem body_le (t : Fin cfg0.N) (arg1 : Memref sig .tc .vmem S4096x256 .f32) (harg1 : arg1.IsWhole)
    (arg2 : Memref sig .tc .vmem S4096x256 .bf16) (harg2 : arg2.IsWhole) (arg3 : Memref sig .tc .vmem S1x256x256 .bf16) (harg3 : arg3.IsWhole)
    (arg4 : Memref sig .tc .vmem S1x1x256 .f32) (harg4 : arg4.IsWhole) (arg5 : Memref sig .tc .vmem S4096x256 .bf16) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S4352x256 .f32) (harg8 : arg8.IsWhole) (arg9 : Memref sig .tc .vmem S4096x256 .f32) (harg9 : arg9.IsWhole)
    (x0 : Vec F S4096x256 .f32) (x1 : Vec F S4096x256 .bf16) (x2 : Vec F S1x256x256 .bf16) (x3 : Vec F S1x1x256 .f32) (E : Set ℕ) (K : PUnit → sProp 𝕄) :
    Before c arg1 arg2 arg3 arg4 arg5 arg6 arg7 arg8 arg9 x0 x1 x2 x3 iprop(After c arg1 arg2 arg3 arg4 arg5 arg6 arg7 arg8 arg9 (branch t.val) x0 x1 x2 x3 -∗ K ⟨⟩)
      ⊢ wp frame (wpE (defs₀ (F := F)) Variants.none c none) E (cc0_pool_bwd (grid0.coords t) arg1 harg1 arg2 harg2 arg3 harg3 arg4 harg4 arg5 harg5 arg6 harg6 arg7 harg7 arg8 harg8 arg9 harg9) K := by
  rcases point t with ⟨h, a, b, d, e⟩ | ⟨h, a, b, d, e⟩ | ⟨h, a, b, d, e⟩ | ⟨h, a, b, d, e⟩ <;> rw [h]
  · exact runA c _ arg1 harg1 arg2 harg2 arg3 harg3 arg4 harg4 arg5 harg5 arg6 harg6 arg7 harg7 arg8 harg8 arg9 harg9 x0 x1 x2 x3 a b d e E K
  · exact runB c _ arg1 harg1 arg2 harg2 arg3 harg3 arg4 harg4 arg5 harg5 arg6 harg6 arg7 harg7 arg8 harg8 arg9 harg9 x0 x1 x2 x3 a b d e E K
  · exact runC c _ arg1 harg1 arg2 harg2 arg3 harg3 arg4 harg4 arg5 harg5 arg6 harg6 arg7 harg7 arg8 harg8 arg9 harg9 x0 x1 x2 x3 a b d e E K
  · exact runD c _ arg1 harg1 arg2 harg2 arg3 harg3 arg4 harg4 arg5 harg5 arg6 harg6 arg7 harg7 arg8 harg8 arg9 harg9 x0 x1 x2 x3 a b d e E K

/-! ## The body at a point -/

theorem body_row (t : Fin cfg0.N) :
    defs₀ (F := F) .tc cfg0.body (cfg0.bodyArgs t (cfg0.slots t)) = bodyAt0 t := by
  unfold defs₀; rw [Defs.onTc_tc]

/-- The windows' buffers as the body finds them, and as it leaves them. -/
def before (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def leaves (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem body_at (t : Fin cfg0.N) :
    before m c t ⊢ wp frame (wpE (defs₀ (F := F)) Variants.none (c : Thread nD τ) none) Set.univ (bodyAt0 t) (fun _ => leaves m c t) := by
  have h0 := before0_0_of m (dats m 0 c) (dats_A m c 0) (kept0 m c) t
  have h1 := before0_1_of m (dats m 0 c) (dats_A m c 1) (kept1 m c) t
  have h2 := before0_2_of m (dats m 0 c) (dats_A m c 2) (kept2 m c) t
  have h3 := before0_3_of m (dats m 0 c) (dats_A m c 3) (kept3 m c) t
  obtain ⟨l0, l1, l2, l3, l5, l6⟩ := left m c t
  unfold before leaves bodyAt0
  rw [l0, l1, l2, l3, left_out, l5, l6, show (dats m 0 c).owesAt () t.succ = (dats m 0 c).owesAt () t.castSucc from rfl,
    show (dats m 0 c).Φ t.succ = Pipeline.ΦA spec0 c from rfl]
  simp only [h0, h1, h2, h3]
  rw [PhiA0_eq]
  iintro ⟨⟨⟨S0, S1⟩, R⟩, O, ⟨%d0, H0⟩, ⟨%d1, H1⟩, ⟨%d2, H2⟩, ⟨%d3, H3⟩, ⟨%d4, H4⟩, ⟨%d5, H5⟩, ⟨%d6, H6⟩⟩
  iapply (body_le c t _ _ _ _ _ _ _ _ _ _ _ _ _ _ _ _ _ _ (iblk m c 0 t) (iblk m c 1 t) (iblk m c 2 t) (iblk m c 3 t) Set.univ _)
  unfold Before After
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexact S0
  isplitl [S1]; · iexact S1
  iintro ⟨H0, H1, H2, H3, H4, H5, H6, S0, S1⟩
  isplitl [S0 S1 R]
  · isplitr [R]
    · isplitl [S0]; · iexact S0
      iexact S1
    · iexact R
  isplitl [O]; · iexact O
  isplitl [H0]; · iexact H0
  isplitl [H1]; · iexact H1
  isplitl [H2]; · iexact H2
  isplitl [H3]; · iexact H3
  isplitl [H4]; · iexact H4
  isplitl [H5]; · iexact H5
  iexact H6

theorem body_ok : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- Every run ends with the result arrays and the arguments as the windows say, and every counter at zero. -/
theorem run : θ_run defs (onTc (τ := τ) (main (F := F))) (s₀ m g)
    (fun r => Pipeline.FramePost cfgs (dats m) 0 (V m) r ∧ r.2.sem = fun _ => 0) :=
  Pipeline.θ_run_frame (Q' := _) cfgs (dats m) (0 : Fin 1) launch0 defs₀ Variants.none m g main
    (hbody := fun c => (body_ok m c).loose) (hshare := fun c => (dats m 0 c).share_full fun _ => rfl)
    (howed := fun _ _ => rfl) (V := V m) (hmain := hmain m Variants.none) (hA := dats_A m) (hΦ := fun _ _ => rfl)

theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m g (dats m) (dats_A m) ((θ_run defs _ _).mono (fun _ h => h.1) (run m g))) ((θ_run defs _ _).mono (fun _ h => h.2) (run m g))

end Cert.PoolIdeal.Run

end
-- ==== Proof.Pool.Kernel.lean ====
/- What one grid point of the pooled branch's backward kernel leaves, entry by entry, over exact arithmetic. -/
module

public import proofs.«01_k».proof.Proof.Pool.Model
public import proofs.«01_k».proof.Proof.Math.Fold
public import proofs.«01_k».proof.Proof.Math.Ln
public import proofs.«01_k».proof.Proof.Math.Finite
public import Idealize.ShloMosaic.Lib.WordCmp

@[expose] public section

set_option maxRecDepth 16384

noncomputable section

namespace Cert.PoolIdeal.Val

open Idealize.ShloMosaic Idealize.ShloMosaic.TcCoe Cert.PoolIdeal Cert.PoolIdeal.Gen Cert.PoolIdeal.Run Math

/-! ## The computations of one group of 256 rows -/

/-- The product of a row of the cotangent with a row of the weights. -/
def prod (a : FVec Ideal S256x256 .bf16) (w : FVec Ideal S1x256x256 .bf16) (r c : Fin 256) : EReal := ∑ d : Fin 256, a (ix2 r d) * w (ix3 0 c d)

section

variable (x : FVec Ideal S256x256 .f32) (p : FVec Ideal S256x256 .bf16) (a : FVec Ideal S256x256 .bf16) (w : FVec Ideal S1x256x256 .bf16) (s : FVec Ideal S1x1x256 .f32)

theorem pay1_at (i : S256x256.Idx) : k0_pay1 (F := Ideal) i = 0 := by
  obtain ⟨r, c, rfl⟩ : ∃ r c, i = ix2 r c := ⟨i 0, i 1, eq_ix2 i⟩
  pointwise [k0_pay1]

theorem pay2_at (c d : Fin 256) : k0_pay2 (F := Ideal) (ix3 0 c d) = 0 := by
  pointwise [k0_pay2]

theorem pay3_at (d : Fin 256) : k0_pay3 (F := Ideal) (ix3 0 0 d) = 0 := by
  pointwise [k0_pay3]

theorem pay23_at (r d : Fin 256) : k0_pay23 (F := Ideal) x s (ix2 r d) = x (ix2 r d) * s (ix3 0 0 d) := by
  pointwise [k0_pay23]

theorem pay22_at (q : FVec Ideal S1x1x256 .f32) (d : Fin 256) : k0_pay22 (F := Ideal) x p w q (ix3 0 0 d)
    = q (ix3 0 0 d) + ∑ r, x (ix2 r d) * ∑ c, p (ix2 r c) * w (ix3 0 c d) := by
  pointwise [k0_pay22, k0_pay21]

theorem pay24_at (q : FVec Ideal S1x256x256 .f32) (c d : Fin 256) : k0_pay24 (F := Ideal) x p s q (ix3 0 c d)
    = q (ix3 0 c d) + ∑ r, p (ix2 r c) * (x (ix2 r d) * s (ix3 0 0 d)) := by
  pointwise [k0_pay24, k0_pay21, pay23_at]

theorem count_word : ∀ (n : Fin 16) (r : Fin 256) (b : Fin 4),
    (IntOp.minsi (IntOp.addi (IntOp.addi (Scalar.muli (Scf.iv 0#32 1#32 n.val) 256#32) (BitVec.ofNat 32 r.val)) 1#32) (BitVec.ofNat 32 (2 ^ (b.val + 1)))).toInt
      = ((min (256 * n.val + r.val + 1) (2 ^ (b.val + 1)) : ℕ) : ℤ) := by decide +kernel

theorem minus_at (b : Fin 4) (r c : Fin 256) : (branch (F := Ideal) b.val).minus a w (ix2 r c) = 0 - prod a w r c := by
  match b with
  | 0 => pointwise [branch, k0_pay7, k0_pay5]; rfl
  | 1 => pointwise [branch, k0_pay11, k0_pay9]; rfl
  | 2 => pointwise [branch, k0_pay15, k0_pay13]; rfl
  | 3 => pointwise [branch, k0_pay19, k0_pay17]; rfl

theorem scaled_at (b : Fin 4) (n : Fin 16) (r c : Fin 256) : (branch (F := Ideal) b.val).scaled (Scf.iv 0#32 1#32 n.val) a w (ix2 r c)
    = prod a w r c * Ideal.div 1 (((min (256 * n.val + r.val + 1) (2 ^ (b.val + 1)) : ℕ) : ℤ) : ℝ) := by
  rw [← count_word n r b]
  match b with
  | 0 => pointwise [branch, k0_pay6, k0_pay5]; rfl
  | 1 => pointwise [branch, k0_pay10, k0_pay9]; rfl
  | 2 => pointwise [branch, k0_pay14, k0_pay13]; rfl
  | 3 => pointwise [branch, k0_pay18, k0_pay17]; rfl

end

/-! ## The window's band -/

/-- The word of the band: one from an entry's own row to the window's last, zero elsewhere. -/
def bandWord (b : Fin 4) (r : Fin 256) (j : Fin 512) : BitVec 32 :=
  BitVec.setWidth 32 (IntOp.andi (IntOp.cmpi .sge (IntOp.subi (BitVec.ofNat 32 j.val) (BitVec.ofNat 32 r.val)) 0#32)
    (IntOp.cmpi .slt (IntOp.subi (BitVec.ofNat 32 j.val) (BitVec.ofNat 32 r.val)) (BitVec.ofNat 32 (2 ^ (b.val + 1)))))

/-- An array's three parts, of which over exact arithmetic the last two are zero, each through the band. -/
def banded (b : Fin 4) (z : Fin 512 → EReal) (r : Fin 256) : EReal :=
  (∑ j, FloatOps.sitofp (F := Ideal) .f32 (bandWord b r j) * z j) + (∑ j, FloatOps.sitofp (F := Ideal) .f32 (bandWord b r j) * (z j - z j))
    + ∑ j, FloatOps.sitofp (F := Ideal) .f32 (bandWord b r j) * (z j - z j - (z j - z j))

theorem out_at (z : FVec Ideal S512x256 .f32) (m : FVec Ideal S256x256 .f32) (b : Fin 4) (r c : Fin 256) :
    (branch (F := Ideal) b.val).out z m (ix2 r c) = m (ix2 r c) + banded b (fun j => z (ix2 j c)) r := by
  match b with
  | 0 => pointwise [branch, k0_pay8, k0_pay4]; rfl
  | 1 => pointwise [branch, k0_pay12, k0_pay4]; rfl
  | 2 => pointwise [branch, k0_pay16, k0_pay4]; rfl
  | 3 => pointwise [branch, k0_pay20, k0_pay4]; rfl

theorem apart (r : Fin 256) (j : Fin 512) : (IntOp.subi (BitVec.ofNat 32 j.val) (BitVec.ofNat 32 r.val)).toInt = (j.val : ℤ) - r.val := by
  show (BitVec.ofNat 32 j.val - BitVec.ofNat 32 r.val).toInt = _
  have hr := r.isLt
  have hj := j.isLt
  have small : ∀ n : ℕ, n < 512 → (BitVec.ofNat 32 n).toInt = n := fun n hn => by
    rw [BitVec.toInt_ofNat', Int.bmod_eq_of_le (by omega) (by omega)]
  rw [BitVec.toInt_sub, small _ hj, small _ (by omega), Int.bmod_eq_of_le (by omega) (by omega)]

theorem len_word : ∀ b : Fin 4, (BitVec.ofNat 32 (2 ^ (b.val + 1))).toInt = ((2 ^ (b.val + 1) : ℕ) : ℤ) := by decide

theorem band_at (b : Fin 4) (r : Fin 256) (j : Fin 512) : FloatOps.sitofp (F := Ideal) .f32 (bandWord b r j)
    = (((if r.val ≤ j.val ∧ j.val < r.val + 2 ^ (b.val + 1) then 1 else 0 : ℝ)) : EReal) := by
  refine Eq.trans (b := (((bandWord b r j).toInt : ℝ) : EReal)) rfl (congrArg _ ?_)
  unfold bandWord
  rw [WordCmp.cmpi_sge_eq, WordCmp.cmpi_slt_eq, apart, len_word, WordCmp.andi_ofBool, ← Bool.decide_and]
  by_cases h : r.val ≤ j.val ∧ j.val < r.val + 2 ^ (b.val + 1)
  · rw [if_pos h, decide_eq_true (by rw [BitVec.toInt_zero]; omega), show (BitVec.setWidth 32 (BitVec.ofBool true)).toInt = 1 by decide, Int.cast_one]
  · rw [if_neg h, decide_eq_false (by rw [BitVec.toInt_zero]; omega), show (BitVec.setWidth 32 (BitVec.ofBool false)).toInt = 0 by decide, Int.cast_zero]

/-- Of a real array the band keeps the window's terms. -/
theorem banded_real (b : Fin 4) (z : Fin 512 → EReal) (f : ℕ → ℝ) (hz : ∀ j, z j = ((f j.val : ℝ) : EReal)) (r : Fin 256) :
    banded b z r = ((∑ k ∈ Finset.range (2 ^ (b.val + 1)), f (r.val + k) : ℝ) : EReal) := by
  have hb : 2 ^ (b.val + 1) ≤ 16 := (by decide : ∀ b : Fin 4, 2 ^ (b.val + 1) ≤ 16) b
  unfold banded
  simp only [band_at, hz, ← EReal.coe_sub, ← EReal.coe_mul, coe_sum, ← EReal.coe_add, sub_self, mul_zero, Finset.sum_const_zero, add_zero, ite_mul, one_mul, zero_mul]
  refine congrArg _ ?_
  rw [Fin.sum_univ_eq_sum_range (fun j => if r.val ≤ j ∧ j < r.val + 2 ^ (b.val + 1) then f j else 0) 512, ← Finset.sum_filter]
  refine Eq.trans (b := ∑ k ∈ Finset.Ico r.val (r.val + 2 ^ (b.val + 1)), f k) (Finset.sum_congr ?_ fun _ _ => rfl) ?_
  · ext k
    have := r.isLt
    simp only [Finset.mem_filter, Finset.mem_range, Finset.mem_Ico]
    omega
  · rw [Finset.sum_Ico_eq_sum_range, Nat.add_sub_cancel_left]

/-! ## The whole point -/

section

variable (x0 : FVec Ideal S4096x256 .f32) (x1 : FVec Ideal S4096x256 .bf16) (x2 : FVec Ideal S1x256x256 .bf16) (x3 : FVec Ideal S1x1x256 .f32)

theorem row_at {e : EltTy} (x : Vec Ideal S4096x256 e) (n : ℕ) (r d : Fin 256) (t : Fin 4096) (ht : (256 * n + r.val) % 4096 = t.val) :
    rows (F := Ideal) 256 x n (ix2 r d) = x (ix2 t d) := congrArg (fun q => x (ix2 q d)) (Fin.ext ht)

/-- The cotangent of the pooled value at a token. -/
def backB (t : Fin 4096) (c : Fin 256) : EReal := ∑ d : Fin 256, x0 (ix2 t d) * x3 (ix3 0 0 d) * x2 (ix3 0 c d)

theorem prod_at (n : ℕ) (r c : Fin 256) (t : Fin 4096) (ht : t.val = 256 * n + r.val) :
    prod (k0_pay23 (F := Ideal) (rows 256 x0 n) x3) x2 r c = backB x0 x2 x3 t c := by
  unfold prod backB
  refine Finset.sum_congr rfl fun d _ => ?_
  rw [pay23_at]
  exact congrArg (· * x3 (ix3 0 0 d) * x2 (ix3 0 c d)) (row_at (e := .f32) x0 n r d t (by have := t.isLt; omega))

theorem minusRows_at (b : Fin 4) (t : Fin 4096) (c : Fin 256) : minusRows (branch (F := Ideal) b.val) x0 x2 x3 (ix2 t c) = 0 - backB x0 x2 x3 t c := by
  refine (minus_at _ _ b ⟨t.val % 256, Nat.mod_lt _ (by decide)⟩ c).trans (congrArg (0 - ·) (prod_at x0 x2 x3 (t.val / 256) _ c t ?_))
  show t.val = 256 * (t.val / 256) + t.val % 256
  omega

/-- The scaled cotangent as a real number; zero past the last token. -/
def shareB (b : Fin 4) (c : Fin 256) (t : ℕ) : ℝ :=
  if h : t < 4096 then (backB x0 x2 x3 ⟨t, h⟩ c).toReal / (((min (t + 1) (2 ^ (b.val + 1)) : ℕ) : ℤ) : ℝ) else 0

theorem scaledRows_at (hr : ∀ t c, IsReal (backB x0 x2 x3 t c)) (b : Fin 4) (t : Fin 4352) (c : Fin 256) :
    scaledRows (branch (F := Ideal) b.val) x0 x2 x3 (ix2 t c) = ((shareB x0 x2 x3 b c t.val : ℝ) : EReal) := by
  unfold scaledRows shareB
  by_cases h : t.val < 4096
  · obtain ⟨v, hv⟩ := hr ⟨t.val, h⟩ c
    have hd : t.val / 256 < 16 := by omega
    have hm : 256 * (t.val / 256) + t.val % 256 = t.val := by omega
    have hc : (((min (t.val + 1) (2 ^ (b.val + 1)) : ℕ) : ℤ) : ℝ) ≠ 0 := by
      have : 0 < 2 ^ (b.val + 1) := Nat.two_pow_pos _
      exact_mod_cast (by omega : min (t.val + 1) (2 ^ (b.val + 1)) ≠ 0)
    rw [if_pos (show (ix2 t c 0).val < 256 * 16 from h), dif_pos h]
    refine (scaled_at _ _ b ⟨t.val / 256, hd⟩ ⟨t.val % 256, Nat.mod_lt _ (by decide)⟩ c).trans ?_
    refine (congrArg (· * _) (prod_at x0 x2 x3 (t.val / 256) _ c ⟨t.val, h⟩ hm.symm)).trans ?_
    show _ * Ideal.div 1 (((min (256 * (t.val / 256) + t.val % 256 + 1) (2 ^ (b.val + 1)) : ℕ) : ℤ) : ℝ) = _
    rw [hm, hv, EReal.toReal_coe]
    unfold Ideal.div
    rw [if_neg (fun e => hc (EReal.coe_eq_zero.mp e)), one_mul, ← EReal.coe_inv, ← EReal.coe_mul, div_eq_mul_inv]
  · rw [if_neg (show ¬(ix2 t c 0).val < 256 * 16 from h), dif_neg h, pay1_at, EReal.coe_zero]

/-- The input's gradient at a token. -/
theorem du_at (hr : ∀ t c, IsReal (backB x0 x2 x3 t c)) (b : Fin 4) (t : Fin 4096) (c : Fin 256) : du (branch (F := Ideal) b.val) x0 x2 x3 (ix2 t c)
    = -backB x0 x2 x3 t c + ((∑ k ∈ Finset.range (2 ^ (b.val + 1)), shareB x0 x2 x3 b c (t.val + k) : ℝ) : EReal) := by
  have ht := t.isLt
  have hm : 256 * (t.val / 256) + t.val % 256 = t.val := by omega
  refine (out_at _ _ b ⟨t.val % 256, Nat.mod_lt _ (by decide)⟩ c).trans (congrArg₂ (· + ·) ?_ ?_)
  · refine Eq.trans (congrArg (fun q => minusRows (branch (F := Ideal) b.val) x0 x2 x3 (ix2 q c)) (Fin.ext ?_)) ((minusRows_at x0 x2 x3 b t c).trans (zero_sub _))
    show (256 * (t.val / 256) + t.val % 256) % 4096 = t.val
    omega
  · refine (banded_real b _ (fun j => shareB x0 x2 x3 b c (256 * (t.val / 256) + j)) (fun j => ?_) _).trans (congrArg _ (Finset.sum_congr rfl fun k _ => ?_))
    · refine (scaledRows_at x0 x2 x3 hr b _ c).trans (congrArg (fun q : ℕ => ((shareB x0 x2 x3 b c q : ℝ) : EReal)) ?_)
      show (256 * (t.val / 256) + j.val) % 4352 = _
      have := j.isLt
      omega
    · refine congrArg (shareB x0 x2 x3 b c) ?_
      show 256 * (t.val / 256) + (t.val % 256 + k) = _
      omega

/-- Token `n`, counted around. -/
def tok (n : ℕ) : Fin 4096 := ⟨n % 4096, Nat.mod_lt _ (by decide)⟩

theorem tok_val (t : Fin 4096) : tok t.val = t := Fin.ext (Nat.mod_eq_of_lt t.isLt)

/-- The weights' gradient. -/
theorem sumW_at (c d : Fin 256) : sumW (F := Ideal) x0 x1 x3 16 (ix3 0 c d) = ∑ t : Fin 4096, x1 (ix2 t c) * (x0 (ix2 t d) * x3 (ix3 0 0 d)) := by
  let f : ℕ → EReal := fun t => x1 (ix2 (tok t) c) * (x0 (ix2 (tok t) d) * x3 (ix3 0 0 d))
  have h : ∀ n, sumW (F := Ideal) x0 x1 x3 n (ix3 0 c d) = ∑ b ∈ Finset.range n, ∑ r : Fin 256, f (256 * b + r.val) := by
    intro n
    induction n with
    | zero => rw [Finset.range_zero, Finset.sum_empty]; exact pay2_at c d
    | succ n ih =>
      rw [Finset.sum_range_succ, ← ih]
      refine (pay24_at _ _ _ _ c d).trans (congrArg (_ + ·) (Finset.sum_congr rfl fun r _ => ?_))
      rfl
  rw [h, sum_blocks (N := 4096) rfl f]
  exact Finset.sum_congr rfl fun t _ => by show x1 (ix2 (tok t.val) c) * (x0 (ix2 (tok t.val) d) * _) = _; rw [tok_val]

/-- The scale's gradient. -/
theorem sumS_at (d : Fin 256) : sumS (F := Ideal) x0 x1 x2 16 (ix3 0 0 d) = ∑ t : Fin 4096, x0 (ix2 t d) * ∑ c : Fin 256, x1 (ix2 t c) * x2 (ix3 0 c d) := by
  let f : ℕ → EReal := fun t => x0 (ix2 (tok t) d) * ∑ c : Fin 256, x1 (ix2 (tok t) c) * x2 (ix3 0 c d)
  have h : ∀ n, sumS (F := Ideal) x0 x1 x2 n (ix3 0 0 d) = ∑ b ∈ Finset.range n, ∑ r : Fin 256, f (256 * b + r.val) := by
    intro n
    induction n with
    | zero => rw [Finset.range_zero, Finset.sum_empty]; exact pay3_at d
    | succ n ih =>
      rw [Finset.sum_range_succ, ← ih]
      refine (pay22_at _ _ _ _ d).trans (congrArg (_ + ·) (Finset.sum_congr rfl fun r _ => ?_))
      rfl
  rw [h, sum_blocks (N := 4096) rfl f]
  exact Finset.sum_congr rfl fun t _ => by show x0 (ix2 (tok t.val) d) * ∑ c : Fin 256, x1 (ix2 (tok t.val) c) * _ = _; rw [tok_val]

end

end Cert.PoolIdeal.Val

end
-- ==== Proof.Math.Reach.lean ====
/- Sums from an index on of terms that are taken away again where a window starts: what stays is one window's terms. -/
module

public import Idealize.ShloMosaic.Lib.Pointwise

@[expose] public section

namespace Math

open Finset

/-- Term `i` is taken away after row `i - W`: summing the rows from `t` on leaves the terms `t` to `t + W - 1`. -/
theorem suffix_window (z : ℕ → ℝ) (N W t : ℕ) (hW : 0 < W) (hz : ∀ i, N ≤ i → z i = 0) :
    ∑ k ∈ Ico t N, (z k - ∑ i ∈ range N, if i + 1 - W = k + 1 then z i else 0) = ∑ k ∈ range W, z (t + k) := by
  have h1 : ∑ k ∈ Ico t N, ∑ i ∈ range N, (if i + 1 - W = k + 1 then z i else 0) = ∑ i ∈ Ico (t + W) N, z i := by
    rw [Finset.sum_comm]
    have e : ∀ i ∈ range N, ∑ k ∈ Ico t N, (if i + 1 - W = k + 1 then z i else 0) = if t + W ≤ i then z i else 0 := by
      intro i hi
      have hi' := Finset.mem_range.mp hi
      by_cases h : t + W ≤ i
      · rw [if_pos h, Finset.sum_eq_single_of_mem (i - W) (Finset.mem_Ico.mpr ⟨by omega, by omega⟩) fun k _ hk => if_neg (by omega), if_pos (by omega)]
      · rw [if_neg h]
        exact Finset.sum_eq_zero fun k hk => if_neg (by have := Finset.mem_Ico.mp hk; omega)
    rw [Finset.sum_congr rfl e, ← Finset.sum_filter]
    refine Finset.sum_congr ?_ fun _ _ => rfl
    ext i
    simp only [mem_filter, mem_range, mem_Ico]
    omega
  rw [Finset.sum_sub_distrib, h1]
  have h2 : ∀ a, ∑ k ∈ Ico a N, z k = ∑ k ∈ Ico a (N + a), z k := fun a =>
    Finset.sum_subset (Finset.Ico_subset_Ico_right (by omega)) fun k hk hn => hz k (by
      by_contra hc
      have h := Finset.mem_Ico.mp hk
      exact hn (Finset.mem_Ico.mpr ⟨h.1, by omega⟩))
  have h3 : ∑ k ∈ Ico t N, z k = ∑ k ∈ Ico t (N + (t + W)), z k :=
    Finset.sum_subset (Finset.Ico_subset_Ico_right (by omega)) fun k hk hn => hz k (by
      by_contra hc
      have h := Finset.mem_Ico.mp hk
      exact hn (Finset.mem_Ico.mpr ⟨h.1, by omega⟩))
  rw [h2 (t + W), h3, ← Finset.sum_Ico_consecutive z (show t ≤ t + W by omega) (show t + W ≤ N + (t + W) by omega), add_sub_cancel_right,
    Finset.sum_Ico_eq_sum_range, Nat.add_sub_cancel_left]

end Math
-- ==== Proof.Pool.Ref.lean ====
/- The pooled branch's gradient as the reference computes it, entry by entry. -/
module

public import proofs.«01_k».proof.Proof.Gen.RefPoolIdeal.Read
public import proofs.«01_k».proof.Proof.Gen.Pre_finite_pool
public import Idealize.ShloMosaic.Lib.Pointwise
public import Idealize.ShloMosaic.Lib.Routing.OpsPair
public import proofs.«01_k».proof.Proof.Math.Window
public import proofs.«01_k».proof.Proof.Math.Reach
public import proofs.«01_k».proof.Proof.Math.Ln
public import proofs.«01_k».proof.Proof.Math.Finite

@[expose] public section

set_option maxRecDepth 16384

noncomputable section

namespace Cert.RefPoolIdeal.Val

open Idealize.ShloMosaic Idealize.ShloMosaic.TcCoe Cert.RefPoolIdeal Cert.RefPoolIdeal.Gen Cert.RefPoolIdeal.Read Math

variable (u : FVec Ideal S4096x1024 .f32) (w : FVec Ideal S1x4x256x256 .f32) (s : FVec Ideal S1x4x256 .f32) (y : FVec Ideal S4096x1024 .f32)

/-- Channel `c` of group `g`. -/
def chan (g : Fin 4) (c : Fin 256) : Fin 1024 := ⟨g.val * 256 + c.val, by omega⟩

/-- The cotangent of a group's product with its weights. -/
def ct (t : Fin 4096) (g : Fin 4) (d : Fin 256) : EReal := y (ix2 t (chan g d)) * s (ix3 0 g d)

/-- The cotangent of the pooled value. -/
def back (t : Fin 4096) (g : Fin 4) (c : Fin 256) : EReal := ∑ d, ct s y t g d * w (ix4 0 g c d)

theorem v57_at (t : Fin 4096) (g : Fin 4) (d : Fin 256) : val_main_v57 (F := Ideal) y (ix4 0 t g d) = y (ix2 t (chan g d)) := by
  pointwise [val_main_v57, val_main_v56]
  rfl

theorem v62_at (t : Fin 4096) (g : Fin 4) (d : Fin 256) : val_main_v62 (F := Ideal) s y (ix4 0 t g d) = ct s y t g d := by
  pointwise [val_main_v62, val_main_v61, val_main_v52, val_main_v2, v57_at]
  rfl

theorem v66_at (t : Fin 4096) (g : Fin 4) (c : Fin 256) : val_main_v66 (F := Ideal) w s y (ix4 0 t g c) = back w s y t g c := by
  pointwise [val_main_v66, val_main_v65, val_main_v64, val_main_v1, v62_at]
  rfl

theorem v68_at (g : Fin 4) (c d : Fin 256) :
    val_main_v68 (F := Ideal) u s y (ix3 g c d) = ∑ t, ct s y t g d * val_main_v49 (F := Ideal) u (ix4 0 t g c) := by
  pointwise [val_main_v68, val_main_v67, val_main_v64, v62_at]
  exact Fin.sum_univ_one _

/-- A sum over two unit axes is its one term. -/
theorem reduce_units (x : FVec Ideal S1x1x4x256 .f32) (init : FVec Ideal S_ .f32) (h0 : ∀ i, init i = 0) (g : Fin 4) (d : Fin 256) :
    Host.reduceAdd (F := Ideal) x init reducesTo_S1x1x4x256_S4x256_d0_1 h_S_ (ix2 g d) = x (ix4 0 0 g d) := by
  show init _ + ∑ i ∈ Finset.univ.filter (fun i => reducesTo_S1x1x4x256_S4x256_d0_1.drop i = ix2 g d), x i = _
  rw [h0, zero_add]
  refine Finset.sum_eq_single_of_mem _ (Finset.mem_filter.mpr ⟨Finset.mem_univ _, ?_⟩) fun i hi hne => absurd ?_ hne
  · exact eq_ix2 _
  · have h := (Finset.mem_filter.mp hi).2
    have h2 : i 2 = g := congrFun h 0
    have h3 : i 3 = d := congrFun h 1
    subst h2 h3
    rw [eq_ix4 i]
    exact congrArg₂ (fun p q => ix4 p q (i 2) (i 3)) (Subsingleton.elim _ _) (Subsingleton.elim _ _)

theorem v59_at (g : Fin 4) (d : Fin 256) :
    val_main_v59 (F := Ideal) u w y (ix3 0 g d) = ∑ t, (∑ c, w (ix4 0 g c d) * val_main_v49 (F := Ideal) u (ix4 0 t g c)) * y (ix2 t (chan g d)) := by
  pointwise [val_main_v59, val_main_v58, val_main_v51, val_main_v50, val_main_v1, v57_at, val_main_cst_8]

theorem v84_at (g : Fin 4) (d : Fin 256) :
    val_main_v84 (F := Ideal) u w y (ix3 g 0 d) = ∑ t, (∑ c, w (ix4 0 g c d) * val_main_v49 (F := Ideal) u (ix4 0 t g c)) * y (ix2 t (chan g d)) := by
  rw [← v59_at]
  refine Eq.trans (b := val_main_v63 (F := Ideal) u w y (ix2 g d)) ?_ ((reduce_units _ _ (fun _ => ?_) g d).trans ?_)
  · pointwise [val_main_v84]
  · pointwise [val_main_cst_9]
  · pointwise [val_main_v60]

theorem chan_div (g : Fin 4) (c : Fin 256) : (chan g c).val / 256 = g.val := by show (g.val * 256 + c.val) / 256 = _; omega
theorem chan_mod (g : Fin 4) (c : Fin 256) : (chan g c).val % 256 = c.val := by show (g.val * 256 + c.val) % 256 = _; omega

theorem v83_at (t : Fin 4096) (g : Fin 4) (c : Fin 256) :
    val_main_v83 (F := Ideal) w s y (ix2 t (chan g c)) = -back w s y t g c + val_main_v79 (F := Ideal) w s y (ix4 0 t g c) := by
  pointwise [val_main_v83, val_main_v82, val_main_v81, val_main_v80, val_main_v69, v66_at]
  simp only [chan_div, chan_mod]

/-! ## The windows -/

/-- The length of a group's window. -/
abbrev len (g : Fin 4) : ℕ := 2 ^ (g.val + 1)

theorem start_word : ∀ (t : Fin 4096) (g : Fin 4),
    IntOp.maxsi (IntOp.subi (IntOp.addi (BitVec.ofNat 32 t.val) 1#32) (IntOp.shli ArithUnit.host 2#32 (BitVec.ofNat 32 g.val))) 0#32
      = BitVec.ofNat 32 (t.val + 1 - 2 ^ (g.val + 1)) := by decide +kernel

theorem v20_at (t : Fin 4096) (g : Fin 4) : val_main_v20 (F := Ideal) (ix2 t g) = BitVec.ofNat 32 (t.val + 1 - len g) := by
  pointwise [val_main_v20, val_main_v18, val_main_v16, val_main_v17, val_main_v14, val_main_v12, val_main_v15, val_main_v11, val_main_v10,
    val_main_v9, val_main_v8, val_main_v13, val_main_v19]
  exact start_word t g

theorem count_word : ∀ (t : Fin 4096) (g : Fin 4),
    (IntOp.subi (IntOp.addi (BitVec.ofNat 32 t.val) 1#32) (BitVec.ofNat 32 (t.val + 1 - 2 ^ (g.val + 1)))).toInt
      = ((min (t.val + 1) (2 ^ (g.val + 1)) : ℕ) : ℤ) := by decide +kernel

/-- How many tokens a window holds. -/
def count (t : Fin 4096) (g : Fin 4) : ℝ := ((min (t.val + 1) (len g) : ℕ) : ℤ)

theorem v26_at (t : Fin 4096) (g : Fin 4) : val_main_v26 (F := Ideal) (ix2 t g) = ((count t g : ℝ) : EReal) := by
  pointwise [val_main_v26, val_main_v25, val_main_v24, val_main_v23, val_main_v21, val_main_v22, val_main_v8, v20_at]
  exact congrArg (fun i : ℤ => ((i : ℝ) : EReal)) (count_word t g)

theorem v71_at (t : Fin 4096) (g : Fin 4) (c : Fin 256) :
    val_main_v71 (F := Ideal) w s y (ix4 0 t g c) = Ideal.div (back w s y t g c) (count t g : ℝ) := by
  pointwise [val_main_v71, val_main_v70, val_main_v46, v66_at, v26_at]

theorem v73_at (k : Fin 4096) (g : Fin 4) (c : Fin 256) :
    val_main_v73 (F := Ideal) w s y (ix4 0 ⟨k.val + 1, by omega⟩ g c) = val_main_v71 (F := Ideal) w s y (ix4 0 k g c) := by
  pointwise [val_main_v73]
  exact dif_pos k.isLt

theorem row_word : ∀ (t : Fin 4096) (g : Fin 4),
    (Scalar.select (IntOp.cmpi CmpIPredicate.slt (BitVec.ofNat 32 (t.val + 1 - 2 ^ (g.val + 1))) 0#32)
      (IntOp.addi (BitVec.ofNat 32 (t.val + 1 - 2 ^ (g.val + 1))) 4097#32) (BitVec.ofNat 32 (t.val + 1 - 2 ^ (g.val + 1)))).toInt
      = ((t.val + 1 - 2 ^ (g.val + 1) : ℕ) : ℤ) := by decide +kernel

theorem group_word : ∀ g : Fin 4, (Scalar.select (IntOp.cmpi CmpIPredicate.slt (BitVec.ofNat 32 g.val) 0#32)
      (IntOp.addi (BitVec.ofNat 32 g.val) 4#32) (BitVec.ofNat 32 g.val)).toInt = (g.val : ℤ) := by decide +kernel

theorem v42_row (t : Fin 4096) (g : Fin 4) : (val_main_v42 (F := Ideal) (ix3 t g 0)).toInt = ((t.val + 1 - len g : ℕ) : ℤ) := by
  refine Eq.trans (congrArg BitVec.toInt ?_) (row_word t g)
  pointwise [val_main_v42, val_main_v40, val_main_v33, val_main_v30, val_main_v29, val_main_v32, val_main_v31, v20_at]
  rfl

theorem v42_group (t : Fin 4096) (g : Fin 4) : (val_main_v42 (F := Ideal) (ix3 t g 1)).toInt = (g.val : ℤ) := by
  refine Eq.trans (congrArg BitVec.toInt ?_) (group_word g)
  pointwise [val_main_v42, val_main_v41, val_main_v39, val_main_v38, val_main_v35, val_main_v37, val_main_v28, val_main_v27, val_main_v34, val_main_v36]
  rfl

section scatter

/-- Where the update of a token's group lands: in the row and the group that the table names. -/
theorem lands_iff (idx : IVec S4096x4x2 32) (i : S1x4096x4x256.Idx) (k : Fin 4097) (g : Fin 4) (c : Fin 256) :
    scatter_S1x4097x4x256_S4096x4x2_S1x4096x4x256_03_12_12_2.resultIdx? i idx = some (ix4 0 k g c)
      ↔ (idx (ix3 (i 1) (i 2) 0)).toInt = k.val ∧ (idx (ix3 (i 1) (i 2) 1)).toInt = g.val ∧ i 3 = c := by
  rw [Routing.resultIdx?_eq_some]
  let d := scatter_S1x4097x4x256_S4096x4x2_S1x4096x4x256_03_12_12_2
  have s0 : d.start i idx 0 = 0 := dif_neg (by decide)
  have s3 : d.start i idx 3 = 0 := dif_neg (by decide)
  have w0 : d.window i 0 = (i 0).val := rfl
  have w1 : d.window i 1 = 0 := dif_neg (by decide)
  have w2 : d.window i 2 = 0 := dif_neg (by decide)
  have w3 : d.window i 3 = (i 3).val := rfl
  have s1 : d.start i idx 1 = (idx (ix3 (i 1) (i 2) 0)).toInt := by
    refine (dif_pos (by decide)).trans (congrArg (fun q => (idx q).toInt) ((eq_ix3 _).trans ?_))
    exact congr (congr (congrArg ix3 rfl) rfl) rfl
  have s2 : d.start i idx 2 = (idx (ix3 (i 1) (i 2) 1)).toInt := by
    refine (dif_pos (by decide)).trans (congrArg (fun q => (idx q).toInt) ((eq_ix3 _).trans ?_))
    exact congr (congr (congrArg ix3 rfl) rfl) rfl
  have i0 : (i 0).val = 0 := Nat.lt_one_iff.mp (i 0).isLt
  constructor
  · intro h
    have h1 := h 1; have h2 := h 2; have h3 := h 3
    rw [s1, w1] at h1; rw [s2, w2] at h2; rw [s3, w3] at h3
    refine ⟨(Int.add_zero _).symm.trans h1, (Int.add_zero _).symm.trans h2, Fin.ext ?_⟩
    have h3' : (0 : ℤ) + ((i 3).val : ℤ) = (c.val : ℤ) := h3
    omega
  · rintro ⟨h1, h2, h3⟩ a
    match a with
    | 0 => rw [s0, w0, i0]; rfl
    | 1 => rw [s1, w1, h1]; exact Int.add_zero _
    | 2 => rw [s2, w2, h2]; exact Int.add_zero _
    | 3 => rw [s3, w3, h3]; exact Int.zero_add _

/-- The scattered sums: each row gathers the updates of the tokens whose windows start there. -/
theorem v75_at (k : Fin 4097) (g : Fin 4) (c : Fin 256) : val_main_v75 (F := Ideal) w s y (ix4 0 k g c)
    = ∑ t : Fin 4096, if t.val + 1 - len g = k.val then val_main_v72 (F := Ideal) w s y (ix4 0 t g c) else 0 := by
  refine Eq.trans (b := val_main_v74 (F := Ideal) (ix4 0 k g c) + ∑ i ∈ Finset.univ.filter (fun i =>
    scatter_S1x4097x4x256_S4096x4x2_S1x4096x4x256_03_12_12_2.resultIdx? i (val_main_v42 (F := Ideal)) = some (ix4 0 k g c)), val_main_v72 (F := Ideal) w s y i) rfl ?_
  rw [show val_main_v74 (F := Ideal) (ix4 0 k g c) = 0 by pointwise [val_main_v74, val_main_cst_11], zero_add, ← Finset.sum_filter]
  refine (Finset.sum_nbij (fun t : Fin 4096 => (ix4 0 t g c : S1x4096x4x256.Idx)) (fun t ht => ?_) (fun t _ t' _ e => congrFun e 1) (fun i hi => ?_) fun _ _ => rfl).symm
  · refine Finset.mem_filter.mpr ⟨Finset.mem_univ _, (lands_iff _ _ _ _ _).mpr ⟨(v42_row t g).trans ?_, v42_group t g, rfl⟩⟩
    exact congrArg Nat.cast (Finset.mem_filter.mp ht).2
  · obtain ⟨h1, h2, h3⟩ := (lands_iff _ _ _ _ _).mp (Finset.mem_filter.mp hi).2
    have e2 : i 2 = g := Fin.ext (Int.ofNat_inj.mp ((v42_group (i 1) (i 2)).symm.trans h2))
    refine ⟨i 1, Finset.mem_coe.mpr (Finset.mem_filter.mpr ⟨Finset.mem_univ _, ?_⟩), ?_⟩
    · rw [← e2]
      exact Int.ofNat_inj.mp ((v42_row (i 1) (i 2)).symm.trans h1)
    · subst e2 h3
      refine Eq.trans ?_ (eq_ix4 i).symm
      exact congrArg (fun p => ix4 p (i 1) (i 2) (i 3)) (Subsingleton.elim _ _)

end scatter

theorem v78_at (k : Fin 4096) (g : Fin 4) (c : Fin 256) : val_main_v78 (F := Ideal) w s y (ix4 0 k g c)
    = val_main_v71 (F := Ideal) w s y (ix4 0 k g c)
      + ∑ t : Fin 4096, if t.val + 1 - len g = k.val + 1 then -val_main_v71 (F := Ideal) w s y (ix4 0 t g c) else 0 := by
  rw [← v73_at]
  refine Eq.trans ?_ (congrArg (_ + ·) (v75_at w s y ⟨k.val + 1, by omega⟩ g c))
  pointwise [val_main_v78, val_main_v76]
  simp only [Nat.add_comm 1]

theorem v79_at (t : Fin 4096) (g : Fin 4) (c : Fin 256) (f : ℕ → EReal) (hf : ∀ k : Fin 4096, val_main_v78 (F := Ideal) w s y (ix4 0 k g c) = f k.val) :
    val_main_v79 (F := Ideal) w s y (ix4 0 t g c) = ∑ k ∈ Finset.Ico t.val 4096, f k :=
  suffix_second _ _ _ _ (fun _ => by pointwise [val_main_call1_call0_v0, val_main_call1_call0_cst]) 0 t g c f hf

/-! ## Over real arguments -/

/-- The cotangent of the pooled value, divided by the window's count, as a real number; zero past the last token. -/
def share (g : Fin 4) (c : Fin 256) (t : ℕ) : ℝ := if h : t < 4096 then (back w s y ⟨t, h⟩ g c).toReal / count ⟨t, h⟩ g else 0

section real

variable (hw : ∀ i, IsReal (w i)) (hs : ∀ i, IsReal (s i)) (hy : ∀ i, IsReal (y i))

include hw hs hy

theorem back_real (t : Fin 4096) (g : Fin 4) (c : Fin 256) : IsReal (back w s y t g c) :=
  .sum _ _ fun _ => ((hy _).mul (hs _)).mul (hw _)

theorem v71_real (t : Fin 4096) (g : Fin 4) (c : Fin 256) : val_main_v71 (F := Ideal) w s y (ix4 0 t g c) = ((share w s y g c t.val : ℝ) : EReal) := by
  obtain ⟨r, hr⟩ := back_real w s y hw hs hy t g c
  have hc : count t g ≠ 0 := by
    unfold count
    have : 0 < 2 ^ (g.val + 1) := Nat.two_pow_pos _
    exact_mod_cast (by omega : min (t.val + 1) (2 ^ (g.val + 1)) ≠ 0)
  rw [v71_at]
  unfold share Ideal.div
  rw [dif_pos t.isLt, hr, EReal.toReal_coe, if_neg (fun e => hc (EReal.coe_eq_zero.mp e)), ← EReal.coe_inv, ← EReal.coe_mul, div_eq_mul_inv]

theorem v79_real (t : Fin 4096) (g : Fin 4) (c : Fin 256) :
    val_main_v79 (F := Ideal) w s y (ix4 0 t g c) = ((∑ k ∈ Finset.range (len g), share w s y g c (t.val + k) : ℝ) : EReal) := by
  rw [v79_at w s y t g c (fun k => ((share w s y g c k - ∑ i ∈ Finset.range 4096, if i + 1 - len g = k + 1 then share w s y g c i else 0 : ℝ) : EReal)) fun k => ?_]
  · rw [coe_sum, suffix_window (share w s y g c) 4096 (len g) t.val (Nat.two_pow_pos _) fun i hi => dif_neg (by omega)]
  · rw [v78_at, v71_real w s y hw hs hy, EReal.coe_sub, sub_eq_add_neg, ← Fin.sum_univ_eq_sum_range (fun i => if i + 1 - len g = k.val + 1 then share w s y g c i else 0),
      ← EReal.coe_neg, ← Finset.sum_neg_distrib, ← coe_sum]
    refine congrArg (_ + ·) (Finset.sum_congr rfl fun i _ => ?_)
    by_cases h : i.val + 1 - len g = k.val + 1
    · rw [if_pos h, if_pos h, v71_real w s y hw hs hy, EReal.coe_neg]
    · rw [if_neg h, if_neg h, neg_zero, EReal.coe_zero]

/-- The gradient of the branch's input. -/
theorem v83_real (t : Fin 4096) (g : Fin 4) (c : Fin 256) : val_main_v83 (F := Ideal) w s y (ix2 t (chan g c))
    = -back w s y t g c + ((∑ k ∈ Finset.range (len g), share w s y g c (t.val + k) : ℝ) : EReal) := by
  rw [v83_at, v79_real w s y hw hs hy]

end real

end Cert.RefPoolIdeal.Val

end
-- ==== Proof.Pool.Equal.lean ====
/- What the kernel leaves is the reference's three arrays. -/
module

public import proofs.«01_k».proof.Proof.Pool.Launch
public import proofs.«01_k».proof.Proof.Pool.Kernel
public import proofs.«01_k».proof.Proof.Pool.Ref
public import proofs.«01_k».proof.Proof.Gen.Pre_finite_pool
public import Idealize.ShloMosaic.Lib.Pipeline.ValueKit

@[expose] public section

set_option maxRecDepth 16384

noncomputable section

namespace Cert.PoolIdeal.Val

open Idealize.ShloMosaic Idealize.ShloMosaic.TcCoe Idealize.SL.Sem Cert.PoolIdeal Cert.PoolIdeal.Gen Cert.PoolIdeal.Run Math Finset
open Cert.RefPoolIdeal.Val (chan chan_div chan_mod ct back share)

instance : Subsingleton Cert.Pre_finite_pool.S_.Idx := ⟨fun _ _ => funext fun a => a.elim0⟩

/-- The precondition says that the three arguments the input's gradient reads are real. -/
theorem pre_real [Cert.Pre_finite_pool.Facts] (U : FVec Ideal S4096x1024 .f32) (W : FVec Ideal S1x4x256x256 .f32)
    (S : FVec Ideal S1x4x256 .f32) (Y : FVec Ideal S4096x1024 .f32) (h : Cert.Pre_finite_pool.fn (F := Ideal) U W S Y = fun _ => 1#1) :
    (∀ i, IsReal (W i)) ∧ (∀ i, IsReal (S i)) ∧ ∀ i, IsReal (Y i) := by
  have h0 := congrFun h (fun a => a.elim0)
  dsimp only [Cert.Pre_finite_pool.fn] at h0
  obtain ⟨h1, e3⟩ := andi_one h0
  obtain ⟨e1, e2⟩ := andi_one h1
  exact ⟨real_of_all W _ _ _ _ _ e1, real_of_all S _ _ _ _ _ e2, real_of_all Y _ _ _ _ _ e3⟩

variable (m : (ℓ : Loc nD τ sig) → Buf (Elt Ideal) ℓ) (c : Dev nD)

/-- Which blocks a point reads and writes. -/
theorem idx : ∀ t : Fin cfg0.N, win0_0.index t = ![0, t.val] ∧ win0_1.index t = ![0, t.val] ∧ win0_2.index t = ![t.val, 0, 0]
    ∧ win0_3.index t = ![t.val, 0, 0] ∧ win0_4.index t = ![0, t.val] ∧ win0_5.index t = ![t.val, 0, 0] ∧ win0_6.index t = ![t.val, 0, 0] :=
  (by decide +kernel : ∀ t : Fin grid0.N, _)

/-- The arguments, at their own types. -/
def argU : FVec Ideal S4096x1024 .f32 := m ((c.tc : Thread nD τ).loc main_arg0)
def argW : FVec Ideal S1x4x256x256 .f32 := m ((c.tc : Thread nD τ).loc main_arg1)
def argS : FVec Ideal S1x4x256 .f32 := m ((c.tc : Thread nD τ).loc main_arg2)
def argY : FVec Ideal S4096x1024 .f32 := m ((c.tc : Thread nD τ).loc main_arg3)

/-- The pooled input the forward pass leaves, which the kernel is handed. -/
def pooled : FVec Ideal S1x4096x4x256 .f32 := Cert.RefPoolIdeal.Read.val_main_v49 (F := Ideal) (argU m c)

/-- The group of channels a point works on. -/
def grp (t : Fin cfg0.N) : Fin 4 := ⟨t.val, t.isLt⟩

/-- The blocks a point reads, at the kernel's own types. -/
def blkY (t : Fin cfg0.N) : FVec Ideal S4096x256 .f32 := iblk m c 0 t
def blkP (t : Fin cfg0.N) : FVec Ideal S4096x256 .bf16 := iblk m c 1 t
def blkW (t : Fin cfg0.N) : FVec Ideal S1x256x256 .bf16 := iblk m c 2 t
def blkS (t : Fin cfg0.N) : FVec Ideal S1x1x256 .f32 := iblk m c 3 t

theorem blkY_at (t : Fin cfg0.N) (r : Fin 4096) (d : Fin 256) : blkY m c t (ix2 r d) = argY m c (ix2 r (chan (grp t) d)) := by
  have e : ∀ R, (show FVec Ideal S4096x1024 .f32 from V m c main_arg3) (ix2 r R) = argY m c (ix2 r R) := fun R =>
    congrFun (V_main_arg3 m c) _
  rw [← e]
  unfold blkY chan grp
  blk_ext [iblk, idx t]

set_option maxHeartbeats 4000000 in
open StableHlo in
/-- The host lines before the kernel compute it as the reference does. -/
theorem entry_pooled : (show FVec Ideal S1x4096x4x256 .f32 from V m c main_v46) = pooled m c := by
  show StableHlo.after (hostOps0 ++ (hostOps0_1 ++ (hostOps0_2 ++ []))) _ _ = _
  simp only [hostOps0, hostOps0_1, hostOps0_2, List.cons_append, List.nil_append, TRef.binary, TRef.nullary, TRef.unary, TRef.toBuf, TRef.ofBuf, cast_eq]
  after_results_simp
  after_results_loop
  rfl

theorem entry_flat : (show FVec Ideal S4096x1024 .bf16 from V m c main_v48)
    = truncf (F := Ideal) .bf16 (shapeCast S4096x1024 (show FVec Ideal S1x4096x4x256 .f32 from V m c main_v46)
      shapeCasts_S1x4096x4x256_S4096x1024) bitsLt_bf16_f32 := rfl

theorem blkP_at (t : Fin cfg0.N) (r : Fin 4096) (k : Fin 256) : blkP m c t (ix2 r k) = pooled m c (ix4 0 r (grp t) k) := by
  have e : ∀ g : Fin 4, (show FVec Ideal S4096x1024 .bf16 from V m c main_v48) (ix2 r (chan g k)) = pooled m c (ix4 0 r g k) := fun g => by
    rw [entry_flat, entry_pooled]
    pointwise
    simp only [chan_div, chan_mod]
  rw [← e]
  unfold blkP chan grp
  blk_ext [iblk, idx t]

theorem blkW_at (t : Fin cfg0.N) (k d : Fin 256) : blkW m c t (ix3 0 k d) = argW m c (ix4 0 (grp t) k d) := by
  have e : ∀ g : Fin 4, (show FVec Ideal S4x256x256 .bf16 from V m c main_v50) (ix3 g k d) = argW m c (ix4 0 g k d) := fun g => by
    entry_read
    show truncf (F := Ideal) .bf16 (shapeCast S4x256x256 (argW m c) shapeCasts_S1x4x256x256_S4x256x256)
      bitsLt_bf16_f32 (ix3 g k d) = _
    pointwise
  rw [← e]
  unfold blkW grp
  blk_ext [iblk, idx t]

theorem blkS_at (t : Fin cfg0.N) (d : Fin 256) : blkS m c t (ix3 0 0 d) = argS m c (ix3 0 (grp t) d) := by
  have e : ∀ g : Fin 4, (show FVec Ideal S4x1x256 .f32 from V m c main_v51) (ix3 g 0 d) = argS m c (ix3 0 g d) := fun g => by
    entry_read
    show shapeCast S4x1x256 (argS m c) shapeCasts_S1x4x256_S4x1x256 (ix3 g 0 d) = _
    pointwise
  rw [← e]
  unfold blkS grp
  blk_ext [iblk, idx t]

theorem back_at (t : Fin cfg0.N) (r : Fin 4096) (k : Fin 256) :
    backB (blkY m c t) (blkW m c t) (blkS m c t) r k = back (argW m c) (argS m c) (argY m c) r (grp t) k := by
  unfold backB back ct
  simp only [blkY_at, blkW_at, blkS_at]

theorem share_at (t : Fin cfg0.N) (k : Fin 256) (n : ℕ) :
    shareB (blkY m c t) (blkW m c t) (blkS m c t) (grp t) k n = share (argW m c) (argS m c) (argY m c) (grp t) k n := by
  unfold shareB share
  simp only [back_at]
  rfl

/-! ## The three arrays -/

/-- The weights' gradient. -/
theorem dw_eq : (dats m 0 c).arrAt 5 cfg0.N = Cert.RefPoolIdeal.Read.val_main_v68 (F := Ideal) (argU m c) (argS m c) (argY m c) := by
  have key : ∀ (t : Fin cfg0.N) (k d : Fin 256), sumW (F := Ideal) (blkY m c t) (blkP m c t) (blkS m c t) 16 (ix3 0 k d)
      = Cert.RefPoolIdeal.Read.val_main_v68 (F := Ideal) (argU m c) (argS m c) (argY m c) (ix3 (grp t) k d) := fun t k d => by
    rw [sumW_at, Cert.RefPoolIdeal.Val.v68_at]
    refine Finset.sum_congr rfl fun r _ => ?_
    rw [blkP_at, blkY_at, blkS_at, mul_comm]
    rfl
  refine (dats m 0 c).arrAt_eq_of_covers 5 _ (by decide +kernel) fun t hf y => ?_
  blk_simp
  have hy : y = ix3 0 (y 1) (y 2) := (eq_ix3 y).trans (congrArg (fun a => ix3 a (y 1) (y 2)) (Subsingleton.elim (α := Fin 1) (y 0) 0))
  refine Eq.trans (congrArg (sumW (F := Ideal) (blkY m c t) (blkP m c t) (blkS m c t) 16) hy) ((key t (y 1) (y 2)).trans ?_)
  have h0 : (y 0).val = 0 := by have : (y 0).val < 1 := (y 0).isLt; omega
  unfold grp
  blk_ext [idx t, h0]

/-- The scale's gradient. -/
theorem ds_eq : (dats m 0 c).arrAt 6 cfg0.N = Cert.RefPoolIdeal.Read.val_main_v84 (F := Ideal) (argU m c) (argW m c) (argY m c) := by
  have key : ∀ (t : Fin cfg0.N) (d : Fin 256), sumS (F := Ideal) (blkY m c t) (blkP m c t) (blkW m c t) 16 (ix3 0 0 d)
      = Cert.RefPoolIdeal.Read.val_main_v84 (F := Ideal) (argU m c) (argW m c) (argY m c) (ix3 (grp t) 0 d) := fun t d => by
    rw [sumS_at, Cert.RefPoolIdeal.Val.v84_at]
    refine Finset.sum_congr rfl fun r _ => ?_
    rw [blkY_at, mul_comm]
    refine congrArg (· * _) (Finset.sum_congr rfl fun k _ => ?_)
    rw [blkP_at, blkW_at, mul_comm]
    rfl
  refine (dats m 0 c).arrAt_eq_of_covers 6 _ (by decide +kernel) fun t hf y => ?_
  blk_simp
  have hy : y = ix3 0 0 (y 2) := (eq_ix3 y).trans
    (congrArg₂ (fun a b => ix3 a b (y 2)) (Subsingleton.elim (α := Fin 1) (y 0) 0) (Subsingleton.elim (α := Fin 1) (y 1) 0))
  refine Eq.trans (congrArg (sumS (F := Ideal) (blkY m c t) (blkP m c t) (blkW m c t) 16) hy) ((key t (y 2)).trans ?_)
  have h0 : (y 0).val = 0 := by have : (y 0).val < 1 := (y 0).isLt; omega
  have h1 : (y 1).val = 0 := by have : (y 1).val < 1 := (y 1).isLt; omega
  unfold grp
  blk_ext [idx t, h0, h1]

section Real

variable {m c} (hw : ∀ i, IsReal (argW m c i)) (hs : ∀ i, IsReal (argS m c i)) (hy : ∀ i, IsReal (argY m c i))
include hw hs hy

/-- The input's gradient. -/
theorem du_eq : (dats m 0 c).arrAt 4 cfg0.N = Cert.RefPoolIdeal.Read.val_main_v83 (F := Ideal) (argW m c) (argS m c) (argY m c) := by
  have key : ∀ (t : Fin cfg0.N) (r : Fin 4096) (k : Fin 256),
      du (F := Ideal) (branch (grp t).val) (blkY m c t) (blkW m c t) (blkS m c t) (ix2 r k)
        = Cert.RefPoolIdeal.Read.val_main_v83 (F := Ideal) (argW m c) (argS m c) (argY m c) (ix2 r (chan (grp t) k)) := fun t r k => by
    rw [du_at _ _ _ (fun r k => by rw [back_at]; exact Cert.RefPoolIdeal.Val.back_real _ _ _ hw hs hy r (grp t) k),
      Cert.RefPoolIdeal.Val.v83_real _ _ _ hw hs hy, back_at]
    simp only [share_at]
  refine (dats m 0 c).arrAt_eq_of_covers 4 _ (by decide +kernel) fun t hf y => ?_
  blk_simp
  refine Eq.trans (congrArg (du (F := Ideal) (branch (grp t).val) (blkY m c t) (blkW m c t) (blkS m c t)) (eq_ix2 y)) ((key t (y 0) (y 1)).trans ?_)
  unfold chan grp
  blk_ext [idx t]

end Real

end Cert.PoolIdeal.Val

end
-- ==== Proof.Pool.Claim.lean ====
module

public import proofs.«01_k».proof.Defs
public import proofs.«01_k».proof.Proof.Gen.Pool
public import proofs.«01_k».proof.Proof.Pool.Launch
public import proofs.«01_k».proof.Proof.Gen.RefPoolIdeal.Run
public import proofs.«01_k».proof.Proof.Gen.RefPoolIdeal.Read
public import proofs.«01_k».proof.Proof.Pool.Equal

/-! The claims on the pooled branch's gradient. -/

@[expose] public section

noncomputable section

open Idealize.ShloMosaic Idealize.ShloMosaic.TcCoe

namespace Cert.Proof

/-- The reference runs to its end, leaves its arguments as they were, and has no counter to leave. -/
theorem frame_ref_pool : @Cert.quiescent_RefPoolIdeal Cert.RefPoolIdeal.Gen.facts := fun m g _ =>
  θ_run_mono (Cert.RefPoolIdeal.Value.run m g) fun r h =>
    ⟨fun c => (h c).2.2.2, sem_eq_zero_of_no_sems (by decide) r.2⟩

/-! ## The program as the machine runs it

It is the ideal program's text read with bit patterns for numbers, so its frame is the frame of that
text. Only the tables of bodies have to be compared label by label. -/

theorem pool_bodies : @Cert.Pool.defs₀ Bits _ Cert.Pool.Gen.facts = @Cert.PoolIdeal.defs₀ Bits _ Cert.PoolIdeal.Gen.facts :=
  congrArg Defs.onTc (funext fun l => match l with
    | 0 => funext fun _ => rfl
    | ⟨_ + 1, h⟩ => absurd h (Nat.not_lt.2 (Nat.le_add_left _ _)))

theorem pool_defs : @Cert.Pool.defs Bits _ Cert.Pool.Gen.facts = @Cert.PoolIdeal.defs Bits _ Cert.PoolIdeal.Gen.facts :=
  congrArg (Pipeline.defs (@Cert.PoolIdeal.pcfgs Bits Cert.PoolIdeal.Gen.facts)) pool_bodies

set_option maxRecDepth 65536 in
set_option maxHeartbeats 2000000 in
theorem frame_pool : @Cert.quiescent_Pool Cert.Pool.Gen.facts := fun m g _ =>
  (congrArg (fun d => θ_run d (onTc (τ := Cert.PoolIdeal.τ) (@Cert.PoolIdeal.main Bits _ Cert.PoolIdeal.Gen.facts))
    ⟨m, fun _ => 0, g⟩ _) pool_defs).mpr (Cert.PoolIdeal.Run.frame m g)

theorem frame_pool_ideal : @Cert.quiescent_PoolIdeal Cert.PoolIdeal.Gen.facts := fun m g _ => Cert.PoolIdeal.Run.frame m g

set_option maxRecDepth 16384 in
set_option maxHeartbeats 2000000 in
/-- The pooled branch's gradient. -/
theorem pool : @Cert.algebraic_PoolIdeal_RefPoolIdeal_pre_finite_pool Cert.PoolIdeal.Gen.facts Cert.RefPoolIdeal.Gen.facts
    Cert.Pre_finite_pool.Gen.facts := by
  intro m g m' g' hpre hagree
  have hreal := fun c => Cert.PoolIdeal.Val.pre_real _ _ _ _ (hpre c)
  refine ⟨fun c => (Cert.PoolIdeal.Run.dats m 0 c).arrAt 4 Cert.PoolIdeal.cfg0.N, fun c => (Cert.PoolIdeal.Run.dats m 0 c).arrAt 5 Cert.PoolIdeal.cfg0.N,
    fun c => (Cert.PoolIdeal.Run.dats m 0 c).arrAt 6 Cert.PoolIdeal.cfg0.N, ?_, ?_⟩
  · exact θ_run_mono (θ_run_and (Cert.PoolIdeal.Run.run m g) (Cert.PoolIdeal.Run.frame m g)) fun r h c =>
      ⟨(h.1.1 c).1 4, (h.1.1 c).1 5, (h.1.1 c).1 6, (h.2.1 c).1, (h.2.1 c).2.1, (h.2.1 c).2.2.1, (h.2.1 c).2.2.2⟩
  · run_from Cert.RefPoolIdeal.Value.run m' g'
    all_goals obtain ⟨a0, a1, a2, a3⟩ := hagree c
    · refine (Cert.RefPoolIdeal.Read.val_main_v83_eq m' c).trans ?_
      rw [a1, a2, a3]
      exact (Cert.PoolIdeal.Val.du_eq (hreal c).1 (hreal c).2.1 (hreal c).2.2).symm
    · refine (Cert.RefPoolIdeal.Read.val_main_v68_eq m' c).trans ?_
      rw [a0, a2, a3]
      exact (Cert.PoolIdeal.Val.dw_eq m c).symm
    · refine (Cert.RefPoolIdeal.Read.val_main_v84_eq m' c).trans ?_
      rw [a0, a1, a3]
      exact (Cert.PoolIdeal.Val.ds_eq m c).symm

end Cert.Proof

end
-- ==== Proof.Att.Frame.lean ====
/-
  The attention forward kernel as written, its constants not yet named: the sweep over the earlier blocks of keys ends
  and leaves its buffers owned, by induction on the blocks still to sweep; so does a block of queries, the body, and the
  run of host lines and kernel.
-/
module

public import proofs.«01_k».proof.Proof.Gen.Att
public import proofs.«01_k».proof.Proof.Gen.Att.Skeleton
public import proofs.«01_k».proof.Proof.Gen.Att.Launch
public import proofs.«01_k».proof.Proof.Gen.Att.Loops
public import proofs.«01_k».proof.Proof.Gen.Att.Points
public import proofs.«01_k».proof.Proof.AttnPlain.Own
public import Idealize.ShloMosaic.Lib.Pipeline.Sound
public import Idealize.ShloMosaic.Lib.Claim
public import Idealize.ShloMosaic.Lib.Pipeline.FrameBody

@[expose] public section

set_option maxRecDepth 16384

noncomputable section

namespace Cert.Att.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Att Cert.Att.Gen Cert.Own

variable {F : FTy → Type} [FloatOps F]

/-- The naturals, the blocks still to sweep. -/
abbrev 𝒱₀ : Variants := Variants.nat

local notation "𝕄" => MT nD τ sig Unit (Elt F) ℕ (UR sig nD τ) ℕ

/-! ## The sweep -/

/-- The counter of the sweep, block by block: whether it is below the diagonal, its successor, and that the keys it names
lie within the buffer. -/
theorem counter : ∀ t : Fin k0_t1_loop.trips,
    Scalar.cmpi .slt (BitVec.ofNat 32 t.val) (Scf.iv 0#32 1#32 t) = 0#1
      ∧ ∀ j < t.val, Scalar.addi (BitVec.ofNat 32 j) 1#32 = BitVec.ofNat 32 (j + 1) ∧ k0_chk1 t (BitVec.ofNat 32 j) := by
  decide +kernel

/-- With no block left the test fails. -/
theorem not_more (t : Fin k0_t1_loop.trips) (b : BitVec 1) :
    ¬ Scalar.andi (Scalar.cmpi .slt (BitVec.ofNat 32 t.val) (Scf.iv 0#32 1#32 t)) b = 1#1 := by
  rw [(counter t).1]
  revert b
  decide

variable (c : Dev nD)

/-- The buffers the sweep touches: keys and values. -/
def bufs (a : Cc0While1 F) : sProp 𝕄 :=
  iprop(own (Elt F) (c : Thread nD τ) a.arg2 ∗ own (Elt F) (c : Thread nD τ) a.arg3)

theorem sweep_le (E : Set ℕ) : ∀ n (a : Cc0While1 F) (j : ℕ), a.arg6 = BitVec.ofNat 32 j → j + n = a.k0_t1.val → ∀ K,
    iprop(bufs c a ∗ (∀ r, bufs c a -∗ K r))
      ⊢ wp frame (wpE (defs₀ (F := F)) 𝒱₀ (c : Thread nD τ) (some n)) E (defs₀ (F := F) .tc 1 a) K := by
  intro n
  induction n with
  | zero =>
    rintro ⟨i, t, arg2, harg2, q0, q1, q2, q3, q4, q5, q6, q7, tri, arg3, harg3, j', mn, a8, a9, a10, a11, a12, a13, a14, a15,
      a16, a17, a18, a19, a20, a21, a22, a23⟩ j hj hn K
    dsimp only at hj hn
    subst hj
    obtain rfl : j = t.val := by omega
    show _ ⊢ wp frame (wpE (defs₀ (F := F)) 𝒱₀ (c : Thread nD τ) (some 0)) E
      (cc0_while1 i t arg2 harg2 q0 q1 q2 q3 q4 q5 q6 q7 tri arg3 harg3 (BitVec.ofNat 32 t.val) mn a8 a9 a10 a11 a12 a13 a14 a15
        a16 a17 a18 a19 a20 a21 a22 a23) K
    simp only [cc0_while1_eq_skeleton]; unfold cc0_while1_skel
    dsimp only
    rw [if_neg (not_more t _)]
    simp only [Prog.pure_eq_ret]
    iintro ⟨H, Hk⟩
    rw [wp_ret]; imodintro
    iapply Hk
    iexact H
  | succ n ih =>
    rintro ⟨i, t, arg2, harg2, q0, q1, q2, q3, q4, q5, q6, q7, tri, arg3, harg3, j', mn, a8, a9, a10, a11, a12, a13, a14, a15,
      a16, a17, a18, a19, a20, a21, a22, a23⟩ j hj hn K
    dsimp only at hj hn
    subst hj
    obtain ⟨hsucc, hchk⟩ := (counter t).2 j (by omega)
    show _ ⊢ wp frame (wpE (defs₀ (F := F)) 𝒱₀ (c : Thread nD τ) (some (n + 1))) E
      (cc0_while1 i t arg2 harg2 q0 q1 q2 q3 q4 q5 q6 q7 tri arg3 harg3 (BitVec.ofNat 32 j) mn a8 a9 a10 a11 a12 a13 a14 a15
        a16 a17 a18 a19 a20 a21 a22 a23) K
    simp only [cc0_while1_eq_skeleton]; unfold cc0_while1_skel
    dsimp only
    split
    swap
    · simp only [Prog.pure_eq_ret]
      iintro ⟨H, Hk⟩
      rw [wp_ret]; imodintro
      iapply Hk
      iexact H
    simp only [k0_part10_eq_skeleton, k0_part11_eq_skeleton, k0_part12_eq_skeleton, k0_part13_eq_skeleton,
      k0_part14_eq_skeleton, k0_part15_eq_skeleton]
    unfold k0_part10_skel k0_part11_skel k0_part12_skel k0_part13_skel k0_part14_skel k0_part15_skel
    simp only [Prog.lift, Prog.bind_op, Prog.bind_ret, Prog.pure_eq_ret]
    unfold bufs
    dsimp only
    iintro ⟨⟨H2, H3⟩, Hk⟩
    iapply (wp_assume 𝒱₀ (c : Thread nD τ) (some (n + 1)) E hchk)
    iterate 8
      iapply (wp_load_own 𝒱₀ (c : Thread nD τ) (some (n + 1)) E arg2) $$ H2; iintro %_ H2
    iterate 8
      iapply (wp_load_own 𝒱₀ (c : Thread nD τ) (some (n + 1)) E arg3) $$ H3; iintro %_ H3
    iapply (wp_call 𝒱₀ (c : Thread nD τ) (some (n + 1)) E n (fun u hu => by cases hu; exact Nat.lt_succ_self n))
    iapply (ih _ (j + 1) hsucc (by show j + 1 + n = t.val; omega) _)
    unfold bufs
    dsimp only
    isplitl [H2 H3]
    · isplitl [H2]; · iexact H2
      iexact H3
    · iintro %r H
      rw [wp_ret]; imodintro
      iapply Hk
      iexact H

/-! ## A block of queries and the body -/

section Body

variable (i : grid0.Coords)
variable (arg1 : Memref sig .tc .vmem S4096x512 .bf16) (harg1 : arg1.IsWhole)
variable (arg2 : Memref sig .tc .vmem S4096x512 .bf16) (harg2 : arg2.IsWhole)
variable (arg3 : Memref sig .tc .vmem S4096x512 .bf16) (harg3 : arg3.IsWhole)
variable (arg4 : Memref sig .tc .vmem S4096x512 .f32) (harg4 : arg4.IsWhole)

/-- The kernel's buffers: queries, keys, values and the output. -/
def all : sProp 𝕄 :=
  iprop(own (Elt F) (c : Thread nD τ) arg1 ∗ own (Elt F) (c : Thread nD τ) arg2 ∗ own (Elt F) (c : Thread nD τ) arg3
    ∗ own (Elt F) (c : Thread nD τ) arg4)

theorem trip_le (E : Set ℕ) (t : Fin k0_t1_loop.trips) (u : Unit) :
    all (F := F) c arg1 arg2 arg3 arg4
      ⊢ wp frame (wpE (defs₀ (F := F)) 𝒱₀ (c : Thread nD τ) none) E
          (k0_t1_body (F := F) i arg1 harg1 arg2 harg2 arg3 harg3 arg4 harg4 t u)
          (fun _ => all c arg1 arg2 arg3 arg4) := by
  unfold k0_t1_body all
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel
    k0_part8_skel k0_part9_skel
  simp only [Prog.lift, Prog.bind_op, Prog.bind_ret, Prog.pure_eq_ret]
  iintro ⟨H1, H2, H3, H4⟩
  iterate 8
    iapply (wp_load_own 𝒱₀ (c : Thread nD τ) none E arg1) $$ H1; iintro %_ H1
  iterate 8
    iapply (wp_load_own 𝒱₀ (c : Thread nD τ) none E arg2) $$ H2; iintro %_ H2
  iterate 8
    iapply (wp_load_own 𝒱₀ (c : Thread nD τ) none E arg3) $$ H3; iintro %_ H3
  iapply (wp_call 𝒱₀ (c : Thread nD τ) none E t.val (fun u hu => nomatch hu))
  iapply (sweep_le c E t.val _ 0 rfl (Nat.zero_add _) _)
  unfold bufs
  dsimp only
  isplitl [H2 H3]
  · isplitl [H2]; · iexact H2
    iexact H3
  iintro %r ⟨H2, H3⟩
  iterate 8
    iapply (wp_load_own 𝒱₀ (c : Thread nD τ) none E arg4) $$ H4; iintro %_ H4
    iapply (wp_store_own 𝒱₀ (c : Thread nD τ) none E arg4) $$ H4; iintro H4
  rw [wp_ret]; imodintro
  isplitl [H1]; · iexact H1
  isplitl [H2]; · iexact H2
  isplitl [H3]; · iexact H3
  iexact H4

theorem body_le (E : Set ℕ) (K : PUnit → sProp 𝕄) :
    iprop(all c arg1 arg2 arg3 arg4 ∗ (all c arg1 arg2 arg3 arg4 -∗ K ⟨⟩))
      ⊢ wp frame (wpE (defs₀ (F := F)) 𝒱₀ (c : Thread nD τ) none) E
          (cc0_attn_fwd (F := F) i arg1 harg1 arg2 harg2 arg3 harg3 arg4 harg4) K := by
  simp only [cc0_attn_fwd_eq_skeleton]
  unfold cc0_attn_fwd_skel
  have hloop := fun kk => Scf.wp_for_bind (M := MT nD τ sig Unit (Elt F) ℕ (UR sig nD τ) ℕ) frame (wpE (defs₀ (F := F)) 𝒱₀ (c : Thread nD τ) none) E
    k0_t1_loop.lb k0_t1_loop.ub k0_t1_loop.st k0_t1_ok () (k0_t1_body (F := F) i arg1 harg1 arg2 harg2 arg3 harg3 arg4 harg4)
    (fun _ _ => all c arg1 arg2 arg3 arg4)
    (fun k u => trip_le c i arg1 harg1 arg2 harg2 arg3 harg3 arg4 harg4 E k u) (kk := kk) (Q := K)
  iintro ⟨H, Hk⟩
  iapply (hloop _) $$ H
  iintro %u H
  simp only [Prog.pure_eq_ret]
  rw [wp_ret]; imodintro
  iapply Hk
  iexact H

end Body

/-! ## The run -/

variable (m : (ℓ : Loc nD τ sig) → Buf (Elt F) ℓ) (g : Dev nD → PrngReg)

/-- What the kernel finds in each buffer. -/
def V (b : Ref sig .tc) : Buf (Elt F) ((c : Thread nD τ).loc b) :=
  StableHlo.after [hostOps0 (F := F)].flatten (fun b => m (c, b)) b

set_option maxHeartbeats 1600000 in
theorem host_lines : Pipeline.HMain (Ix := Unit) (Name := ℕ) (U := UR sig nD τ) (Lvl := ℕ) cfgs 0 defs₀ 𝒱₀ m (main (F := F)) (fun c => V c m) :=
  Pipeline.hmain_prefixes cfgs 0 defs₀ 𝒱₀ m main [hostOps0] hostOps0_sub (by simp only [List.Forall]; repeat' constructor) main_chain

instance : ∀ e, Nonempty (Elt F e) := fun _ => inferInstance

/-- What the launch is told of the windows: what their arrays hold when it starts, and nothing of what the body leaves. -/
def dats (_ : Fin 1) (c : Dev nD) : Dat τ (Elt F) Unit ℕ (UR sig nD τ) ℕ (cfg0 (F := F)) c where
  A w := V c m (Pipeline.arrRef spec0 w)
  after := Dat.unnamed
  Φ _ := Pipeline.ΦA spec0 c
  q w := Pipeline.shareOf spec0 w
  owed _ := 0

/-- The windows' buffers, each at some contents, before and after the body. -/
def around (t : Fin (cfg0 (F := F)).N) (u : Fin ((cfg0 (F := F)).N + 1)) : sProp 𝕄 :=
  iprop(Pipeline.ΦA spec0 c ∗ (dats m 0 c).owesAt () u
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d))

theorem body_at (t : Fin (cfg0 (F := F)).N) :
    around c m t t.castSucc ⊢ wp frame (wpE (defs₀ (F := F)) 𝒱₀ (c : Thread nD τ) none) Set.univ (bodyAt0 t) (fun _ => around c m t t.succ) := by
  unfold around bodyAt0
  rw [show (dats m 0 c).owesAt () t.succ = (dats m 0 c).owesAt () t.castSucc from rfl]
  iintro ⟨S, O, ⟨%d0, H0⟩, ⟨%d1, H1⟩, ⟨%d2, H2⟩, ⟨%d3, H3⟩⟩
  ihave H0 := (own_of_owns (c : Thread nD τ) _ _) $$ H0
  ihave H1 := (own_of_owns (c : Thread nD τ) _ _) $$ H1
  ihave H2 := (own_of_owns (c : Thread nD τ) _ _) $$ H2
  ihave H3 := (own_of_owns (c : Thread nD τ) _ _) $$ H3
  iapply (body_le c (grid0.coords t) _ _ _ _ _ _ _ _ _ _)
  unfold all
  isplitl [H0 H1 H2 H3]
  · isplitl [H0]; · iexact H0
    isplitl [H1]; · iexact H1
    isplitl [H2]; · iexact H2
    iexact H3
  iintro ⟨H0, H1, H2, H3⟩
  isplitl [S]; · iexact S
  isplitl [O]; · iexact O
  isplitl [H0]; · iapply (owns_of_own (c : Thread nD τ) _); iexact H0
  isplitl [H1]; · iapply (owns_of_own (c : Thread nD τ) _); iexact H1
  isplitl [H2]; · iapply (owns_of_own (c : Thread nD τ) _); iexact H2
  iapply (owns_of_own (c : Thread nD τ) _); iexact H3

theorem body_ok : BodyObligation (dats (F := F) m 0 c) (defs₀ (F := F)) 𝒱₀ () Set.univ (fun _ => true) := fun t => by
  rw [bigSep_W0, show defs₀ (F := F) .tc cfg0.body (cfg0.bodyArgs t (cfg0.slots t)) = bodyAt0 t by unfold defs₀; rw [Defs.onTc_tc]]
  exact triple_restated (body_at c m t) rfl .rfl fun _ => .rfl

set_option backward.isDefEq.respectTransparency.types false in
set_option maxHeartbeats 1600000 in
/-- Every run ends with every buffer the kernel does not stage as the host lines left it, and every counter at zero. -/
theorem run : θ_run defs (onTc (τ := τ) (main (F := F))) (s₀ m g)
    (fun r => (∀ c : Dev nD, ∀ b ∈ Pipeline.restRefs sig spec0, r.2.mem ((c.tc : Thread nD τ).loc b) = V c m b) ∧ r.2.sem = fun _ => 0) :=
  Pipeline.θ_run_frame_forget_shared (Q' := _) cfgs (dats m) (0 : Fin 1) launch₀0 defs₀ 𝒱₀ (fun _ => true) m g main
    (hbody := fun c => (body_ok c m).loose) (hq := fun c w _ => by dsimp only [dats]) (howed := fun _ _ => rfl) (V := fun c => V c m)
    (hmain := host_lines m) (hA := fun c w => by dsimp only [dats]) (hΦ := fun _ _ => rfl) (hQ' := fun _ h => ⟨fun c => (h.1 c).2, h.2⟩)

theorem frame : θ_run defs (onTc (τ := τ) (main (F := F))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    (h.1 c main_arg0 (Pipeline.mem_restRefs_of (win := spec0) main_arg0 (by decide) (by decide))).trans
      (StableHlo.after_of_writes_sub (r := main_arg0) _ _ (StableHlo.forall_writes_sub_of_map (W := [main_v0]) rfl) (by decide)), h.2⟩) (run m g)

end Cert.Att.Run

end
-- ==== Proof.Att.Model.lean ====
/-
  The attention forward kernel on vectors. A chain is one head and one half (128 rows) of a block of 256 queries; a block
  has eight. A chain carries the sum of the scores' softplus over the key blocks already swept and its rows of the output.
  The scores, their softplus and the weights are those of the backward kernel, which computes them again.
-/
module

public import proofs.«01_k».proof.Proof.Gen.AttIdeal
public import proofs.«01_k».proof.Proof.Gen.AttIdeal.Launch
public import proofs.«01_k».proof.Proof.Gen.AttIdeal.Points
public import proofs.«01_k».proof.Proof.Gen.AttIdeal.Skeleton
public import proofs.«01_k».proof.Proof.Gen.AttIdeal.Loops
public import proofs.«01_k».proof.Proof.Attn.Model
public import Idealize.ShloMosaic.Lib.Pipeline.ValueKit

@[expose] public section

noncomputable section

namespace Cert.AttIdeal.Model

open Idealize.ShloMosaic Idealize.ShloMosaic.TcCoe
open Cert.AttIdeal Cert.AttIdeal.Gen
open Cert.AttnIdeal.Model (Fx Ch incl weights first rows)

variable {F : FTy → Type} [FloatOps F] [Named F]

/-- What a chain carries from one block of keys to the next. -/
structure Link (F : FTy → Type) where
  carry : FVec F S128x1 .f32
  acc : FVec F S128x128 .f32

/-- A chain's queries, with no cotangents. -/
def queries (q : FVec F S128x128 .bf16) : Fx F := ⟨q, constant S128x128 .bf16 0x0000#16, k0_pay18⟩

/-- A chain's carried sum, with no gradients. -/
def carried (c : FVec F S128x1 .f32) : Ch F := ⟨c, k0_pay18, k0_pay19⟩

/-- A chain after one more block of keys. -/
def Link.next (μ : Option (IVec S128x256 1)) (tri : FVec F S256x256 .bf16) (q : FVec F S128x128 .bf16) (s : Link F)
    (k v : FVec F S256x128 .bf16) : Link F where
  carry := addf s.carry (first (incl μ tri (queries q) k))
  acc := addf s.acc (matmul dot_S128x256_S256x128_S128x128_1_0_0_1_n_n none (weights μ tri (queries q) (carried s.carry) k) v
    (constant S128x128 .f32 0x00000000#32))

/-- The eight chains of a block of queries: four heads, an upper and a lower half each. -/
abbrev St (F : FTy → Type) : Type := Fin 8 → Link F

/-- Which head a chain belongs to, and which half of the queries. -/
def hd : Fin 8 → Fin 4 := ![0, 0, 1, 1, 2, 2, 3, 3]
def half : Fin 8 → Fin 2 := ![0, 1, 0, 1, 0, 1, 0, 1]

/-- One block of keys for the eight chains. -/
def step (μ : Fin 2 → Option (IVec S128x256 1)) (tri : FVec F S256x256 .bf16) (q : Fin 8 → FVec F S128x128 .bf16)
    (k v : Fin 4 → Vec F S256x128 .bf16) (s : St F) : St F := fun i =>
  (s i).next (μ (half i)) tri (q i) (rows (k (hd i))) (rows (v (hd i)))

/-- The least of the chains' sums. -/
def lowest (s : St F) : F .f32 :=
  extractAt ![0, 0, 0] (shapeCast S1x1x1 (multiReduction .minimumf [1, 2] S1 (shapeCast S1x128x1
    (minimumf (minimumf (minimumf (minimumf (minimumf (minimumf (minimumf (s 0).carry (s 1).carry) (s 2).carry) (s 3).carry)
      (s 4).carry) (s 5).carry) (s 6).carry) (s 7).carry) shapeCasts_S128x1_S1x128x1) 0x7F800000#32 reduces_S1x128x1_S1 (.inl rfl) rfl)
    shapeCasts_S1_S1x1x1) inpos_S1x1x1_p0_0_0

section Sweep

variable (t : Fin k0_t1_loop.trips) (tri : FVec F S256x256 .bf16) (q : Fin 8 → FVec F S128x128 .bf16)
variable (xq xk xv : Vec F S4096x512 .bf16)

/-- A block of keys or values, for the four heads. -/
def keyRows (j : BitVec 32) (h : k0_chk1 t j) (x : Vec F S4096x512 .bf16) : Fin 4 → Vec F S256x128 .bf16
  | 0 => VecWindow.window x (k0_off9 t j) S256x128.size (k0_off9_inb t j h)
  | 1 => VecWindow.window x (k0_off10 t j) S256x128.size (k0_off10_inb t j h)
  | 2 => VecWindow.window x (k0_off11 t j) S256x128.size (k0_off11_inb t j h)
  | 3 => VecWindow.window x (k0_off12 t j) S256x128.size (k0_off12_inb t j h)

/-- One earlier block of keys, `j` counted back from the diagonal. -/
def earlier (j : BitVec 32) (h : k0_chk1 t j) (s : St F) : St F :=
  step (fun _ => none) tri q (keyRows t j h xk) (keyRows t j h xv) s

/-- Whether the sweep goes on: an earlier block is left and some weight may still differ from zero. -/
def More (j : BitVec 32) (mn : F .f32) : Prop :=
  Scalar.andi (Scalar.cmpi .slt j (Scf.iv 0#32 1#32 t)) (Scalar.cmpf .olt mn (Named.named κ "underflow" 0x43200000#32)) = 1#1

instance (j : BitVec 32) (mn : F .f32) : Decidable (More t j mn) :=
  inferInstanceAs (Decidable (Scalar.andi _ _ = 1#1))

/-- The sweep over the earlier blocks, at most `n` of them. -/
def sweep : ℕ → BitVec 32 → F .f32 → St F → BitVec 32 × F .f32 × St F
  | 0, j, mn, s => (j, mn, s)
  | n + 1, j, mn, s =>
    if More t j mn then
      if h : k0_chk1 t j then
        sweep n (Scalar.addi j 1#32) (lowest (earlier t tri q xk xv j h s)) (earlier t tri q xk xv j h s)
      else (j, mn, s)
    else (j, mn, s)

/-- The rows and columns a chain reads its queries from and writes its output to. -/
def place : Fin 8 → Fin 2 → ℕ
  | 0 => k0_off1 t 0#32
  | 1 => k0_off1 t 128#32
  | 2 => k0_off2 t 0#32
  | 3 => k0_off2 t 128#32
  | 4 => k0_off3 t 0#32
  | 5 => k0_off3 t 128#32
  | 6 => k0_off4 t 0#32
  | 7 => k0_off4 t 128#32

theorem place_inb : ∀ i a, place t i a + S128x128.size a ≤ S4096x512.size a
  | 0 => k0_off1_inb t 0
  | 1 => k0_off1_inb t 1
  | 2 => k0_off2_inb t 0
  | 3 => k0_off2_inb t 1
  | 4 => k0_off3_inb t 0
  | 5 => k0_off3_inb t 1
  | 6 => k0_off4_inb t 0
  | 7 => k0_off4_inb t 1

/-- The eight chains' queries. -/
def reads (i : Fin 8) : FVec F S128x128 .bf16 :=
  shapeCast S128x128 (VecWindow.window xq (place t i) S128x128.size (place_inb t i) : Vec F S128x128 .bf16) shapeCasts_S128x128_S128x128

/-- The causal masks of the diagonal block, for the two halves of the queries. -/
def causal : Fin 2 → Option (IVec S128x256 1)
  | 0 => some k0_pay2
  | 1 => some k0_pay3

/-- The diagonal block of keys. -/
def diagRows (x : Vec F S4096x512 .bf16) : Fin 4 → Vec F S256x128 .bf16
  | 0 => VecWindow.window x (k0_off5 t) S256x128.size (k0_off5_inb t)
  | 1 => VecWindow.window x (k0_off6 t) S256x128.size (k0_off6_inb t)
  | 2 => VecWindow.window x (k0_off7 t) S256x128.size (k0_off7_inb t)
  | 3 => VecWindow.window x (k0_off8 t) S256x128.size (k0_off8_inb t)

/-- The chains after the diagonal block. -/
def diag : St F := step causal tri (reads t xq) (diagRows t xk) (diagRows t xv) fun _ => ⟨k0_pay18, k0_pay19⟩

/-- The chains after the sweep. -/
def swept : St F :=
  (sweep t tri (reads t xq) xk xv t.val 0#32 (lowest (diag t tri xq xk xv)) (diag t tri xq xk xv)).2.2

/-- A chain's output put into the block. -/
def putAt (s : St F) (i : Fin 8) (x : Vec F S4096x512 .f32) : Vec F S4096x512 .f32 :=
  VecWindow.put x (place t i) S128x128.size (s i).acc

/-- All eight chains'. -/
def putRows (s : St F) (x : Vec F S4096x512 .f32) : Vec F S4096x512 .f32 :=
  putAt t s 7 (putAt t s 6 (putAt t s 5 (putAt t s 4 (putAt t s 3 (putAt t s 2 (putAt t s 1 (putAt t s 0 x)))))))

end Sweep

variable (tri : FVec F S256x256 .bf16) (xq xk xv : Vec F S4096x512 .bf16) (o : Vec F S4096x512 .f32)

/-- The output block after `n` blocks of queries. -/
def after : ℕ → Vec F S4096x512 .f32
  | 0 => o
  | n + 1 => if h : n < k0_t1_loop.trips then putRows ⟨n, h⟩ (swept ⟨n, h⟩ tri xq xk xv) (after n) else after n

/-! ## The output block, place by place -/

theorem trips_eq : k0_t1_loop.trips = 16 := by decide

/-- The chain a row and a column belong to, and the block of queries a row belongs to. -/
def chainOf (y : S4096x512.Idx) : Fin 8 :=
  ⟨2 * ((y 1).val / 128) + (y 0).val % 256 / 128, by have : (y 1).val < 512 := (y 1).isLt; omega⟩

def blockOf (y : S4096x512.Idx) : Fin k0_t1_loop.trips :=
  ⟨(y 0).val / 256, by have : (y 0).val < 4096 := (y 0).isLt; rw [trips_eq]; omega⟩

/-- A chain's output at the place of its block a row and a column name. -/
def out (s : St F) (y : S4096x512.Idx) : F .f32 :=
  (s (chainOf y)).acc (ix2 (⟨(y 0).val % 128, Nat.mod_lt _ (by decide)⟩ : Fin 128) (⟨(y 1).val % 128, Nat.mod_lt _ (by decide)⟩ : Fin 128))

/-- The whole block: every chain's output. -/
def result : Vec F S4096x512 .f32 := fun y => out (swept (blockOf y) tri xq xk xv) y

theorem place_eq : ∀ (t : Fin k0_t1_loop.trips) (i : Fin 8),
    place t i 0 = 256 * t.val + 128 * (half i).val ∧ place t i 1 = 128 * (hd i).val := by decide +kernel

theorem chain_iff : ∀ (i : Fin 8) (a b : ℕ), 2 * a + b = i.val → b < 2 → a = (hd i).val ∧ b = (half i).val := by
  intro i a b h hb
  fin_cases i <;> simp only [hd, half] <;> simp at h ⊢ <;> omega

theorem chain_val : ∀ i : Fin 8, i.val = 2 * (hd i).val + (half i).val := by decide

/-- A chain's output put into the block is seen at the chain's place only. -/
theorem putAt_at (t : Fin k0_t1_loop.trips) (s : St F) (i : Fin 8) (x : Vec F S4096x512 .f32) (y : S4096x512.Idx) :
    putAt t s i x y = if blockOf y = t ∧ chainOf y = i then out s y else x y := by
  obtain ⟨h0, h1⟩ := place_eq t i
  have hv := chain_val i
  have hh := (half i).isLt
  by_cases h : blockOf y = t ∧ chainOf y = i
  · rw [if_pos h]
    obtain ⟨rfl, hc⟩ := h
    have hc' : 2 * ((y 1).val / 128) + (y 0).val % 256 / 128 = i.val := congrArg Fin.val hc
    obtain ⟨e1, e2⟩ := chain_iff i _ _ hc' (by omega)
    have h0' : place (blockOf y) i 0 = 256 * ((y 0).val / 256) + 128 * (half i).val := h0
    unfold putAt VecWindow.put out
    rw [dif_pos (fun a => by
      match a with
      | 0 => show place (blockOf y) i 0 ≤ (y 0).val ∧ (y 0).val < place (blockOf y) i 0 + 128; omega
      | 1 => show place (blockOf y) i 1 ≤ (y 1).val ∧ (y 1).val < place (blockOf y) i 1 + 128; omega), hc]
    refine congrArg (s i).acc (funext fun a => Fin.ext ?_)
    match a with
    | 0 => show (y 0).val - place (blockOf y) i 0 = (y 0).val % 128; omega
    | 1 => show (y 1).val - place (blockOf y) i 1 = (y 1).val % 128; omega
  · rw [if_neg h]
    unfold putAt VecWindow.put
    rw [dif_neg]
    intro hin
    have a0 : place t i 0 ≤ (y 0).val ∧ (y 0).val < place t i 0 + 128 := hin 0
    have a1 : place t i 1 ≤ (y 1).val ∧ (y 1).val < place t i 1 + 128 := hin 1
    refine h ⟨Fin.ext ?_, Fin.ext ?_⟩
    · show (y 0).val / 256 = t.val; omega
    · show 2 * ((y 1).val / 128) + (y 0).val % 256 / 128 = i.val; omega

theorem putRows_at (t : Fin k0_t1_loop.trips) (s : St F) (x : Vec F S4096x512 .f32) (y : S4096x512.Idx) :
    putRows t s x y = if blockOf y = t then out s y else x y := by
  unfold putRows
  simp only [putAt_at]
  by_cases h : blockOf y = t
  · simp only [h, true_and, if_true]
    generalize chainOf y = i
    fin_cases i <;> simp
  · simp only [h, false_and, if_false]

theorem after_at (n : ℕ) (hn : n ≤ k0_t1_loop.trips) (y : S4096x512.Idx) :
    after tri xq xk xv o n y = if (blockOf y).val < n then result tri xq xk xv y else o y := by
  induction n with
  | zero => rfl
  | succ n ih =>
    rw [after, dif_pos (show n < k0_t1_loop.trips from hn), putRows_at, ih (Nat.le_of_lt hn)]
    by_cases h : blockOf y = ⟨n, hn⟩
    · rw [if_pos h, if_pos (by rw [h]; exact Nat.lt_succ_self n), ← h]; rfl
    · rw [if_neg h]
      have : (blockOf y).val ≠ n := fun e => h (Fin.ext e)
      by_cases h' : (blockOf y).val < n
      · rw [if_pos h', if_pos (by omega)]
      · rw [if_neg h', if_neg (by omega)]

/-- After all the blocks of queries nothing is left of what the block held. -/
theorem after_all : after tri xq xk xv o k0_t1_loop.trips = result tri xq xk xv := funext fun y => by
  rw [after_at tri xq xk xv o _ le_rfl, if_pos (blockOf y).isLt]

end Cert.AttIdeal.Model

end
-- ==== Proof.Att.Run.lean ====
/-
  The attention forward kernel, run: the sweep over the earlier blocks of keys by induction on the blocks still to sweep,
  a block of queries, and the loop over the blocks.
-/
module

public import proofs.«01_k».proof.Proof.Att.Model
public import proofs.«01_k».proof.Proof.Attn.Held
public import Idealize.ShloMosaic.Lib.Pipeline.Sound

@[expose] public section

set_option maxRecDepth 16384

noncomputable section

namespace Cert.AttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttIdeal Cert.AttIdeal.Gen Cert.AttIdeal.Model Cert.Held

variable {F : FTy → Type} [FloatOps F] [Named F]

/-- The naturals, the blocks still to sweep. -/
abbrev 𝒱₀ : Variants := Variants.nat

local notation "𝕄" => MT nD τ sig Unit (Elt F) ℕ (UR sig nD τ) ℕ

/-! ## The sweep -/

/-- The counter of the sweep, block by block: whether it is below the diagonal, its successor, and that the keys it names
lie within the buffer. -/
theorem counter : ∀ t : Fin k0_t1_loop.trips,
    Scalar.cmpi .slt (BitVec.ofNat 32 t.val) (Scf.iv 0#32 1#32 t) = 0#1
      ∧ ∀ j < t.val, Scalar.addi (BitVec.ofNat 32 j) 1#32 = BitVec.ofNat 32 (j + 1) ∧ k0_chk1 t (BitVec.ofNat 32 j) := by
  decide +kernel

/-- With no block left the test fails. -/
theorem not_more (t : Fin k0_t1_loop.trips) (mn : F .f32) : ¬ More t (BitVec.ofNat 32 t.val) mn := by
  unfold More
  rw [(counter t).1]
  generalize Scalar.cmpf .olt mn _ = b
  revert b
  decide

variable (c : Dev nD) (i : grid0.Coords)
variable (arg1 : Memref sig .tc .vmem S4096x512 .bf16) (harg1 : arg1.IsWhole)
variable (arg2 : Memref sig .tc .vmem S4096x512 .bf16) (harg2 : arg2.IsWhole)
variable (arg3 : Memref sig .tc .vmem S4096x512 .bf16) (harg3 : arg3.IsWhole)
variable (arg4 : Memref sig .tc .vmem S4096x512 .f32) (harg4 : arg4.IsWhole)
variable (xq xk xv : Vec F S4096x512 .bf16)

/-- The buffers the sweep reads: keys and values. -/
def bufs : sProp 𝕄 :=
  iprop(held (c : Thread nD τ) harg2 xk ∗ held (c : Thread nD τ) harg3 xv)

section Label

variable (t : Fin k0_t1_loop.trips) (tri : FVec F S256x256 .bf16) (q : Fin 8 → FVec F S128x128 .bf16)

/-- The values the loop carries, as the label returns them. -/
def values (r : BitVec 32 × F .f32 × St F) : BitVec 32 × F .f32 × FVec F S128x1 .f32 × FVec F S128x128 .f32 × FVec F S128x1 .f32 × FVec F S128x128 .f32 × FVec F S128x1 .f32 × FVec F S128x128 .f32 × FVec F S128x1 .f32 × FVec F S128x128 .f32 × FVec F S128x1 .f32 × FVec F S128x128 .f32 × FVec F S128x1 .f32 × FVec F S128x128 .f32 × FVec F S128x1 .f32 × FVec F S128x128 .f32 × FVec F S128x1 .f32 × FVec F S128x128 .f32 :=
  (r.1, r.2.1, (r.2.2 0).carry, (r.2.2 0).acc, (r.2.2 1).carry, (r.2.2 1).acc, (r.2.2 2).carry, (r.2.2 2).acc,
    (r.2.2 3).carry, (r.2.2 3).acc, (r.2.2 4).carry, (r.2.2 4).acc, (r.2.2 5).carry, (r.2.2 5).acc,
    (r.2.2 6).carry, (r.2.2 6).acc, (r.2.2 7).carry, (r.2.2 7).acc)

/-- The label's argument at a state. -/
def closure (j : BitVec 32) (mn : F .f32) (s : St F) : Cc0While1 F :=
  ⟨i, t, arg2, harg2, q 0, q 1, q 2, q 3, q 4, q 5, q 6, q 7, tri, arg3, harg3, j, mn,
    (s 0).carry, (s 0).acc, (s 1).carry, (s 1).acc, (s 2).carry, (s 2).acc, (s 3).carry, (s 3).acc,
    (s 4).carry, (s 4).acc, (s 5).carry, (s 5).acc, (s 6).carry, (s 6).acc, (s 7).carry, (s 7).acc⟩

theorem sweep_le (E : Set ℕ) : ∀ n j, j + n = t.val → ∀ mn (s : St F) K,
    iprop(bufs c arg2 harg2 arg3 harg3 xk xv
        ∗ (bufs c arg2 harg2 arg3 harg3 xk xv -∗ K (values (sweep t tri q xk xv n (BitVec.ofNat 32 j) mn s))))
      ⊢ wp frame (wpE (defs₀ (F := F)) 𝒱₀ (c : Thread nD τ) (some n)) E
          (defs₀ (F := F) .tc 1 (closure i arg2 harg2 arg3 harg3 t tri q (BitVec.ofNat 32 j) mn s)) K := by
  intro n
  induction n with
  | zero =>
    intro j hj mn s K
    obtain rfl : j = t.val := by omega
    rw [show sweep t tri q xk xv 0 (BitVec.ofNat 32 t.val) mn s = (BitVec.ofNat 32 t.val, mn, s) from rfl]
    unfold values
    show _ ⊢ wp frame (wpE (defs₀ (F := F)) 𝒱₀ (c : Thread nD τ) (some 0)) E
      (cc0_while1 i t arg2 harg2 (q 0) (q 1) (q 2) (q 3) (q 4) (q 5) (q 6) (q 7) tri arg3 harg3 (BitVec.ofNat 32 t.val) mn
        (s 0).carry (s 0).acc (s 1).carry (s 1).acc (s 2).carry (s 2).acc (s 3).carry (s 3).acc
        (s 4).carry (s 4).acc (s 5).carry (s 5).acc (s 6).carry (s 6).acc (s 7).carry (s 7).acc) K
    simp only [cc0_while1_eq_skeleton]; unfold cc0_while1_skel
    show _ ⊢ wp frame _ E (if More t (BitVec.ofNat 32 t.val) mn then _ else _) K
    rw [if_neg (not_more t mn)]
    simp only [Prog.pure_eq_ret]
    iintro ⟨H, Hk⟩
    rw [wp_ret]; imodintro
    iapply Hk
    iexact H
  | succ n ih =>
    intro j hj mn s K
    obtain ⟨hsucc, hchk⟩ := (counter t).2 j (by omega)
    show _ ⊢ wp frame (wpE (defs₀ (F := F)) 𝒱₀ (c : Thread nD τ) (some (n + 1))) E
      (cc0_while1 i t arg2 harg2 (q 0) (q 1) (q 2) (q 3) (q 4) (q 5) (q 6) (q 7) tri arg3 harg3 (BitVec.ofNat 32 j) mn
        (s 0).carry (s 0).acc (s 1).carry (s 1).acc (s 2).carry (s 2).acc (s 3).carry (s 3).acc
        (s 4).carry (s 4).acc (s 5).carry (s 5).acc (s 6).carry (s 6).acc (s 7).carry (s 7).acc) K
    simp only [cc0_while1_eq_skeleton]; unfold cc0_while1_skel
    by_cases htest : More t (BitVec.ofNat 32 j) mn
    swap
    · rw [show sweep t tri q xk xv (n + 1) (BitVec.ofNat 32 j) mn s = (BitVec.ofNat 32 j, mn, s) by rw [sweep, if_neg htest]]
      unfold values
      show _ ⊢ wp frame _ E (if More t (BitVec.ofNat 32 j) mn then _ else _) K
      rw [if_neg htest]
      simp only [Prog.pure_eq_ret]
      iintro ⟨H, Hk⟩
      rw [wp_ret]; imodintro
      iapply Hk
      iexact H
    rw [show sweep t tri q xk xv (n + 1) (BitVec.ofNat 32 j) mn s
        = sweep t tri q xk xv n (BitVec.ofNat 32 (j + 1)) (lowest (earlier t tri q xk xv (BitVec.ofNat 32 j) hchk s))
          (earlier t tri q xk xv (BitVec.ofNat 32 j) hchk s) by rw [sweep, if_pos htest, dif_pos hchk, hsucc]]
    show _ ⊢ wp frame _ E (if More t (BitVec.ofNat 32 j) mn then _ else _) K
    rw [if_pos htest]
    simp only [k0_part10_eq_skeleton, k0_part11_eq_skeleton, k0_part12_eq_skeleton, k0_part13_eq_skeleton,
      k0_part14_eq_skeleton, k0_part15_eq_skeleton]
    unfold k0_part10_skel k0_part11_skel k0_part12_skel k0_part13_skel k0_part14_skel k0_part15_skel
    simp only [Prog.lift, Prog.bind_op, Prog.bind_ret, Prog.pure_eq_ret]
    unfold bufs
    iintro ⟨⟨H2, H3⟩, Hk⟩
    iapply (wp_assume 𝒱₀ (c : Thread nD τ) (some (n + 1)) E hchk)
    iterate 2
      iapply (wp_load_held 𝒱₀ (c : Thread nD τ) (some (n + 1)) E harg2 xk (k0_off9_inb t (BitVec.ofNat 32 j) hchk)) $$ H2; iintro H2
    iterate 2
      iapply (wp_load_held 𝒱₀ (c : Thread nD τ) (some (n + 1)) E harg2 xk (k0_off10_inb t (BitVec.ofNat 32 j) hchk)) $$ H2; iintro H2
    iterate 2
      iapply (wp_load_held 𝒱₀ (c : Thread nD τ) (some (n + 1)) E harg2 xk (k0_off11_inb t (BitVec.ofNat 32 j) hchk)) $$ H2; iintro H2
    iterate 2
      iapply (wp_load_held 𝒱₀ (c : Thread nD τ) (some (n + 1)) E harg2 xk (k0_off12_inb t (BitVec.ofNat 32 j) hchk)) $$ H2; iintro H2
    iterate 2
      iapply (wp_load_held 𝒱₀ (c : Thread nD τ) (some (n + 1)) E harg3 xv (k0_off9_inb t (BitVec.ofNat 32 j) hchk)) $$ H3; iintro H3
    iterate 2
      iapply (wp_load_held 𝒱₀ (c : Thread nD τ) (some (n + 1)) E harg3 xv (k0_off10_inb t (BitVec.ofNat 32 j) hchk)) $$ H3; iintro H3
    iterate 2
      iapply (wp_load_held 𝒱₀ (c : Thread nD τ) (some (n + 1)) E harg3 xv (k0_off11_inb t (BitVec.ofNat 32 j) hchk)) $$ H3; iintro H3
    iterate 2
      iapply (wp_load_held 𝒱₀ (c : Thread nD τ) (some (n + 1)) E harg3 xv (k0_off12_inb t (BitVec.ofNat 32 j) hchk)) $$ H3; iintro H3
    rw [hsucc]
    generalize hs' : earlier t tri q xk xv (BitVec.ofNat 32 j) hchk s = s'
    have hcall := wp_call (defs := defs₀ (F := F)) (Γ := []) 𝒱₀ (c : Thread nD τ) (some (n + 1)) E (Q := K) (k := fun r => Prog.ret r)
      (ℓ := (1 : (Λ₀ F).Label)) (a := closure i arg2 harg2 arg3 harg3 t tri q (BitVec.ofNat 32 (j + 1)) (lowest s') s')
      n (fun u hu => by cases hu; exact Nat.lt_succ_self n)
    have hih := ih (j + 1) (by omega) (lowest s') s'
    subst hs'
    iapply hcall
    iapply (hih _)
    unfold bufs
    isplitl [H2 H3]
    · isplitl [H2]; · iexact H2
      iexact H3
    · iintro H
      rw [wp_ret]; imodintro
      iapply Hk
      iexact H

end Label

/-! ## A block of queries and the body -/

/-- The kernel's buffers: queries, keys, values and the output. -/
def all (o : Vec F S4096x512 .f32) : sProp 𝕄 :=
  iprop(held (c : Thread nD τ) harg1 xq ∗ held (c : Thread nD τ) harg2 xk ∗ held (c : Thread nD τ) harg3 xv
    ∗ held (c : Thread nD τ) harg4 o)

theorem trip_le (E : Set ℕ) (t : Fin k0_t1_loop.trips) (o : Vec F S4096x512 .f32) (u : Unit) :
    all c arg1 harg1 arg2 harg2 arg3 harg3 arg4 harg4 xq xk xv o
      ⊢ wp frame (wpE (defs₀ (F := F)) 𝒱₀ (c : Thread nD τ) none) E
          (k0_t1_body (F := F) i arg1 harg1 arg2 harg2 arg3 harg3 arg4 harg4 t u)
          (fun _ => all c arg1 harg1 arg2 harg2 arg3 harg3 arg4 harg4 xq xk xv (putRows t (swept t k0_pay1 xq xk xv) o)) := by
  unfold k0_t1_body all
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel
    k0_part8_skel k0_part9_skel
  simp only [Prog.lift, Prog.bind_op, Prog.bind_ret, Prog.pure_eq_ret]
  iintro ⟨H1, H2, H3, H4⟩
  iapply (wp_load_held 𝒱₀ (c : Thread nD τ) none E harg1 xq (k0_off1_inb t 0)) $$ H1; iintro H1
  iapply (wp_load_held 𝒱₀ (c : Thread nD τ) none E harg1 xq (k0_off1_inb t 1)) $$ H1; iintro H1
  iapply (wp_load_held 𝒱₀ (c : Thread nD τ) none E harg1 xq (k0_off2_inb t 0)) $$ H1; iintro H1
  iapply (wp_load_held 𝒱₀ (c : Thread nD τ) none E harg1 xq (k0_off2_inb t 1)) $$ H1; iintro H1
  iapply (wp_load_held 𝒱₀ (c : Thread nD τ) none E harg1 xq (k0_off3_inb t 0)) $$ H1; iintro H1
  iapply (wp_load_held 𝒱₀ (c : Thread nD τ) none E harg1 xq (k0_off3_inb t 1)) $$ H1; iintro H1
  iapply (wp_load_held 𝒱₀ (c : Thread nD τ) none E harg1 xq (k0_off4_inb t 0)) $$ H1; iintro H1
  iapply (wp_load_held 𝒱₀ (c : Thread nD τ) none E harg1 xq (k0_off4_inb t 1)) $$ H1; iintro H1
  iterate 2
    iapply (wp_load_held 𝒱₀ (c : Thread nD τ) none E harg2 xk (k0_off5_inb t)) $$ H2; iintro H2
  iterate 2
    iapply (wp_load_held 𝒱₀ (c : Thread nD τ) none E harg2 xk (k0_off6_inb t)) $$ H2; iintro H2
  iterate 2
    iapply (wp_load_held 𝒱₀ (c : Thread nD τ) none E harg2 xk (k0_off7_inb t)) $$ H2; iintro H2
  iterate 2
    iapply (wp_load_held 𝒱₀ (c : Thread nD τ) none E harg2 xk (k0_off8_inb t)) $$ H2; iintro H2
  iterate 2
    iapply (wp_load_held 𝒱₀ (c : Thread nD τ) none E harg3 xv (k0_off5_inb t)) $$ H3; iintro H3
  iterate 2
    iapply (wp_load_held 𝒱₀ (c : Thread nD τ) none E harg3 xv (k0_off6_inb t)) $$ H3; iintro H3
  iterate 2
    iapply (wp_load_held 𝒱₀ (c : Thread nD τ) none E harg3 xv (k0_off7_inb t)) $$ H3; iintro H3
  iterate 2
    iapply (wp_load_held 𝒱₀ (c : Thread nD τ) none E harg3 xv (k0_off8_inb t)) $$ H3; iintro H3
  generalize hd : diag t k0_pay1 xq xk xv = d
  have hcall := fun k => wp_call (defs := defs₀ (F := F)) (Γ := []) (α := Unit) 𝒱₀ (c : Thread nD τ) none E (Q := fun _ => (iprop(held (c : Thread nD τ) harg1 xq ∗ held (c : Thread nD τ) harg2 xk ∗ held (c : Thread nD τ) harg3 xv
      ∗ held (c : Thread nD τ) harg4 (putRows t (swept t k0_pay1 xq xk xv) o)) : sProp 𝕄)) (k := k)
    (ℓ := (1 : (Λ₀ F).Label)) (a := closure i arg2 harg2 arg3 harg3 t k0_pay1 (reads t xq) (BitVec.ofNat 32 0) (lowest d) d)
    t.val (fun u hu => nomatch hu)
  have hsw := sweep_le c i arg2 harg2 arg3 harg3 xk xv t k0_pay1 (reads t xq) E t.val 0 (Nat.zero_add _) (lowest d) d
  have hs : (sweep t k0_pay1 (reads t xq) xk xv t.val (BitVec.ofNat 32 0) (lowest d) d).2.2 = swept t k0_pay1 xq xk xv := by
    subst hd; rfl
  unfold values at hsw
  rw [hs] at hsw
  subst hd
  iapply (hcall _)
  iapply (hsw _)
  unfold bufs
  isplitl [H2 H3]
  · isplitl [H2]; · iexact H2
    iexact H3
  iintro ⟨H2, H3⟩
  iapply (wp_load_held 𝒱₀ (c : Thread nD τ) none E harg4 _ (k0_off1_inb t 0)) $$ H4; iintro H4
  iapply (wp_store_held 𝒱₀ (c : Thread nD τ) none E harg4 _ (k0_off1_inb t 0)) $$ H4; iintro H4
  iapply (wp_load_held 𝒱₀ (c : Thread nD τ) none E harg4 _ (k0_off1_inb t 1)) $$ H4; iintro H4
  iapply (wp_store_held 𝒱₀ (c : Thread nD τ) none E harg4 _ (k0_off1_inb t 1)) $$ H4; iintro H4
  iapply (wp_load_held 𝒱₀ (c : Thread nD τ) none E harg4 _ (k0_off2_inb t 0)) $$ H4; iintro H4
  iapply (wp_store_held 𝒱₀ (c : Thread nD τ) none E harg4 _ (k0_off2_inb t 0)) $$ H4; iintro H4
  iapply (wp_load_held 𝒱₀ (c : Thread nD τ) none E harg4 _ (k0_off2_inb t 1)) $$ H4; iintro H4
  iapply (wp_store_held 𝒱₀ (c : Thread nD τ) none E harg4 _ (k0_off2_inb t 1)) $$ H4; iintro H4
  iapply (wp_load_held 𝒱₀ (c : Thread nD τ) none E harg4 _ (k0_off3_inb t 0)) $$ H4; iintro H4
  iapply (wp_store_held 𝒱₀ (c : Thread nD τ) none E harg4 _ (k0_off3_inb t 0)) $$ H4; iintro H4
  iapply (wp_load_held 𝒱₀ (c : Thread nD τ) none E harg4 _ (k0_off3_inb t 1)) $$ H4; iintro H4
  iapply (wp_store_held 𝒱₀ (c : Thread nD τ) none E harg4 _ (k0_off3_inb t 1)) $$ H4; iintro H4
  iapply (wp_load_held 𝒱₀ (c : Thread nD τ) none E harg4 _ (k0_off4_inb t 0)) $$ H4; iintro H4
  iapply (wp_store_held 𝒱₀ (c : Thread nD τ) none E harg4 _ (k0_off4_inb t 0)) $$ H4; iintro H4
  iapply (wp_load_held 𝒱₀ (c : Thread nD τ) none E harg4 _ (k0_off4_inb t 1)) $$ H4; iintro H4
  iapply (wp_store_held 𝒱₀ (c : Thread nD τ) none E harg4 _ (k0_off4_inb t 1)) $$ H4; iintro H4
  rw [wp_ret]; imodintro
  isplitl [H1]; · iexact H1
  isplitl [H2]; · iexact H2
  isplitl [H3]; · iexact H3
  iexact H4

theorem after_succ (tri : FVec F S256x256 .bf16) (o : Vec F S4096x512 .f32) (k : Fin k0_t1_loop.trips) :
    after tri xq xk xv o (k.val + 1) = putRows k (swept k tri xq xk xv) (after tri xq xk xv o k.val) := by
  rw [after, dif_pos k.isLt]

theorem body_le (E : Set ℕ) (o : Vec F S4096x512 .f32) (K : PUnit → sProp 𝕄) :
    iprop(all c arg1 harg1 arg2 harg2 arg3 harg3 arg4 harg4 xq xk xv o
        ∗ (all c arg1 harg1 arg2 harg2 arg3 harg3 arg4 harg4 xq xk xv (result k0_pay1 xq xk xv) -∗ K ⟨⟩))
      ⊢ wp frame (wpE (defs₀ (F := F)) 𝒱₀ (c : Thread nD τ) none) E
          (cc0_attn_fwd (F := F) i arg1 harg1 arg2 harg2 arg3 harg3 arg4 harg4) K := by
  simp only [cc0_attn_fwd_eq_skeleton]
  unfold cc0_attn_fwd_skel
  have hloop := fun kk => Scf.wp_for_bind (M := MT nD τ sig Unit (Elt F) ℕ (UR sig nD τ) ℕ) frame (wpE (defs₀ (F := F)) 𝒱₀ (c : Thread nD τ) none) E
    k0_t1_loop.lb k0_t1_loop.ub k0_t1_loop.st k0_t1_ok () (k0_t1_body (F := F) i arg1 harg1 arg2 harg2 arg3 harg3 arg4 harg4)
    (fun n _ => all c arg1 harg1 arg2 harg2 arg3 harg3 arg4 harg4 xq xk xv (after k0_pay1 xq xk xv o n))
    (fun k u => by
      have h := trip_le c i arg1 harg1 arg2 harg2 arg3 harg3 arg4 harg4 xq xk xv E k (after k0_pay1 xq xk xv o k.val) u
      rw [← after_succ] at h
      exact h) (kk := kk) (Q := K)
  rw [show Scf.trips k0_t1_loop.lb k0_t1_loop.ub k0_t1_loop.st = k0_t1_loop.trips from rfl, after_all,
    show after k0_pay1 xq xk xv o 0 = o from rfl] at hloop
  iintro ⟨H, Hk⟩
  iapply (hloop _) $$ H
  iintro %u H
  simp only [Prog.pure_eq_ret]
  rw [wp_ret]; imodintro
  iapply Hk
  iexact H

end Cert.AttIdeal.Run

end
-- ==== Proof.Att.Launch.lean ====
/-
  The attention forward pass, run: the host line, then the kernel at each of its two points. At the end the argument is as
  it was, every counter is zero, and the result array holds at each point's block what `Model.result` says.
-/
module

public import proofs.«01_k».proof.Proof.Att.Run
public import Idealize.ShloMosaic.Lib.Claim

@[expose] public section

set_option maxRecDepth 16384

noncomputable section

namespace Cert.AttIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.AttIdeal Cert.AttIdeal.Gen Cert.AttIdeal.Model Cert.Held

variable {F : FTy → Type} [FloatOps F] [Named F]

local notation "𝕄" => MT nD τ sig Unit (Elt F) ℕ (UR sig nD τ) ℕ

variable (m : (ℓ : Loc nD τ sig) → Buf (Elt F) ℓ) (g : Dev nD → PrngReg) (c : Dev nD)

/-- What the kernel finds in each buffer. -/
def V (b : Ref sig .tc) : Buf (Elt F) ((c : Thread nD τ).loc b) :=
  StableHlo.after [hostOps0 (F := F)].flatten (fun b => m (c, b)) b

set_option maxHeartbeats 1600000 in
theorem host_lines : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub (by simp only [List.Forall]; repeat' constructor) main_chain

/-- The host line changes no buffer but the one it writes. -/
theorem V_of_not_written {b : Ref sig .tc} (h : b ∉ [main_v0]) : V m c b = m ((c : Thread nD τ).loc b) :=
  StableHlo.after_of_writes_sub (r := b) _ _ (StableHlo.forall_writes_sub_of_map (W := [main_v0]) rfl) h

/-! ## What the windows hold -/

/-- A window's block of its array at a point. -/
def blockAt (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block after a point's body. -/
def outAt (t : Fin (cfg0 (F := F)).N) : Vec F S4096x512 .f32 :=
  result k0_pay1 (blockAt m c 0 t) (blockAt m c 1 t) (blockAt m c 2 t)

def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ _ := Pipeline.ΦA spec0 c
  q w := Pipeline.shareOf spec0 w
  owed _ := 0

theorem dats_A (w : Fin (cfg0 (F := F)).W) : (dats m 0 c).A w = V m c (Pipeline.arrRef spec0 w) := by dsimp only [dats]

/-- Each window the body only reads holds its block when the body starts. -/
theorem found (t : Fin (cfg0 (F := F)).N) :
    (∀ d, (dats m 0 c).before 0 t d = blockAt m c 0 t) ∧ (∀ d, (dats m 0 c).before 1 t d = blockAt m c 1 t)
    ∧ (∀ d, (dats m 0 c).before 2 t d = blockAt m c 2 t) := by
  refine ⟨fun d => ?_, fun d => ?_, fun d => ?_⟩
  all_goals
    refine ((dats m 0 c).before_in_eq_fetched _ rfl (fun _ => rfl) (fun _ _ _ => rfl) (fun t => ?_) t d).trans ?_
    · dsimp only [dats]; unfold Dat.blockOf blockAt; dsimp only [dats]; rfl
    · unfold Dat.fetched Dat.blockOf blockAt; dsimp only [dats]; rfl

/-! ## The body at a point -/

/-- The windows' buffers as the body finds them, and as it leaves them. -/
def before (t : Fin (cfg0 (F := F)).N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body leaves in each window's buffer, as the launch states it. -/
theorem left (t : Fin (cfg0 (F := F)).N) :
    (dats m 0 c).leavesExact 0 t = owns (c : Thread nD τ) (st0_0 t) fullShare (blockAt m c 0 t) ∧
    (dats m 0 c).leavesExact 1 t = owns (c : Thread nD τ) (st0_1 t) fullShare (blockAt m c 1 t) ∧
    (dats m 0 c).leavesExact 2 t = owns (c : Thread nD τ) (st0_2 t) fullShare (blockAt m c 2 t) ∧
    (dats m 0 c).leavesExact 3 t = owns (c : Thread nD τ) (st0_3 t) fullShare (outAt m c t) := by
  refine ⟨?_, ?_, ?_, ?_⟩
  all_goals
    unfold Dat.leavesExact
    dsimp only [dats]
    rfl

def leaves (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- A whole buffer owned at what it reads is held there, both ways. -/
theorem owns_held {sp : Space} {s : Shape} {e : EltTy} {a : Memref sig .tc sp s e} (h : a.IsWhole) (x : s.Idx → Elt F e) :
    ((owns (c : Thread nD τ) a fullShare x : sProp 𝕄) ⊢ a.view.loc (c : Thread nD τ) ↦[a.view.set]{fullShare} (h.unread x))
      ∧ ((a.view.loc (c : Thread nD τ) ↦[a.view.set]{fullShare} (h.unread x) : sProp 𝕄) ⊢ owns (c : Thread nD τ) a fullShare x) := by
  unfold owns
  constructor
  · iintro ⟨%f, %hf, H⟩
    obtain rfl := h.eq_unread hf
    iexact H
  · iintro H
    iexists _
    isplitr
    · ipureintro; exact h.read_unread _
    · iexact H

theorem body_at (t : Fin (cfg0 (F := F)).N) :
    before m c t ⊢ wp frame (wpE (defs₀ (F := F)) 𝒱₀ (c : Thread nD τ) none) Set.univ (bodyAt0 t) (fun _ => leaves m c t) := by
  obtain ⟨h0, h1, h2⟩ := found m c t
  obtain ⟨l0, l1, l2, l3⟩ := left m c t
  unfold before leaves bodyAt0
  rw [l0, l1, l2, l3, show (dats m 0 c).owesAt () t.succ = (dats m 0 c).owesAt () t.castSucc from rfl,
    show (dats m 0 c).Φ t.succ = Pipeline.ΦA spec0 c from rfl]
  simp only [h0, h1, h2]
  iintro ⟨S, O, ⟨%d0, H0⟩, ⟨%d1, H1⟩, ⟨%d2, H2⟩, ⟨%d3, H3⟩⟩
  ihave H0 := ((owns_held c (a := st0_0 t) (hstage0_0 ((cfg0.slots t 0).cast nbuf0_0)) (blockAt m c 0 t)).1) $$ H0
  ihave H1 := ((owns_held c (a := st0_1 t) (hstage0_1 ((cfg0.slots t 1).cast nbuf0_1)) (blockAt m c 1 t)).1) $$ H1
  ihave H2 := ((owns_held c (a := st0_2 t) (hstage0_2 ((cfg0.slots t 2).cast nbuf0_2)) (blockAt m c 2 t)).1) $$ H2
  ihave H3 := ((owns_held c (a := st0_3 t) (hstage0_3 ((cfg0.slots t 3).cast nbuf0_3)) ((dats m 0 c).before 3 t d3)).1) $$ H3
  iapply (body_le c (grid0.coords t) _ _ _ _ _ _ _ _ (blockAt m c 0 t) (blockAt m c 1 t) (blockAt m c 2 t) _ _ _)
  unfold all
  isplitl [H0 H1 H2 H3]
  · isplitl [H0]; · iexact H0
    isplitl [H1]; · iexact H1
    isplitl [H2]; · iexact H2
    iexact H3
  iintro ⟨H0, H1, H2, H3⟩
  isplitl [S]; · iexact S
  isplitl [O]; · iexact O
  isplitl [H0]; · iapply ((owns_held c _ _).2); iexact H0
  isplitl [H1]; · iapply ((owns_held c _ _).2); iexact H1
  isplitl [H2]; · iapply ((owns_held c _ _).2); iexact H2
  iapply ((owns_held c _ _).2); iexact H3

theorem body_ok : BodyObligation (dats (F := F) m 0 c) (defs₀ (F := F)) 𝒱₀ () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
set_option maxHeartbeats 1600000 in
/-- Every run ends with the result array and the argument as the windows say, and every counter at zero. -/
theorem run : θ_run defs (onTc (τ := τ) (main (F := F))) (s₀ m g)
    (fun r => Pipeline.FramePost cfgs (dats m) 0 (V m) r ∧ r.2.sem = fun _ => 0) :=
  Pipeline.θ_run_frame_shared (Q' := _) cfgs (dats m) (0 : Fin 1) launch₀0 defs₀ 𝒱₀ m g main
    (hbody := fun c => (body_ok m c).loose) (hq := fun c w _ => by dsimp only [dats]) (howed := fun _ _ => rfl) (V := V m)
    (hmain := host_lines m) (hA := dats_A m) (hΦ := fun _ _ => rfl)

/-- The argument ends as it was. -/
theorem arg_kept {r : PUnit × MemSt nD τ sig (Elt F)} (h : Pipeline.FramePost cfgs (dats m) 0 (V m) r) :
    r.2.mem ((c.tc : Thread nD τ).loc main_arg0) = m ((c.tc : Thread nD τ).loc main_arg0) :=
  ((h c).2 main_arg0 (Pipeline.mem_restRefs_of (win := spec0) main_arg0 (by decide) (by decide))).trans (V_of_not_written m c (by decide))

theorem frame : θ_run defs (onTc (τ := τ) (main (F := F))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => arg_kept m c h.1, h.2⟩) (run m g)

end Cert.AttIdeal.Run
end
-- ==== Proof.Att.Value.lean ====
/-
  The forward kernel over the reals: a chain that has swept the keys from a position on carries the sum of their softplus
  and the part of its output that those keys make. At the end of the sweep that is all of it. The heads here have no
  cotangents, so the gradients the backward kernel's lemmas speak of are zero.
-/
module

public import proofs.«01_k».proof.Proof.Att.Launch
public import proofs.«01_k».proof.Proof.Attn.Sweep

@[expose] public section

set_option maxRecDepth 16384

noncomputable section

namespace Cert.AttIdeal.Model

open Idealize.ShloMosaic Idealize.ShloMosaic.TcCoe Idealize.SL.Sem Cert.AttIdeal Cert.AttIdeal.Gen Math Finset
open Cert.AttnIdeal.Model (Fx Ch incl weights first rows Head Keys Keeps bit)
open Cert.AttnIdeal (Row.tail_block Row.tail_zero)

/-! ## One chain -/

section Chain

variable (H : Head) (b : ℕ)

/-- A chain that has swept the keys from `lo` on. -/
structure Link.Is (lo : ℕ) (s : Link Ideal) : Prop where
  carry : ∀ r : Fin 128, s.carry (ix2 r 0) = (((∑ k ∈ Ico lo 4096, H.softs (b + r.val) k) * bit : ℝ) : EReal)
  acc : ∀ r l : Fin 128, s.acc (ix2 r l) = ((∑ k ∈ Ico lo 4096, H.weight (b + r.val) k * H.val k l : ℝ) : EReal)

variable {H b} (hd : ∀ i l, H.d i l = 0)

include hd in
/-- Without cotangents no weight has a gradient, and no score. -/
theorem no_grad (i k : ℕ) : H.pull i k = 0 ∧ H.grad i k = 0 := by
  have hg : H.g i = fun _ => 0 := funext fun k => by unfold Head.g; simp only [hd, zero_mul, sum_const_zero]
  unfold Head.pull Head.grad Cert.AttnIdeal.Row.grad Cert.AttnIdeal.Row.pull
  rw [hg]
  simp

include hd in
theorem queries_is {q : FVec Ideal S128x128 .bf16} (hq : ∀ r l : Fin 128, q (ix2 r l) = ((H.q (b + r.val) l : ℝ) : EReal)) :
    (queries q).Is H b where
  q := hq
  d r l := by
    rw [hd]
    unfold queries
    pointwise
    rfl
  tot r := by
    simp only [(no_grad hd _ _).1, sum_const_zero]
    unfold queries
    pointwise [k0_pay18]
    rfl

include hd in
theorem carried_is {c : FVec Ideal S128x1 .f32} {lo : ℕ}
    (hc : ∀ r : Fin 128, c (ix2 r 0) = (((∑ k ∈ Ico lo 4096, H.softs (b + r.val) k) * bit : ℝ) : EReal)) : (carried c).Is H b lo where
  c1 := hc
  c2 r := by
    simp only [(no_grad hd _ _).1, sum_const_zero]
    unfold carried
    pointwise [k0_pay18]
    rfl
  acc r l := by
    simp only [(no_grad hd _ _).2, zero_mul, sum_const_zero]
    unfold carried
    pointwise [k0_pay19]
    rfl

variable {q : FVec Ideal S128x128 .bf16} {s : Link Ideal} {lo : ℕ} {μ : Option (IVec S128x256 1)} {k v : FVec Ideal S256x128 .bf16}

include hd in
/-- The chain after a block of keys. -/
theorem Link.Is.next (hq : ∀ r l : Fin 128, q (ix2 r l) = ((H.q (b + r.val) l : ℝ) : EReal)) (hμ : Keeps b lo μ) (hk : Keys H lo k v)
    (hi : lo + 256 ≤ 4096) (hs : s.Is H b (lo + 256)) : (s.next μ Cert.AttnIdeal.Run.tri q k v).Is H b lo where
  carry r := by
    show (addf s.carry (first (incl μ Cert.AttnIdeal.Run.tri (queries q) k)) : FVec Ideal S128x1 .f32) (ix2 r 0) = _
    pointwise
    rw [Cert.AttnIdeal.Model.first_at, Cert.AttnIdeal.Model.incl_at (queries_is hd hq) hμ hk, hs.carry, ← EReal.coe_add, ← add_mul,
      Row.tail_block _ hi, add_comm]
    simp
  acc r l := by
    unfold Link.next
    pointwise
    simp only [Cert.AttnIdeal.Model.weights_at (queries_is hd hq) hμ hk hi (carried_is hd hs.carry), hk.v, hs.acc, ← EReal.coe_mul,
      ← up_sum, ← EReal.coe_add]
    rw [Row.tail_block _ hi, add_comm]

end Chain

/-! ## One block of queries -/

/-- A head's lane among a point's 512. -/
def lane (h : Fin 4) (l : Fin 128) : Fin 512 := ⟨128 * h.val + l.val, by have := h.isLt; have := l.isLt; omega⟩

/-- A point's block of four heads, row by row. -/
def Rows (x : FVec Ideal S4096x512 .bf16) (f : Fin 4 → ℕ → Fin 128 → ℝ) : Prop :=
  ∀ (r : Fin 4096) (h : Fin 4) (l : Fin 128), x (ix2 r (lane h l)) = ((f h r.val l : ℝ) : EReal)

/-- The position a chain's rows begin at. -/
def base (t : ℕ) (i : Fin 8) : ℕ := 256 * t + 128 * (half i).val

theorem at_eq {off : Fin 2 → ℕ} {A B : ℕ} (h : off 0 = A ∧ off 1 = B) : off = ![A, B] := funext fun a => by
  match a with
  | 0 => exact h.1
  | 1 => exact h.2

theorem diag_off : ∀ t : Fin k0_t1_loop.trips, k0_off5 t = ![256 * t.val, 128 * 0] ∧ k0_off6 t = ![256 * t.val, 128 * 1]
    ∧ k0_off7 t = ![256 * t.val, 128 * 2] ∧ k0_off8 t = ![256 * t.val, 128 * 3] := by decide +kernel

theorem key_off : ∀ (t : Fin k0_t1_loop.trips) (j : Fin 16), j.val < t.val →
    k0_off9 t (BitVec.ofNat 32 j.val) = ![256 * (t.val - 1 - j.val), 128 * 0]
    ∧ k0_off10 t (BitVec.ofNat 32 j.val) = ![256 * (t.val - 1 - j.val), 128 * 1]
    ∧ k0_off11 t (BitVec.ofNat 32 j.val) = ![256 * (t.val - 1 - j.val), 128 * 2]
    ∧ k0_off12 t (BitVec.ofNat 32 j.val) = ![256 * (t.val - 1 - j.val), 128 * 3] := by decide +kernel

theorem index_lt : ∀ (t : Fin k0_t1_loop.trips) (j : Fin 16), j.val < t.val →
    Scalar.cmpi .slt (BitVec.ofNat 32 j.val) (Scf.iv 0#32 1#32 t) = 1#1 := by decide +kernel

theorem named_limit : Named.named (F := Ideal) (φ := .f32) κ "underflow" 0x43200000#32 = (⊤ : EReal) :=
  IdealRules.named_const.ideal_named_scalar _ _ _ _ rfl

/-- The sweep goes on as long as an earlier block is left: no sum of finitely many softplus is infinite. -/
theorem more_of_lt (t : Fin k0_t1_loop.trips) (j : Fin 16) (hj : j.val < t.val) (s : St Ideal)
    (h : (s 0).carry (ix2 0 0) < (⊤ : EReal)) : More (F := Ideal) t (BitVec.ofNat 32 j.val) (lowest s) := by
  have hl : lowest s < (⊤ : EReal) := by
    pointwise [lowest]
    exact (fold_min_lt _).mpr (.inr ⟨(0, 0), mem_univ _, by simp only [min_lt_iff]; tauto⟩)
  unfold More
  rw [index_lt t j hj, named_limit]
  show IntOp.andi 1#1 (BitVec.ofBool (decide (lowest s < (⊤ : EReal)))) = 1#1
  rw [decide_eq_true hl]
  rfl

theorem causal_keeps (t : ℕ) (i : Fin 8) : Keeps (base t i) (256 * t) (causal (half i)) := by
  match i with
  | 0 | 2 | 4 | 6 => exact Cert.AttnIdeal.Model.causal_keeps t 0
  | 1 | 3 | 5 | 7 => exact Cert.AttnIdeal.Model.causal_keeps t 1

variable (H : Fin 4 → Head)

/-- The blocks the kernel is given at one point, for four heads. -/
structure Reads (xq xk xv : Vec Ideal S4096x512 .bf16) : Prop where
  q : Rows xq fun h => (H h).q
  k : Rows xk fun h => (H h).key
  v : Rows xv fun h => (H h).val

/-- The eight chains of query block `t` that have swept the keys from `lo` on. -/
def St.Is (t lo : ℕ) (s : St Ideal) : Prop := ∀ i, (s i).Is (H (hd i)) (base t i) lo

section Block

variable {H} (hd0 : ∀ h i l, (H h).d i l = 0) {xq xk xv : Vec Ideal S4096x512 .bf16} (hr : Reads H xq xk xv)
variable (t : Fin k0_t1_loop.trips)

theorem lt_16 : t.val < 16 := t.isLt

include hr in
theorem reads_at (i : Fin 8) (r l : Fin 128) : reads t xq i (ix2 r l) = (((H (hd i)).q (base t.val i + r.val) l : ℝ) : EReal) := by
  have ht := lt_16 t
  have hh := (half i).isLt
  have hrl := r.isLt
  unfold reads
  pointwise
  exact (Cert.AttnIdeal.Model.window_ix2 xq _ (place_inb t i) (at_eq (place_eq t i)) r l ⟨base t.val i + r.val, by unfold base; omega⟩
    (lane (hd i) l) rfl rfl).trans (hr.q _ (hd i) l)

/-- A block of 256 rows read at a head's lanes. -/
theorem rows_at {x : Vec Ideal S4096x512 .bf16} {f : Fin 4 → ℕ → Fin 128 → ℝ} (hx : Rows x f) (off : Fin 2 → ℕ)
    (inb : ∀ a, off a + S256x128.size a ≤ S4096x512.size a) (h : Fin 4) (lo : ℕ)
    (ho : off = ![lo, 128 * h.val]) (hi : lo + 256 ≤ 4096) (y : Fin 256) (l : Fin 128) :
    rows (VecWindow.window x off S256x128.size inb) (ix2 y l) = ((f h (lo + y.val) l : ℝ) : EReal) := by
  pointwise [rows]
  exact (Cert.AttnIdeal.Model.window_ix2 x off inb ho y l ⟨lo + y.val, by have := y.isLt; omega⟩ (lane h l) rfl rfl).trans (hx _ h l)

include hr in
theorem diag_keys (h : Fin 4) : Keys (H h) (256 * t.val) (rows (diagRows t xk h)) (rows (diagRows t xv h)) := by
  have ht := lt_16 t
  obtain ⟨e0, e1, e2, e3⟩ := diag_off t
  match h with
  | 0 => exact ⟨rows_at hr.k _ _ 0 _ e0 (by omega), rows_at hr.v _ _ 0 _ e0 (by omega)⟩
  | 1 => exact ⟨rows_at hr.k _ _ 1 _ e1 (by omega), rows_at hr.v _ _ 1 _ e1 (by omega)⟩
  | 2 => exact ⟨rows_at hr.k _ _ 2 _ e2 (by omega), rows_at hr.v _ _ 2 _ e2 (by omega)⟩
  | 3 => exact ⟨rows_at hr.k _ _ 3 _ e3 (by omega), rows_at hr.v _ _ 3 _ e3 (by omega)⟩

include hr in
theorem earlier_keys (j : Fin 16) (hj : j.val < t.val) (hc : k0_chk1 t (BitVec.ofNat 32 j.val)) (h : Fin 4) :
    Keys (H h) (256 * (t.val - 1 - j.val)) (rows (keyRows t _ hc xk h)) (rows (keyRows t _ hc xv h)) := by
  have ht := lt_16 t
  obtain ⟨e0, e1, e2, e3⟩ := key_off t j hj
  match h with
  | 0 => exact ⟨rows_at hr.k _ _ 0 _ e0 (by omega), rows_at hr.v _ _ 0 _ e0 (by omega)⟩
  | 1 => exact ⟨rows_at hr.k _ _ 1 _ e1 (by omega), rows_at hr.v _ _ 1 _ e1 (by omega)⟩
  | 2 => exact ⟨rows_at hr.k _ _ 2 _ e2 (by omega), rows_at hr.v _ _ 2 _ e2 (by omega)⟩
  | 3 => exact ⟨rows_at hr.k _ _ 3 _ e3 (by omega), rows_at hr.v _ _ 3 _ e3 (by omega)⟩

include hd0 hr

theorem diag_is : (diag t Cert.AttnIdeal.Run.tri xq xk xv).Is H t.val (256 * t.val) := fun i => by
  have ht := lt_16 t
  have hh := (half i).isLt
  refine Link.Is.next (hd0 (hd i)) (reads_at hr t i) (causal_keeps t.val i) (diag_keys hr t (hd i)) (by omega) ⟨fun r => ?_, fun r l => ?_⟩
  · have hrl := r.isLt
    rw [Row.tail_zero fun k hk => Cert.AttnIdeal.Model.softs_of_le _ (by unfold base; omega), zero_mul]
    pointwise [k0_pay18]
    rfl
  · have hrl := r.isLt
    rw [Row.tail_zero fun k hk => by rw [Cert.AttnIdeal.Model.weight_of_le _ (by unfold base; omega), zero_mul]]
    pointwise [k0_pay19]
    rfl

theorem sweep_is (n : ℕ) : ∀ (j : ℕ) (s : St Ideal), n + j = t.val → s.Is H t.val (256 * (t.val - j)) →
    (sweep t Cert.AttnIdeal.Run.tri (reads t xq) xk xv n (BitVec.ofNat 32 j) (lowest s) s).2.2.Is H t.val 0 := by
  induction n with
  | zero =>
    intro j s hj hs
    rwa [show 256 * (t.val - j) = 0 by omega] at hs
  | succ n ih =>
    intro j s hj hs
    have ht := lt_16 t
    have hlt : j < t.val := by omega
    obtain ⟨hsucc, hc⟩ := (Run.counter t).2 j hlt
    rw [sweep, if_pos (more_of_lt t ⟨j, by omega⟩ hlt s (by rw [(hs 0).carry 0]; exact EReal.coe_lt_top _)), dif_pos hc, hsucc]
    refine ih (j + 1) _ (by omega) fun i => ?_
    rw [show t.val - (j + 1) = t.val - 1 - j by omega]
    refine Link.Is.next (hd0 (hd i)) (reads_at hr t i) (Cert.AttnIdeal.Model.none_keeps _ _ (by unfold base; omega))
      (earlier_keys hr t ⟨j, by omega⟩ hlt hc (hd i)) (by omega) ?_
    rw [show 256 * (t.val - 1 - j) + 256 = 256 * (t.val - j) by omega]
    exact hs i

/-- A block of queries. -/
theorem swept_is : (swept t Cert.AttnIdeal.Run.tri xq xk xv).Is H t.val 0 :=
  sweep_is hd0 hr t t.val 0 _ (by omega) (diag_is hd0 hr t)

end Block

/-- The triangle of ones is the backward kernel's. -/
theorem tri_eq : (k0_pay1 : FVec Ideal S256x256 .bf16) = Cert.AttnIdeal.Run.tri := rfl

variable {H} (hd0 : ∀ h i l, (H h).d i l = 0) {xq xk xv : Vec Ideal S4096x512 .bf16} (hr : Reads H xq xk xv)

include hd0 hr in
/-- The whole block is the weighted sum of the values. -/
theorem result_at (r : Fin 4096) (h : Fin 4) (l : Fin 128) :
    result k0_pay1 xq xk xv (ix2 r (lane h l)) = ((∑ k ∈ range 4096, (H h).weight r.val k * (H h).val k l : ℝ) : EReal) := by
  have hh := h.isLt
  have hl := l.isLt
  have hrl := r.isLt
  have hc : hd (chainOf (ix2 r (lane h l))) = h ∧ (half (chainOf (ix2 r (lane h l)))).val = r.val % 256 / 128 := by
    obtain ⟨e0, e1⟩ := chain_iff (chainOf (ix2 r (lane h l))) _ _ rfl (by show r.val % 256 / 128 < 2; omega)
    have e0' : (128 * h.val + l.val) / 128 = (hd (chainOf (ix2 r (lane h l)))).val := e0
    exact ⟨Fin.ext (by omega), e1.symm⟩
  have key := (swept_is hd0 hr (blockOf (ix2 r (lane h l))) (chainOf (ix2 r (lane h l)))).acc
    (⟨r.val % 128, Nat.mod_lt _ (by decide)⟩ : Fin 128) l
  rw [hc.1, ← range_eq_Ico, show base (blockOf (ix2 r (lane h l))).val (chainOf (ix2 r (lane h l))) + r.val % 128 = r.val by
    show 256 * (r.val / 256) + 128 * (half (chainOf (ix2 r (lane h l)))).val + r.val % 128 = r.val
    rw [hc.2]
    omega] at key
  refine Eq.trans ?_ key
  rw [← tri_eq]
  unfold result out
  refine congrArg _ (congrArg (ix2 _) (Fin.ext ?_))
  show (128 * h.val + l.val) % 128 = l.val
  omega

end Cert.AttIdeal.Model

end
-- ==== Proof.Att.Equal.lean ====
/- What the attention forward kernel leaves is the reference's array. -/
module

public import proofs.«01_k».proof.Proof.Att.Value
public import proofs.«01_k».proof.Proof.Attn.RefOps
public import proofs.«01_k».proof.Proof.Gen.RefAttIdeal
public import proofs.«01_k».proof.Proof.Gen.RefAttIdeal.Read
public import proofs.«01_k».proof.Proof.Gen.Pre_finite_att
public import Idealize.ShloMosaic.Lib.Pipeline.ValueKit

@[expose] public section

set_option maxRecDepth 16384

noncomputable section

namespace Cert.AttIdeal.Run

open Idealize.ShloMosaic Idealize.ShloMosaic.TcCoe Idealize.SL.Sem Cert.AttIdeal Cert.AttIdeal.Gen Cert.AttIdeal.Model Math Finset
open Cert.RefAttnIdeal.Val (headOf entry entry_eq across)

instance : Subsingleton Cert.Pre_finite_att.S_.Idx := ⟨fun _ _ => funext fun a => a.elim0⟩

/-- The precondition says that the argument is real. -/
theorem pre_real [Cert.Pre_finite_att.Facts] (X : FVec Ideal S4096x3072 .f32)
    (h : Cert.Pre_finite_att.fn (F := Ideal) X = fun _ => 1#1) : ∀ i, IsReal (X i) := by
  have h0 := congrFun h (fun a => a.elim0)
  dsimp only [Cert.Pre_finite_att.fn] at h0
  exact real_of_all X _ _ _ _ _ h0

variable (m : (ℓ : Loc nD τ sig) → Buf (Elt Ideal) ℓ) (c : Dev nD)

abbrev arg : FVec Ideal S4096x3072 .f32 := m (c, main_arg0)

theorem host : V m c main_v0 = (truncf .bf16 (arg m c) bitsLt_bf16_f32 : FVec Ideal S4096x3072 .bf16) := rfl

/-- Which blocks a point reads and writes. -/
theorem idx : ∀ t : Fin (cfg0 (F := Ideal)).N, win0_0.index t = ![0, t.val] ∧ win0_1.index t = ![0, t.val + 2] ∧ win0_2.index t = ![0, t.val + 4]
    ∧ win0_3.index t = ![0, t.val] ∧ t.val < 2 :=
  (by decide +kernel : ∀ t : Fin grid0.N, _)

/-- Lane `a` of the block of columns that begins at column `512 n`. -/
def colG {w : ℕ} (n : ℕ) (hn : 512 * n + 512 ≤ w) (a : Fin 512) : Fin w := ⟨512 * n + a.val, by have := a.isLt; omega⟩

theorem blk0_at (t : Fin (cfg0 (F := Ideal)).N) (r : Fin 4096) (a : Fin 512) :
    (show FVec Ideal S4096x512 .bf16 from blockAt m c 0 t) (ix2 r a)
      = arg m c (ix2 r (colG t.val (by have := (idx t).2.2.2.2; omega) a)) := by
  show _ = (show FVec Ideal S4096x3072 .bf16 from V m c main_v0) _
  blk_ext [blockAt, colG, idx t]

theorem blk1_at (t : Fin (cfg0 (F := Ideal)).N) (r : Fin 4096) (a : Fin 512) :
    (show FVec Ideal S4096x512 .bf16 from blockAt m c 1 t) (ix2 r a)
      = arg m c (ix2 r (colG (t.val + 2) (by have := (idx t).2.2.2.2; omega) a)) := by
  show _ = (show FVec Ideal S4096x3072 .bf16 from V m c main_v0) _
  blk_ext [blockAt, colG, idx t]

theorem blk2_at (t : Fin (cfg0 (F := Ideal)).N) (r : Fin 4096) (a : Fin 512) :
    (show FVec Ideal S4096x512 .bf16 from blockAt m c 2 t) (ix2 r a)
      = arg m c (ix2 r (colG (t.val + 4) (by have := (idx t).2.2.2.2; omega) a)) := by
  show _ = (show FVec Ideal S4096x3072 .bf16 from V m c main_v0) _
  blk_ext [blockAt, colG, idx t]

/-- The head of all heads that head `h` of a point is. -/
def headG (t : Fin (cfg0 (F := Ideal)).N) (h : Fin 4) : Fin 8 := ⟨4 * t.val + h.val, by have := (idx t).2.2.2.2; have := h.isLt; omega⟩

theorem across_lane (t : Fin (cfg0 (F := Ideal)).N) (h : Fin 4) (l : Fin 128) :
    colG t.val (by have := (idx t).2.2.2.2; omega) (lane h l) = across (headG t h) l :=
  Fin.ext (by show 512 * t.val + (128 * h.val + l.val) = 128 * (4 * t.val + h.val) + l.val; omega)

/-- No cotangents. -/
def noCotangents : FVec Ideal S4096x1024 .f32 := fun _ => 0

/-- The two references' forward outputs are one function. -/
theorem same_output : Cert.RefAttIdeal.Read.val_main_v27 (F := Ideal) (arg m c) = Cert.RefAttnIdeal.Read.val_main_v27 (F := Ideal) (arg m c) := (rfl)

section Real

variable {m c} (r0 : ∀ i, IsReal (arg m c i))

theorem no_cotangent (t : Fin (cfg0 (F := Ideal)).N) (h : Fin 4) (i : ℕ) (l : Fin 128) : (headOf (arg m c) noCotangents (headG t h)).d i l = 0 := by
  show entry noCotangents _ _ = 0
  unfold entry
  split
  · exact EReal.toReal_zero
  · rfl

include r0

/-- A point's blocks are those of its four heads. -/
theorem reads (t : Fin (cfg0 (F := Ideal)).N) : Reads (fun h => headOf (arg m c) noCotangents (headG t h))
    (blockAt m c 0 t) (blockAt m c 1 t) (blockAt m c 2 t) where
  q r h l := (blk0_at m c t r (lane h l)).trans
    (entry_eq r0 rfl (by show 512 * t.val + (128 * h.val + l.val) = 128 * (4 * t.val + h.val) + l.val; omega))
  k r h l := (blk1_at m c t r (lane h l)).trans
    (entry_eq r0 rfl (by show 512 * (t.val + 2) + (128 * h.val + l.val) = 1024 + (128 * (4 * t.val + h.val) + l.val); omega))
  v r h l := (blk2_at m c t r (lane h l)).trans
    (entry_eq r0 rfl (by show 512 * (t.val + 4) + (128 * h.val + l.val) = 2048 + (128 * (4 * t.val + h.val) + l.val); omega))

theorem out_at (t : Fin (cfg0 (F := Ideal)).N) (r : Fin 4096) (h : Fin 4) (l : Fin 128) : outAt m c t (ix2 r (lane h l))
    = Cert.RefAttIdeal.Read.val_main_v27 (F := Ideal) (arg m c) (ix2 r (across (headG t h) l)) :=
  (result_at (fun h => no_cotangent t h) (reads r0 t) r h l).trans
    ((Cert.RefAttnIdeal.Val.v27_at (x1 := noCotangents) (headG t h) r l r0).symm.trans (congrFun (same_output m c).symm _))

/-- The result array is the reference's. -/
theorem array_eq : (dats m 0 c).arrAt 3 (cfg0 (F := Ideal)).N = Cert.RefAttIdeal.Read.val_main_v27 (F := Ideal) (arg m c) := by
  refine (dats m 0 c).arrAt_eq_of_covers 3 _ (by decide +kernel) fun t hf y => ?_
  have ha : (y 1).val < 512 := (y 1).isLt
  have hc : lane ⟨(y 1).val / 128, by omega⟩ ⟨(y 1).val % 128, Nat.mod_lt _ (by decide)⟩ = (y 1 : Fin 512) :=
    Fin.ext (by show 128 * ((y 1).val / 128) + (y 1).val % 128 = (y 1).val; omega)
  have key := out_at r0 t (y 0) ⟨(y 1).val / 128, by omega⟩ ⟨(y 1).val % 128, Nat.mod_lt _ (by decide)⟩
  rw [← across_lane] at key
  blk_simp
  refine Eq.trans (congrArg (outAt m c t) ((eq_ix2 y).trans (congrArg (ix2 (y 0)) hc.symm))) (key.trans ?_)
  rw [hc]
  blk_ext [colG, idx t]

end Real

end Cert.AttIdeal.Run

end
-- ==== Proof.Att.Claim.lean ====
module

public import proofs.«01_k».proof.Defs
public import proofs.«01_k».proof.Proof.Gen.AttIdeal
public import proofs.«01_k».proof.Proof.Gen.Att
public import proofs.«01_k».proof.Proof.Gen.Pre_finite_att
public import proofs.«01_k».proof.Proof.Gen.RefAttIdeal
public import proofs.«01_k».proof.Proof.Gen.RefAttIdeal.Run
public import proofs.«01_k».proof.Proof.Gen.RefAttIdeal.Read
public import proofs.«01_k».proof.Proof.Att.Frame
public import proofs.«01_k».proof.Proof.Att.Equal

/-! The claims on the attention's forward pass. -/

@[expose] public section

noncomputable section

open Idealize.ShloMosaic Idealize.ShloMosaic.TcCoe

namespace Cert.Proof

/-- The reference runs to its end, leaves its argument as it was, and has no counter to leave. -/
theorem frame_ref_att : @Cert.quiescent_RefAttIdeal Cert.RefAttIdeal.Gen.facts := fun m g _ =>
  θ_run_mono (Cert.RefAttIdeal.Value.run m g) fun r h =>
    ⟨fun c => (h c).2, sem_eq_zero_of_no_sems (by decide) r.2⟩

/-- Each named constant is the number its name stands for. -/
theorem names_att : Cert.preserves_Att_AttIdeal :=
  ⟨IdealRules.named_const.statement _ _ _ _ _ rfl, IdealRules.named_const.statement _ _ _ _ _ rfl,
    IdealRules.named_const.statement _ _ _ _ _ rfl⟩

/-- The attention's forward pass. -/
theorem att : @Cert.algebraic_AttIdeal_RefAttIdeal_pre_finite_att Cert.AttIdeal.Gen.facts Cert.RefAttIdeal.Gen.facts
    Cert.Pre_finite_att.Gen.facts := by
  intro m g m' g' hpre hagree
  refine ⟨fun c => (Cert.AttIdeal.Run.dats m 0 c).arrAt 3 (Cert.AttIdeal.cfg0 (F := Ideal)).N, ?_, ?_⟩
  · exact θ_run_mono (Cert.AttIdeal.Run.run m g) fun r h c => ⟨(h.1 c).1 3, Cert.AttIdeal.Run.arg_kept m c h.1⟩
  · run_from Cert.RefAttIdeal.Value.run m' g'
    refine (Cert.RefAttIdeal.Read.val_main_v27_eq m' c).trans ?_
    rw [hagree c]
    exact (Cert.AttIdeal.Run.array_eq (Cert.AttIdeal.Run.pre_real _ (hpre c))).symm

end Cert.Proof

end
-- ==== Proof.Ln.Kernel.lean ====
/- The entry norm of the forward pass: what the reference and the kernel compute, row by row. -/
module

public import proofs.«01_k».proof.Proof.Gen.LnIdeal.Value
public import Idealize.ShloMosaic.Lib.Pipeline.ValueKit
public import proofs.«01_k».proof.Proof.Gen.RefLnIdeal.Read
public import proofs.«01_k».proof.Proof.Math.Ln

@[expose] public section

set_option maxRecDepth 16384

noncomputable section

namespace Cert.RefLnIdeal.Val

open Idealize.ShloMosaic Idealize.ShloMosaic.TcCoe Idealize.SL.Sem Cert.RefLnIdeal Cert.RefLnIdeal.Gen Cert.RefLnIdeal.Read Math

variable (X : FVec Ideal S1x4096x2048 .f32) (G B : FVec Ideal S2048 .f32) (r : Fin 4096) (k : Fin 2048)

/-- Row `r` of the input. -/
def row : Fin 2048 → EReal := fun k => X (ix3 0 r k)

theorem v4_at : val_main_v4 (F := Ideal) X (ix2 r 0) = meanE (row X r) := by
  pointwise [val_main_v4, val_main_v3, val_main_v2, val_main_v1, val_main_v0, val_main_cst, val_main_cst_0]
  rfl

theorem v6_at : val_main_v6 (F := Ideal) X (ix2 r k) = cenE (row X r) k := by
  pointwise [val_main_v6, val_main_v5, val_main_v0, v4_at]
  rfl

theorem v16_at : val_main_v16 (F := Ideal) X (ix2 r 0) = rstdE (row X r) := by
  pointwise [val_main_v16, val_main_v15, val_main_v14, val_main_v11, val_main_v10, val_main_v9, val_main_v8, val_main_v7, v6_at,
    val_main_cst_1, val_main_cst_2, val_main_cst_3]
  rfl

/-- The normalised row times its gain, plus its bias. -/
def ln : EReal := xhatE (row X r) k * G (ix1 k) + B (ix1 k)

theorem v24_at : val_main_v24 (F := Ideal) X G B (ix2 r k) = ln X G B r k := by
  pointwise [val_main_v24, val_main_v23, val_main_v22, val_main_v21, val_main_v20, val_main_v19, val_main_v18, val_main_v17,
    val_main_v13, val_main_v12, val_main_v0, v4_at, v16_at]
  rfl

theorem v25_at : val_main_v25 (F := Ideal) X G B (ix2 r k) = ln X G B r k := by
  pointwise [val_main_v25, v24_at]

end Cert.RefLnIdeal.Val

namespace Cert.LnIdeal.Val

open Idealize.ShloMosaic Idealize.ShloMosaic.TcCoe Idealize.SL.Sem Cert.LnIdeal Cert.LnIdeal.Gen Math

section

variable (x : FVec Ideal S1024x2048 .f32) (g b : FVec Ideal S1x2048 .f32) (r : Fin 1024) (k : Fin 2048)

theorem pay1_at : k0_pay1 (F := Ideal) x g b (ix2 r k) = xhatE (fun l => x (ix2 r l)) k * g (ix2 0 k) + b (ix2 0 k) := by
  pointwise [k0_pay1]
  rfl

theorem pay2_at : k0_pay2 (F := Ideal) x g b (ix2 r k) = xhatE (fun l => x (ix2 r l)) k * g (ix2 0 k) + b (ix2 0 k) := by
  pointwise [k0_pay2, pay1_at]

theorem out3_eq : out0_3 (F := Ideal) x g b = k0_pay1 (F := Ideal) x g b := by
  unfold out0_3
  frame_out

theorem out4_eq : out0_4 (F := Ideal) x g b = k0_pay2 (F := Ideal) x g b := by
  unfold out0_4
  frame_out

end

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 4 :=
  (by decide +kernel : ∀ t : Fin grid0.N, _)

/-- The kernel's arguments. -/
def argX : FVec Ideal S1x4096x2048 .f32 := m ((c : Thread nD τ).loc main_arg0)
def argG : FVec Ideal S2048 .f32 := m ((c : Thread nD τ).loc main_arg1)
def argB : FVec Ideal S2048 .f32 := m ((c : Thread nD τ).loc main_arg2)

/-- The row of the whole array that row `r` of the block at point `t` is. -/
def rowG (t : Fin cfg0.N) (r : Fin 1024) : Fin 4096 := ⟨1024 * t.val + r.val, by have := (idx t).2.2.2.2.2; omega⟩

/-- The blocks a step reads, at the kernel's own types. -/
def blkX (t : Fin cfg0.N) : FVec Ideal S1024x2048 .f32 := iblk m c 0 t
def blkG (t : Fin cfg0.N) : FVec Ideal S1x2048 .f32 := iblk m c 1 t
def blkB (t : Fin cfg0.N) : FVec Ideal S1x2048 .f32 := iblk m c 2 t

theorem blkX_at (t : Fin cfg0.N) (r : Fin 1024) (k : Fin 2048) : blkX m c t (ix2 r k) = argX m c (ix3 0 (rowG t r) k) := by
  have e : ∀ R, (show FVec Ideal S4096x2048 .f32 from V m c main_v0) (ix2 R k) = argX m c (ix3 0 R k) := fun R => by
    entry_read
    show shapeCast S4096x2048 (argX m c) shapeCasts_S1x4096x2048_S4096x2048 (ix2 R k) = _
    pointwise
  rw [← e]
  unfold blkX rowG
  blk_ext [iblk, idx t]

theorem blkG_at (t : Fin cfg0.N) (k : Fin 2048) : blkG m c t (ix2 0 k) = argG m c (ix1 k) := by
  have e : (show FVec Ideal S1x2048 .f32 from V m c main_v1) (ix2 0 k) = argG m c (ix1 k) := by
    entry_read
    show shapeCast S1x2048 (argG m c) shapeCasts_S2048_S1x2048 (ix2 0 k) = _
    pointwise
  rw [← e]
  unfold blkG
  blk_ext [iblk, idx t]

theorem blkB_at (t : Fin cfg0.N) (k : Fin 2048) : blkB m c t (ix2 0 k) = argB m c (ix1 k) := by
  have e : (show FVec Ideal S1x2048 .f32 from V m c main_v2) (ix2 0 k) = argB m c (ix1 k) := by
    entry_read
    show shapeCast S1x2048 (argB m c) shapeCasts_S2048_S1x2048 (ix2 0 k) = _
    pointwise
  rw [← e]
  unfold blkB
  blk_ext [iblk, idx t]

theorem ln_at (t : Fin cfg0.N) (r : Fin 1024) (k : Fin 2048) :
    xhatE (fun l => blkX m c t (ix2 r l)) k * blkG m c t (ix2 0 k) + blkB m c t (ix2 0 k)
      = Cert.RefLnIdeal.Val.ln (argX m c) (argG m c) (argB m c) (rowG t r) k := by
  simp only [blkX_at, blkG_at, blkB_at]
  rfl

/-- The norm's output, the whole array. -/
theorem arrH_eq : (dats m 0 c).arrAt 3 cfg0.N = Cert.RefLnIdeal.Read.val_main_v24 (F := Ideal) (argX m c) (argG m c) (argB m c) := by
  refine (dats m 0 c).arrAt_eq_of_covers 3 _ (by decide +kernel) fun t hf y => ?_
  rw [after0_3]
  blk_simp
  refine Eq.trans (b := k0_pay1 (F := Ideal) (blkX m c t) (blkG m c t) (blkB m c t) (ix2 (y 0) (y 1)))
    ((congrFun (out3_eq _ _ _) y).trans (congrArg (k0_pay1 (F := Ideal) (blkX m c t) (blkG m c t) (blkB m c t)) (eq_ix2 y))) ?_
  refine (pay1_at _ _ _ (y 0) (y 1)).trans ((ln_at m c t (y 0) (y 1)).trans ((Cert.RefLnIdeal.Val.v24_at _ _ _ _ _).symm.trans ?_))
  unfold rowG
  blk_ext [idx t]

/-- The same in the narrow format. -/
theorem arrHb_eq : (dats m 0 c).arrAt 4 cfg0.N = Cert.RefLnIdeal.Read.val_main_v25 (F := Ideal) (argX m c) (argG m c) (argB m c) := by
  refine (dats m 0 c).arrAt_eq_of_covers 4 _ (by decide +kernel) fun t hf y => ?_
  rw [after0_4]
  blk_simp
  refine Eq.trans (b := k0_pay2 (F := Ideal) (blkX m c t) (blkG m c t) (blkB m c t) (ix2 (y 0) (y 1)))
    ((congrFun (out4_eq _ _ _) y).trans (congrArg (k0_pay2 (F := Ideal) (blkX m c t) (blkG m c t) (blkB m c t)) (eq_ix2 y))) ?_
  refine (pay2_at _ _ _ (y 0) (y 1)).trans ((ln_at m c t (y 0) (y 1)).trans ((Cert.RefLnIdeal.Val.v25_at _ _ _ _ _).symm.trans ?_))
  unfold rowG
  blk_ext [idx t]

end Cert.LnIdeal.Val

end
-- ==== Proof.Ln.Claim.lean ====
module

public import proofs.«01_k».proof.Defs
public import proofs.«01_k».proof.Proof.Gen.LnIdeal.Frame
public import proofs.«01_k».proof.Proof.Gen.RefLnIdeal.Run
public import proofs.«01_k».proof.Proof.Gen.RefLnIdeal.Read
public import proofs.«01_k».proof.Proof.Ln.Kernel

/-! The claims on the reference of the entry norm and on the pair. -/

@[expose] public section

set_option maxRecDepth 16384

noncomputable section

open Idealize.ShloMosaic Idealize.ShloMosaic.TcCoe

namespace Cert.Proof

/-- The reference runs to its end, leaves its arguments as they were, and has no counter to leave. -/
theorem frame_ref_ln : @Cert.quiescent_RefLnIdeal Cert.RefLnIdeal.Gen.facts := fun m g _ =>
  θ_run_mono (Cert.RefLnIdeal.Value.run m g) fun r h =>
    ⟨fun c => (h c).2.2, sem_eq_zero_of_no_sems (by decide) r.2⟩

/-- The entry norm, in both formats. -/
theorem ln : @Cert.algebraic_LnIdeal_RefLnIdeal Cert.LnIdeal.Gen.facts Cert.RefLnIdeal.Gen.facts := by
  intro m g m' g' _ hagree
  refine ⟨fun c => (Cert.LnIdeal.Gen.dats m 0 c).arrAt 3 Cert.LnIdeal.cfg0.N,
    fun c => (Cert.LnIdeal.Gen.dats m 0 c).arrAt 4 Cert.LnIdeal.cfg0.N, ?_, ?_⟩
  · run_from Cert.LnIdeal.Value.run_blocks m g
  · run_from Cert.RefLnIdeal.Value.run m' g'
    · exact (Cert.RefLnIdeal.Read.val_main_v24_eq _ _ _).trans (Cert.LnIdeal.Val.arrH_eq m c).symm
    · exact (Cert.RefLnIdeal.Read.val_main_v25_eq _ _ _).trans (Cert.LnIdeal.Val.arrHb_eq m c).symm

end Cert.Proof

end
-- ==== Proof.Mix.Kernel.lean ====
/- The product by the output weights, the residual sum, and the norm after it. -/
module

public import proofs.«01_k».proof.Proof.Gen.MixIdeal.Value
public import Idealize.ShloMosaic.Lib.Pipeline.ValueKit
public import proofs.«01_k».proof.Proof.Gen.RefMixIdeal.Read
public import proofs.«01_k».proof.Proof.Math.Ln

@[expose] public section

set_option maxRecDepth 16384

noncomputable section

namespace Cert.RefMixIdeal.Val

open Idealize.ShloMosaic Idealize.ShloMosaic.TcCoe Idealize.SL.Sem Cert.RefMixIdeal Cert.RefMixIdeal.Gen Cert.RefMixIdeal.Read Math

variable (M : FVec Ideal S4096x2048 .f32) (WO : FVec Ideal S1x2048x2048 .f32) (H : FVec Ideal S4096x2048 .f32)
  (G B : FVec Ideal S1x2048 .f32) (r : Fin 4096) (k : Fin 2048)

/-- Row `r` of the residual sum that enters the norm. -/
def row : Fin 2048 → EReal := fun k =>
  Ideal.ofBits .f32 0x3F9837F0#32 * H (ix2 r k) + ∑ q : Fin 2048, M (ix2 r q) * WO (ix3 0 q k)

theorem v4_at : val_main_v4 (F := Ideal) M WO H (ix2 r k) = row M WO H r k := by
  pointwise [val_main_v4, val_main_v3, val_main_v2, val_main_v1, val_main_v0, val_main_cst]
  rfl

theorem v10_at : val_main_v10 (F := Ideal) M WO H (ix2 r 0) = meanE (row M WO H r) := by
  pointwise [val_main_v10, val_main_v9, val_main_v8, val_main_v7, v4_at, val_main_cst_0, val_main_cst_1]
  rfl

theorem v12_at : val_main_v12 (F := Ideal) M WO H (ix2 r k) = cenE (row M WO H r) k := by
  pointwise [val_main_v12, val_main_v11, v10_at, v4_at]
  rfl

theorem v22_at : val_main_v22 (F := Ideal) M WO H (ix2 r 0) = rstdE (row M WO H r) := by
  pointwise [val_main_v22, val_main_v21, val_main_v20, val_main_v17, val_main_v16, val_main_v15, val_main_v14, val_main_v13,
    v12_at, val_main_cst_2, val_main_cst_3, val_main_cst_4]
  rfl

/-- The normalised row times its gain, plus its bias. -/
def ln : EReal := xhatE (row M WO H r) k * G (ix2 0 k) + B (ix2 0 k)

theorem v30_at : val_main_v30 (F := Ideal) M WO H G B (ix2 r k) = ln M WO H G B r k := by
  pointwise [val_main_v30, val_main_v29, val_main_v28, val_main_v27, val_main_v26, val_main_v25, val_main_v24, val_main_v23,
    val_main_v19, val_main_v18, val_main_v6, val_main_v5, v10_at, v4_at, v22_at]
  rfl

theorem v31_at : val_main_v31 (F := Ideal) M WO H G B (ix2 r k) = ln M WO H G B r k := by
  pointwise [val_main_v31, v30_at]

end Cert.RefMixIdeal.Val

namespace Cert.MixIdeal.Val

open Idealize.ShloMosaic Idealize.ShloMosaic.TcCoe Idealize.SL.Sem Cert.MixIdeal Cert.MixIdeal.Gen Math

section

variable (x : FVec Ideal S256x2048 .bf16) (w : FVec Ideal S2048x2048 .bf16) (h : FVec Ideal S256x2048 .f32)
  (g b : FVec Ideal S1x2048 .f32) (r : Fin 256) (k : Fin 2048)

/-- Row `r` of the residual sum a block computes. -/
def rowB : Fin 2048 → EReal := fun k =>
  Ideal.ofBits .f32 0x3F9837F0#32 * h (ix2 r k) + ∑ q : Fin 2048, x (ix2 r q) * w (ix2 q k)

theorem pay1_at : k0_pay1 (F := Ideal) x w h (ix2 r k) = rowB x w h r k := by
  pointwise [k0_pay1]
  rfl

theorem pay2_at : k0_pay2 (F := Ideal) x w h g b (ix2 r k) = xhatE (rowB x w h r) k * g (ix2 0 k) + b (ix2 0 k) := by
  pointwise [k0_pay2, pay1_at]
  rfl

theorem pay3_at : k0_pay3 (F := Ideal) x w h g b (ix2 r k) = xhatE (rowB x w h r) k * g (ix2 0 k) + b (ix2 0 k) := by
  pointwise [k0_pay3, pay2_at]

theorem out5_eq : out0_5 (F := Ideal) x w h g b = k0_pay1 (F := Ideal) x w h := by
  unfold out0_5
  frame_out

theorem out6_eq : out0_6 (F := Ideal) x w h g b = k0_pay2 (F := Ideal) x w h g b := by
  unfold out0_6
  frame_out

theorem out7_eq : out0_7 (F := Ideal) x w h g b = k0_pay3 (F := Ideal) x w h g b := by
  unfold out0_7
  frame_out

end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ t.val < 16 :=
  (by decide +kernel : ∀ t : Fin grid0.N, _)

/-- The kernel's arguments. -/
def argM : FVec Ideal S4096x2048 .f32 := m ((c : Thread nD τ).loc main_arg0)
def argWO : FVec Ideal S1x2048x2048 .f32 := m ((c : Thread nD τ).loc main_arg1)
def argH : FVec Ideal S4096x2048 .f32 := m ((c : Thread nD τ).loc main_arg2)
def argG : FVec Ideal S1x2048 .f32 := m ((c : Thread nD τ).loc main_arg3)
def argB : FVec Ideal S1x2048 .f32 := m ((c : Thread nD τ).loc main_arg4)

/-- The row of the whole array that row `r` of the block at point `t` is. -/
def rowG (t : Fin cfg0.N) (r : Fin 256) : Fin 4096 := ⟨256 * t.val + r.val, by have := (idx t).2.2.2.2.2.2.2.2; omega⟩

/-- The blocks a step reads, at the kernel's own types. -/
def blkM (t : Fin cfg0.N) : FVec Ideal S256x2048 .bf16 := iblk m c 0 t
def blkW (t : Fin cfg0.N) : FVec Ideal S2048x2048 .bf16 := iblk m c 1 t
def blkH (t : Fin cfg0.N) : FVec Ideal S256x2048 .f32 := iblk m c 2 t
def blkG (t : Fin cfg0.N) : FVec Ideal S1x2048 .f32 := iblk m c 3 t
def blkB (t : Fin cfg0.N) : FVec Ideal S1x2048 .f32 := iblk m c 4 t

theorem blkM_at (t : Fin cfg0.N) (r : Fin 256) (k : Fin 2048) : blkM m c t (ix2 r k) = argM m c (ix2 (rowG t r) k) := by
  have e : ∀ R, (show FVec Ideal S4096x2048 .bf16 from V m c main_v0) (ix2 R k) = argM m c (ix2 R k) := fun R => by
    entry_read
    show truncf (F := Ideal) .bf16 (argM m c) bitsLt_bf16_f32 (ix2 R k) = _
    pointwise
  rw [← e]
  unfold blkM rowG
  blk_ext [iblk, idx t]

theorem blkW_at (t : Fin cfg0.N) (q k : Fin 2048) : blkW m c t (ix2 q k) = argWO m c (ix3 0 q k) := by
  have e : (show FVec Ideal S2048x2048 .bf16 from V m c main_v2) (ix2 q k) = argWO m c (ix3 0 q k) := by
    entry_read
    show truncf (F := Ideal) .bf16 (shapeCast S2048x2048 (argWO m c) shapeCasts_S1x2048x2048_S2048x2048)
      bitsLt_bf16_f32 (ix2 q k) = _
    pointwise
  rw [← e]
  unfold blkW
  blk_ext [iblk, idx t]

theorem blkH_at (t : Fin cfg0.N) (r : Fin 256) (k : Fin 2048) : blkH m c t (ix2 r k) = argH m c (ix2 (rowG t r) k) := by
  unfold blkH argH rowG
  blk_ext [iblk, V, idx t]

theorem blkG_at (t : Fin cfg0.N) (k : Fin 2048) : blkG m c t (ix2 0 k) = argG m c (ix2 0 k) := by
  unfold blkG argG
  blk_ext [iblk, V, idx t]

theorem blkB_at (t : Fin cfg0.N) (k : Fin 2048) : blkB m c t (ix2 0 k) = argB m c (ix2 0 k) := by
  unfold blkB argB
  blk_ext [iblk, V, idx t]

theorem rowB_at (t : Fin cfg0.N) (r : Fin 256) (k : Fin 2048) : rowB (blkM m c t) (blkW m c t) (blkH m c t) r k
    = Cert.RefMixIdeal.Val.row (argM m c) (argWO m c) (argH m c) (rowG t r) k := by
  unfold rowB Cert.RefMixIdeal.Val.row
  simp only [blkM_at, blkW_at, blkH_at]

theorem ln_at (t : Fin cfg0.N) (r : Fin 256) (k : Fin 2048) :
    xhatE (rowB (blkM m c t) (blkW m c t) (blkH m c t) r) k * blkG m c t (ix2 0 k) + blkB m c t (ix2 0 k)
      = Cert.RefMixIdeal.Val.ln (argM m c) (argWO m c) (argH m c) (argG m c) (argB m c) (rowG t r) k := by
  rw [blkG_at, blkB_at, show rowB (blkM m c t) (blkW m c t) (blkH m c t) r = _ from funext (rowB_at m c t r)]
  rfl

/-- The residual sum, the whole array. -/
theorem arrR_eq : (dats m 0 c).arrAt 5 cfg0.N
    = Cert.RefMixIdeal.Read.val_main_v4 (F := Ideal) (argM m c) (argWO m c) (argH m c) := by
  refine (dats m 0 c).arrAt_eq_of_covers 5 _ (by decide +kernel) fun t hf y => ?_
  rw [after0_5]
  blk_simp
  refine Eq.trans (b := k0_pay1 (F := Ideal) (blkM m c t) (blkW m c t) (blkH m c t) (ix2 (y 0) (y 1)))
    ((congrFun (out5_eq _ _ _ _ _) y).trans (congrArg (k0_pay1 (F := Ideal) (blkM m c t) (blkW m c t) (blkH m c t)) (eq_ix2 y))) ?_
  refine (pay1_at _ _ _ (y 0) (y 1)).trans ((rowB_at m c t (y 0) (y 1)).trans
    ((Cert.RefMixIdeal.Val.v4_at _ _ _ _ _).symm.trans ?_))
  unfold rowG
  blk_ext [idx t]

/-- The norm's output, the whole array. -/
theorem arrN_eq : (dats m 0 c).arrAt 6 cfg0.N
    = Cert.RefMixIdeal.Read.val_main_v30 (F := Ideal) (argM m c) (argWO m c) (argH m c) (argG m c) (argB m c) := by
  refine (dats m 0 c).arrAt_eq_of_covers 6 _ (by decide +kernel) fun t hf y => ?_
  rw [after0_6]
  blk_simp
  refine Eq.trans (b := k0_pay2 (F := Ideal) (blkM m c t) (blkW m c t) (blkH m c t) (blkG m c t) (blkB m c t) (ix2 (y 0) (y 1)))
    ((congrFun (out6_eq _ _ _ _ _) y).trans (congrArg (k0_pay2 (F := Ideal) (blkM m c t) (blkW m c t) (blkH m c t) (blkG m c t) (blkB m c t)) (eq_ix2 y))) ?_
  refine (pay2_at _ _ _ _ _ (y 0) (y 1)).trans ((ln_at m c t (y 0) (y 1)).trans
    ((Cert.RefMixIdeal.Val.v30_at _ _ _ _ _ _ _).symm.trans ?_))
  unfold rowG
  blk_ext [idx t]

/-- The same in the narrow format. -/
theorem arrNb_eq : (dats m 0 c).arrAt 7 cfg0.N
    = Cert.RefMixIdeal.Read.val_main_v31 (F := Ideal) (argM m c) (argWO m c) (argH m c) (argG m c) (argB m c) := by
  refine (dats m 0 c).arrAt_eq_of_covers 7 _ (by decide +kernel) fun t hf y => ?_
  rw [after0_7]
  blk_simp
  refine Eq.trans (b := k0_pay3 (F := Ideal) (blkM m c t) (blkW m c t) (blkH m c t) (blkG m c t) (blkB m c t) (ix2 (y 0) (y 1)))
    ((congrFun (out7_eq _ _ _ _ _) y).trans (congrArg (k0_pay3 (F := Ideal) (blkM m c t) (blkW m c t) (blkH m c t) (blkG m c t) (blkB m c t)) (eq_ix2 y))) ?_
  refine (pay3_at _ _ _ _ _ (y 0) (y 1)).trans ((ln_at m c t (y 0) (y 1)).trans
    ((Cert.RefMixIdeal.Val.v31_at _ _ _ _ _ _ _).symm.trans ?_))
  unfold rowG
  blk_ext [idx t]

end Cert.MixIdeal.Val

end
-- ==== Proof.Mix.Claim.lean ====
module

public import proofs.«01_k».proof.Defs
public import proofs.«01_k».proof.Proof.Gen.MixIdeal.Frame
public import proofs.«01_k».proof.Proof.Gen.RefMixIdeal.Run
public import proofs.«01_k».proof.Proof.Gen.RefMixIdeal.Read
public import proofs.«01_k».proof.Proof.Mix.Kernel

/-! The claims on the reference of the norm after the mixer and on the pair. -/

@[expose] public section

set_option maxRecDepth 16384

noncomputable section

open Idealize.ShloMosaic Idealize.ShloMosaic.TcCoe

namespace Cert.Proof

/-- The reference runs to its end, leaves its arguments as they were, and has no counter to leave. -/
theorem frame_ref_mix : @Cert.quiescent_RefMixIdeal Cert.RefMixIdeal.Gen.facts := fun m g _ =>
  θ_run_mono (Cert.RefMixIdeal.Value.run m g) fun r h =>
    ⟨fun c => (h c).2.2.2, sem_eq_zero_of_no_sems (by decide) r.2⟩

/-- The product by the output weights, and the norm of the residual sum. -/
theorem mix : @Cert.algebraic_MixIdeal_RefMixIdeal Cert.MixIdeal.Gen.facts Cert.RefMixIdeal.Gen.facts := by
  intro m g m' g' _ hagree
  refine ⟨fun c => (Cert.MixIdeal.Gen.dats m 0 c).arrAt 5 Cert.MixIdeal.cfg0.N,
    fun c => (Cert.MixIdeal.Gen.dats m 0 c).arrAt 6 Cert.MixIdeal.cfg0.N,
    fun c => (Cert.MixIdeal.Gen.dats m 0 c).arrAt 7 Cert.MixIdeal.cfg0.N, ?_, ?_⟩
  · run_from Cert.MixIdeal.Value.run_blocks m g
  · run_from Cert.RefMixIdeal.Value.run m' g'
    · exact (Cert.RefMixIdeal.Read.val_main_v4_eq _ _ _).trans (Cert.MixIdeal.Val.arrR_eq m c).symm
    · exact (Cert.RefMixIdeal.Read.val_main_v30_eq _ _ _ _ _).trans (Cert.MixIdeal.Val.arrN_eq m c).symm
    · exact (Cert.RefMixIdeal.Read.val_main_v31_eq _ _ _ _ _).trans (Cert.MixIdeal.Val.arrNb_eq m c).symm

end Cert.Proof

end
-- ==== Proof.Ff1.Kernel.lean ====
/- The product by the first feed-forward weights with its bias and the square of its positive part. -/
module

public import proofs.«01_k».proof.Proof.Gen.Ff1Ideal.Value
public import Idealize.ShloMosaic.Lib.Pipeline.ValueKit
public import proofs.«01_k».proof.Proof.Gen.RefFf1Ideal.Read
public import proofs.«01_k».proof.Proof.Math.Ln

@[expose] public section

set_option maxRecDepth 16384

noncomputable section

namespace Cert.RefFf1Ideal.Val

open Idealize.ShloMosaic Idealize.ShloMosaic.TcCoe Idealize.SL.Sem Cert.RefFf1Ideal Cert.RefFf1Ideal.Gen Cert.RefFf1Ideal.Read Math

variable (H : FVec Ideal S4096x2048 .f32) (W : FVec Ideal S1x2048x8192 .f32) (B : FVec Ideal S1x8192 .f32)
  (r : Fin 4096) (j : Fin 8192)

/-- The hidden layer before its activation. -/
def pre : EReal := ∑ k : Fin 2048, H (ix2 r k) * W (ix3 0 k j) + B (ix2 0 j)

theorem v5_at : val_main_v5 (F := Ideal) H W B (ix2 r j) = pre H W B r j := by
  pointwise [val_main_v5, val_main_v4, val_main_v3, val_main_v2, val_main_v1, val_main_v0]
  rfl

theorem v8_at : val_main_v8 (F := Ideal) H W B (ix2 r j) = max (pre H W B r j) 0 * max (pre H W B r j) 0 := by
  pointwise [val_main_v8, val_main_v7, val_main_v6, val_main_call0_v0, val_main_call0_cst, v5_at]

end Cert.RefFf1Ideal.Val

namespace Cert.Ff1Ideal.Val

open Idealize.ShloMosaic Idealize.ShloMosaic.TcCoe Idealize.SL.Sem Cert.Ff1Ideal Cert.Ff1Ideal.Gen Math

section

variable (x : FVec Ideal S1024x2048 .bf16) (w : FVec Ideal S1x2048x512 .bf16) (b : FVec Ideal S1x512 .f32)
  (r : Fin 1024) (j : Fin 512)

/-- The hidden layer a block computes at an entry. -/
def preB : EReal := ∑ k : Fin 2048, x (ix2 r k) * w (ix3 0 k j) + b (ix2 0 j)

theorem pay1_at : k0_pay1 (F := Ideal) x w b (ix2 r j) = preB x w b r j := by
  pointwise [k0_pay1]
  rfl

theorem pay2_at : k0_pay2 (F := Ideal) x w b (ix2 r j) = max (preB x w b r j) 0 * max (preB x w b r j) 0 := by
  pointwise [k0_pay2, pay1_at]

theorem out3_eq : out0_3 (F := Ideal) x w b = k0_pay1 (F := Ideal) x w b := by
  unfold out0_3
  frame_out

theorem out4_eq : out0_4 (F := Ideal) x w b = k0_pay2 (F := Ideal) x w b := by
  unfold out0_4
  frame_out

end

variable (m : (ℓ : Loc nD τ sig) → Buf (Elt Ideal) ℓ) (c : Dev nD)

theorem idx : ∀ t : Fin cfg0.N, win0_0.index t = ![t.val / 16, 0] ∧ win0_1.index t = ![t.val % 16 / 2, 0, t.val % 2]
    ∧ win0_2.index t = ![0, t.val % 16] ∧ win0_3.index t = ![t.val / 16, t.val % 16]
    ∧ win0_4.index t = ![t.val / 16, t.val % 16] ∧ t.val / 16 < 4 :=
  (by decide +kernel : ∀ t : Fin grid0.N, _)

/-- The kernel's arguments. -/
def argH : FVec Ideal S4096x2048 .f32 := m ((c : Thread nD τ).loc main_arg0)
def argW : FVec Ideal S1x2048x8192 .f32 := m ((c : Thread nD τ).loc main_arg1)
def argB : FVec Ideal S1x8192 .f32 := m ((c : Thread nD τ).loc main_arg2)

/-- The row and the column of the whole array that those of the block at point `t` are. -/
def rowG (t : Fin cfg0.N) (r : Fin 1024) : Fin 4096 := ⟨1024 * (t.val / 16) + r.val, by have := (idx t).2.2.2.2.2; omega⟩
def colG (t : Fin cfg0.N) (j : Fin 512) : Fin 8192 := ⟨512 * (t.val % 16) + j.val, by omega⟩

/-- The blocks a step reads, at the kernel's own types. -/
def blkX (t : Fin cfg0.N) : FVec Ideal S1024x2048 .bf16 := iblk m c 0 t
def blkW (t : Fin cfg0.N) : FVec Ideal S1x2048x512 .bf16 := iblk m c 1 t
def blkB (t : Fin cfg0.N) : FVec Ideal S1x512 .f32 := iblk m c 2 t

theorem blkX_at (t : Fin cfg0.N) (r : Fin 1024) (k : Fin 2048) : blkX m c t (ix2 r k) = argH m c (ix2 (rowG t r) k) := by
  have e : ∀ R, (show FVec Ideal S4096x2048 .bf16 from V m c main_v0) (ix2 R k) = argH m c (ix2 R k) := fun R => by
    entry_read
    show truncf (F := Ideal) .bf16 (argH m c) bitsLt_bf16_f32 (ix2 R k) = _
    pointwise
  rw [← e]
  unfold blkX rowG
  blk_ext [iblk, idx t]

theorem blkW_at (t : Fin cfg0.N) (k : Fin 2048) (j : Fin 512) : blkW m c t (ix3 0 k j) = argW m c (ix3 0 k (colG t j)) := by
  have e : ∀ (s : Fin 8) (l : Fin 1024), (show FVec Ideal S8x2048x1024 .bf16 from V m c main_v3) (ix3 s k l)
      = argW m c (ix3 0 k ⟨1024 * s.val + l.val, by omega⟩) := fun s l => by
    entry_read
    show truncf (F := Ideal) .bf16 (transpose S8x2048x1024 [1, 0, 2]
      (shapeCast S2048x8x1024 (argW m c) shapeCasts_S1x2048x8192_S2048x8x1024) transposes_S2048x8x1024_S8x2048x1024_1_0_2)
      bitsLt_bf16_f32 (ix3 s k l) = _
    pointwise
    congr 2
    exact Fin.ext (by show s.val * 1024 + l.val = 1024 * s.val + l.val; omega)
  refine Eq.trans ?_ ((e ⟨t.val % 16 / 2, by omega⟩ ⟨512 * (t.val % 2) + j.val, by omega⟩).trans
    (congrArg (fun q => argW m c (ix3 0 k q)) (Fin.ext ?_)))
  · unfold blkW
    blk_ext [iblk, idx t]
  · show 1024 * (t.val % 16 / 2) + (512 * (t.val % 2) + j.val) = 512 * (t.val % 16) + j.val
    omega

theorem blkB_at (t : Fin cfg0.N) (j : Fin 512) : blkB m c t (ix2 0 j) = argB m c (ix2 0 (colG t j)) := by
  unfold blkB argB colG
  blk_ext [iblk, V, idx t]

theorem preB_at (t : Fin cfg0.N) (r : Fin 1024) (j : Fin 512) : preB (blkX m c t) (blkW m c t) (blkB m c t) r j
    = Cert.RefFf1Ideal.Val.pre (argH m c) (argW m c) (argB m c) (rowG t r) (colG t j) := by
  unfold preB Cert.RefFf1Ideal.Val.pre
  simp only [blkX_at, blkW_at, blkB_at]

/-- The hidden layer before its activation, the whole array. -/
theorem arrF_eq : (dats m 0 c).arrAt 3 cfg0.N = Cert.RefFf1Ideal.Read.val_main_v5 (F := Ideal) (argH m c) (argW m c) (argB m c) := by
  refine (dats m 0 c).arrAt_eq_of_covers 3 _ (by decide +kernel) fun t hf y => ?_
  rw [after0_3]
  blk_simp
  refine Eq.trans (b := k0_pay1 (F := Ideal) (blkX m c t) (blkW m c t) (blkB m c t) (ix2 (y 0) (y 1)))
    ((congrFun (out3_eq _ _ _) y).trans (congrArg (k0_pay1 (F := Ideal) (blkX m c t) (blkW m c t) (blkB m c t)) (eq_ix2 y))) ?_
  refine (pay1_at _ _ _ (y 0) (y 1)).trans ((preB_at m c t (y 0) (y 1)).trans ((Cert.RefFf1Ideal.Val.v5_at _ _ _ _ _).symm.trans ?_))
  unfold rowG colG
  blk_ext [idx t]

/-- The activation, the whole array. -/
theorem arrA_eq : (dats m 0 c).arrAt 4 cfg0.N = Cert.RefFf1Ideal.Read.val_main_v8 (F := Ideal) (argH m c) (argW m c) (argB m c) := by
  refine (dats m 0 c).arrAt_eq_of_covers 4 _ (by decide +kernel) fun t hf y => ?_
  rw [after0_4]
  blk_simp
  refine Eq.trans (b := k0_pay2 (F := Ideal) (blkX m c t) (blkW m c t) (blkB m c t) (ix2 (y 0) (y 1)))
    ((congrFun (out4_eq _ _ _) y).trans (congrArg (k0_pay2 (F := Ideal) (blkX m c t) (blkW m c t) (blkB m c t)) (eq_ix2 y))) ?_
  refine (pay2_at _ _ _ (y 0) (y 1)).trans ?_
  rw [preB_at m c t (y 0) (y 1)]
  refine (Cert.RefFf1Ideal.Val.v8_at _ _ _ _ _).symm.trans ?_
  unfold rowG colG
  blk_ext [idx t]

end Cert.Ff1Ideal.Val

end
-- ==== Proof.Ff1.Claim.lean ====
module

public import proofs.«01_k».proof.Defs
public import proofs.«01_k».proof.Proof.Gen.Ff1Ideal.Frame
public import proofs.«01_k».proof.Proof.Gen.RefFf1Ideal.Run
public import proofs.«01_k».proof.Proof.Gen.RefFf1Ideal.Read
public import proofs.«01_k».proof.Proof.Ff1.Kernel

/-! The claims on the reference of the activation and on the pair. -/

@[expose] public section

set_option maxRecDepth 16384

noncomputable section

open Idealize.ShloMosaic Idealize.ShloMosaic.TcCoe

namespace Cert.Proof

/-- The reference runs to its end, leaves its arguments as they were, and has no counter to leave. -/
theorem frame_ref_ff1 : @Cert.quiescent_RefFf1Ideal Cert.RefFf1Ideal.Gen.facts := fun m g _ =>
  θ_run_mono (Cert.RefFf1Ideal.Value.run m g) fun r h =>
    ⟨fun c => (h c).2.2, sem_eq_zero_of_no_sems (by decide) r.2⟩

/-- The product by the first feed-forward weights, and the square of its positive part. -/
theorem ff1 : @Cert.algebraic_Ff1Ideal_RefFf1Ideal Cert.Ff1Ideal.Gen.facts Cert.RefFf1Ideal.Gen.facts := by
  intro m g m' g' _ hagree
  refine ⟨fun c => (Cert.Ff1Ideal.Gen.dats m 0 c).arrAt 3 Cert.Ff1Ideal.cfg0.N,
    fun c => (Cert.Ff1Ideal.Gen.dats m 0 c).arrAt 4 Cert.Ff1Ideal.cfg0.N, ?_, ?_⟩
  · run_from Cert.Ff1Ideal.Value.run_blocks m g
  · run_from Cert.RefFf1Ideal.Value.run m' g'
    · exact (Cert.RefFf1Ideal.Read.val_main_v5_eq _ _ _).trans (Cert.Ff1Ideal.Val.arrF_eq m c).symm
    · exact (Cert.RefFf1Ideal.Read.val_main_v8_eq _ _ _).trans (Cert.Ff1Ideal.Val.arrA_eq m c).symm

end Cert.Proof

end
-- ==== Proof.U.Kernel.lean ====
/- The product by the part of the combined projection that feeds the attention. -/
module

public import proofs.«01_k».proof.Proof.Gen.UIdeal.Value
public import Idealize.ShloMosaic.Lib.Pipeline.ValueKit
public import proofs.«01_k».proof.Proof.Gen.RefUIdeal.Read
public import proofs.«01_k».proof.Proof.Math.Ln

@[expose] public section

set_option maxRecDepth 16384

noncomputable section

namespace Cert.RefUIdeal.Val

open Idealize.ShloMosaic Idealize.ShloMosaic.TcCoe Idealize.SL.Sem Cert.RefUIdeal Cert.RefUIdeal.Gen Cert.RefUIdeal.Read Math

variable (H : FVec Ideal S4096x2048 .f32) (W : FVec Ideal S1x2048x4096 .f32) (r : Fin 4096) (j : Fin 3072)

/-- An entry of the product; the first 1024 columns feed the pooled branch. -/
def prod : EReal := ∑ k : Fin 2048, H (ix2 r k) * W (ix3 0 k ⟨1024 + j.val, by omega⟩)

theorem v1_at (q : Fin 4096) : val_main_v1 (F := Ideal) H W (ix2 r q) = ∑ k : Fin 2048, H (ix2 r k) * W (ix3 0 k q) := by
  pointwise [val_main_v1, val_main_v0]

theorem v3_at : val_main_v3 (F := Ideal) H W (ix2 r j) = prod H W r j := by
  pointwise [val_main_v3, val_main_v2, v1_at]
  rfl

end Cert.RefUIdeal.Val

namespace Cert.UIdeal.Val

open Idealize.ShloMosaic Idealize.ShloMosaic.TcCoe Idealize.SL.Sem Cert.UIdeal Cert.UIdeal.Gen Math

section

variable (x : FVec Ideal S1024x2048 .bf16) (w : FVec Ideal S1x2048x512 .bf16) (r : Fin 1024) (j : Fin 512)

theorem pay1_at : k0_pay1 (F := Ideal) x w (ix2 r j) = ∑ k : Fin 2048, x (ix2 r k) * w (ix3 0 k j) := by
  pointwise [k0_pay1]

theorem out2_eq : out0_2 (F := Ideal) x w = k0_pay1 (F := Ideal) x w := by
  unfold out0_2
  frame_out

end

variable (m : (ℓ : Loc nD τ sig) → Buf (Elt Ideal) ℓ) (c : Dev nD)

theorem idx : ∀ t : Fin cfg0.N, win0_0.index t = ![t.val / 6, 0] ∧ win0_1.index t = ![t.val % 6 + 2, 0, 0]
    ∧ win0_2.index t = ![t.val / 6, t.val % 6] ∧ t.val / 6 < 4 :=
  (by decide +kernel : ∀ t : Fin grid0.N, _)

/-- The kernel's arguments. -/
def argH : FVec Ideal S4096x2048 .f32 := m ((c : Thread nD τ).loc main_arg0)
def argW : FVec Ideal S1x2048x4096 .f32 := m ((c : Thread nD τ).loc main_arg1)

/-- The row and the column of the whole array that those of the block at point `t` are. -/
def rowG (t : Fin cfg0.N) (r : Fin 1024) : Fin 4096 := ⟨1024 * (t.val / 6) + r.val, by have := (idx t).2.2.2; omega⟩
def colG (t : Fin cfg0.N) (j : Fin 512) : Fin 3072 := ⟨512 * (t.val % 6) + j.val, by omega⟩

/-- The blocks a step reads, at the kernel's own types. -/
def blkX (t : Fin cfg0.N) : FVec Ideal S1024x2048 .bf16 := iblk m c 0 t
def blkW (t : Fin cfg0.N) : FVec Ideal S1x2048x512 .bf16 := iblk m c 1 t

theorem blkX_at (t : Fin cfg0.N) (r : Fin 1024) (k : Fin 2048) : blkX m c t (ix2 r k) = argH m c (ix2 (rowG t r) k) := by
  have e : ∀ R, (show FVec Ideal S4096x2048 .bf16 from V m c main_v3) (ix2 R k) = argH m c (ix2 R k) := fun R => by
    entry_read
    show truncf (F := Ideal) .bf16 (argH m c) bitsLt_bf16_f32 (ix2 R k) = _
    pointwise
  rw [← e]
  unfold blkX rowG
  blk_ext [iblk, idx t]

theorem blkW_at (t : Fin cfg0.N) (k : Fin 2048) (j : Fin 512) :
    blkW m c t (ix3 0 k j) = argW m c (ix3 0 k ⟨1024 + (colG t j).val, by omega⟩) := by
  have e : ∀ s : Fin 8, (show FVec Ideal S8x2048x512 .bf16 from V m c main_v2) (ix3 s k j)
      = argW m c (ix3 0 k ⟨512 * s.val + j.val, by omega⟩) := fun s => by
    entry_read
    show truncf (F := Ideal) .bf16 (transpose S8x2048x512 [1, 0, 2]
      (shapeCast S2048x8x512 (argW m c) shapeCasts_S1x2048x4096_S2048x8x512) transposes_S2048x8x512_S8x2048x512_1_0_2)
      bitsLt_bf16_f32 (ix3 s k j) = _
    pointwise
    congr 2
    exact Fin.ext (by show s.val * 512 + j.val = 512 * s.val + j.val; omega)
  refine Eq.trans ?_ ((e ⟨t.val % 6 + 2, by omega⟩).trans (congrArg (fun q => argW m c (ix3 0 k q)) (Fin.ext ?_)))
  · unfold blkW
    blk_ext [iblk, idx t]
  · show 512 * (t.val % 6 + 2) + j.val = 1024 + (512 * (t.val % 6) + j.val)
    omega

/-- The product, the whole array. -/
theorem arr_eq : (dats m 0 c).arrAt 2 cfg0.N = Cert.RefUIdeal.Read.val_main_v3 (F := Ideal) (argH m c) (argW m c) := by
  refine (dats m 0 c).arrAt_eq_of_covers 2 _ (by decide +kernel) fun t hf y => ?_
  rw [after0_2]
  blk_simp
  refine Eq.trans (b := k0_pay1 (F := Ideal) (blkX m c t) (blkW m c t) (ix2 (y 0) (y 1)))
    ((congrFun (out2_eq _ _) y).trans (congrArg (k0_pay1 (F := Ideal) (blkX m c t) (blkW m c t)) (eq_ix2 y))) ?_
  refine (pay1_at _ _ (y 0) (y 1)).trans ?_
  refine Eq.trans (b := Cert.RefUIdeal.Val.prod (argH m c) (argW m c) (rowG t (y 0)) (colG t (y 1)))
    (Finset.sum_congr rfl fun k _ => congrArg₂ (· * ·) (blkX_at m c t (y 0) k) (blkW_at m c t k (y 1)))
    ((Cert.RefUIdeal.Val.v3_at _ _ _ _).symm.trans ?_)
  unfold rowG colG
  blk_ext [idx t]

end Cert.UIdeal.Val

end
-- ==== Proof.U.Claim.lean ====
module

public import proofs.«01_k».proof.Defs
public import proofs.«01_k».proof.Proof.Gen.UIdeal.Frame
public import proofs.«01_k».proof.Proof.Gen.RefUIdeal.Run
public import proofs.«01_k».proof.Proof.Gen.RefUIdeal.Read
public import proofs.«01_k».proof.Proof.U.Kernel

/-! The claims on the reference of the product that feeds the attention and on the pair. -/

@[expose] public section

set_option maxRecDepth 16384

noncomputable section

open Idealize.ShloMosaic Idealize.ShloMosaic.TcCoe

namespace Cert.Proof

/-- The reference runs to its end, leaves its arguments as they were, and has no counter to leave. -/
theorem frame_ref_u : @Cert.quiescent_RefUIdeal Cert.RefUIdeal.Gen.facts := fun m g _ =>
  θ_run_mono (Cert.RefUIdeal.Value.run m g) fun r h =>
    ⟨fun c => (h c).2, sem_eq_zero_of_no_sems (by decide) r.2⟩

/-- The plain product by the part of the combined projection that feeds the attention. -/
theorem u : @Cert.algebraic_UIdeal_RefUIdeal Cert.UIdeal.Gen.facts Cert.RefUIdeal.Gen.facts := by
  intro m g m' g' _ hagree
  refine ⟨fun c => (Cert.UIdeal.Gen.dats m 0 c).arrAt 2 Cert.UIdeal.cfg0.N, ?_, ?_⟩
  · run_from Cert.UIdeal.Value.run_blocks m g
  · run_from Cert.RefUIdeal.Value.run m' g'
    exact (Cert.RefUIdeal.Read.val_main_v3_eq _ _).trans (Cert.UIdeal.Val.arr_eq m c).symm

end Cert.Proof

end
-- ==== Proof.Poolf.Model.lean ====
/- What one grid point of the pooled branch's kernel leaves in its buffers, as functions of what it reads:
   the tokens are taken in 16 groups of 256 rows, each with the 256 rows before it; a scratch buffer holds
   the tokens after 256 rows of zeros. -/
module

public import proofs.«01_k».proof.Proof.Gen.PoolfIdeal
public import proofs.«01_k».proof.Proof.Gen.PoolfIdeal.Frame.Runs
public import Idealize.ShloMosaic.Lib.Pointwise
public import Idealize.ShloMosaic.Lib.WritesUnit
public import Idealize.ShloMosaic.Lib.VecWindow

@[expose] public section

set_option maxRecDepth 16384

noncomputable section

namespace Cert.PoolfIdeal.Run

open Idealize.ShloMosaic Idealize.ShloMosaic.TcCoe
open Cert.PoolfIdeal Cert.PoolfIdeal.Gen

variable {F : FTy → Type} [FloatOps F]

/-- The two computations in which the four window lengths differ. -/
structure Branch (F : FTy → Type) [FloatOps F] where
  mean : Fin 16 → Vec F S512x256 .f32 → FVec F S256x256 .bf16
  out : Fin 16 → Vec F S512x256 .f32 → Vec F S1x256x256 .bf16 → Vec F S1x1x256 .f32 → FVec F S256x256 .bf16

/-- The rows' numbers in a group. -/
abbrev lanes : IVec S256x1 32 := iota .tc S256x1 32 [0] iota_S256x1_d0_w32

/-- Window lengths 2, 4, 8 and 16. -/
def branch : ℕ → Branch F
  | 0 => ⟨k0_pay8 lanes k0_pay4 0#32 1#32, k0_pay9 lanes k0_pay4 0#32 1#32⟩
  | 1 => ⟨k0_pay10 lanes k0_pay5 0#32 1#32, k0_pay11 lanes k0_pay5 0#32 1#32⟩
  | 2 => ⟨k0_pay12 lanes k0_pay6 0#32 1#32, k0_pay13 lanes k0_pay6 0#32 1#32⟩
  | _ => ⟨k0_pay14 lanes k0_pay7 0#32 1#32, k0_pay15 lanes k0_pay7 0#32 1#32⟩

/-- `W` rows from row `256 n` on. -/
def rows {R : ℕ} [NeZero R] (W : ℕ) {e : EltTy} (x : Vec F ⟨2, ![R, 256]⟩ e) (n : ℕ) : Vec F ⟨2, ![W, 256]⟩ e :=
  fun y => x (ix2 ⟨(256 * n + (y 0).val) % R, Nat.mod_lt _ (NeZero.pos R)⟩ (y 1))

/-- An entry's place inside its group of 256 rows. -/
def inside {R : ℕ} (y : (⟨2, ![R, 256]⟩ : Shape).Idx) : S256x256.Idx := ix2 ⟨(y 0).val % 256, Nat.mod_lt _ (by decide)⟩ (y 1)

/-- An entry's group of 256 rows. -/
def group (y : S4096x256.Idx) : Fin 16 := ⟨(y 0).val / 256, by have : (y 0).val < 4096 := (y 0).isLt; omega⟩

variable (B : Branch F) (x0 : Vec F S4096x256 .f32) (z : Vec F S4352x256 .f32) (x1 : Vec F S1x256x256 .bf16) (x2 : Vec F S1x1x256 .f32)

/-- The tokens after 256 rows of zeros. -/
def padded : Vec F S4352x256 .f32 := fun y =>
  if h : 256 ≤ (y 0).val then k0_pay2 x0 (ix2 ⟨(y 0).val - 256, by have : (y 0).val < 4352 := (y 0).isLt; omega⟩ (y 1)) else k0_pay1 (inside y)

/-- The pooled tokens. -/
def meanRows : Vec F S4096x256 .bf16 := fun y => B.mean (group y) (rows 512 z (group y).val) (inside y)

/-- The pooled tokens' product with the weights, scaled. -/
def outRows : Vec F S4096x256 .bf16 := fun y => B.out (group y) (rows 512 z (group y).val) x1 x2 (inside y)

variable {κ : Kind} {sp : Space} {e : EltTy}

/-- A load of `W` rows from row `256 n` on. -/
theorem load_rows {R W : ℕ} [NeZero R] (v : View sig κ sp ⟨2, ![R, 256]⟩ e) (f : v.ty.Contents (Elt F)) (z : Vec F ⟨2, ![R, 256]⟩ e) (hz : v.read (Elt F) f = z)
    (n : ℕ) (off : Fin 2 → ℕ) (inb : ∀ a, off a + (![W, 256] : Fin 2 → ℕ) a ≤ (![R, 256] : Fin 2 → ℕ) a) (ho : off = ![256 * n, 0]) :
    View.readAt (Elt F) v (Rect.unit (s := ⟨2, ![R, 256]⟩) off ![W, 256] inb).toLoadRect f = rows W z n := by
  subst ho hz
  funext y
  have h := inb 0
  have hy : (y 0).val < W := (y 0).isLt
  refine congrArg (v.read (Elt F) f) (funext fun a => Fin.ext ?_)
  have h' : 256 * n + W ≤ R := h
  fin_cases a
  · show 256 * n + 1 * (y 0).val = (256 * n + (y 0).val) % R
    rw [Nat.mod_eq_of_lt (by omega), Nat.one_mul]
  · show 0 + 1 * (y 1).val = (y 1).val
    omega

/-- What a buffer reads after its first `n` groups of rows were stored one after the other. -/
theorem read_groups (v : View sig κ sp S4096x256 e) (f : v.ty.Contents (Elt F)) (P : ℕ → List (View.Piece (Elt F) S4096x256 e))
    (g : Fin 16 → S256x256.Idx → Elt F e) (h0 : P 0 = [])
    (hs : ∀ n : Fin 16, ∃ (off : Fin 2 → ℕ) (inb : ∀ a, off a + S256x256.size a ≤ S4096x256.size a), off = ![256 * n.val, 0]
      ∧ P (n.val + 1) = ⟨Rect.unit (s := S4096x256) off S256x256.size inb, g n⟩ :: P n.val) :
    ∀ n ≤ 16, ∀ y, (y 0).val < 256 * n → v.read (Elt F) (v.writes (Elt F) f (P n)) y = g (group y) (inside y)
  | 0, _, y, hy => absurd hy (by omega)
  | n + 1, hn, y, hlt => by
    obtain ⟨off, inb, ho, hP⟩ := hs ⟨n, by omega⟩
    replace hP : P (n + 1) = _ :: P n := hP
    rw [hP]
    by_cases hy : 256 * n ≤ (y 0).val
    · have hd : group y = ⟨n, by omega⟩ := Fin.ext (by show (y 0).val / 256 = n; omega)
      rw [View.read_writes_cons_rows_of_mem (o := 256 * n) v f inb _ _ y (inside y) ho (by show (y 0).val = 256 * n + (y 0).val % 256; omega) rfl, hd]
    · rw [View.read_writes_cons_rows_of_not_mem (o := 256 * n) (W := 256) v f inb _ _ y ho rfl (by omega),
        read_groups v f P g h0 hs n (by omega) y (by omega)]

/-- What the scratch buffer reads once the zeros and the tokens are stored. -/
theorem read_padded (v : View sig κ sp S4352x256 .f32) (f : v.ty.Contents (Elt F)) (inb : ∀ a, (![256, 0] : Fin 2 → ℕ) a + S4096x256.size a ≤ S4352x256.size a)
    (inb' : ∀ a, (![0, 0] : Fin 2 → ℕ) a + S256x256.size a ≤ S4352x256.size a) :
    v.read (Elt F) (v.writes (Elt F) f [⟨Rect.unit (s := S4352x256) ![256, 0] S4096x256.size inb, k0_pay2 x0⟩,
      ⟨Rect.unit (s := S4352x256) ![0, 0] S256x256.size inb', k0_pay1⟩]) = padded x0 := by
  funext y
  unfold padded
  have h2 : (y 0).val < 4352 := (y 0).isLt
  by_cases h : 256 ≤ (y 0).val
  · rw [dif_pos h]
    exact View.read_writes_cons_rows_of_mem (o := 256) v f inb _ _ y (ix2 ⟨(y 0).val - 256, by omega⟩ (y 1)) rfl (by show (y 0).val = 256 + ((y 0).val - 256); omega) rfl
  · rw [dif_neg h, View.read_writes_cons_rows_of_not_mem (o := 256) (W := 4096) v f inb _ _ y rfl rfl (by omega)]
    exact View.read_writes_cons_rows_of_mem (o := 0) v f inb' _ _ y (inside y) rfl (by show (y 0).val = 0 + (y 0).val % 256; omega) rfl

/-- The loop's stores, one trip after the other: into the branch's output and the pooled tokens. -/
structure Stores (P : ℕ → List (View.Piece (Elt F) S4096x256 .bf16) × List (View.Piece (Elt F) S4096x256 .bf16)) : Prop where
  zero : P 0 = ([], [])
  succ : ∀ n : Fin 16, ∃ (off : Fin 2 → ℕ) (inb : ∀ a, off a + S256x256.size a ≤ S4096x256.size a), off = ![256 * n.val, 0] ∧ P (n.val + 1) =
      (⟨Rect.unit (s := S4096x256) off S256x256.size inb, B.out n (rows 512 z n.val) x1 x2⟩ :: (P n.val).1,
       ⟨Rect.unit (s := S4096x256) off S256x256.size inb, B.mean n (rows 512 z n.val)⟩ :: (P n.val).2)

variable {B z x1 x2} {P : ℕ → List (View.Piece (Elt F) S4096x256 .bf16) × List (View.Piece (Elt F) S4096x256 .bf16)} (h : Stores B z x1 x2 P)

include h

theorem Stores.out (v : View sig κ sp S4096x256 .bf16) (f : v.ty.Contents (Elt F)) : v.read (Elt F) (v.writes (Elt F) f (P 16).1) = outRows B z x1 x2 := by
  funext y
  refine read_groups v f (fun n => (P n).1) (fun n => B.out n (rows 512 z n.val) x1 x2) (congrArg (·.1) h.zero) (fun n => ?_) 16 (le_refl _) y (y 0).isLt
  obtain ⟨off, inb, ho, hP⟩ := h.succ n
  exact ⟨off, inb, ho, congrArg (·.1) hP⟩

theorem Stores.mean (v : View sig κ sp S4096x256 .bf16) (f : v.ty.Contents (Elt F)) : v.read (Elt F) (v.writes (Elt F) f (P 16).2) = meanRows B z := by
  funext y
  refine read_groups v f (fun n => (P n).2) (fun n => B.mean n (rows 512 z n.val)) (congrArg (·.2) h.zero) (fun n => ?_) 16 (le_refl _) y (y 0).isLt
  obtain ⟨off, inb, ho, hP⟩ := h.succ n
  exact ⟨off, inb, ho, congrArg (·.2) hP⟩

end Cert.PoolfIdeal.Run

end
-- ==== Proof.Poolf.Run.lean ====
/- The kernel's body at the four points of its grid. -/
module

public import proofs.«01_k».proof.Proof.Poolf.Model

@[expose] public section

set_option maxRecDepth 16384

noncomputable section

namespace Cert.PoolfIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PoolfIdeal Cert.PoolfIdeal.Gen

variable {F : FTy → Type} [FloatOps F]

local notation "𝕄" => MT nD τ sig Unit (Elt F) ℕ (UR sig nD τ) ℕ

variable (c : Dev nD) (i : grid0.Coords) (arg1 : Memref sig .tc .vmem S4096x256 .f32) (harg1 : arg1.IsWhole)
  (arg2 : Memref sig .tc .vmem S1x256x256 .bf16) (harg2 : arg2.IsWhole) (arg3 : Memref sig .tc .vmem S1x1x256 .f32) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4352x256 .f32) (harg6 : arg6.IsWhole)

/-- A buffer held at some contents is owned at some contents. -/
theorem owned {c : Thread nD τ} {sp : Space} {sh : Shape} {e : EltTy} (b : Memref sig c.2.kind sp sh e) (f : b.view.ty.Contents (Elt F)) :
    (iprop(b.view.loc c ↦[b.view.set]{fullShare} f) : sProp 𝕄) ⊢ iprop(∃ d, owns c b fullShare d) := by
  iintro H
  iexists _; iapply owns_intro; iexact H

/-- A buffer held at contents that read `d` is owned at `d`. -/
theorem owned_at {c : Thread nD τ} {sp : Space} {sh : Shape} {e : EltTy} (b : Memref sig c.2.kind sp sh e) (f : b.view.ty.Contents (Elt F)) (d : Vec F sh e)
    (h : b.view.read (Elt F) f = d) : (iprop(b.view.loc c ↦[b.view.set]{fullShare} f) : sProp 𝕄) ⊢ (owns c b fullShare d : sProp 𝕄) := by
  subst h; iintro H; iapply owns_intro; iexact H

/-- After the body: the three inputs as they were, the two results at the values the model gives them. -/
def After (B : Branch F) (x0 : Vec F S4096x256 .f32) (x1 : Vec F S1x256x256 .bf16) (x2 : Vec F S1x1x256 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare (outRows B (padded x0) x1 x2) ∗ owns (c : Thread nD τ) arg5 fullShare (meanRows B (padded x0))
    ∗ (∃ d, owns (c : Thread nD τ) arg6 fullShare d))

/-- Before the body: the three inputs at their values, the other buffers at any. -/
def Before (x0 : Vec F S4096x256 .f32) (x1 : Vec F S1x256x256 .bf16) (x2 : Vec F S1x1x256 .f32) (R : sProp 𝕄) : sProp 𝕄 :=
  iprop(owns (c : Thread nD τ) arg1 fullShare x0 ∗ owns (c : Thread nD τ) arg2 fullShare x1 ∗ owns (c : Thread nD τ) arg3 fullShare x2
    ∗ (∃ d, owns (c : Thread nD τ) arg4 fullShare d) ∗ (∃ d, owns (c : Thread nD τ) arg5 fullShare d)
    ∗ (∃ d, owns (c : Thread nD τ) arg6 fullShare d) ∗ R)

variable (x0 : Vec F S4096x256 .f32) (x1 : Vec F S1x256x256 .bf16) (x2 : Vec F S1x1x256 .f32) (f6 : arg6.view.ty.Contents (Elt F))

/-- The loop's stores in terms of its loads. -/
theorem Stores.of_loads (B : Branch F) (z : Vec F S4352x256 .f32) (hz : arg6.view.read (Elt F) f6 = z)
    (off1 off2 : Fin 16 → Fin 2 → ℕ) (ho1 : ∀ n, off1 n = ![256 * n.val, 0]) (ho2 : ∀ n, off2 n = ![256 * n.val, 0])
    (inb1 : ∀ n a, off1 n a + S512x256.size a ≤ S4352x256.size a) (inb2 : ∀ n a, off2 n a + S256x256.size a ≤ S4096x256.size a)
    (P : ℕ → List (View.Piece (Elt F) S4096x256 .bf16) × List (View.Piece (Elt F) S4096x256 .bf16)) (h0 : P 0 = ([], []))
    (hs : ∀ n : Fin 16,
      let a6 := View.readAt (Elt F) arg6.view (Rect.unit (s := S4352x256) (off1 n) S512x256.size (inb1 n)).toLoadRect f6
      let a2 := View.readAt (Elt F) arg2.view (Rect.unit (s := S1x256x256) ![0, 0, 0] S1x256x256.size inb_S1x256x256_S1x256x256_0_0_0).toLoadRect (harg2.unread x1)
      let a3 := View.readAt (Elt F) arg3.view (Rect.unit (s := S1x1x256) ![0, 0, 0] S1x1x256.size inb_S1x1x256_S1x1x256_0_0_0).toLoadRect (harg3.unread x2)
      P (n.val + 1) =
      (⟨Rect.unit (s := S4096x256) (off2 n) S256x256.size (inb2 n), B.out n a6 a2 a3⟩ :: (P n.val).1,
       ⟨Rect.unit (s := S4096x256) (off2 n) S256x256.size (inb2 n), B.mean n a6⟩ :: (P n.val).2)) :
    Stores B z x1 x2 P where
  zero := h0
  succ n := by
    refine ⟨off2 n, inb2 n, ho2 n, ?_⟩
    have e6 := load_rows (W := 512) arg6.view f6 z hz n.val _ (inb1 n) (ho1 n)
    have e2 := (View.readAt_full arg2.view (harg2.unread x1) inb_S1x256x256_S1x256x256_0_0_0).trans (harg2.read_unread x1)
    have e3 := (View.readAt_full arg3.view (harg3.unread x2) inb_S1x1x256_S1x1x256_0_0_0).trans (harg3.read_unread x2)
    rw [hs n, e6, e2, e3]

theorem storesA (hc : k0_cond1 i = 1#1) (z : Vec F S4352x256 .f32) (hz : arg6.view.read (Elt F) f6 = z) : Stores (branch 0) z x1 x2
    (pb_k0_t1 (F := F) Variants.none c none i arg1 harg1 arg2 harg2 arg3 harg3 arg4 harg4 arg5 harg5 arg6 harg6 lanes hc (harg2.unread x1) (harg3.unread x2) f6) :=
  Stores.of_loads arg2 harg2 arg3 harg3 arg6 x1 x2 f6 (branch 0) z hz k0_off1 k0_off2 k0_off1_eq k0_off2_eq
    (fun n => k0_off1_inb i n hc) (fun n => k0_off2_inb i n hc) _ rfl fun n =>
      (pb_k0_t1_succ (F := F) Variants.none c none i arg1 harg1 arg2 harg2 arg3 harg3 arg4 harg4 arg5 harg5 arg6 harg6 lanes hc (harg2.unread x1) (harg3.unread x2) f6 n).trans
        (by unfold tripL_k0_t1 trip_k0_t1; rfl)

theorem storesB (hc : k0_cond2 i = 1#1) (z : Vec F S4352x256 .f32) (hz : arg6.view.read (Elt F) f6 = z) : Stores (branch 1) z x1 x2
    (pb_k0_t2 (F := F) Variants.none c none i arg1 harg1 arg2 harg2 arg3 harg3 arg4 harg4 arg5 harg5 arg6 harg6 lanes hc (harg2.unread x1) (harg3.unread x2) f6) :=
  Stores.of_loads arg2 harg2 arg3 harg3 arg6 x1 x2 f6 (branch 1) z hz k0_off3 k0_off4 k0_off3_eq k0_off4_eq
    (fun n => k0_off3_inb i n hc) (fun n => k0_off4_inb i n hc) _ rfl fun n =>
      (pb_k0_t2_succ (F := F) Variants.none c none i arg1 harg1 arg2 harg2 arg3 harg3 arg4 harg4 arg5 harg5 arg6 harg6 lanes hc (harg2.unread x1) (harg3.unread x2) f6 n).trans
        (by unfold tripL_k0_t2 trip_k0_t2; rfl)

theorem storesC (hc : k0_cond3 i = 1#1) (z : Vec F S4352x256 .f32) (hz : arg6.view.read (Elt F) f6 = z) : Stores (branch 2) z x1 x2
    (pb_k0_t3 (F := F) Variants.none c none i arg1 harg1 arg2 harg2 arg3 harg3 arg4 harg4 arg5 harg5 arg6 harg6 lanes hc (harg2.unread x1) (harg3.unread x2) f6) :=
  Stores.of_loads arg2 harg2 arg3 harg3 arg6 x1 x2 f6 (branch 2) z hz k0_off5 k0_off6 k0_off5_eq k0_off6_eq
    (fun n => k0_off5_inb i n hc) (fun n => k0_off6_inb i n hc) _ rfl fun n =>
      (pb_k0_t3_succ (F := F) Variants.none c none i arg1 harg1 arg2 harg2 arg3 harg3 arg4 harg4 arg5 harg5 arg6 harg6 lanes hc (harg2.unread x1) (harg3.unread x2) f6 n).trans
        (by unfold tripL_k0_t3 trip_k0_t3; rfl)

theorem storesD (hc : k0_cond4 i = 1#1) (z : Vec F S4352x256 .f32) (hz : arg6.view.read (Elt F) f6 = z) : Stores (branch 3) z x1 x2
    (pb_k0_t4 (F := F) Variants.none c none i arg1 harg1 arg2 harg2 arg3 harg3 arg4 harg4 arg5 harg5 arg6 harg6 lanes hc (harg2.unread x1) (harg3.unread x2) f6) :=
  Stores.of_loads arg2 harg2 arg3 harg3 arg6 x1 x2 f6 (branch 3) z hz k0_off7 k0_off8 k0_off7_eq k0_off8_eq
    (fun n => k0_off7_inb i n hc) (fun n => k0_off8_inb i n hc) _ rfl fun n =>
      (pb_k0_t4_succ (F := F) Variants.none c none i arg1 harg1 arg2 harg2 arg3 harg3 arg4 harg4 arg5 harg5 arg6 harg6 lanes hc (harg2.unread x1) (harg3.unread x2) f6 n).trans
        (by unfold tripL_k0_t4 trip_k0_t4; rfl)

/-- What the loop's stores leave. -/
theorem finish {B : Branch F} {P : ℕ → List (View.Piece (Elt F) S4096x256 .bf16) × List (View.Piece (Elt F) S4096x256 .bf16)}
    (f4 : arg4.view.ty.Contents (Elt F)) (f5 : arg5.view.ty.Contents (Elt F)) (h : Stores B (padded x0) x1 x2 P) :
    iprop((arg1.view.loc (c : Thread nD τ) ↦[arg1.view.set]{fullShare} harg1.unread x0) ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} arg4.view.writes (Elt F) f4 (P 16).1)
      ∗ (arg5.view.loc (c : Thread nD τ) ↦[arg5.view.set]{fullShare} arg5.view.writes (Elt F) f5 (P 16).2)
      ∗ (arg6.view.loc (c : Thread nD τ) ↦[arg6.view.set]{fullShare} f6))
    ⊢ (After c arg1 arg2 arg3 arg4 arg5 arg6 B x0 x1 x2 : sProp 𝕄) := by
  unfold After
  iintro ⟨H0, H1, H2, H3, H4, HS0⟩
  isplitl [H0]; · iapply (owned_at (c := (c : Thread nD τ)) arg1 _ _ (harg1.read_unread x0)); iexact H0
  isplitl [H1]; · iapply (owned_at (c := (c : Thread nD τ)) arg2 _ _ (harg2.read_unread x1)); iexact H1
  isplitl [H2]; · iapply (owned_at (c := (c : Thread nD τ)) arg3 _ _ (harg3.read_unread x2)); iexact H2
  isplitl [H3]; · iapply (owned_at (c := (c : Thread nD τ)) arg4 _ _ (h.out arg4.view f4)); iexact H3
  isplitl [H4]; · iapply (owned_at (c := (c : Thread nD τ)) arg5 _ _ (h.mean arg5.view f5)); iexact H4
  iapply (owned (c := (c : Thread nD τ)) arg6); iexact HS0

/-- The tokens as the body loads them. -/
theorem loaded : View.readAt (Elt F) arg1.view (Rect.unit (s := S4096x256) ![0, 0] S4096x256.size inb_S4096x256_S4096x256_0_0).toLoadRect (harg1.unread x0) = x0 :=
  (View.readAt_full arg1.view (harg1.unread x0) inb_S4096x256_S4096x256_0_0).trans (harg1.read_unread x0)

/-- What the scratch buffer reads after the body's first two stores. -/
theorem scratch (fs : arg6.view.ty.Contents (Elt F)) : arg6.view.read (Elt F) (arg6.view.writes (Elt F) fs
      [⟨Rect.unit (s := S4352x256) ![256, 0] S4096x256.size inb_S4352x256_S4096x256_256_0,
        k0_pay2 (View.readAt (Elt F) arg1.view (Rect.unit (s := S4096x256) ![0, 0] S4096x256.size inb_S4096x256_S4096x256_0_0).toLoadRect (harg1.unread x0))⟩,
       ⟨Rect.unit (s := S4352x256) ![0, 0] S256x256.size inb_S4352x256_S256x256_0_0, k0_pay1⟩]) = padded x0 := by
  rw [loaded arg1 harg1 x0]
  exact read_padded x0 arg6.view fs _ _

set_option maxHeartbeats 4000000 in
theorem runA (hc0 : cond0_0 i) (hc1 : ¬cond0_1 i) (hc2 : ¬cond0_2 i) (hc3 : ¬cond0_3 i) (E : Set ℕ) (K : PUnit → sProp 𝕄) :
    Before c arg1 arg2 arg3 arg4 arg5 arg6 x0 x1 x2 iprop(After c arg1 arg2 arg3 arg4 arg5 arg6 (branch 0) x0 x1 x2 -∗ K ⟨⟩)
      ⊢ wp frame (wpE (defs₀ (F := F)) Variants.none c none) E (cc0_pool_fwd i arg1 harg1 arg2 harg2 arg3 harg3 arg4 harg4 arg5 harg5 arg6 harg6) K := by
  simp only [cc0_pool_fwd_eq_skeleton]; unfold cc0_pool_fwd_skel
  unfold Before owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1 | sl_exact hc2 | sl_exact hc3)
  sl_step
  iapply Hk
  iapply (finish c arg1 harg1 arg2 harg2 arg3 harg3 arg4 arg5 arg6 x0 x1 x2 _ _ _
    (storesA c i arg1 harg1 arg2 harg2 arg3 harg3 arg4 harg4 arg5 harg5 arg6 harg6 x1 x2 _ hc0 _ (scratch arg1 harg1 arg6 x0 _)))
  isplitl [H0]; · iexact H0
  isplitl [H1]; · iexact H1
  isplitl [H2]; · iexact H2
  isplitl [H3]; · iexact H3
  isplitl [H4]; · iexact H4
  iexact HS0

set_option maxHeartbeats 4000000 in
theorem runB (hc0 : ¬cond0_0 i) (hc1 : cond0_1 i) (hc2 : ¬cond0_2 i) (hc3 : ¬cond0_3 i) (E : Set ℕ) (K : PUnit → sProp 𝕄) :
    Before c arg1 arg2 arg3 arg4 arg5 arg6 x0 x1 x2 iprop(After c arg1 arg2 arg3 arg4 arg5 arg6 (branch 1) x0 x1 x2 -∗ K ⟨⟩)
      ⊢ wp frame (wpE (defs₀ (F := F)) Variants.none c none) E (cc0_pool_fwd i arg1 harg1 arg2 harg2 arg3 harg3 arg4 harg4 arg5 harg5 arg6 harg6) K := by
  simp only [cc0_pool_fwd_eq_skeleton]; unfold cc0_pool_fwd_skel
  unfold Before owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1 | sl_exact hc2 | sl_exact hc3)
  sl_step
  iapply Hk
  iapply (finish c arg1 harg1 arg2 harg2 arg3 harg3 arg4 arg5 arg6 x0 x1 x2 _ _ _
    (storesB c i arg1 harg1 arg2 harg2 arg3 harg3 arg4 harg4 arg5 harg5 arg6 harg6 x1 x2 _ hc1 _ (scratch arg1 harg1 arg6 x0 _)))
  isplitl [H0]; · iexact H0
  isplitl [H1]; · iexact H1
  isplitl [H2]; · iexact H2
  isplitl [H3]; · iexact H3
  isplitl [H4]; · iexact H4
  iexact HS0

set_option maxHeartbeats 4000000 in
theorem runC (hc0 : ¬cond0_0 i) (hc1 : ¬cond0_1 i) (hc2 : cond0_2 i) (hc3 : ¬cond0_3 i) (E : Set ℕ) (K : PUnit → sProp 𝕄) :
    Before c arg1 arg2 arg3 arg4 arg5 arg6 x0 x1 x2 iprop(After c arg1 arg2 arg3 arg4 arg5 arg6 (branch 2) x0 x1 x2 -∗ K ⟨⟩)
      ⊢ wp frame (wpE (defs₀ (F := F)) Variants.none c none) E (cc0_pool_fwd i arg1 harg1 arg2 harg2 arg3 harg3 arg4 harg4 arg5 harg5 arg6 harg6) K := by
  simp only [cc0_pool_fwd_eq_skeleton]; unfold cc0_pool_fwd_skel
  unfold Before owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1 | sl_exact hc2 | sl_exact hc3)
  sl_step
  iapply Hk
  iapply (finish c arg1 harg1 arg2 harg2 arg3 harg3 arg4 arg5 arg6 x0 x1 x2 _ _ _
    (storesC c i arg1 harg1 arg2 harg2 arg3 harg3 arg4 harg4 arg5 harg5 arg6 harg6 x1 x2 _ hc2 _ (scratch arg1 harg1 arg6 x0 _)))
  isplitl [H0]; · iexact H0
  isplitl [H1]; · iexact H1
  isplitl [H2]; · iexact H2
  isplitl [H3]; · iexact H3
  isplitl [H4]; · iexact H4
  iexact HS0

set_option maxHeartbeats 4000000 in
theorem runD (hc0 : ¬cond0_0 i) (hc1 : ¬cond0_1 i) (hc2 : ¬cond0_2 i) (hc3 : cond0_3 i) (E : Set ℕ) (K : PUnit → sProp 𝕄) :
    Before c arg1 arg2 arg3 arg4 arg5 arg6 x0 x1 x2 iprop(After c arg1 arg2 arg3 arg4 arg5 arg6 (branch 3) x0 x1 x2 -∗ K ⟨⟩)
      ⊢ wp frame (wpE (defs₀ (F := F)) Variants.none c none) E (cc0_pool_fwd i arg1 harg1 arg2 harg2 arg3 harg3 arg4 harg4 arg5 harg5 arg6 harg6) K := by
  simp only [cc0_pool_fwd_eq_skeleton]; unfold cc0_pool_fwd_skel
  unfold Before owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1 | sl_exact hc2 | sl_exact hc3)
  sl_step
  iapply Hk
  iapply (finish c arg1 harg1 arg2 harg2 arg3 harg3 arg4 arg5 arg6 x0 x1 x2 _ _ _
    (storesD c i arg1 harg1 arg2 harg2 arg3 harg3 arg4 harg4 arg5 harg5 arg6 harg6 x1 x2 _ hc3 _ (scratch arg1 harg1 arg6 x0 _)))
  isplitl [H0]; · iexact H0
  isplitl [H1]; · iexact H1
  isplitl [H2]; · iexact H2
  isplitl [H3]; · iexact H3
  isplitl [H4]; · iexact H4
  iexact HS0

end Cert.PoolfIdeal.Run

end
-- ==== Proof.Poolf.Launch.lean ====
/- The pooled branch's kernel, run: the host lines, then the body at each of the four points of the grid. -/
module

public import proofs.«01_k».proof.Proof.Poolf.Run
public import Idealize.ShloMosaic.Lib.Claim
public import Idealize.ShloMosaic.Lib.Pipeline.FrameBody

@[expose] public section

set_option maxRecDepth 16384

noncomputable section

namespace Cert.PoolfIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.PoolfIdeal Cert.PoolfIdeal.Gen

variable {F : FTy → Type} [FloatOps F]

local notation "𝕄" => MT nD τ sig Unit (Elt F) ℕ (UR sig nD τ) ℕ

variable (m : (ℓ : Loc nD τ sig) → Buf (Elt F) ℓ) (g : Dev nD → PrngReg) (c : Dev nD)

/-! ## What the windows hold -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outRows (branch t.val) (padded (iblk m c 0 t)) (iblk m c 1 t) (iblk m c 2 t)
    | ⟨4, _⟩ => meanRows (branch t.val) (padded (iblk m c 0 t))
  Φ _ := Pipeline.ΦA spec0 c
  q _ := fullShare
  owed _ := 0

theorem dats_A (w : Fin cfg0.W) : (dats m 0 c).A w = V m c (Pipeline.arrRef spec0 w) := by dsimp only [dats]

theorem kept0 (t : Fin cfg0.N) : (dats m 0 c).after 0 t = iblk m c 0 t := by dsimp only [dats]
theorem kept1 (t : Fin cfg0.N) : (dats m 0 c).after 1 t = iblk m c 1 t := by dsimp only [dats]
theorem kept2 (t : Fin cfg0.N) : (dats m 0 c).after 2 t = iblk m c 2 t := by dsimp only [dats]

/-- What the body leaves in each input window's buffer, as the launch states it. -/
theorem left (t : Fin cfg0.N) :
    (dats m 0 c).leavesExact 0 t = owns (c : Thread nD τ) (ms0_0 t) fullShare (iblk m c 0 t) ∧
    (dats m 0 c).leavesExact 1 t = owns (c : Thread nD τ) (ms0_1 t) fullShare (iblk m c 1 t) ∧
    (dats m 0 c).leavesExact 2 t = owns (c : Thread nD τ) (ms0_2 t) fullShare (iblk m c 2 t) := by
  refine ⟨?_, ?_, ?_⟩
  all_goals
    unfold Dat.leavesExact
    dsimp only [dats]

/-- The four conditions at a point: exactly one holds. -/
theorem point (t : Fin cfg0.N) :
    (t.val = 0 ∧ conds0_A (grid0.coords t)) ∨ (t.val = 1 ∧ conds0_B (grid0.coords t)) ∨ (t.val = 2 ∧ conds0_C (grid0.coords t)) ∨ (t.val = 3 ∧ conds0_D (grid0.coords t)) := by
  have hN : t.val < 4 := lt_of_lt_of_eq t.isLt (show cfg0.N = 4 from N_0)
  unfold conds0_A conds0_B conds0_C conds0_D
  rw [hcond0_0 t, hcond0_1 t, hcond0_2 t, hcond0_3 t]
  omega

theorem left3 (t : Fin cfg0.N) :
    (dats m 0 c).leavesExact 3 t = owns (c : Thread nD τ) (ms0_3 t) fullShare (outRows (branch t.val) (padded (iblk m c 0 t)) (iblk m c 1 t) (iblk m c 2 t)) := by
  have h : cfg0.idle 3 (grid0.coords t) = false := by
    rcases point t with ⟨-, a, b, d, e⟩ | ⟨-, a, b, d, e⟩ | ⟨-, a, b, d, e⟩ | ⟨-, a, b, d, e⟩
    · exact liveAt0_3_A t a b d e
    · exact liveAt0_3_B t a b d e
    · exact liveAt0_3_C t a b d e
    · exact liveAt0_3_D t a b d e
  unfold Dat.leavesExact
  rw [h]
  dsimp only [dats]

theorem left4 (t : Fin cfg0.N) :
    (dats m 0 c).leavesExact 4 t = owns (c : Thread nD τ) (ms0_4 t) fullShare (meanRows (branch t.val) (padded (iblk m c 0 t))) := by
  have h : cfg0.idle 4 (grid0.coords t) = false := by
    rcases point t with ⟨-, a, b, d, e⟩ | ⟨-, a, b, d, e⟩ | ⟨-, a, b, d, e⟩ | ⟨-, a, b, d, e⟩
    · exact liveAt0_4_A t a b d e
    · exact liveAt0_4_B t a b d e
    · exact liveAt0_4_C t a b d e
    · exact liveAt0_4_D t a b d e
  unfold Dat.leavesExact
  rw [h]
  dsimp only [dats]

/-- The body at a point, whichever of its four cases the point is. -/
theorem body_le (t : Fin cfg0.N) (arg1 : Memref sig .tc .vmem S4096x256 .f32) (harg1 : arg1.IsWhole)
    (arg2 : Memref sig .tc .vmem S1x256x256 .bf16) (harg2 : arg2.IsWhole) (arg3 : Memref sig .tc .vmem S1x1x256 .f32) (harg3 : arg3.IsWhole)
    (arg4 : Memref sig .tc .vmem S4096x256 .bf16) (harg4 : arg4.IsWhole) (arg5 : Memref sig .tc .vmem S4096x256 .bf16) (harg5 : arg5.IsWhole)
    (arg6 : Memref sig .tc .vmem S4352x256 .f32) (harg6 : arg6.IsWhole)
    (x0 : Vec F S4096x256 .f32) (x1 : Vec F S1x256x256 .bf16) (x2 : Vec F S1x1x256 .f32) (E : Set ℕ) (K : PUnit → sProp 𝕄) :
    Before c arg1 arg2 arg3 arg4 arg5 arg6 x0 x1 x2 iprop(After c arg1 arg2 arg3 arg4 arg5 arg6 (branch t.val) x0 x1 x2 -∗ K ⟨⟩)
      ⊢ wp frame (wpE (defs₀ (F := F)) Variants.none c none) E (cc0_pool_fwd (grid0.coords t) arg1 harg1 arg2 harg2 arg3 harg3 arg4 harg4 arg5 harg5 arg6 harg6) K := by
  rcases point t with ⟨h, a, b, d, e⟩ | ⟨h, a, b, d, e⟩ | ⟨h, a, b, d, e⟩ | ⟨h, a, b, d, e⟩ <;> rw [h]
  · exact runA c _ arg1 harg1 arg2 harg2 arg3 harg3 arg4 harg4 arg5 harg5 arg6 harg6 x0 x1 x2 a b d e E K
  · exact runB c _ arg1 harg1 arg2 harg2 arg3 harg3 arg4 harg4 arg5 harg5 arg6 harg6 x0 x1 x2 a b d e E K
  · exact runC c _ arg1 harg1 arg2 harg2 arg3 harg3 arg4 harg4 arg5 harg5 arg6 harg6 x0 x1 x2 a b d e E K
  · exact runD c _ arg1 harg1 arg2 harg2 arg3 harg3 arg4 harg4 arg5 harg5 arg6 harg6 x0 x1 x2 a b d e E K

/-! ## The body at a point -/

theorem body_row (t : Fin cfg0.N) :
    defs₀ (F := F) .tc cfg0.body (cfg0.bodyArgs t (cfg0.slots t)) = bodyAt0 t := by
  unfold defs₀; rw [Defs.onTc_tc]

/-- The windows' buffers as the body finds them, and as it leaves them. -/
def before (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def leaves (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem body_at (t : Fin cfg0.N) :
    before m c t ⊢ wp frame (wpE (defs₀ (F := F)) Variants.none (c : Thread nD τ) none) Set.univ (bodyAt0 t) (fun _ => leaves m c t) := by
  have h0 := before0_0_of m (dats m 0 c) (dats_A m c 0) (kept0 m c) t
  have h1 := before0_1_of m (dats m 0 c) (dats_A m c 1) (kept1 m c) t
  have h2 := before0_2_of m (dats m 0 c) (dats_A m c 2) (kept2 m c) t
  obtain ⟨l0, l1, l2⟩ := left m c t
  unfold before leaves bodyAt0
  rw [l0, l1, l2, left3, left4, show (dats m 0 c).owesAt () t.succ = (dats m 0 c).owesAt () t.castSucc from rfl,
    show (dats m 0 c).Φ t.succ = Pipeline.ΦA spec0 c from rfl]
  simp only [h0, h1, h2]
  rw [PhiA0_eq]
  iintro ⟨⟨S0, R⟩, O, ⟨%d0, H0⟩, ⟨%d1, H1⟩, ⟨%d2, H2⟩, ⟨%d3, H3⟩, ⟨%d4, H4⟩⟩
  iapply (body_le c t _ _ _ _ _ _ _ _ _ _ _ _ (iblk m c 0 t) (iblk m c 1 t) (iblk m c 2 t) Set.univ _)
  unfold Before After
  isplitl [H0]; · iexact H0
  isplitl [H1]; · iexact H1
  isplitl [H2]; · iexact H2
  isplitl [H3]; · iexists _; iexact H3
  isplitl [H4]; · iexists _; iexact H4
  isplitl [S0]; · iexact S0
  iintro ⟨H0, H1, H2, H3, H4, S0⟩
  isplitl [S0 R]
  · isplitr [R]
    · iexact S0
    · iexact R
  isplitl [O]; · iexact O
  isplitl [H0]; · iexact H0
  isplitl [H1]; · iexact H1
  isplitl [H2]; · iexact H2
  isplitl [H3]; · iexact H3
  iexact H4

theorem body_ok : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- Every run ends with the result arrays and the arguments as the windows say, and every counter at zero. -/
theorem run : θ_run defs (onTc (τ := τ) (main (F := F))) (s₀ m g)
    (fun r => Pipeline.FramePost cfgs (dats m) 0 (V m) r ∧ r.2.sem = fun _ => 0) :=
  Pipeline.θ_run_frame (Q' := _) cfgs (dats m) (0 : Fin 1) launch0 defs₀ Variants.none m g main
    (hbody := fun c => (body_ok m c).loose) (hshare := fun c => (dats m 0 c).share_full fun _ => rfl)
    (howed := fun _ _ => rfl) (V := V m) (hmain := hmain m Variants.none) (hA := dats_A m) (hΦ := fun _ _ => rfl)

theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m g (dats m) (dats_A m) ((θ_run defs _ _).mono (fun _ h => h.1) (run m g))) ((θ_run defs _ _).mono (fun _ h => h.2) (run m g))

end Cert.PoolfIdeal.Run

end
-- ==== Proof.Poolf.Kernel.lean ====
/- What one grid point of the pooled branch's kernel leaves, entry by entry, over exact arithmetic. -/
module

public import proofs.«01_k».proof.Proof.Poolf.Model
public import proofs.«01_k».proof.Proof.Math.Fold
public import proofs.«01_k».proof.Proof.Math.Ln
public import proofs.«01_k».proof.Proof.Math.Finite
public import Idealize.ShloMosaic.Lib.WordCmp

@[expose] public section

set_option maxRecDepth 16384

noncomputable section

namespace Cert.PoolfIdeal.Val

open Idealize.ShloMosaic Idealize.ShloMosaic.TcCoe Cert.PoolfIdeal Cert.PoolfIdeal.Gen Cert.PoolfIdeal.Run Math

/-! ## The computations of one group of 256 rows -/

theorem pay1_at (i : S256x256.Idx) : k0_pay1 (F := Ideal) i = 0 := by
  obtain ⟨r, c, rfl⟩ : ∃ r c, i = ix2 r c := ⟨i 0, i 1, eq_ix2 i⟩
  pointwise [k0_pay1]

theorem pay2_at (x : FVec Ideal S4096x256 .f32) (t : Fin 4096) (c : Fin 256) : k0_pay2 (F := Ideal) x (ix2 t c) = x (ix2 t c) := by
  pointwise [k0_pay2]

theorem count_word : ∀ (n : Fin 16) (r : Fin 256) (b : Fin 4),
    (IntOp.minsi (IntOp.addi (IntOp.addi (Scalar.muli (Scf.iv 0#32 1#32 n.val) 256#32) (BitVec.ofNat 32 r.val)) 1#32) (BitVec.ofNat 32 (2 ^ (b.val + 1)))).toInt
      = ((min (256 * n.val + r.val + 1) (2 ^ (b.val + 1)) : ℕ) : ℤ) := by decide +kernel

/-- The word of the band: one from the window's first row to an entry's own row, zero elsewhere. -/
def bandWord (b : Fin 4) (r : Fin 256) (j : Fin 512) : BitVec 32 :=
  BitVec.setWidth 32 (IntOp.andi (IntOp.cmpi .sge (IntOp.subi (IntOp.addi 256#32 (BitVec.ofNat 32 r.val)) (BitVec.ofNat 32 j.val)) 0#32)
    (IntOp.cmpi .slt (IntOp.subi (IntOp.addi 256#32 (BitVec.ofNat 32 r.val)) (BitVec.ofNat 32 j.val)) (BitVec.ofNat 32 (2 ^ (b.val + 1)))))

/-- An array's three parts, of which over exact arithmetic the last two are zero, each through the band. -/
def banded (b : Fin 4) (z : Fin 512 → EReal) (r : Fin 256) : EReal :=
  (∑ j, FloatOps.sitofp (F := Ideal) .f32 (bandWord b r j) * z j) + (∑ j, FloatOps.sitofp (F := Ideal) .f32 (bandWord b r j) * (z j - z j))
    + ∑ j, FloatOps.sitofp (F := Ideal) .f32 (bandWord b r j) * (z j - z j - (z j - z j))

theorem mean_at (z : FVec Ideal S512x256 .f32) (b : Fin 4) (n : Fin 16) (r c : Fin 256) : (branch (F := Ideal) b.val).mean n z (ix2 r c)
    = banded b (fun j => z (ix2 j c)) r * Ideal.div 1 (((min (256 * n.val + r.val + 1) (2 ^ (b.val + 1)) : ℕ) : ℤ) : ℝ) - z (ix2 ⟨256 + r.val, by omega⟩ c) := by
  rw [← count_word n r b]
  match b with
  | 0 => pointwise [branch, k0_pay8, k0_pay4, k0_pay3]; rfl
  | 1 => pointwise [branch, k0_pay10, k0_pay5, k0_pay3]; rfl
  | 2 => pointwise [branch, k0_pay12, k0_pay6, k0_pay3]; rfl
  | 3 => pointwise [branch, k0_pay14, k0_pay7, k0_pay3]; rfl

theorem out_at (z : FVec Ideal S512x256 .f32) (w : FVec Ideal S1x256x256 .bf16) (s : FVec Ideal S1x1x256 .f32) (b : Fin 4) (n : Fin 16) (r d : Fin 256) :
    (branch (F := Ideal) b.val).out n z w s (ix2 r d) = (∑ c, (branch (F := Ideal) b.val).mean n z (ix2 r c) * w (ix3 0 c d)) * s (ix3 0 0 d) := by
  match b with
  | 0 => pointwise [branch, k0_pay9]
  | 1 => pointwise [branch, k0_pay11]
  | 2 => pointwise [branch, k0_pay13]
  | 3 => pointwise [branch, k0_pay15]

theorem apart (r : Fin 256) (j : Fin 512) :
    (IntOp.subi (IntOp.addi 256#32 (BitVec.ofNat 32 r.val)) (BitVec.ofNat 32 j.val)).toInt = 256 + (r.val : ℤ) - j.val := by
  show (256#32 + BitVec.ofNat 32 r.val - BitVec.ofNat 32 j.val).toInt = _
  have hr := r.isLt
  have hj := j.isLt
  have small : ∀ n : ℕ, n < 1024 → (BitVec.ofNat 32 n).toInt = n := fun n hn => by
    rw [BitVec.toInt_ofNat', Int.bmod_eq_of_le (by omega) (by omega)]
  rw [← BitVec.ofNat_add, BitVec.toInt_sub, small _ (by omega), small _ (by omega), Int.bmod_eq_of_le (by omega) (by omega)]
  omega

theorem len_word : ∀ b : Fin 4, (BitVec.ofNat 32 (2 ^ (b.val + 1))).toInt = ((2 ^ (b.val + 1) : ℕ) : ℤ) := by decide

theorem band_at (b : Fin 4) (r : Fin 256) (j : Fin 512) : FloatOps.sitofp (F := Ideal) .f32 (bandWord b r j)
    = (((if r.val + 257 - 2 ^ (b.val + 1) ≤ j.val ∧ j.val < r.val + 257 then 1 else 0 : ℝ)) : EReal) := by
  have hb : 2 ^ (b.val + 1) ≤ 16 := (by decide : ∀ b : Fin 4, 2 ^ (b.val + 1) ≤ 16) b
  refine Eq.trans (b := (((bandWord b r j).toInt : ℝ) : EReal)) rfl (congrArg _ ?_)
  unfold bandWord
  rw [WordCmp.cmpi_sge_eq, WordCmp.cmpi_slt_eq, apart, len_word, WordCmp.andi_ofBool, ← Bool.decide_and]
  by_cases h : r.val + 257 - 2 ^ (b.val + 1) ≤ j.val ∧ j.val < r.val + 257
  · rw [if_pos h, decide_eq_true (by rw [BitVec.toInt_zero]; omega), show (BitVec.setWidth 32 (BitVec.ofBool true)).toInt = 1 by decide, Int.cast_one]
  · rw [if_neg h, decide_eq_false (by rw [BitVec.toInt_zero]; omega), show (BitVec.setWidth 32 (BitVec.ofBool false)).toInt = 0 by decide, Int.cast_zero]

/-- Of a real array the band keeps the window's terms. -/
theorem banded_real (b : Fin 4) (z : Fin 512 → EReal) (f : ℕ → ℝ) (hz : ∀ j, z j = ((f j.val : ℝ) : EReal)) (r : Fin 256) :
    banded b z r = ((∑ j ∈ Finset.Ico (r.val + 257 - 2 ^ (b.val + 1)) (r.val + 257), f j : ℝ) : EReal) := by
  unfold banded
  simp only [band_at, hz, ← EReal.coe_sub, ← EReal.coe_mul, coe_sum, ← EReal.coe_add, sub_self, mul_zero, Finset.sum_const_zero, add_zero, ite_mul, one_mul, zero_mul]
  refine congrArg _ ?_
  rw [Fin.sum_univ_eq_sum_range (fun j => if r.val + 257 - 2 ^ (b.val + 1) ≤ j ∧ j < r.val + 257 then f j else 0) 512, ← Finset.sum_filter]
  refine Finset.sum_congr ?_ fun _ _ => rfl
  ext k
  have := r.isLt
  simp only [Finset.mem_filter, Finset.mem_range, Finset.mem_Ico]
  omega

/-! ## The whole point -/

section

variable (x0 : FVec Ideal S4096x256 .f32) (x1 : FVec Ideal S1x256x256 .bf16) (x2 : FVec Ideal S1x1x256 .f32) (hx : ∀ i, IsReal (x0 i))

/-- A channel's tokens as real numbers; zero past the last token. -/
def tokB (c : Fin 256) (t : ℕ) : ℝ := if h : t < 4096 then (x0 (ix2 ⟨t, h⟩ c)).toReal else 0

include hx in
theorem padded_at (t : Fin 4352) (c : Fin 256) : padded (F := Ideal) x0 (ix2 t c) = ((if 256 ≤ t.val then tokB x0 c (t.val - 256) else 0 : ℝ) : EReal) := by
  unfold padded
  by_cases h : 256 ≤ t.val
  · have h4 : t.val - 256 < 4096 := by omega
    rw [dif_pos (show 256 ≤ (ix2 t c 0).val from h), if_pos h]
    obtain ⟨v, hv⟩ := hx (ix2 ⟨t.val - 256, h4⟩ c)
    refine (pay2_at x0 ⟨t.val - 256, h4⟩ c).trans ?_
    unfold tokB
    rw [dif_pos h4, hv, EReal.toReal_coe]
  · rw [dif_neg (show ¬256 ≤ (ix2 t c 0).val from h), if_neg h, pay1_at, EReal.coe_zero]

/-- The sum of a window's tokens. -/
def windowSum (f : ℕ → ℝ) (W t : ℕ) : ℝ := ∑ i ∈ Finset.Ico (t + 1 - W) (t + 1), f i

/-- The window's sum over the padded tokens. -/
theorem windowSum_padded (f : ℕ → ℝ) (W n r : ℕ) (hW : W ≤ 256) :
    ∑ j ∈ Finset.Ico (r + 257 - W) (r + 257), (if 256 ≤ 256 * n + j then f (256 * n + j - 256) else 0) = windowSum f W (256 * n + r) := by
  unfold windowSum
  have e := Finset.sum_Ico_add' (fun p => if 256 ≤ p then f (p - 256) else 0) (r + 257 - W) (r + 257) (256 * n)
  have e' := Finset.sum_Ico_add' (fun p => if 256 ≤ p then f (p - 256) else 0) (256 * n + r + 1 - W) (256 * n + r + 1) 256
  have l : ∀ j, 256 * n + j = j + 256 * n := fun j => Nat.add_comm _ _
  have k : ∑ i ∈ Finset.Ico (256 * n + r + 1 - W) (256 * n + r + 1), f i
      = ∑ i ∈ Finset.Ico (256 * n + r + 1 - W) (256 * n + r + 1), (if 256 ≤ i + 256 then f (i + 256 - 256) else 0) :=
    Finset.sum_congr rfl fun i _ => by rw [if_pos (by omega), Nat.add_sub_cancel]
  rw [k, e', Finset.sum_congr rfl fun j _ => by rw [l j], e]
  refine (Finset.sum_subset (fun p hp => ?_) fun p hp hn => ?_).symm
  · rw [Finset.mem_Ico] at hp ⊢; omega
  · rw [Finset.mem_Ico] at hp hn
    exact if_neg (by omega)

include hx in
/-- The pooled token. -/
theorem meanRows_at (b : Fin 4) (t : Fin 4096) (c : Fin 256) : meanRows (branch (F := Ideal) b.val) (padded (F := Ideal) x0) (ix2 t c)
    = ((windowSum (tokB x0 c) (2 ^ (b.val + 1)) t.val / (((min (t.val + 1) (2 ^ (b.val + 1)) : ℕ) : ℤ) : ℝ) - tokB x0 c t.val : ℝ) : EReal) := by
  have ht := t.isLt
  have hb : 2 ^ (b.val + 1) ≤ 16 := (by decide : ∀ b : Fin 4, 2 ^ (b.val + 1) ≤ 16) b
  have hm : 256 * (t.val / 256) + t.val % 256 = t.val := by omega
  have hc : (((min (t.val + 1) (2 ^ (b.val + 1)) : ℕ) : ℤ) : ℝ) ≠ 0 := by
    have : 0 < 2 ^ (b.val + 1) := Nat.two_pow_pos _
    exact_mod_cast (by omega : min (t.val + 1) (2 ^ (b.val + 1)) ≠ 0)
  have hz : ∀ j : Fin 512, rows (F := Ideal) 512 (padded (F := Ideal) x0) (t.val / 256) (ix2 j c)
      = ((if 256 ≤ 256 * (t.val / 256) + j.val then tokB x0 c (256 * (t.val / 256) + j.val - 256) else 0 : ℝ) : EReal) := fun j => by
    have hj := j.isLt
    refine (padded_at x0 hx _ c).trans ?_
    show ((if 256 ≤ (256 * (t.val / 256) + j.val) % 4352 then tokB x0 c ((256 * (t.val / 256) + j.val) % 4352 - 256) else 0 : ℝ) : EReal) = _
    rw [Nat.mod_eq_of_lt (by omega)]
  refine (mean_at _ b (group (ix2 t c)) ⟨t.val % 256, Nat.mod_lt _ (by decide)⟩ c).trans ?_
  refine (congrArg (· * Ideal.div 1 _ - _) ((banded_real b _ (fun j => if 256 ≤ 256 * (t.val / 256) + j then tokB x0 c (256 * (t.val / 256) + j - 256) else 0)
    hz _).trans (congrArg _ (windowSum_padded _ _ (t.val / 256) (t.val % 256) (by omega))))).trans ?_
  show _ * Ideal.div 1 (((min (256 * (t.val / 256) + t.val % 256 + 1) (2 ^ (b.val + 1)) : ℕ) : ℤ) : ℝ) - _ = _
  refine (congrArg (_ - ·) (hz ⟨256 + t.val % 256, by omega⟩)).trans ?_
  show _ - ((if 256 ≤ 256 * (t.val / 256) + (256 + t.val % 256) then tokB x0 c (256 * (t.val / 256) + (256 + t.val % 256) - 256) else 0 : ℝ) : EReal) = _
  rw [hm, if_pos (by omega), show 256 * (t.val / 256) + (256 + t.val % 256) - 256 = t.val by omega]
  unfold Ideal.div
  rw [if_neg (fun e => hc (EReal.coe_eq_zero.mp e)), one_mul, ← EReal.coe_inv, ← EReal.coe_mul, ← EReal.coe_sub, div_eq_mul_inv]

/-- The branch's output at a token. -/
theorem outRows_at (z : FVec Ideal S4352x256 .f32) (b : Fin 4) (t : Fin 4096) (d : Fin 256) : outRows (branch (F := Ideal) b.val) z x1 x2 (ix2 t d)
    = (∑ c, meanRows (branch (F := Ideal) b.val) z (ix2 t c) * x1 (ix3 0 c d)) * x2 (ix3 0 0 d) :=
  out_at _ x1 x2 b (group (ix2 t d)) ⟨t.val % 256, Nat.mod_lt _ (by decide)⟩ d

end

end Cert.PoolfIdeal.Val

end
-- ==== Proof.Poolf.Ref.lean ====
/- The pooled branch as the reference computes it, entry by entry. -/
module

public import proofs.«01_k».proof.Proof.Gen.RefPoolfIdeal.Read
public import Idealize.ShloMosaic.Lib.Pointwise
public import proofs.«01_k».proof.Proof.Math.Window
public import proofs.«01_k».proof.Proof.Math.Ln
public import proofs.«01_k».proof.Proof.Math.Finite

@[expose] public section

set_option maxRecDepth 16384

noncomputable section

namespace Math

open Idealize.ShloMosaic Finset

/-- A window of the second of four axes, of that axis' whole length, that ends at the index: the sum up to the index. -/
theorem prefix_second {A B C D L : ℕ} {u : Shape} (x : FVec Ideal ⟨4, ![A, B, C, D]⟩ .f32) (init : FVec Ideal u .f32)
    (h : (⟨4, ![A, B, C, D]⟩ : Shape).ReduceWindows ![1, B, 1, 1] ![1, 1, 1, 1] ![0, L, 0, 0] ![0, 0, 0, 0] ⟨4, ![A, B, C, D]⟩) (hu : 0 < u.numel)
    (h0 : ∀ i, init i = 0) (hL : L + 1 = B) (a : Fin A) (b : Fin B) (c : Fin C) (d : Fin D) (f : ℕ → EReal)
    (hf : ∀ k : Fin B, x (ix4 a k c d) = f k.val) :
    Host.reduceWindowAdd ![1, B, 1, 1] ![1, 1, 1, 1] ![0, L, 0, 0] ![0, 0, 0, 0] x init h hu (ix4 a b c d) = ∑ k ∈ range (b.val + 1), f k := by
  show Host.reduceWindow (· + ·) ![1, B, 1, 1] ![1, 1, 1, 1] ![0, L, 0, 0] ![0, 0, 0, 0] x (fun _ : (⟨0, ![]⟩ : Shape).Idx => init (Shape.Idx.first hu)) h (by decide) (ix4 a b c d) = _
  unfold Host.reduceWindow
  dsimp only
  rw [foldl_add, h0, zero_add, ← Fin.sum_univ_def]
  have hb := b.isLt
  let t : Fin B → EReal := fun w => if L ≤ b.val + w.val then f (b.val + w.val - L) else 0
  refine Eq.trans (Finset.sum_congr rfl (g := fun n => t ((Shape.rowMajor (⟨4, ![1, B, 1, 1]⟩ : Shape)).symm n 1)) fun n _ => ?_) ?_
  · let W := (Shape.rowMajor (⟨4, ![1, B, 1, 1]⟩ : Shape)).symm n
    have z0 : (W 0).val = 0 := Nat.lt_one_iff.mp (W 0).isLt
    have z1 : (W 1).val < B := (W 1).isLt
    have z2 : (W 2).val = 0 := Nat.lt_one_iff.mp (W 2).isLt
    have z3 : (W 3).val = 0 := Nat.lt_one_iff.mp (W 3).isLt
    by_cases hin : L ≤ b.val + (W 1).val
    · refine Eq.trans ?_ (show t (W 1) = _ from if_pos hin).symm
      rw [dif_pos, ← hf ⟨b.val + (W 1).val - L, by omega⟩]
      · refine congrArg x (funext fun e => Fin.ext ?_)
        match e with
        | 0 => show a.val * 1 + (W 0).val - 0 = a.val; omega
        | 1 => show b.val * 1 + (W 1).val - L = b.val + (W 1).val - L; omega
        | 2 => show c.val * 1 + (W 2).val - 0 = c.val; omega
        | 3 => show d.val * 1 + (W 3).val - 0 = d.val; omega
      · intro e
        match e with
        | 0 => exact ⟨Nat.zero_le _, by show a.val * 1 + (W 0).val - 0 < A; have := a.isLt; omega⟩
        | 1 => exact ⟨by show L ≤ b.val * 1 + (W 1).val; omega, by show b.val * 1 + (W 1).val - L < B; omega⟩
        | 2 => exact ⟨Nat.zero_le _, by show c.val * 1 + (W 2).val - 0 < C; have := c.isLt; omega⟩
        | 3 => exact ⟨Nat.zero_le _, by show d.val * 1 + (W 3).val - 0 < D; have := d.isLt; omega⟩
    · refine Eq.trans ?_ (show t (W 1) = _ from if_neg hin).symm
      rw [dif_neg]
      intro hall
      have h2 : L ≤ b.val * 1 + (W 1).val ∧ b.val * 1 + (W 1).val - L < B := hall 1
      exact hin (by omega)
  · rw [Equiv.sum_comp (Shape.rowMajor (⟨4, ![1, B, 1, 1]⟩ : Shape)).symm (fun W : (⟨4, ![1, B, 1, 1]⟩ : Shape).Idx => t (W 1))]
    refine Eq.trans (b := ∑ w, t w) ?_ ?_
    · symm
      refine Fintype.sum_bijective (fun w : Fin B => (ix4 0 w 0 0 : (⟨4, ![1, B, 1, 1]⟩ : Shape).Idx)) ⟨?_, ?_⟩ _ _ fun _ => rfl
      · intro p q e
        exact congrFun e 1
      · intro W
        refine ⟨W 1, ?_⟩
        rw [eq_ix4 W]
        exact congr (congr (congrArg (fun p => ix4 p (W 1)) (Subsingleton.elim _ _)) (Subsingleton.elim _ _)) (Subsingleton.elim _ _)
    · show ∑ w : Fin B, (if L ≤ b.val + w.val then f (b.val + w.val - L) else 0) = _
      rw [Fin.sum_univ_eq_sum_range (fun w => if L ≤ b.val + w then f (b.val + w - L) else 0) B, ← Finset.sum_filter]
      refine Finset.sum_bij (fun w _ => b.val + w - L) ?_ ?_ ?_ ?_
      · intro w hw; simp only [mem_filter, mem_range] at hw ⊢; omega
      · intro w hw w' hw' e; simp only [mem_filter, mem_range] at hw hw'; omega
      · intro k hk; simp only [mem_range] at hk
        exact ⟨k + L - b.val, by simp only [mem_filter, mem_range]; omega, by omega⟩
      · intro w _; rfl

end Math

namespace Cert.RefPoolfIdeal.Val

open Idealize.ShloMosaic Idealize.ShloMosaic.TcCoe Cert.RefPoolfIdeal Cert.RefPoolfIdeal.Gen Cert.RefPoolfIdeal.Read Math

variable (u : FVec Ideal S4096x1024 .f32) (w : FVec Ideal S1x4x256x256 .f32) (s : FVec Ideal S1x4x256 .f32)

/-- Channel `c` of group `g`. -/
def chan (g : Fin 4) (c : Fin 256) : Fin 1024 := ⟨g.val * 256 + c.val, by omega⟩

theorem chan_div (g : Fin 4) (c : Fin 256) : (chan g c).val / 256 = g.val := by show (g.val * 256 + c.val) / 256 = _; omega
theorem chan_mod (g : Fin 4) (c : Fin 256) : (chan g c).val % 256 = c.val := by show (g.val * 256 + c.val) % 256 = _; omega

/-! ## The windows -/

/-- The length of a group's window. -/
abbrev len (g : Fin 4) : ℕ := 2 ^ (g.val + 1)

theorem start_word : ∀ (t : Fin 4096) (g : Fin 4),
    IntOp.maxsi (IntOp.subi (IntOp.addi (BitVec.ofNat 32 t.val) 1#32) (IntOp.shli ArithUnit.host 2#32 (BitVec.ofNat 32 g.val))) 0#32
      = BitVec.ofNat 32 (t.val + 1 - 2 ^ (g.val + 1)) := by decide +kernel

theorem v19_at (t : Fin 4096) (g : Fin 4) : val_main_v19 (F := Ideal) (ix2 t g) = BitVec.ofNat 32 (t.val + 1 - len g) := by
  pointwise [val_main_v19, val_main_v17, val_main_v15, val_main_v16, val_main_v13, val_main_v11, val_main_v14, val_main_v10, val_main_v9,
    val_main_v8, val_main_v7, val_main_v12, val_main_v18]
  exact start_word t g

theorem count_word : ∀ (t : Fin 4096) (g : Fin 4),
    (IntOp.subi (IntOp.addi (BitVec.ofNat 32 t.val) 1#32) (BitVec.ofNat 32 (t.val + 1 - 2 ^ (g.val + 1)))).toInt
      = ((min (t.val + 1) (2 ^ (g.val + 1)) : ℕ) : ℤ) := by decide +kernel

/-- How many tokens a window holds. -/
def count (t : Fin 4096) (g : Fin 4) : ℝ := ((min (t.val + 1) (len g) : ℕ) : ℤ)

theorem v25_at (t : Fin 4096) (g : Fin 4) : val_main_v25 (F := Ideal) (ix2 t g) = ((count t g : ℝ) : EReal) := by
  pointwise [val_main_v25, val_main_v24, val_main_v23, val_main_v22, val_main_v20, val_main_v21, val_main_v7, v19_at]
  exact congrArg (fun i : ℤ => ((i : ℝ) : EReal)) (count_word t g)

theorem row_word : ∀ (t : Fin 4096) (g : Fin 4),
    (Scalar.select (IntOp.cmpi CmpIPredicate.slt (BitVec.ofNat 32 (t.val + 1 - 2 ^ (g.val + 1))) 0#32)
      (IntOp.addi (BitVec.ofNat 32 (t.val + 1 - 2 ^ (g.val + 1))) 4097#32) (BitVec.ofNat 32 (t.val + 1 - 2 ^ (g.val + 1)))).toInt
      = ((t.val + 1 - 2 ^ (g.val + 1) : ℕ) : ℤ) := by decide +kernel

theorem group_word : ∀ g : Fin 4, (Scalar.select (IntOp.cmpi CmpIPredicate.slt (BitVec.ofNat 32 g.val) 0#32)
      (IntOp.addi (BitVec.ofNat 32 g.val) 4#32) (BitVec.ofNat 32 g.val)).toInt = (g.val : ℤ) := by decide +kernel

theorem v41_row (t : Fin 4096) (g : Fin 4) : (val_main_v41 (F := Ideal) (ix3 t g 0)).toInt = ((t.val + 1 - len g : ℕ) : ℤ) := by
  refine Eq.trans (congrArg BitVec.toInt ?_) (row_word t g)
  pointwise [val_main_v41, val_main_v39, val_main_v32, val_main_v29, val_main_v28, val_main_v31, val_main_v30, v19_at]
  rfl

theorem v41_group (t : Fin 4096) (g : Fin 4) : (val_main_v41 (F := Ideal) (ix3 t g 1)).toInt = (g.val : ℤ) := by
  refine Eq.trans (congrArg BitVec.toInt ?_) (group_word g)
  pointwise [val_main_v41, val_main_v40, val_main_v38, val_main_v37, val_main_v34, val_main_v36, val_main_v27, val_main_v26, val_main_v33, val_main_v35]
  rfl

/-- The row and the group that the table names for an entry. -/
theorem gather_at (x : FVec Ideal S1x4097x4x256 .f32) (idx : IVec S4096x4x2 32) (t : Fin 4096) (g : Fin 4) (c : Fin 256) (k : Fin 4097) (q : Fin 4)
    (hk : (idx (ix3 t g 0)).toInt = k.val) (hq : (idx (ix3 t g 1)).toInt = q.val) :
    Host.gather gather_S1x4097x4x256_S4096x4x2_S1x4096x4x256_03_12_n_n_12_2_111256 x idx (ix4 0 t g c) = x (ix4 0 k q c) := by
  let d := gather_S1x4097x4x256_S4096x4x2_S1x4096x4x256_03_12_n_n_12_2_111256
  let i : S1x4096x4x256.Idx := ix4 0 t g c
  have s0 : d.start i idx 0 = 0 := dif_neg (by decide)
  have s3 : d.start i idx 3 = 0 := dif_neg (by decide)
  have s1 : d.start i idx 1 = min (idx (ix3 t g 0)).toInt.toNat 4096 := by
    refine (dif_pos (by decide)).trans (congrArg (fun q => min (idx q).toInt.toNat 4096) ((eq_ix3 _).trans ?_))
    exact congr (congr (congrArg ix3 rfl) rfl) rfl
  have s2 : d.start i idx 2 = min (idx (ix3 t g 1)).toInt.toNat 3 := by
    refine (dif_pos (by decide)).trans (congrArg (fun q => min (idx q).toInt.toNat 3) ((eq_ix3 _).trans ?_))
    exact congr (congr (congrArg ix3 rfl) rfl) rfl
  have b : ∀ a, d.batchCoord i a = 0 := fun a => GatherDims.batchCoord_eq_zero _ _ _ List.not_mem_nil
  have o0 : d.offCoord i 0 = 0 := rfl
  have o1 : d.offCoord i 1 = 0 := dif_neg (by decide)
  have o2 : d.offCoord i 2 = 0 := dif_neg (by decide)
  have o3 : d.offCoord i 3 = c.val := rfl
  rw [hk] at s1
  rw [hq] at s2
  have hk' := k.isLt
  have hq' := q.isLt
  refine congrArg x (funext fun a => Fin.ext ?_)
  show d.start i idx a + d.batchCoord i a + d.offCoord i a = _
  rw [b]
  match a with
  | 0 => rw [s0, o0]; rfl
  | 1 => rw [s1, o1]; show min (k.val : ℤ).toNat 4096 + 0 + 0 = k.val; omega
  | 2 => rw [s2, o2]; show min (q.val : ℤ).toNat 3 + 0 + 0 = q.val; omega
  | 3 => rw [s3, o3]; show 0 + 0 + c.val = c.val; omega

theorem v42_at (t : Fin 4096) (g : Fin 4) (c : Fin 256) :
    val_main_v42 (F := Ideal) u (ix4 0 t g c) = val_main_v6 (F := Ideal) u (ix4 0 ⟨t.val + 1 - len g, by omega⟩ g c) :=
  gather_at _ _ t g c _ g (v41_row t g) (v41_group t g)

/-! ## The sums -/

theorem v3_at (t : Fin 4096) (g : Fin 4) (c : Fin 256) : val_main_v3 (F := Ideal) u (ix4 0 t g c) = u (ix2 t (chan g c)) := by
  pointwise [val_main_v3, val_main_v0]
  rfl

theorem v6_zero (g : Fin 4) (c : Fin 256) : val_main_v6 (F := Ideal) u (ix4 0 0 g c) = 0 := by
  pointwise [val_main_v6, val_main_v4, val_main_cst]

theorem v6_succ (k : Fin 4096) (g : Fin 4) (c : Fin 256) :
    val_main_v6 (F := Ideal) u (ix4 0 ⟨k.val + 1, by omega⟩ g c) = val_main_v5 (F := Ideal) u (ix4 0 k g c) := by
  pointwise [val_main_v6]
  exact dif_neg (by omega)

theorem v5_at (t : Fin 4096) (g : Fin 4) (c : Fin 256) (f : ℕ → EReal) (hf : ∀ k : Fin 4096, val_main_v3 (F := Ideal) u (ix4 0 k g c) = f k.val) :
    val_main_v5 (F := Ideal) u (ix4 0 t g c) = ∑ k ∈ Finset.range (t.val + 1), f k :=
  prefix_second _ _ _ _ (fun _ => by pointwise [val_main_call0_call0_v0, val_main_call0_call0_cst]) rfl 0 t g c f hf

/-- Channel `c` of group `g` of the tokens, as real numbers; zero past the last token. -/
def tok (g : Fin 4) (c : Fin 256) (t : ℕ) : ℝ := if h : t < 4096 then (u (ix2 ⟨t, h⟩ (chan g c))).toReal else 0

section real

variable (hu : ∀ i, IsReal (u i))

include hu

theorem v3_real (t : Fin 4096) (g : Fin 4) (c : Fin 256) : val_main_v3 (F := Ideal) u (ix4 0 t g c) = ((tok u g c t.val : ℝ) : EReal) := by
  obtain ⟨r, hr⟩ := hu (ix2 t (chan g c))
  rw [v3_at]
  unfold tok
  rw [dif_pos t.isLt, hr, EReal.toReal_coe]

theorem v6_real (k : Fin 4097) (g : Fin 4) (c : Fin 256) :
    val_main_v6 (F := Ideal) u (ix4 0 k g c) = ((∑ i ∈ Finset.range k.val, tok u g c i : ℝ) : EReal) := by
  obtain ⟨k, hk⟩ := k
  cases k with
  | zero => exact (v6_zero u g c).trans (by rw [Finset.sum_range_zero, EReal.coe_zero])
  | succ k =>
    exact (v6_succ u ⟨k, by omega⟩ g c).trans ((v5_at u ⟨k, by omega⟩ g c (fun i => ((tok u g c i : ℝ) : EReal)) fun i => v3_real u hu i g c).trans (coe_sum _ _))

/-- The pooled value: the mean over the window less the token. -/
theorem v48_real (t : Fin 4096) (g : Fin 4) (c : Fin 256) : val_main_v48 (F := Ideal) u (ix4 0 t g c)
    = (((∑ i ∈ Finset.Ico (t.val + 1 - len g) (t.val + 1), tok u g c i) / count t g - tok u g c t.val : ℝ) : EReal) := by
  have hc : count t g ≠ 0 := by
    unfold count
    have : 0 < 2 ^ (g.val + 1) := Nat.two_pow_pos _
    exact_mod_cast (by omega : min (t.val + 1) (2 ^ (g.val + 1)) ≠ 0)
  refine Eq.trans (b := Ideal.div (val_main_v6 (F := Ideal) u (ix4 0 ⟨t.val + 1, by omega⟩ g c)
    - val_main_v6 (F := Ideal) u (ix4 0 ⟨t.val + 1 - len g, by omega⟩ g c)) (count t g : ℝ) - val_main_v3 (F := Ideal) u (ix4 0 t g c)) ?_ ?_
  · pointwise [val_main_v48, val_main_v47, val_main_v46, val_main_v45, val_main_v44, val_main_v43, v42_at, v25_at]
    simp only [Nat.add_comm 1]
  · rw [v6_real u hu, v6_real u hu, v3_real u hu, ← EReal.coe_sub, Finset.sum_Ico_eq_sub _ (Nat.sub_le _ _)]
    unfold Ideal.div
    rw [if_neg (fun e => hc (EReal.coe_eq_zero.mp e)), ← EReal.coe_inv, ← EReal.coe_mul, ← EReal.coe_sub, div_eq_mul_inv]

end real

/-! ## The two results -/

theorem v105_at (t : Fin 4096) (g : Fin 4) (c : Fin 256) :
    val_main_v105 (F := Ideal) u (ix2 t (chan g c)) = val_main_v48 (F := Ideal) u (ix4 0 t g c) := by
  refine Eq.trans (b := val_main_v103 (F := Ideal) u (ix4 0 t g c)) ?_ rfl
  pointwise [val_main_v105, val_main_v104]
  simp only [chan_div, chan_mod]

theorem v56_at (t : Fin 4096) (g : Fin 4) (d : Fin 256) : val_main_v56 (F := Ideal) u w s (ix2 t (chan g d))
    = (∑ c, w (ix4 0 g c d) * val_main_v48 (F := Ideal) u (ix4 0 t g c)) * s (ix3 0 g d) := by
  pointwise [val_main_v56, val_main_v55, val_main_v54, val_main_v53, val_main_v52, val_main_v51, val_main_v50, val_main_v49, val_main_v1, val_main_v2]
  simp only [chan_div, chan_mod]

end Cert.RefPoolfIdeal.Val

end
-- ==== Proof.Poolf.Equal.lean ====
/- What the kernel leaves is the reference's two arrays. -/
module

public import proofs.«01_k».proof.Proof.Poolf.Launch
public import proofs.«01_k».proof.Proof.Poolf.Kernel
public import proofs.«01_k».proof.Proof.Poolf.Ref
public import proofs.«01_k».proof.Proof.Gen.Pre_finite_poolf
public import Idealize.ShloMosaic.Lib.Pipeline.ValueKit

@[expose] public section

set_option maxRecDepth 16384

noncomputable section

namespace Cert.PoolfIdeal.Val

open Idealize.ShloMosaic Idealize.ShloMosaic.TcCoe Idealize.SL.Sem Cert.PoolfIdeal Cert.PoolfIdeal.Gen Cert.PoolfIdeal.Run Math Finset
open Cert.RefPoolfIdeal.Val (chan tok count)

instance : Subsingleton Cert.Pre_finite_poolf.S_.Idx := ⟨fun _ _ => funext fun a => a.elim0⟩

/-- The precondition says that the branch's input is real. -/
theorem pre_real [Cert.Pre_finite_poolf.Facts] (U : FVec Ideal S4096x1024 .f32) (W : FVec Ideal S1x4x256x256 .f32)
    (S : FVec Ideal S1x4x256 .f32) (h : Cert.Pre_finite_poolf.fn (F := Ideal) U W S = fun _ => 1#1) : ∀ i, IsReal (U i) := by
  have h0 := congrFun h (fun a => a.elim0)
  dsimp only [Cert.Pre_finite_poolf.fn] at h0
  exact real_of_all U _ _ _ _ _ h0

variable (m : (ℓ : Loc nD τ sig) → Buf (Elt Ideal) ℓ) (c : Dev nD)

/-- Which blocks a point reads and writes. -/
theorem idx : ∀ t : Fin cfg0.N, win0_0.index t = ![0, t.val] ∧ win0_1.index t = ![t.val, 0, 0] ∧ win0_2.index t = ![t.val, 0, 0]
    ∧ win0_3.index t = ![0, t.val] ∧ win0_4.index t = ![0, t.val] :=
  (by decide +kernel : ∀ t : Fin grid0.N, _)

/-- The arguments, at their own types. -/
def argU : FVec Ideal S4096x1024 .f32 := m ((c.tc : Thread nD τ).loc main_arg0)
def argW : FVec Ideal S1x4x256x256 .f32 := m ((c.tc : Thread nD τ).loc main_arg1)
def argS : FVec Ideal S1x4x256 .f32 := m ((c.tc : Thread nD τ).loc main_arg2)

/-- The group of channels a point works on. -/
def grp (t : Fin cfg0.N) : Fin 4 := ⟨t.val, t.isLt⟩

/-- The blocks a point reads, at the kernel's own types. -/
def blkU (t : Fin cfg0.N) : FVec Ideal S4096x256 .f32 := iblk m c 0 t
def blkW (t : Fin cfg0.N) : FVec Ideal S1x256x256 .bf16 := iblk m c 1 t
def blkS (t : Fin cfg0.N) : FVec Ideal S1x1x256 .f32 := iblk m c 2 t

theorem blkU_at (t : Fin cfg0.N) (r : Fin 4096) (d : Fin 256) : blkU m c t (ix2 r d) = argU m c (ix2 r (chan (grp t) d)) := by
  have e : ∀ R, (show FVec Ideal S4096x1024 .f32 from V m c main_arg0) (ix2 r R) = argU m c (ix2 r R) := fun R =>
    congrFun (V_main_arg0 m c) _
  rw [← e]
  unfold blkU chan grp
  blk_ext [iblk, idx t]

theorem blkW_at (t : Fin cfg0.N) (k d : Fin 256) : blkW m c t (ix3 0 k d) = argW m c (ix4 0 (grp t) k d) := by
  have e : ∀ g : Fin 4, (show FVec Ideal S4x256x256 .bf16 from V m c main_v1) (ix3 g k d) = argW m c (ix4 0 g k d) := fun g => by
    entry_read
    show truncf (F := Ideal) .bf16 (shapeCast S4x256x256 (argW m c) shapeCasts_S1x4x256x256_S4x256x256)
      bitsLt_bf16_f32 (ix3 g k d) = _
    pointwise
  rw [← e]
  unfold blkW grp
  blk_ext [iblk, idx t]

theorem blkS_at (t : Fin cfg0.N) (d : Fin 256) : blkS m c t (ix3 0 0 d) = argS m c (ix3 0 (grp t) d) := by
  have e : ∀ g : Fin 4, (show FVec Ideal S4x1x256 .f32 from V m c main_v2) (ix3 g 0 d) = argS m c (ix3 0 g d) := fun g => by
    entry_read
    show shapeCast S4x1x256 (argS m c) shapeCasts_S1x4x256_S4x1x256 (ix3 g 0 d) = _
    pointwise
  rw [← e]
  unfold blkS grp
  blk_ext [iblk, idx t]

theorem tok_at (t : Fin cfg0.N) (k : Fin 256) (n : ℕ) : tokB (blkU m c t) k n = tok (argU m c) (grp t) k n := by
  unfold tokB tok
  simp only [blkU_at]

/-! ## The two arrays -/

section Real

variable {m c} (hu : ∀ i, IsReal (argU m c i))
include hu

theorem mean_group (t : Fin cfg0.N) (r : Fin 4096) (k : Fin 256) :
    meanRows (F := Ideal) (branch (grp t).val) (padded (blkU m c t)) (ix2 r k)
      = Cert.RefPoolfIdeal.Read.val_main_v48 (F := Ideal) (argU m c) (ix4 0 r (grp t) k) := by
  have hb : ∀ i, IsReal (blkU m c t i) := fun i => by rw [eq_ix2 i]; exact (blkU_at m c t _ _).symm ▸ hu _
  rw [meanRows_at _ hb, Cert.RefPoolfIdeal.Val.v48_real _ hu]
  unfold windowSum
  simp only [tok_at]
  rfl

/-- The pooled tokens. -/
theorem mean_eq : (dats m 0 c).arrAt 4 cfg0.N = Cert.RefPoolfIdeal.Read.val_main_v105 (F := Ideal) (argU m c) := by
  have key : ∀ (t : Fin cfg0.N) (r : Fin 4096) (k : Fin 256),
      meanRows (F := Ideal) (branch (grp t).val) (padded (blkU m c t)) (ix2 r k)
        = Cert.RefPoolfIdeal.Read.val_main_v105 (F := Ideal) (argU m c) (ix2 r (chan (grp t) k)) := fun t r k => by
    rw [mean_group hu, Cert.RefPoolfIdeal.Val.v105_at]
  refine (dats m 0 c).arrAt_eq_of_covers 4 _ (by decide +kernel) fun t hf y => ?_
  blk_simp
  refine Eq.trans (congrArg (meanRows (F := Ideal) (branch (grp t).val) (padded (blkU m c t))) (eq_ix2 y)) ((key t (y 0) (y 1)).trans ?_)
  unfold chan grp
  blk_ext [idx t]

/-- The branch's output. -/
theorem y_eq : (dats m 0 c).arrAt 3 cfg0.N = Cert.RefPoolfIdeal.Read.val_main_v56 (F := Ideal) (argU m c) (argW m c) (argS m c) := by
  have key : ∀ (t : Fin cfg0.N) (r : Fin 4096) (k : Fin 256),
      outRows (F := Ideal) (branch (grp t).val) (padded (blkU m c t)) (blkW m c t) (blkS m c t) (ix2 r k)
        = Cert.RefPoolfIdeal.Read.val_main_v56 (F := Ideal) (argU m c) (argW m c) (argS m c) (ix2 r (chan (grp t) k)) := fun t r k => by
    rw [outRows_at, Cert.RefPoolfIdeal.Val.v56_at, blkS_at]
    refine congrArg (· * _) (Finset.sum_congr rfl fun d _ => ?_)
    rw [mean_group hu, blkW_at, mul_comm]
  refine (dats m 0 c).arrAt_eq_of_covers 3 _ (by decide +kernel) fun t hf y => ?_
  blk_simp
  refine Eq.trans (congrArg (outRows (F := Ideal) (branch (grp t).val) (padded (blkU m c t)) (blkW m c t) (blkS m c t)) (eq_ix2 y))
    ((key t (y 0) (y 1)).trans ?_)
  unfold chan grp
  blk_ext [idx t]

end Real

end Cert.PoolfIdeal.Val

end
-- ==== Proof.Poolf.Claim.lean ====
module

public import proofs.«01_k».proof.Defs
public import proofs.«01_k».proof.Proof.Gen.Poolf
public import proofs.«01_k».proof.Proof.Poolf.Launch
public import proofs.«01_k».proof.Proof.Gen.RefPoolfIdeal.Run
public import proofs.«01_k».proof.Proof.Gen.RefPoolfIdeal.Read
public import proofs.«01_k».proof.Proof.Poolf.Equal

/-! The claims on the pooled branch's forward pass. -/

@[expose] public section

noncomputable section

open Idealize.ShloMosaic Idealize.ShloMosaic.TcCoe

namespace Cert.Proof

/-- The reference runs to its end, leaves its arguments as they were, and has no counter to leave. -/
theorem frame_ref_poolf : @Cert.quiescent_RefPoolfIdeal Cert.RefPoolfIdeal.Gen.facts := fun m g _ =>
  θ_run_mono (Cert.RefPoolfIdeal.Value.run m g) fun r h =>
    ⟨fun c => (h c).2.2, sem_eq_zero_of_no_sems (by decide) r.2⟩

/-! ## The program as the machine runs it

It is the ideal program's text read with bit patterns for numbers, so its frame is the frame of that
text. Only the tables of bodies have to be compared label by label. -/

theorem poolf_bodies : @Cert.Poolf.defs₀ Bits _ Cert.Poolf.Gen.facts = @Cert.PoolfIdeal.defs₀ Bits _ Cert.PoolfIdeal.Gen.facts :=
  congrArg Defs.onTc (funext fun l => match l with
    | 0 => funext fun _ => rfl
    | ⟨_ + 1, h⟩ => absurd h (Nat.not_lt.2 (Nat.le_add_left _ _)))

theorem poolf_defs : @Cert.Poolf.defs Bits _ Cert.Poolf.Gen.facts = @Cert.PoolfIdeal.defs Bits _ Cert.PoolfIdeal.Gen.facts :=
  congrArg (Pipeline.defs (@Cert.PoolfIdeal.pcfgs Bits Cert.PoolfIdeal.Gen.facts)) poolf_bodies

set_option maxRecDepth 65536 in
set_option maxHeartbeats 2000000 in
theorem frame_poolf : @Cert.quiescent_Poolf Cert.Poolf.Gen.facts := fun m g _ =>
  (congrArg (fun d => θ_run d (onTc (τ := Cert.PoolfIdeal.τ) (@Cert.PoolfIdeal.main Bits _ Cert.PoolfIdeal.Gen.facts))
    ⟨m, fun _ => 0, g⟩ _) poolf_defs).mpr (Cert.PoolfIdeal.Run.frame m g)

theorem frame_poolf_ideal : @Cert.quiescent_PoolfIdeal Cert.PoolfIdeal.Gen.facts := fun m g _ => Cert.PoolfIdeal.Run.frame m g

set_option maxRecDepth 16384 in
set_option maxHeartbeats 2000000 in
/-- The pooled branch's forward pass. -/
theorem poolf : @Cert.algebraic_PoolfIdeal_RefPoolfIdeal_pre_finite_poolf Cert.PoolfIdeal.Gen.facts Cert.RefPoolfIdeal.Gen.facts
    Cert.Pre_finite_poolf.Gen.facts := by
  intro m g m' g' hpre hagree
  have hreal := fun c => Cert.PoolfIdeal.Val.pre_real _ _ _ (hpre c)
  refine ⟨fun c => (Cert.PoolfIdeal.Run.dats m 0 c).arrAt 3 Cert.PoolfIdeal.cfg0.N, fun c => (Cert.PoolfIdeal.Run.dats m 0 c).arrAt 4 Cert.PoolfIdeal.cfg0.N, ?_, ?_⟩
  · exact θ_run_mono (θ_run_and (Cert.PoolfIdeal.Run.run m g) (Cert.PoolfIdeal.Run.frame m g)) fun r h c =>
      ⟨(h.1.1 c).1 3, (h.1.1 c).1 4, (h.2.1 c).1, (h.2.1 c).2.1, (h.2.1 c).2.2⟩
  · run_from Cert.RefPoolfIdeal.Value.run m' g'
    all_goals obtain ⟨a0, a1, a2⟩ := hagree c
    · refine (Cert.RefPoolfIdeal.Read.val_main_v56_eq m' c).trans ?_
      rw [a0, a1, a2]
      exact (Cert.PoolfIdeal.Val.y_eq (hreal c)).symm
    · refine (Cert.RefPoolfIdeal.Read.val_main_v105_eq m' c).trans ?_
      rw [a0]
      exact (Cert.PoolfIdeal.Val.mean_eq (hreal c)).symm

end Cert.Proof

end
-- ==== Proof.lean ====
/- The proof of the certificate's claim. -/
module

public import proofs.«01_k».proof.Defs
public import proofs.«01_k».proof.Proof.Gen.Dh0
public import proofs.«01_k».proof.Proof.Gen.Dh0.Frame
public import proofs.«01_k».proof.Proof.Dh0.Claim
public import proofs.«01_k».proof.Proof.Gen.Dh1
public import proofs.«01_k».proof.Proof.Gen.Dh1.Frame
public import proofs.«01_k».proof.Proof.Dh1.Claim
public import proofs.«01_k».proof.Proof.Gen.Ff2
public import proofs.«01_k».proof.Proof.Gen.Ff2.Frame
public import proofs.«01_k».proof.Proof.Ff2.Claim
public import proofs.«01_k».proof.Proof.Gen.Dff1
public import proofs.«01_k».proof.Proof.Gen.Dff1.Frame
public import proofs.«01_k».proof.Proof.Dff1.Claim
public import proofs.«01_k».proof.Proof.Attn.Claim
public import proofs.«01_k».proof.Proof.AttnPlain.Launch
public import proofs.«01_k».proof.Proof.Gen.Pool
public import proofs.«01_k».proof.Proof.Pool.Claim
public import proofs.«01_k».proof.Proof.Att.Claim
public import proofs.«01_k».proof.Proof.Gen.Ln
public import proofs.«01_k».proof.Proof.Gen.Ln.Frame
public import proofs.«01_k».proof.Proof.Gen.Mix
public import proofs.«01_k».proof.Proof.Gen.Mix.Frame
public import proofs.«01_k».proof.Proof.Gen.Ff1
public import proofs.«01_k».proof.Proof.Gen.Ff1.Frame
public import proofs.«01_k».proof.Proof.Gen.U
public import proofs.«01_k».proof.Proof.Gen.U.Frame
public import proofs.«01_k».proof.Proof.Ln.Claim
public import proofs.«01_k».proof.Proof.Mix.Claim
public import proofs.«01_k».proof.Proof.Ff1.Claim
public import proofs.«01_k».proof.Proof.U.Claim
public import proofs.«01_k».proof.Proof.Poolf.Claim

@[expose] public section

noncomputable section

namespace Cert.Proof

theorem claim : Cert.Claim :=
  ⟨Cert.Dh0.Gen.facts, Cert.Dh0Ideal.Gen.facts, Cert.RefDh0Ideal.Gen.facts, Cert.Attn.Gen.facts, Cert.AttnIdeal.Gen.facts, Cert.RefAttnIdeal.Gen.facts,
   Cert.Dh1.Gen.facts, Cert.Dh1Ideal.Gen.facts, Cert.RefDh1Ideal.Gen.facts, Cert.Ff2.Gen.facts, Cert.Ff2Ideal.Gen.facts, Cert.RefFf2Ideal.Gen.facts,
   Cert.Dff1.Gen.facts, Cert.Dff1Ideal.Gen.facts, Cert.RefDff1Ideal.Gen.facts, Cert.Pool.Gen.facts, Cert.PoolIdeal.Gen.facts, Cert.RefPoolIdeal.Gen.facts,
   Cert.Att.Gen.facts, Cert.AttIdeal.Gen.facts, Cert.RefAttIdeal.Gen.facts,
   Cert.Ln.Gen.facts, Cert.LnIdeal.Gen.facts, Cert.RefLnIdeal.Gen.facts, Cert.Mix.Gen.facts, Cert.MixIdeal.Gen.facts, Cert.RefMixIdeal.Gen.facts,
   Cert.Ff1.Gen.facts, Cert.Ff1Ideal.Gen.facts, Cert.RefFf1Ideal.Gen.facts, Cert.U.Gen.facts, Cert.UIdeal.Gen.facts, Cert.RefUIdeal.Gen.facts,
   Cert.Poolf.Gen.facts, Cert.PoolfIdeal.Gen.facts, Cert.RefPoolfIdeal.Gen.facts,
   Cert.Pre_finite_dh0.Gen.facts, Cert.Pre_finite_attn.Gen.facts, Cert.Pre_finite_dh1.Gen.facts,
   Cert.Pre_finite_ff2.Gen.facts, Cert.Pre_finite_pool.Gen.facts, Cert.Pre_finite_att.Gen.facts,
   Cert.Pre_finite_poolf.Gen.facts,
   fun m ρ _ => Cert.Dh0.Gen.frame m ρ, fun m ρ _ => Cert.Dh0Ideal.Gen.frame m ρ, fun m ρ _ => Cert.Dh0Ideal.Gen.frame m ρ,
   frame_ref_dh0, fun m g _ => frame_ref_dh0 m g trivial,
   fun m ρ _ => Cert.Attn.Run.frame m ρ, fun m ρ _ => Cert.AttnIdeal.Run.frame m ρ, fun m ρ _ => Cert.AttnIdeal.Run.frame m ρ,
   frame_ref_attn, fun m g _ => frame_ref_attn m g trivial,
   fun m ρ _ => Cert.Dh1.Gen.frame m ρ, fun m ρ _ => Cert.Dh1Ideal.Gen.frame m ρ, fun m ρ _ => Cert.Dh1Ideal.Gen.frame m ρ,
   frame_ref_dh1, fun m g _ => frame_ref_dh1 m g trivial,
   fun m ρ _ => Cert.Ff2.Gen.frame m ρ, fun m ρ _ => Cert.Ff2Ideal.Gen.frame m ρ, fun m ρ _ => Cert.Ff2Ideal.Gen.frame m ρ,
   frame_ref_ff2, fun m g _ => frame_ref_ff2 m g trivial,
   fun m ρ _ => Cert.Dff1.Gen.frame m ρ, fun m ρ _ => Cert.Dff1Ideal.Gen.frame m ρ, frame_ref_dff1,
   frame_pool, frame_pool_ideal, fun m ρ _ => Cert.PoolIdeal.Run.frame m ρ, frame_ref_pool, fun m g _ => frame_ref_pool m g trivial,
   fun m ρ _ => Cert.Att.Run.frame m ρ, fun m ρ _ => Cert.AttIdeal.Run.frame m ρ, fun m ρ _ => Cert.AttIdeal.Run.frame m ρ,
   frame_ref_att, fun m g _ => frame_ref_att m g trivial,
   fun m ρ _ => Cert.Ln.Gen.frame m ρ, fun m ρ _ => Cert.LnIdeal.Gen.frame m ρ, frame_ref_ln,
   fun m ρ _ => Cert.Mix.Gen.frame m ρ, fun m ρ _ => Cert.MixIdeal.Gen.frame m ρ, frame_ref_mix,
   fun m ρ _ => Cert.Ff1.Gen.frame m ρ, fun m ρ _ => Cert.Ff1Ideal.Gen.frame m ρ, frame_ref_ff1,
   fun m ρ _ => Cert.U.Gen.frame m ρ, fun m ρ _ => Cert.UIdeal.Gen.frame m ρ, frame_ref_u,
   frame_poolf, frame_poolf_ideal, fun m ρ _ => Cert.PoolfIdeal.Run.frame m ρ, frame_ref_poolf, fun m g _ => frame_ref_poolf m g trivial,
   trivial, dh0, names_attn, attn, trivial, dh1, trivial, ff2, trivial, dff1, trivial, pool, names_att, att,
   trivial, ln, trivial, mix, trivial, ff1, trivial, u, trivial, poolf⟩

end Cert.Proof

end
